-- ==== Defs.lean ====
def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_GuB (m : (ℓ : Loc Cert.GuB.nD Cert.GuB.τ Cert.GuB.sig) → Buf (Elt Bits) ℓ) : Prop :=
  True

def Pre_GuBIdeal (m : (ℓ : Loc Cert.GuBIdeal.nD Cert.GuBIdeal.τ Cert.GuBIdeal.sig) → Buf (Elt Ideal) ℓ) : Prop :=
  True

def Pre_GuBRefIdeal (m : (ℓ : Loc Cert.GuBRefIdeal.nD Cert.GuBRefIdeal.τ Cert.GuBRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_QB (m : (ℓ : Loc Cert.QB.nD Cert.QB.τ Cert.QB.sig) → Buf (Elt Bits) ℓ) : Prop :=
  True

def Pre_QBIdeal (m : (ℓ : Loc Cert.QBIdeal.nD Cert.QBIdeal.τ Cert.QBIdeal.sig) → Buf (Elt Ideal) ℓ) : Prop :=
  True

def Pre_QBRefIdeal (m : (ℓ : Loc Cert.QBRefIdeal.nD Cert.QBRefIdeal.τ Cert.QBRefIdeal.sig) → Buf (Elt Ideal) ℓ) : Prop :=
  True

def Pre_K (m : (ℓ : Loc Cert.K.nD Cert.K.τ Cert.K.sig) → Buf (Elt Bits) ℓ) : Prop :=
  True

def Pre_KIdeal (m : (ℓ : Loc Cert.KIdeal.nD Cert.KIdeal.τ Cert.KIdeal.sig) → Buf (Elt Ideal) ℓ) : Prop :=
  True

def Pre_KRefIdeal (m : (ℓ : Loc Cert.KRefIdeal.nD Cert.KRefIdeal.τ Cert.KRefIdeal.sig) → Buf (Elt Ideal) ℓ) : Prop :=
  True

def Pre_KB (m : (ℓ : Loc Cert.KB.nD Cert.KB.τ Cert.KB.sig) → Buf (Elt Bits) ℓ) : Prop :=
  True

def Pre_KBIdeal (m : (ℓ : Loc Cert.KBIdeal.nD Cert.KBIdeal.τ Cert.KBIdeal.sig) → Buf (Elt Ideal) ℓ) : Prop :=
  True

def Pre_KBRefIdeal (m : (ℓ : Loc Cert.KBRefIdeal.nD Cert.KBRefIdeal.τ Cert.KBRefIdeal.sig) → Buf (Elt Ideal) ℓ) : Prop :=
  True

def Pre_V (m : (ℓ : Loc Cert.V.nD Cert.V.τ Cert.V.sig) → Buf (Elt Bits) ℓ) : Prop :=
  True

def Pre_VIdeal (m : (ℓ : Loc Cert.VIdeal.nD Cert.VIdeal.τ Cert.VIdeal.sig) → Buf (Elt Ideal) ℓ) : Prop :=
  True

def Pre_VRefIdeal (m : (ℓ : Loc Cert.VRefIdeal.nD Cert.VRefIdeal.τ Cert.VRefIdeal.sig) → Buf (Elt Ideal) ℓ) : Prop :=
  True

def Pre_VB (m : (ℓ : Loc Cert.VB.nD Cert.VB.τ Cert.VB.sig) → Buf (Elt Bits) ℓ) : Prop :=
  True

def Pre_VBIdeal (m : (ℓ : Loc Cert.VBIdeal.nD Cert.VBIdeal.τ Cert.VBIdeal.sig) → Buf (Elt Ideal) ℓ) : Prop :=
  True

def Pre_VBRefIdeal (m : (ℓ : Loc Cert.VBRefIdeal.nD Cert.VBRefIdeal.τ Cert.VBRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinRefIdeal (m : (ℓ : Loc Cert.LinRefIdeal.nD Cert.LinRefIdeal.τ Cert.LinRefIdeal.sig) → Buf (Elt Ideal) ℓ) : Prop :=
  True

def Pre_LinB (m : (ℓ : Loc Cert.LinB.nD Cert.LinB.τ Cert.LinB.sig) → Buf (Elt Bits) ℓ) : Prop :=
  True

def Pre_LinBIdeal (m : (ℓ : Loc Cert.LinBIdeal.nD Cert.LinBIdeal.τ Cert.LinBIdeal.sig) → Buf (Elt Ideal) ℓ) : Prop :=
  True

def Pre_LinBRefIdeal (m : (ℓ : Loc Cert.LinBRefIdeal.nD Cert.LinBRefIdeal.τ Cert.LinBRefIdeal.sig) → Buf (Elt Ideal) ℓ) : Prop :=
  True

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4)
      ∧ r.2.mem ((c.tc : Thread Cert.Gu.nD Cert.Gu.τ).loc Cert.Gu.main_arg5) = m ((c.tc : Thread Cert.Gu.nD Cert.Gu.τ).loc Cert.Gu.main_arg5))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
      ∧ r.2.mem ((c.tc : Thread Cert.GuIdeal.nD Cert.GuIdeal.τ).loc Cert.GuIdeal.main_arg5) = m ((c.tc : Thread Cert.GuIdeal.nD Cert.GuIdeal.τ).loc Cert.GuIdeal.main_arg5))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4)
      ∧ r.2.mem ((c.tc : Thread Cert.GuRefIdeal.nD Cert.GuRefIdeal.τ).loc Cert.GuRefIdeal.main_arg5) = m ((c.tc : Thread Cert.GuRefIdeal.nD Cert.GuRefIdeal.τ).loc Cert.GuRefIdeal.main_arg5))
      ∧ r.2.sem = fun _ => 0)

def quiescent_GuB [hGuB : Cert.GuB.Facts] : Prop :=
  ∀ (m : (ℓ : Loc Cert.GuB.nD Cert.GuB.τ Cert.GuB.sig) → Buf (Elt Bits) ℓ) (g : Dev Cert.GuB.nD → PrngReg), Pre_GuB m →
    θ_run (Cert.GuB.defs (F := Bits)) (onTc (τ := Cert.GuB.τ) (Cert.GuB.main (F := Bits))) ⟨m, fun _ => 0, g⟩ (fun r => (∀ c : Dev Cert.GuB.nD,
      r.2.mem ((c.tc : Thread Cert.GuB.nD Cert.GuB.τ).loc Cert.GuB.main_arg0) = m ((c.tc : Thread Cert.GuB.nD Cert.GuB.τ).loc Cert.GuB.main_arg0)
      ∧ r.2.mem ((c.tc : Thread Cert.GuB.nD Cert.GuB.τ).loc Cert.GuB.main_arg1) = m ((c.tc : Thread Cert.GuB.nD Cert.GuB.τ).loc Cert.GuB.main_arg1)
      ∧ r.2.mem ((c.tc : Thread Cert.GuB.nD Cert.GuB.τ).loc Cert.GuB.main_arg2) = m ((c.tc : Thread Cert.GuB.nD Cert.GuB.τ).loc Cert.GuB.main_arg2)
      ∧ r.2.mem ((c.tc : Thread Cert.GuB.nD Cert.GuB.τ).loc Cert.GuB.main_arg3) = m ((c.tc : Thread Cert.GuB.nD Cert.GuB.τ).loc Cert.GuB.main_arg3)
      ∧ r.2.mem ((c.tc : Thread Cert.GuB.nD Cert.GuB.τ).loc Cert.GuB.main_arg4) = m ((c.tc : Thread Cert.GuB.nD Cert.GuB.τ).loc Cert.GuB.main_arg4)
      ∧ r.2.mem ((c.tc : Thread Cert.GuB.nD Cert.GuB.τ).loc Cert.GuB.main_arg5) = m ((c.tc : Thread Cert.GuB.nD Cert.GuB.τ).loc Cert.GuB.main_arg5))
      ∧ r.2.sem = fun _ => 0)

def quiescent_GuBIdeal [hGuBIdeal : Cert.GuBIdeal.Facts] : Prop :=
  ∀ (m : (ℓ : Loc Cert.GuBIdeal.nD Cert.GuBIdeal.τ Cert.GuBIdeal.sig) → Buf (Elt Ideal) ℓ) (g : Dev Cert.GuBIdeal.nD → PrngReg), Pre_GuBIdeal m →
    θ_run (Cert.GuBIdeal.defs (F := Ideal)) (onTc (τ := Cert.GuBIdeal.τ) (Cert.GuBIdeal.main (F := Ideal))) ⟨m, fun _ => 0, g⟩ (fun r => (∀ c : Dev Cert.GuBIdeal.nD,
      r.2.mem ((c.tc : Thread Cert.GuBIdeal.nD Cert.GuBIdeal.τ).loc Cert.GuBIdeal.main_arg0) = m ((c.tc : Thread Cert.GuBIdeal.nD Cert.GuBIdeal.τ).loc Cert.GuBIdeal.main_arg0)
      ∧ r.2.mem ((c.tc : Thread Cert.GuBIdeal.nD Cert.GuBIdeal.τ).loc Cert.GuBIdeal.main_arg1) = m ((c.tc : Thread Cert.GuBIdeal.nD Cert.GuBIdeal.τ).loc Cert.GuBIdeal.main_arg1)
      ∧ r.2.mem ((c.tc : Thread Cert.GuBIdeal.nD Cert.GuBIdeal.τ).loc Cert.GuBIdeal.main_arg2) = m ((c.tc : Thread Cert.GuBIdeal.nD Cert.GuBIdeal.τ).loc Cert.GuBIdeal.main_arg2)
      ∧ r.2.mem ((c.tc : Thread Cert.GuBIdeal.nD Cert.GuBIdeal.τ).loc Cert.GuBIdeal.main_arg3) = m ((c.tc : Thread Cert.GuBIdeal.nD Cert.GuBIdeal.τ).loc Cert.GuBIdeal.main_arg3)
      ∧ r.2.mem ((c.tc : Thread Cert.GuBIdeal.nD Cert.GuBIdeal.τ).loc Cert.GuBIdeal.main_arg4) = m ((c.tc : Thread Cert.GuBIdeal.nD Cert.GuBIdeal.τ).loc Cert.GuBIdeal.main_arg4)
      ∧ r.2.mem ((c.tc : Thread Cert.GuBIdeal.nD Cert.GuBIdeal.τ).loc Cert.GuBIdeal.main_arg5) = m ((c.tc : Thread Cert.GuBIdeal.nD Cert.GuBIdeal.τ).loc Cert.GuBIdeal.main_arg5))
      ∧ r.2.sem = fun _ => 0)

def quiescent_GuBRefIdeal [hGuBRefIdeal : Cert.GuBRefIdeal.Facts] : Prop :=
  ∀ (m : (ℓ : Loc Cert.GuBRefIdeal.nD Cert.GuBRefIdeal.τ Cert.GuBRefIdeal.sig) → Buf (Elt Ideal) ℓ) (g : Dev Cert.GuBRefIdeal.nD → PrngReg), Pre_GuBRefIdeal m →
    θ_run (Cert.GuBRefIdeal.defs (F := Ideal)) (onTc (τ := Cert.GuBRefIdeal.τ) (Cert.GuBRefIdeal.main (F := Ideal))) ⟨m, fun _ => 0, g⟩ (fun r => (∀ c : Dev Cert.GuBRefIdeal.nD,
      r.2.mem ((c.tc : Thread Cert.GuBRefIdeal.nD Cert.GuBRefIdeal.τ).loc Cert.GuBRefIdeal.main_arg0) = m ((c.tc : Thread Cert.GuBRefIdeal.nD Cert.GuBRefIdeal.τ).loc Cert.GuBRefIdeal.main_arg0)
      ∧ r.2.mem ((c.tc : Thread Cert.GuBRefIdeal.nD Cert.GuBRefIdeal.τ).loc Cert.GuBRefIdeal.main_arg1) = m ((c.tc : Thread Cert.GuBRefIdeal.nD Cert.GuBRefIdeal.τ).loc Cert.GuBRefIdeal.main_arg1)
      ∧ r.2.mem ((c.tc : Thread Cert.GuBRefIdeal.nD Cert.GuBRefIdeal.τ).loc Cert.GuBRefIdeal.main_arg2) = m ((c.tc : Thread Cert.GuBRefIdeal.nD Cert.GuBRefIdeal.τ).loc Cert.GuBRefIdeal.main_arg2)
      ∧ r.2.mem ((c.tc : Thread Cert.GuBRefIdeal.nD Cert.GuBRefIdeal.τ).loc Cert.GuBRefIdeal.main_arg3) = m ((c.tc : Thread Cert.GuBRefIdeal.nD Cert.GuBRefIdeal.τ).loc Cert.GuBRefIdeal.main_arg3)
      ∧ r.2.mem ((c.tc : Thread Cert.GuBRefIdeal.nD Cert.GuBRefIdeal.τ).loc Cert.GuBRefIdeal.main_arg4) = m ((c.tc : Thread Cert.GuBRefIdeal.nD Cert.GuBRefIdeal.τ).loc Cert.GuBRefIdeal.main_arg4)
      ∧ r.2.mem ((c.tc : Thread Cert.GuBRefIdeal.nD Cert.GuBRefIdeal.τ).loc Cert.GuBRefIdeal.main_arg5) = m ((c.tc : Thread Cert.GuBRefIdeal.nD Cert.GuBRefIdeal.τ).loc Cert.GuBRefIdeal.main_arg5))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3)
      ∧ r.2.mem ((c.tc : Thread Cert.Q.nD Cert.Q.τ).loc Cert.Q.main_arg4) = m ((c.tc : Thread Cert.Q.nD Cert.Q.τ).loc Cert.Q.main_arg4)
      ∧ r.2.mem ((c.tc : Thread Cert.Q.nD Cert.Q.τ).loc Cert.Q.main_arg5) = m ((c.tc : Thread Cert.Q.nD Cert.Q.τ).loc Cert.Q.main_arg5)
      ∧ r.2.mem ((c.tc : Thread Cert.Q.nD Cert.Q.τ).loc Cert.Q.main_arg6) = m ((c.tc : Thread Cert.Q.nD Cert.Q.τ).loc Cert.Q.main_arg6)
      ∧ r.2.mem ((c.tc : Thread Cert.Q.nD Cert.Q.τ).loc Cert.Q.main_arg7) = m ((c.tc : Thread Cert.Q.nD Cert.Q.τ).loc Cert.Q.main_arg7))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3)
      ∧ r.2.mem ((c.tc : Thread Cert.QIdeal.nD Cert.QIdeal.τ).loc Cert.QIdeal.main_arg4) = m ((c.tc : Thread Cert.QIdeal.nD Cert.QIdeal.τ).loc Cert.QIdeal.main_arg4)
      ∧ r.2.mem ((c.tc : Thread Cert.QIdeal.nD Cert.QIdeal.τ).loc Cert.QIdeal.main_arg5) = m ((c.tc : Thread Cert.QIdeal.nD Cert.QIdeal.τ).loc Cert.QIdeal.main_arg5)
      ∧ r.2.mem ((c.tc : Thread Cert.QIdeal.nD Cert.QIdeal.τ).loc Cert.QIdeal.main_arg6) = m ((c.tc : Thread Cert.QIdeal.nD Cert.QIdeal.τ).loc Cert.QIdeal.main_arg6)
      ∧ r.2.mem ((c.tc : Thread Cert.QIdeal.nD Cert.QIdeal.τ).loc Cert.QIdeal.main_arg7) = m ((c.tc : Thread Cert.QIdeal.nD Cert.QIdeal.τ).loc Cert.QIdeal.main_arg7))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4)
      ∧ r.2.mem ((c.tc : Thread Cert.QRefIdeal.nD Cert.QRefIdeal.τ).loc Cert.QRefIdeal.main_arg5) = m ((c.tc : Thread Cert.QRefIdeal.nD Cert.QRefIdeal.τ).loc Cert.QRefIdeal.main_arg5)
      ∧ r.2.mem ((c.tc : Thread Cert.QRefIdeal.nD Cert.QRefIdeal.τ).loc Cert.QRefIdeal.main_arg6) = m ((c.tc : Thread Cert.QRefIdeal.nD Cert.QRefIdeal.τ).loc Cert.QRefIdeal.main_arg6)
      ∧ r.2.mem ((c.tc : Thread Cert.QRefIdeal.nD Cert.QRefIdeal.τ).loc Cert.QRefIdeal.main_arg7) = m ((c.tc : Thread Cert.QRefIdeal.nD Cert.QRefIdeal.τ).loc Cert.QRefIdeal.main_arg7))
      ∧ r.2.sem = fun _ => 0)

def quiescent_QB [hQB : Cert.QB.Facts] : Prop :=
  ∀ (m : (ℓ : Loc Cert.QB.nD Cert.QB.τ Cert.QB.sig) → Buf (Elt Bits) ℓ) (g : Dev Cert.QB.nD → PrngReg), Pre_QB m →
    θ_run (Cert.QB.defs (F := Bits)) (onTc (τ := Cert.QB.τ) (Cert.QB.main (F := Bits))) ⟨m, fun _ => 0, g⟩ (fun r => (∀ c : Dev Cert.QB.nD,
      r.2.mem ((c.tc : Thread Cert.QB.nD Cert.QB.τ).loc Cert.QB.main_arg0) = m ((c.tc : Thread Cert.QB.nD Cert.QB.τ).loc Cert.QB.main_arg0)
      ∧ r.2.mem ((c.tc : Thread Cert.QB.nD Cert.QB.τ).loc Cert.QB.main_arg1) = m ((c.tc : Thread Cert.QB.nD Cert.QB.τ).loc Cert.QB.main_arg1)
      ∧ r.2.mem ((c.tc : Thread Cert.QB.nD Cert.QB.τ).loc Cert.QB.main_arg2) = m ((c.tc : Thread Cert.QB.nD Cert.QB.τ).loc Cert.QB.main_arg2)
      ∧ r.2.mem ((c.tc : Thread Cert.QB.nD Cert.QB.τ).loc Cert.QB.main_arg3) = m ((c.tc : Thread Cert.QB.nD Cert.QB.τ).loc Cert.QB.main_arg3)
      ∧ r.2.mem ((c.tc : Thread Cert.QB.nD Cert.QB.τ).loc Cert.QB.main_arg4) = m ((c.tc : Thread Cert.QB.nD Cert.QB.τ).loc Cert.QB.main_arg4)
      ∧ r.2.mem ((c.tc : Thread Cert.QB.nD Cert.QB.τ).loc Cert.QB.main_arg5) = m ((c.tc : Thread Cert.QB.nD Cert.QB.τ).loc Cert.QB.main_arg5)
      ∧ r.2.mem ((c.tc : Thread Cert.QB.nD Cert.QB.τ).loc Cert.QB.main_arg6) = m ((c.tc : Thread Cert.QB.nD Cert.QB.τ).loc Cert.QB.main_arg6)
      ∧ r.2.mem ((c.tc : Thread Cert.QB.nD Cert.QB.τ).loc Cert.QB.main_arg7) = m ((c.tc : Thread Cert.QB.nD Cert.QB.τ).loc Cert.QB.main_arg7))
      ∧ r.2.sem = fun _ => 0)

def quiescent_QBIdeal [hQBIdeal : Cert.QBIdeal.Facts] : Prop :=
  ∀ (m : (ℓ : Loc Cert.QBIdeal.nD Cert.QBIdeal.τ Cert.QBIdeal.sig) → Buf (Elt Ideal) ℓ) (g : Dev Cert.QBIdeal.nD → PrngReg), Pre_QBIdeal m →
    θ_run (Cert.QBIdeal.defs (F := Ideal)) (onTc (τ := Cert.QBIdeal.τ) (Cert.QBIdeal.main (F := Ideal))) ⟨m, fun _ => 0, g⟩ (fun r => (∀ c : Dev Cert.QBIdeal.nD,
      r.2.mem ((c.tc : Thread Cert.QBIdeal.nD Cert.QBIdeal.τ).loc Cert.QBIdeal.main_arg0) = m ((c.tc : Thread Cert.QBIdeal.nD Cert.QBIdeal.τ).loc Cert.QBIdeal.main_arg0)
      ∧ r.2.mem ((c.tc : Thread Cert.QBIdeal.nD Cert.QBIdeal.τ).loc Cert.QBIdeal.main_arg1) = m ((c.tc : Thread Cert.QBIdeal.nD Cert.QBIdeal.τ).loc Cert.QBIdeal.main_arg1)
      ∧ r.2.mem ((c.tc : Thread Cert.QBIdeal.nD Cert.QBIdeal.τ).loc Cert.QBIdeal.main_arg2) = m ((c.tc : Thread Cert.QBIdeal.nD Cert.QBIdeal.τ).loc Cert.QBIdeal.main_arg2)
      ∧ r.2.mem ((c.tc : Thread Cert.QBIdeal.nD Cert.QBIdeal.τ).loc Cert.QBIdeal.main_arg3) = m ((c.tc : Thread Cert.QBIdeal.nD Cert.QBIdeal.τ).loc Cert.QBIdeal.main_arg3)
      ∧ r.2.mem ((c.tc : Thread Cert.QBIdeal.nD Cert.QBIdeal.τ).loc Cert.QBIdeal.main_arg4) = m ((c.tc : Thread Cert.QBIdeal.nD Cert.QBIdeal.τ).loc Cert.QBIdeal.main_arg4)
      ∧ r.2.mem ((c.tc : Thread Cert.QBIdeal.nD Cert.QBIdeal.τ).loc Cert.QBIdeal.main_arg5) = m ((c.tc : Thread Cert.QBIdeal.nD Cert.QBIdeal.τ).loc Cert.QBIdeal.main_arg5)
      ∧ r.2.mem ((c.tc : Thread Cert.QBIdeal.nD Cert.QBIdeal.τ).loc Cert.QBIdeal.main_arg6) = m ((c.tc : Thread Cert.QBIdeal.nD Cert.QBIdeal.τ).loc Cert.QBIdeal.main_arg6)
      ∧ r.2.mem ((c.tc : Thread Cert.QBIdeal.nD Cert.QBIdeal.τ).loc Cert.QBIdeal.main_arg7) = m ((c.tc : Thread Cert.QBIdeal.nD Cert.QBIdeal.τ).loc Cert.QBIdeal.main_arg7))
      ∧ r.2.sem = fun _ => 0)

def quiescent_QBRefIdeal [hQBRefIdeal : Cert.QBRefIdeal.Facts] : Prop :=
  ∀ (m : (ℓ : Loc Cert.QBRefIdeal.nD Cert.QBRefIdeal.τ Cert.QBRefIdeal.sig) → Buf (Elt Ideal) ℓ) (g : Dev Cert.QBRefIdeal.nD → PrngReg), Pre_QBRefIdeal m →
    θ_run (Cert.QBRefIdeal.defs (F := Ideal)) (onTc (τ := Cert.QBRefIdeal.τ) (Cert.QBRefIdeal.main (F := Ideal))) ⟨m, fun _ => 0, g⟩ (fun r => (∀ c : Dev Cert.QBRefIdeal.nD,
      r.2.mem ((c.tc : Thread Cert.QBRefIdeal.nD Cert.QBRefIdeal.τ).loc Cert.QBRefIdeal.main_arg0) = m ((c.tc : Thread Cert.QBRefIdeal.nD Cert.QBRefIdeal.τ).loc Cert.QBRefIdeal.main_arg0)
      ∧ r.2.mem ((c.tc : Thread Cert.QBRefIdeal.nD Cert.QBRefIdeal.τ).loc Cert.QBRefIdeal.main_arg1) = m ((c.tc : Thread Cert.QBRefIdeal.nD Cert.QBRefIdeal.τ).loc Cert.QBRefIdeal.main_arg1)
      ∧ r.2.mem ((c.tc : Thread Cert.QBRefIdeal.nD Cert.QBRefIdeal.τ).loc Cert.QBRefIdeal.main_arg2) = m ((c.tc : Thread Cert.QBRefIdeal.nD Cert.QBRefIdeal.τ).loc Cert.QBRefIdeal.main_arg2)
      ∧ r.2.mem ((c.tc : Thread Cert.QBRefIdeal.nD Cert.QBRefIdeal.τ).loc Cert.QBRefIdeal.main_arg3) = m ((c.tc : Thread Cert.QBRefIdeal.nD Cert.QBRefIdeal.τ).loc Cert.QBRefIdeal.main_arg3)
      ∧ r.2.mem ((c.tc : Thread Cert.QBRefIdeal.nD Cert.QBRefIdeal.τ).loc Cert.QBRefIdeal.main_arg4) = m ((c.tc : Thread Cert.QBRefIdeal.nD Cert.QBRefIdeal.τ).loc Cert.QBRefIdeal.main_arg4)
      ∧ r.2.mem ((c.tc : Thread Cert.QBRefIdeal.nD Cert.QBRefIdeal.τ).loc Cert.QBRefIdeal.main_arg5) = m ((c.tc : Thread Cert.QBRefIdeal.nD Cert.QBRefIdeal.τ).loc Cert.QBRefIdeal.main_arg5)
      ∧ r.2.mem ((c.tc : Thread Cert.QBRefIdeal.nD Cert.QBRefIdeal.τ).loc Cert.QBRefIdeal.main_arg6) = m ((c.tc : Thread Cert.QBRefIdeal.nD Cert.QBRefIdeal.τ).loc Cert.QBRefIdeal.main_arg6)
      ∧ r.2.mem ((c.tc : Thread Cert.QBRefIdeal.nD Cert.QBRefIdeal.τ).loc Cert.QBRefIdeal.main_arg7) = m ((c.tc : Thread Cert.QBRefIdeal.nD Cert.QBRefIdeal.τ).loc Cert.QBRefIdeal.main_arg7))
      ∧ r.2.sem = fun _ => 0)

def quiescent_K [hK : Cert.K.Facts] : Prop :=
  ∀ (m : (ℓ : Loc Cert.K.nD Cert.K.τ Cert.K.sig) → Buf (Elt Bits) ℓ) (g : Dev Cert.K.nD → PrngReg), Pre_K m →
    θ_run (Cert.K.defs (F := Bits)) (onTc (τ := Cert.K.τ) (Cert.K.main (F := Bits))) ⟨m, fun _ => 0, g⟩ (fun r => (∀ c : Dev Cert.K.nD,
      r.2.mem ((c.tc : Thread Cert.K.nD Cert.K.τ).loc Cert.K.main_arg0) = m ((c.tc : Thread Cert.K.nD Cert.K.τ).loc Cert.K.main_arg0)
      ∧ r.2.mem ((c.tc : Thread Cert.K.nD Cert.K.τ).loc Cert.K.main_arg1) = m ((c.tc : Thread Cert.K.nD Cert.K.τ).loc Cert.K.main_arg1)
      ∧ r.2.mem ((c.tc : Thread Cert.K.nD Cert.K.τ).loc Cert.K.main_arg2) = m ((c.tc : Thread Cert.K.nD Cert.K.τ).loc Cert.K.main_arg2)
      ∧ r.2.mem ((c.tc : Thread Cert.K.nD Cert.K.τ).loc Cert.K.main_arg3) = m ((c.tc : Thread Cert.K.nD Cert.K.τ).loc Cert.K.main_arg3)
      ∧ r.2.mem ((c.tc : Thread Cert.K.nD Cert.K.τ).loc Cert.K.main_arg4) = m ((c.tc : Thread Cert.K.nD Cert.K.τ).loc Cert.K.main_arg4)
      ∧ r.2.mem ((c.tc : Thread Cert.K.nD Cert.K.τ).loc Cert.K.main_arg5) = m ((c.tc : Thread Cert.K.nD Cert.K.τ).loc Cert.K.main_arg5)
      ∧ r.2.mem ((c.tc : Thread Cert.K.nD Cert.K.τ).loc Cert.K.main_arg6) = m ((c.tc : Thread Cert.K.nD Cert.K.τ).loc Cert.K.main_arg6)
      ∧ r.2.mem ((c.tc : Thread Cert.K.nD Cert.K.τ).loc Cert.K.main_arg7) = m ((c.tc : Thread Cert.K.nD Cert.K.τ).loc Cert.K.main_arg7))
      ∧ r.2.sem = fun _ => 0)

def quiescent_KIdeal [hKIdeal : Cert.KIdeal.Facts] : Prop :=
  ∀ (m : (ℓ : Loc Cert.KIdeal.nD Cert.KIdeal.τ Cert.KIdeal.sig) → Buf (Elt Ideal) ℓ) (g : Dev Cert.KIdeal.nD → PrngReg), Pre_KIdeal m →
    θ_run (Cert.KIdeal.defs (F := Ideal)) (onTc (τ := Cert.KIdeal.τ) (Cert.KIdeal.main (F := Ideal))) ⟨m, fun _ => 0, g⟩ (fun r => (∀ c : Dev Cert.KIdeal.nD,
      r.2.mem ((c.tc : Thread Cert.KIdeal.nD Cert.KIdeal.τ).loc Cert.KIdeal.main_arg0) = m ((c.tc : Thread Cert.KIdeal.nD Cert.KIdeal.τ).loc Cert.KIdeal.main_arg0)
      ∧ r.2.mem ((c.tc : Thread Cert.KIdeal.nD Cert.KIdeal.τ).loc Cert.KIdeal.main_arg1) = m ((c.tc : Thread Cert.KIdeal.nD Cert.KIdeal.τ).loc Cert.KIdeal.main_arg1)
      ∧ r.2.mem ((c.tc : Thread Cert.KIdeal.nD Cert.KIdeal.τ).loc Cert.KIdeal.main_arg2) = m ((c.tc : Thread Cert.KIdeal.nD Cert.KIdeal.τ).loc Cert.KIdeal.main_arg2)
      ∧ r.2.mem ((c.tc : Thread Cert.KIdeal.nD Cert.KIdeal.τ).loc Cert.KIdeal.main_arg3) = m ((c.tc : Thread Cert.KIdeal.nD Cert.KIdeal.τ).loc Cert.KIdeal.main_arg3)
      ∧ r.2.mem ((c.tc : Thread Cert.KIdeal.nD Cert.KIdeal.τ).loc Cert.KIdeal.main_arg4) = m ((c.tc : Thread Cert.KIdeal.nD Cert.KIdeal.τ).loc Cert.KIdeal.main_arg4)
      ∧ r.2.mem ((c.tc : Thread Cert.KIdeal.nD Cert.KIdeal.τ).loc Cert.KIdeal.main_arg5) = m ((c.tc : Thread Cert.KIdeal.nD Cert.KIdeal.τ).loc Cert.KIdeal.main_arg5)
      ∧ r.2.mem ((c.tc : Thread Cert.KIdeal.nD Cert.KIdeal.τ).loc Cert.KIdeal.main_arg6) = m ((c.tc : Thread Cert.KIdeal.nD Cert.KIdeal.τ).loc Cert.KIdeal.main_arg6)
      ∧ r.2.mem ((c.tc : Thread Cert.KIdeal.nD Cert.KIdeal.τ).loc Cert.KIdeal.main_arg7) = m ((c.tc : Thread Cert.KIdeal.nD Cert.KIdeal.τ).loc Cert.KIdeal.main_arg7))
      ∧ r.2.sem = fun _ => 0)

def quiescent_KRefIdeal [hKRefIdeal : Cert.KRefIdeal.Facts] : Prop :=
  ∀ (m : (ℓ : Loc Cert.KRefIdeal.nD Cert.KRefIdeal.τ Cert.KRefIdeal.sig) → Buf (Elt Ideal) ℓ) (g : Dev Cert.KRefIdeal.nD → PrngReg), Pre_KRefIdeal m →
    θ_run (Cert.KRefIdeal.defs (F := Ideal)) (onTc (τ := Cert.KRefIdeal.τ) (Cert.KRefIdeal.main (F := Ideal))) ⟨m, fun _ => 0, g⟩ (fun r => (∀ c : Dev Cert.KRefIdeal.nD,
      r.2.mem ((c.tc : Thread Cert.KRefIdeal.nD Cert.KRefIdeal.τ).loc Cert.KRefIdeal.main_arg0) = m ((c.tc : Thread Cert.KRefIdeal.nD Cert.KRefIdeal.τ).loc Cert.KRefIdeal.main_arg0)
      ∧ r.2.mem ((c.tc : Thread Cert.KRefIdeal.nD Cert.KRefIdeal.τ).loc Cert.KRefIdeal.main_arg1) = m ((c.tc : Thread Cert.KRefIdeal.nD Cert.KRefIdeal.τ).loc Cert.KRefIdeal.main_arg1)
      ∧ r.2.mem ((c.tc : Thread Cert.KRefIdeal.nD Cert.KRefIdeal.τ).loc Cert.KRefIdeal.main_arg2) = m ((c.tc : Thread Cert.KRefIdeal.nD Cert.KRefIdeal.τ).loc Cert.KRefIdeal.main_arg2)
      ∧ r.2.mem ((c.tc : Thread Cert.KRefIdeal.nD Cert.KRefIdeal.τ).loc Cert.KRefIdeal.main_arg3) = m ((c.tc : Thread Cert.KRefIdeal.nD Cert.KRefIdeal.τ).loc Cert.KRefIdeal.main_arg3)
      ∧ r.2.mem ((c.tc : Thread Cert.KRefIdeal.nD Cert.KRefIdeal.τ).loc Cert.KRefIdeal.main_arg4) = m ((c.tc : Thread Cert.KRefIdeal.nD Cert.KRefIdeal.τ).loc Cert.KRefIdeal.main_arg4)
      ∧ r.2.mem ((c.tc : Thread Cert.KRefIdeal.nD Cert.KRefIdeal.τ).loc Cert.KRefIdeal.main_arg5) = m ((c.tc : Thread Cert.KRefIdeal.nD Cert.KRefIdeal.τ).loc Cert.KRefIdeal.main_arg5)
      ∧ r.2.mem ((c.tc : Thread Cert.KRefIdeal.nD Cert.KRefIdeal.τ).loc Cert.KRefIdeal.main_arg6) = m ((c.tc : Thread Cert.KRefIdeal.nD Cert.KRefIdeal.τ).loc Cert.KRefIdeal.main_arg6)
      ∧ r.2.mem ((c.tc : Thread Cert.KRefIdeal.nD Cert.KRefIdeal.τ).loc Cert.KRefIdeal.main_arg7) = m ((c.tc : Thread Cert.KRefIdeal.nD Cert.KRefIdeal.τ).loc Cert.KRefIdeal.main_arg7))
      ∧ r.2.sem = fun _ => 0)

def quiescent_KB [hKB : Cert.KB.Facts] : Prop :=
  ∀ (m : (ℓ : Loc Cert.KB.nD Cert.KB.τ Cert.KB.sig) → Buf (Elt Bits) ℓ) (g : Dev Cert.KB.nD → PrngReg), Pre_KB m →
    θ_run (Cert.KB.defs (F := Bits)) (onTc (τ := Cert.KB.τ) (Cert.KB.main (F := Bits))) ⟨m, fun _ => 0, g⟩ (fun r => (∀ c : Dev Cert.KB.nD,
      r.2.mem ((c.tc : Thread Cert.KB.nD Cert.KB.τ).loc Cert.KB.main_arg0) = m ((c.tc : Thread Cert.KB.nD Cert.KB.τ).loc Cert.KB.main_arg0)
      ∧ r.2.mem ((c.tc : Thread Cert.KB.nD Cert.KB.τ).loc Cert.KB.main_arg1) = m ((c.tc : Thread Cert.KB.nD Cert.KB.τ).loc Cert.KB.main_arg1)
      ∧ r.2.mem ((c.tc : Thread Cert.KB.nD Cert.KB.τ).loc Cert.KB.main_arg2) = m ((c.tc : Thread Cert.KB.nD Cert.KB.τ).loc Cert.KB.main_arg2)
      ∧ r.2.mem ((c.tc : Thread Cert.KB.nD Cert.KB.τ).loc Cert.KB.main_arg3) = m ((c.tc : Thread Cert.KB.nD Cert.KB.τ).loc Cert.KB.main_arg3)
      ∧ r.2.mem ((c.tc : Thread Cert.KB.nD Cert.KB.τ).loc Cert.KB.main_arg4) = m ((c.tc : Thread Cert.KB.nD Cert.KB.τ).loc Cert.KB.main_arg4)
      ∧ r.2.mem ((c.tc : Thread Cert.KB.nD Cert.KB.τ).loc Cert.KB.main_arg5) = m ((c.tc : Thread Cert.KB.nD Cert.KB.τ).loc Cert.KB.main_arg5)
      ∧ r.2.mem ((c.tc : Thread Cert.KB.nD Cert.KB.τ).loc Cert.KB.main_arg6) = m ((c.tc : Thread Cert.KB.nD Cert.KB.τ).loc Cert.KB.main_arg6)
      ∧ r.2.mem ((c.tc : Thread Cert.KB.nD Cert.KB.τ).loc Cert.KB.main_arg7) = m ((c.tc : Thread Cert.KB.nD Cert.KB.τ).loc Cert.KB.main_arg7))
      ∧ r.2.sem = fun _ => 0)

def quiescent_KBIdeal [hKBIdeal : Cert.KBIdeal.Facts] : Prop :=
  ∀ (m : (ℓ : Loc Cert.KBIdeal.nD Cert.KBIdeal.τ Cert.KBIdeal.sig) → Buf (Elt Ideal) ℓ) (g : Dev Cert.KBIdeal.nD → PrngReg), Pre_KBIdeal m →
    θ_run (Cert.KBIdeal.defs (F := Ideal)) (onTc (τ := Cert.KBIdeal.τ) (Cert.KBIdeal.main (F := Ideal))) ⟨m, fun _ => 0, g⟩ (fun r => (∀ c : Dev Cert.KBIdeal.nD,
      r.2.mem ((c.tc : Thread Cert.KBIdeal.nD Cert.KBIdeal.τ).loc Cert.KBIdeal.main_arg0) = m ((c.tc : Thread Cert.KBIdeal.nD Cert.KBIdeal.τ).loc Cert.KBIdeal.main_arg0)
      ∧ r.2.mem ((c.tc : Thread Cert.KBIdeal.nD Cert.KBIdeal.τ).loc Cert.KBIdeal.main_arg1) = m ((c.tc : Thread Cert.KBIdeal.nD Cert.KBIdeal.τ).loc Cert.KBIdeal.main_arg1)
      ∧ r.2.mem ((c.tc : Thread Cert.KBIdeal.nD Cert.KBIdeal.τ).loc Cert.KBIdeal.main_arg2) = m ((c.tc : Thread Cert.KBIdeal.nD Cert.KBIdeal.τ).loc Cert.KBIdeal.main_arg2)
      ∧ r.2.mem ((c.tc : Thread Cert.KBIdeal.nD Cert.KBIdeal.τ).loc Cert.KBIdeal.main_arg3) = m ((c.tc : Thread Cert.KBIdeal.nD Cert.KBIdeal.τ).loc Cert.KBIdeal.main_arg3)
      ∧ r.2.mem ((c.tc : Thread Cert.KBIdeal.nD Cert.KBIdeal.τ).loc Cert.KBIdeal.main_arg4) = m ((c.tc : Thread Cert.KBIdeal.nD Cert.KBIdeal.τ).loc Cert.KBIdeal.main_arg4)
      ∧ r.2.mem ((c.tc : Thread Cert.KBIdeal.nD Cert.KBIdeal.τ).loc Cert.KBIdeal.main_arg5) = m ((c.tc : Thread Cert.KBIdeal.nD Cert.KBIdeal.τ).loc Cert.KBIdeal.main_arg5)
      ∧ r.2.mem ((c.tc : Thread Cert.KBIdeal.nD Cert.KBIdeal.τ).loc Cert.KBIdeal.main_arg6) = m ((c.tc : Thread Cert.KBIdeal.nD Cert.KBIdeal.τ).loc Cert.KBIdeal.main_arg6)
      ∧ r.2.mem ((c.tc : Thread Cert.KBIdeal.nD Cert.KBIdeal.τ).loc Cert.KBIdeal.main_arg7) = m ((c.tc : Thread Cert.KBIdeal.nD Cert.KBIdeal.τ).loc Cert.KBIdeal.main_arg7))
      ∧ r.2.sem = fun _ => 0)

def quiescent_KBRefIdeal [hKBRefIdeal : Cert.KBRefIdeal.Facts] : Prop :=
  ∀ (m : (ℓ : Loc Cert.KBRefIdeal.nD Cert.KBRefIdeal.τ Cert.KBRefIdeal.sig) → Buf (Elt Ideal) ℓ) (g : Dev Cert.KBRefIdeal.nD → PrngReg), Pre_KBRefIdeal m →
    θ_run (Cert.KBRefIdeal.defs (F := Ideal)) (onTc (τ := Cert.KBRefIdeal.τ) (Cert.KBRefIdeal.main (F := Ideal))) ⟨m, fun _ => 0, g⟩ (fun r => (∀ c : Dev Cert.KBRefIdeal.nD,
      r.2.mem ((c.tc : Thread Cert.KBRefIdeal.nD Cert.KBRefIdeal.τ).loc Cert.KBRefIdeal.main_arg0) = m ((c.tc : Thread Cert.KBRefIdeal.nD Cert.KBRefIdeal.τ).loc Cert.KBRefIdeal.main_arg0)
      ∧ r.2.mem ((c.tc : Thread Cert.KBRefIdeal.nD Cert.KBRefIdeal.τ).loc Cert.KBRefIdeal.main_arg1) = m ((c.tc : Thread Cert.KBRefIdeal.nD Cert.KBRefIdeal.τ).loc Cert.KBRefIdeal.main_arg1)
      ∧ r.2.mem ((c.tc : Thread Cert.KBRefIdeal.nD Cert.KBRefIdeal.τ).loc Cert.KBRefIdeal.main_arg2) = m ((c.tc : Thread Cert.KBRefIdeal.nD Cert.KBRefIdeal.τ).loc Cert.KBRefIdeal.main_arg2)
      ∧ r.2.mem ((c.tc : Thread Cert.KBRefIdeal.nD Cert.KBRefIdeal.τ).loc Cert.KBRefIdeal.main_arg3) = m ((c.tc : Thread Cert.KBRefIdeal.nD Cert.KBRefIdeal.τ).loc Cert.KBRefIdeal.main_arg3)
      ∧ r.2.mem ((c.tc : Thread Cert.KBRefIdeal.nD Cert.KBRefIdeal.τ).loc Cert.KBRefIdeal.main_arg4) = m ((c.tc : Thread Cert.KBRefIdeal.nD Cert.KBRefIdeal.τ).loc Cert.KBRefIdeal.main_arg4)
      ∧ r.2.mem ((c.tc : Thread Cert.KBRefIdeal.nD Cert.KBRefIdeal.τ).loc Cert.KBRefIdeal.main_arg5) = m ((c.tc : Thread Cert.KBRefIdeal.nD Cert.KBRefIdeal.τ).loc Cert.KBRefIdeal.main_arg5)
      ∧ r.2.mem ((c.tc : Thread Cert.KBRefIdeal.nD Cert.KBRefIdeal.τ).loc Cert.KBRefIdeal.main_arg6) = m ((c.tc : Thread Cert.KBRefIdeal.nD Cert.KBRefIdeal.τ).loc Cert.KBRefIdeal.main_arg6)
      ∧ r.2.mem ((c.tc : Thread Cert.KBRefIdeal.nD Cert.KBRefIdeal.τ).loc Cert.KBRefIdeal.main_arg7) = m ((c.tc : Thread Cert.KBRefIdeal.nD Cert.KBRefIdeal.τ).loc Cert.KBRefIdeal.main_arg7))
      ∧ r.2.sem = fun _ => 0)

def quiescent_V [hV : Cert.V.Facts] : Prop :=
  ∀ (m : (ℓ : Loc Cert.V.nD Cert.V.τ Cert.V.sig) → Buf (Elt Bits) ℓ) (g : Dev Cert.V.nD → PrngReg), Pre_V m →
    θ_run (Cert.V.defs (F := Bits)) (onTc (τ := Cert.V.τ) (Cert.V.main (F := Bits))) ⟨m, fun _ => 0, g⟩ (fun r => (∀ c : Dev Cert.V.nD,
      r.2.mem ((c.tc : Thread Cert.V.nD Cert.V.τ).loc Cert.V.main_arg0) = m ((c.tc : Thread Cert.V.nD Cert.V.τ).loc Cert.V.main_arg0)
      ∧ r.2.mem ((c.tc : Thread Cert.V.nD Cert.V.τ).loc Cert.V.main_arg1) = m ((c.tc : Thread Cert.V.nD Cert.V.τ).loc Cert.V.main_arg1)
      ∧ r.2.mem ((c.tc : Thread Cert.V.nD Cert.V.τ).loc Cert.V.main_arg2) = m ((c.tc : Thread Cert.V.nD Cert.V.τ).loc Cert.V.main_arg2)
      ∧ r.2.mem ((c.tc : Thread Cert.V.nD Cert.V.τ).loc Cert.V.main_arg3) = m ((c.tc : Thread Cert.V.nD Cert.V.τ).loc Cert.V.main_arg3)
      ∧ r.2.mem ((c.tc : Thread Cert.V.nD Cert.V.τ).loc Cert.V.main_arg4) = m ((c.tc : Thread Cert.V.nD Cert.V.τ).loc Cert.V.main_arg4)
      ∧ r.2.mem ((c.tc : Thread Cert.V.nD Cert.V.τ).loc Cert.V.main_arg5) = m ((c.tc : Thread Cert.V.nD Cert.V.τ).loc Cert.V.main_arg5)
      ∧ r.2.mem ((c.tc : Thread Cert.V.nD Cert.V.τ).loc Cert.V.main_arg6) = m ((c.tc : Thread Cert.V.nD Cert.V.τ).loc Cert.V.main_arg6)
      ∧ r.2.mem ((c.tc : Thread Cert.V.nD Cert.V.τ).loc Cert.V.main_arg7) = m ((c.tc : Thread Cert.V.nD Cert.V.τ).loc Cert.V.main_arg7))
      ∧ r.2.sem = fun _ => 0)

def quiescent_VIdeal [hVIdeal : Cert.VIdeal.Facts] : Prop :=
  ∀ (m : (ℓ : Loc Cert.VIdeal.nD Cert.VIdeal.τ Cert.VIdeal.sig) → Buf (Elt Ideal) ℓ) (g : Dev Cert.VIdeal.nD → PrngReg), Pre_VIdeal m →
    θ_run (Cert.VIdeal.defs (F := Ideal)) (onTc (τ := Cert.VIdeal.τ) (Cert.VIdeal.main (F := Ideal))) ⟨m, fun _ => 0, g⟩ (fun r => (∀ c : Dev Cert.VIdeal.nD,
      r.2.mem ((c.tc : Thread Cert.VIdeal.nD Cert.VIdeal.τ).loc Cert.VIdeal.main_arg0) = m ((c.tc : Thread Cert.VIdeal.nD Cert.VIdeal.τ).loc Cert.VIdeal.main_arg0)
      ∧ r.2.mem ((c.tc : Thread Cert.VIdeal.nD Cert.VIdeal.τ).loc Cert.VIdeal.main_arg1) = m ((c.tc : Thread Cert.VIdeal.nD Cert.VIdeal.τ).loc Cert.VIdeal.main_arg1)
      ∧ r.2.mem ((c.tc : Thread Cert.VIdeal.nD Cert.VIdeal.τ).loc Cert.VIdeal.main_arg2) = m ((c.tc : Thread Cert.VIdeal.nD Cert.VIdeal.τ).loc Cert.VIdeal.main_arg2)
      ∧ r.2.mem ((c.tc : Thread Cert.VIdeal.nD Cert.VIdeal.τ).loc Cert.VIdeal.main_arg3) = m ((c.tc : Thread Cert.VIdeal.nD Cert.VIdeal.τ).loc Cert.VIdeal.main_arg3)
      ∧ r.2.mem ((c.tc : Thread Cert.VIdeal.nD Cert.VIdeal.τ).loc Cert.VIdeal.main_arg4) = m ((c.tc : Thread Cert.VIdeal.nD Cert.VIdeal.τ).loc Cert.VIdeal.main_arg4)
      ∧ r.2.mem ((c.tc : Thread Cert.VIdeal.nD Cert.VIdeal.τ).loc Cert.VIdeal.main_arg5) = m ((c.tc : Thread Cert.VIdeal.nD Cert.VIdeal.τ).loc Cert.VIdeal.main_arg5)
      ∧ r.2.mem ((c.tc : Thread Cert.VIdeal.nD Cert.VIdeal.τ).loc Cert.VIdeal.main_arg6) = m ((c.tc : Thread Cert.VIdeal.nD Cert.VIdeal.τ).loc Cert.VIdeal.main_arg6)
      ∧ r.2.mem ((c.tc : Thread Cert.VIdeal.nD Cert.VIdeal.τ).loc Cert.VIdeal.main_arg7) = m ((c.tc : Thread Cert.VIdeal.nD Cert.VIdeal.τ).loc Cert.VIdeal.main_arg7))
      ∧ r.2.sem = fun _ => 0)

def quiescent_VRefIdeal [hVRefIdeal : Cert.VRefIdeal.Facts] : Prop :=
  ∀ (m : (ℓ : Loc Cert.VRefIdeal.nD Cert.VRefIdeal.τ Cert.VRefIdeal.sig) → Buf (Elt Ideal) ℓ) (g : Dev Cert.VRefIdeal.nD → PrngReg), Pre_VRefIdeal m →
    θ_run (Cert.VRefIdeal.defs (F := Ideal)) (onTc (τ := Cert.VRefIdeal.τ) (Cert.VRefIdeal.main (F := Ideal))) ⟨m, fun _ => 0, g⟩ (fun r => (∀ c : Dev Cert.VRefIdeal.nD,
      r.2.mem ((c.tc : Thread Cert.VRefIdeal.nD Cert.VRefIdeal.τ).loc Cert.VRefIdeal.main_arg0) = m ((c.tc : Thread Cert.VRefIdeal.nD Cert.VRefIdeal.τ).loc Cert.VRefIdeal.main_arg0)
      ∧ r.2.mem ((c.tc : Thread Cert.VRefIdeal.nD Cert.VRefIdeal.τ).loc Cert.VRefIdeal.main_arg1) = m ((c.tc : Thread Cert.VRefIdeal.nD Cert.VRefIdeal.τ).loc Cert.VRefIdeal.main_arg1)
      ∧ r.2.mem ((c.tc : Thread Cert.VRefIdeal.nD Cert.VRefIdeal.τ).loc Cert.VRefIdeal.main_arg2) = m ((c.tc : Thread Cert.VRefIdeal.nD Cert.VRefIdeal.τ).loc Cert.VRefIdeal.main_arg2)
      ∧ r.2.mem ((c.tc : Thread Cert.VRefIdeal.nD Cert.VRefIdeal.τ).loc Cert.VRefIdeal.main_arg3) = m ((c.tc : Thread Cert.VRefIdeal.nD Cert.VRefIdeal.τ).loc Cert.VRefIdeal.main_arg3)
      ∧ r.2.mem ((c.tc : Thread Cert.VRefIdeal.nD Cert.VRefIdeal.τ).loc Cert.VRefIdeal.main_arg4) = m ((c.tc : Thread Cert.VRefIdeal.nD Cert.VRefIdeal.τ).loc Cert.VRefIdeal.main_arg4)
      ∧ r.2.mem ((c.tc : Thread Cert.VRefIdeal.nD Cert.VRefIdeal.τ).loc Cert.VRefIdeal.main_arg5) = m ((c.tc : Thread Cert.VRefIdeal.nD Cert.VRefIdeal.τ).loc Cert.VRefIdeal.main_arg5)
      ∧ r.2.mem ((c.tc : Thread Cert.VRefIdeal.nD Cert.VRefIdeal.τ).loc Cert.VRefIdeal.main_arg6) = m ((c.tc : Thread Cert.VRefIdeal.nD Cert.VRefIdeal.τ).loc Cert.VRefIdeal.main_arg6)
      ∧ r.2.mem ((c.tc : Thread Cert.VRefIdeal.nD Cert.VRefIdeal.τ).loc Cert.VRefIdeal.main_arg7) = m ((c.tc : Thread Cert.VRefIdeal.nD Cert.VRefIdeal.τ).loc Cert.VRefIdeal.main_arg7))
      ∧ r.2.sem = fun _ => 0)

def quiescent_VB [hVB : Cert.VB.Facts] : Prop :=
  ∀ (m : (ℓ : Loc Cert.VB.nD Cert.VB.τ Cert.VB.sig) → Buf (Elt Bits) ℓ) (g : Dev Cert.VB.nD → PrngReg), Pre_VB m →
    θ_run (Cert.VB.defs (F := Bits)) (onTc (τ := Cert.VB.τ) (Cert.VB.main (F := Bits))) ⟨m, fun _ => 0, g⟩ (fun r => (∀ c : Dev Cert.VB.nD,
      r.2.mem ((c.tc : Thread Cert.VB.nD Cert.VB.τ).loc Cert.VB.main_arg0) = m ((c.tc : Thread Cert.VB.nD Cert.VB.τ).loc Cert.VB.main_arg0)
      ∧ r.2.mem ((c.tc : Thread Cert.VB.nD Cert.VB.τ).loc Cert.VB.main_arg1) = m ((c.tc : Thread Cert.VB.nD Cert.VB.τ).loc Cert.VB.main_arg1)
      ∧ r.2.mem ((c.tc : Thread Cert.VB.nD Cert.VB.τ).loc Cert.VB.main_arg2) = m ((c.tc : Thread Cert.VB.nD Cert.VB.τ).loc Cert.VB.main_arg2)
      ∧ r.2.mem ((c.tc : Thread Cert.VB.nD Cert.VB.τ).loc Cert.VB.main_arg3) = m ((c.tc : Thread Cert.VB.nD Cert.VB.τ).loc Cert.VB.main_arg3)
      ∧ r.2.mem ((c.tc : Thread Cert.VB.nD Cert.VB.τ).loc Cert.VB.main_arg4) = m ((c.tc : Thread Cert.VB.nD Cert.VB.τ).loc Cert.VB.main_arg4)
      ∧ r.2.mem ((c.tc : Thread Cert.VB.nD Cert.VB.τ).loc Cert.VB.main_arg5) = m ((c.tc : Thread Cert.VB.nD Cert.VB.τ).loc Cert.VB.main_arg5)
      ∧ r.2.mem ((c.tc : Thread Cert.VB.nD Cert.VB.τ).loc Cert.VB.main_arg6) = m ((c.tc : Thread Cert.VB.nD Cert.VB.τ).loc Cert.VB.main_arg6)
      ∧ r.2.mem ((c.tc : Thread Cert.VB.nD Cert.VB.τ).loc Cert.VB.main_arg7) = m ((c.tc : Thread Cert.VB.nD Cert.VB.τ).loc Cert.VB.main_arg7))
      ∧ r.2.sem = fun _ => 0)

def quiescent_VBIdeal [hVBIdeal : Cert.VBIdeal.Facts] : Prop :=
  ∀ (m : (ℓ : Loc Cert.VBIdeal.nD Cert.VBIdeal.τ Cert.VBIdeal.sig) → Buf (Elt Ideal) ℓ) (g : Dev Cert.VBIdeal.nD → PrngReg), Pre_VBIdeal m →
    θ_run (Cert.VBIdeal.defs (F := Ideal)) (onTc (τ := Cert.VBIdeal.τ) (Cert.VBIdeal.main (F := Ideal))) ⟨m, fun _ => 0, g⟩ (fun r => (∀ c : Dev Cert.VBIdeal.nD,
      r.2.mem ((c.tc : Thread Cert.VBIdeal.nD Cert.VBIdeal.τ).loc Cert.VBIdeal.main_arg0) = m ((c.tc : Thread Cert.VBIdeal.nD Cert.VBIdeal.τ).loc Cert.VBIdeal.main_arg0)
      ∧ r.2.mem ((c.tc : Thread Cert.VBIdeal.nD Cert.VBIdeal.τ).loc Cert.VBIdeal.main_arg1) = m ((c.tc : Thread Cert.VBIdeal.nD Cert.VBIdeal.τ).loc Cert.VBIdeal.main_arg1)
      ∧ r.2.mem ((c.tc : Thread Cert.VBIdeal.nD Cert.VBIdeal.τ).loc Cert.VBIdeal.main_arg2) = m ((c.tc : Thread Cert.VBIdeal.nD Cert.VBIdeal.τ).loc Cert.VBIdeal.main_arg2)
      ∧ r.2.mem ((c.tc : Thread Cert.VBIdeal.nD Cert.VBIdeal.τ).loc Cert.VBIdeal.main_arg3) = m ((c.tc : Thread Cert.VBIdeal.nD Cert.VBIdeal.τ).loc Cert.VBIdeal.main_arg3)
      ∧ r.2.mem ((c.tc : Thread Cert.VBIdeal.nD Cert.VBIdeal.τ).loc Cert.VBIdeal.main_arg4) = m ((c.tc : Thread Cert.VBIdeal.nD Cert.VBIdeal.τ).loc Cert.VBIdeal.main_arg4)
      ∧ r.2.mem ((c.tc : Thread Cert.VBIdeal.nD Cert.VBIdeal.τ).loc Cert.VBIdeal.main_arg5) = m ((c.tc : Thread Cert.VBIdeal.nD Cert.VBIdeal.τ).loc Cert.VBIdeal.main_arg5)
      ∧ r.2.mem ((c.tc : Thread Cert.VBIdeal.nD Cert.VBIdeal.τ).loc Cert.VBIdeal.main_arg6) = m ((c.tc : Thread Cert.VBIdeal.nD Cert.VBIdeal.τ).loc Cert.VBIdeal.main_arg6)
      ∧ r.2.mem ((c.tc : Thread Cert.VBIdeal.nD Cert.VBIdeal.τ).loc Cert.VBIdeal.main_arg7) = m ((c.tc : Thread Cert.VBIdeal.nD Cert.VBIdeal.τ).loc Cert.VBIdeal.main_arg7))
      ∧ r.2.sem = fun _ => 0)

def quiescent_VBRefIdeal [hVBRefIdeal : Cert.VBRefIdeal.Facts] : Prop :=
  ∀ (m : (ℓ : Loc Cert.VBRefIdeal.nD Cert.VBRefIdeal.τ Cert.VBRefIdeal.sig) → Buf (Elt Ideal) ℓ) (g : Dev Cert.VBRefIdeal.nD → PrngReg), Pre_VBRefIdeal m →
    θ_run (Cert.VBRefIdeal.defs (F := Ideal)) (onTc (τ := Cert.VBRefIdeal.τ) (Cert.VBRefIdeal.main (F := Ideal))) ⟨m, fun _ => 0, g⟩ (fun r => (∀ c : Dev Cert.VBRefIdeal.nD,
      r.2.mem ((c.tc : Thread Cert.VBRefIdeal.nD Cert.VBRefIdeal.τ).loc Cert.VBRefIdeal.main_arg0) = m ((c.tc : Thread Cert.VBRefIdeal.nD Cert.VBRefIdeal.τ).loc Cert.VBRefIdeal.main_arg0)
      ∧ r.2.mem ((c.tc : Thread Cert.VBRefIdeal.nD Cert.VBRefIdeal.τ).loc Cert.VBRefIdeal.main_arg1) = m ((c.tc : Thread Cert.VBRefIdeal.nD Cert.VBRefIdeal.τ).loc Cert.VBRefIdeal.main_arg1)
      ∧ r.2.mem ((c.tc : Thread Cert.VBRefIdeal.nD Cert.VBRefIdeal.τ).loc Cert.VBRefIdeal.main_arg2) = m ((c.tc : Thread Cert.VBRefIdeal.nD Cert.VBRefIdeal.τ).loc Cert.VBRefIdeal.main_arg2)
      ∧ r.2.mem ((c.tc : Thread Cert.VBRefIdeal.nD Cert.VBRefIdeal.τ).loc Cert.VBRefIdeal.main_arg3) = m ((c.tc : Thread Cert.VBRefIdeal.nD Cert.VBRefIdeal.τ).loc Cert.VBRefIdeal.main_arg3)
      ∧ r.2.mem ((c.tc : Thread Cert.VBRefIdeal.nD Cert.VBRefIdeal.τ).loc Cert.VBRefIdeal.main_arg4) = m ((c.tc : Thread Cert.VBRefIdeal.nD Cert.VBRefIdeal.τ).loc Cert.VBRefIdeal.main_arg4)
      ∧ r.2.mem ((c.tc : Thread Cert.VBRefIdeal.nD Cert.VBRefIdeal.τ).loc Cert.VBRefIdeal.main_arg5) = m ((c.tc : Thread Cert.VBRefIdeal.nD Cert.VBRefIdeal.τ).loc Cert.VBRefIdeal.main_arg5)
      ∧ r.2.mem ((c.tc : Thread Cert.VBRefIdeal.nD Cert.VBRefIdeal.τ).loc Cert.VBRefIdeal.main_arg6) = m ((c.tc : Thread Cert.VBRefIdeal.nD Cert.VBRefIdeal.τ).loc Cert.VBRefIdeal.main_arg6)
      ∧ r.2.mem ((c.tc : Thread Cert.VBRefIdeal.nD Cert.VBRefIdeal.τ).loc Cert.VBRefIdeal.main_arg7) = m ((c.tc : Thread Cert.VBRefIdeal.nD Cert.VBRefIdeal.τ).loc Cert.VBRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1)
      ∧ r.2.mem ((c.tc : Thread Cert.Lin.nD Cert.Lin.τ).loc Cert.Lin.main_arg2) = m ((c.tc : Thread Cert.Lin.nD Cert.Lin.τ).loc Cert.Lin.main_arg2)
      ∧ r.2.mem ((c.tc : Thread Cert.Lin.nD Cert.Lin.τ).loc Cert.Lin.main_arg3) = m ((c.tc : Thread Cert.Lin.nD Cert.Lin.τ).loc Cert.Lin.main_arg3)
      ∧ r.2.mem ((c.tc : Thread Cert.Lin.nD Cert.Lin.τ).loc Cert.Lin.main_arg4) = m ((c.tc : Thread Cert.Lin.nD Cert.Lin.τ).loc Cert.Lin.main_arg4))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
      ∧ r.2.mem ((c.tc : Thread Cert.LinIdeal.nD Cert.LinIdeal.τ).loc Cert.LinIdeal.main_arg2) = m ((c.tc : Thread Cert.LinIdeal.nD Cert.LinIdeal.τ).loc Cert.LinIdeal.main_arg2)
      ∧ r.2.mem ((c.tc : Thread Cert.LinIdeal.nD Cert.LinIdeal.τ).loc Cert.LinIdeal.main_arg3) = m ((c.tc : Thread Cert.LinIdeal.nD Cert.LinIdeal.τ).loc Cert.LinIdeal.main_arg3)
      ∧ r.2.mem ((c.tc : Thread Cert.LinIdeal.nD Cert.LinIdeal.τ).loc Cert.LinIdeal.main_arg4) = m ((c.tc : Thread Cert.LinIdeal.nD Cert.LinIdeal.τ).loc Cert.LinIdeal.main_arg4))
      ∧ r.2.sem = fun _ => 0)

def quiescent_LinRefIdeal [hLinRefIdeal : Cert.LinRefIdeal.Facts] : Prop :=
  ∀ (m : (ℓ : Loc Cert.LinRefIdeal.nD Cert.LinRefIdeal.τ Cert.LinRefIdeal.sig) → Buf (Elt Ideal) ℓ) (g : Dev Cert.LinRefIdeal.nD → PrngReg), Pre_LinRefIdeal m →
    θ_run (Cert.LinRefIdeal.defs (F := Ideal)) (onTc (τ := Cert.LinRefIdeal.τ) (Cert.LinRefIdeal.main (F := Ideal))) ⟨m, fun _ => 0, g⟩ (fun r => (∀ c : Dev Cert.LinRefIdeal.nD,
      r.2.mem ((c.tc : Thread Cert.LinRefIdeal.nD Cert.LinRefIdeal.τ).loc Cert.LinRefIdeal.main_arg0) = m ((c.tc : Thread Cert.LinRefIdeal.nD Cert.LinRefIdeal.τ).loc Cert.LinRefIdeal.main_arg0)
      ∧ r.2.mem ((c.tc : Thread Cert.LinRefIdeal.nD Cert.LinRefIdeal.τ).loc Cert.LinRefIdeal.main_arg1) = m ((c.tc : Thread Cert.LinRefIdeal.nD Cert.LinRefIdeal.τ).loc Cert.LinRefIdeal.main_arg1)
      ∧ r.2.mem ((c.tc : Thread Cert.LinRefIdeal.nD Cert.LinRefIdeal.τ).loc Cert.LinRefIdeal.main_arg2) = m ((c.tc : Thread Cert.LinRefIdeal.nD Cert.LinRefIdeal.τ).loc Cert.LinRefIdeal.main_arg2)
      ∧ r.2.mem ((c.tc : Thread Cert.LinRefIdeal.nD Cert.LinRefIdeal.τ).loc Cert.LinRefIdeal.main_arg3) = m ((c.tc : Thread Cert.LinRefIdeal.nD Cert.LinRefIdeal.τ).loc Cert.LinRefIdeal.main_arg3)
      ∧ r.2.mem ((c.tc : Thread Cert.LinRefIdeal.nD Cert.LinRefIdeal.τ).loc Cert.LinRefIdeal.main_arg4) = m ((c.tc : Thread Cert.LinRefIdeal.nD Cert.LinRefIdeal.τ).loc Cert.LinRefIdeal.main_arg4))
      ∧ r.2.sem = fun _ => 0)

def quiescent_LinB [hLinB : Cert.LinB.Facts] : Prop :=
  ∀ (m : (ℓ : Loc Cert.LinB.nD Cert.LinB.τ Cert.LinB.sig) → Buf (Elt Bits) ℓ) (g : Dev Cert.LinB.nD → PrngReg), Pre_LinB m →
    θ_run (Cert.LinB.defs (F := Bits)) (onTc (τ := Cert.LinB.τ) (Cert.LinB.main (F := Bits))) ⟨m, fun _ => 0, g⟩ (fun r => (∀ c : Dev Cert.LinB.nD,
      r.2.mem ((c.tc : Thread Cert.LinB.nD Cert.LinB.τ).loc Cert.LinB.main_arg0) = m ((c.tc : Thread Cert.LinB.nD Cert.LinB.τ).loc Cert.LinB.main_arg0)
      ∧ r.2.mem ((c.tc : Thread Cert.LinB.nD Cert.LinB.τ).loc Cert.LinB.main_arg1) = m ((c.tc : Thread Cert.LinB.nD Cert.LinB.τ).loc Cert.LinB.main_arg1)
      ∧ r.2.mem ((c.tc : Thread Cert.LinB.nD Cert.LinB.τ).loc Cert.LinB.main_arg2) = m ((c.tc : Thread Cert.LinB.nD Cert.LinB.τ).loc Cert.LinB.main_arg2)
      ∧ r.2.mem ((c.tc : Thread Cert.LinB.nD Cert.LinB.τ).loc Cert.LinB.main_arg3) = m ((c.tc : Thread Cert.LinB.nD Cert.LinB.τ).loc Cert.LinB.main_arg3)
      ∧ r.2.mem ((c.tc : Thread Cert.LinB.nD Cert.LinB.τ).loc Cert.LinB.main_arg4) = m ((c.tc : Thread Cert.LinB.nD Cert.LinB.τ).loc Cert.LinB.main_arg4))
      ∧ r.2.sem = fun _ => 0)

def quiescent_LinBIdeal [hLinBIdeal : Cert.LinBIdeal.Facts] : Prop :=
  ∀ (m : (ℓ : Loc Cert.LinBIdeal.nD Cert.LinBIdeal.τ Cert.LinBIdeal.sig) → Buf (Elt Ideal) ℓ) (g : Dev Cert.LinBIdeal.nD → PrngReg), Pre_LinBIdeal m →
    θ_run (Cert.LinBIdeal.defs (F := Ideal)) (onTc (τ := Cert.LinBIdeal.τ) (Cert.LinBIdeal.main (F := Ideal))) ⟨m, fun _ => 0, g⟩ (fun r => (∀ c : Dev Cert.LinBIdeal.nD,
      r.2.mem ((c.tc : Thread Cert.LinBIdeal.nD Cert.LinBIdeal.τ).loc Cert.LinBIdeal.main_arg0) = m ((c.tc : Thread Cert.LinBIdeal.nD Cert.LinBIdeal.τ).loc Cert.LinBIdeal.main_arg0)
      ∧ r.2.mem ((c.tc : Thread Cert.LinBIdeal.nD Cert.LinBIdeal.τ).loc Cert.LinBIdeal.main_arg1) = m ((c.tc : Thread Cert.LinBIdeal.nD Cert.LinBIdeal.τ).loc Cert.LinBIdeal.main_arg1)
      ∧ r.2.mem ((c.tc : Thread Cert.LinBIdeal.nD Cert.LinBIdeal.τ).loc Cert.LinBIdeal.main_arg2) = m ((c.tc : Thread Cert.LinBIdeal.nD Cert.LinBIdeal.τ).loc Cert.LinBIdeal.main_arg2)
      ∧ r.2.mem ((c.tc : Thread Cert.LinBIdeal.nD Cert.LinBIdeal.τ).loc Cert.LinBIdeal.main_arg3) = m ((c.tc : Thread Cert.LinBIdeal.nD Cert.LinBIdeal.τ).loc Cert.LinBIdeal.main_arg3)
      ∧ r.2.mem ((c.tc : Thread Cert.LinBIdeal.nD Cert.LinBIdeal.τ).loc Cert.LinBIdeal.main_arg4) = m ((c.tc : Thread Cert.LinBIdeal.nD Cert.LinBIdeal.τ).loc Cert.LinBIdeal.main_arg4))
      ∧ r.2.sem = fun _ => 0)

def quiescent_LinBRefIdeal [hLinBRefIdeal : Cert.LinBRefIdeal.Facts] : Prop :=
  ∀ (m : (ℓ : Loc Cert.LinBRefIdeal.nD Cert.LinBRefIdeal.τ Cert.LinBRefIdeal.sig) → Buf (Elt Ideal) ℓ) (g : Dev Cert.LinBRefIdeal.nD → PrngReg), Pre_LinBRefIdeal m →
    θ_run (Cert.LinBRefIdeal.defs (F := Ideal)) (onTc (τ := Cert.LinBRefIdeal.τ) (Cert.LinBRefIdeal.main (F := Ideal))) ⟨m, fun _ => 0, g⟩ (fun r => (∀ c : Dev Cert.LinBRefIdeal.nD,
      r.2.mem ((c.tc : Thread Cert.LinBRefIdeal.nD Cert.LinBRefIdeal.τ).loc Cert.LinBRefIdeal.main_arg0) = m ((c.tc : Thread Cert.LinBRefIdeal.nD Cert.LinBRefIdeal.τ).loc Cert.LinBRefIdeal.main_arg0)
      ∧ r.2.mem ((c.tc : Thread Cert.LinBRefIdeal.nD Cert.LinBRefIdeal.τ).loc Cert.LinBRefIdeal.main_arg1) = m ((c.tc : Thread Cert.LinBRefIdeal.nD Cert.LinBRefIdeal.τ).loc Cert.LinBRefIdeal.main_arg1)
      ∧ r.2.mem ((c.tc : Thread Cert.LinBRefIdeal.nD Cert.LinBRefIdeal.τ).loc Cert.LinBRefIdeal.main_arg2) = m ((c.tc : Thread Cert.LinBRefIdeal.nD Cert.LinBRefIdeal.τ).loc Cert.LinBRefIdeal.main_arg2)
      ∧ r.2.mem ((c.tc : Thread Cert.LinBRefIdeal.nD Cert.LinBRefIdeal.τ).loc Cert.LinBRefIdeal.main_arg3) = m ((c.tc : Thread Cert.LinBRefIdeal.nD Cert.LinBRefIdeal.τ).loc Cert.LinBRefIdeal.main_arg3)
      ∧ r.2.mem ((c.tc : Thread Cert.LinBRefIdeal.nD Cert.LinBRefIdeal.τ).loc Cert.LinBRefIdeal.main_arg4) = m ((c.tc : Thread Cert.LinBRefIdeal.nD Cert.LinBRefIdeal.τ).loc Cert.LinBRefIdeal.main_arg4))
      ∧ r.2.sem = fun _ => 0)

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)
      ∧ m' ((c.tc : Thread Cert.GuRefIdeal.nD Cert.GuRefIdeal.τ).loc Cert.GuRefIdeal.main_arg5) = m ((c.tc : Thread Cert.GuIdeal.nD Cert.GuIdeal.τ).loc Cert.GuIdeal.main_arg5)) →
    ∃ (v0 : (c : Dev Cert.GuIdeal.nD) → Buf (Elt Ideal) ((c.tc : Thread Cert.GuIdeal.nD Cert.GuIdeal.τ).loc Cert.GuIdeal.main_v0_0)) (v1 : (c : Dev Cert.GuIdeal.nD) → Buf (Elt Ideal) ((c.tc : Thread Cert.GuIdeal.nD Cert.GuIdeal.τ).loc Cert.GuIdeal.main_v0_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v0_0) = v0 c
          ∧ r.2.mem ((c.tc : Thread Cert.GuIdeal.nD Cert.GuIdeal.τ).loc Cert.GuIdeal.main_v0_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
          ∧ r.2.mem ((c.tc : Thread Cert.GuIdeal.nD Cert.GuIdeal.τ).loc Cert.GuIdeal.main_arg5) = m ((c.tc : Thread Cert.GuIdeal.nD Cert.GuIdeal.τ).loc Cert.GuIdeal.main_arg5))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v52) = v0 c
          ∧ r.2.mem ((c.tc : Thread Cert.GuRefIdeal.nD Cert.GuRefIdeal.τ).loc Cert.GuRefIdeal.main_v55) = v1 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4)
          ∧ r.2.mem ((c.tc : Thread Cert.GuRefIdeal.nD Cert.GuRefIdeal.τ).loc Cert.GuRefIdeal.main_arg5) = m' ((c.tc : Thread Cert.GuRefIdeal.nD Cert.GuRefIdeal.τ).loc Cert.GuRefIdeal.main_arg5))

def preserves_GuB_GuBIdeal : Prop :=
  True

def algebraic_GuBIdeal_GuBRefIdeal [hGuBIdeal : Cert.GuBIdeal.Facts] [hGuBRefIdeal : Cert.GuBRefIdeal.Facts] : Prop :=
  ∀ (m : (ℓ : Loc Cert.GuBIdeal.nD Cert.GuBIdeal.τ Cert.GuBIdeal.sig) → Buf (Elt Ideal) ℓ) (g : Dev Cert.GuBIdeal.nD → PrngReg)
    (m' : (ℓ : Loc Cert.GuBRefIdeal.nD Cert.GuBRefIdeal.τ Cert.GuBRefIdeal.sig) → Buf (Elt Ideal) ℓ) (g' : Dev Cert.GuBRefIdeal.nD → PrngReg), Pre_GuBIdeal m →
    (∀ c : Dev Cert.GuBIdeal.nD,
      m' ((c.tc : Thread Cert.GuBRefIdeal.nD Cert.GuBRefIdeal.τ).loc Cert.GuBRefIdeal.main_arg0) = m ((c.tc : Thread Cert.GuBIdeal.nD Cert.GuBIdeal.τ).loc Cert.GuBIdeal.main_arg0)
      ∧ m' ((c.tc : Thread Cert.GuBRefIdeal.nD Cert.GuBRefIdeal.τ).loc Cert.GuBRefIdeal.main_arg1) = m ((c.tc : Thread Cert.GuBIdeal.nD Cert.GuBIdeal.τ).loc Cert.GuBIdeal.main_arg1)
      ∧ m' ((c.tc : Thread Cert.GuBRefIdeal.nD Cert.GuBRefIdeal.τ).loc Cert.GuBRefIdeal.main_arg2) = m ((c.tc : Thread Cert.GuBIdeal.nD Cert.GuBIdeal.τ).loc Cert.GuBIdeal.main_arg2)
      ∧ m' ((c.tc : Thread Cert.GuBRefIdeal.nD Cert.GuBRefIdeal.τ).loc Cert.GuBRefIdeal.main_arg3) = m ((c.tc : Thread Cert.GuBIdeal.nD Cert.GuBIdeal.τ).loc Cert.GuBIdeal.main_arg3)
      ∧ m' ((c.tc : Thread Cert.GuBRefIdeal.nD Cert.GuBRefIdeal.τ).loc Cert.GuBRefIdeal.main_arg4) = m ((c.tc : Thread Cert.GuBIdeal.nD Cert.GuBIdeal.τ).loc Cert.GuBIdeal.main_arg4)
      ∧ m' ((c.tc : Thread Cert.GuBRefIdeal.nD Cert.GuBRefIdeal.τ).loc Cert.GuBRefIdeal.main_arg5) = m ((c.tc : Thread Cert.GuBIdeal.nD Cert.GuBIdeal.τ).loc Cert.GuBIdeal.main_arg5)) →
    ∃ (v0 : (c : Dev Cert.GuBIdeal.nD) → Buf (Elt Ideal) ((c.tc : Thread Cert.GuBIdeal.nD Cert.GuBIdeal.τ).loc Cert.GuBIdeal.main_v0_0)) (v1 : (c : Dev Cert.GuBIdeal.nD) → Buf (Elt Ideal) ((c.tc : Thread Cert.GuBIdeal.nD Cert.GuBIdeal.τ).loc Cert.GuBIdeal.main_v0_1)),
      θ_run (Cert.GuBIdeal.defs (F := Ideal)) (onTc (τ := Cert.GuBIdeal.τ) (Cert.GuBIdeal.main (F := Ideal))) ⟨m, fun _ => 0, g⟩ (fun r => ∀ c : Dev Cert.GuBIdeal.nD,
          r.2.mem ((c.tc : Thread Cert.GuBIdeal.nD Cert.GuBIdeal.τ).loc Cert.GuBIdeal.main_v0_0) = v0 c
          ∧ r.2.mem ((c.tc : Thread Cert.GuBIdeal.nD Cert.GuBIdeal.τ).loc Cert.GuBIdeal.main_v0_1) = v1 c
          ∧ r.2.mem ((c.tc : Thread Cert.GuBIdeal.nD Cert.GuBIdeal.τ).loc Cert.GuBIdeal.main_arg0) = m ((c.tc : Thread Cert.GuBIdeal.nD Cert.GuBIdeal.τ).loc Cert.GuBIdeal.main_arg0)
          ∧ r.2.mem ((c.tc : Thread Cert.GuBIdeal.nD Cert.GuBIdeal.τ).loc Cert.GuBIdeal.main_arg1) = m ((c.tc : Thread Cert.GuBIdeal.nD Cert.GuBIdeal.τ).loc Cert.GuBIdeal.main_arg1)
          ∧ r.2.mem ((c.tc : Thread Cert.GuBIdeal.nD Cert.GuBIdeal.τ).loc Cert.GuBIdeal.main_arg2) = m ((c.tc : Thread Cert.GuBIdeal.nD Cert.GuBIdeal.τ).loc Cert.GuBIdeal.main_arg2)
          ∧ r.2.mem ((c.tc : Thread Cert.GuBIdeal.nD Cert.GuBIdeal.τ).loc Cert.GuBIdeal.main_arg3) = m ((c.tc : Thread Cert.GuBIdeal.nD Cert.GuBIdeal.τ).loc Cert.GuBIdeal.main_arg3)
          ∧ r.2.mem ((c.tc : Thread Cert.GuBIdeal.nD Cert.GuBIdeal.τ).loc Cert.GuBIdeal.main_arg4) = m ((c.tc : Thread Cert.GuBIdeal.nD Cert.GuBIdeal.τ).loc Cert.GuBIdeal.main_arg4)
          ∧ r.2.mem ((c.tc : Thread Cert.GuBIdeal.nD Cert.GuBIdeal.τ).loc Cert.GuBIdeal.main_arg5) = m ((c.tc : Thread Cert.GuBIdeal.nD Cert.GuBIdeal.τ).loc Cert.GuBIdeal.main_arg5))
      ∧ θ_run (Cert.GuBRefIdeal.defs (F := Ideal)) (onTc (τ := Cert.GuBRefIdeal.τ) (Cert.GuBRefIdeal.main (F := Ideal))) ⟨m', fun _ => 0, g'⟩ (fun r => ∀ c : Dev Cert.GuBRefIdeal.nD,
          r.2.mem ((c.tc : Thread Cert.GuBRefIdeal.nD Cert.GuBRefIdeal.τ).loc Cert.GuBRefIdeal.main_v52) = v0 c
          ∧ r.2.mem ((c.tc : Thread Cert.GuBRefIdeal.nD Cert.GuBRefIdeal.τ).loc Cert.GuBRefIdeal.main_v55) = v1 c
          ∧ r.2.mem ((c.tc : Thread Cert.GuBRefIdeal.nD Cert.GuBRefIdeal.τ).loc Cert.GuBRefIdeal.main_arg0) = m' ((c.tc : Thread Cert.GuBRefIdeal.nD Cert.GuBRefIdeal.τ).loc Cert.GuBRefIdeal.main_arg0)
          ∧ r.2.mem ((c.tc : Thread Cert.GuBRefIdeal.nD Cert.GuBRefIdeal.τ).loc Cert.GuBRefIdeal.main_arg1) = m' ((c.tc : Thread Cert.GuBRefIdeal.nD Cert.GuBRefIdeal.τ).loc Cert.GuBRefIdeal.main_arg1)
          ∧ r.2.mem ((c.tc : Thread Cert.GuBRefIdeal.nD Cert.GuBRefIdeal.τ).loc Cert.GuBRefIdeal.main_arg2) = m' ((c.tc : Thread Cert.GuBRefIdeal.nD Cert.GuBRefIdeal.τ).loc Cert.GuBRefIdeal.main_arg2)
          ∧ r.2.mem ((c.tc : Thread Cert.GuBRefIdeal.nD Cert.GuBRefIdeal.τ).loc Cert.GuBRefIdeal.main_arg3) = m' ((c.tc : Thread Cert.GuBRefIdeal.nD Cert.GuBRefIdeal.τ).loc Cert.GuBRefIdeal.main_arg3)
          ∧ r.2.mem ((c.tc : Thread Cert.GuBRefIdeal.nD Cert.GuBRefIdeal.τ).loc Cert.GuBRefIdeal.main_arg4) = m' ((c.tc : Thread Cert.GuBRefIdeal.nD Cert.GuBRefIdeal.τ).loc Cert.GuBRefIdeal.main_arg4)
          ∧ r.2.mem ((c.tc : Thread Cert.GuBRefIdeal.nD Cert.GuBRefIdeal.τ).loc Cert.GuBRefIdeal.main_arg5) = m' ((c.tc : Thread Cert.GuBRefIdeal.nD Cert.GuBRefIdeal.τ).loc Cert.GuBRefIdeal.main_arg5))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)
      ∧ m' ((c.tc : Thread Cert.QRefIdeal.nD Cert.QRefIdeal.τ).loc Cert.QRefIdeal.main_arg3) = m ((c.tc : Thread Cert.QIdeal.nD Cert.QIdeal.τ).loc Cert.QIdeal.main_arg3)
      ∧ m' ((c.tc : Thread Cert.QRefIdeal.nD Cert.QRefIdeal.τ).loc Cert.QRefIdeal.main_arg4) = m ((c.tc : Thread Cert.QIdeal.nD Cert.QIdeal.τ).loc Cert.QIdeal.main_arg4)
      ∧ m' ((c.tc : Thread Cert.QRefIdeal.nD Cert.QRefIdeal.τ).loc Cert.QRefIdeal.main_arg5) = m ((c.tc : Thread Cert.QIdeal.nD Cert.QIdeal.τ).loc Cert.QIdeal.main_arg5)
      ∧ m' ((c.tc : Thread Cert.QRefIdeal.nD Cert.QRefIdeal.τ).loc Cert.QRefIdeal.main_arg6) = m ((c.tc : Thread Cert.QIdeal.nD Cert.QIdeal.τ).loc Cert.QIdeal.main_arg6)
      ∧ m' ((c.tc : Thread Cert.QRefIdeal.nD Cert.QRefIdeal.τ).loc Cert.QRefIdeal.main_arg7) = m ((c.tc : Thread Cert.QIdeal.nD Cert.QIdeal.τ).loc Cert.QIdeal.main_arg7)) →
    ∃ (v0 : (c : Dev Cert.QIdeal.nD) → Buf (Elt Ideal) ((c.tc : Thread Cert.QIdeal.nD Cert.QIdeal.τ).loc Cert.QIdeal.main_v0)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3)
          ∧ r.2.mem ((c.tc : Thread Cert.QIdeal.nD Cert.QIdeal.τ).loc Cert.QIdeal.main_arg4) = m ((c.tc : Thread Cert.QIdeal.nD Cert.QIdeal.τ).loc Cert.QIdeal.main_arg4)
          ∧ r.2.mem ((c.tc : Thread Cert.QIdeal.nD Cert.QIdeal.τ).loc Cert.QIdeal.main_arg5) = m ((c.tc : Thread Cert.QIdeal.nD Cert.QIdeal.τ).loc Cert.QIdeal.main_arg5)
          ∧ r.2.mem ((c.tc : Thread Cert.QIdeal.nD Cert.QIdeal.τ).loc Cert.QIdeal.main_arg6) = m ((c.tc : Thread Cert.QIdeal.nD Cert.QIdeal.τ).loc Cert.QIdeal.main_arg6)
          ∧ r.2.mem ((c.tc : Thread Cert.QIdeal.nD Cert.QIdeal.τ).loc Cert.QIdeal.main_arg7) = m ((c.tc : Thread Cert.QIdeal.nD Cert.QIdeal.τ).loc Cert.QIdeal.main_arg7))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v65) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2)
          ∧ r.2.mem ((c.tc : Thread Cert.QRefIdeal.nD Cert.QRefIdeal.τ).loc Cert.QRefIdeal.main_arg3) = m' ((c.tc : Thread Cert.QRefIdeal.nD Cert.QRefIdeal.τ).loc Cert.QRefIdeal.main_arg3)
          ∧ r.2.mem ((c.tc : Thread Cert.QRefIdeal.nD Cert.QRefIdeal.τ).loc Cert.QRefIdeal.main_arg4) = m' ((c.tc : Thread Cert.QRefIdeal.nD Cert.QRefIdeal.τ).loc Cert.QRefIdeal.main_arg4)
          ∧ r.2.mem ((c.tc : Thread Cert.QRefIdeal.nD Cert.QRefIdeal.τ).loc Cert.QRefIdeal.main_arg5) = m' ((c.tc : Thread Cert.QRefIdeal.nD Cert.QRefIdeal.τ).loc Cert.QRefIdeal.main_arg5)
          ∧ r.2.mem ((c.tc : Thread Cert.QRefIdeal.nD Cert.QRefIdeal.τ).loc Cert.QRefIdeal.main_arg6) = m' ((c.tc : Thread Cert.QRefIdeal.nD Cert.QRefIdeal.τ).loc Cert.QRefIdeal.main_arg6)
          ∧ r.2.mem ((c.tc : Thread Cert.QRefIdeal.nD Cert.QRefIdeal.τ).loc Cert.QRefIdeal.main_arg7) = m' ((c.tc : Thread Cert.QRefIdeal.nD Cert.QRefIdeal.τ).loc Cert.QRefIdeal.main_arg7))

def preserves_QB_QBIdeal : Prop :=
  True

def algebraic_QBIdeal_QBRefIdeal [hQBIdeal : Cert.QBIdeal.Facts] [hQBRefIdeal : Cert.QBRefIdeal.Facts] : Prop :=
  ∀ (m : (ℓ : Loc Cert.QBIdeal.nD Cert.QBIdeal.τ Cert.QBIdeal.sig) → Buf (Elt Ideal) ℓ) (g : Dev Cert.QBIdeal.nD → PrngReg)
    (m' : (ℓ : Loc Cert.QBRefIdeal.nD Cert.QBRefIdeal.τ Cert.QBRefIdeal.sig) → Buf (Elt Ideal) ℓ) (g' : Dev Cert.QBRefIdeal.nD → PrngReg), Pre_QBIdeal m →
    (∀ c : Dev Cert.QBIdeal.nD,
      m' ((c.tc : Thread Cert.QBRefIdeal.nD Cert.QBRefIdeal.τ).loc Cert.QBRefIdeal.main_arg0) = m ((c.tc : Thread Cert.QBIdeal.nD Cert.QBIdeal.τ).loc Cert.QBIdeal.main_arg0)
      ∧ m' ((c.tc : Thread Cert.QBRefIdeal.nD Cert.QBRefIdeal.τ).loc Cert.QBRefIdeal.main_arg1) = m ((c.tc : Thread Cert.QBIdeal.nD Cert.QBIdeal.τ).loc Cert.QBIdeal.main_arg1)
      ∧ m' ((c.tc : Thread Cert.QBRefIdeal.nD Cert.QBRefIdeal.τ).loc Cert.QBRefIdeal.main_arg2) = m ((c.tc : Thread Cert.QBIdeal.nD Cert.QBIdeal.τ).loc Cert.QBIdeal.main_arg2)
      ∧ m' ((c.tc : Thread Cert.QBRefIdeal.nD Cert.QBRefIdeal.τ).loc Cert.QBRefIdeal.main_arg3) = m ((c.tc : Thread Cert.QBIdeal.nD Cert.QBIdeal.τ).loc Cert.QBIdeal.main_arg3)
      ∧ m' ((c.tc : Thread Cert.QBRefIdeal.nD Cert.QBRefIdeal.τ).loc Cert.QBRefIdeal.main_arg4) = m ((c.tc : Thread Cert.QBIdeal.nD Cert.QBIdeal.τ).loc Cert.QBIdeal.main_arg4)
      ∧ m' ((c.tc : Thread Cert.QBRefIdeal.nD Cert.QBRefIdeal.τ).loc Cert.QBRefIdeal.main_arg5) = m ((c.tc : Thread Cert.QBIdeal.nD Cert.QBIdeal.τ).loc Cert.QBIdeal.main_arg5)
      ∧ m' ((c.tc : Thread Cert.QBRefIdeal.nD Cert.QBRefIdeal.τ).loc Cert.QBRefIdeal.main_arg6) = m ((c.tc : Thread Cert.QBIdeal.nD Cert.QBIdeal.τ).loc Cert.QBIdeal.main_arg6)
      ∧ m' ((c.tc : Thread Cert.QBRefIdeal.nD Cert.QBRefIdeal.τ).loc Cert.QBRefIdeal.main_arg7) = m ((c.tc : Thread Cert.QBIdeal.nD Cert.QBIdeal.τ).loc Cert.QBIdeal.main_arg7)) →
    ∃ (v0 : (c : Dev Cert.QBIdeal.nD) → Buf (Elt Ideal) ((c.tc : Thread Cert.QBIdeal.nD Cert.QBIdeal.τ).loc Cert.QBIdeal.main_v0)),
      θ_run (Cert.QBIdeal.defs (F := Ideal)) (onTc (τ := Cert.QBIdeal.τ) (Cert.QBIdeal.main (F := Ideal))) ⟨m, fun _ => 0, g⟩ (fun r => ∀ c : Dev Cert.QBIdeal.nD,
          r.2.mem ((c.tc : Thread Cert.QBIdeal.nD Cert.QBIdeal.τ).loc Cert.QBIdeal.main_v0) = v0 c
          ∧ r.2.mem ((c.tc : Thread Cert.QBIdeal.nD Cert.QBIdeal.τ).loc Cert.QBIdeal.main_arg0) = m ((c.tc : Thread Cert.QBIdeal.nD Cert.QBIdeal.τ).loc Cert.QBIdeal.main_arg0)
          ∧ r.2.mem ((c.tc : Thread Cert.QBIdeal.nD Cert.QBIdeal.τ).loc Cert.QBIdeal.main_arg1) = m ((c.tc : Thread Cert.QBIdeal.nD Cert.QBIdeal.τ).loc Cert.QBIdeal.main_arg1)
          ∧ r.2.mem ((c.tc : Thread Cert.QBIdeal.nD Cert.QBIdeal.τ).loc Cert.QBIdeal.main_arg2) = m ((c.tc : Thread Cert.QBIdeal.nD Cert.QBIdeal.τ).loc Cert.QBIdeal.main_arg2)
          ∧ r.2.mem ((c.tc : Thread Cert.QBIdeal.nD Cert.QBIdeal.τ).loc Cert.QBIdeal.main_arg3) = m ((c.tc : Thread Cert.QBIdeal.nD Cert.QBIdeal.τ).loc Cert.QBIdeal.main_arg3)
          ∧ r.2.mem ((c.tc : Thread Cert.QBIdeal.nD Cert.QBIdeal.τ).loc Cert.QBIdeal.main_arg4) = m ((c.tc : Thread Cert.QBIdeal.nD Cert.QBIdeal.τ).loc Cert.QBIdeal.main_arg4)
          ∧ r.2.mem ((c.tc : Thread Cert.QBIdeal.nD Cert.QBIdeal.τ).loc Cert.QBIdeal.main_arg5) = m ((c.tc : Thread Cert.QBIdeal.nD Cert.QBIdeal.τ).loc Cert.QBIdeal.main_arg5)
          ∧ r.2.mem ((c.tc : Thread Cert.QBIdeal.nD Cert.QBIdeal.τ).loc Cert.QBIdeal.main_arg6) = m ((c.tc : Thread Cert.QBIdeal.nD Cert.QBIdeal.τ).loc Cert.QBIdeal.main_arg6)
          ∧ r.2.mem ((c.tc : Thread Cert.QBIdeal.nD Cert.QBIdeal.τ).loc Cert.QBIdeal.main_arg7) = m ((c.tc : Thread Cert.QBIdeal.nD Cert.QBIdeal.τ).loc Cert.QBIdeal.main_arg7))
      ∧ θ_run (Cert.QBRefIdeal.defs (F := Ideal)) (onTc (τ := Cert.QBRefIdeal.τ) (Cert.QBRefIdeal.main (F := Ideal))) ⟨m', fun _ => 0, g'⟩ (fun r => ∀ c : Dev Cert.QBRefIdeal.nD,
          r.2.mem ((c.tc : Thread Cert.QBRefIdeal.nD Cert.QBRefIdeal.τ).loc Cert.QBRefIdeal.main_v65) = v0 c
          ∧ r.2.mem ((c.tc : Thread Cert.QBRefIdeal.nD Cert.QBRefIdeal.τ).loc Cert.QBRefIdeal.main_arg0) = m' ((c.tc : Thread Cert.QBRefIdeal.nD Cert.QBRefIdeal.τ).loc Cert.QBRefIdeal.main_arg0)
          ∧ r.2.mem ((c.tc : Thread Cert.QBRefIdeal.nD Cert.QBRefIdeal.τ).loc Cert.QBRefIdeal.main_arg1) = m' ((c.tc : Thread Cert.QBRefIdeal.nD Cert.QBRefIdeal.τ).loc Cert.QBRefIdeal.main_arg1)
          ∧ r.2.mem ((c.tc : Thread Cert.QBRefIdeal.nD Cert.QBRefIdeal.τ).loc Cert.QBRefIdeal.main_arg2) = m' ((c.tc : Thread Cert.QBRefIdeal.nD Cert.QBRefIdeal.τ).loc Cert.QBRefIdeal.main_arg2)
          ∧ r.2.mem ((c.tc : Thread Cert.QBRefIdeal.nD Cert.QBRefIdeal.τ).loc Cert.QBRefIdeal.main_arg3) = m' ((c.tc : Thread Cert.QBRefIdeal.nD Cert.QBRefIdeal.τ).loc Cert.QBRefIdeal.main_arg3)
          ∧ r.2.mem ((c.tc : Thread Cert.QBRefIdeal.nD Cert.QBRefIdeal.τ).loc Cert.QBRefIdeal.main_arg4) = m' ((c.tc : Thread Cert.QBRefIdeal.nD Cert.QBRefIdeal.τ).loc Cert.QBRefIdeal.main_arg4)
          ∧ r.2.mem ((c.tc : Thread Cert.QBRefIdeal.nD Cert.QBRefIdeal.τ).loc Cert.QBRefIdeal.main_arg5) = m' ((c.tc : Thread Cert.QBRefIdeal.nD Cert.QBRefIdeal.τ).loc Cert.QBRefIdeal.main_arg5)
          ∧ r.2.mem ((c.tc : Thread Cert.QBRefIdeal.nD Cert.QBRefIdeal.τ).loc Cert.QBRefIdeal.main_arg6) = m' ((c.tc : Thread Cert.QBRefIdeal.nD Cert.QBRefIdeal.τ).loc Cert.QBRefIdeal.main_arg6)
          ∧ r.2.mem ((c.tc : Thread Cert.QBRefIdeal.nD Cert.QBRefIdeal.τ).loc Cert.QBRefIdeal.main_arg7) = m' ((c.tc : Thread Cert.QBRefIdeal.nD Cert.QBRefIdeal.τ).loc Cert.QBRefIdeal.main_arg7))

def preserves_K_KIdeal : Prop :=
  True

def algebraic_KIdeal_KRefIdeal [hKIdeal : Cert.KIdeal.Facts] [hKRefIdeal : Cert.KRefIdeal.Facts] : Prop :=
  ∀ (m : (ℓ : Loc Cert.KIdeal.nD Cert.KIdeal.τ Cert.KIdeal.sig) → Buf (Elt Ideal) ℓ) (g : Dev Cert.KIdeal.nD → PrngReg)
    (m' : (ℓ : Loc Cert.KRefIdeal.nD Cert.KRefIdeal.τ Cert.KRefIdeal.sig) → Buf (Elt Ideal) ℓ) (g' : Dev Cert.KRefIdeal.nD → PrngReg), Pre_KIdeal m →
    (∀ c : Dev Cert.KIdeal.nD,
      m' ((c.tc : Thread Cert.KRefIdeal.nD Cert.KRefIdeal.τ).loc Cert.KRefIdeal.main_arg0) = m ((c.tc : Thread Cert.KIdeal.nD Cert.KIdeal.τ).loc Cert.KIdeal.main_arg0)
      ∧ m' ((c.tc : Thread Cert.KRefIdeal.nD Cert.KRefIdeal.τ).loc Cert.KRefIdeal.main_arg1) = m ((c.tc : Thread Cert.KIdeal.nD Cert.KIdeal.τ).loc Cert.KIdeal.main_arg1)
      ∧ m' ((c.tc : Thread Cert.KRefIdeal.nD Cert.KRefIdeal.τ).loc Cert.KRefIdeal.main_arg2) = m ((c.tc : Thread Cert.KIdeal.nD Cert.KIdeal.τ).loc Cert.KIdeal.main_arg2)
      ∧ m' ((c.tc : Thread Cert.KRefIdeal.nD Cert.KRefIdeal.τ).loc Cert.KRefIdeal.main_arg3) = m ((c.tc : Thread Cert.KIdeal.nD Cert.KIdeal.τ).loc Cert.KIdeal.main_arg3)
      ∧ m' ((c.tc : Thread Cert.KRefIdeal.nD Cert.KRefIdeal.τ).loc Cert.KRefIdeal.main_arg4) = m ((c.tc : Thread Cert.KIdeal.nD Cert.KIdeal.τ).loc Cert.KIdeal.main_arg4)
      ∧ m' ((c.tc : Thread Cert.KRefIdeal.nD Cert.KRefIdeal.τ).loc Cert.KRefIdeal.main_arg5) = m ((c.tc : Thread Cert.KIdeal.nD Cert.KIdeal.τ).loc Cert.KIdeal.main_arg5)
      ∧ m' ((c.tc : Thread Cert.KRefIdeal.nD Cert.KRefIdeal.τ).loc Cert.KRefIdeal.main_arg6) = m ((c.tc : Thread Cert.KIdeal.nD Cert.KIdeal.τ).loc Cert.KIdeal.main_arg6)
      ∧ m' ((c.tc : Thread Cert.KRefIdeal.nD Cert.KRefIdeal.τ).loc Cert.KRefIdeal.main_arg7) = m ((c.tc : Thread Cert.KIdeal.nD Cert.KIdeal.τ).loc Cert.KIdeal.main_arg7)) →
    ∃ (v0 : (c : Dev Cert.KIdeal.nD) → Buf (Elt Ideal) ((c.tc : Thread Cert.KIdeal.nD Cert.KIdeal.τ).loc Cert.KIdeal.main_v0_0)) (v1 : (c : Dev Cert.KIdeal.nD) → Buf (Elt Ideal) ((c.tc : Thread Cert.KIdeal.nD Cert.KIdeal.τ).loc Cert.KIdeal.main_v0_1)),
      θ_run (Cert.KIdeal.defs (F := Ideal)) (onTc (τ := Cert.KIdeal.τ) (Cert.KIdeal.main (F := Ideal))) ⟨m, fun _ => 0, g⟩ (fun r => ∀ c : Dev Cert.KIdeal.nD,
          r.2.mem ((c.tc : Thread Cert.KIdeal.nD Cert.KIdeal.τ).loc Cert.KIdeal.main_v0_0) = v0 c
          ∧ r.2.mem ((c.tc : Thread Cert.KIdeal.nD Cert.KIdeal.τ).loc Cert.KIdeal.main_v0_1) = v1 c
          ∧ r.2.mem ((c.tc : Thread Cert.KIdeal.nD Cert.KIdeal.τ).loc Cert.KIdeal.main_arg0) = m ((c.tc : Thread Cert.KIdeal.nD Cert.KIdeal.τ).loc Cert.KIdeal.main_arg0)
          ∧ r.2.mem ((c.tc : Thread Cert.KIdeal.nD Cert.KIdeal.τ).loc Cert.KIdeal.main_arg1) = m ((c.tc : Thread Cert.KIdeal.nD Cert.KIdeal.τ).loc Cert.KIdeal.main_arg1)
          ∧ r.2.mem ((c.tc : Thread Cert.KIdeal.nD Cert.KIdeal.τ).loc Cert.KIdeal.main_arg2) = m ((c.tc : Thread Cert.KIdeal.nD Cert.KIdeal.τ).loc Cert.KIdeal.main_arg2)
          ∧ r.2.mem ((c.tc : Thread Cert.KIdeal.nD Cert.KIdeal.τ).loc Cert.KIdeal.main_arg3) = m ((c.tc : Thread Cert.KIdeal.nD Cert.KIdeal.τ).loc Cert.KIdeal.main_arg3)
          ∧ r.2.mem ((c.tc : Thread Cert.KIdeal.nD Cert.KIdeal.τ).loc Cert.KIdeal.main_arg4) = m ((c.tc : Thread Cert.KIdeal.nD Cert.KIdeal.τ).loc Cert.KIdeal.main_arg4)
          ∧ r.2.mem ((c.tc : Thread Cert.KIdeal.nD Cert.KIdeal.τ).loc Cert.KIdeal.main_arg5) = m ((c.tc : Thread Cert.KIdeal.nD Cert.KIdeal.τ).loc Cert.KIdeal.main_arg5)
          ∧ r.2.mem ((c.tc : Thread Cert.KIdeal.nD Cert.KIdeal.τ).loc Cert.KIdeal.main_arg6) = m ((c.tc : Thread Cert.KIdeal.nD Cert.KIdeal.τ).loc Cert.KIdeal.main_arg6)
          ∧ r.2.mem ((c.tc : Thread Cert.KIdeal.nD Cert.KIdeal.τ).loc Cert.KIdeal.main_arg7) = m ((c.tc : Thread Cert.KIdeal.nD Cert.KIdeal.τ).loc Cert.KIdeal.main_arg7))
      ∧ θ_run (Cert.KRefIdeal.defs (F := Ideal)) (onTc (τ := Cert.KRefIdeal.τ) (Cert.KRefIdeal.main (F := Ideal))) ⟨m', fun _ => 0, g'⟩ (fun r => ∀ c : Dev Cert.KRefIdeal.nD,
          r.2.mem ((c.tc : Thread Cert.KRefIdeal.nD Cert.KRefIdeal.τ).loc Cert.KRefIdeal.main_v79) = v0 c
          ∧ r.2.mem ((c.tc : Thread Cert.KRefIdeal.nD Cert.KRefIdeal.τ).loc Cert.KRefIdeal.main_v78) = v1 c
          ∧ r.2.mem ((c.tc : Thread Cert.KRefIdeal.nD Cert.KRefIdeal.τ).loc Cert.KRefIdeal.main_arg0) = m' ((c.tc : Thread Cert.KRefIdeal.nD Cert.KRefIdeal.τ).loc Cert.KRefIdeal.main_arg0)
          ∧ r.2.mem ((c.tc : Thread Cert.KRefIdeal.nD Cert.KRefIdeal.τ).loc Cert.KRefIdeal.main_arg1) = m' ((c.tc : Thread Cert.KRefIdeal.nD Cert.KRefIdeal.τ).loc Cert.KRefIdeal.main_arg1)
          ∧ r.2.mem ((c.tc : Thread Cert.KRefIdeal.nD Cert.KRefIdeal.τ).loc Cert.KRefIdeal.main_arg2) = m' ((c.tc : Thread Cert.KRefIdeal.nD Cert.KRefIdeal.τ).loc Cert.KRefIdeal.main_arg2)
          ∧ r.2.mem ((c.tc : Thread Cert.KRefIdeal.nD Cert.KRefIdeal.τ).loc Cert.KRefIdeal.main_arg3) = m' ((c.tc : Thread Cert.KRefIdeal.nD Cert.KRefIdeal.τ).loc Cert.KRefIdeal.main_arg3)
          ∧ r.2.mem ((c.tc : Thread Cert.KRefIdeal.nD Cert.KRefIdeal.τ).loc Cert.KRefIdeal.main_arg4) = m' ((c.tc : Thread Cert.KRefIdeal.nD Cert.KRefIdeal.τ).loc Cert.KRefIdeal.main_arg4)
          ∧ r.2.mem ((c.tc : Thread Cert.KRefIdeal.nD Cert.KRefIdeal.τ).loc Cert.KRefIdeal.main_arg5) = m' ((c.tc : Thread Cert.KRefIdeal.nD Cert.KRefIdeal.τ).loc Cert.KRefIdeal.main_arg5)
          ∧ r.2.mem ((c.tc : Thread Cert.KRefIdeal.nD Cert.KRefIdeal.τ).loc Cert.KRefIdeal.main_arg6) = m' ((c.tc : Thread Cert.KRefIdeal.nD Cert.KRefIdeal.τ).loc Cert.KRefIdeal.main_arg6)
          ∧ r.2.mem ((c.tc : Thread Cert.KRefIdeal.nD Cert.KRefIdeal.τ).loc Cert.KRefIdeal.main_arg7) = m' ((c.tc : Thread Cert.KRefIdeal.nD Cert.KRefIdeal.τ).loc Cert.KRefIdeal.main_arg7))

def preserves_KB_KBIdeal : Prop :=
  True

def algebraic_KBIdeal_KBRefIdeal [hKBIdeal : Cert.KBIdeal.Facts] [hKBRefIdeal : Cert.KBRefIdeal.Facts] : Prop :=
  ∀ (m : (ℓ : Loc Cert.KBIdeal.nD Cert.KBIdeal.τ Cert.KBIdeal.sig) → Buf (Elt Ideal) ℓ) (g : Dev Cert.KBIdeal.nD → PrngReg)
    (m' : (ℓ : Loc Cert.KBRefIdeal.nD Cert.KBRefIdeal.τ Cert.KBRefIdeal.sig) → Buf (Elt Ideal) ℓ) (g' : Dev Cert.KBRefIdeal.nD → PrngReg), Pre_KBIdeal m →
    (∀ c : Dev Cert.KBIdeal.nD,
      m' ((c.tc : Thread Cert.KBRefIdeal.nD Cert.KBRefIdeal.τ).loc Cert.KBRefIdeal.main_arg0) = m ((c.tc : Thread Cert.KBIdeal.nD Cert.KBIdeal.τ).loc Cert.KBIdeal.main_arg0)
      ∧ m' ((c.tc : Thread Cert.KBRefIdeal.nD Cert.KBRefIdeal.τ).loc Cert.KBRefIdeal.main_arg1) = m ((c.tc : Thread Cert.KBIdeal.nD Cert.KBIdeal.τ).loc Cert.KBIdeal.main_arg1)
      ∧ m' ((c.tc : Thread Cert.KBRefIdeal.nD Cert.KBRefIdeal.τ).loc Cert.KBRefIdeal.main_arg2) = m ((c.tc : Thread Cert.KBIdeal.nD Cert.KBIdeal.τ).loc Cert.KBIdeal.main_arg2)
      ∧ m' ((c.tc : Thread Cert.KBRefIdeal.nD Cert.KBRefIdeal.τ).loc Cert.KBRefIdeal.main_arg3) = m ((c.tc : Thread Cert.KBIdeal.nD Cert.KBIdeal.τ).loc Cert.KBIdeal.main_arg3)
      ∧ m' ((c.tc : Thread Cert.KBRefIdeal.nD Cert.KBRefIdeal.τ).loc Cert.KBRefIdeal.main_arg4) = m ((c.tc : Thread Cert.KBIdeal.nD Cert.KBIdeal.τ).loc Cert.KBIdeal.main_arg4)
      ∧ m' ((c.tc : Thread Cert.KBRefIdeal.nD Cert.KBRefIdeal.τ).loc Cert.KBRefIdeal.main_arg5) = m ((c.tc : Thread Cert.KBIdeal.nD Cert.KBIdeal.τ).loc Cert.KBIdeal.main_arg5)
      ∧ m' ((c.tc : Thread Cert.KBRefIdeal.nD Cert.KBRefIdeal.τ).loc Cert.KBRefIdeal.main_arg6) = m ((c.tc : Thread Cert.KBIdeal.nD Cert.KBIdeal.τ).loc Cert.KBIdeal.main_arg6)
      ∧ m' ((c.tc : Thread Cert.KBRefIdeal.nD Cert.KBRefIdeal.τ).loc Cert.KBRefIdeal.main_arg7) = m ((c.tc : Thread Cert.KBIdeal.nD Cert.KBIdeal.τ).loc Cert.KBIdeal.main_arg7)) →
    ∃ (v0 : (c : Dev Cert.KBIdeal.nD) → Buf (Elt Ideal) ((c.tc : Thread Cert.KBIdeal.nD Cert.KBIdeal.τ).loc Cert.KBIdeal.main_v0_0)) (v1 : (c : Dev Cert.KBIdeal.nD) → Buf (Elt Ideal) ((c.tc : Thread Cert.KBIdeal.nD Cert.KBIdeal.τ).loc Cert.KBIdeal.main_v0_1)),
      θ_run (Cert.KBIdeal.defs (F := Ideal)) (onTc (τ := Cert.KBIdeal.τ) (Cert.KBIdeal.main (F := Ideal))) ⟨m, fun _ => 0, g⟩ (fun r => ∀ c : Dev Cert.KBIdeal.nD,
          r.2.mem ((c.tc : Thread Cert.KBIdeal.nD Cert.KBIdeal.τ).loc Cert.KBIdeal.main_v0_0) = v0 c
          ∧ r.2.mem ((c.tc : Thread Cert.KBIdeal.nD Cert.KBIdeal.τ).loc Cert.KBIdeal.main_v0_1) = v1 c
          ∧ r.2.mem ((c.tc : Thread Cert.KBIdeal.nD Cert.KBIdeal.τ).loc Cert.KBIdeal.main_arg0) = m ((c.tc : Thread Cert.KBIdeal.nD Cert.KBIdeal.τ).loc Cert.KBIdeal.main_arg0)
          ∧ r.2.mem ((c.tc : Thread Cert.KBIdeal.nD Cert.KBIdeal.τ).loc Cert.KBIdeal.main_arg1) = m ((c.tc : Thread Cert.KBIdeal.nD Cert.KBIdeal.τ).loc Cert.KBIdeal.main_arg1)
          ∧ r.2.mem ((c.tc : Thread Cert.KBIdeal.nD Cert.KBIdeal.τ).loc Cert.KBIdeal.main_arg2) = m ((c.tc : Thread Cert.KBIdeal.nD Cert.KBIdeal.τ).loc Cert.KBIdeal.main_arg2)
          ∧ r.2.mem ((c.tc : Thread Cert.KBIdeal.nD Cert.KBIdeal.τ).loc Cert.KBIdeal.main_arg3) = m ((c.tc : Thread Cert.KBIdeal.nD Cert.KBIdeal.τ).loc Cert.KBIdeal.main_arg3)
          ∧ r.2.mem ((c.tc : Thread Cert.KBIdeal.nD Cert.KBIdeal.τ).loc Cert.KBIdeal.main_arg4) = m ((c.tc : Thread Cert.KBIdeal.nD Cert.KBIdeal.τ).loc Cert.KBIdeal.main_arg4)
          ∧ r.2.mem ((c.tc : Thread Cert.KBIdeal.nD Cert.KBIdeal.τ).loc Cert.KBIdeal.main_arg5) = m ((c.tc : Thread Cert.KBIdeal.nD Cert.KBIdeal.τ).loc Cert.KBIdeal.main_arg5)
          ∧ r.2.mem ((c.tc : Thread Cert.KBIdeal.nD Cert.KBIdeal.τ).loc Cert.KBIdeal.main_arg6) = m ((c.tc : Thread Cert.KBIdeal.nD Cert.KBIdeal.τ).loc Cert.KBIdeal.main_arg6)
          ∧ r.2.mem ((c.tc : Thread Cert.KBIdeal.nD Cert.KBIdeal.τ).loc Cert.KBIdeal.main_arg7) = m ((c.tc : Thread Cert.KBIdeal.nD Cert.KBIdeal.τ).loc Cert.KBIdeal.main_arg7))
      ∧ θ_run (Cert.KBRefIdeal.defs (F := Ideal)) (onTc (τ := Cert.KBRefIdeal.τ) (Cert.KBRefIdeal.main (F := Ideal))) ⟨m', fun _ => 0, g'⟩ (fun r => ∀ c : Dev Cert.KBRefIdeal.nD,
          r.2.mem ((c.tc : Thread Cert.KBRefIdeal.nD Cert.KBRefIdeal.τ).loc Cert.KBRefIdeal.main_v79) = v0 c
          ∧ r.2.mem ((c.tc : Thread Cert.KBRefIdeal.nD Cert.KBRefIdeal.τ).loc Cert.KBRefIdeal.main_v78) = v1 c
          ∧ r.2.mem ((c.tc : Thread Cert.KBRefIdeal.nD Cert.KBRefIdeal.τ).loc Cert.KBRefIdeal.main_arg0) = m' ((c.tc : Thread Cert.KBRefIdeal.nD Cert.KBRefIdeal.τ).loc Cert.KBRefIdeal.main_arg0)
          ∧ r.2.mem ((c.tc : Thread Cert.KBRefIdeal.nD Cert.KBRefIdeal.τ).loc Cert.KBRefIdeal.main_arg1) = m' ((c.tc : Thread Cert.KBRefIdeal.nD Cert.KBRefIdeal.τ).loc Cert.KBRefIdeal.main_arg1)
          ∧ r.2.mem ((c.tc : Thread Cert.KBRefIdeal.nD Cert.KBRefIdeal.τ).loc Cert.KBRefIdeal.main_arg2) = m' ((c.tc : Thread Cert.KBRefIdeal.nD Cert.KBRefIdeal.τ).loc Cert.KBRefIdeal.main_arg2)
          ∧ r.2.mem ((c.tc : Thread Cert.KBRefIdeal.nD Cert.KBRefIdeal.τ).loc Cert.KBRefIdeal.main_arg3) = m' ((c.tc : Thread Cert.KBRefIdeal.nD Cert.KBRefIdeal.τ).loc Cert.KBRefIdeal.main_arg3)
          ∧ r.2.mem ((c.tc : Thread Cert.KBRefIdeal.nD Cert.KBRefIdeal.τ).loc Cert.KBRefIdeal.main_arg4) = m' ((c.tc : Thread Cert.KBRefIdeal.nD Cert.KBRefIdeal.τ).loc Cert.KBRefIdeal.main_arg4)
          ∧ r.2.mem ((c.tc : Thread Cert.KBRefIdeal.nD Cert.KBRefIdeal.τ).loc Cert.KBRefIdeal.main_arg5) = m' ((c.tc : Thread Cert.KBRefIdeal.nD Cert.KBRefIdeal.τ).loc Cert.KBRefIdeal.main_arg5)
          ∧ r.2.mem ((c.tc : Thread Cert.KBRefIdeal.nD Cert.KBRefIdeal.τ).loc Cert.KBRefIdeal.main_arg6) = m' ((c.tc : Thread Cert.KBRefIdeal.nD Cert.KBRefIdeal.τ).loc Cert.KBRefIdeal.main_arg6)
          ∧ r.2.mem ((c.tc : Thread Cert.KBRefIdeal.nD Cert.KBRefIdeal.τ).loc Cert.KBRefIdeal.main_arg7) = m' ((c.tc : Thread Cert.KBRefIdeal.nD Cert.KBRefIdeal.τ).loc Cert.KBRefIdeal.main_arg7))

def preserves_V_VIdeal : Prop :=
  True

def algebraic_VIdeal_VRefIdeal [hVIdeal : Cert.VIdeal.Facts] [hVRefIdeal : Cert.VRefIdeal.Facts] : Prop :=
  ∀ (m : (ℓ : Loc Cert.VIdeal.nD Cert.VIdeal.τ Cert.VIdeal.sig) → Buf (Elt Ideal) ℓ) (g : Dev Cert.VIdeal.nD → PrngReg)
    (m' : (ℓ : Loc Cert.VRefIdeal.nD Cert.VRefIdeal.τ Cert.VRefIdeal.sig) → Buf (Elt Ideal) ℓ) (g' : Dev Cert.VRefIdeal.nD → PrngReg), Pre_VIdeal m →
    (∀ c : Dev Cert.VIdeal.nD,
      m' ((c.tc : Thread Cert.VRefIdeal.nD Cert.VRefIdeal.τ).loc Cert.VRefIdeal.main_arg0) = m ((c.tc : Thread Cert.VIdeal.nD Cert.VIdeal.τ).loc Cert.VIdeal.main_arg0)
      ∧ m' ((c.tc : Thread Cert.VRefIdeal.nD Cert.VRefIdeal.τ).loc Cert.VRefIdeal.main_arg1) = m ((c.tc : Thread Cert.VIdeal.nD Cert.VIdeal.τ).loc Cert.VIdeal.main_arg1)
      ∧ m' ((c.tc : Thread Cert.VRefIdeal.nD Cert.VRefIdeal.τ).loc Cert.VRefIdeal.main_arg2) = m ((c.tc : Thread Cert.VIdeal.nD Cert.VIdeal.τ).loc Cert.VIdeal.main_arg2)
      ∧ m' ((c.tc : Thread Cert.VRefIdeal.nD Cert.VRefIdeal.τ).loc Cert.VRefIdeal.main_arg3) = m ((c.tc : Thread Cert.VIdeal.nD Cert.VIdeal.τ).loc Cert.VIdeal.main_arg3)
      ∧ m' ((c.tc : Thread Cert.VRefIdeal.nD Cert.VRefIdeal.τ).loc Cert.VRefIdeal.main_arg4) = m ((c.tc : Thread Cert.VIdeal.nD Cert.VIdeal.τ).loc Cert.VIdeal.main_arg4)
      ∧ m' ((c.tc : Thread Cert.VRefIdeal.nD Cert.VRefIdeal.τ).loc Cert.VRefIdeal.main_arg5) = m ((c.tc : Thread Cert.VIdeal.nD Cert.VIdeal.τ).loc Cert.VIdeal.main_arg5)
      ∧ m' ((c.tc : Thread Cert.VRefIdeal.nD Cert.VRefIdeal.τ).loc Cert.VRefIdeal.main_arg6) = m ((c.tc : Thread Cert.VIdeal.nD Cert.VIdeal.τ).loc Cert.VIdeal.main_arg6)
      ∧ m' ((c.tc : Thread Cert.VRefIdeal.nD Cert.VRefIdeal.τ).loc Cert.VRefIdeal.main_arg7) = m ((c.tc : Thread Cert.VIdeal.nD Cert.VIdeal.τ).loc Cert.VIdeal.main_arg7)) →
    ∃ (v0 : (c : Dev Cert.VIdeal.nD) → Buf (Elt Ideal) ((c.tc : Thread Cert.VIdeal.nD Cert.VIdeal.τ).loc Cert.VIdeal.main_v0_0)) (v1 : (c : Dev Cert.VIdeal.nD) → Buf (Elt Ideal) ((c.tc : Thread Cert.VIdeal.nD Cert.VIdeal.τ).loc Cert.VIdeal.main_v0_1)),
      θ_run (Cert.VIdeal.defs (F := Ideal)) (onTc (τ := Cert.VIdeal.τ) (Cert.VIdeal.main (F := Ideal))) ⟨m, fun _ => 0, g⟩ (fun r => ∀ c : Dev Cert.VIdeal.nD,
          r.2.mem ((c.tc : Thread Cert.VIdeal.nD Cert.VIdeal.τ).loc Cert.VIdeal.main_v0_0) = v0 c
          ∧ r.2.mem ((c.tc : Thread Cert.VIdeal.nD Cert.VIdeal.τ).loc Cert.VIdeal.main_v0_1) = v1 c
          ∧ r.2.mem ((c.tc : Thread Cert.VIdeal.nD Cert.VIdeal.τ).loc Cert.VIdeal.main_arg0) = m ((c.tc : Thread Cert.VIdeal.nD Cert.VIdeal.τ).loc Cert.VIdeal.main_arg0)
          ∧ r.2.mem ((c.tc : Thread Cert.VIdeal.nD Cert.VIdeal.τ).loc Cert.VIdeal.main_arg1) = m ((c.tc : Thread Cert.VIdeal.nD Cert.VIdeal.τ).loc Cert.VIdeal.main_arg1)
          ∧ r.2.mem ((c.tc : Thread Cert.VIdeal.nD Cert.VIdeal.τ).loc Cert.VIdeal.main_arg2) = m ((c.tc : Thread Cert.VIdeal.nD Cert.VIdeal.τ).loc Cert.VIdeal.main_arg2)
          ∧ r.2.mem ((c.tc : Thread Cert.VIdeal.nD Cert.VIdeal.τ).loc Cert.VIdeal.main_arg3) = m ((c.tc : Thread Cert.VIdeal.nD Cert.VIdeal.τ).loc Cert.VIdeal.main_arg3)
          ∧ r.2.mem ((c.tc : Thread Cert.VIdeal.nD Cert.VIdeal.τ).loc Cert.VIdeal.main_arg4) = m ((c.tc : Thread Cert.VIdeal.nD Cert.VIdeal.τ).loc Cert.VIdeal.main_arg4)
          ∧ r.2.mem ((c.tc : Thread Cert.VIdeal.nD Cert.VIdeal.τ).loc Cert.VIdeal.main_arg5) = m ((c.tc : Thread Cert.VIdeal.nD Cert.VIdeal.τ).loc Cert.VIdeal.main_arg5)
          ∧ r.2.mem ((c.tc : Thread Cert.VIdeal.nD Cert.VIdeal.τ).loc Cert.VIdeal.main_arg6) = m ((c.tc : Thread Cert.VIdeal.nD Cert.VIdeal.τ).loc Cert.VIdeal.main_arg6)
          ∧ r.2.mem ((c.tc : Thread Cert.VIdeal.nD Cert.VIdeal.τ).loc Cert.VIdeal.main_arg7) = m ((c.tc : Thread Cert.VIdeal.nD Cert.VIdeal.τ).loc Cert.VIdeal.main_arg7))
      ∧ θ_run (Cert.VRefIdeal.defs (F := Ideal)) (onTc (τ := Cert.VRefIdeal.τ) (Cert.VRefIdeal.main (F := Ideal))) ⟨m', fun _ => 0, g'⟩ (fun r => ∀ c : Dev Cert.VRefIdeal.nD,
          r.2.mem ((c.tc : Thread Cert.VRefIdeal.nD Cert.VRefIdeal.τ).loc Cert.VRefIdeal.main_v62) = v0 c
          ∧ r.2.mem ((c.tc : Thread Cert.VRefIdeal.nD Cert.VRefIdeal.τ).loc Cert.VRefIdeal.main_v61) = v1 c
          ∧ r.2.mem ((c.tc : Thread Cert.VRefIdeal.nD Cert.VRefIdeal.τ).loc Cert.VRefIdeal.main_arg0) = m' ((c.tc : Thread Cert.VRefIdeal.nD Cert.VRefIdeal.τ).loc Cert.VRefIdeal.main_arg0)
          ∧ r.2.mem ((c.tc : Thread Cert.VRefIdeal.nD Cert.VRefIdeal.τ).loc Cert.VRefIdeal.main_arg1) = m' ((c.tc : Thread Cert.VRefIdeal.nD Cert.VRefIdeal.τ).loc Cert.VRefIdeal.main_arg1)
          ∧ r.2.mem ((c.tc : Thread Cert.VRefIdeal.nD Cert.VRefIdeal.τ).loc Cert.VRefIdeal.main_arg2) = m' ((c.tc : Thread Cert.VRefIdeal.nD Cert.VRefIdeal.τ).loc Cert.VRefIdeal.main_arg2)
          ∧ r.2.mem ((c.tc : Thread Cert.VRefIdeal.nD Cert.VRefIdeal.τ).loc Cert.VRefIdeal.main_arg3) = m' ((c.tc : Thread Cert.VRefIdeal.nD Cert.VRefIdeal.τ).loc Cert.VRefIdeal.main_arg3)
          ∧ r.2.mem ((c.tc : Thread Cert.VRefIdeal.nD Cert.VRefIdeal.τ).loc Cert.VRefIdeal.main_arg4) = m' ((c.tc : Thread Cert.VRefIdeal.nD Cert.VRefIdeal.τ).loc Cert.VRefIdeal.main_arg4)
          ∧ r.2.mem ((c.tc : Thread Cert.VRefIdeal.nD Cert.VRefIdeal.τ).loc Cert.VRefIdeal.main_arg5) = m' ((c.tc : Thread Cert.VRefIdeal.nD Cert.VRefIdeal.τ).loc Cert.VRefIdeal.main_arg5)
          ∧ r.2.mem ((c.tc : Thread Cert.VRefIdeal.nD Cert.VRefIdeal.τ).loc Cert.VRefIdeal.main_arg6) = m' ((c.tc : Thread Cert.VRefIdeal.nD Cert.VRefIdeal.τ).loc Cert.VRefIdeal.main_arg6)
          ∧ r.2.mem ((c.tc : Thread Cert.VRefIdeal.nD Cert.VRefIdeal.τ).loc Cert.VRefIdeal.main_arg7) = m' ((c.tc : Thread Cert.VRefIdeal.nD Cert.VRefIdeal.τ).loc Cert.VRefIdeal.main_arg7))

def preserves_VB_VBIdeal : Prop :=
  True

def algebraic_VBIdeal_VBRefIdeal [hVBIdeal : Cert.VBIdeal.Facts] [hVBRefIdeal : Cert.VBRefIdeal.Facts] : Prop :=
  ∀ (m : (ℓ : Loc Cert.VBIdeal.nD Cert.VBIdeal.τ Cert.VBIdeal.sig) → Buf (Elt Ideal) ℓ) (g : Dev Cert.VBIdeal.nD → PrngReg)
    (m' : (ℓ : Loc Cert.VBRefIdeal.nD Cert.VBRefIdeal.τ Cert.VBRefIdeal.sig) → Buf (Elt Ideal) ℓ) (g' : Dev Cert.VBRefIdeal.nD → PrngReg), Pre_VBIdeal m →
    (∀ c : Dev Cert.VBIdeal.nD,
      m' ((c.tc : Thread Cert.VBRefIdeal.nD Cert.VBRefIdeal.τ).loc Cert.VBRefIdeal.main_arg0) = m ((c.tc : Thread Cert.VBIdeal.nD Cert.VBIdeal.τ).loc Cert.VBIdeal.main_arg0)
      ∧ m' ((c.tc : Thread Cert.VBRefIdeal.nD Cert.VBRefIdeal.τ).loc Cert.VBRefIdeal.main_arg1) = m ((c.tc : Thread Cert.VBIdeal.nD Cert.VBIdeal.τ).loc Cert.VBIdeal.main_arg1)
      ∧ m' ((c.tc : Thread Cert.VBRefIdeal.nD Cert.VBRefIdeal.τ).loc Cert.VBRefIdeal.main_arg2) = m ((c.tc : Thread Cert.VBIdeal.nD Cert.VBIdeal.τ).loc Cert.VBIdeal.main_arg2)
      ∧ m' ((c.tc : Thread Cert.VBRefIdeal.nD Cert.VBRefIdeal.τ).loc Cert.VBRefIdeal.main_arg3) = m ((c.tc : Thread Cert.VBIdeal.nD Cert.VBIdeal.τ).loc Cert.VBIdeal.main_arg3)
      ∧ m' ((c.tc : Thread Cert.VBRefIdeal.nD Cert.VBRefIdeal.τ).loc Cert.VBRefIdeal.main_arg4) = m ((c.tc : Thread Cert.VBIdeal.nD Cert.VBIdeal.τ).loc Cert.VBIdeal.main_arg4)
      ∧ m' ((c.tc : Thread Cert.VBRefIdeal.nD Cert.VBRefIdeal.τ).loc Cert.VBRefIdeal.main_arg5) = m ((c.tc : Thread Cert.VBIdeal.nD Cert.VBIdeal.τ).loc Cert.VBIdeal.main_arg5)
      ∧ m' ((c.tc : Thread Cert.VBRefIdeal.nD Cert.VBRefIdeal.τ).loc Cert.VBRefIdeal.main_arg6) = m ((c.tc : Thread Cert.VBIdeal.nD Cert.VBIdeal.τ).loc Cert.VBIdeal.main_arg6)
      ∧ m' ((c.tc : Thread Cert.VBRefIdeal.nD Cert.VBRefIdeal.τ).loc Cert.VBRefIdeal.main_arg7) = m ((c.tc : Thread Cert.VBIdeal.nD Cert.VBIdeal.τ).loc Cert.VBIdeal.main_arg7)) →
    ∃ (v0 : (c : Dev Cert.VBIdeal.nD) → Buf (Elt Ideal) ((c.tc : Thread Cert.VBIdeal.nD Cert.VBIdeal.τ).loc Cert.VBIdeal.main_v0_0)) (v1 : (c : Dev Cert.VBIdeal.nD) → Buf (Elt Ideal) ((c.tc : Thread Cert.VBIdeal.nD Cert.VBIdeal.τ).loc Cert.VBIdeal.main_v0_1)),
      θ_run (Cert.VBIdeal.defs (F := Ideal)) (onTc (τ := Cert.VBIdeal.τ) (Cert.VBIdeal.main (F := Ideal))) ⟨m, fun _ => 0, g⟩ (fun r => ∀ c : Dev Cert.VBIdeal.nD,
          r.2.mem ((c.tc : Thread Cert.VBIdeal.nD Cert.VBIdeal.τ).loc Cert.VBIdeal.main_v0_0) = v0 c
          ∧ r.2.mem ((c.tc : Thread Cert.VBIdeal.nD Cert.VBIdeal.τ).loc Cert.VBIdeal.main_v0_1) = v1 c
          ∧ r.2.mem ((c.tc : Thread Cert.VBIdeal.nD Cert.VBIdeal.τ).loc Cert.VBIdeal.main_arg0) = m ((c.tc : Thread Cert.VBIdeal.nD Cert.VBIdeal.τ).loc Cert.VBIdeal.main_arg0)
          ∧ r.2.mem ((c.tc : Thread Cert.VBIdeal.nD Cert.VBIdeal.τ).loc Cert.VBIdeal.main_arg1) = m ((c.tc : Thread Cert.VBIdeal.nD Cert.VBIdeal.τ).loc Cert.VBIdeal.main_arg1)
          ∧ r.2.mem ((c.tc : Thread Cert.VBIdeal.nD Cert.VBIdeal.τ).loc Cert.VBIdeal.main_arg2) = m ((c.tc : Thread Cert.VBIdeal.nD Cert.VBIdeal.τ).loc Cert.VBIdeal.main_arg2)
          ∧ r.2.mem ((c.tc : Thread Cert.VBIdeal.nD Cert.VBIdeal.τ).loc Cert.VBIdeal.main_arg3) = m ((c.tc : Thread Cert.VBIdeal.nD Cert.VBIdeal.τ).loc Cert.VBIdeal.main_arg3)
          ∧ r.2.mem ((c.tc : Thread Cert.VBIdeal.nD Cert.VBIdeal.τ).loc Cert.VBIdeal.main_arg4) = m ((c.tc : Thread Cert.VBIdeal.nD Cert.VBIdeal.τ).loc Cert.VBIdeal.main_arg4)
          ∧ r.2.mem ((c.tc : Thread Cert.VBIdeal.nD Cert.VBIdeal.τ).loc Cert.VBIdeal.main_arg5) = m ((c.tc : Thread Cert.VBIdeal.nD Cert.VBIdeal.τ).loc Cert.VBIdeal.main_arg5)
          ∧ r.2.mem ((c.tc : Thread Cert.VBIdeal.nD Cert.VBIdeal.τ).loc Cert.VBIdeal.main_arg6) = m ((c.tc : Thread Cert.VBIdeal.nD Cert.VBIdeal.τ).loc Cert.VBIdeal.main_arg6)
          ∧ r.2.mem ((c.tc : Thread Cert.VBIdeal.nD Cert.VBIdeal.τ).loc Cert.VBIdeal.main_arg7) = m ((c.tc : Thread Cert.VBIdeal.nD Cert.VBIdeal.τ).loc Cert.VBIdeal.main_arg7))
      ∧ θ_run (Cert.VBRefIdeal.defs (F := Ideal)) (onTc (τ := Cert.VBRefIdeal.τ) (Cert.VBRefIdeal.main (F := Ideal))) ⟨m', fun _ => 0, g'⟩ (fun r => ∀ c : Dev Cert.VBRefIdeal.nD,
          r.2.mem ((c.tc : Thread Cert.VBRefIdeal.nD Cert.VBRefIdeal.τ).loc Cert.VBRefIdeal.main_v62) = v0 c
          ∧ r.2.mem ((c.tc : Thread Cert.VBRefIdeal.nD Cert.VBRefIdeal.τ).loc Cert.VBRefIdeal.main_v61) = v1 c
          ∧ r.2.mem ((c.tc : Thread Cert.VBRefIdeal.nD Cert.VBRefIdeal.τ).loc Cert.VBRefIdeal.main_arg0) = m' ((c.tc : Thread Cert.VBRefIdeal.nD Cert.VBRefIdeal.τ).loc Cert.VBRefIdeal.main_arg0)
          ∧ r.2.mem ((c.tc : Thread Cert.VBRefIdeal.nD Cert.VBRefIdeal.τ).loc Cert.VBRefIdeal.main_arg1) = m' ((c.tc : Thread Cert.VBRefIdeal.nD Cert.VBRefIdeal.τ).loc Cert.VBRefIdeal.main_arg1)
          ∧ r.2.mem ((c.tc : Thread Cert.VBRefIdeal.nD Cert.VBRefIdeal.τ).loc Cert.VBRefIdeal.main_arg2) = m' ((c.tc : Thread Cert.VBRefIdeal.nD Cert.VBRefIdeal.τ).loc Cert.VBRefIdeal.main_arg2)
          ∧ r.2.mem ((c.tc : Thread Cert.VBRefIdeal.nD Cert.VBRefIdeal.τ).loc Cert.VBRefIdeal.main_arg3) = m' ((c.tc : Thread Cert.VBRefIdeal.nD Cert.VBRefIdeal.τ).loc Cert.VBRefIdeal.main_arg3)
          ∧ r.2.mem ((c.tc : Thread Cert.VBRefIdeal.nD Cert.VBRefIdeal.τ).loc Cert.VBRefIdeal.main_arg4) = m' ((c.tc : Thread Cert.VBRefIdeal.nD Cert.VBRefIdeal.τ).loc Cert.VBRefIdeal.main_arg4)
          ∧ r.2.mem ((c.tc : Thread Cert.VBRefIdeal.nD Cert.VBRefIdeal.τ).loc Cert.VBRefIdeal.main_arg5) = m' ((c.tc : Thread Cert.VBRefIdeal.nD Cert.VBRefIdeal.τ).loc Cert.VBRefIdeal.main_arg5)
          ∧ r.2.mem ((c.tc : Thread Cert.VBRefIdeal.nD Cert.VBRefIdeal.τ).loc Cert.VBRefIdeal.main_arg6) = m' ((c.tc : Thread Cert.VBRefIdeal.nD Cert.VBRefIdeal.τ).loc Cert.VBRefIdeal.main_arg6)
          ∧ r.2.mem ((c.tc : Thread Cert.VBRefIdeal.nD Cert.VBRefIdeal.τ).loc Cert.VBRefIdeal.main_arg7) = m' ((c.tc : Thread Cert.VBRefIdeal.nD Cert.VBRefIdeal.τ).loc Cert.VBRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)) (v2 : (c : Dev Cert.InIdeal.nD) → Buf (Elt Ideal) ((c.tc : Thread Cert.InIdeal.nD Cert.InIdeal.τ).loc Cert.InIdeal.main_v0_2)) (v3 : (c : Dev Cert.InIdeal.nD) → Buf (Elt Ideal) ((c.tc : Thread Cert.InIdeal.nD Cert.InIdeal.τ).loc Cert.InIdeal.main_v0_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_v0_2) = v2 c
          ∧ r.2.mem ((c.tc : Thread Cert.InIdeal.nD Cert.InIdeal.τ).loc Cert.InIdeal.main_v0_3) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v36) = v0 c
          ∧ r.2.mem ((c.tc : Thread Cert.InRefIdeal.nD Cert.InRefIdeal.τ).loc Cert.InRefIdeal.main_v35) = v1 c
          ∧ r.2.mem ((c.tc : Thread Cert.InRefIdeal.nD Cert.InRefIdeal.τ).loc Cert.InRefIdeal.main_v34) = v2 c
          ∧ r.2.mem ((c.tc : Thread Cert.InRefIdeal.nD Cert.InRefIdeal.τ).loc Cert.InRefIdeal.main_v32) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Lin_LinIdeal : Prop :=
  True

def algebraic_LinIdeal_LinRefIdeal [hLinIdeal : Cert.LinIdeal.Facts] [hLinRefIdeal : Cert.LinRefIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinRefIdeal.nD Cert.LinRefIdeal.τ Cert.LinRefIdeal.sig) → Buf (Elt Ideal) ℓ) (g' : Dev Cert.LinRefIdeal.nD → PrngReg), Pre_LinIdeal m →
    (∀ c : Dev Cert.LinIdeal.nD,
      m' ((c.tc : Thread Cert.LinRefIdeal.nD Cert.LinRefIdeal.τ).loc Cert.LinRefIdeal.main_arg0) = m ((c.tc : Thread Cert.LinIdeal.nD Cert.LinIdeal.τ).loc Cert.LinIdeal.main_arg0)
      ∧ m' ((c.tc : Thread Cert.LinRefIdeal.nD Cert.LinRefIdeal.τ).loc Cert.LinRefIdeal.main_arg1) = m ((c.tc : Thread Cert.LinIdeal.nD Cert.LinIdeal.τ).loc Cert.LinIdeal.main_arg1)
      ∧ m' ((c.tc : Thread Cert.LinRefIdeal.nD Cert.LinRefIdeal.τ).loc Cert.LinRefIdeal.main_arg2) = m ((c.tc : Thread Cert.LinIdeal.nD Cert.LinIdeal.τ).loc Cert.LinIdeal.main_arg2)
      ∧ m' ((c.tc : Thread Cert.LinRefIdeal.nD Cert.LinRefIdeal.τ).loc Cert.LinRefIdeal.main_arg3) = m ((c.tc : Thread Cert.LinIdeal.nD Cert.LinIdeal.τ).loc Cert.LinIdeal.main_arg3)
      ∧ m' ((c.tc : Thread Cert.LinRefIdeal.nD Cert.LinRefIdeal.τ).loc Cert.LinRefIdeal.main_arg4) = m ((c.tc : Thread Cert.LinIdeal.nD Cert.LinIdeal.τ).loc Cert.LinIdeal.main_arg4)) →
    ∃ (v0 : (c : Dev Cert.LinIdeal.nD) → Buf (Elt Ideal) ((c.tc : Thread Cert.LinIdeal.nD Cert.LinIdeal.τ).loc Cert.LinIdeal.main_v0_0)) (v1 : (c : Dev Cert.LinIdeal.nD) → Buf (Elt Ideal) ((c.tc : Thread Cert.LinIdeal.nD Cert.LinIdeal.τ).loc Cert.LinIdeal.main_v0_1)) (v2 : (c : Dev Cert.LinIdeal.nD) → Buf (Elt Ideal) ((c.tc : Thread Cert.LinIdeal.nD Cert.LinIdeal.τ).loc Cert.LinIdeal.main_v0_2)) (v3 : (c : Dev Cert.LinIdeal.nD) → Buf (Elt Ideal) ((c.tc : Thread Cert.LinIdeal.nD Cert.LinIdeal.τ).loc Cert.LinIdeal.main_v0_3)) (v4 : (c : Dev Cert.LinIdeal.nD) → Buf (Elt Ideal) ((c.tc : Thread Cert.LinIdeal.nD Cert.LinIdeal.τ).loc Cert.LinIdeal.main_v0_4)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v0_0) = v0 c
          ∧ r.2.mem ((c.tc : Thread Cert.LinIdeal.nD Cert.LinIdeal.τ).loc Cert.LinIdeal.main_v0_1) = v1 c
          ∧ r.2.mem ((c.tc : Thread Cert.LinIdeal.nD Cert.LinIdeal.τ).loc Cert.LinIdeal.main_v0_2) = v2 c
          ∧ r.2.mem ((c.tc : Thread Cert.LinIdeal.nD Cert.LinIdeal.τ).loc Cert.LinIdeal.main_v0_3) = v3 c
          ∧ r.2.mem ((c.tc : Thread Cert.LinIdeal.nD Cert.LinIdeal.τ).loc Cert.LinIdeal.main_v0_4) = v4 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
          ∧ r.2.mem ((c.tc : Thread Cert.LinIdeal.nD Cert.LinIdeal.τ).loc Cert.LinIdeal.main_arg2) = m ((c.tc : Thread Cert.LinIdeal.nD Cert.LinIdeal.τ).loc Cert.LinIdeal.main_arg2)
          ∧ r.2.mem ((c.tc : Thread Cert.LinIdeal.nD Cert.LinIdeal.τ).loc Cert.LinIdeal.main_arg3) = m ((c.tc : Thread Cert.LinIdeal.nD Cert.LinIdeal.τ).loc Cert.LinIdeal.main_arg3)
          ∧ r.2.mem ((c.tc : Thread Cert.LinIdeal.nD Cert.LinIdeal.τ).loc Cert.LinIdeal.main_arg4) = m ((c.tc : Thread Cert.LinIdeal.nD Cert.LinIdeal.τ).loc Cert.LinIdeal.main_arg4))
      ∧ θ_run (Cert.LinRefIdeal.defs (F := Ideal)) (onTc (τ := Cert.LinRefIdeal.τ) (Cert.LinRefIdeal.main (F := Ideal))) ⟨m', fun _ => 0, g'⟩ (fun r => ∀ c : Dev Cert.LinRefIdeal.nD,
          r.2.mem ((c.tc : Thread Cert.LinRefIdeal.nD Cert.LinRefIdeal.τ).loc Cert.LinRefIdeal.main_v0_0) = v0 c
          ∧ r.2.mem ((c.tc : Thread Cert.LinRefIdeal.nD Cert.LinRefIdeal.τ).loc Cert.LinRefIdeal.main_v0_1) = v1 c
          ∧ r.2.mem ((c.tc : Thread Cert.LinRefIdeal.nD Cert.LinRefIdeal.τ).loc Cert.LinRefIdeal.main_v0_2) = v2 c
          ∧ r.2.mem ((c.tc : Thread Cert.LinRefIdeal.nD Cert.LinRefIdeal.τ).loc Cert.LinRefIdeal.main_v0_3) = v3 c
          ∧ r.2.mem ((c.tc : Thread Cert.LinRefIdeal.nD Cert.LinRefIdeal.τ).loc Cert.LinRefIdeal.main_v0_4) = v4 c
          ∧ r.2.mem ((c.tc : Thread Cert.LinRefIdeal.nD Cert.LinRefIdeal.τ).loc Cert.LinRefIdeal.main_arg0) = m' ((c.tc : Thread Cert.LinRefIdeal.nD Cert.LinRefIdeal.τ).loc Cert.LinRefIdeal.main_arg0)
          ∧ r.2.mem ((c.tc : Thread Cert.LinRefIdeal.nD Cert.LinRefIdeal.τ).loc Cert.LinRefIdeal.main_arg1) = m' ((c.tc : Thread Cert.LinRefIdeal.nD Cert.LinRefIdeal.τ).loc Cert.LinRefIdeal.main_arg1)
          ∧ r.2.mem ((c.tc : Thread Cert.LinRefIdeal.nD Cert.LinRefIdeal.τ).loc Cert.LinRefIdeal.main_arg2) = m' ((c.tc : Thread Cert.LinRefIdeal.nD Cert.LinRefIdeal.τ).loc Cert.LinRefIdeal.main_arg2)
          ∧ r.2.mem ((c.tc : Thread Cert.LinRefIdeal.nD Cert.LinRefIdeal.τ).loc Cert.LinRefIdeal.main_arg3) = m' ((c.tc : Thread Cert.LinRefIdeal.nD Cert.LinRefIdeal.τ).loc Cert.LinRefIdeal.main_arg3)
          ∧ r.2.mem ((c.tc : Thread Cert.LinRefIdeal.nD Cert.LinRefIdeal.τ).loc Cert.LinRefIdeal.main_arg4) = m' ((c.tc : Thread Cert.LinRefIdeal.nD Cert.LinRefIdeal.τ).loc Cert.LinRefIdeal.main_arg4))

def preserves_LinB_LinBIdeal : Prop :=
  True

def algebraic_LinBIdeal_LinBRefIdeal [hLinBIdeal : Cert.LinBIdeal.Facts] [hLinBRefIdeal : Cert.LinBRefIdeal.Facts] : Prop :=
  ∀ (m : (ℓ : Loc Cert.LinBIdeal.nD Cert.LinBIdeal.τ Cert.LinBIdeal.sig) → Buf (Elt Ideal) ℓ) (g : Dev Cert.LinBIdeal.nD → PrngReg)
    (m' : (ℓ : Loc Cert.LinBRefIdeal.nD Cert.LinBRefIdeal.τ Cert.LinBRefIdeal.sig) → Buf (Elt Ideal) ℓ) (g' : Dev Cert.LinBRefIdeal.nD → PrngReg), Pre_LinBIdeal m →
    (∀ c : Dev Cert.LinBIdeal.nD,
      m' ((c.tc : Thread Cert.LinBRefIdeal.nD Cert.LinBRefIdeal.τ).loc Cert.LinBRefIdeal.main_arg0) = m ((c.tc : Thread Cert.LinBIdeal.nD Cert.LinBIdeal.τ).loc Cert.LinBIdeal.main_arg0)
      ∧ m' ((c.tc : Thread Cert.LinBRefIdeal.nD Cert.LinBRefIdeal.τ).loc Cert.LinBRefIdeal.main_arg1) = m ((c.tc : Thread Cert.LinBIdeal.nD Cert.LinBIdeal.τ).loc Cert.LinBIdeal.main_arg1)
      ∧ m' ((c.tc : Thread Cert.LinBRefIdeal.nD Cert.LinBRefIdeal.τ).loc Cert.LinBRefIdeal.main_arg2) = m ((c.tc : Thread Cert.LinBIdeal.nD Cert.LinBIdeal.τ).loc Cert.LinBIdeal.main_arg2)
      ∧ m' ((c.tc : Thread Cert.LinBRefIdeal.nD Cert.LinBRefIdeal.τ).loc Cert.LinBRefIdeal.main_arg3) = m ((c.tc : Thread Cert.LinBIdeal.nD Cert.LinBIdeal.τ).loc Cert.LinBIdeal.main_arg3)
      ∧ m' ((c.tc : Thread Cert.LinBRefIdeal.nD Cert.LinBRefIdeal.τ).loc Cert.LinBRefIdeal.main_arg4) = m ((c.tc : Thread Cert.LinBIdeal.nD Cert.LinBIdeal.τ).loc Cert.LinBIdeal.main_arg4)) →
    ∃ (v0 : (c : Dev Cert.LinBIdeal.nD) → Buf (Elt Ideal) ((c.tc : Thread Cert.LinBIdeal.nD Cert.LinBIdeal.τ).loc Cert.LinBIdeal.main_v0_0)) (v1 : (c : Dev Cert.LinBIdeal.nD) → Buf (Elt Ideal) ((c.tc : Thread Cert.LinBIdeal.nD Cert.LinBIdeal.τ).loc Cert.LinBIdeal.main_v0_1)) (v2 : (c : Dev Cert.LinBIdeal.nD) → Buf (Elt Ideal) ((c.tc : Thread Cert.LinBIdeal.nD Cert.LinBIdeal.τ).loc Cert.LinBIdeal.main_v0_2)) (v3 : (c : Dev Cert.LinBIdeal.nD) → Buf (Elt Ideal) ((c.tc : Thread Cert.LinBIdeal.nD Cert.LinBIdeal.τ).loc Cert.LinBIdeal.main_v0_3)) (v4 : (c : Dev Cert.LinBIdeal.nD) → Buf (Elt Ideal) ((c.tc : Thread Cert.LinBIdeal.nD Cert.LinBIdeal.τ).loc Cert.LinBIdeal.main_v0_4)),
      θ_run (Cert.LinBIdeal.defs (F := Ideal)) (onTc (τ := Cert.LinBIdeal.τ) (Cert.LinBIdeal.main (F := Ideal))) ⟨m, fun _ => 0, g⟩ (fun r => ∀ c : Dev Cert.LinBIdeal.nD,
          r.2.mem ((c.tc : Thread Cert.LinBIdeal.nD Cert.LinBIdeal.τ).loc Cert.LinBIdeal.main_v0_0) = v0 c
          ∧ r.2.mem ((c.tc : Thread Cert.LinBIdeal.nD Cert.LinBIdeal.τ).loc Cert.LinBIdeal.main_v0_1) = v1 c
          ∧ r.2.mem ((c.tc : Thread Cert.LinBIdeal.nD Cert.LinBIdeal.τ).loc Cert.LinBIdeal.main_v0_2) = v2 c
          ∧ r.2.mem ((c.tc : Thread Cert.LinBIdeal.nD Cert.LinBIdeal.τ).loc Cert.LinBIdeal.main_v0_3) = v3 c
          ∧ r.2.mem ((c.tc : Thread Cert.LinBIdeal.nD Cert.LinBIdeal.τ).loc Cert.LinBIdeal.main_v0_4) = v4 c
          ∧ r.2.mem ((c.tc : Thread Cert.LinBIdeal.nD Cert.LinBIdeal.τ).loc Cert.LinBIdeal.main_arg0) = m ((c.tc : Thread Cert.LinBIdeal.nD Cert.LinBIdeal.τ).loc Cert.LinBIdeal.main_arg0)
          ∧ r.2.mem ((c.tc : Thread Cert.LinBIdeal.nD Cert.LinBIdeal.τ).loc Cert.LinBIdeal.main_arg1) = m ((c.tc : Thread Cert.LinBIdeal.nD Cert.LinBIdeal.τ).loc Cert.LinBIdeal.main_arg1)
          ∧ r.2.mem ((c.tc : Thread Cert.LinBIdeal.nD Cert.LinBIdeal.τ).loc Cert.LinBIdeal.main_arg2) = m ((c.tc : Thread Cert.LinBIdeal.nD Cert.LinBIdeal.τ).loc Cert.LinBIdeal.main_arg2)
          ∧ r.2.mem ((c.tc : Thread Cert.LinBIdeal.nD Cert.LinBIdeal.τ).loc Cert.LinBIdeal.main_arg3) = m ((c.tc : Thread Cert.LinBIdeal.nD Cert.LinBIdeal.τ).loc Cert.LinBIdeal.main_arg3)
          ∧ r.2.mem ((c.tc : Thread Cert.LinBIdeal.nD Cert.LinBIdeal.τ).loc Cert.LinBIdeal.main_arg4) = m ((c.tc : Thread Cert.LinBIdeal.nD Cert.LinBIdeal.τ).loc Cert.LinBIdeal.main_arg4))
      ∧ θ_run (Cert.LinBRefIdeal.defs (F := Ideal)) (onTc (τ := Cert.LinBRefIdeal.τ) (Cert.LinBRefIdeal.main (F := Ideal))) ⟨m', fun _ => 0, g'⟩ (fun r => ∀ c : Dev Cert.LinBRefIdeal.nD,
          r.2.mem ((c.tc : Thread Cert.LinBRefIdeal.nD Cert.LinBRefIdeal.τ).loc Cert.LinBRefIdeal.main_v0_0) = v0 c
          ∧ r.2.mem ((c.tc : Thread Cert.LinBRefIdeal.nD Cert.LinBRefIdeal.τ).loc Cert.LinBRefIdeal.main_v0_1) = v1 c
          ∧ r.2.mem ((c.tc : Thread Cert.LinBRefIdeal.nD Cert.LinBRefIdeal.τ).loc Cert.LinBRefIdeal.main_v0_2) = v2 c
          ∧ r.2.mem ((c.tc : Thread Cert.LinBRefIdeal.nD Cert.LinBRefIdeal.τ).loc Cert.LinBRefIdeal.main_v0_3) = v3 c
          ∧ r.2.mem ((c.tc : Thread Cert.LinBRefIdeal.nD Cert.LinBRefIdeal.τ).loc Cert.LinBRefIdeal.main_v0_4) = v4 c
          ∧ r.2.mem ((c.tc : Thread Cert.LinBRefIdeal.nD Cert.LinBRefIdeal.τ).loc Cert.LinBRefIdeal.main_arg0) = m' ((c.tc : Thread Cert.LinBRefIdeal.nD Cert.LinBRefIdeal.τ).loc Cert.LinBRefIdeal.main_arg0)
          ∧ r.2.mem ((c.tc : Thread Cert.LinBRefIdeal.nD Cert.LinBRefIdeal.τ).loc Cert.LinBRefIdeal.main_arg1) = m' ((c.tc : Thread Cert.LinBRefIdeal.nD Cert.LinBRefIdeal.τ).loc Cert.LinBRefIdeal.main_arg1)
          ∧ r.2.mem ((c.tc : Thread Cert.LinBRefIdeal.nD Cert.LinBRefIdeal.τ).loc Cert.LinBRefIdeal.main_arg2) = m' ((c.tc : Thread Cert.LinBRefIdeal.nD Cert.LinBRefIdeal.τ).loc Cert.LinBRefIdeal.main_arg2)
          ∧ r.2.mem ((c.tc : Thread Cert.LinBRefIdeal.nD Cert.LinBRefIdeal.τ).loc Cert.LinBRefIdeal.main_arg3) = m' ((c.tc : Thread Cert.LinBRefIdeal.nD Cert.LinBRefIdeal.τ).loc Cert.LinBRefIdeal.main_arg3)
          ∧ r.2.mem ((c.tc : Thread Cert.LinBRefIdeal.nD Cert.LinBRefIdeal.τ).loc Cert.LinBRefIdeal.main_arg4) = m' ((c.tc : Thread Cert.LinBRefIdeal.nD Cert.LinBRefIdeal.τ).loc Cert.LinBRefIdeal.main_arg4))

def Claim : Prop :=
  ∃ (hGu : Cert.Gu.Facts) (hGuIdeal : Cert.GuIdeal.Facts) (hGuRefIdeal : Cert.GuRefIdeal.Facts) (hGuB : Cert.GuB.Facts) (hGuBIdeal : Cert.GuBIdeal.Facts) (hGuBRefIdeal : Cert.GuBRefIdeal.Facts) (hQ : Cert.Q.Facts) (hQIdeal : Cert.QIdeal.Facts) (hQRefIdeal : Cert.QRefIdeal.Facts) (hQB : Cert.QB.Facts) (hQBIdeal : Cert.QBIdeal.Facts) (hQBRefIdeal : Cert.QBRefIdeal.Facts) (hK : Cert.K.Facts) (hKIdeal : Cert.KIdeal.Facts) (hKRefIdeal : Cert.KRefIdeal.Facts) (hKB : Cert.KB.Facts) (hKBIdeal : Cert.KBIdeal.Facts) (hKBRefIdeal : Cert.KBRefIdeal.Facts) (hV : Cert.V.Facts) (hVIdeal : Cert.VIdeal.Facts) (hVRefIdeal : Cert.VRefIdeal.Facts) (hVB : Cert.VB.Facts) (hVBIdeal : Cert.VBIdeal.Facts) (hVBRefIdeal : Cert.VBRefIdeal.Facts) (hIn : Cert.In.Facts) (hInIdeal : Cert.InIdeal.Facts) (hInRefIdeal : Cert.InRefIdeal.Facts) (hLin : Cert.Lin.Facts) (hLinIdeal : Cert.LinIdeal.Facts) (hLinRefIdeal : Cert.LinRefIdeal.Facts) (hLinB : Cert.LinB.Facts) (hLinBIdeal : Cert.LinBIdeal.Facts) (hLinBRefIdeal : Cert.LinBRefIdeal.Facts),
    quiescent_Gu (hGu := hGu)
    ∧ quiescent_GuIdeal (hGuIdeal := hGuIdeal)
    ∧ quiescent_GuRefIdeal (hGuRefIdeal := hGuRefIdeal)
    ∧ quiescent_GuB (hGuB := hGuB)
    ∧ quiescent_GuBIdeal (hGuBIdeal := hGuBIdeal)
    ∧ quiescent_GuBRefIdeal (hGuBRefIdeal := hGuBRefIdeal)
    ∧ quiescent_Q (hQ := hQ)
    ∧ quiescent_QIdeal (hQIdeal := hQIdeal)
    ∧ quiescent_QRefIdeal (hQRefIdeal := hQRefIdeal)
    ∧ quiescent_QB (hQB := hQB)
    ∧ quiescent_QBIdeal (hQBIdeal := hQBIdeal)
    ∧ quiescent_QBRefIdeal (hQBRefIdeal := hQBRefIdeal)
    ∧ quiescent_K (hK := hK)
    ∧ quiescent_KIdeal (hKIdeal := hKIdeal)
    ∧ quiescent_KRefIdeal (hKRefIdeal := hKRefIdeal)
    ∧ quiescent_KB (hKB := hKB)
    ∧ quiescent_KBIdeal (hKBIdeal := hKBIdeal)
    ∧ quiescent_KBRefIdeal (hKBRefIdeal := hKBRefIdeal)
    ∧ quiescent_V (hV := hV)
    ∧ quiescent_VIdeal (hVIdeal := hVIdeal)
    ∧ quiescent_VRefIdeal (hVRefIdeal := hVRefIdeal)
    ∧ quiescent_VB (hVB := hVB)
    ∧ quiescent_VBIdeal (hVBIdeal := hVBIdeal)
    ∧ quiescent_VBRefIdeal (hVBRefIdeal := hVBRefIdeal)
    ∧ quiescent_In (hIn := hIn)
    ∧ quiescent_InIdeal (hInIdeal := hInIdeal)
    ∧ quiescent_InRefIdeal (hInRefIdeal := hInRefIdeal)
    ∧ quiescent_Lin (hLin := hLin)
    ∧ quiescent_LinIdeal (hLinIdeal := hLinIdeal)
    ∧ quiescent_LinRefIdeal (hLinRefIdeal := hLinRefIdeal)
    ∧ quiescent_LinB (hLinB := hLinB)
    ∧ quiescent_LinBIdeal (hLinBIdeal := hLinBIdeal)
    ∧ quiescent_LinBRefIdeal (hLinBRefIdeal := hLinBRefIdeal)
    ∧ preserves_Gu_GuIdeal
    ∧ algebraic_GuIdeal_GuRefIdeal (hGuIdeal := hGuIdeal) (hGuRefIdeal := hGuRefIdeal)
    ∧ preserves_GuB_GuBIdeal
    ∧ algebraic_GuBIdeal_GuBRefIdeal (hGuBIdeal := hGuBIdeal) (hGuBRefIdeal := hGuBRefIdeal)
    ∧ preserves_Q_QIdeal
    ∧ algebraic_QIdeal_QRefIdeal (hQIdeal := hQIdeal) (hQRefIdeal := hQRefIdeal)
    ∧ preserves_QB_QBIdeal
    ∧ algebraic_QBIdeal_QBRefIdeal (hQBIdeal := hQBIdeal) (hQBRefIdeal := hQBRefIdeal)
    ∧ preserves_K_KIdeal
    ∧ algebraic_KIdeal_KRefIdeal (hKIdeal := hKIdeal) (hKRefIdeal := hKRefIdeal)
    ∧ preserves_KB_KBIdeal
    ∧ algebraic_KBIdeal_KBRefIdeal (hKBIdeal := hKBIdeal) (hKBRefIdeal := hKBRefIdeal)
    ∧ preserves_V_VIdeal
    ∧ algebraic_VIdeal_VRefIdeal (hVIdeal := hVIdeal) (hVRefIdeal := hVRefIdeal)
    ∧ preserves_VB_VBIdeal
    ∧ algebraic_VBIdeal_VBRefIdeal (hVBIdeal := hVBIdeal) (hVBRefIdeal := hVBRefIdeal)
    ∧ preserves_In_InIdeal
    ∧ algebraic_InIdeal_InRefIdeal (hInIdeal := hInIdeal) (hInRefIdeal := hInRefIdeal)
    ∧ preserves_Lin_LinIdeal
    ∧ algebraic_LinIdeal_LinRefIdeal (hLinIdeal := hLinIdeal) (hLinRefIdeal := hLinRefIdeal)
    ∧ preserves_LinB_LinBIdeal
    ∧ algebraic_LinBIdeal_LinBRefIdeal (hLinBIdeal := hLinBIdeal) (hLinBRefIdeal := hLinBRefIdeal)
-- ==== Gu.lean ====
abbrev S1536x2560 : Shape := ⟨2, ![1536, 2560]⟩
abbrev S1536x128 : Shape := ⟨2, ![1536, 128]⟩
abbrev S1280x20480 : Shape := ⟨2, ![1280, 20480]⟩
abbrev S20x20480 : Shape := ⟨2, ![20, 20480]⟩
abbrev S2x128x20480 : Shape := ⟨3, ![2, 128, 20480]⟩
abbrev S1536x10240 : Shape := ⟨2, ![1536, 10240]⟩
abbrev S1280x512 : Shape := ⟨2, ![1280, 512]⟩
abbrev S20x512 : Shape := ⟨2, ![20, 512]⟩
abbrev S1x128x512 : Shape := ⟨3, ![1, 128, 512]⟩
abbrev S1536x512 : Shape := ⟨2, ![1536, 512]⟩
abbrev S2560x256 : Shape := ⟨2, ![2560, 256]⟩
abbrev S1536x1 : Shape := ⟨2, ![1536, 1]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x128x256 : Shape := ⟨3, ![1, 128, 256]⟩

abbrev nBuf : Space → Nat
  | .hbm => 8
  | .vmem => 20
  | .smem => 0
  | _ => 0

abbrev bufTy : (tb : Table) → Fin (tcTables nBuf tb) → BufTy
  | .hbm, ⟨0, _⟩ => ⟨S1536x2560, .bf16⟩
  | .hbm, ⟨1, _⟩ => ⟨S1536x128, .f32⟩
  | .hbm, ⟨2, _⟩ => ⟨S1536x128, .bf16⟩
  | .hbm, ⟨3, _⟩ => ⟨S1280x20480, .i8⟩
  | .hbm, ⟨4, _⟩ => ⟨S20x20480, .f32⟩
  | .hbm, ⟨5, _⟩ => ⟨S2x128x20480, .bf16⟩
  | .hbm, ⟨6, _⟩ => ⟨S1536x10240, .f32⟩
  | .hbm, ⟨7, _⟩ => ⟨S1536x128, .f32⟩
  | .local _ .vmem, ⟨0, _⟩ => ⟨S1536x2560, .bf16⟩
  | .local _ .vmem, ⟨1, _⟩ => ⟨S1536x128, .f32⟩
  | .local _ .vmem, ⟨2, _⟩ => ⟨S1536x128, .bf16⟩
  | .local _ .vmem, ⟨3, _⟩ => ⟨S1280x512, .i8⟩
  | .local _ .vmem, ⟨4, _⟩ => ⟨S1280x512, .i8⟩
  | .local _ .vmem, ⟨5, _⟩ => ⟨S1280x512, .i8⟩
  | .local _ .vmem, ⟨6, _⟩ => ⟨S1280x512, .i8⟩
  | .local _ .vmem, ⟨7, _⟩ => ⟨S20x512, .f32⟩
  | .local _ .vmem, ⟨8, _⟩ => ⟨S20x512, .f32⟩
  | .local _ .vmem, ⟨9, _⟩ => ⟨S20x512, .f32⟩
  | .local _ .vmem, ⟨10, _⟩ => ⟨S20x512, .f32⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1536x512, .f32⟩
  | .local _ .vmem, ⟨16, _⟩ => ⟨S1536x512, .f32⟩
  | .local _ .vmem, ⟨17, _⟩ => ⟨S1536x128, .f32⟩
  | .local _ .vmem, ⟨18, _⟩ => ⟨S2560x256, .bf16⟩
  | .local _ .vmem, ⟨19, _⟩ => ⟨S2560x256, .bf16⟩
  | _, _ => ⟨S1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v1272 : BitVec 1 := Scalar.cmpi .eq arg0 c0_i32
  let v1273 : BitVec 32 := Scalar.extui v1272
  let c0_i32_614 : BitVec 32 := 0#32
  let v1274 : BitVec 1 := Scalar.cmpi .ne v1273 c0_i32_614
  v1274

def k0_cond2 (i : grid0.Coords) : BitVec 1 :=
  let arg0 : BitVec 32 := BitVec.ofNat 32 (i 0).val
  let c0_i32_615 : BitVec 32 := 0#32
  let v1275 : BitVec 1 := Scalar.cmpi .sgt arg0 c0_i32_615
  let v1276 : BitVec 32 := Scalar.extui v1275
  let c0_i32_616 : BitVec 32 := 0#32
  let v1277 : BitVec 1 := Scalar.cmpi .ne v1276 c0_i32_616
  v1277

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1536x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GuRefIdeal.lean ====
abbrev S1536x2560 : Shape := ⟨2, ![1536, 2560]⟩
abbrev S1536x128 : Shape := ⟨2, ![1536, 128]⟩
abbrev S1280x20480 : Shape := ⟨2, ![1280, 20480]⟩
abbrev S20x20480 : Shape := ⟨2, ![20, 20480]⟩
abbrev S2x128x20480 : Shape := ⟨3, ![2, 128, 20480]⟩
abbrev S_ : Shape := ⟨0, ![]⟩
abbrev S10x20480 : Shape := ⟨2, ![10, 20480]⟩
abbrev S10x128x20480 : Shape := ⟨3, ![10, 128, 20480]⟩
abbrev S10x1x20480 : Shape := ⟨3, ![10, 1, 20480]⟩
abbrev S1536x1280 : Shape := ⟨2, ![1536, 1280]⟩
abbrev S1536x20480 : Shape := ⟨2, ![1536, 20480]⟩
abbrev S1536x1 : Shape := ⟨2, ![1536, 1]⟩
abbrev S1x128x20480 : Shape := ⟨3, ![1, 128, 20480]⟩
abbrev S128x20480 : Shape := ⟨2, ![128, 20480]⟩
abbrev S1536x10240 : Shape := ⟨2, ![1536, 10240]⟩
abbrev S1536x80x128 : Shape := ⟨3, ![1536, 80, 128]⟩

abbrev nBuf : Space → Nat
  | .hbm => 71
  | .vmem => 0
  | .smem => 0
  | _ => 0

abbrev bufTy : (tb : Table) → Fin (tcTables nBuf tb) → BufTy
  | .hbm, ⟨0, _⟩ => ⟨S1536x2560, .bf16⟩
  | .hbm, ⟨1, _⟩ => ⟨S1536x128, .f32⟩
  | .hbm, ⟨2, _⟩ => ⟨S1536x128, .bf16⟩
  | .hbm, ⟨3, _⟩ => ⟨S1280x20480, .i8⟩
  | .hbm, ⟨4, _⟩ => ⟨S20x20480, .f32⟩
  | .hbm, ⟨5, _⟩ => ⟨S2x128x20480, .bf16⟩
  | .hbm, ⟨6, _⟩ => ⟨S1280x20480, .i32⟩
  | .hbm, ⟨7, _⟩ => ⟨S_, .i32⟩
  | .hbm, ⟨8, _⟩ => ⟨S1280x20480, .i32⟩
  | .hbm, ⟨9, _⟩ => ⟨S1280x20480, .i32⟩
  | .hbm, ⟨10, _⟩ => ⟨S_, .i32⟩
  | .hbm, ⟨11, _⟩ => ⟨S1280x20480, .i32⟩
  | .hbm, ⟨12, _⟩ => ⟨S1280x20480, .i32⟩
  | .hbm, ⟨13, _⟩ => ⟨S_, .i32⟩
  | .hbm, ⟨14, _⟩ => ⟨S1280x20480, .i32⟩
  | .hbm, ⟨15, _⟩ => ⟨S1280x20480, .i1⟩
  | .hbm, ⟨16, _⟩ => ⟨S_, .i32⟩
  | .hbm, ⟨17, _⟩ => ⟨S1280x20480, .i32⟩
  | .hbm, ⟨18, _⟩ => ⟨S1280x20480, .i32⟩
  | .hbm, ⟨19, _⟩ => ⟨S1280x20480, .i32⟩
  | .hbm, ⟨20, _⟩ => ⟨S_, .i32⟩
  | .hbm, ⟨21, _⟩ => ⟨S1280x20480, .i32⟩
  | .hbm, ⟨22, _⟩ => ⟨S1280x20480, .i1⟩
  | .hbm, ⟨23, _⟩ => ⟨S_, .i32⟩
  | .hbm, ⟨24, _⟩ => ⟨S1280x20480, .i32⟩
  | .hbm, ⟨25, _⟩ => ⟨S1280x20480, .i32⟩
  | .hbm, ⟨26, _⟩ => ⟨S1280x20480, .i32⟩
  | .hbm, ⟨27, _⟩ => ⟨S1280x20480, .bf16⟩
  | .hbm, ⟨28, _⟩ => ⟨S1280x20480, .bf16⟩
  | .hbm, ⟨29, _⟩ => ⟨S10x20480, .f32⟩
  | .hbm, ⟨30, _⟩ => ⟨S10x128x20480, .bf16⟩
  | .hbm, ⟨31, _⟩ => ⟨S10x20480, .bf16⟩
  | .hbm, ⟨32, _⟩ => ⟨S10x1x20480, .bf16⟩
  | .hbm, ⟨33, _⟩ => ⟨S10x128x20480, .bf16⟩
  | .hbm, ⟨34, _⟩ => ⟨S10x128x20480, .bf16⟩
  | .hbm, ⟨35, _⟩ => ⟨S1280x20480, .bf16⟩
  | .hbm, ⟨36, _⟩ => ⟨S10x20480, .f32⟩
  | .hbm, ⟨37, _⟩ => ⟨S10x128x20480, .bf16⟩
  | .hbm, ⟨38, _⟩ => ⟨S10x20480, .bf16⟩
  | .hbm, ⟨39, _⟩ => ⟨S10x1x20480, .bf16⟩
  | .hbm, ⟨40, _⟩ => ⟨S10x128x20480, .bf16⟩
  | .hbm, ⟨41, _⟩ => ⟨S10x128x20480, .bf16⟩
  | .hbm, ⟨42, _⟩ => ⟨S1280x20480, .bf16⟩
  | .hbm, ⟨43, _⟩ => ⟨S1536x1280, .bf16⟩
  | .hbm, ⟨44, _⟩ => ⟨S1536x20480, .f32⟩
  | .hbm, ⟨45, _⟩ => ⟨S1536x1280, .bf16⟩
  | .hbm, ⟨46, _⟩ => ⟨S1536x20480, .f32⟩
  | .hbm, ⟨47, _⟩ => ⟨S1536x20480, .f32⟩
  | .hbm, ⟨48, _⟩ => ⟨S1536x1, .f32⟩
  | .hbm, ⟨49, _⟩ => ⟨S1536x20480, .f32⟩
  | .hbm, ⟨50, _⟩ => ⟨S1536x20480, .f32⟩
  | .hbm, ⟨51, _⟩ => ⟨S1x128x20480, .bf16⟩
  | .hbm, ⟨52, _⟩ => ⟨S128x20480, .bf16⟩
  | .hbm, ⟨53, _⟩ => ⟨S1536x20480, .f32⟩
  | .hbm, ⟨54, _⟩ => ⟨S1536x20480, .f32⟩
  | .hbm, ⟨55, _⟩ => ⟨S1536x10240, .f32⟩
  | .hbm, ⟨56, _⟩ => ⟨S_, .f32⟩
  | .hbm, ⟨57, _⟩ => ⟨S1536x10240, .f32⟩
  | .hbm, ⟨58, _⟩ => ⟨S1536x10240, .f32⟩
  | .hbm, ⟨59, _⟩ => ⟨S1536x10240, .f32⟩
  | .hbm, ⟨60, _⟩ => ⟨S_, .f32⟩
  | .hbm, ⟨61, _⟩ => ⟨S1536x10240, .f32⟩
  | .hbm, ⟨62, _⟩ => ⟨S1536x10240, .f32⟩
  | .hbm, ⟨63, _⟩ => ⟨S1536x10240, .f32⟩
  | .hbm, ⟨64, _⟩ => ⟨S1536x10240, .f32⟩
  | .hbm, ⟨65, _⟩ => ⟨S1536x10240, .f32⟩
  | .hbm, ⟨66, _⟩ => ⟨S1536x10240, .f32⟩
  | .hbm, ⟨67, _⟩ => ⟨S1536x10240, .f32⟩
  | .hbm, ⟨68, _⟩ => ⟨S1536x80x128, .f32⟩
  | .hbm, ⟨69, _⟩ => ⟨S_, .f32⟩
  | .hbm, ⟨70, _⟩ => ⟨S1536x128, .f32⟩
  | _, _ => ⟨S1536x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== GuB.lean ====
abbrev S1536x2560 : Shape := ⟨2, ![1536, 2560]⟩
abbrev S1536x128 : Shape := ⟨2, ![1536, 128]⟩
abbrev S1280x20480 : Shape := ⟨2, ![1280, 20480]⟩
abbrev S20x20480 : Shape := ⟨2, ![20, 20480]⟩
abbrev S2x128x20480 : Shape := ⟨3, ![2, 128, 20480]⟩
abbrev S1536x10240 : Shape := ⟨2, ![1536, 10240]⟩
abbrev S1280x512 : Shape := ⟨2, ![1280, 512]⟩
abbrev S20x512 : Shape := ⟨2, ![20, 512]⟩
abbrev S1x128x512 : Shape := ⟨3, ![1, 128, 512]⟩
abbrev S1536x512 : Shape := ⟨2, ![1536, 512]⟩
abbrev S2560x256 : Shape := ⟨2, ![2560, 256]⟩
abbrev S1536x1 : Shape := ⟨2, ![1536, 1]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x128x256 : Shape := ⟨3, ![1, 128, 256]⟩

abbrev nBuf : Space → Nat
  | .hbm => 8
  | .vmem => 20
  | .smem => 0
  | _ => 0

abbrev bufTy : (tb : Table) → Fin (tcTables nBuf tb) → BufTy
  | .hbm, ⟨0, _⟩ => ⟨S1536x2560, .bf16⟩
  | .hbm, ⟨1, _⟩ => ⟨S1536x128, .f32⟩
  | .hbm, ⟨2, _⟩ => ⟨S1536x128, .bf16⟩
  | .hbm, ⟨3, _⟩ => ⟨S1280x20480, .i8⟩
  | .hbm, ⟨4, _⟩ => ⟨S20x20480, .f32⟩
  | .hbm, ⟨5, _⟩ => ⟨S2x128x20480, .bf16⟩
  | .hbm, ⟨6, _⟩ => ⟨S1536x10240, .f32⟩
  | .hbm, ⟨7, _⟩ => ⟨S1536x128, .f32⟩
  | .local _ .vmem, ⟨0, _⟩ => ⟨S1536x2560, .bf16⟩
  | .local _ .vmem, ⟨1, _⟩ => ⟨S1536x128, .f32⟩
  | .local _ .vmem, ⟨2, _⟩ => ⟨S1536x128, .bf16⟩
  | .local _ .vmem, ⟨3, _⟩ => ⟨S1280x512, .i8⟩
  | .local _ .vmem, ⟨4, _⟩ => ⟨S1280x512, .i8⟩
  | .local _ .vmem, ⟨5, _⟩ => ⟨S1280x512, .i8⟩
  | .local _ .vmem, ⟨6, _⟩ => ⟨S1280x512, .i8⟩
  | .local _ .vmem, ⟨7, _⟩ => ⟨S20x512, .f32⟩
  | .local _ .vmem, ⟨8, _⟩ => ⟨S20x512, .f32⟩
  | .local _ .vmem, ⟨9, _⟩ => ⟨S20x512, .f32⟩
  | .local _ .vmem, ⟨10, _⟩ => ⟨S20x512, .f32⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1536x512, .f32⟩
  | .local _ .vmem, ⟨16, _⟩ => ⟨S1536x512, .f32⟩
  | .local _ .vmem, ⟨17, _⟩ => ⟨S1536x128, .f32⟩
  | .local _ .vmem, ⟨18, _⟩ => ⟨S2560x256, .bf16⟩
  | .local _ .vmem, ⟨19, _⟩ => ⟨S2560x256, .bf16⟩
  | _, _ => ⟨S1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v1272 : BitVec 1 := Scalar.cmpi .eq arg0 c0_i32
  let v1273 : BitVec 32 := Scalar.extui v1272
  let c0_i32_614 : BitVec 32 := 0#32
  let v1274 : BitVec 1 := Scalar.cmpi .ne v1273 c0_i32_614
  v1274

def k0_cond2 (i : grid0.Coords) : BitVec 1 :=
  let arg0 : BitVec 32 := BitVec.ofNat 32 (i 0).val
  let c0_i32_615 : BitVec 32 := 0#32
  let v1275 : BitVec 1 := Scalar.cmpi .sgt arg0 c0_i32_615
  let v1276 : BitVec 32 := Scalar.extui v1275
  let c0_i32_616 : BitVec 32 := 0#32
  let v1277 : BitVec 1 := Scalar.cmpi .ne v1276 c0_i32_616
  v1277

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let c20_i32 : BitVec 32 := 20#32
  let v0 : BitVec 32 := Scalar.addi c20_i32 arg0
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1280x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1536x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GuBRefIdeal.lean ====
abbrev S1536x2560 : Shape := ⟨2, ![1536, 2560]⟩
abbrev S1536x128 : Shape := ⟨2, ![1536, 128]⟩
abbrev S1280x20480 : Shape := ⟨2, ![1280, 20480]⟩
abbrev S20x20480 : Shape := ⟨2, ![20, 20480]⟩
abbrev S2x128x20480 : Shape := ⟨3, ![2, 128, 20480]⟩
abbrev S_ : Shape := ⟨0, ![]⟩
abbrev S10x20480 : Shape := ⟨2, ![10, 20480]⟩
abbrev S10x128x20480 : Shape := ⟨3, ![10, 128, 20480]⟩
abbrev S10x1x20480 : Shape := ⟨3, ![10, 1, 20480]⟩
abbrev S1536x1280 : Shape := ⟨2, ![1536, 1280]⟩
abbrev S1536x20480 : Shape := ⟨2, ![1536, 20480]⟩
abbrev S1536x1 : Shape := ⟨2, ![1536, 1]⟩
abbrev S1x128x20480 : Shape := ⟨3, ![1, 128, 20480]⟩
abbrev S128x20480 : Shape := ⟨2, ![128, 20480]⟩
abbrev S1536x10240 : Shape := ⟨2, ![1536, 10240]⟩
abbrev S1536x80x128 : Shape := ⟨3, ![1536, 80, 128]⟩

abbrev nBuf : Space → Nat
  | .hbm => 71
  | .vmem => 0
  | .smem => 0
  | _ => 0

abbrev bufTy : (tb : Table) → Fin (tcTables nBuf tb) → BufTy
  | .hbm, ⟨0, _⟩ => ⟨S1536x2560, .bf16⟩
  | .hbm, ⟨1, _⟩ => ⟨S1536x128, .f32⟩
  | .hbm, ⟨2, _⟩ => ⟨S1536x128, .bf16⟩
  | .hbm, ⟨3, _⟩ => ⟨S1280x20480, .i8⟩
  | .hbm, ⟨4, _⟩ => ⟨S20x20480, .f32⟩
  | .hbm, ⟨5, _⟩ => ⟨S2x128x20480, .bf16⟩
  | .hbm, ⟨6, _⟩ => ⟨S1280x20480, .i32⟩
  | .hbm, ⟨7, _⟩ => ⟨S_, .i32⟩
  | .hbm, ⟨8, _⟩ => ⟨S1280x20480, .i32⟩
  | .hbm, ⟨9, _⟩ => ⟨S1280x20480, .i32⟩
  | .hbm, ⟨10, _⟩ => ⟨S_, .i32⟩
  | .hbm, ⟨11, _⟩ => ⟨S1280x20480, .i32⟩
  | .hbm, ⟨12, _⟩ => ⟨S1280x20480, .i32⟩
  | .hbm, ⟨13, _⟩ => ⟨S_, .i32⟩
  | .hbm, ⟨14, _⟩ => ⟨S1280x20480, .i32⟩
  | .hbm, ⟨15, _⟩ => ⟨S1280x20480, .i1⟩
  | .hbm, ⟨16, _⟩ => ⟨S_, .i32⟩
  | .hbm, ⟨17, _⟩ => ⟨S1280x20480, .i32⟩
  | .hbm, ⟨18, _⟩ => ⟨S1280x20480, .i32⟩
  | .hbm, ⟨19, _⟩ => ⟨S1280x20480, .i32⟩
  | .hbm, ⟨20, _⟩ => ⟨S_, .i32⟩
  | .hbm, ⟨21, _⟩ => ⟨S1280x20480, .i32⟩
  | .hbm, ⟨22, _⟩ => ⟨S1280x20480, .i1⟩
  | .hbm, ⟨23, _⟩ => ⟨S_, .i32⟩
  | .hbm, ⟨24, _⟩ => ⟨S1280x20480, .i32⟩
  | .hbm, ⟨25, _⟩ => ⟨S1280x20480, .i32⟩
  | .hbm, ⟨26, _⟩ => ⟨S1280x20480, .i32⟩
  | .hbm, ⟨27, _⟩ => ⟨S1280x20480, .bf16⟩
  | .hbm, ⟨28, _⟩ => ⟨S1280x20480, .bf16⟩
  | .hbm, ⟨29, _⟩ => ⟨S10x20480, .f32⟩
  | .hbm, ⟨30, _⟩ => ⟨S10x128x20480, .bf16⟩
  | .hbm, ⟨31, _⟩ => ⟨S10x20480, .bf16⟩
  | .hbm, ⟨32, _⟩ => ⟨S10x1x20480, .bf16⟩
  | .hbm, ⟨33, _⟩ => ⟨S10x128x20480, .bf16⟩
  | .hbm, ⟨34, _⟩ => ⟨S10x128x20480, .bf16⟩
  | .hbm, ⟨35, _⟩ => ⟨S1280x20480, .bf16⟩
  | .hbm, ⟨36, _⟩ => ⟨S10x20480, .f32⟩
  | .hbm, ⟨37, _⟩ => ⟨S10x128x20480, .bf16⟩
  | .hbm, ⟨38, _⟩ => ⟨S10x20480, .bf16⟩
  | .hbm, ⟨39, _⟩ => ⟨S10x1x20480, .bf16⟩
  | .hbm, ⟨40, _⟩ => ⟨S10x128x20480, .bf16⟩
  | .hbm, ⟨41, _⟩ => ⟨S10x128x20480, .bf16⟩
  | .hbm, ⟨42, _⟩ => ⟨S1280x20480, .bf16⟩
  | .hbm, ⟨43, _⟩ => ⟨S1536x1280, .bf16⟩
  | .hbm, ⟨44, _⟩ => ⟨S1536x20480, .f32⟩
  | .hbm, ⟨45, _⟩ => ⟨S1536x1280, .bf16⟩
  | .hbm, ⟨46, _⟩ => ⟨S1536x20480, .f32⟩
  | .hbm, ⟨47, _⟩ => ⟨S1536x20480, .f32⟩
  | .hbm, ⟨48, _⟩ => ⟨S1536x1, .f32⟩
  | .hbm, ⟨49, _⟩ => ⟨S1536x20480, .f32⟩
  | .hbm, ⟨50, _⟩ => ⟨S1536x20480, .f32⟩
  | .hbm, ⟨51, _⟩ => ⟨S1x128x20480, .bf16⟩
  | .hbm, ⟨52, _⟩ => ⟨S128x20480, .bf16⟩
  | .hbm, ⟨53, _⟩ => ⟨S1536x20480, .f32⟩
  | .hbm, ⟨54, _⟩ => ⟨S1536x20480, .f32⟩
  | .hbm, ⟨55, _⟩ => ⟨S1536x10240, .f32⟩
  | .hbm, ⟨56, _⟩ => ⟨S_, .f32⟩
  | .hbm, ⟨57, _⟩ => ⟨S1536x10240, .f32⟩
  | .hbm, ⟨58, _⟩ => ⟨S1536x10240, .f32⟩
  | .hbm, ⟨59, _⟩ => ⟨S1536x10240, .f32⟩
  | .hbm, ⟨60, _⟩ => ⟨S_, .f32⟩
  | .hbm, ⟨61, _⟩ => ⟨S1536x10240, .f32⟩
  | .hbm, ⟨62, _⟩ => ⟨S1536x10240, .f32⟩
  | .hbm, ⟨63, _⟩ => ⟨S1536x10240, .f32⟩
  | .hbm, ⟨64, _⟩ => ⟨S1536x10240, .f32⟩
  | .hbm, ⟨65, _⟩ => ⟨S1536x10240, .f32⟩
  | .hbm, ⟨66, _⟩ => ⟨S1536x10240, .f32⟩
  | .hbm, ⟨67, _⟩ => ⟨S1536x10240, .f32⟩
  | .hbm, ⟨68, _⟩ => ⟨S1536x80x128, .f32⟩
  | .hbm, ⟨69, _⟩ => ⟨S_, .f32⟩
  | .hbm, ⟨70, _⟩ => ⟨S1536x128, .f32⟩
  | _, _ => ⟨S1536x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Q.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x1280 : Shape := ⟨2, ![2560, 1280]⟩
abbrev S40x1280 : Shape := ⟨2, ![40, 1280]⟩
abbrev S1x1x128x1280 : Shape := ⟨4, ![1, 1, 128, 1280]⟩
abbrev S1536x1280 : Shape := ⟨2, ![1536, 1280]⟩
abbrev S5120x256 : Shape := ⟨2, ![5120, 256]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x1x128x256 : Shape := ⟨4, ![1, 1, 128, 256]⟩
abbrev S1536x1 : Shape := ⟨2, ![1536, 1]⟩
abbrev S1x80x384 : Shape := ⟨3, ![1, 80, 384]⟩
abbrev S80x384 : Shape := ⟨2, ![80, 384]⟩
abbrev S384x1280 : Shape := ⟨2, ![384, 1280]⟩
abbrev S1280x384 : Shape := ⟨2, ![1280, 384]⟩

abbrev nBuf : Space → Nat
  | .hbm => 9
  | .vmem => 16
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S1536x5120, .bf16⟩
  | .local _ .vmem, ⟨0, _⟩ => ⟨S1536x5120, .bf16⟩
  | .local _ .vmem, ⟨1, _⟩ => ⟨S1536x128, .f32⟩
  | .local _ .vmem, ⟨2, _⟩ => ⟨S1536x128, .bf16⟩
  | .local _ .vmem, ⟨3, _⟩ => ⟨S2560x1280, .i8⟩
  | .local _ .vmem, ⟨4, _⟩ => ⟨S2560x1280, .i8⟩
  | .local _ .vmem, ⟨5, _⟩ => ⟨S40x1280, .f32⟩
  | .local _ .vmem, ⟨6, _⟩ => ⟨S40x1280, .f32⟩
  | .local _ .vmem, ⟨7, _⟩ => ⟨S1x1x128x1280, .bf16⟩
  | .local _ .vmem, ⟨8, _⟩ => ⟨S1x1x128x1280, .bf16⟩
  | .local _ .vmem, ⟨9, _⟩ => ⟨S4x80x384, .f32⟩
  | .local _ .vmem, ⟨10, _⟩ => ⟨S4x80x384, .f32⟩
  | .local _ .vmem, ⟨11, _⟩ => ⟨S1536x1280, .bf16⟩
  | .local _ .vmem, ⟨12, _⟩ => ⟨S1536x1280, .bf16⟩
  | .local _ .vmem, ⟨13, _⟩ => ⟨S5120x256, .bf16⟩
  | .local _ .vmem, ⟨14, _⟩ => ⟨S5120x256, .bf16⟩
  | .local _ .vmem, ⟨15, _⟩ => ⟨S1536x1280, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32_1498 : BitVec 32 := 4#32
  let v3070 : BitVec 32 := Scalar.addi c0_i32 c4_i32_1498
  let c1_i32 : BitVec 32 := 1#32
  ⟨c0_i32, v3070, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c384_i32 : BitVec 32 := 384#32
  let v3071 : BitVec 32 := Scalar.muli arg13 c384_i32
  v3071
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v3073 : Index := Scalar.indexCast arg13
  let c0_1500 : Index := 0#32
  let c0_1501 : Index := 0#32
  ![v3073.toNat, 0, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c384_i32 : BitVec 32 := 384#32
  let v3071 : BitVec 32 := Scalar.muli arg13 c384_i32
  let v3072 : BitVec 32 := v3071
  let v3079 : Index := Scalar.indexCast v3072
  let c0_1504 : Index := 0#32
  ![v3079.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x80x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x80x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QRefIdeal.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x5120 : Shape := ⟨2, ![2560, 5120]⟩
abbrev S40x5120 : Shape := ⟨2, ![40, 5120]⟩
abbrev S_ : Shape := ⟨0, ![]⟩
abbrev S20x5120 : Shape := ⟨2, ![20, 5120]⟩
abbrev S20x128x5120 : Shape := ⟨3, ![20, 128, 5120]⟩
abbrev S20x1x5120 : Shape := ⟨3, ![20, 1, 5120]⟩
abbrev S1536x2560 : Shape := ⟨2, ![1536, 2560]⟩
abbrev S1x1x128x5120 : Shape := ⟨4, ![1, 1, 128, 5120]⟩
abbrev S128x5120 : Shape := ⟨2, ![128, 5120]⟩
abbrev S1536x1 : Shape := ⟨2, ![1536, 1]⟩
abbrev S4x384x32x160 : Shape := ⟨4, ![4, 384, 32, 160]⟩
abbrev S4x384x80 : Shape := ⟨3, ![4, 384, 80]⟩
abbrev S4x384x1x80 : Shape := ⟨4, ![4, 384, 1, 80]⟩
abbrev S4x384x32x80 : Shape := ⟨4, ![4, 384, 32, 80]⟩

abbrev nBuf : Space → Nat
  | .hbm => 80
  | .vmem => 0
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S2560x5120, .i8⟩
  | .hbm, ⟨9, _⟩ => ⟨S40x5120, .f32⟩
  | .hbm, ⟨10, _⟩ => ⟨S2560x5120, .i32⟩
  | .hbm, ⟨11, _⟩ => ⟨S_, .i32⟩
  | .hbm, ⟨12, _⟩ => ⟨S2560x5120, .i32⟩
  | .hbm, ⟨13, _⟩ => ⟨S2560x5120, .i32⟩
  | .hbm, ⟨14, _⟩ => ⟨S_, .i32⟩
  | .hbm, ⟨15, _⟩ => ⟨S2560x5120, .i32⟩
  | .hbm, ⟨16, _⟩ => ⟨S2560x5120, .i32⟩
  | .hbm, ⟨17, _⟩ => ⟨S_, .i32⟩
  | .hbm, ⟨18, _⟩ => ⟨S2560x5120, .i32⟩
  | .hbm, ⟨19, _⟩ => ⟨S2560x5120, .i1⟩
  | .hbm, ⟨20, _⟩ => ⟨S_, .i32⟩
  | .hbm, ⟨21, _⟩ => ⟨S2560x5120, .i32⟩
  | .hbm, ⟨22, _⟩ => ⟨S2560x5120, .i32⟩
  | .hbm, ⟨23, _⟩ => ⟨S2560x5120, .i32⟩
  | .hbm, ⟨24, _⟩ => ⟨S_, .i32⟩
  | .hbm, ⟨25, _⟩ => ⟨S2560x5120, .i32⟩
  | .hbm, ⟨26, _⟩ => ⟨S2560x5120, .i1⟩
  | .hbm, ⟨27, _⟩ => ⟨S_, .i32⟩
  | .hbm, ⟨28, _⟩ => ⟨S2560x5120, .i32⟩
  | .hbm, ⟨29, _⟩ => ⟨S2560x5120, .i32⟩
  | .hbm, ⟨30, _⟩ => ⟨S2560x5120, .i32⟩
  | .hbm, ⟨31, _⟩ => ⟨S2560x5120, .bf16⟩
  | .hbm, ⟨32, _⟩ => ⟨S2560x5120, .bf16⟩
  | .hbm, ⟨33, _⟩ => ⟨S20x5120, .f32⟩
  | .hbm, ⟨34, _⟩ => ⟨S20x128x5120, .bf16⟩
  | .hbm, ⟨35, _⟩ => ⟨S20x5120, .bf16⟩
  | .hbm, ⟨36, _⟩ => ⟨S20x1x5120, .bf16⟩
  | .hbm, ⟨37, _⟩ => ⟨S20x128x5120, .bf16⟩
  | .hbm, ⟨38, _⟩ => ⟨S20x128x5120, .bf16⟩
  | .hbm, ⟨39, _⟩ => ⟨S2560x5120, .bf16⟩
  | .hbm, ⟨40, _⟩ => ⟨S20x5120, .f32⟩
  | .hbm, ⟨41, _⟩ => ⟨S20x128x5120, .bf16⟩
  | .hbm, ⟨42, _⟩ => ⟨S20x5120, .bf16⟩
  | .hbm, ⟨43, _⟩ => ⟨S20x1x5120, .bf16⟩
  | .hbm, ⟨44, _⟩ => ⟨S20x128x5120, .bf16⟩
  | .hbm, ⟨45, _⟩ => ⟨S20x128x5120, .bf16⟩
  | .hbm, ⟨46, _⟩ => ⟨S2560x5120, .bf16⟩
  | .hbm, ⟨47, _⟩ => ⟨S1536x2560, .bf16⟩
  | .hbm, ⟨48, _⟩ => ⟨S1536x5120, .f32⟩
  | .hbm, ⟨49, _⟩ => ⟨S1536x2560, .bf16⟩
  | .hbm, ⟨50, _⟩ => ⟨S1536x5120, .f32⟩
  | .hbm, ⟨51, _⟩ => ⟨S1536x5120, .f32⟩
  | .hbm, ⟨52, _⟩ => ⟨S1536x128, .bf16⟩
  | .hbm, ⟨53, _⟩ => ⟨S1x1x128x5120, .bf16⟩
  | .hbm, ⟨54, _⟩ => ⟨S128x5120, .bf16⟩
  | .hbm, ⟨55, _⟩ => ⟨S1536x5120, .f32⟩
  | .hbm, ⟨56, _⟩ => ⟨S1536x1, .f32⟩
  | .hbm, ⟨57, _⟩ => ⟨S1536x5120, .f32⟩
  | .hbm, ⟨58, _⟩ => ⟨S1536x5120, .f32⟩
  | .hbm, ⟨59, _⟩ => ⟨S1536x5120, .f32⟩
  | .hbm, ⟨60, _⟩ => ⟨S4x384x32x160, .f32⟩
  | .hbm, ⟨61, _⟩ => ⟨S4x384x80, .f32⟩
  | .hbm, ⟨62, _⟩ => ⟨S4x384x1x80, .f32⟩
  | .hbm, ⟨63, _⟩ => ⟨S4x384x80, .f32⟩
  | .hbm, ⟨64, _⟩ => ⟨S4x384x1x80, .f32⟩
  | .hbm, ⟨65, _⟩ => ⟨S4x384x32x80, .f32⟩
  | .hbm, ⟨66, _⟩ => ⟨S4x384x32x80, .f32⟩
  | .hbm, ⟨67, _⟩ => ⟨S4x384x32x80, .f32⟩
  | .hbm, ⟨68, _⟩ => ⟨S4x384x32x80, .f32⟩
  | .hbm, ⟨69, _⟩ => ⟨S4x384x32x80, .f32⟩
  | .hbm, ⟨70, _⟩ => ⟨S4x384x32x80, .f32⟩
  | .hbm, ⟨71, _⟩ => ⟨S4x384x32x80, .f32⟩
  | .hbm, ⟨72, _⟩ => ⟨S4x384x32x80, .f32⟩
  | .hbm, ⟨73, _⟩ => ⟨S4x384x32x80, .f32⟩
  | .hbm, ⟨74, _⟩ => ⟨S4x384x32x80, .f32⟩
  | .hbm, ⟨75, _⟩ => ⟨S4x384x32x80, .f32⟩
  | .hbm, ⟨76, _⟩ => ⟨S4x384x32x80, .f32⟩
  | .hbm, ⟨77, _⟩ => ⟨S4x384x32x160, .f32⟩
  | .hbm, ⟨78, _⟩ => ⟨S1536x5120, .f32⟩
  | .hbm, ⟨79, _⟩ => ⟨S1536x5120, .bf16⟩
  | _, _ => ⟨S1536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== QB.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x1280 : Shape := ⟨2, ![2560, 1280]⟩
abbrev S40x1280 : Shape := ⟨2, ![40, 1280]⟩
abbrev S1x1x128x1280 : Shape := ⟨4, ![1, 1, 128, 1280]⟩
abbrev S1536x1280 : Shape := ⟨2, ![1536, 1280]⟩
abbrev S5120x256 : Shape := ⟨2, ![5120, 256]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x1x128x256 : Shape := ⟨4, ![1, 1, 128, 256]⟩
abbrev S1536x1 : Shape := ⟨2, ![1536, 1]⟩
abbrev S1x80x384 : Shape := ⟨3, ![1, 80, 384]⟩
abbrev S80x384 : Shape := ⟨2, ![80, 384]⟩
abbrev S384x1280 : Shape := ⟨2, ![384, 1280]⟩
abbrev S1280x384 : Shape := ⟨2, ![1280, 384]⟩

abbrev nBuf : Space → Nat
  | .hbm => 9
  | .vmem => 16
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S1536x5120, .bf16⟩
  | .local _ .vmem, ⟨0, _⟩ => ⟨S1536x5120, .bf16⟩
  | .local _ .vmem, ⟨1, _⟩ => ⟨S1536x128, .f32⟩
  | .local _ .vmem, ⟨2, _⟩ => ⟨S1536x128, .bf16⟩
  | .local _ .vmem, ⟨3, _⟩ => ⟨S2560x1280, .i8⟩
  | .local _ .vmem, ⟨4, _⟩ => ⟨S2560x1280, .i8⟩
  | .local _ .vmem, ⟨5, _⟩ => ⟨S40x1280, .f32⟩
  | .local _ .vmem, ⟨6, _⟩ => ⟨S40x1280, .f32⟩
  | .local _ .vmem, ⟨7, _⟩ => ⟨S1x1x128x1280, .bf16⟩
  | .local _ .vmem, ⟨8, _⟩ => ⟨S1x1x128x1280, .bf16⟩
  | .local _ .vmem, ⟨9, _⟩ => ⟨S4x80x384, .f32⟩
  | .local _ .vmem, ⟨10, _⟩ => ⟨S4x80x384, .f32⟩
  | .local _ .vmem, ⟨11, _⟩ => ⟨S1536x1280, .bf16⟩
  | .local _ .vmem, ⟨12, _⟩ => ⟨S1536x1280, .bf16⟩
  | .local _ .vmem, ⟨13, _⟩ => ⟨S5120x256, .bf16⟩
  | .local _ .vmem, ⟨14, _⟩ => ⟨S5120x256, .bf16⟩
  | .local _ .vmem, ⟨15, _⟩ => ⟨S1536x1280, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32_1498 : BitVec 32 := 4#32
  let v3070 : BitVec 32 := Scalar.addi c0_i32 c4_i32_1498
  let c1_i32 : BitVec 32 := 1#32
  ⟨c0_i32, v3070, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c384_i32 : BitVec 32 := 384#32
  let v3071 : BitVec 32 := Scalar.muli arg13 c384_i32
  v3071
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v3073 : Index := Scalar.indexCast arg13
  let c0_1500 : Index := 0#32
  let c0_1501 : Index := 0#32
  ![v3073.toNat, 0, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c384_i32 : BitVec 32 := 384#32
  let v3071 : BitVec 32 := Scalar.muli arg13 c384_i32
  let v3072 : BitVec 32 := v3071
  let v3079 : Index := Scalar.indexCast v3072
  let c0_1504 : Index := 0#32
  ![v3079.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x80x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x80x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1536x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QBRefIdeal.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x5120 : Shape := ⟨2, ![2560, 5120]⟩
abbrev S40x5120 : Shape := ⟨2, ![40, 5120]⟩
abbrev S_ : Shape := ⟨0, ![]⟩
abbrev S20x5120 : Shape := ⟨2, ![20, 5120]⟩
abbrev S20x128x5120 : Shape := ⟨3, ![20, 128, 5120]⟩
abbrev S20x1x5120 : Shape := ⟨3, ![20, 1, 5120]⟩
abbrev S1536x2560 : Shape := ⟨2, ![1536, 2560]⟩
abbrev S1x1x128x5120 : Shape := ⟨4, ![1, 1, 128, 5120]⟩
abbrev S128x5120 : Shape := ⟨2, ![128, 5120]⟩
abbrev S1536x1 : Shape := ⟨2, ![1536, 1]⟩
abbrev S4x384x32x160 : Shape := ⟨4, ![4, 384, 32, 160]⟩
abbrev S4x384x80 : Shape := ⟨3, ![4, 384, 80]⟩
abbrev S4x384x1x80 : Shape := ⟨4, ![4, 384, 1, 80]⟩
abbrev S4x384x32x80 : Shape := ⟨4, ![4, 384, 32, 80]⟩

abbrev nBuf : Space → Nat
  | .hbm => 80
  | .vmem => 0
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S2560x5120, .i8⟩
  | .hbm, ⟨9, _⟩ => ⟨S40x5120, .f32⟩
  | .hbm, ⟨10, _⟩ => ⟨S2560x5120, .i32⟩
  | .hbm, ⟨11, _⟩ => ⟨S_, .i32⟩
  | .hbm, ⟨12, _⟩ => ⟨S2560x5120, .i32⟩
  | .hbm, ⟨13, _⟩ => ⟨S2560x5120, .i32⟩
  | .hbm, ⟨14, _⟩ => ⟨S_, .i32⟩
  | .hbm, ⟨15, _⟩ => ⟨S2560x5120, .i32⟩
  | .hbm, ⟨16, _⟩ => ⟨S2560x5120, .i32⟩
  | .hbm, ⟨17, _⟩ => ⟨S_, .i32⟩
  | .hbm, ⟨18, _⟩ => ⟨S2560x5120, .i32⟩
  | .hbm, ⟨19, _⟩ => ⟨S2560x5120, .i1⟩
  | .hbm, ⟨20, _⟩ => ⟨S_, .i32⟩
  | .hbm, ⟨21, _⟩ => ⟨S2560x5120, .i32⟩
  | .hbm, ⟨22, _⟩ => ⟨S2560x5120, .i32⟩
  | .hbm, ⟨23, _⟩ => ⟨S2560x5120, .i32⟩
  | .hbm, ⟨24, _⟩ => ⟨S_, .i32⟩
  | .hbm, ⟨25, _⟩ => ⟨S2560x5120, .i32⟩
  | .hbm, ⟨26, _⟩ => ⟨S2560x5120, .i1⟩
  | .hbm, ⟨27, _⟩ => ⟨S_, .i32⟩
  | .hbm, ⟨28, _⟩ => ⟨S2560x5120, .i32⟩
  | .hbm, ⟨29, _⟩ => ⟨S2560x5120, .i32⟩
  | .hbm, ⟨30, _⟩ => ⟨S2560x5120, .i32⟩
  | .hbm, ⟨31, _⟩ => ⟨S2560x5120, .bf16⟩
  | .hbm, ⟨32, _⟩ => ⟨S2560x5120, .bf16⟩
  | .hbm, ⟨33, _⟩ => ⟨S20x5120, .f32⟩
  | .hbm, ⟨34, _⟩ => ⟨S20x128x5120, .bf16⟩
  | .hbm, ⟨35, _⟩ => ⟨S20x5120, .bf16⟩
  | .hbm, ⟨36, _⟩ => ⟨S20x1x5120, .bf16⟩
  | .hbm, ⟨37, _⟩ => ⟨S20x128x5120, .bf16⟩
  | .hbm, ⟨38, _⟩ => ⟨S20x128x5120, .bf16⟩
  | .hbm, ⟨39, _⟩ => ⟨S2560x5120, .bf16⟩
  | .hbm, ⟨40, _⟩ => ⟨S20x5120, .f32⟩
  | .hbm, ⟨41, _⟩ => ⟨S20x128x5120, .bf16⟩
  | .hbm, ⟨42, _⟩ => ⟨S20x5120, .bf16⟩
  | .hbm, ⟨43, _⟩ => ⟨S20x1x5120, .bf16⟩
  | .hbm, ⟨44, _⟩ => ⟨S20x128x5120, .bf16⟩
  | .hbm, ⟨45, _⟩ => ⟨S20x128x5120, .bf16⟩
  | .hbm, ⟨46, _⟩ => ⟨S2560x5120, .bf16⟩
  | .hbm, ⟨47, _⟩ => ⟨S1536x2560, .bf16⟩
  | .hbm, ⟨48, _⟩ => ⟨S1536x5120, .f32⟩
  | .hbm, ⟨49, _⟩ => ⟨S1536x2560, .bf16⟩
  | .hbm, ⟨50, _⟩ => ⟨S1536x5120, .f32⟩
  | .hbm, ⟨51, _⟩ => ⟨S1536x5120, .f32⟩
  | .hbm, ⟨52, _⟩ => ⟨S1536x128, .bf16⟩
  | .hbm, ⟨53, _⟩ => ⟨S1x1x128x5120, .bf16⟩
  | .hbm, ⟨54, _⟩ => ⟨S128x5120, .bf16⟩
  | .hbm, ⟨55, _⟩ => ⟨S1536x5120, .f32⟩
  | .hbm, ⟨56, _⟩ => ⟨S1536x1, .f32⟩
  | .hbm, ⟨57, _⟩ => ⟨S1536x5120, .f32⟩
  | .hbm, ⟨58, _⟩ => ⟨S1536x5120, .f32⟩
  | .hbm, ⟨59, _⟩ => ⟨S1536x5120, .f32⟩
  | .hbm, ⟨60, _⟩ => ⟨S4x384x32x160, .f32⟩
  | .hbm, ⟨61, _⟩ => ⟨S4x384x80, .f32⟩
  | .hbm, ⟨62, _⟩ => ⟨S4x384x1x80, .f32⟩
  | .hbm, ⟨63, _⟩ => ⟨S4x384x80, .f32⟩
  | .hbm, ⟨64, _⟩ => ⟨S4x384x1x80, .f32⟩
  | .hbm, ⟨65, _⟩ => ⟨S4x384x32x80, .f32⟩
  | .hbm, ⟨66, _⟩ => ⟨S4x384x32x80, .f32⟩
  | .hbm, ⟨67, _⟩ => ⟨S4x384x32x80, .f32⟩
  | .hbm, ⟨68, _⟩ => ⟨S4x384x32x80, .f32⟩
  | .hbm, ⟨69, _⟩ => ⟨S4x384x32x80, .f32⟩
  | .hbm, ⟨70, _⟩ => ⟨S4x384x32x80, .f32⟩
  | .hbm, ⟨71, _⟩ => ⟨S4x384x32x80, .f32⟩
  | .hbm, ⟨72, _⟩ => ⟨S4x384x32x80, .f32⟩
  | .hbm, ⟨73, _⟩ => ⟨S4x384x32x80, .f32⟩
  | .hbm, ⟨74, _⟩ => ⟨S4x384x32x80, .f32⟩
  | .hbm, ⟨75, _⟩ => ⟨S4x384x32x80, .f32⟩
  | .hbm, ⟨76, _⟩ => ⟨S4x384x32x80, .f32⟩
  | .hbm, ⟨77, _⟩ => ⟨S4x384x32x160, .f32⟩
  | .hbm, ⟨78, _⟩ => ⟨S1536x5120, .f32⟩
  | .hbm, ⟨79, _⟩ => ⟨S1536x5120, .bf16⟩
  | _, _ => ⟨S1536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== K.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S4x5120x384 : Shape := ⟨3, ![4, 5120, 384]⟩
abbrev S4x32x128 : Shape := ⟨3, ![4, 32, 128]⟩
abbrev S2560x1280 : Shape := ⟨2, ![2560, 1280]⟩
abbrev S40x1280 : Shape := ⟨2, ![40, 1280]⟩
abbrev S1x1x128x1280 : Shape := ⟨4, ![1, 1, 128, 1280]⟩
abbrev S4x1280x384 : Shape := ⟨3, ![4, 1280, 384]⟩
abbrev S4x8x128 : Shape := ⟨3, ![4, 8, 128]⟩
abbrev S5120x256 : Shape := ⟨2, ![5120, 256]⟩
abbrev S1536x1280 : Shape := ⟨2, ![1536, 1280]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x1x128x256 : Shape := ⟨4, ![1, 1, 128, 256]⟩
abbrev S1536x1 : Shape := ⟨2, ![1536, 1]⟩
abbrev S1x80x384 : Shape := ⟨3, ![1, 80, 384]⟩
abbrev S80x384 : Shape := ⟨2, ![80, 384]⟩
abbrev S384x1280 : Shape := ⟨2, ![384, 1280]⟩
abbrev S1280x384 : Shape := ⟨2, ![1280, 384]⟩
abbrev S384 : Shape := ⟨1, ![384]⟩
abbrev S1x384 : Shape := ⟨2, ![1, 384]⟩
abbrev S1 : Shape := ⟨1, ![1]⟩
abbrev S1x1 : Shape := ⟨2, ![1, 1]⟩
abbrev S160x384 : Shape := ⟨2, ![160, 384]⟩
abbrev S1x160x384 : Shape := ⟨3, ![1, 160, 384]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 10
  | .vmem => 18
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S4x5120x384, .fp8e4m3⟩
  | .hbm, ⟨9, _⟩ => ⟨S4x32x128, .f32⟩
  | .local _ .vmem, ⟨0, _⟩ => ⟨S1536x5120, .bf16⟩
  | .local _ .vmem, ⟨1, _⟩ => ⟨S1536x128, .f32⟩
  | .local _ .vmem, ⟨2, _⟩ => ⟨S1536x128, .bf16⟩
  | .local _ .vmem, ⟨3, _⟩ => ⟨S2560x1280, .i8⟩
  | .local _ .vmem, ⟨4, _⟩ => ⟨S2560x1280, .i8⟩
  | .local _ .vmem, ⟨5, _⟩ => ⟨S40x1280, .f32⟩
  | .local _ .vmem, ⟨6, _⟩ => ⟨S40x1280, .f32⟩
  | .local _ .vmem, ⟨7, _⟩ => ⟨S1x1x128x1280, .bf16⟩
  | .local _ .vmem, ⟨8, _⟩ => ⟨S1x1x128x1280, .bf16⟩
  | .local _ .vmem, ⟨9, _⟩ => ⟨S4x80x384, .f32⟩
  | .local _ .vmem, ⟨10, _⟩ => ⟨S4x80x384, .f32⟩
  | .local _ .vmem, ⟨11, _⟩ => ⟨S4x1280x384, .fp8e4m3⟩
  | .local _ .vmem, ⟨12, _⟩ => ⟨S4x1280x384, .fp8e4m3⟩
  | .local _ .vmem, ⟨13, _⟩ => ⟨S4x8x128, .f32⟩
  | .local _ .vmem, ⟨14, _⟩ => ⟨S4x8x128, .f32⟩
  | .local _ .vmem, ⟨15, _⟩ => ⟨S5120x256, .bf16⟩
  | .local _ .vmem, ⟨16, _⟩ => ⟨S5120x256, .bf16⟩
  | .local _ .vmem, ⟨17, _⟩ => ⟨S1536x1280, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32_1498 : BitVec 32 := 4#32
  let v3070 : BitVec 32 := Scalar.addi c0_i32 c4_i32_1498
  let c1_i32 : BitVec 32 := 1#32
  ⟨c0_i32, v3070, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  v3071
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3073 : Index := Scalar.indexCast arg14
  let c0_1500 : Index := 0#32
  let c0_1501 : Index := 0#32
  ![v3073.toNat, 0, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  let v3072 : BitVec 32 := v3071
  let v3079 : Index := Scalar.indexCast v3072
  let c0_1504 : Index := 0#32
  ![v3079.toNat, 0]
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3169 : Index := Scalar.indexCast arg14
  let c0_1513 : Index := 0#32
  let c0_1514 : Index := 0#32
  ![v3169.toNat, 0, 0]
def k0_off4 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3198 : Index := Scalar.indexCast arg14
  let c160 : Index := 160#32
  let c0_1523 : Index := 0#32
  ![v3198.toNat, 160, 0]
def k0_off5 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3227 : Index := Scalar.indexCast arg14
  let c320 : Index := 320#32
  let c0_1532 : Index := 0#32
  ![v3227.toNat, 320, 0]
def k0_off6 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3256 : Index := Scalar.indexCast arg14
  let c480 : Index := 480#32
  let c0_1541 : Index := 0#32
  ![v3256.toNat, 480, 0]
def k0_off7 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3285 : Index := Scalar.indexCast arg14
  let c640_1550 : Index := 640#32
  let c0_1551 : Index := 0#32
  ![v3285.toNat, 640, 0]
def k0_off8 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3314 : Index := Scalar.indexCast arg14
  let c800 : Index := 800#32
  let c0_1560 : Index := 0#32
  ![v3314.toNat, 800, 0]
def k0_off9 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3343 : Index := Scalar.indexCast arg14
  let c960 : Index := 960#32
  let c0_1569 : Index := 0#32
  ![v3343.toNat, 960, 0]
def k0_off10 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3372 : Index := Scalar.indexCast arg14
  let c1120 : Index := 1120#32
  let c0_1578 : Index := 0#32
  ![v3372.toNat, 1120, 0]
def k0_off11 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3379 : Index := Scalar.indexCast arg14
  let c0_1579 : Index := 0#32
  let c0_1580 : Index := 0#32
  ![v3379.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x80x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x80x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1280x384 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KRefIdeal.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x5120 : Shape := ⟨2, ![2560, 5120]⟩
abbrev S40x5120 : Shape := ⟨2, ![40, 5120]⟩
abbrev S_ : Shape := ⟨0, ![]⟩
abbrev S20x5120 : Shape := ⟨2, ![20, 5120]⟩
abbrev S20x128x5120 : Shape := ⟨3, ![20, 128, 5120]⟩
abbrev S20x1x5120 : Shape := ⟨3, ![20, 1, 5120]⟩
abbrev S1536x2560 : Shape := ⟨2, ![1536, 2560]⟩
abbrev S1x1x128x5120 : Shape := ⟨4, ![1, 1, 128, 5120]⟩
abbrev S128x5120 : Shape := ⟨2, ![128, 5120]⟩
abbrev S1536x1 : Shape := ⟨2, ![1536, 1]⟩
abbrev S4x384x32x160 : Shape := ⟨4, ![4, 384, 32, 160]⟩
abbrev S4x384x80 : Shape := ⟨3, ![4, 384, 80]⟩
abbrev S4x384x1x80 : Shape := ⟨4, ![4, 384, 1, 80]⟩
abbrev S4x384x32x80 : Shape := ⟨4, ![4, 384, 32, 80]⟩
abbrev S4x32 : Shape := ⟨2, ![4, 32]⟩
abbrev S4x1x32x1 : Shape := ⟨4, ![4, 1, 32, 1]⟩
abbrev S4x32x160x384 : Shape := ⟨4, ![4, 32, 160, 384]⟩
abbrev S4x5120x384 : Shape := ⟨3, ![4, 5120, 384]⟩
abbrev S4x32x1 : Shape := ⟨3, ![4, 32, 1]⟩
abbrev S4x32x128 : Shape := ⟨3, ![4, 32, 128]⟩

abbrev nBuf : Space → Nat
  | .hbm => 107
  | .vmem => 2
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S2560x5120, .i8⟩
  | .hbm, ⟨9, _⟩ => ⟨S40x5120, .f32⟩
  | .hbm, ⟨10, _⟩ => ⟨S2560x5120, .i32⟩
  | .hbm, ⟨11, _⟩ => ⟨S_, .i32⟩
  | .hbm, ⟨12, _⟩ => ⟨S2560x5120, .i32⟩
  | .hbm, ⟨13, _⟩ => ⟨S2560x5120, .i32⟩
  | .hbm, ⟨14, _⟩ => ⟨S_, .i32⟩
  | .hbm, ⟨15, _⟩ => ⟨S2560x5120, .i32⟩
  | .hbm, ⟨16, _⟩ => ⟨S2560x5120, .i32⟩
  | .hbm, ⟨17, _⟩ => ⟨S_, .i32⟩
  | .hbm, ⟨18, _⟩ => ⟨S2560x5120, .i32⟩
  | .hbm, ⟨19, _⟩ => ⟨S2560x5120, .i1⟩
  | .hbm, ⟨20, _⟩ => ⟨S_, .i32⟩
  | .hbm, ⟨21, _⟩ => ⟨S2560x5120, .i32⟩
  | .hbm, ⟨22, _⟩ => ⟨S2560x5120, .i32⟩
  | .hbm, ⟨23, _⟩ => ⟨S2560x5120, .i32⟩
  | .hbm, ⟨24, _⟩ => ⟨S_, .i32⟩
  | .hbm, ⟨25, _⟩ => ⟨S2560x5120, .i32⟩
  | .hbm, ⟨26, _⟩ => ⟨S2560x5120, .i1⟩
  | .hbm, ⟨27, _⟩ => ⟨S_, .i32⟩
  | .hbm, ⟨28, _⟩ => ⟨S2560x5120, .i32⟩
  | .hbm, ⟨29, _⟩ => ⟨S2560x5120, .i32⟩
  | .hbm, ⟨30, _⟩ => ⟨S2560x5120, .i32⟩
  | .hbm, ⟨31, _⟩ => ⟨S2560x5120, .bf16⟩
  | .hbm, ⟨32, _⟩ => ⟨S2560x5120, .bf16⟩
  | .hbm, ⟨33, _⟩ => ⟨S20x5120, .f32⟩
  | .hbm, ⟨34, _⟩ => ⟨S20x128x5120, .bf16⟩
  | .hbm, ⟨35, _⟩ => ⟨S20x5120, .bf16⟩
  | .hbm, ⟨36, _⟩ => ⟨S20x1x5120, .bf16⟩
  | .hbm, ⟨37, _⟩ => ⟨S20x128x5120, .bf16⟩
  | .hbm, ⟨38, _⟩ => ⟨S20x128x5120, .bf16⟩
  | .hbm, ⟨39, _⟩ => ⟨S2560x5120, .bf16⟩
  | .hbm, ⟨40, _⟩ => ⟨S20x5120, .f32⟩
  | .hbm, ⟨41, _⟩ => ⟨S20x128x5120, .bf16⟩
  | .hbm, ⟨42, _⟩ => ⟨S20x5120, .bf16⟩
  | .hbm, ⟨43, _⟩ => ⟨S20x1x5120, .bf16⟩
  | .hbm, ⟨44, _⟩ => ⟨S20x128x5120, .bf16⟩
  | .hbm, ⟨45, _⟩ => ⟨S20x128x5120, .bf16⟩
  | .hbm, ⟨46, _⟩ => ⟨S2560x5120, .bf16⟩
  | .hbm, ⟨47, _⟩ => ⟨S1536x2560, .bf16⟩
  | .hbm, ⟨48, _⟩ => ⟨S1536x5120, .f32⟩
  | .hbm, ⟨49, _⟩ => ⟨S1536x2560, .bf16⟩
  | .hbm, ⟨50, _⟩ => ⟨S1536x5120, .f32⟩
  | .hbm, ⟨51, _⟩ => ⟨S1536x5120, .f32⟩
  | .hbm, ⟨52, _⟩ => ⟨S1536x128, .bf16⟩
  | .hbm, ⟨53, _⟩ => ⟨S1x1x128x5120, .bf16⟩
  | .hbm, ⟨54, _⟩ => ⟨S128x5120, .bf16⟩
  | .hbm, ⟨55, _⟩ => ⟨S1536x5120, .f32⟩
  | .hbm, ⟨56, _⟩ => ⟨S1536x1, .f32⟩
  | .hbm, ⟨57, _⟩ => ⟨S1536x5120, .f32⟩
  | .hbm, ⟨58, _⟩ => ⟨S1536x5120, .f32⟩
  | .hbm, ⟨59, _⟩ => ⟨S1536x5120, .f32⟩
  | .hbm, ⟨60, _⟩ => ⟨S4x384x32x160, .f32⟩
  | .hbm, ⟨61, _⟩ => ⟨S4x384x80, .f32⟩
  | .hbm, ⟨62, _⟩ => ⟨S4x384x1x80, .f32⟩
  | .hbm, ⟨63, _⟩ => ⟨S4x384x80, .f32⟩
  | .hbm, ⟨64, _⟩ => ⟨S4x384x1x80, .f32⟩
  | .hbm, ⟨65, _⟩ => ⟨S4x384x32x80, .f32⟩
  | .hbm, ⟨66, _⟩ => ⟨S4x384x32x80, .f32⟩
  | .hbm, ⟨67, _⟩ => ⟨S4x384x32x80, .f32⟩
  | .hbm, ⟨68, _⟩ => ⟨S4x384x32x80, .f32⟩
  | .hbm, ⟨69, _⟩ => ⟨S4x384x32x80, .f32⟩
  | .hbm, ⟨70, _⟩ => ⟨S4x384x32x80, .f32⟩
  | .hbm, ⟨71, _⟩ => ⟨S4x384x32x80, .f32⟩
  | .hbm, ⟨72, _⟩ => ⟨S4x384x32x80, .f32⟩
  | .hbm, ⟨73, _⟩ => ⟨S4x384x32x80, .f32⟩
  | .hbm, ⟨74, _⟩ => ⟨S4x384x32x80, .f32⟩
  | .hbm, ⟨75, _⟩ => ⟨S4x384x32x80, .f32⟩
  | .hbm, ⟨76, _⟩ => ⟨S4x384x32x80, .f32⟩
  | .hbm, ⟨77, _⟩ => ⟨S4x384x32x160, .f32⟩
  | .hbm, ⟨78, _⟩ => ⟨S4x384x32x160, .f32⟩
  | .hbm, ⟨79, _⟩ => ⟨S_, .f32⟩
  | .hbm, ⟨80, _⟩ => ⟨S4x32, .f32⟩
  | .hbm, ⟨81, _⟩ => ⟨S_, .f32⟩
  | .hbm, ⟨82, _⟩ => ⟨S4x32, .f32⟩
  | .hbm, ⟨83, _⟩ => ⟨S4x32, .i1⟩
  | .hbm, ⟨84, _⟩ => ⟨S_, .f32⟩
  | .hbm, ⟨85, _⟩ => ⟨S4x32, .f32⟩
  | .hbm, ⟨86, _⟩ => ⟨S4x32, .f32⟩
  | .hbm, ⟨87, _⟩ => ⟨S_, .f32⟩
  | .hbm, ⟨88, _⟩ => ⟨S_, .f32⟩
  | .hbm, ⟨89, _⟩ => ⟨S4x32, .f32⟩
  | .hbm, ⟨90, _⟩ => ⟨S4x32, .f32⟩
  | .hbm, ⟨91, _⟩ => ⟨S4x1x32x1, .f32⟩
  | .hbm, ⟨92, _⟩ => ⟨S4x384x32x160, .f32⟩
  | .hbm, ⟨93, _⟩ => ⟨S4x384x32x160, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4x384x32x160, .f32⟩
  | .hbm, ⟨98, _⟩ => ⟨S4x384x32x160, .f32⟩
  | .hbm, ⟨99, _⟩ => ⟨S_, .f32⟩
  | .hbm, ⟨100, _⟩ => ⟨S4x384x32x160, .f32⟩
  | .hbm, ⟨101, _⟩ => ⟨S4x384x32x160, .f32⟩
  | .hbm, ⟨102, _⟩ => ⟨S4x32x160x384, .f32⟩
  | .hbm, ⟨103, _⟩ => ⟨S4x5120x384, .f32⟩
  | .hbm, ⟨104, _⟩ => ⟨S4x32x1, .f32⟩
  | .hbm, ⟨105, _⟩ => ⟨S4x32x128, .f32⟩
  | .hbm, ⟨106, _⟩ => ⟨S4x5120x384, .fp8e4m3⟩
  | .local _ .vmem, ⟨0, _⟩ => ⟨S4x5120x384, .f32⟩
  | .local _ .vmem, ⟨1, _⟩ => ⟨S4x5120x384, .fp8e4m3⟩
  | _, _ => ⟨S1536x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_call2_v0 : Ref sig .tc := ⟨.hbm, 88, rfl⟩
abbrev main_call2_v1 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_cst_9 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x5120x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KB.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S4x5120x384 : Shape := ⟨3, ![4, 5120, 384]⟩
abbrev S4x32x128 : Shape := ⟨3, ![4, 32, 128]⟩
abbrev S2560x1280 : Shape := ⟨2, ![2560, 1280]⟩
abbrev S40x1280 : Shape := ⟨2, ![40, 1280]⟩
abbrev S1x1x128x1280 : Shape := ⟨4, ![1, 1, 128, 1280]⟩
abbrev S4x1280x384 : Shape := ⟨3, ![4, 1280, 384]⟩
abbrev S4x8x128 : Shape := ⟨3, ![4, 8, 128]⟩
abbrev S5120x256 : Shape := ⟨2, ![5120, 256]⟩
abbrev S1536x1280 : Shape := ⟨2, ![1536, 1280]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x1x128x256 : Shape := ⟨4, ![1, 1, 128, 256]⟩
abbrev S1536x1 : Shape := ⟨2, ![1536, 1]⟩
abbrev S1x80x384 : Shape := ⟨3, ![1, 80, 384]⟩
abbrev S80x384 : Shape := ⟨2, ![80, 384]⟩
abbrev S384x1280 : Shape := ⟨2, ![384, 1280]⟩
abbrev S1280x384 : Shape := ⟨2, ![1280, 384]⟩
abbrev S384 : Shape := ⟨1, ![384]⟩
abbrev S1x384 : Shape := ⟨2, ![1, 384]⟩
abbrev S1 : Shape := ⟨1, ![1]⟩
abbrev S1x1 : Shape := ⟨2, ![1, 1]⟩
abbrev S160x384 : Shape := ⟨2, ![160, 384]⟩
abbrev S1x160x384 : Shape := ⟨3, ![1, 160, 384]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 10
  | .vmem => 18
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S4x5120x384, .fp8e4m3⟩
  | .hbm, ⟨9, _⟩ => ⟨S4x32x128, .f32⟩
  | .local _ .vmem, ⟨0, _⟩ => ⟨S1536x5120, .bf16⟩
  | .local _ .vmem, ⟨1, _⟩ => ⟨S1536x128, .f32⟩
  | .local _ .vmem, ⟨2, _⟩ => ⟨S1536x128, .bf16⟩
  | .local _ .vmem, ⟨3, _⟩ => ⟨S2560x1280, .i8⟩
  | .local _ .vmem, ⟨4, _⟩ => ⟨S2560x1280, .i8⟩
  | .local _ .vmem, ⟨5, _⟩ => ⟨S40x1280, .f32⟩
  | .local _ .vmem, ⟨6, _⟩ => ⟨S40x1280, .f32⟩
  | .local _ .vmem, ⟨7, _⟩ => ⟨S1x1x128x1280, .bf16⟩
  | .local _ .vmem, ⟨8, _⟩ => ⟨S1x1x128x1280, .bf16⟩
  | .local _ .vmem, ⟨9, _⟩ => ⟨S4x80x384, .f32⟩
  | .local _ .vmem, ⟨10, _⟩ => ⟨S4x80x384, .f32⟩
  | .local _ .vmem, ⟨11, _⟩ => ⟨S4x1280x384, .fp8e4m3⟩
  | .local _ .vmem, ⟨12, _⟩ => ⟨S4x1280x384, .fp8e4m3⟩
  | .local _ .vmem, ⟨13, _⟩ => ⟨S4x8x128, .f32⟩
  | .local _ .vmem, ⟨14, _⟩ => ⟨S4x8x128, .f32⟩
  | .local _ .vmem, ⟨15, _⟩ => ⟨S5120x256, .bf16⟩
  | .local _ .vmem, ⟨16, _⟩ => ⟨S5120x256, .bf16⟩
  | .local _ .vmem, ⟨17, _⟩ => ⟨S1536x1280, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32_1498 : BitVec 32 := 4#32
  let v3070 : BitVec 32 := Scalar.addi c0_i32 c4_i32_1498
  let c1_i32 : BitVec 32 := 1#32
  ⟨c0_i32, v3070, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  v3071
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3073 : Index := Scalar.indexCast arg14
  let c0_1500 : Index := 0#32
  let c0_1501 : Index := 0#32
  ![v3073.toNat, 0, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  let v3072 : BitVec 32 := v3071
  let v3079 : Index := Scalar.indexCast v3072
  let c0_1504 : Index := 0#32
  ![v3079.toNat, 0]
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3169 : Index := Scalar.indexCast arg14
  let c0_1513 : Index := 0#32
  let c0_1514 : Index := 0#32
  ![v3169.toNat, 0, 0]
def k0_off4 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3198 : Index := Scalar.indexCast arg14
  let c160 : Index := 160#32
  let c0_1523 : Index := 0#32
  ![v3198.toNat, 160, 0]
def k0_off5 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3227 : Index := Scalar.indexCast arg14
  let c320 : Index := 320#32
  let c0_1532 : Index := 0#32
  ![v3227.toNat, 320, 0]
def k0_off6 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3256 : Index := Scalar.indexCast arg14
  let c480 : Index := 480#32
  let c0_1541 : Index := 0#32
  ![v3256.toNat, 480, 0]
def k0_off7 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3285 : Index := Scalar.indexCast arg14
  let c640_1550 : Index := 640#32
  let c0_1551 : Index := 0#32
  ![v3285.toNat, 640, 0]
def k0_off8 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3314 : Index := Scalar.indexCast arg14
  let c800 : Index := 800#32
  let c0_1560 : Index := 0#32
  ![v3314.toNat, 800, 0]
def k0_off9 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3343 : Index := Scalar.indexCast arg14
  let c960 : Index := 960#32
  let c0_1569 : Index := 0#32
  ![v3343.toNat, 960, 0]
def k0_off10 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3372 : Index := Scalar.indexCast arg14
  let c1120 : Index := 1120#32
  let c0_1578 : Index := 0#32
  ![v3372.toNat, 1120, 0]
def k0_off11 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3379 : Index := Scalar.indexCast arg14
  let c0_1579 : Index := 0#32
  let c0_1580 : Index := 0#32
  ![v3379.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x80x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x80x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1280x384 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KBRefIdeal.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x5120 : Shape := ⟨2, ![2560, 5120]⟩
abbrev S40x5120 : Shape := ⟨2, ![40, 5120]⟩
abbrev S_ : Shape := ⟨0, ![]⟩
abbrev S20x5120 : Shape := ⟨2, ![20, 5120]⟩
abbrev S20x128x5120 : Shape := ⟨3, ![20, 128, 5120]⟩
abbrev S20x1x5120 : Shape := ⟨3, ![20, 1, 5120]⟩
abbrev S1536x2560 : Shape := ⟨2, ![1536, 2560]⟩
abbrev S1x1x128x5120 : Shape := ⟨4, ![1, 1, 128, 5120]⟩
abbrev S128x5120 : Shape := ⟨2, ![128, 5120]⟩
abbrev S1536x1 : Shape := ⟨2, ![1536, 1]⟩
abbrev S4x384x32x160 : Shape := ⟨4, ![4, 384, 32, 160]⟩
abbrev S4x384x80 : Shape := ⟨3, ![4, 384, 80]⟩
abbrev S4x384x1x80 : Shape := ⟨4, ![4, 384, 1, 80]⟩
abbrev S4x384x32x80 : Shape := ⟨4, ![4, 384, 32, 80]⟩
abbrev S4x32 : Shape := ⟨2, ![4, 32]⟩
abbrev S4x1x32x1 : Shape := ⟨4, ![4, 1, 32, 1]⟩
abbrev S4x32x160x384 : Shape := ⟨4, ![4, 32, 160, 384]⟩
abbrev S4x5120x384 : Shape := ⟨3, ![4, 5120, 384]⟩
abbrev S4x32x1 : Shape := ⟨3, ![4, 32, 1]⟩
abbrev S4x32x128 : Shape := ⟨3, ![4, 32, 128]⟩

abbrev nBuf : Space → Nat
  | .hbm => 107
  | .vmem => 2
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S2560x5120, .i8⟩
  | .hbm, ⟨9, _⟩ => ⟨S40x5120, .f32⟩
  | .hbm, ⟨10, _⟩ => ⟨S2560x5120, .i32⟩
  | .hbm, ⟨11, _⟩ => ⟨S_, .i32⟩
  | .hbm, ⟨12, _⟩ => ⟨S2560x5120, .i32⟩
  | .hbm, ⟨13, _⟩ => ⟨S2560x5120, .i32⟩
  | .hbm, ⟨14, _⟩ => ⟨S_, .i32⟩
  | .hbm, ⟨15, _⟩ => ⟨S2560x5120, .i32⟩
  | .hbm, ⟨16, _⟩ => ⟨S2560x5120, .i32⟩
  | .hbm, ⟨17, _⟩ => ⟨S_, .i32⟩
  | .hbm, ⟨18, _⟩ => ⟨S2560x5120, .i32⟩
  | .hbm, ⟨19, _⟩ => ⟨S2560x5120, .i1⟩
  | .hbm, ⟨20, _⟩ => ⟨S_, .i32⟩
  | .hbm, ⟨21, _⟩ => ⟨S2560x5120, .i32⟩
  | .hbm, ⟨22, _⟩ => ⟨S2560x5120, .i32⟩
  | .hbm, ⟨23, _⟩ => ⟨S2560x5120, .i32⟩
  | .hbm, ⟨24, _⟩ => ⟨S_, .i32⟩
  | .hbm, ⟨25, _⟩ => ⟨S2560x5120, .i32⟩
  | .hbm, ⟨26, _⟩ => ⟨S2560x5120, .i1⟩
  | .hbm, ⟨27, _⟩ => ⟨S_, .i32⟩
  | .hbm, ⟨28, _⟩ => ⟨S2560x5120, .i32⟩
  | .hbm, ⟨29, _⟩ => ⟨S2560x5120, .i32⟩
  | .hbm, ⟨30, _⟩ => ⟨S2560x5120, .i32⟩
  | .hbm, ⟨31, _⟩ => ⟨S2560x5120, .bf16⟩
  | .hbm, ⟨32, _⟩ => ⟨S2560x5120, .bf16⟩
  | .hbm, ⟨33, _⟩ => ⟨S20x5120, .f32⟩
  | .hbm, ⟨34, _⟩ => ⟨S20x128x5120, .bf16⟩
  | .hbm, ⟨35, _⟩ => ⟨S20x5120, .bf16⟩
  | .hbm, ⟨36, _⟩ => ⟨S20x1x5120, .bf16⟩
  | .hbm, ⟨37, _⟩ => ⟨S20x128x5120, .bf16⟩
  | .hbm, ⟨38, _⟩ => ⟨S20x128x5120, .bf16⟩
  | .hbm, ⟨39, _⟩ => ⟨S2560x5120, .bf16⟩
  | .hbm, ⟨40, _⟩ => ⟨S20x5120, .f32⟩
  | .hbm, ⟨41, _⟩ => ⟨S20x128x5120, .bf16⟩
  | .hbm, ⟨42, _⟩ => ⟨S20x5120, .bf16⟩
  | .hbm, ⟨43, _⟩ => ⟨S20x1x5120, .bf16⟩
  | .hbm, ⟨44, _⟩ => ⟨S20x128x5120, .bf16⟩
  | .hbm, ⟨45, _⟩ => ⟨S20x128x5120, .bf16⟩
  | .hbm, ⟨46, _⟩ => ⟨S2560x5120, .bf16⟩
  | .hbm, ⟨47, _⟩ => ⟨S1536x2560, .bf16⟩
  | .hbm, ⟨48, _⟩ => ⟨S1536x5120, .f32⟩
  | .hbm, ⟨49, _⟩ => ⟨S1536x2560, .bf16⟩
  | .hbm, ⟨50, _⟩ => ⟨S1536x5120, .f32⟩
  | .hbm, ⟨51, _⟩ => ⟨S1536x5120, .f32⟩
  | .hbm, ⟨52, _⟩ => ⟨S1536x128, .bf16⟩
  | .hbm, ⟨53, _⟩ => ⟨S1x1x128x5120, .bf16⟩
  | .hbm, ⟨54, _⟩ => ⟨S128x5120, .bf16⟩
  | .hbm, ⟨55, _⟩ => ⟨S1536x5120, .f32⟩
  | .hbm, ⟨56, _⟩ => ⟨S1536x1, .f32⟩
  | .hbm, ⟨57, _⟩ => ⟨S1536x5120, .f32⟩
  | .hbm, ⟨58, _⟩ => ⟨S1536x5120, .f32⟩
  | .hbm, ⟨59, _⟩ => ⟨S1536x5120, .f32⟩
  | .hbm, ⟨60, _⟩ => ⟨S4x384x32x160, .f32⟩
  | .hbm, ⟨61, _⟩ => ⟨S4x384x80, .f32⟩
  | .hbm, ⟨62, _⟩ => ⟨S4x384x1x80, .f32⟩
  | .hbm, ⟨63, _⟩ => ⟨S4x384x80, .f32⟩
  | .hbm, ⟨64, _⟩ => ⟨S4x384x1x80, .f32⟩
  | .hbm, ⟨65, _⟩ => ⟨S4x384x32x80, .f32⟩
  | .hbm, ⟨66, _⟩ => ⟨S4x384x32x80, .f32⟩
  | .hbm, ⟨67, _⟩ => ⟨S4x384x32x80, .f32⟩
  | .hbm, ⟨68, _⟩ => ⟨S4x384x32x80, .f32⟩
  | .hbm, ⟨69, _⟩ => ⟨S4x384x32x80, .f32⟩
  | .hbm, ⟨70, _⟩ => ⟨S4x384x32x80, .f32⟩
  | .hbm, ⟨71, _⟩ => ⟨S4x384x32x80, .f32⟩
  | .hbm, ⟨72, _⟩ => ⟨S4x384x32x80, .f32⟩
  | .hbm, ⟨73, _⟩ => ⟨S4x384x32x80, .f32⟩
  | .hbm, ⟨74, _⟩ => ⟨S4x384x32x80, .f32⟩
  | .hbm, ⟨75, _⟩ => ⟨S4x384x32x80, .f32⟩
  | .hbm, ⟨76, _⟩ => ⟨S4x384x32x80, .f32⟩
  | .hbm, ⟨77, _⟩ => ⟨S4x384x32x160, .f32⟩
  | .hbm, ⟨78, _⟩ => ⟨S4x384x32x160, .f32⟩
  | .hbm, ⟨79, _⟩ => ⟨S_, .f32⟩
  | .hbm, ⟨80, _⟩ => ⟨S4x32, .f32⟩
  | .hbm, ⟨81, _⟩ => ⟨S_, .f32⟩
  | .hbm, ⟨82, _⟩ => ⟨S4x32, .f32⟩
  | .hbm, ⟨83, _⟩ => ⟨S4x32, .i1⟩
  | .hbm, ⟨84, _⟩ => ⟨S_, .f32⟩
  | .hbm, ⟨85, _⟩ => ⟨S4x32, .f32⟩
  | .hbm, ⟨86, _⟩ => ⟨S4x32, .f32⟩
  | .hbm, ⟨87, _⟩ => ⟨S_, .f32⟩
  | .hbm, ⟨88, _⟩ => ⟨S_, .f32⟩
  | .hbm, ⟨89, _⟩ => ⟨S4x32, .f32⟩
  | .hbm, ⟨90, _⟩ => ⟨S4x32, .f32⟩
  | .hbm, ⟨91, _⟩ => ⟨S4x1x32x1, .f32⟩
  | .hbm, ⟨92, _⟩ => ⟨S4x384x32x160, .f32⟩
  | .hbm, ⟨93, _⟩ => ⟨S4x384x32x160, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4x384x32x160, .f32⟩
  | .hbm, ⟨98, _⟩ => ⟨S4x384x32x160, .f32⟩
  | .hbm, ⟨99, _⟩ => ⟨S_, .f32⟩
  | .hbm, ⟨100, _⟩ => ⟨S4x384x32x160, .f32⟩
  | .hbm, ⟨101, _⟩ => ⟨S4x384x32x160, .f32⟩
  | .hbm, ⟨102, _⟩ => ⟨S4x32x160x384, .f32⟩
  | .hbm, ⟨103, _⟩ => ⟨S4x5120x384, .f32⟩
  | .hbm, ⟨104, _⟩ => ⟨S4x32x1, .f32⟩
  | .hbm, ⟨105, _⟩ => ⟨S4x32x128, .f32⟩
  | .hbm, ⟨106, _⟩ => ⟨S4x5120x384, .fp8e4m3⟩
  | .local _ .vmem, ⟨0, _⟩ => ⟨S4x5120x384, .f32⟩
  | .local _ .vmem, ⟨1, _⟩ => ⟨S4x5120x384, .fp8e4m3⟩
  | _, _ => ⟨S1536x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_call2_v0 : Ref sig .tc := ⟨.hbm, 88, rfl⟩
abbrev main_call2_v1 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_cst_9 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x5120x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== V.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S4x5120x384 : Shape := ⟨3, ![4, 5120, 384]⟩
abbrev S4x32x128 : Shape := ⟨3, ![4, 32, 128]⟩
abbrev S2560x1280 : Shape := ⟨2, ![2560, 1280]⟩
abbrev S40x1280 : Shape := ⟨2, ![40, 1280]⟩
abbrev S1x1x128x1280 : Shape := ⟨4, ![1, 1, 128, 1280]⟩
abbrev S4x1280x384 : Shape := ⟨3, ![4, 1280, 384]⟩
abbrev S4x8x128 : Shape := ⟨3, ![4, 8, 128]⟩
abbrev S5120x256 : Shape := ⟨2, ![5120, 256]⟩
abbrev S1536x1280 : Shape := ⟨2, ![1536, 1280]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x1x128x256 : Shape := ⟨4, ![1, 1, 128, 256]⟩
abbrev S1536x1 : Shape := ⟨2, ![1536, 1]⟩
abbrev S384x1280 : Shape := ⟨2, ![384, 1280]⟩
abbrev S1280x384 : Shape := ⟨2, ![1280, 384]⟩
abbrev S80x384 : Shape := ⟨2, ![80, 384]⟩
abbrev S384 : Shape := ⟨1, ![384]⟩
abbrev S1x384 : Shape := ⟨2, ![1, 384]⟩
abbrev S1 : Shape := ⟨1, ![1]⟩
abbrev S1x1 : Shape := ⟨2, ![1, 1]⟩
abbrev S160x384 : Shape := ⟨2, ![160, 384]⟩
abbrev S1x160x384 : Shape := ⟨3, ![1, 160, 384]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 10
  | .vmem => 18
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S4x5120x384, .fp8e4m3⟩
  | .hbm, ⟨9, _⟩ => ⟨S4x32x128, .f32⟩
  | .local _ .vmem, ⟨0, _⟩ => ⟨S1536x5120, .bf16⟩
  | .local _ .vmem, ⟨1, _⟩ => ⟨S1536x128, .f32⟩
  | .local _ .vmem, ⟨2, _⟩ => ⟨S1536x128, .bf16⟩
  | .local _ .vmem, ⟨3, _⟩ => ⟨S2560x1280, .i8⟩
  | .local _ .vmem, ⟨4, _⟩ => ⟨S2560x1280, .i8⟩
  | .local _ .vmem, ⟨5, _⟩ => ⟨S40x1280, .f32⟩
  | .local _ .vmem, ⟨6, _⟩ => ⟨S40x1280, .f32⟩
  | .local _ .vmem, ⟨7, _⟩ => ⟨S1x1x128x1280, .bf16⟩
  | .local _ .vmem, ⟨8, _⟩ => ⟨S1x1x128x1280, .bf16⟩
  | .local _ .vmem, ⟨9, _⟩ => ⟨S4x80x384, .f32⟩
  | .local _ .vmem, ⟨10, _⟩ => ⟨S4x80x384, .f32⟩
  | .local _ .vmem, ⟨11, _⟩ => ⟨S4x1280x384, .fp8e4m3⟩
  | .local _ .vmem, ⟨12, _⟩ => ⟨S4x1280x384, .fp8e4m3⟩
  | .local _ .vmem, ⟨13, _⟩ => ⟨S4x8x128, .f32⟩
  | .local _ .vmem, ⟨14, _⟩ => ⟨S4x8x128, .f32⟩
  | .local _ .vmem, ⟨15, _⟩ => ⟨S5120x256, .bf16⟩
  | .local _ .vmem, ⟨16, _⟩ => ⟨S5120x256, .bf16⟩
  | .local _ .vmem, ⟨17, _⟩ => ⟨S1536x1280, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32_1498 : BitVec 32 := 4#32
  let v3070 : BitVec 32 := Scalar.addi c0_i32 c4_i32_1498
  let c1_i32 : BitVec 32 := 1#32
  ⟨c0_i32, v3070, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  v3071
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  let v3072 : BitVec 32 := v3071
  let v3073 : Index := Scalar.indexCast v3072
  let c0_1500 : Index := 0#32
  ![v3073.toNat, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3115 : Index := Scalar.indexCast arg14
  let c0_1509 : Index := 0#32
  let c0_1510 : Index := 0#32
  ![v3115.toNat, 0, 0]
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3144 : Index := Scalar.indexCast arg14
  let c160 : Index := 160#32
  let c0_1519 : Index := 0#32
  ![v3144.toNat, 160, 0]
def k0_off4 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3173 : Index := Scalar.indexCast arg14
  let c320 : Index := 320#32
  let c0_1528 : Index := 0#32
  ![v3173.toNat, 320, 0]
def k0_off5 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3202 : Index := Scalar.indexCast arg14
  let c480 : Index := 480#32
  let c0_1537 : Index := 0#32
  ![v3202.toNat, 480, 0]
def k0_off6 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3231 : Index := Scalar.indexCast arg14
  let c640_1546 : Index := 640#32
  let c0_1547 : Index := 0#32
  ![v3231.toNat, 640, 0]
def k0_off7 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3260 : Index := Scalar.indexCast arg14
  let c800 : Index := 800#32
  let c0_1556 : Index := 0#32
  ![v3260.toNat, 800, 0]
def k0_off8 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3289 : Index := Scalar.indexCast arg14
  let c960 : Index := 960#32
  let c0_1565 : Index := 0#32
  ![v3289.toNat, 960, 0]
def k0_off9 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3318 : Index := Scalar.indexCast arg14
  let c1120 : Index := 1120#32
  let c0_1574 : Index := 0#32
  ![v3318.toNat, 1120, 0]
def k0_off10 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3325 : Index := Scalar.indexCast arg14
  let c0_1575 : Index := 0#32
  let c0_1576 : Index := 0#32
  ![v3325.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x80x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x80x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1280x384 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== VRefIdeal.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x5120 : Shape := ⟨2, ![2560, 5120]⟩
abbrev S40x5120 : Shape := ⟨2, ![40, 5120]⟩
abbrev S_ : Shape := ⟨0, ![]⟩
abbrev S20x5120 : Shape := ⟨2, ![20, 5120]⟩
abbrev S20x128x5120 : Shape := ⟨3, ![20, 128, 5120]⟩
abbrev S20x1x5120 : Shape := ⟨3, ![20, 1, 5120]⟩
abbrev S1536x2560 : Shape := ⟨2, ![1536, 2560]⟩
abbrev S1x1x128x5120 : Shape := ⟨4, ![1, 1, 128, 5120]⟩
abbrev S128x5120 : Shape := ⟨2, ![128, 5120]⟩
abbrev S1536x1 : Shape := ⟨2, ![1536, 1]⟩
abbrev S4x384x32x160 : Shape := ⟨4, ![4, 384, 32, 160]⟩
abbrev S4x32 : Shape := ⟨2, ![4, 32]⟩
abbrev S4x1x32x1 : Shape := ⟨4, ![4, 1, 32, 1]⟩
abbrev S4x32x160x384 : Shape := ⟨4, ![4, 32, 160, 384]⟩
abbrev S4x5120x384 : Shape := ⟨3, ![4, 5120, 384]⟩
abbrev S4x32x1 : Shape := ⟨3, ![4, 32, 1]⟩
abbrev S4x32x128 : Shape := ⟨3, ![4, 32, 128]⟩

abbrev nBuf : Space → Nat
  | .hbm => 90
  | .vmem => 2
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S2560x5120, .i8⟩
  | .hbm, ⟨9, _⟩ => ⟨S40x5120, .f32⟩
  | .hbm, ⟨10, _⟩ => ⟨S2560x5120, .i32⟩
  | .hbm, ⟨11, _⟩ => ⟨S_, .i32⟩
  | .hbm, ⟨12, _⟩ => ⟨S2560x5120, .i32⟩
  | .hbm, ⟨13, _⟩ => ⟨S2560x5120, .i32⟩
  | .hbm, ⟨14, _⟩ => ⟨S_, .i32⟩
  | .hbm, ⟨15, _⟩ => ⟨S2560x5120, .i32⟩
  | .hbm, ⟨16, _⟩ => ⟨S2560x5120, .i32⟩
  | .hbm, ⟨17, _⟩ => ⟨S_, .i32⟩
  | .hbm, ⟨18, _⟩ => ⟨S2560x5120, .i32⟩
  | .hbm, ⟨19, _⟩ => ⟨S2560x5120, .i1⟩
  | .hbm, ⟨20, _⟩ => ⟨S_, .i32⟩
  | .hbm, ⟨21, _⟩ => ⟨S2560x5120, .i32⟩
  | .hbm, ⟨22, _⟩ => ⟨S2560x5120, .i32⟩
  | .hbm, ⟨23, _⟩ => ⟨S2560x5120, .i32⟩
  | .hbm, ⟨24, _⟩ => ⟨S_, .i32⟩
  | .hbm, ⟨25, _⟩ => ⟨S2560x5120, .i32⟩
  | .hbm, ⟨26, _⟩ => ⟨S2560x5120, .i1⟩
  | .hbm, ⟨27, _⟩ => ⟨S_, .i32⟩
  | .hbm, ⟨28, _⟩ => ⟨S2560x5120, .i32⟩
  | .hbm, ⟨29, _⟩ => ⟨S2560x5120, .i32⟩
  | .hbm, ⟨30, _⟩ => ⟨S2560x5120, .i32⟩
  | .hbm, ⟨31, _⟩ => ⟨S2560x5120, .bf16⟩
  | .hbm, ⟨32, _⟩ => ⟨S2560x5120, .bf16⟩
  | .hbm, ⟨33, _⟩ => ⟨S20x5120, .f32⟩
  | .hbm, ⟨34, _⟩ => ⟨S20x128x5120, .bf16⟩
  | .hbm, ⟨35, _⟩ => ⟨S20x5120, .bf16⟩
  | .hbm, ⟨36, _⟩ => ⟨S20x1x5120, .bf16⟩
  | .hbm, ⟨37, _⟩ => ⟨S20x128x5120, .bf16⟩
  | .hbm, ⟨38, _⟩ => ⟨S20x128x5120, .bf16⟩
  | .hbm, ⟨39, _⟩ => ⟨S2560x5120, .bf16⟩
  | .hbm, ⟨40, _⟩ => ⟨S20x5120, .f32⟩
  | .hbm, ⟨41, _⟩ => ⟨S20x128x5120, .bf16⟩
  | .hbm, ⟨42, _⟩ => ⟨S20x5120, .bf16⟩
  | .hbm, ⟨43, _⟩ => ⟨S20x1x5120, .bf16⟩
  | .hbm, ⟨44, _⟩ => ⟨S20x128x5120, .bf16⟩
  | .hbm, ⟨45, _⟩ => ⟨S20x128x5120, .bf16⟩
  | .hbm, ⟨46, _⟩ => ⟨S2560x5120, .bf16⟩
  | .hbm, ⟨47, _⟩ => ⟨S1536x2560, .bf16⟩
  | .hbm, ⟨48, _⟩ => ⟨S1536x5120, .f32⟩
  | .hbm, ⟨49, _⟩ => ⟨S1536x2560, .bf16⟩
  | .hbm, ⟨50, _⟩ => ⟨S1536x5120, .f32⟩
  | .hbm, ⟨51, _⟩ => ⟨S1536x5120, .f32⟩
  | .hbm, ⟨52, _⟩ => ⟨S1536x128, .bf16⟩
  | .hbm, ⟨53, _⟩ => ⟨S1x1x128x5120, .bf16⟩
  | .hbm, ⟨54, _⟩ => ⟨S128x5120, .bf16⟩
  | .hbm, ⟨55, _⟩ => ⟨S1536x5120, .f32⟩
  | .hbm, ⟨56, _⟩ => ⟨S1536x1, .f32⟩
  | .hbm, ⟨57, _⟩ => ⟨S1536x5120, .f32⟩
  | .hbm, ⟨58, _⟩ => ⟨S1536x5120, .f32⟩
  | .hbm, ⟨59, _⟩ => ⟨S1536x5120, .f32⟩
  | .hbm, ⟨60, _⟩ => ⟨S4x384x32x160, .f32⟩
  | .hbm, ⟨61, _⟩ => ⟨S4x384x32x160, .f32⟩
  | .hbm, ⟨62, _⟩ => ⟨S_, .f32⟩
  | .hbm, ⟨63, _⟩ => ⟨S4x32, .f32⟩
  | .hbm, ⟨64, _⟩ => ⟨S_, .f32⟩
  | .hbm, ⟨65, _⟩ => ⟨S4x32, .f32⟩
  | .hbm, ⟨66, _⟩ => ⟨S4x32, .i1⟩
  | .hbm, ⟨67, _⟩ => ⟨S_, .f32⟩
  | .hbm, ⟨68, _⟩ => ⟨S4x32, .f32⟩
  | .hbm, ⟨69, _⟩ => ⟨S4x32, .f32⟩
  | .hbm, ⟨70, _⟩ => ⟨S_, .f32⟩
  | .hbm, ⟨71, _⟩ => ⟨S_, .f32⟩
  | .hbm, ⟨72, _⟩ => ⟨S4x32, .f32⟩
  | .hbm, ⟨73, _⟩ => ⟨S4x32, .f32⟩
  | .hbm, ⟨74, _⟩ => ⟨S4x1x32x1, .f32⟩
  | .hbm, ⟨75, _⟩ => ⟨S4x384x32x160, .f32⟩
  | .hbm, ⟨76, _⟩ => ⟨S4x384x32x160, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4x384x32x160, .f32⟩
  | .hbm, ⟨81, _⟩ => ⟨S4x384x32x160, .f32⟩
  | .hbm, ⟨82, _⟩ => ⟨S_, .f32⟩
  | .hbm, ⟨83, _⟩ => ⟨S4x384x32x160, .f32⟩
  | .hbm, ⟨84, _⟩ => ⟨S4x384x32x160, .f32⟩
  | .hbm, ⟨85, _⟩ => ⟨S4x32x160x384, .f32⟩
  | .hbm, ⟨86, _⟩ => ⟨S4x5120x384, .f32⟩
  | .hbm, ⟨87, _⟩ => ⟨S4x32x1, .f32⟩
  | .hbm, ⟨88, _⟩ => ⟨S4x32x128, .f32⟩
  | .hbm, ⟨89, _⟩ => ⟨S4x5120x384, .fp8e4m3⟩
  | .local _ .vmem, ⟨0, _⟩ => ⟨S4x5120x384, .f32⟩
  | .local _ .vmem, ⟨1, _⟩ => ⟨S4x5120x384, .fp8e4m3⟩
  | _, _ => ⟨S1536x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_cst_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x5120x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== VB.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S4x5120x384 : Shape := ⟨3, ![4, 5120, 384]⟩
abbrev S4x32x128 : Shape := ⟨3, ![4, 32, 128]⟩
abbrev S2560x1280 : Shape := ⟨2, ![2560, 1280]⟩
abbrev S40x1280 : Shape := ⟨2, ![40, 1280]⟩
abbrev S1x1x128x1280 : Shape := ⟨4, ![1, 1, 128, 1280]⟩
abbrev S4x1280x384 : Shape := ⟨3, ![4, 1280, 384]⟩
abbrev S4x8x128 : Shape := ⟨3, ![4, 8, 128]⟩
abbrev S5120x256 : Shape := ⟨2, ![5120, 256]⟩
abbrev S1536x1280 : Shape := ⟨2, ![1536, 1280]⟩
abbrev S128x256 : Shape := ⟨2, ![128, 256]⟩
abbrev S32x256 : Shape := ⟨2, ![32, 256]⟩
abbrev S1x256 : Shape := ⟨2, ![1, 256]⟩
abbrev S1536x256 : Shape := ⟨2, ![1536, 256]⟩
abbrev S1x1x128x256 : Shape := ⟨4, ![1, 1, 128, 256]⟩
abbrev S1536x1 : Shape := ⟨2, ![1536, 1]⟩
abbrev S384x1280 : Shape := ⟨2, ![384, 1280]⟩
abbrev S1280x384 : Shape := ⟨2, ![1280, 384]⟩
abbrev S80x384 : Shape := ⟨2, ![80, 384]⟩
abbrev S384 : Shape := ⟨1, ![384]⟩
abbrev S1x384 : Shape := ⟨2, ![1, 384]⟩
abbrev S1 : Shape := ⟨1, ![1]⟩
abbrev S1x1 : Shape := ⟨2, ![1, 1]⟩
abbrev S160x384 : Shape := ⟨2, ![160, 384]⟩
abbrev S1x160x384 : Shape := ⟨3, ![1, 160, 384]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 10
  | .vmem => 18
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S4x5120x384, .fp8e4m3⟩
  | .hbm, ⟨9, _⟩ => ⟨S4x32x128, .f32⟩
  | .local _ .vmem, ⟨0, _⟩ => ⟨S1536x5120, .bf16⟩
  | .local _ .vmem, ⟨1, _⟩ => ⟨S1536x128, .f32⟩
  | .local _ .vmem, ⟨2, _⟩ => ⟨S1536x128, .bf16⟩
  | .local _ .vmem, ⟨3, _⟩ => ⟨S2560x1280, .i8⟩
  | .local _ .vmem, ⟨4, _⟩ => ⟨S2560x1280, .i8⟩
  | .local _ .vmem, ⟨5, _⟩ => ⟨S40x1280, .f32⟩
  | .local _ .vmem, ⟨6, _⟩ => ⟨S40x1280, .f32⟩
  | .local _ .vmem, ⟨7, _⟩ => ⟨S1x1x128x1280, .bf16⟩
  | .local _ .vmem, ⟨8, _⟩ => ⟨S1x1x128x1280, .bf16⟩
  | .local _ .vmem, ⟨9, _⟩ => ⟨S4x80x384, .f32⟩
  | .local _ .vmem, ⟨10, _⟩ => ⟨S4x80x384, .f32⟩
  | .local _ .vmem, ⟨11, _⟩ => ⟨S4x1280x384, .fp8e4m3⟩
  | .local _ .vmem, ⟨12, _⟩ => ⟨S4x1280x384, .fp8e4m3⟩
  | .local _ .vmem, ⟨13, _⟩ => ⟨S4x8x128, .f32⟩
  | .local _ .vmem, ⟨14, _⟩ => ⟨S4x8x128, .f32⟩
  | .local _ .vmem, ⟨15, _⟩ => ⟨S5120x256, .bf16⟩
  | .local _ .vmem, ⟨16, _⟩ => ⟨S5120x256, .bf16⟩
  | .local _ .vmem, ⟨17, _⟩ => ⟨S1536x1280, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32_1498 : BitVec 32 := 4#32
  let v3070 : BitVec 32 := Scalar.addi c0_i32 c4_i32_1498
  let c1_i32 : BitVec 32 := 1#32
  ⟨c0_i32, v3070, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  v3071
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c384_i32 : BitVec 32 := 384#32
  let v3071 : BitVec 32 := Scalar.muli arg14 c384_i32
  let v3072 : BitVec 32 := v3071
  let v3073 : Index := Scalar.indexCast v3072
  let c0_1500 : Index := 0#32
  ![v3073.toNat, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3115 : Index := Scalar.indexCast arg14
  let c0_1509 : Index := 0#32
  let c0_1510 : Index := 0#32
  ![v3115.toNat, 0, 0]
def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3144 : Index := Scalar.indexCast arg14
  let c160 : Index := 160#32
  let c0_1519 : Index := 0#32
  ![v3144.toNat, 160, 0]
def k0_off4 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3173 : Index := Scalar.indexCast arg14
  let c320 : Index := 320#32
  let c0_1528 : Index := 0#32
  ![v3173.toNat, 320, 0]
def k0_off5 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3202 : Index := Scalar.indexCast arg14
  let c480 : Index := 480#32
  let c0_1537 : Index := 0#32
  ![v3202.toNat, 480, 0]
def k0_off6 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3231 : Index := Scalar.indexCast arg14
  let c640_1546 : Index := 640#32
  let c0_1547 : Index := 0#32
  ![v3231.toNat, 640, 0]
def k0_off7 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3260 : Index := Scalar.indexCast arg14
  let c800 : Index := 800#32
  let c0_1556 : Index := 0#32
  ![v3260.toNat, 800, 0]
def k0_off8 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3289 : Index := Scalar.indexCast arg14
  let c960 : Index := 960#32
  let c0_1565 : Index := 0#32
  ![v3289.toNat, 960, 0]
def k0_off9 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3318 : Index := Scalar.indexCast arg14
  let c1120 : Index := 1120#32
  let c0_1574 : Index := 0#32
  ![v3318.toNat, 1120, 0]
def k0_off10 (k0_t1 : Fin k0_t1_loop.trips) : Fin 3 → Nat :=
  let c0_i32 : BitVec 32 := 0#32
  let c1_i32 : BitVec 32 := 1#32
  let arg14 : BitVec 32 := Scf.iv c0_i32 c1_i32 k0_t1
  let v3325 : Index := Scalar.indexCast arg14
  let c0_1575 : Index := 0#32
  let c0_1576 : Index := 0#32
  ![v3325.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x80x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x80x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1280x384 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== VBRefIdeal.lean ====
abbrev S1536x5120 : Shape := ⟨2, ![1536, 5120]⟩
abbrev S1536x128 : Shape := ⟨2, ![1536, 128]⟩
abbrev S1536x384 : Shape := ⟨2, ![1536, 384]⟩
abbrev S2560x15360 : Shape := ⟨2, ![2560, 15360]⟩
abbrev S40x15360 : Shape := ⟨2, ![40, 15360]⟩
abbrev S2x3x128x5120 : Shape := ⟨4, ![2, 3, 128, 5120]⟩
abbrev S4x80x384 : Shape := ⟨3, ![4, 80, 384]⟩
abbrev S2560x5120 : Shape := ⟨2, ![2560, 5120]⟩
abbrev S40x5120 : Shape := ⟨2, ![40, 5120]⟩
abbrev S_ : Shape := ⟨0, ![]⟩
abbrev S20x5120 : Shape := ⟨2, ![20, 5120]⟩
abbrev S20x128x5120 : Shape := ⟨3, ![20, 128, 5120]⟩
abbrev S20x1x5120 : Shape := ⟨3, ![20, 1, 5120]⟩
abbrev S1536x2560 : Shape := ⟨2, ![1536, 2560]⟩
abbrev S1x1x128x5120 : Shape := ⟨4, ![1, 1, 128, 5120]⟩
abbrev S128x5120 : Shape := ⟨2, ![128, 5120]⟩
abbrev S1536x1 : Shape := ⟨2, ![1536, 1]⟩
abbrev S4x384x32x160 : Shape := ⟨4, ![4, 384, 32, 160]⟩
abbrev S4x32 : Shape := ⟨2, ![4, 32]⟩
abbrev S4x1x32x1 : Shape := ⟨4, ![4, 1, 32, 1]⟩
abbrev S4x32x160x384 : Shape := ⟨4, ![4, 32, 160, 384]⟩
abbrev S4x5120x384 : Shape := ⟨3, ![4, 5120, 384]⟩
abbrev S4x32x1 : Shape := ⟨3, ![4, 32, 1]⟩
abbrev S4x32x128 : Shape := ⟨3, ![4, 32, 128]⟩

abbrev nBuf : Space → Nat
  | .hbm => 90
  | .vmem => 2
  | .smem => 0
  | _ => 0

abbrev bufTy : (tb : Table) → Fin (tcTables nBuf tb) → BufTy
  | .hbm, ⟨0, _⟩ => ⟨S1536x5120, .bf16⟩
  | .hbm, ⟨1, _⟩ => ⟨S1536x128, .f32⟩
  | .hbm, ⟨2, _⟩ => ⟨S1536x384, .bf16⟩
  | .hbm, ⟨3, _⟩ => ⟨S2560x15360, .i8⟩
  | .hbm, ⟨4, _⟩ => ⟨S40x15360, .f32⟩
  | .hbm, ⟨5, _⟩ => ⟨S2x3x128x5120, .bf16⟩
  | .hbm, ⟨6, _⟩ => ⟨S4x80x384, .f32⟩
  | .hbm, ⟨7, _⟩ => ⟨S4x80x384, .f32⟩
  | .hbm, ⟨8, _⟩ => ⟨S2560x5120, .i8⟩
  | .hbm, ⟨9, _⟩ => ⟨S40x5120, .f32⟩
  | .hbm, ⟨10, _⟩ => ⟨S2560x5120, .i32⟩
  | .hbm, ⟨11, _⟩ => ⟨S_, .i32⟩
  | .hbm, ⟨12, _⟩ => ⟨S2560x5120, .i32⟩
  | .hbm, ⟨13, _⟩ => ⟨S2560x5120, .i32⟩
  | .hbm, ⟨14, _⟩ => ⟨S_, .i32⟩
  | .hbm, ⟨15, _⟩ => ⟨S2560x5120, .i32⟩
  | .hbm, ⟨16, _⟩ => ⟨S2560x5120, .i32⟩
  | .hbm, ⟨17, _⟩ => ⟨S_, .i32⟩
  | .hbm, ⟨18, _⟩ => ⟨S2560x5120, .i32⟩
  | .hbm, ⟨19, _⟩ => ⟨S2560x5120, .i1⟩
  | .hbm, ⟨20, _⟩ => ⟨S_, .i32⟩
  | .hbm, ⟨21, _⟩ => ⟨S2560x5120, .i32⟩
  | .hbm, ⟨22, _⟩ => ⟨S2560x5120, .i32⟩
  | .hbm, ⟨23, _⟩ => ⟨S2560x5120, .i32⟩
  | .hbm, ⟨24, _⟩ => ⟨S_, .i32⟩
  | .hbm, ⟨25, _⟩ => ⟨S2560x5120, .i32⟩
  | .hbm, ⟨26, _⟩ => ⟨S2560x5120, .i1⟩
  | .hbm, ⟨27, _⟩ => ⟨S_, .i32⟩
  | .hbm, ⟨28, _⟩ => ⟨S2560x5120, .i32⟩
  | .hbm, ⟨29, _⟩ => ⟨S2560x5120, .i32⟩
  | .hbm, ⟨30, _⟩ => ⟨S2560x5120, .i32⟩
  | .hbm, ⟨31, _⟩ => ⟨S2560x5120, .bf16⟩
  | .hbm, ⟨32, _⟩ => ⟨S2560x5120, .bf16⟩
  | .hbm, ⟨33, _⟩ => ⟨S20x5120, .f32⟩
  | .hbm, ⟨34, _⟩ => ⟨S20x128x5120, .bf16⟩
  | .hbm, ⟨35, _⟩ => ⟨S20x5120, .bf16⟩
  | .hbm, ⟨36, _⟩ => ⟨S20x1x5120, .bf16⟩
  | .hbm, ⟨37, _⟩ => ⟨S20x128x5120, .bf16⟩
  | .hbm, ⟨38, _⟩ => ⟨S20x128x5120, .bf16⟩
  | .hbm, ⟨39, _⟩ => ⟨S2560x5120, .bf16⟩
  | .hbm, ⟨40, _⟩ => ⟨S20x5120, .f32⟩
  | .hbm, ⟨41, _⟩ => ⟨S20x128x5120, .bf16⟩
  | .hbm, ⟨42, _⟩ => ⟨S20x5120, .bf16⟩
  | .hbm, ⟨43, _⟩ => ⟨S20x1x5120, .bf16⟩
  | .hbm, ⟨44, _⟩ => ⟨S20x128x5120, .bf16⟩
  | .hbm, ⟨45, _⟩ => ⟨S20x128x5120, .bf16⟩
  | .hbm, ⟨46, _⟩ => ⟨S2560x5120, .bf16⟩
  | .hbm, ⟨47, _⟩ => ⟨S1536x2560, .bf16⟩
  | .hbm, ⟨48, _⟩ => ⟨S1536x5120, .f32⟩
  | .hbm, ⟨49, _⟩ => ⟨S1536x2560, .bf16⟩
  | .hbm, ⟨50, _⟩ => ⟨S1536x5120, .f32⟩
  | .hbm, ⟨51, _⟩ => ⟨S1536x5120, .f32⟩
  | .hbm, ⟨52, _⟩ => ⟨S1536x128, .bf16⟩
  | .hbm, ⟨53, _⟩ => ⟨S1x1x128x5120, .bf16⟩
  | .hbm, ⟨54, _⟩ => ⟨S128x5120, .bf16⟩
  | .hbm, ⟨55, _⟩ => ⟨S1536x5120, .f32⟩
  | .hbm, ⟨56, _⟩ => ⟨S1536x1, .f32⟩
  | .hbm, ⟨57, _⟩ => ⟨S1536x5120, .f32⟩
  | .hbm, ⟨58, _⟩ => ⟨S1536x5120, .f32⟩
  | .hbm, ⟨59, _⟩ => ⟨S1536x5120, .f32⟩
  | .hbm, ⟨60, _⟩ => ⟨S4x384x32x160, .f32⟩
  | .hbm, ⟨61, _⟩ => ⟨S4x384x32x160, .f32⟩
  | .hbm, ⟨62, _⟩ => ⟨S_, .f32⟩
  | .hbm, ⟨63, _⟩ => ⟨S4x32, .f32⟩
  | .hbm, ⟨64, _⟩ => ⟨S_, .f32⟩
  | .hbm, ⟨65, _⟩ => ⟨S4x32, .f32⟩
  | .hbm, ⟨66, _⟩ => ⟨S4x32, .i1⟩
  | .hbm, ⟨67, _⟩ => ⟨S_, .f32⟩
  | .hbm, ⟨68, _⟩ => ⟨S4x32, .f32⟩
  | .hbm, ⟨69, _⟩ => ⟨S4x32, .f32⟩
  | .hbm, ⟨70, _⟩ => ⟨S_, .f32⟩
  | .hbm, ⟨71, _⟩ => ⟨S_, .f32⟩
  | .hbm, ⟨72, _⟩ => ⟨S4x32, .f32⟩
  | .hbm, ⟨73, _⟩ => ⟨S4x32, .f32⟩
  | .hbm, ⟨74, _⟩ => ⟨S4x1x32x1, .f32⟩
  | .hbm, ⟨75, _⟩ => ⟨S4x384x32x160, .f32⟩
  | .hbm, ⟨76, _⟩ => ⟨S4x384x32x160, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4x384x32x160, .f32⟩
  | .hbm, ⟨81, _⟩ => ⟨S4x384x32x160, .f32⟩
  | .hbm, ⟨82, _⟩ => ⟨S_, .f32⟩
  | .hbm, ⟨83, _⟩ => ⟨S4x384x32x160, .f32⟩
  | .hbm, ⟨84, _⟩ => ⟨S4x384x32x160, .f32⟩
  | .hbm, ⟨85, _⟩ => ⟨S4x32x160x384, .f32⟩
  | .hbm, ⟨86, _⟩ => ⟨S4x5120x384, .f32⟩
  | .hbm, ⟨87, _⟩ => ⟨S4x32x1, .f32⟩
  | .hbm, ⟨88, _⟩ => ⟨S4x32x128, .f32⟩
  | .hbm, ⟨89, _⟩ => ⟨S4x5120x384, .fp8e4m3⟩
  | .local _ .vmem, ⟨0, _⟩ => ⟨S4x5120x384, .f32⟩
  | .local _ .vmem, ⟨1, _⟩ => ⟨S4x5120x384, .fp8e4m3⟩
  | _, _ => ⟨S1536x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_cst_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x5120x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== In.lean ====
abbrev S1536x2560 : Shape := ⟨2, ![1536, 2560]⟩
abbrev S1x5120 : Shape := ⟨2, ![1, 5120]⟩
abbrev S2x3x5120x128 : Shape := ⟨4, ![2, 3, 5120, 128]⟩
abbrev S1536x5120 : Shape := ⟨2, ![1536, 5120]⟩
abbrev S1536x128 : Shape := ⟨2, ![1536, 128]⟩
abbrev S1536x384 : Shape := ⟨2, ![1536, 384]⟩
abbrev S256x2560 : Shape := ⟨2, ![256, 2560]⟩
abbrev S1x3x5120x128 : Shape := ⟨4, ![1, 3, 5120, 128]⟩
abbrev S256x5120 : Shape := ⟨2, ![256, 5120]⟩
abbrev S256x128 : Shape := ⟨2, ![256, 128]⟩
abbrev S256x384 : Shape := ⟨2, ![256, 384]⟩
abbrev S256 : Shape := ⟨1, ![256]⟩
abbrev S256x1 : Shape := ⟨2, ![256, 1]⟩
abbrev S1x2560 : Shape := ⟨2, ![1, 2560]⟩
abbrev S1x1x2560x128 : Shape := ⟨4, ![1, 1, 2560, 128]⟩
abbrev S2560x128 : Shape := ⟨2, ![2560, 128]⟩

abbrev nBuf : Space → Nat
  | .hbm => 8
  | .vmem => 14
  | .smem => 0
  | _ => 0

abbrev bufTy : (tb : Table) → Fin (tcTables nBuf tb) → BufTy
  | .hbm, ⟨0, _⟩ => ⟨S1536x2560, .bf16⟩
  | .hbm, ⟨1, _⟩ => ⟨S1536x2560, .bf16⟩
  | .hbm, ⟨2, _⟩ => ⟨S1x5120, .f32⟩
  | .hbm, ⟨3, _⟩ => ⟨S2x3x5120x128, .bf16⟩
  | .hbm, ⟨4, _⟩ => ⟨S1536x5120, .i8⟩
  | .hbm, ⟨5, _⟩ => ⟨S1536x5120, .bf16⟩
  | .hbm, ⟨6, _⟩ => ⟨S1536x128, .f32⟩
  | .hbm, ⟨7, _⟩ => ⟨S1536x384, .bf16⟩
  | .local _ .vmem, ⟨0, _⟩ => ⟨S256x2560, .bf16⟩
  | .local _ .vmem, ⟨1, _⟩ => ⟨S256x2560, .bf16⟩
  | .local _ .vmem, ⟨2, _⟩ => ⟨S256x2560, .bf16⟩
  | .local _ .vmem, ⟨3, _⟩ => ⟨S256x2560, .bf16⟩
  | .local _ .vmem, ⟨4, _⟩ => ⟨S1x5120, .f32⟩
  | .local _ .vmem, ⟨5, _⟩ => ⟨S1x3x5120x128, .bf16⟩
  | .local _ .vmem, ⟨6, _⟩ => ⟨S256x5120, .i8⟩
  | .local _ .vmem, ⟨7, _⟩ => ⟨S256x5120, .i8⟩
  | .local _ .vmem, ⟨8, _⟩ => ⟨S256x5120, .bf16⟩
  | .local _ .vmem, ⟨9, _⟩ => ⟨S256x5120, .bf16⟩
  | .local _ .vmem, ⟨10, _⟩ => ⟨S256x128, .f32⟩
  | .local _ .vmem, ⟨11, _⟩ => ⟨S256x128, .f32⟩
  | .local _ .vmem, ⟨12, _⟩ => ⟨S256x384, .bf16⟩
  | .local _ .vmem, ⟨13, _⟩ => ⟨S256x384, .bf16⟩
  | _, _ => ⟨S1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x5120x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InRefIdeal.lean ====
abbrev S1536x2560 : Shape := ⟨2, ![1536, 2560]⟩
abbrev S1x5120 : Shape := ⟨2, ![1, 5120]⟩
abbrev S2x3x5120x128 : Shape := ⟨4, ![2, 3, 5120, 128]⟩
abbrev S1536x5120 : Shape := ⟨2, ![1536, 5120]⟩
abbrev S_ : Shape := ⟨0, ![]⟩
abbrev S1536 : Shape := ⟨1, ![1536]⟩
abbrev S1536x1 : Shape := ⟨2, ![1536, 1]⟩
abbrev S1x3x5120x128 : Shape := ⟨4, ![1, 3, 5120, 128]⟩
abbrev S3x5120x128 : Shape := ⟨3, ![3, 5120, 128]⟩
abbrev S1536x3x128 : Shape := ⟨3, ![1536, 3, 128]⟩
abbrev S1536x384 : Shape := ⟨2, ![1536, 384]⟩
abbrev S1536x128 : Shape := ⟨2, ![1536, 128]⟩

abbrev nBuf : Space → Nat
  | .hbm => 57
  | .vmem => 2
  | .smem => 0
  | _ => 0

abbrev bufTy : (tb : Table) → Fin (tcTables nBuf tb) → BufTy
  | .hbm, ⟨0, _⟩ => ⟨S1536x2560, .bf16⟩
  | .hbm, ⟨1, _⟩ => ⟨S1536x2560, .bf16⟩
  | .hbm, ⟨2, _⟩ => ⟨S1x5120, .f32⟩
  | .hbm, ⟨3, _⟩ => ⟨S2x3x5120x128, .bf16⟩
  | .hbm, ⟨4, _⟩ => ⟨S1536x2560, .f32⟩
  | .hbm, ⟨5, _⟩ => ⟨S1536x2560, .f32⟩
  | .hbm, ⟨6, _⟩ => ⟨S1536x5120, .f32⟩
  | .hbm, ⟨7, _⟩ => ⟨S1536x5120, .f32⟩
  | .hbm, ⟨8, _⟩ => ⟨S_, .f32⟩
  | .hbm, ⟨9, _⟩ => ⟨S1536, .f32⟩
  | .hbm, ⟨10, _⟩ => ⟨S1536x1, .f32⟩
  | .hbm, ⟨11, _⟩ => ⟨S_, .f32⟩
  | .hbm, ⟨12, _⟩ => ⟨S1536x1, .f32⟩
  | .hbm, ⟨13, _⟩ => ⟨S1536x1, .f32⟩
  | .hbm, ⟨14, _⟩ => ⟨S_, .f32⟩
  | .hbm, ⟨15, _⟩ => ⟨S1536x1, .f32⟩
  | .hbm, ⟨16, _⟩ => ⟨S1536x1, .f32⟩
  | .hbm, ⟨17, _⟩ => ⟨S1536x1, .f32⟩
  | .hbm, ⟨18, _⟩ => ⟨S1536x5120, .f32⟩
  | .hbm, ⟨19, _⟩ => ⟨S1536x5120, .f32⟩
  | .hbm, ⟨20, _⟩ => ⟨S1536x5120, .f32⟩
  | .hbm, ⟨21, _⟩ => ⟨S1536x5120, .f32⟩
  | .hbm, ⟨22, _⟩ => ⟨S1536x5120, .f32⟩
  | .hbm, ⟨23, _⟩ => ⟨S_, .f32⟩
  | .hbm, ⟨24, _⟩ => ⟨S1536, .f32⟩
  | .hbm, ⟨25, _⟩ => ⟨S_, .f32⟩
  | .hbm, ⟨26, _⟩ => ⟨S1536, .f32⟩
  | .hbm, ⟨27, _⟩ => ⟨S1536, .i1⟩
  | .hbm, ⟨28, _⟩ => ⟨S_, .f32⟩
  | .hbm, ⟨29, _⟩ => ⟨S1536, .f32⟩
  | .hbm, ⟨30, _⟩ => ⟨S1536, .f32⟩
  | .hbm, ⟨31, _⟩ => ⟨S_, .f32⟩
  | .hbm, ⟨32, _⟩ => ⟨S_, .f32⟩
  | .hbm, ⟨33, _⟩ => ⟨S1536, .f32⟩
  | .hbm, ⟨34, _⟩ => ⟨S1536, .f32⟩
  | .hbm, ⟨35, _⟩ => ⟨S1536x1, .f32⟩
  | .hbm, ⟨36, _⟩ => ⟨S1536x5120, .f32⟩
  | .hbm, ⟨37, _⟩ => ⟨S1536x5120, .f32⟩
  | .hbm, ⟨38, _⟩ => ⟨S1536x5120, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1536x5120, .f32⟩
  | .hbm, ⟨43, _⟩ => ⟨S1536x5120, .f32⟩
  | .hbm, ⟨44, _⟩ => ⟨S_, .f32⟩
  | .hbm, ⟨45, _⟩ => ⟨S1536x5120, .f32⟩
  | .hbm, ⟨46, _⟩ => ⟨S1536x5120, .f32⟩
  | .hbm, ⟨47, _⟩ => ⟨S1536x5120, .bf16⟩
  | .hbm, ⟨48, _⟩ => ⟨S1x3x5120x128, .bf16⟩
  | .hbm, ⟨49, _⟩ => ⟨S3x5120x128, .bf16⟩
  | .hbm, ⟨50, _⟩ => ⟨S1536x3x128, .f32⟩
  | .hbm, ⟨51, _⟩ => ⟨S1536x3x128, .bf16⟩
  | .hbm, ⟨52, _⟩ => ⟨S1536x384, .bf16⟩
  | .hbm, ⟨53, _⟩ => ⟨S1536x1, .f32⟩
  | .hbm, ⟨54, _⟩ => ⟨S1536x128, .f32⟩
  | .hbm, ⟨55, _⟩ => ⟨S1536x5120, .bf16⟩
  | .hbm, ⟨56, _⟩ => ⟨S1536x5120, .i8⟩
  | .local _ .vmem, ⟨0, _⟩ => ⟨S1536x5120, .f32⟩
  | .local _ .vmem, ⟨1, _⟩ => ⟨S1536x5120, .i8⟩
  | _, _ => ⟨S1536x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_cst_7 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Lin.lean ====
abbrev S1536x2560 : Shape := ⟨2, ![1536, 2560]⟩
abbrev S2x2560x2560 : Shape := ⟨3, ![2, 2560, 2560]⟩
abbrev S1x2560 : Shape := ⟨2, ![1, 2560]⟩
abbrev S1536x128 : Shape := ⟨2, ![1536, 128]⟩
abbrev S256x2560 : Shape := ⟨2, ![256, 2560]⟩
abbrev S1x2560x2560 : Shape := ⟨3, ![1, 2560, 2560]⟩
abbrev S256x128 : Shape := ⟨2, ![256, 128]⟩
abbrev S2560x2560 : Shape := ⟨2, ![2560, 2560]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S1536x2560, .f32⟩
  | .hbm, ⟨1, _⟩ => ⟨S1536x2560, .bf16⟩
  | .hbm, ⟨2, _⟩ => ⟨S2x2560x2560, .i8⟩
  | .hbm, ⟨3, _⟩ => ⟨S1x2560, .f32⟩
  | .hbm, ⟨4, _⟩ => ⟨S1x2560, .f32⟩
  | .hbm, ⟨5, _⟩ => ⟨S1536x2560, .f32⟩
  | .hbm, ⟨6, _⟩ => ⟨S1536x2560, .i8⟩
  | .hbm, ⟨7, _⟩ => ⟨S1536x128, .f32⟩
  | .hbm, ⟨8, _⟩ => ⟨S1536x2560, .i8⟩
  | .hbm, ⟨9, _⟩ => ⟨S1536x128, .f32⟩
  | .local _ .vmem, ⟨0, _⟩ => ⟨S256x2560, .f32⟩
  | .local _ .vmem, ⟨1, _⟩ => ⟨S256x2560, .f32⟩
  | .local _ .vmem, ⟨2, _⟩ => ⟨S256x2560, .bf16⟩
  | .local _ .vmem, ⟨3, _⟩ => ⟨S256x2560, .bf16⟩
  | .local _ .vmem, ⟨4, _⟩ => ⟨S1x2560x2560, .i8⟩
  | .local _ .vmem, ⟨5, _⟩ => ⟨S1x2560, .f32⟩
  | .local _ .vmem, ⟨6, _⟩ => ⟨S1x2560, .f32⟩
  | .local _ .vmem, ⟨7, _⟩ => ⟨S256x2560, .f32⟩
  | .local _ .vmem, ⟨8, _⟩ => ⟨S256x2560, .f32⟩
  | .local _ .vmem, ⟨9, _⟩ => ⟨S256x2560, .i8⟩
  | .local _ .vmem, ⟨10, _⟩ => ⟨S256x2560, .i8⟩
  | .local _ .vmem, ⟨11, _⟩ => ⟨S256x128, .f32⟩
  | .local _ .vmem, ⟨12, _⟩ => ⟨S256x128, .f32⟩
  | .local _ .vmem, ⟨13, _⟩ => ⟨S256x2560, .i8⟩
  | .local _ .vmem, ⟨14, _⟩ => ⟨S256x2560, .i8⟩
  | .local _ .vmem, ⟨15, _⟩ => ⟨S256x128, .f32⟩
  | .local _ .vmem, ⟨16, _⟩ => ⟨S256x128, .f32⟩
  | .local _ .vmem, ⟨17, _⟩ => ⟨S2560x2560, .bf16⟩
  | _, _ => ⟨S1536x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LinRefIdeal.lean ====
abbrev S1536x2560 : Shape := ⟨2, ![1536, 2560]⟩
abbrev S2x2560x2560 : Shape := ⟨3, ![2, 2560, 2560]⟩
abbrev S1x2560 : Shape := ⟨2, ![1, 2560]⟩
abbrev S1536x128 : Shape := ⟨2, ![1536, 128]⟩
abbrev S1536 : Shape := ⟨1, ![1536]⟩
abbrev S1536x1 : Shape := ⟨2, ![1536, 1]⟩
abbrev S1x2560x2560 : Shape := ⟨3, ![1, 2560, 2560]⟩
abbrev S2560x2560 : Shape := ⟨2, ![2560, 2560]⟩

abbrev nBuf : Space → Nat
  | .hbm => 10
  | .vmem => 10
  | .smem => 0
  | _ => 0

abbrev bufTy : (tb : Table) → Fin (tcTables nBuf tb) → BufTy
  | .hbm, ⟨0, _⟩ => ⟨S1536x2560, .f32⟩
  | .hbm, ⟨1, _⟩ => ⟨S1536x2560, .bf16⟩
  | .hbm, ⟨2, _⟩ => ⟨S2x2560x2560, .i8⟩
  | .hbm, ⟨3, _⟩ => ⟨S1x2560, .f32⟩
  | .hbm, ⟨4, _⟩ => ⟨S1x2560, .f32⟩
  | .hbm, ⟨5, _⟩ => ⟨S1536x2560, .f32⟩
  | .hbm, ⟨6, _⟩ => ⟨S1536x2560, .i8⟩
  | .hbm, ⟨7, _⟩ => ⟨S1536x128, .f32⟩
  | .hbm, ⟨8, _⟩ => ⟨S1536x2560, .i8⟩
  | .hbm, ⟨9, _⟩ => ⟨S1536x128, .f32⟩
  | .local _ .vmem, ⟨0, _⟩ => ⟨S1536x2560, .f32⟩
  | .local _ .vmem, ⟨1, _⟩ => ⟨S1536x2560, .bf16⟩
  | .local _ .vmem, ⟨2, _⟩ => ⟨S2x2560x2560, .i8⟩
  | .local _ .vmem, ⟨3, _⟩ => ⟨S1x2560, .f32⟩
  | .local _ .vmem, ⟨4, _⟩ => ⟨S1x2560, .f32⟩
  | .local _ .vmem, ⟨5, _⟩ => ⟨S1536x2560, .f32⟩
  | .local _ .vmem, ⟨6, _⟩ => ⟨S1536x2560, .i8⟩
  | .local _ .vmem, ⟨7, _⟩ => ⟨S1536x128, .f32⟩
  | .local _ .vmem, ⟨8, _⟩ => ⟨S1536x2560, .i8⟩
  | .local _ .vmem, ⟨9, _⟩ => ⟨S1536x128, .f32⟩
  | _, _ => ⟨S1536x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2560x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== LinB.lean ====
abbrev S1536x2560 : Shape := ⟨2, ![1536, 2560]⟩
abbrev S2x2560x2560 : Shape := ⟨3, ![2, 2560, 2560]⟩
abbrev S1x2560 : Shape := ⟨2, ![1, 2560]⟩
abbrev S1536x128 : Shape := ⟨2, ![1536, 128]⟩
abbrev S256x2560 : Shape := ⟨2, ![256, 2560]⟩
abbrev S1x2560x2560 : Shape := ⟨3, ![1, 2560, 2560]⟩
abbrev S256x128 : Shape := ⟨2, ![256, 128]⟩
abbrev S2560x2560 : Shape := ⟨2, ![2560, 2560]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S1536x2560, .f32⟩
  | .hbm, ⟨1, _⟩ => ⟨S1536x2560, .f32⟩
  | .hbm, ⟨2, _⟩ => ⟨S2x2560x2560, .i8⟩
  | .hbm, ⟨3, _⟩ => ⟨S1x2560, .f32⟩
  | .hbm, ⟨4, _⟩ => ⟨S1x2560, .f32⟩
  | .hbm, ⟨5, _⟩ => ⟨S1536x2560, .bf16⟩
  | .hbm, ⟨6, _⟩ => ⟨S1536x2560, .i8⟩
  | .hbm, ⟨7, _⟩ => ⟨S1536x128, .f32⟩
  | .hbm, ⟨8, _⟩ => ⟨S1536x2560, .i8⟩
  | .hbm, ⟨9, _⟩ => ⟨S1536x128, .f32⟩
  | .local _ .vmem, ⟨0, _⟩ => ⟨S256x2560, .f32⟩
  | .local _ .vmem, ⟨1, _⟩ => ⟨S256x2560, .f32⟩
  | .local _ .vmem, ⟨2, _⟩ => ⟨S256x2560, .f32⟩
  | .local _ .vmem, ⟨3, _⟩ => ⟨S256x2560, .f32⟩
  | .local _ .vmem, ⟨4, _⟩ => ⟨S1x2560x2560, .i8⟩
  | .local _ .vmem, ⟨5, _⟩ => ⟨S1x2560, .f32⟩
  | .local _ .vmem, ⟨6, _⟩ => ⟨S1x2560, .f32⟩
  | .local _ .vmem, ⟨7, _⟩ => ⟨S256x2560, .bf16⟩
  | .local _ .vmem, ⟨8, _⟩ => ⟨S256x2560, .bf16⟩
  | .local _ .vmem, ⟨9, _⟩ => ⟨S256x2560, .i8⟩
  | .local _ .vmem, ⟨10, _⟩ => ⟨S256x2560, .i8⟩
  | .local _ .vmem, ⟨11, _⟩ => ⟨S256x128, .f32⟩
  | .local _ .vmem, ⟨12, _⟩ => ⟨S256x128, .f32⟩
  | .local _ .vmem, ⟨13, _⟩ => ⟨S256x2560, .i8⟩
  | .local _ .vmem, ⟨14, _⟩ => ⟨S256x2560, .i8⟩
  | .local _ .vmem, ⟨15, _⟩ => ⟨S256x128, .f32⟩
  | .local _ .vmem, ⟨16, _⟩ => ⟨S256x128, .f32⟩
  | .local _ .vmem, ⟨17, _⟩ => ⟨S2560x2560, .bf16⟩
  | _, _ => ⟨S1536x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LinBRefIdeal.lean ====
abbrev S1536x2560 : Shape := ⟨2, ![1536, 2560]⟩
abbrev S2x2560x2560 : Shape := ⟨3, ![2, 2560, 2560]⟩
abbrev S1x2560 : Shape := ⟨2, ![1, 2560]⟩
abbrev S1536x128 : Shape := ⟨2, ![1536, 128]⟩
abbrev S1536 : Shape := ⟨1, ![1536]⟩
abbrev S1536x1 : Shape := ⟨2, ![1536, 1]⟩
abbrev S1x2560x2560 : Shape := ⟨3, ![1, 2560, 2560]⟩
abbrev S2560x2560 : Shape := ⟨2, ![2560, 2560]⟩

abbrev nBuf : Space → Nat
  | .hbm => 10
  | .vmem => 10
  | .smem => 0
  | _ => 0

abbrev bufTy : (tb : Table) → Fin (tcTables nBuf tb) → BufTy
  | .hbm, ⟨0, _⟩ => ⟨S1536x2560, .f32⟩
  | .hbm, ⟨1, _⟩ => ⟨S1536x2560, .f32⟩
  | .hbm, ⟨2, _⟩ => ⟨S2x2560x2560, .i8⟩
  | .hbm, ⟨3, _⟩ => ⟨S1x2560, .f32⟩
  | .hbm, ⟨4, _⟩ => ⟨S1x2560, .f32⟩
  | .hbm, ⟨5, _⟩ => ⟨S1536x2560, .bf16⟩
  | .hbm, ⟨6, _⟩ => ⟨S1536x2560, .i8⟩
  | .hbm, ⟨7, _⟩ => ⟨S1536x128, .f32⟩
  | .hbm, ⟨8, _⟩ => ⟨S1536x2560, .i8⟩
  | .hbm, ⟨9, _⟩ => ⟨S1536x128, .f32⟩
  | .local _ .vmem, ⟨0, _⟩ => ⟨S1536x2560, .f32⟩
  | .local _ .vmem, ⟨1, _⟩ => ⟨S1536x2560, .f32⟩
  | .local _ .vmem, ⟨2, _⟩ => ⟨S2x2560x2560, .i8⟩
  | .local _ .vmem, ⟨3, _⟩ => ⟨S1x2560, .f32⟩
  | .local _ .vmem, ⟨4, _⟩ => ⟨S1x2560, .f32⟩
  | .local _ .vmem, ⟨5, _⟩ => ⟨S1536x2560, .bf16⟩
  | .local _ .vmem, ⟨6, _⟩ => ⟨S1536x2560, .i8⟩
  | .local _ .vmem, ⟨7, _⟩ => ⟨S1536x128, .f32⟩
  | .local _ .vmem, ⟨8, _⟩ => ⟨S1536x2560, .i8⟩
  | .local _ .vmem, ⟨9, _⟩ => ⟨S1536x128, .f32⟩
  | _, _ => ⟨S1536x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1536x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2560x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Nibble.lean ====
/-
  PACKED FOUR-BIT WEIGHTS, READ AT AN ELEMENT. A packed byte holds two signed four-bit weights, the low nibble one of the
  first half of the rows, the high nibble one of the second half. The kernel decodes four bytes at a time: it reads four
  rows of bytes as one 32-bit word, shifts (for the low nibble), masks with 0xF0F0F0F0 and reads the words as bytes again.
  Every byte it gets is SIXTEEN TIMES the signed nibble, and the kernel multiplies it by the group's scale times 1/16.
  The reference decodes a byte at a time: mask or shift, then subtract 16 from a value of 8 or more.
  This file proves that the two give the same weight, `wLo b * s` and `wHi b * s`, for every byte `b` and scale `s`.
-/
module

public import Idealize.ShloMosaic.Lib.Pipeline.ValueKit
public import Idealize.ShloMosaic.Lib.BitcastFour

@[expose] public section

set_option maxRecDepth 16384

noncomputable section

namespace Cert.Weights

open Idealize.ShloMosaic

/-- The signed low nibble of a byte, as the reference decodes it. -/
def nibLo (b : BitVec 8) : BitVec 32 :=
  Scalar.select (IntOp.cmpi .sge (IntOp.andi (b.setWidth 32) 15#32) 8#32)
    (IntOp.subi (IntOp.andi (b.setWidth 32) 15#32) 16#32) (IntOp.andi (b.setWidth 32) 15#32)

/-- The signed high nibble of a byte, as the reference decodes it. -/
def nibHi (b : BitVec 8) : BitVec 32 :=
  Scalar.select (IntOp.cmpi .sge (IntOp.shrsi .host (b.setWidth 32) 4#32) 8#32)
    (IntOp.subi (IntOp.shrsi .host (b.setWidth 32) 4#32) 16#32) (IntOp.shrsi .host (b.setWidth 32) 4#32)

/-- The two weights of a byte, as numbers. -/
def wLo (b : BitVec 8) : EReal := (((nibLo b).toInt : ℝ) : EReal)
def wHi (b : BitVec 8) : EReal := (((nibHi b).toInt : ℝ) : EReal)

theorem shl_toInt : ∀ b : BitVec 8, (b <<< 4).toInt = 16 * (nibLo b).toInt := by decide +kernel

theorem mask_toInt : ∀ b : BitVec 8, (b &&& 0xF0#8).toInt = 16 * (nibHi b).toInt := by decide +kernel

theorem mask_bit8 : ∀ q : Fin 8, (0xF0#8 : BitVec 8).getLsbD q.val = decide (4 ≤ q.val) := by decide

/-- The mask 0xF0F0F0F0 keeps the high half of every byte. -/
theorem mask_bit : ∀ q : Fin 32, (4042322160#32 : BitVec 32).getLsbD q.val = decide (4 ≤ q.val % 8) := by decide

variable {R r n : ℕ}

/-- Words read as bytes: byte row `k` of a column is byte `k % 4` of word row `k / 4`. -/
theorem bytes_bit (y : (⟨2, ![r, n]⟩ : Shape).Idx → BitVec 32) (h' : (⟨2, ![r, n]⟩ : Shape).Bitcasts 32 ⟨2, ![R, n]⟩ 8)
    (k : Fin R) (l : Fin n) (a : Fin r) (ha : a.val = k.val / 4) (q : ℕ) (hq : q < 8) :
    (bitcast ⟨2, ![R, n]⟩ 8 y h' (ix2 k l)).getLsbD q = (y (ix2 a l)).getLsbD (8 * (k.val % 4) + q) := by
  rw [bitcast_getLsbD y h' _ q hq (by decide)]
  have e0 : (⟨2, ![R, n]⟩ : Shape).row (ix2 k l) = k.val := rfl
  have e2 : ((⟨2, ![R, n]⟩ : Shape).row (ix2 k l) * 8 + q) % 32 = 8 * (k.val % 4) + q := by rw [e0]; omega
  rw [e2]
  congr 2
  funext c
  match c with
  | ⟨0, _⟩ => exact Fin.ext ((h'.srcIdx_row _ _ _ ⟨0, Nat.zero_lt_two⟩ rfl).trans (by show _ = a.val; omega))
  | ⟨1, _⟩ => exact Fin.ext (h'.srcIdx_other _ _ _ ⟨1, Nat.one_lt_two⟩ (by show ¬ 1 + 2 = 2; omega))

/-- Bytes read as words: bits `8 * (k % 4) + q` of word row `k / 4` are the bits `q` of byte row `k`. -/
theorem word_bit (x : (⟨2, ![R, n]⟩ : Shape).Idx → BitVec 8) (h : (⟨2, ![R, n]⟩ : Shape).Bitcasts 8 ⟨2, ![r, n]⟩ 32)
    (k : Fin R) (l : Fin n) (a : Fin r) (ha : a.val = k.val / 4) (q : ℕ) (hq : q < 8) :
    (bitcast ⟨2, ![r, n]⟩ 32 x h (ix2 a l)).getLsbD (8 * (k.val % 4) + q) = (x (ix2 k l)).getLsbD q := by
  refine (bitcast_8_32_getLsbD_ix2 x h a l _ (by omega) k (by omega)).trans ?_
  rw [show (8 * (k.val % 4) + q) % 8 = q by omega]
  rfl

/-- The bytes of the words shifted left by four and masked are the bytes shifted left by four. -/
theorem lo_byte (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (k : Fin R) (l : Fin n) (hk : k.val / 4 < r) :
    bitcast ⟨2, ![R, n]⟩ 8 (andi (shli (bitcast ⟨2, ![r, n]⟩ 32 x h) (broadcast ⟨2, ![r, n]⟩ 4#32))
      (broadcast ⟨2, ![r, n]⟩ 4042322160#32)) h' (ix2 k l) = x (ix2 k l) <<< 4 := by
  apply BitVec.eq_of_getLsbD_eq
  intro q hq
  rw [bytes_bit _ h' k l ⟨k.val / 4, hk⟩ rfl q hq]
  show (((bitcast ⟨2, ![r, n]⟩ 32 x h (ix2 ⟨k.val / 4, hk⟩ l)) <<< 4) &&& 4042322160#32).getLsbD _ = _
  rw [BitVec.getLsbD_and, BitVec.getLsbD_shiftLeft, BitVec.getLsbD_shiftLeft,
    mask_bit ⟨8 * (k.val % 4) + q, by omega⟩]
  by_cases h4 : 4 ≤ q
  · have e : 8 * (k.val % 4) + q - 4 = 8 * (k.val % 4) + (q - 4) := by omega
    rw [e, word_bit x h k l ⟨k.val / 4, hk⟩ rfl (q - 4) (by omega)]
    have h8 : 4 ≤ (8 * (k.val % 4) + q) % 8 := by omega
    have h9 : 8 * (k.val % 4) + q < 32 := by omega
    have h10 : ¬ 8 * (k.val % 4) + q < 4 := by omega
    have h11 : ¬ q < 4 := by omega
    simp only [h8, h9, h10, h11, hq, decide_true, decide_false, Bool.not_false, Bool.and_true, Bool.true_and]
  · have h8 : ¬ 4 ≤ (8 * (k.val % 4) + q) % 8 := by omega
    have h11 : q < 4 := by omega
    simp only [h8, h11, decide_true, decide_false, Bool.not_true, Bool.and_false, Bool.false_and]

/-- The bytes of the masked words are the masked bytes. -/
theorem hi_byte (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (k : Fin R) (l : Fin n) (hk : k.val / 4 < r) :
    bitcast ⟨2, ![R, n]⟩ 8 (andi (bitcast ⟨2, ![r, n]⟩ 32 x h) (broadcast ⟨2, ![r, n]⟩ 4042322160#32)) h' (ix2 k l)
      = x (ix2 k l) &&& 0xF0#8 := by
  apply BitVec.eq_of_getLsbD_eq
  intro q hq
  rw [bytes_bit _ h' k l ⟨k.val / 4, hk⟩ rfl q hq]
  show ((bitcast ⟨2, ![r, n]⟩ 32 x h (ix2 ⟨k.val / 4, hk⟩ l)) &&& 4042322160#32).getLsbD _ = _
  rw [BitVec.getLsbD_and, BitVec.getLsbD_and, word_bit x h k l ⟨k.val / 4, hk⟩ rfl q hq,
    mask_bit ⟨8 * (k.val % 4) + q, by omega⟩]
  have e : (8 * (k.val % 4) + q) % 8 = q := by omega
  rw [e]
  congr 1
  exact (mask_bit8 ⟨q, hq⟩).symm

/-- Sixteen times a number, times a scale over sixteen. -/
theorem sixteen_mul (z : ℤ) (s : EReal) :
    (((16 * z : ℤ) : ℝ) : EReal) * (s * Ideal.ofBits .f32 0x3D800000#32) = (((z : ℤ) : ℝ) : EReal) * s := by
  have e : Ideal.ofBits .f32 0x3D800000#32 = (((1 : ℝ) / 16 : ℝ) : EReal) := by
    simp [Ideal.ofBits, Ideal.ieee, -EReal.coe_mul]; norm_num
  rw [e, mul_comm s, ← mul_assoc, ← EReal.coe_mul]
  congr 2
  push_cast
  ring

/-- The kernel's decoded low-nibble weights at an element: the reference's weight times the scale of the column's group. -/
theorem lo_field (b : IVec ⟨2, ![R, n]⟩ 8) (s : FVec Ideal ⟨2, ![1, n]⟩ .f32)
    (h : (⟨2, ![R, n]⟩ : Shape).Bitcasts 8 ⟨2, ![r, n]⟩ 32) (h' : (⟨2, ![r, n]⟩ : Shape).Bitcasts 32 ⟨2, ![R, n]⟩ 8)
    (hb : FTy.bf16.bits < FTy.f32.bits) (hbc : (⟨2, ![1, n]⟩ : Shape).Broadcasts ⟨2, ![R, n]⟩)
    (hsc : (⟨2, ![R, n]⟩ : Shape).ShapeCasts ⟨2, ![R, n]⟩) (k : Fin R) (l : Fin n) (hk : k.val / 4 < r) :
    shapeCast ⟨2, ![R, n]⟩ (mulf (sitofp .bf16 (bitcast ⟨2, ![R, n]⟩ 8
        (andi (shli (bitcast ⟨2, ![r, n]⟩ 32 b h) (broadcast ⟨2, ![r, n]⟩ 4#32)) (broadcast ⟨2, ![r, n]⟩ 4042322160#32)) h'))
      (broadcastTo ⟨2, ![R, n]⟩ (truncf .bf16 (mulf s (broadcast ⟨2, ![1, n]⟩ (Scalar.ofBits .f32 0x3D800000#32))) hb) hbc))
      hsc (ix2 k l) = wLo (b (ix2 k l)) * s (ix2 0 l) := by
  rw [shapeCast_self, mulf_apply, ValueIdx.sitofp_apply, lo_byte b h h' k l hk, broadcastTo_apply _ hbc _ (ix2 0 l) ?_]
  · show ((((b (ix2 k l)) <<< 4).toInt : ℝ) : EReal) * (s (ix2 0 l) * Ideal.ofBits .f32 0x3D800000#32) = _
    rw [shl_toInt, sixteen_mul]; rfl
  · intro a
    match a with
    | ⟨0, _⟩ => rfl
    | ⟨1, _⟩ => show l.val = if n = 1 then 0 else l.val; split <;> omega

/-- The same for the high nibble. -/
theorem hi_field (b : IVec ⟨2, ![R, n]⟩ 8) (s : FVec Ideal ⟨2, ![1, n]⟩ .f32)
    (h : (⟨2, ![R, n]⟩ : Shape).Bitcasts 8 ⟨2, ![r, n]⟩ 32) (h' : (⟨2, ![r, n]⟩ : Shape).Bitcasts 32 ⟨2, ![R, n]⟩ 8)
    (hb : FTy.bf16.bits < FTy.f32.bits) (hbc : (⟨2, ![1, n]⟩ : Shape).Broadcasts ⟨2, ![R, n]⟩)
    (hsc : (⟨2, ![R, n]⟩ : Shape).ShapeCasts ⟨2, ![R, n]⟩) (k : Fin R) (l : Fin n) (hk : k.val / 4 < r) :
    shapeCast ⟨2, ![R, n]⟩ (mulf (sitofp .bf16 (bitcast ⟨2, ![R, n]⟩ 8
        (andi (bitcast ⟨2, ![r, n]⟩ 32 b h) (broadcast ⟨2, ![r, n]⟩ 4042322160#32)) h'))
      (broadcastTo ⟨2, ![R, n]⟩ (truncf .bf16 (mulf s (broadcast ⟨2, ![1, n]⟩ (Scalar.ofBits .f32 0x3D800000#32))) hb) hbc))
      hsc (ix2 k l) = wHi (b (ix2 k l)) * s (ix2 0 l) := by
  rw [shapeCast_self, mulf_apply, ValueIdx.sitofp_apply, hi_byte b h h' k l hk, broadcastTo_apply _ hbc _ (ix2 0 l) ?_]
  · show ((((b (ix2 k l)) &&& 0xF0#8).toInt : ℝ) : EReal) * (s (ix2 0 l) * Ideal.ofBits .f32 0x3D800000#32) = _
    rw [mask_toInt, sixteen_mul]; rfl
  · intro a
    match a with
    | ⟨0, _⟩ => rfl
    | ⟨1, _⟩ => show l.val = if n = 1 then 0 else l.val; split <;> omega

end Cert.Weights
-- ==== Proof.Packed.lean ====
/-
  A PACKED MATRIX, DEQUANTISED. `H` rows of packed bytes hold a matrix of `K = 2 H` rows: row `k < H` is the low nibbles of
  byte row `k`, row `H + k` the high nibbles. Row `k` belongs to the group `k / 128` and every group has one scale per column.
  `deq b s k c` is the weight at row `k`, column `c`. The kernel dequantises the matrix 128 rows at a time into a buffer
  (`lo_piece`, `hi_piece`: each of its stores is a block of `deq`); the reference works on the two halves of the rows.
-/
module

public import proofs.«01_k».proof.Proof.Nibble
public import Idealize.ShloMosaic.Lib.Pipeline.ReadBack

@[expose] public section

set_option maxRecDepth 16384

noncomputable section

namespace Cert.Weights

open Idealize.ShloMosaic

variable {H G K N n r : ℕ}

/-- The dequantised weight at row `k`, column `c`. -/
def deq (hK : K = 2 * H) (hG : K = 128 * G) (b : IVec ⟨2, ![H, N]⟩ 8) (s : FVec Ideal ⟨2, ![G, N]⟩ .f32) (k : Fin K) (c : Fin N) : EReal :=
  (if k.val < H then wLo (b (ix2 ⟨k.val % H, Nat.mod_lt _ (by have := k.isLt; omega)⟩ c))
    else wHi (b (ix2 ⟨k.val % H, Nat.mod_lt _ (by have := k.isLt; omega)⟩ c)))
  * s (ix2 ⟨k.val / 128, by have := k.isLt; omega⟩ c)

/-- The weight depends on the bytes and scales of its column alone. -/
theorem deq_congr {N' : ℕ} (hK : K = 2 * H) (hG : K = 128 * G) (b : IVec ⟨2, ![H, N]⟩ 8) (s : FVec Ideal ⟨2, ![G, N]⟩ .f32)
    (b' : IVec ⟨2, ![H, N']⟩ 8) (s' : FVec Ideal ⟨2, ![G, N']⟩ .f32) (k : Fin K) (c : Fin N) (c' : Fin N')
    (hb : ∀ k, b (ix2 k c) = b' (ix2 k c')) (hs : ∀ g, s (ix2 g c) = s' (ix2 g c')) : deq hK hG b s k c = deq hK hG b' s' k c' := by
  unfold deq
  rw [hb, hs]

theorem deq_lo (hK : K = 2 * H) (hG : K = 128 * G) (b : IVec ⟨2, ![H, N]⟩ 8) (s : FVec Ideal ⟨2, ![G, N]⟩ .f32) (k : Fin K) (k' : Fin H)
    (c : Fin N) (g : Fin G) (hk : k.val = k'.val) (hg : g.val = k.val / 128) : wLo (b (ix2 k' c)) * s (ix2 g c) = deq hK hG b s k c := by
  unfold deq
  rw [if_pos (by omega)]
  congr 3
  exact congrArg (fun q => ix2 q c) (Fin.ext (by show k'.val = k.val % H; rw [hk]; exact (Nat.mod_eq_of_lt k'.isLt).symm))
  exact Fin.ext hg

theorem deq_hi (hK : K = 2 * H) (hG : K = 128 * G) (b : IVec ⟨2, ![H, N]⟩ 8) (s : FVec Ideal ⟨2, ![G, N]⟩ .f32) (k : Fin K) (k' : Fin H)
    (c : Fin N) (g : Fin G) (hk : k.val = H + k'.val) (hg : g.val = k.val / 128) : wHi (b (ix2 k' c)) * s (ix2 g c) = deq hK hG b s k c := by
  unfold deq
  rw [if_neg (by omega)]
  congr 3
  exact congrArg (fun q => ix2 q c) (Fin.ext (by show k'.val = k.val % H; rw [hk, Nat.add_mod_left]; exact (Nat.mod_eq_of_lt k'.isLt).symm))
  exact Fin.ext hg

/-- The dequantised columns `o … o + n - 1`, as the contents of a `K × n` buffer. -/
def deqTile (hK : K = 2 * H) (hG : K = 128 * G) (o : ℕ) (ho : o + n ≤ N) (b : IVec ⟨2, ![H, N]⟩ 8)
    (s : FVec Ideal ⟨2, ![G, N]⟩ .f32) : FVec Ideal ⟨2, ![K, n]⟩ .bf16 :=
  fun i => deq hK hG b s (i 0) ⟨o + (i 1).val, lt_of_lt_of_le (Nat.add_lt_add_left (i 1).isLt o) ho⟩

/-- A load of a box reads the array at the box's offset. -/
theorem ld_at {A B a c : ℕ} {e : EltTy} {Val : EltTy → Type} (X : (⟨2, ![A, B]⟩ : Shape).Idx → Val e) (p q : ℕ)
    (inb : ∀ d, (![p, q] : Fin 2 → ℕ) d + (![a, c] : Fin 2 → ℕ) d ≤ (⟨2, ![A, B]⟩ : Shape).size d) (i : Fin a) (j : Fin c)
    (i' : Fin A) (j' : Fin B) (hi : i'.val = p + i.val) (hj : j'.val = q + j.val) :
    View.ld X (Rect.unit (s := ⟨2, ![A, B]⟩) ![p, q] ![a, c] inb) (ix2 i j) = X (ix2 i' j') := by
  refine congrArg X (funext fun d => Fin.ext ?_)
  match d with
  | ⟨0, _⟩ => show p + 1 * i.val = i'.val; omega
  | ⟨1, _⟩ => show q + 1 * j.val = j'.val; omega

/-- The kernel's low-nibble weights of a group are the group's rows of the first half. -/
theorem lo_piece (hK : K = 2 * H) (hG : K = 128 * G) (o : ℕ) (ho : o + n ≤ N) (b : IVec ⟨2, ![H, N]⟩ 8)
    (s : FVec Ideal ⟨2, ![G, N]⟩ .f32) (k0 g : ℕ) (hg : k0 = 128 * g) (hH : k0 + 128 ≤ H) (hr : r = 32)
    (inb : ∀ d, (![k0, o] : Fin 2 → ℕ) d + (![128, n] : Fin 2 → ℕ) d ≤ (⟨2, ![H, N]⟩ : Shape).size d)
    (inb' : ∀ d, (![g, o] : Fin 2 → ℕ) d + (![1, n] : Fin 2 → ℕ) d ≤ (⟨2, ![G, N]⟩ : Shape).size d)
    (inb'' : ∀ d, (![k0, 0] : Fin 2 → ℕ) d + (![128, n] : Fin 2 → ℕ) d ≤ (⟨2, ![K, n]⟩ : Shape).size d)
    (h : (⟨2, ![128, n]⟩ : Shape).Bitcasts 8 ⟨2, ![r, n]⟩ 32) (h' : (⟨2, ![r, n]⟩ : Shape).Bitcasts 32 ⟨2, ![128, n]⟩ 8)
    (hb : FTy.bf16.bits < FTy.f32.bits) (hbc : (⟨2, ![1, n]⟩ : Shape).Broadcasts ⟨2, ![128, n]⟩)
    (hsc : (⟨2, ![128, n]⟩ : Shape).ShapeCasts ⟨2, ![128, n]⟩) (x : (⟨2, ![128, n]⟩ : Shape).Idx) :
    shapeCast ⟨2, ![128, n]⟩ (mulf (sitofp .bf16 (bitcast ⟨2, ![128, n]⟩ 8
        (andi (shli (bitcast ⟨2, ![r, n]⟩ 32 (View.ld (Val := Elt Ideal) (e' := .i8) b (Rect.unit (s := ⟨2, ![H, N]⟩) ![k0, o] ![128, n] inb)) h)
          (broadcast ⟨2, ![r, n]⟩ 4#32)) (broadcast ⟨2, ![r, n]⟩ 4042322160#32)) h'))
      (broadcastTo ⟨2, ![128, n]⟩ (truncf .bf16 (mulf (View.ld (Val := Elt Ideal) (e' := .f32) s (Rect.unit (s := ⟨2, ![G, N]⟩) ![g, o] ![1, n] inb'))
        (broadcast ⟨2, ![1, n]⟩ (Scalar.ofBits .f32 0x3D800000#32))) hb) hbc)) hsc x
      = deqTile hK hG o ho b s ((Rect.unit (s := ⟨2, ![K, n]⟩) ![k0, 0] ![128, n] inb'').emb x) := by
  obtain ⟨k, l, rfl⟩ : ∃ k l, x = ix2 k l := ⟨x 0, x 1, ValueIdx.eq_ix2 x⟩
  have hk := k.isLt
  refine (lo_field _ _ h h' hb hbc hsc k l (by omega)).trans ?_
  have e0 : ((Rect.unit (s := ⟨2, ![K, n]⟩) ![k0, 0] ![128, n] inb'').emb (ix2 k l) 0).val = k0 + k.val := by
    show k0 + 1 * k.val = _; omega
  have e1 : ((Rect.unit (s := ⟨2, ![K, n]⟩) ![k0, 0] ![128, n] inb'').emb (ix2 k l) 1).val = l.val := by
    show 0 + 1 * l.val = _; omega
  have hlt : k0 + k.val < H := by omega
  unfold deqTile deq
  rw [if_pos (by rw [e0]; exact hlt)]
  congr 1
  · congr 1
    exact ld_at (Val := Elt Ideal) (e := .i8) b k0 o inb k l _ _ (by show _ % H = _; rw [e0]; exact Nat.mod_eq_of_lt hlt) (by show o + _ = _; rw [e1])
  · exact ld_at (Val := Elt Ideal) (e := .f32) s g o inb' 0 l _ _ (by show _ / 128 = _; rw [e0]; show _ = g + 0; omega) (by show o + _ = _; rw [e1])

/-- The kernel's high-nibble weights of a group are the group's rows of the second half. -/
theorem hi_piece (hK : K = 2 * H) (hG : K = 128 * G) (o : ℕ) (ho : o + n ≤ N) (b : IVec ⟨2, ![H, N]⟩ 8)
    (s : FVec Ideal ⟨2, ![G, N]⟩ .f32) (k0 k1 g : ℕ) (hg : k1 = 128 * g) (hH : k0 + 128 ≤ H) (h1 : k1 = H + k0) (hr : r = 32)
    (inb : ∀ d, (![k0, o] : Fin 2 → ℕ) d + (![128, n] : Fin 2 → ℕ) d ≤ (⟨2, ![H, N]⟩ : Shape).size d)
    (inb' : ∀ d, (![g, o] : Fin 2 → ℕ) d + (![1, n] : Fin 2 → ℕ) d ≤ (⟨2, ![G, N]⟩ : Shape).size d)
    (inb'' : ∀ d, (![k1, 0] : Fin 2 → ℕ) d + (![128, n] : Fin 2 → ℕ) d ≤ (⟨2, ![K, n]⟩ : Shape).size d)
    (h : (⟨2, ![128, n]⟩ : Shape).Bitcasts 8 ⟨2, ![r, n]⟩ 32) (h' : (⟨2, ![r, n]⟩ : Shape).Bitcasts 32 ⟨2, ![128, n]⟩ 8)
    (hb : FTy.bf16.bits < FTy.f32.bits) (hbc : (⟨2, ![1, n]⟩ : Shape).Broadcasts ⟨2, ![128, n]⟩)
    (hsc : (⟨2, ![128, n]⟩ : Shape).ShapeCasts ⟨2, ![128, n]⟩) (x : (⟨2, ![128, n]⟩ : Shape).Idx) :
    shapeCast ⟨2, ![128, n]⟩ (mulf (sitofp .bf16 (bitcast ⟨2, ![128, n]⟩ 8
        (andi (bitcast ⟨2, ![r, n]⟩ 32 (View.ld (Val := Elt Ideal) (e' := .i8) b (Rect.unit (s := ⟨2, ![H, N]⟩) ![k0, o] ![128, n] inb)) h)
          (broadcast ⟨2, ![r, n]⟩ 4042322160#32)) h'))
      (broadcastTo ⟨2, ![128, n]⟩ (truncf .bf16 (mulf (View.ld (Val := Elt Ideal) (e' := .f32) s (Rect.unit (s := ⟨2, ![G, N]⟩) ![g, o] ![1, n] inb'))
        (broadcast ⟨2, ![1, n]⟩ (Scalar.ofBits .f32 0x3D800000#32))) hb) hbc)) hsc x
      = deqTile hK hG o ho b s ((Rect.unit (s := ⟨2, ![K, n]⟩) ![k1, 0] ![128, n] inb'').emb x) := by
  obtain ⟨k, l, rfl⟩ : ∃ k l, x = ix2 k l := ⟨x 0, x 1, ValueIdx.eq_ix2 x⟩
  have hk := k.isLt
  refine (hi_field _ _ h h' hb hbc hsc k l (by omega)).trans ?_
  have e0 : ((Rect.unit (s := ⟨2, ![K, n]⟩) ![k1, 0] ![128, n] inb'').emb (ix2 k l) 0).val = k1 + k.val := by
    show k1 + 1 * k.val = _; omega
  have e1 : ((Rect.unit (s := ⟨2, ![K, n]⟩) ![k1, 0] ![128, n] inb'').emb (ix2 k l) 1).val = l.val := by
    show 0 + 1 * l.val = _; omega
  have hlt : k0 + k.val < H := by omega
  unfold deqTile deq
  rw [if_neg (by rw [e0]; omega)]
  congr 1
  · congr 1
    refine ld_at (Val := Elt Ideal) (e := .i8) b k0 o inb k l _ _ ?_ (by show o + _ = _; rw [e1])
    show _ % H = _
    rw [e0, h1, show H + k0 + k.val = k0 + k.val + H by omega, Nat.add_mod_right]
    exact Nat.mod_eq_of_lt hlt
  · exact ld_at (Val := Elt Ideal) (e := .f32) s g o inb' 0 l _ _ (by show _ / 128 = _; rw [e0]; show _ = g + 0; omega) (by show o + _ = _; rw [e1])

/-- Stores that cover a buffer and are blocks of `X` leave `X`. -/
theorem canon_tile {S : Shape} {e : EltTy} {Val : EltTy → Type} [∀ e, Nonempty (Val e)] (M : List (View.Piece Val S e))
    (X : S.Idx → Val e) (hp : View.PiecesOf X M) (hc : ∀ y, ∃ p ∈ M, y ∈ p.1.set) (y : S.Idx) : View.canon M y = X y := by
  have h := View.canon_append_of_piecesOf X [] M hp y (hc y)
  rwa [List.append_nil] at h

/-- Reading a whole buffer back after stores of which the last `j` cover it and are blocks of `X`: what is read is `X`. -/
theorem read_tile {sig : RefSig} {κ : Kind} {sp : Space} {S : Shape} {e : EltTy} {Val : EltTy → Type} [∀ e, Nonempty (Val e)]
    (v : View sig κ sp S e) (j : ℕ) (M : List (View.Piece Val S e)) (X : S.Idx → Val e) {off : Fin S.rank → ℕ}
    (inb : ∀ a, off a + S.size a ≤ S.size a)
    (hz : ∀ a, off a = 0) (hp : View.PiecesOf X (M.take j)) (hc : ∀ y, ∃ p ∈ M.take j, y ∈ p.1.set) :
    v.readCov M (Rect.unit off S.size inb).toLoadRect = X := by
  rw [View.readCov_eq_canon']
  funext y
  have hy : (Rect.unit off S.size inb).toLoadRect.idx y = y := by
    funext a
    refine Fin.ext ?_
    show off a + 1 * (y a).val = (y a).val
    rw [hz a]; omega
  rw [hy, ← List.take_append_drop j M]
  exact View.canon_append_of_piecesOf X _ _ hp y (hc y)

/-- A contraction over all the rows is the contraction over the low nibbles plus the one over the high nibbles. -/
theorem sum_halves (hK : K = 2 * H) (f : Fin K → EReal) (flo fhi : Fin H → EReal)
    (hlo : ∀ k : Fin H, f ⟨k.val, by omega⟩ = flo k) (hhi : ∀ k : Fin H, f ⟨H + k.val, by omega⟩ = fhi k) :
    ∑ k : Fin K, f k = ∑ k : Fin H, flo k + ∑ k : Fin H, fhi k := by
  obtain rfl : K = H + H := by omega
  rw [Fin.sum_univ_add]
  exact congrArg₂ _ (Finset.sum_congr rfl fun k _ => hlo k) (Finset.sum_congr rfl fun k _ => hhi k)

end Cert.Weights
-- ==== Proof.GuMath.lean ====
/-
  THE GATE/UP STAGE AS MATHEMATICS. `proj` is a projection of the quantised rows: the integer rows times the dequantised
  weights, rescaled by the row's scale, plus the LoRA term. `MID` is GELU of the gate half times the up half, and `MX` the
  largest magnitude of `MID` in each of the 128 lanes of a row (column modulo 128). The kernel and the reference are both
  shown to compute these.
-/
module

public import proofs.«01_k».proof.Proof.Packed

@[expose] public section

set_option maxRecDepth 16384

noncomputable section

namespace Cert.GuMath

open Idealize.ShloMosaic Cert.Weights

/-- The exact GELU of a number, in the form the kernel computes it. -/
def gelu (z : EReal) : EReal :=
  Ideal.ofBits .f32 0x3F000000#32 * z
    * (Ideal.ofBits .f32 0x3F800000#32 + Ideal.erf (z * Ideal.ofBits .f32 0x3F3504F3#32))

/-- The magnitude of a number. -/
def mag (z : EReal) : EReal := max z (-z)

/-- One number of the projection: the quantised row times the weights, rescaled, plus the LoRA term. -/
def proj {N : ℕ} (X : FVec Ideal ⟨2, ![1536, 2560]⟩ .bf16) (cs : FVec Ideal ⟨2, ![1536, 128]⟩ .f32) (R : FVec Ideal ⟨2, ![1536, 128]⟩ .bf16)
    (w : Fin 2560 → Fin N → EReal) (L : Fin 128 → Fin N → EReal) (i : Fin 1536) (c : Fin N) : EReal :=
  (∑ k : Fin 2560, X (ix2 i k) * w k c) * cs (ix2 i 0) + ∑ k : Fin 128, R (ix2 i k) * L k c

theorem proj_congr {N N' : ℕ} (X : FVec Ideal ⟨2, ![1536, 2560]⟩ .bf16) (cs : FVec Ideal ⟨2, ![1536, 128]⟩ .f32)
    (R : FVec Ideal ⟨2, ![1536, 128]⟩ .bf16) (w : Fin 2560 → Fin N → EReal) (w' : Fin 2560 → Fin N' → EReal) (L : Fin 128 → Fin N → EReal)
    (L' : Fin 128 → Fin N' → EReal) (i : Fin 1536) (c : Fin N) (c' : Fin N') (hw : ∀ k, w k c = w' k c') (hL : ∀ k, L k c = L' k c') :
    proj X cs R w L i c = proj X cs R w' L' i c' := by
  unfold proj
  simp only [hw, hL]

variable (X : FVec Ideal ⟨2, ![1536, 2560]⟩ .bf16) (CS : FVec Ideal ⟨2, ![1536, 128]⟩ .f32) (R : FVec Ideal ⟨2, ![1536, 128]⟩ .bf16)
  (W : IVec ⟨2, ![1280, 20480]⟩ 8) (S : FVec Ideal ⟨2, ![20, 20480]⟩ .f32) (LB : FVec Ideal ⟨3, ![2, 128, 20480]⟩ .bf16) (inv : Fin 2)

/-- The gate and up projections side by side, with the LoRA factors of invocation `inv`. -/
def GU (i : Fin 1536) (c : Fin 20480) : EReal :=
  proj X CS R (deq (H := 1280) (G := 20) rfl rfl W S) (fun k c => LB (ix3 inv k c)) i c

/-- GELU of the gate times the up. -/
def MID (i : Fin 1536) (f : Fin 10240) : EReal :=
  gelu (GU X CS R W S LB inv i ⟨f.val, by omega⟩) * GU X CS R W S LB inv i ⟨10240 + f.val, by omega⟩

/-- The largest magnitude among the columns of one lane. -/
def MX (i : Fin 1536) (l : Fin 128) : EReal :=
  Finset.univ.fold max ⊥ fun g : Fin 80 => mag (MID X CS R W S LB inv i ⟨g.val * 128 + l.val, by omega⟩)

/-- The two results as arrays. -/
def midArr : FVec Ideal ⟨2, ![1536, 10240]⟩ .f32 := fun y => MID X CS R W S LB inv (y 0) (y 1)
def mxArr : FVec Ideal ⟨2, ![1536, 128]⟩ .f32 := fun y => MX X CS R W S LB inv (y 0) (y 1)

theorem MX_le (i : Fin 1536) (l : Fin 128) (z : EReal) :
    MX X CS R W S LB inv i l ≤ z ↔ ∀ f : Fin 10240, f.val % 128 = l.val → mag (MID X CS R W S LB inv i f) ≤ z := by
  unfold MX
  rw [Finset.fold_max_le]
  constructor
  · rintro ⟨-, h⟩ f hf
    have := h ⟨f.val / 128, by omega⟩ (Finset.mem_univ _)
    have e : (⟨f.val / 128 * 128 + l.val, by omega⟩ : Fin 10240) = f := Fin.ext (by show f.val / 128 * 128 + l.val = f.val; omega)
    rwa [e] at this
  · intro h
    exact ⟨bot_le, fun g _ => h _ (by show (g.val * 128 + l.val) % 128 = l.val; omega)⟩

/-- The largest of the four columns of a lane in the block of 512 columns from `512 t` on. -/
theorem lane_le (M : Fin 10240 → EReal) (t l : ℕ) (ht : t < 20) (hl : l < 128) (z : EReal) :
    max (max (max (mag (M ⟨t * 512 + l, by omega⟩)) (mag (M ⟨t * 512 + (128 + l), by omega⟩))) (mag (M ⟨t * 512 + (256 + l), by omega⟩)))
      (mag (M ⟨t * 512 + (384 + l), by omega⟩)) ≤ z
      ↔ ∀ f : Fin 10240, f.val % 128 = l → f.val / 512 = t → mag (M f) ≤ z := by
  simp only [max_le_iff]
  constructor
  · rintro ⟨⟨⟨a0, a1⟩, a2⟩, a3⟩ f hf hq
    have hfl := f.isLt
    rcases (by omega : f.val = t * 512 + l ∨ f.val = t * 512 + (128 + l) ∨ f.val = t * 512 + (256 + l)
      ∨ f.val = t * 512 + (384 + l)) with h | h | h | h
    · exact (congrArg (fun q => mag (M q)) (Fin.ext h)).trans_le a0
    · exact (congrArg (fun q => mag (M q)) (Fin.ext h)).trans_le a1
    · exact (congrArg (fun q => mag (M q)) (Fin.ext h)).trans_le a2
    · exact (congrArg (fun q => mag (M q)) (Fin.ext h)).trans_le a3
  · intro h
    refine ⟨⟨⟨h _ ?_ ?_, h _ ?_ ?_⟩, h _ ?_ ?_⟩, h _ ?_ ?_⟩ <;> dsimp only <;> omega

end Cert.GuMath
-- ==== Proof.GuBlock.lean ====
/-
  ONE GRID POINT of the gate/up stage. A point holds 512 gate columns and the 512 up columns of the same numbers. It dequantises
  256 columns of each at a time, multiplies, and stores GELU(gate) * up; it also keeps, per row and lane, the largest magnitude.
  `mid` is the block it stores and `mx` what it compares with the lane maxima, both as formulas over the point's input blocks.
-/
module

public import proofs.«01_k».proof.Proof.GuMath
public import proofs.«01_k».proof.Proof.Gen.GuIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GuIdeal.Block
open Cert.GuIdeal Cert.GuIdeal.Gen Cert.Weights Cert.GuMath

/-- The stored block. -/
def mid (X : FVec Ideal S1536x2560 .bf16) (cs : FVec Ideal S1536x128 .f32) (R : FVec Ideal S1536x128 .bf16)
    (wg wu : IVec S1280x512 8) (sg su : FVec Ideal S20x512 .f32) (bg bu : FVec Ideal S1x128x512 .bf16) : FVec Ideal S1536x512 .f32 :=
  fun y => gelu (proj X cs R (deq (H := 1280) (G := 20) rfl rfl wg sg) (fun k c => bg (ix3 0 k c)) (y 0) (y 1))
    * proj X cs R (deq (H := 1280) (G := 20) rfl rfl wu su) (fun k c => bu (ix3 0 k c)) (y 0) (y 1)

/-- The largest magnitude of a block's row `y 0` among the columns that share the lane `y 1`. -/
def mx (M : FVec Ideal S1536x512 .f32) : FVec Ideal S1536x128 .f32 :=
  fun y => max (max (max (mag (M (ix2 (y 0) ⟨(y 1).val, by have := (y 1).isLt; change _ < 128 at this; omega⟩)))
    (mag (M (ix2 (y 0) ⟨128 + (y 1).val, by have := (y 1).isLt; change _ < 128 at this; omega⟩))))
    (mag (M (ix2 (y 0) ⟨256 + (y 1).val, by have := (y 1).isLt; change _ < 128 at this; omega⟩))))
    (mag (M (ix2 (y 0) ⟨384 + (y 1).val, by have := (y 1).isLt; change _ < 128 at this; omega⟩)))

section Payloads
variable (v0 : FVec Ideal S1536x1 .f32) (X : FVec Ideal S1536x2560 .bf16) (W : FVec Ideal S2560x256 .bf16)
  (R : FVec Ideal S1536x128 .bf16) (L : FVec Ideal S1x128x256 .bf16) (g u : FVec Ideal S1536x256 .f32) (i : Fin 1536) (c : Fin 256)

theorem pay45_at : k0_pay45 (F := Ideal) v0 X W R L (ix2 i c)
    = (∑ k : Fin 2560, X (ix2 i k) * W (ix2 k c)) * v0 (ix2 i (0 : Fin 1)) + ∑ k : Fin 128, R (ix2 i k) * L (ix3 (0 : Fin 1) k c) := by
  pointwise [k0_pay45]

theorem pay131_at : k0_pay131 (F := Ideal) v0 X W R L (ix2 i c)
    = (∑ k : Fin 2560, X (ix2 i k) * W (ix2 k c)) * v0 (ix2 i (0 : Fin 1)) + ∑ k : Fin 128, R (ix2 i k) * L (ix3 (0 : Fin 1) k c) := by
  pointwise [k0_pay131]

theorem pay88_at : k0_pay88 (F := Ideal) v0 g X W R L (ix2 i c) = gelu (g (ix2 i c))
    * ((∑ k : Fin 2560, X (ix2 i k) * W (ix2 k c)) * v0 (ix2 i (0 : Fin 1)) + ∑ k : Fin 128, R (ix2 i k) * L (ix3 (0 : Fin 1) k c)) := by
  pointwise [k0_pay88, gelu]
  rfl

theorem pay172_at : k0_pay172 (F := Ideal) v0 g (k0_pay171 X W) R L (ix2 i c) = gelu (g (ix2 i c))
    * ((∑ k : Fin 2560, X (ix2 i k) * W (ix2 k c)) * v0 (ix2 i (0 : Fin 1)) + ∑ k : Fin 128, R (ix2 i k) * L (ix3 (0 : Fin 1) k c)) := by
  pointwise [k0_pay172, k0_pay171, gelu]
  rfl

theorem pay2_at (a : FVec Ideal S1536x128 .f32) (z : FVec Ideal S1536x256 .f32) (b p : FVec Ideal S1536x128 .f32) (y : S1536x128.Idx) :
    k0_pay2 (F := Ideal) a z b p y = max (p y) (k0_pay1 a z b y) := by
  obtain ⟨i, l, rfl⟩ : ∃ i l, y = ix2 i l := ⟨y 0, y 1, ValueIdx.eq_ix2 y⟩
  unfold k0_pay2
  generalize k0_pay1 a z b = w
  pointwise

end Payloads

section Halves
variable (X : FVec Ideal S1536x2560 .bf16) (cs : FVec Ideal S1536x128 .f32) (R : FVec Ideal S1536x128 .bf16)
    (wg wu : IVec S1280x512 8) (sg su : FVec Ideal S20x512 .f32) (bg bu : FVec Ideal S1x128x512 .bf16)
    (Wg Wu Wg' Wu' : FVec Ideal S2560x256 .bf16)

/-- The load of one chunk of the LoRA factor. -/
theorem lora_at (b : FVec Ideal S1x128x512 .bf16) (o : ℕ)
    (inb : ∀ d, (![0, 0, o] : Fin 3 → ℕ) d + (![1, 128, 256] : Fin 3 → ℕ) d ≤ S1x128x512.size d) (k : Fin 128) (c : Fin 256) (c' : Fin 512)
    (h : c'.val = o + c.val) :
    View.ld (Val := Elt Ideal) (e' := .bf16) b (Rect.unit (s := S1x128x512) ![0, 0, o] ![1, 128, 256] inb) (ix3 (0 : Fin 1) k c) = b (ix3 0 k c') := by
  refine congrArg b (funext fun d => Fin.ext ?_)
  match d with
  | ⟨0, _⟩ => rfl
  | ⟨1, _⟩ => show 0 + 1 * k.val = k.val; omega
  | ⟨2, _⟩ => show o + 1 * c.val = c'.val; omega

/-- The load of the row scales. -/
theorem scale_at (i : Fin 1536) :
    View.ld (Val := Elt Ideal) (e' := .f32) cs (Rect.unit (s := S1536x128) ![0, 0] ![1536, 1] inb_S1536x128_S1536x1_0_0) (ix2 i (0 : Fin 1)) = cs (ix2 i 0) :=
  ld_at (Val := Elt Ideal) (e := .f32) cs 0 0 _ i 0 i 0 (by omega) rfl

/-- The first 256 columns of the block. -/
theorem half0 (hg : Wg = deqTile (H := 1280) (G := 20) (N := 512) rfl rfl 0 (by decide) wg sg)
    (hu : Wu = deqTile (H := 1280) (G := 20) (N := 512) rfl rfl 0 (by decide) wu su) (i : Fin 1536) (c : Fin 256) (c' : Fin 512) (h : c'.val = c.val) :
    k0_pay88 (F := Ideal) (View.ld (Val := Elt Ideal) (e' := .f32) cs (Rect.unit (s := S1536x128) ![0, 0] ![1536, 1] inb_S1536x128_S1536x1_0_0))
      (k0_pay45 (View.ld (Val := Elt Ideal) (e' := .f32) cs (Rect.unit (s := S1536x128) ![0, 0] ![1536, 1] inb_S1536x128_S1536x1_0_0)) X Wg R
        (View.ld (Val := Elt Ideal) (e' := .bf16) bg (Rect.unit (s := S1x128x512) ![0, 0, 0] ![1, 128, 256] inb_S1x128x512_S1x128x256_0_0_0)))
      X Wu R (View.ld (Val := Elt Ideal) (e' := .bf16) bu (Rect.unit (s := S1x128x512) ![0, 0, 0] ![1, 128, 256] inb_S1x128x512_S1x128x256_0_0_0)) (ix2 i c)
      = mid X cs R wg wu sg su bg bu (ix2 i c') := by
  subst hg hu
  have hc : ∀ hlt, (⟨0 + c.val, hlt⟩ : Fin 512) = c' := fun _ => Fin.ext (by show 0 + c.val = _; omega)
  rw [pay88_at, pay45_at, scale_at]
  refine congrArg₂ (fun a b => gelu a * b) ?_ ?_ <;>
    refine congrArg₂ (fun a b => a * _ + b) (Finset.sum_congr rfl fun k _ => congrArg (_ * ·) (congrArg _ (hc _)))
      (Finset.sum_congr rfl fun k _ => congrArg (_ * ·) (lora_at _ 0 _ k c c' (by omega)))

/-- The last 256 columns of the block. -/
theorem half1 (hg : Wg' = deqTile (H := 1280) (G := 20) (N := 512) rfl rfl 256 (by decide) wg sg)
    (hu : Wu' = deqTile (H := 1280) (G := 20) (N := 512) rfl rfl 256 (by decide) wu su) (i : Fin 1536) (c : Fin 256) (c' : Fin 512) (h : c'.val = 256 + c.val) :
    k0_pay172 (F := Ideal) (View.ld (Val := Elt Ideal) (e' := .f32) cs (Rect.unit (s := S1536x128) ![0, 0] ![1536, 1] inb_S1536x128_S1536x1_0_0))
      (k0_pay131 (View.ld (Val := Elt Ideal) (e' := .f32) cs (Rect.unit (s := S1536x128) ![0, 0] ![1536, 1] inb_S1536x128_S1536x1_0_0)) X Wg' R
        (View.ld (Val := Elt Ideal) (e' := .bf16) bg (Rect.unit (s := S1x128x512) ![0, 0, 256] ![1, 128, 256] inb_S1x128x512_S1x128x256_0_0_256)))
      (k0_pay171 X Wu') R (View.ld (Val := Elt Ideal) (e' := .bf16) bu (Rect.unit (s := S1x128x512) ![0, 0, 256] ![1, 128, 256] inb_S1x128x512_S1x128x256_0_0_256)) (ix2 i c)
      = mid X cs R wg wu sg su bg bu (ix2 i c') := by
  subst hg hu
  have hc : ∀ hlt, (⟨256 + c.val, hlt⟩ : Fin 512) = c' := fun _ => Fin.ext (by show 256 + c.val = _; omega)
  rw [pay172_at, pay131_at, scale_at]
  refine congrArg₂ (fun a b => gelu a * b) ?_ ?_ <;>
    refine congrArg₂ (fun a b => a * _ + b) (Finset.sum_congr rfl fun k _ => congrArg (_ * ·) (congrArg _ (hc _)))
      (Finset.sum_congr rfl fun k _ => congrArg (_ * ·) (lora_at _ 256 _ k c c' h))

/-- The lane maxima of the block. -/
theorem lanes (hg : Wg = deqTile (H := 1280) (G := 20) (N := 512) rfl rfl 0 (by decide) wg sg)
    (hu : Wu = deqTile (H := 1280) (G := 20) (N := 512) rfl rfl 0 (by decide) wu su)
    (hg' : Wg' = deqTile (H := 1280) (G := 20) (N := 512) rfl rfl 256 (by decide) wg sg)
    (hu' : Wu' = deqTile (H := 1280) (G := 20) (N := 512) rfl rfl 256 (by decide) wu su) (y : S1536x128.Idx) :
    k0_pay1 (k0_pay89 (F := Ideal) (View.ld (Val := Elt Ideal) (e' := .f32) cs (Rect.unit (s := S1536x128) ![0, 0] ![1536, 1] inb_S1536x128_S1536x1_0_0))
      (k0_pay45 (View.ld (Val := Elt Ideal) (e' := .f32) cs (Rect.unit (s := S1536x128) ![0, 0] ![1536, 1] inb_S1536x128_S1536x1_0_0)) X Wg R
        (View.ld (Val := Elt Ideal) (e' := .bf16) bg (Rect.unit (s := S1x128x512) ![0, 0, 0] ![1, 128, 256] inb_S1x128x512_S1x128x256_0_0_0)))
      X Wu R (View.ld (Val := Elt Ideal) (e' := .bf16) bu (Rect.unit (s := S1x128x512) ![0, 0, 0] ![1, 128, 256] inb_S1x128x512_S1x128x256_0_0_0)))
      (k0_pay172 (F := Ideal) (View.ld (Val := Elt Ideal) (e' := .f32) cs (Rect.unit (s := S1536x128) ![0, 0] ![1536, 1] inb_S1536x128_S1536x1_0_0))
      (k0_pay131 (View.ld (Val := Elt Ideal) (e' := .f32) cs (Rect.unit (s := S1536x128) ![0, 0] ![1536, 1] inb_S1536x128_S1536x1_0_0)) X Wg' R
        (View.ld (Val := Elt Ideal) (e' := .bf16) bg (Rect.unit (s := S1x128x512) ![0, 0, 256] ![1, 128, 256] inb_S1x128x512_S1x128x256_0_0_256)))
      (k0_pay171 X Wu') R (View.ld (Val := Elt Ideal) (e' := .bf16) bu (Rect.unit (s := S1x128x512) ![0, 0, 256] ![1, 128, 256] inb_S1x128x512_S1x128x256_0_0_256)))
      (k0_pay173 (F := Ideal) (View.ld (Val := Elt Ideal) (e' := .f32) cs (Rect.unit (s := S1536x128) ![0, 0] ![1536, 1] inb_S1536x128_S1536x1_0_0))
      (k0_pay131 (View.ld (Val := Elt Ideal) (e' := .f32) cs (Rect.unit (s := S1536x128) ![0, 0] ![1536, 1] inb_S1536x128_S1536x1_0_0)) X Wg' R
        (View.ld (Val := Elt Ideal) (e' := .bf16) bg (Rect.unit (s := S1x128x512) ![0, 0, 256] ![1, 128, 256] inb_S1x128x512_S1x128x256_0_0_256)))
      (k0_pay171 X Wu') R (View.ld (Val := Elt Ideal) (e' := .bf16) bu (Rect.unit (s := S1x128x512) ![0, 0, 256] ![1, 128, 256] inb_S1x128x512_S1x128x256_0_0_256))) y
      = mx (mid X cs R wg wu sg su bg bu) y := by
  have a := half0 X cs R wg wu sg su bg bu Wg Wu hg hu
  have b := half1 X cs R wg wu sg su bg bu Wg' Wu' hg' hu'
  obtain ⟨i, l, rfl⟩ : ∃ i l, y = ix2 i l := ⟨y 0, y 1, ValueIdx.eq_ix2 y⟩
  unfold k0_pay89 k0_pay173
  revert a b
  generalize k0_pay88 (F := Ideal) _ _ _ _ _ _ = z
  generalize k0_pay172 (F := Ideal) _ _ _ _ _ = z'
  generalize mid X cs R wg wu sg su bg bu = M
  intro a b
  have e : ∀ c c' : Fin 512, c.val = c'.val → M (ix2 i c) = M (ix2 i c') := fun c c' h => by rw [Fin.ext h]
  pointwise [k0_pay1]
  have hl := l.isLt
  rw [a i _ ⟨l.val, by omega⟩ rfl, a i _ ⟨128 + l.val, by omega⟩ rfl, b i _ ⟨256 + l.val, by omega⟩ rfl,
    b i _ ⟨384 + l.val, by omega⟩ (by show 384 + l.val = 256 + (128 + l.val); omega)]
  rfl
/-- A block at an entry of the box of columns from `o` on. -/
theorem at_emb (M : FVec Ideal S1536x512 .f32) (o : ℕ) (inb : ∀ d, (![0, o] : Fin 2 → ℕ) d + (![1536, 256] : Fin 2 → ℕ) d ≤ S1536x512.size d)
    (x : S1536x256.Idx) (c : Fin 512) (h : c.val = o + (x 1).val) :
    M (ix2 (x 0) c) = M ((Rect.unit (s := S1536x512) ![0, o] ![1536, 256] inb).emb x) := by
  refine congrArg M (funext fun d => Fin.ext ?_)
  match d with
  | ⟨0, _⟩ => show (x 0).val = 0 + 1 * (x 0).val; omega
  | ⟨1, _⟩ => show c.val = o + 1 * (x 1).val; omega

end Halves

variable (m : (ℓ : Loc nD τ sig) → Buf (Elt Ideal) ℓ)

/-- The block the point `t` stores, over the blocks it reads. -/
def out (c : Dev nD) (t : Fin cfg0.N) : FVec Ideal S1536x512 .f32 :=
  mid (iblk m c 0 t) (iblk m c 1 t) (iblk m c 2 t) (iblk m c 3 t) (iblk m c 4 t) (iblk m c 5 t) (iblk m c 6 t) (iblk m c 7 t) (iblk m c 8 t)

set_option maxHeartbeats 1000000 in
theorem mid_A (c : Dev nD) (t : Fin cfg0.N) (h0 : t.val % 20 = 0) (h1 : ¬ 1 ≤ t.val) (y : S1536x512.Idx) :
    (outsAt0 m c t.val t.isLt).1 y = out m c t y := by
  rw [outsAt0_A m c t h0 h1]
  frame_out
  refine canon_tile (Val := Elt Ideal) (e := .f32) _ (out m c t) ?_ (View.cover_of_tiledL _ ![1536, 256] (by sl_kernel_rfl)) y
  refine ⟨fun x => ?_, fun x => ?_, trivial⟩
  · rw [ValueIdx.eq_ix2 x]
    refine (half1 (iblk m c 0 t) (iblk m c 1 t) (iblk m c 2 t) (iblk m c 3 t) (iblk m c 4 t) (iblk m c 5 t) (iblk m c 6 t) (iblk m c 7 t) (iblk m c 8 t) _ _ ?_ ?_ _ _ ⟨256 + (x 1).val, ?_⟩ rfl).trans ?_
    · refine read_tile _ 20 _ _ _ (by decide) ?_ (View.cover_of_tiledL _ ![128, 256] (by sl_kernel_rfl))
      simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 256 inb_S1536x512_S1536x256_0_256 x _ rfl
  · rw [ValueIdx.eq_ix2 x]
    refine (half0 (iblk m c 0 t) (iblk m c 1 t) (iblk m c 2 t) (iblk m c 3 t) (iblk m c 4 t) (iblk m c 5 t) (iblk m c 6 t) (iblk m c 7 t) (iblk m c 8 t) _ _ ?_ ?_ _ _ ⟨(x 1).val, ?_⟩ rfl).trans ?_
    · refine read_tile _ 20 _ _ _ (by decide) ?_ (View.cover_of_tiledL _ ![128, 256] (by sl_kernel_rfl))
      simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 0 inb_S1536x512_S1536x256_0_0 x _ (Nat.zero_add _).symm

set_option maxHeartbeats 1000000 in
theorem mid_B (c : Dev nD) (t : Fin cfg0.N) (h0 : ¬ t.val % 20 = 0) (h1 : 1 ≤ t.val) (y : S1536x512.Idx) :
    (outsAt0 m c t.val t.isLt).1 y = out m c t y := by
  rw [outsAt0_B m c t h0 h1]
  frame_out
  refine canon_tile (Val := Elt Ideal) (e := .f32) _ (out m c t) ?_ (View.cover_of_tiledL _ ![1536, 256] (by sl_kernel_rfl)) y
  refine ⟨fun x => ?_, fun x => ?_, trivial⟩
  · rw [ValueIdx.eq_ix2 x]
    refine (half1 (iblk m c 0 t) (iblk m c 1 t) (iblk m c 2 t) (iblk m c 3 t) (iblk m c 4 t) (iblk m c 5 t) (iblk m c 6 t) (iblk m c 7 t) (iblk m c 8 t) _ _ ?_ ?_ _ _ ⟨256 + (x 1).val, ?_⟩ rfl).trans ?_
    · refine read_tile _ 20 _ _ _ (by decide) ?_ (View.cover_of_tiledL _ ![128, 256] (by sl_kernel_rfl))
      simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 256 inb_S1536x512_S1536x256_0_256 x _ rfl
  · rw [ValueIdx.eq_ix2 x]
    refine (half0 (iblk m c 0 t) (iblk m c 1 t) (iblk m c 2 t) (iblk m c 3 t) (iblk m c 4 t) (iblk m c 5 t) (iblk m c 6 t) (iblk m c 7 t) (iblk m c 8 t) _ _ ?_ ?_ _ _ ⟨(x 1).val, ?_⟩ rfl).trans ?_
    · refine read_tile _ 20 _ _ _ (by decide) ?_ (View.cover_of_tiledL _ ![128, 256] (by sl_kernel_rfl))
      simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 0 inb_S1536x512_S1536x256_0_0 x _ (Nat.zero_add _).symm

set_option maxHeartbeats 1000000 in
theorem mx_A (c : Dev nD) (t : Fin cfg0.N) (h0 : t.val % 20 = 0) (h1 : ¬ 1 ≤ t.val) (y : S1536x128.Idx) :
    (outsAt0 m c t.val t.isLt).2 y = mx (out m c t) y := by
  rw [outsAt0_A m c t h0 h1]
  frame_out
  refine lanes (iblk m c 0 t) (iblk m c 1 t) (iblk m c 2 t) (iblk m c 3 t) (iblk m c 4 t) (iblk m c 5 t) (iblk m c 6 t) (iblk m c 7 t) (iblk m c 8 t) _ _ _ _ ?_ ?_ ?_ ?_ y
  · refine read_tile _ 20 _ _ _ (by decide) ?_ (View.cover_of_tiledL _ ![128, 256] (by sl_kernel_rfl))
    simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial

set_option maxHeartbeats 1000000 in
theorem mx_B (c : Dev nD) (t : Fin cfg0.N) (h0 : ¬ t.val % 20 = 0) (h1 : 1 ≤ t.val) (y : S1536x128.Idx) :
    (outsAt0 m c t.val t.isLt).2 y = max ((outsAt0 m c (t.val - 1) (lt_of_le_of_lt (Nat.sub_le _ _) t.isLt)).2 y) (mx (out m c t) y) := by
  rw [outsAt0_B m c t h0 h1]
  frame_out
  refine (pay2_at _ _ _ _ y).trans (congrArg₂ _ ?_ (lanes (iblk m c 0 t) (iblk m c 1 t) (iblk m c 2 t) (iblk m c 3 t) (iblk m c 4 t) (iblk m c 5 t) (iblk m c 6 t) (iblk m c 7 t) (iblk m c 8 t) _ _ _ _ ?_ ?_ ?_ ?_ y))
  · rfl
  · refine read_tile _ 20 _ _ _ (by decide) ?_ (View.cover_of_tiledL _ ![128, 256] (by sl_kernel_rfl))
    simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial

end Cert.GuIdeal.Block
-- ==== Proof.GuVal.lean ====
/-
  THE GATE/UP KERNEL'S RESULTS. Point `t` of the twenty stores columns `512 t … 512 t + 511` of `MID`; the lane maxima it
  carries are those of the columns seen so far, and after the last point those of the whole row.
-/
module

public import proofs.«01_k».proof.Proof.GuBlock

@[expose] public section

set_option maxRecDepth 16384

noncomputable section

open Idealize.ShloMosaic Idealize.ShloMosaic.TcCoe Idealize.SL.Sem
open Idealize.ShloMosaic.Pipeline (Dat)

namespace Cert.GuIdeal.Block
open Cert.GuIdeal Cert.GuIdeal.Gen Cert.Weights Cert.GuMath

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, t.val] ∧ win0_4.index t = ![0, 20 + t.val] ∧ win0_5.index t = ![0, t.val] ∧ win0_6.index t = ![0, 20 + t.val]
    ∧ win0_7.index t = ![0, 0, t.val] ∧ win0_8.index t = ![0, 0, 20 + t.val] ∧ win0_9.index t = ![0, t.val] ∧ win0_10.index t = ![0, 0] :=
  (by decide +kernel : ∀ t : Fin grid0.N, _)

theorem lt20 (t : Fin cfg0.N) : t.val < 20 := lt_of_lt_of_eq t.isLt N_0

section Reads
variable (c : Dev nD) (t : Fin cfg0.N)

theorem read0 (i : Fin 1536) (k : Fin 2560) : iblk m c 0 t (ix2 i k) = m ((c : Thread nD τ).loc main_arg0) (ix2 i k) := by
  blk_ext [iblk, V, idx t]
theorem read1 (i : Fin 1536) (k : Fin 128) : iblk m c 1 t (ix2 i k) = m ((c : Thread nD τ).loc main_arg1) (ix2 i k) := by
  blk_ext [iblk, V, idx t]
theorem read2 (i : Fin 1536) (k : Fin 128) : iblk m c 2 t (ix2 i k) = m ((c : Thread nD τ).loc main_arg2) (ix2 i k) := by
  blk_ext [iblk, V, idx t]
theorem read3 (k : Fin 1280) (n : Fin 512) (n' : Fin 20480) (h : n'.val = t.val * 512 + n.val) :
    iblk m c 3 t (ix2 k n) = m ((c : Thread nD τ).loc main_arg3) (ix2 k n') := by
  blk_ext [iblk, V, idx t]
theorem read4 (k : Fin 1280) (n : Fin 512) (n' : Fin 20480) (h : n'.val = (20 + t.val) * 512 + n.val) :
    iblk m c 4 t (ix2 k n) = m ((c : Thread nD τ).loc main_arg3) (ix2 k n') := by
  blk_ext [iblk, V, idx t]
theorem read5 (k : Fin 20) (n : Fin 512) (n' : Fin 20480) (h : n'.val = t.val * 512 + n.val) :
    iblk m c 5 t (ix2 k n) = m ((c : Thread nD τ).loc main_arg4) (ix2 k n') := by
  blk_ext [iblk, V, idx t]
theorem read6 (k : Fin 20) (n : Fin 512) (n' : Fin 20480) (h : n'.val = (20 + t.val) * 512 + n.val) :
    iblk m c 6 t (ix2 k n) = m ((c : Thread nD τ).loc main_arg4) (ix2 k n') := by
  blk_ext [iblk, V, idx t]
theorem read7 (k : Fin 128) (n : Fin 512) (n' : Fin 20480) (h : n'.val = t.val * 512 + n.val) :
    iblk m c 7 t (ix3 0 k n) = m ((c : Thread nD τ).loc main_arg5) (ix3 (0 : Fin 2) k n') := by
  blk_ext [iblk, V, idx t]
theorem read8 (k : Fin 128) (n : Fin 512) (n' : Fin 20480) (h : n'.val = (20 + t.val) * 512 + n.val) :
    iblk m c 8 t (ix3 0 k n) = m ((c : Thread nD τ).loc main_arg5) (ix3 (0 : Fin 2) k n') := by
  blk_ext [iblk, V, idx t]
end Reads

/-- `MID` of the argument arrays. -/
abbrev midOf (c : Dev nD) : Fin 1536 → Fin 10240 → EReal :=
  MID (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0

/-- The point's block is the point's columns of `MID`. -/
theorem out_at (c : Dev nD) (t : Fin cfg0.N) (i : Fin 1536) (n : Fin 512) (f : Fin 10240) (h : f.val = t.val * 512 + n.val) :
    out m c t (ix2 i n) = midOf m c i f := by
  have e0 : iblk m c 0 t = m ((c : Thread nD τ).loc main_arg0) := funext fun y => by
    rw [ValueIdx.eq_ix2 y]; exact read0 m c t _ _
  have e1 : iblk m c 1 t = m ((c : Thread nD τ).loc main_arg1) := funext fun y => by
    rw [ValueIdx.eq_ix2 y]; exact read1 m c t _ _
  have e2 : iblk m c 2 t = m ((c : Thread nD τ).loc main_arg2) := funext fun y => by
    rw [ValueIdx.eq_ix2 y]; exact read2 m c t _ _
  unfold out
  rw [e0, e1, e2]
  refine congrArg₂ (fun a b => gelu a * b) ?_ ?_
  · exact proj_congr _ _ _ _ _ _ _ _ _ _
      (fun k => deq_congr _ _ _ _ _ _ _ _ _ (fun k => read3 m c t k n _ h) fun g => read5 m c t g n _ h) fun k => read7 m c t k n _ h
  · have h' : 10240 + f.val = (20 + t.val) * 512 + n.val := by omega
    exact proj_congr _ _ _ _ _ _ _ _ _ _
      (fun k => deq_congr _ _ _ _ _ _ _ _ _ (fun k => read4 m c t k n _ h') fun g => read6 m c t g n _ h') fun k => read8 m c t k n _ h'

/-- The first result. -/
theorem final9 (c : Dev nD) : (dats m 0 c).arrAt 9 cfg0.N = fun y => midOf m c (y 0) (y 1) := by
  refine (dats m 0 c).arrAt_eq_of_covers 9 _ (by decide +kernel) fun t hf y => ?_
  blk_simp
  rw [after0_9]
  have ht := lt20 t
  have h1 : (y 1).val < 512 := (y 1).isLt
  have e : (win0_9.blk t).view.emb y = ix2 (y 0) ⟨t.val * 512 + (y 1).val, by omega⟩ := by blk_ext [idx t]
  rw [e]
  refine Eq.trans ?_ (out_at m c t (y 0) (y 1) _ rfl)
  refine Eq.trans ?_ (congrArg (out m c t) (ValueIdx.eq_ix2 (n0 := 1536) (n1 := 512) y))
  by_cases h0 : t.val % 20 = 0
  · exact mid_A m c t h0 (by omega) y
  · exact mid_B m c t h0 (by omega) y

/-- The lane maxima of one block. -/
theorem mx_le (c : Dev nD) (t : Fin cfg0.N) (i : Fin 1536) (l : Fin 128) (z : EReal) :
    mx (out m c t) (ix2 i l) ≤ z ↔ ∀ f : Fin 10240, f.val % 128 = l.val → f.val / 512 = t.val → mag (midOf m c i f) ≤ z := by
  have ht := lt20 t
  have hl := l.isLt
  have e : mx (out m c t) (ix2 i l) = max (max (max (mag (out m c t (ix2 i ⟨l.val, by omega⟩))) (mag (out m c t (ix2 i ⟨128 + l.val, by omega⟩))))
    (mag (out m c t (ix2 i ⟨256 + l.val, by omega⟩)))) (mag (out m c t (ix2 i ⟨384 + l.val, by omega⟩))) := rfl
  rw [e, out_at m c t i _ ⟨t.val * 512 + l.val, by omega⟩ rfl, out_at m c t i _ ⟨t.val * 512 + (128 + l.val), by omega⟩ rfl,
    out_at m c t i _ ⟨t.val * 512 + (256 + l.val), by omega⟩ rfl, out_at m c t i _ ⟨t.val * 512 + (384 + l.val), by omega⟩ rfl]
  exact lane_le (midOf m c i) t.val l.val ht hl z

/-- The lane maxima after a point are those of the columns seen so far. -/
theorem carried (c : Dev nD) (i : Fin 1536) (l : Fin 128) (z : EReal) : ∀ (n : ℕ) (hn : n < cfg0.N),
    (outsAt0 m c n hn).2 (ix2 i l) ≤ z ↔ ∀ f : Fin 10240, f.val % 128 = l.val → f.val / 512 ≤ n → mag (midOf m c i f) ≤ z := by
  intro n
  induction n with
  | zero =>
    intro hn
    rw [mx_A m c ⟨0, hn⟩ rfl (by show ¬ 1 ≤ 0; decide), mx_le]
    exact forall_congr' fun f => forall_congr' fun _ => by rw [Nat.le_zero]
  | succ n ih =>
    intro hn
    have h20 := lt20 ⟨n + 1, hn⟩
    rw [mx_B m c ⟨n + 1, hn⟩ (by dsimp only at h20 ⊢; omega) (by dsimp only; omega), max_le_iff, mx_le]
    have := ih (by omega)
    simp only [Nat.add_sub_cancel] at this ⊢
    rw [this]
    constructor
    · rintro ⟨a, b⟩ f hf hq
      rcases Nat.lt_or_ge (f.val / 512) (n + 1) with h | h
      · exact a f hf (by omega)
      · exact b f hf (by omega)
    · exact fun h => ⟨fun f hf hq => h f hf (by omega), fun f hf hq => h f hf (by omega)⟩

/-- Only the last point writes the maxima back. -/
theorem last10 : ∀ t : Fin cfg0.N, (cfg0.win 10).flush t = true → t.val = 19 :=
  (by decide +kernel : ∀ t : Fin grid0.N, (cfg0.win 10).flush t = true → t.val = 19)

/-- `MX` of the argument arrays. -/
abbrev mxOf (c : Dev nD) : Fin 1536 → Fin 128 → EReal :=
  MX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 0

/-- The second result. -/
theorem final10 (c : Dev nD) : (dats m 0 c).arrAt 10 cfg0.N = fun y => mxOf m c (y 0) (y 1) := by
  refine (dats m 0 c).arrAt_eq_of_covers 10 _ (by decide +kernel) fun t hf y => ?_
  blk_simp
  rw [after0_10]
  have ht : t.val = 19 := last10 t hf
  have e : (win0_10.blk t).view.emb y = ix2 (y 0) (y 1) := by blk_ext [idx t]
  rw [e]
  refine eq_of_forall_ge_iff (α := EReal) fun z => ?_
  have hy : y = ix2 (y 0) (y 1) := ValueIdx.eq_ix2 (n0 := 1536) (n1 := 128) y
  rw [hy]
  refine (carried m c (y 0) (y 1) z t.val t.isLt).trans ?_
  refine Iff.trans ?_ (MX_le _ _ _ _ _ _ _ _ _ z).symm
  exact ⟨fun h f hf => h f hf (by have := f.isLt; omega), fun h f hf _ => h f hf⟩

end Cert.GuIdeal.Block
-- ==== Proof.GuRef.lean ====
/-
  THE GATE/UP REFERENCE'S RESULTS, read at an index: `MID` and `MX`.
-/
module

public import proofs.«01_k».proof.Proof.GuMath
public import proofs.«01_k».proof.Proof.Gen.GuRefIdeal.Read
public import Idealize.ShloMosaic.Lib.Pipeline.ValueKit

@[expose] public section

set_option maxRecDepth 16384

noncomputable section

open Idealize.ShloMosaic Idealize.ShloMosaic.TcCoe Idealize.SL.Sem

namespace Cert.GuRefIdeal.Math
open Cert.GuRefIdeal Cert.GuRefIdeal.Gen Cert.GuRefIdeal.Read Cert.Weights Cert.GuMath

variable (x : FVec Ideal S1536x2560 .bf16) (cs : FVec Ideal S1536x128 .f32) (r : FVec Ideal S1536x128 .bf16)
  (w : IVec S1280x20480 8) (s : FVec Ideal S20x20480 .f32) (lb : FVec Ideal S2x128x20480 .bf16)

theorem lo_at (k : Fin 1280) (c : Fin 20480) :
    val_main_v23 (F := Ideal) w s (ix2 k c) = wLo (w (ix2 k c)) * s (ix2 ⟨k.val / 128, by omega⟩ c) := by
  pointwise [val_main_v23, val_main_v22, val_main_v21, val_main_v20, val_main_v19, val_main_v18, val_main_v17, val_main_v15, val_main_v9,
    val_main_v8, val_main_v7, val_main_v6, val_main_v5, val_main_v2, val_main_v1, val_main_v0, val_main_c, val_main_c_1, val_main_c_2]
  rfl

theorem hi_at (k : Fin 1280) (c : Fin 20480) :
    val_main_v30 (F := Ideal) w s (ix2 k c) = wHi (w (ix2 k c)) * s (ix2 ⟨10 + k.val / 128, by omega⟩ c) := by
  pointwise [val_main_v30, val_main_v29, val_main_v28, val_main_v27, val_main_v26, val_main_v25, val_main_v24, val_main_v16, val_main_v14,
    val_main_v13, val_main_v12, val_main_v11, val_main_v10, val_main_v4, val_main_v3, val_main_v0, val_main_c_0, val_main_c_3, val_main_c_4]
  rfl

theorem gu_at (i : Fin 1536) (c : Fin 20480) : val_main_v42 (F := Ideal) x cs r w s lb (ix2 i c) = GU x cs r w s lb 0 i c := by
  pointwise [val_main_v42, val_main_v41, val_main_v40, val_main_v39, val_main_v38, val_main_v37, val_main_v36, val_main_v35, val_main_v34,
    val_main_v33, val_main_v32, val_main_v31]
  unfold GU proj
  rw [sum_halves (H := 1280) (K := 2560) rfl (fun k => x (ix2 i k) * deq (H := 1280) (G := 20) rfl rfl w s k c)
    (fun k => x (ix2 i ⟨k.val, by omega⟩) * val_main_v23 (F := Ideal) w s (ix2 k c))
    (fun k => x (ix2 i ⟨1280 + k.val, by omega⟩) * val_main_v30 (F := Ideal) w s (ix2 k c))]
  · intro k
    have hk := k.isLt
    refine congrArg (_ * ·) ?_
    rw [lo_at]
    exact (deq_lo (H := 1280) (G := 20) rfl rfl w s _ k c _ (by rfl) (by rfl)).symm
  · intro k
    have hk := k.isLt
    refine congrArg (_ * ·) ?_
    rw [hi_at]
    exact (deq_hi (H := 1280) (G := 20) rfl rfl w s _ k c _ (by rfl) (by show 10 + k.val / 128 = (1280 + k.val) / 128; omega)).symm

theorem mid_at (i : Fin 1536) (f : Fin 10240) : val_main_v52 (F := Ideal) x cs r w s lb (ix2 i f) = MID x cs r w s lb 0 i f := by
  unfold val_main_v52 val_main_v51 val_main_v50 val_main_v49 val_main_v48 val_main_v47 val_main_v46 val_main_v45 val_main_v44 val_main_v43
  have e := gu_at x cs r w s lb i
  revert e
  generalize val_main_v42 (F := Ideal) x cs r w s lb = z
  intro e
  pointwise [val_main_cst, val_main_cst_5]
  rw [e, e, neg_mul, Ideal.erfc_neg]
  unfold MID gelu
  pointwise

theorem max_at (i : Fin 1536) (l : Fin 128) : val_main_v55 (F := Ideal) x cs r w s lb (ix2 i l) = MX x cs r w s lb 0 i l := by
  unfold val_main_v55 val_main_v54 val_main_v53
  have e := mid_at x cs r w s lb i
  revert e
  generalize val_main_v52 (F := Ideal) x cs r w s lb = z
  intro e
  pointwise [val_main_cst_6]
  unfold MX
  simp only [e]
  rfl

end Cert.GuRefIdeal.Math
-- ==== Proof.GuClaim.lean ====
/-
  THE CLAIM OF THE GATE/UP STAGE: at the ideal instance the kernel and the reference end with the same two arrays, `midArr` and
  `mxArr` of the arguments.
-/
module

public import proofs.«01_k».proof.Defs
public import proofs.«01_k».proof.Proof.GuVal
public import proofs.«01_k».proof.Proof.GuRef

@[expose] public section

set_option maxRecDepth 16384

noncomputable section

open Idealize.ShloMosaic Idealize.ShloMosaic.TcCoe Idealize.SL.Sem

namespace Cert.Gu.Claims
open Cert.GuMath

/-- What the kernel's two result arrays hold. -/
theorem kernel_value (m : (ℓ : Loc Cert.GuIdeal.nD Cert.GuIdeal.τ Cert.GuIdeal.sig) → Buf (Elt Ideal) ℓ) (c : Dev Cert.GuIdeal.nD) :
    (Cert.GuIdeal.Gen.dats m 0 c).arrAt 9 Cert.GuIdeal.cfg0.N = midArr (m ((c.tc : Thread Cert.GuIdeal.nD Cert.GuIdeal.τ).loc Cert.GuIdeal.main_arg0)) (m ((c.tc : Thread Cert.GuIdeal.nD Cert.GuIdeal.τ).loc Cert.GuIdeal.main_arg1)) (m ((c.tc : Thread Cert.GuIdeal.nD Cert.GuIdeal.τ).loc Cert.GuIdeal.main_arg2)) (m ((c.tc : Thread Cert.GuIdeal.nD Cert.GuIdeal.τ).loc Cert.GuIdeal.main_arg3)) (m ((c.tc : Thread Cert.GuIdeal.nD Cert.GuIdeal.τ).loc Cert.GuIdeal.main_arg4)) (m ((c.tc : Thread Cert.GuIdeal.nD Cert.GuIdeal.τ).loc Cert.GuIdeal.main_arg5)) 0
    ∧ (Cert.GuIdeal.Gen.dats m 0 c).arrAt 10 Cert.GuIdeal.cfg0.N = mxArr (m ((c.tc : Thread Cert.GuIdeal.nD Cert.GuIdeal.τ).loc Cert.GuIdeal.main_arg0)) (m ((c.tc : Thread Cert.GuIdeal.nD Cert.GuIdeal.τ).loc Cert.GuIdeal.main_arg1)) (m ((c.tc : Thread Cert.GuIdeal.nD Cert.GuIdeal.τ).loc Cert.GuIdeal.main_arg2)) (m ((c.tc : Thread Cert.GuIdeal.nD Cert.GuIdeal.τ).loc Cert.GuIdeal.main_arg3)) (m ((c.tc : Thread Cert.GuIdeal.nD Cert.GuIdeal.τ).loc Cert.GuIdeal.main_arg4)) (m ((c.tc : Thread Cert.GuIdeal.nD Cert.GuIdeal.τ).loc Cert.GuIdeal.main_arg5)) 0 :=
  ⟨Cert.GuIdeal.Block.final9 m c, Cert.GuIdeal.Block.final10 m c⟩

/-- What the reference's two results are. -/
theorem ref_value (m : (ℓ : Loc Cert.GuRefIdeal.nD Cert.GuRefIdeal.τ Cert.GuRefIdeal.sig) → Buf (Elt Ideal) ℓ) (c : Dev Cert.GuRefIdeal.nD) :
    Cert.GuRefIdeal.Value.res_main_v52 m c = midArr (m ((c.tc : Thread Cert.GuRefIdeal.nD Cert.GuRefIdeal.τ).loc Cert.GuRefIdeal.main_arg0)) (m ((c.tc : Thread Cert.GuRefIdeal.nD Cert.GuRefIdeal.τ).loc Cert.GuRefIdeal.main_arg1)) (m ((c.tc : Thread Cert.GuRefIdeal.nD Cert.GuRefIdeal.τ).loc Cert.GuRefIdeal.main_arg2)) (m ((c.tc : Thread Cert.GuRefIdeal.nD Cert.GuRefIdeal.τ).loc Cert.GuRefIdeal.main_arg3)) (m ((c.tc : Thread Cert.GuRefIdeal.nD Cert.GuRefIdeal.τ).loc Cert.GuRefIdeal.main_arg4)) (m ((c.tc : Thread Cert.GuRefIdeal.nD Cert.GuRefIdeal.τ).loc Cert.GuRefIdeal.main_arg5)) 0
    ∧ Cert.GuRefIdeal.Value.res_main_v55 m c = mxArr (m ((c.tc : Thread Cert.GuRefIdeal.nD Cert.GuRefIdeal.τ).loc Cert.GuRefIdeal.main_arg0)) (m ((c.tc : Thread Cert.GuRefIdeal.nD Cert.GuRefIdeal.τ).loc Cert.GuRefIdeal.main_arg1)) (m ((c.tc : Thread Cert.GuRefIdeal.nD Cert.GuRefIdeal.τ).loc Cert.GuRefIdeal.main_arg2)) (m ((c.tc : Thread Cert.GuRefIdeal.nD Cert.GuRefIdeal.τ).loc Cert.GuRefIdeal.main_arg3)) (m ((c.tc : Thread Cert.GuRefIdeal.nD Cert.GuRefIdeal.τ).loc Cert.GuRefIdeal.main_arg4)) (m ((c.tc : Thread Cert.GuRefIdeal.nD Cert.GuRefIdeal.τ).loc Cert.GuRefIdeal.main_arg5)) 0 := by
  constructor <;> funext y
  · rw [Cert.GuRefIdeal.Read.val_main_v52_eq, ValueIdx.eq_ix2 (n0 := 1536) (n1 := 10240) y]
    exact Cert.GuRefIdeal.Math.mid_at _ _ _ _ _ _ _ _
  · rw [Cert.GuRefIdeal.Read.val_main_v55_eq, ValueIdx.eq_ix2 (n0 := 1536) (n1 := 128) y]
    exact Cert.GuRefIdeal.Math.max_at _ _ _ _ _ _ _ _

/-- The reference terminates and keeps its arguments. -/
theorem ref_frame : Cert.quiescent_GuRefIdeal (hGuRefIdeal := Cert.GuRefIdeal.Gen.facts) := fun m ρ _ =>
  (θ_run Cert.GuRefIdeal.defs _ _).mono (fun r h => ⟨fun c => (h c).2.2, sem_eq_zero_of_no_sems (by decide) r.2⟩) (Cert.GuRefIdeal.Value.run m ρ)

theorem algebraic : Cert.algebraic_GuIdeal_GuRefIdeal (hGuIdeal := Cert.GuIdeal.Gen.facts) (hGuRefIdeal := Cert.GuRefIdeal.Gen.facts) := by
  intro m ρ m' ρ' _ hag
  refine ⟨fun c => midArr (m ((c.tc : Thread Cert.GuIdeal.nD Cert.GuIdeal.τ).loc Cert.GuIdeal.main_arg0)) (m ((c.tc : Thread Cert.GuIdeal.nD Cert.GuIdeal.τ).loc Cert.GuIdeal.main_arg1)) (m ((c.tc : Thread Cert.GuIdeal.nD Cert.GuIdeal.τ).loc Cert.GuIdeal.main_arg2)) (m ((c.tc : Thread Cert.GuIdeal.nD Cert.GuIdeal.τ).loc Cert.GuIdeal.main_arg3)) (m ((c.tc : Thread Cert.GuIdeal.nD Cert.GuIdeal.τ).loc Cert.GuIdeal.main_arg4)) (m ((c.tc : Thread Cert.GuIdeal.nD Cert.GuIdeal.τ).loc Cert.GuIdeal.main_arg5)) 0,
    fun c => mxArr (m ((c.tc : Thread Cert.GuIdeal.nD Cert.GuIdeal.τ).loc Cert.GuIdeal.main_arg0)) (m ((c.tc : Thread Cert.GuIdeal.nD Cert.GuIdeal.τ).loc Cert.GuIdeal.main_arg1)) (m ((c.tc : Thread Cert.GuIdeal.nD Cert.GuIdeal.τ).loc Cert.GuIdeal.main_arg2)) (m ((c.tc : Thread Cert.GuIdeal.nD Cert.GuIdeal.τ).loc Cert.GuIdeal.main_arg3)) (m ((c.tc : Thread Cert.GuIdeal.nD Cert.GuIdeal.τ).loc Cert.GuIdeal.main_arg4)) (m ((c.tc : Thread Cert.GuIdeal.nD Cert.GuIdeal.τ).loc Cert.GuIdeal.main_arg5)) 0, ?_, ?_⟩
  · exact (θ_run Cert.GuIdeal.defs _ _).mono
      (fun _ h c => ⟨(h c).1.trans (kernel_value m c).1, (h c).2.1.trans (kernel_value m c).2, (h c).2.2⟩) (Cert.GuIdeal.Value.run_blocks m ρ)
  · refine (θ_run Cert.GuRefIdeal.defs _ _).mono
      (fun _ h c => ⟨(h c).1.trans ?_, (h c).2.1.trans ?_, (h c).2.2⟩) (Cert.GuRefIdeal.Value.run m' ρ')
    · rw [(ref_value m' c).1, (hag c).1, (hag c).2.1, (hag c).2.2.1, (hag c).2.2.2.1, (hag c).2.2.2.2.1, (hag c).2.2.2.2.2]
    · rw [(ref_value m' c).2, (hag c).1, (hag c).2.1, (hag c).2.2.1, (hag c).2.2.2.1, (hag c).2.2.2.2.1, (hag c).2.2.2.2.2]

end Cert.Gu.Claims
-- ==== Proof.GuBBlock.lean ====
/-
  ONE GRID POINT of the gate/up stage. A point holds 512 gate columns and the 512 up columns of the same numbers. It dequantises
  256 columns of each at a time, multiplies, and stores GELU(gate) * up; it also keeps, per row and lane, the largest magnitude.
  `mid` is the block it stores and `mx` what it compares with the lane maxima, both as formulas over the point's input blocks.
-/
module

public import proofs.«01_k».proof.Proof.GuMath
public import proofs.«01_k».proof.Proof.Gen.GuBIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GuBIdeal.Block
open Cert.GuBIdeal Cert.GuBIdeal.Gen Cert.Weights Cert.GuMath

/-- The stored block. -/
def mid (X : FVec Ideal S1536x2560 .bf16) (cs : FVec Ideal S1536x128 .f32) (R : FVec Ideal S1536x128 .bf16)
    (wg wu : IVec S1280x512 8) (sg su : FVec Ideal S20x512 .f32) (bg bu : FVec Ideal S1x128x512 .bf16) : FVec Ideal S1536x512 .f32 :=
  fun y => gelu (proj X cs R (deq (H := 1280) (G := 20) rfl rfl wg sg) (fun k c => bg (ix3 0 k c)) (y 0) (y 1))
    * proj X cs R (deq (H := 1280) (G := 20) rfl rfl wu su) (fun k c => bu (ix3 0 k c)) (y 0) (y 1)

/-- The largest magnitude of a block's row `y 0` among the columns that share the lane `y 1`. -/
def mx (M : FVec Ideal S1536x512 .f32) : FVec Ideal S1536x128 .f32 :=
  fun y => max (max (max (mag (M (ix2 (y 0) ⟨(y 1).val, by have := (y 1).isLt; change _ < 128 at this; omega⟩)))
    (mag (M (ix2 (y 0) ⟨128 + (y 1).val, by have := (y 1).isLt; change _ < 128 at this; omega⟩))))
    (mag (M (ix2 (y 0) ⟨256 + (y 1).val, by have := (y 1).isLt; change _ < 128 at this; omega⟩))))
    (mag (M (ix2 (y 0) ⟨384 + (y 1).val, by have := (y 1).isLt; change _ < 128 at this; omega⟩)))

section Payloads
variable (v0 : FVec Ideal S1536x1 .f32) (X : FVec Ideal S1536x2560 .bf16) (W : FVec Ideal S2560x256 .bf16)
  (R : FVec Ideal S1536x128 .bf16) (L : FVec Ideal S1x128x256 .bf16) (g u : FVec Ideal S1536x256 .f32) (i : Fin 1536) (c : Fin 256)

theorem pay45_at : k0_pay45 (F := Ideal) v0 X W R L (ix2 i c)
    = (∑ k : Fin 2560, X (ix2 i k) * W (ix2 k c)) * v0 (ix2 i (0 : Fin 1)) + ∑ k : Fin 128, R (ix2 i k) * L (ix3 (0 : Fin 1) k c) := by
  pointwise [k0_pay45]

theorem pay131_at : k0_pay131 (F := Ideal) v0 X W R L (ix2 i c)
    = (∑ k : Fin 2560, X (ix2 i k) * W (ix2 k c)) * v0 (ix2 i (0 : Fin 1)) + ∑ k : Fin 128, R (ix2 i k) * L (ix3 (0 : Fin 1) k c) := by
  pointwise [k0_pay131]

theorem pay88_at : k0_pay88 (F := Ideal) v0 g X W R L (ix2 i c) = gelu (g (ix2 i c))
    * ((∑ k : Fin 2560, X (ix2 i k) * W (ix2 k c)) * v0 (ix2 i (0 : Fin 1)) + ∑ k : Fin 128, R (ix2 i k) * L (ix3 (0 : Fin 1) k c)) := by
  pointwise [k0_pay88, gelu]
  rfl

theorem pay172_at : k0_pay172 (F := Ideal) v0 g (k0_pay171 X W) R L (ix2 i c) = gelu (g (ix2 i c))
    * ((∑ k : Fin 2560, X (ix2 i k) * W (ix2 k c)) * v0 (ix2 i (0 : Fin 1)) + ∑ k : Fin 128, R (ix2 i k) * L (ix3 (0 : Fin 1) k c)) := by
  pointwise [k0_pay172, k0_pay171, gelu]
  rfl

theorem pay2_at (a : FVec Ideal S1536x128 .f32) (z : FVec Ideal S1536x256 .f32) (b p : FVec Ideal S1536x128 .f32) (y : S1536x128.Idx) :
    k0_pay2 (F := Ideal) a z b p y = max (p y) (k0_pay1 a z b y) := by
  obtain ⟨i, l, rfl⟩ : ∃ i l, y = ix2 i l := ⟨y 0, y 1, ValueIdx.eq_ix2 y⟩
  unfold k0_pay2
  generalize k0_pay1 a z b = w
  pointwise

end Payloads

section Halves
variable (X : FVec Ideal S1536x2560 .bf16) (cs : FVec Ideal S1536x128 .f32) (R : FVec Ideal S1536x128 .bf16)
    (wg wu : IVec S1280x512 8) (sg su : FVec Ideal S20x512 .f32) (bg bu : FVec Ideal S1x128x512 .bf16)
    (Wg Wu Wg' Wu' : FVec Ideal S2560x256 .bf16)

/-- The load of one chunk of the LoRA factor. -/
theorem lora_at (b : FVec Ideal S1x128x512 .bf16) (o : ℕ)
    (inb : ∀ d, (![0, 0, o] : Fin 3 → ℕ) d + (![1, 128, 256] : Fin 3 → ℕ) d ≤ S1x128x512.size d) (k : Fin 128) (c : Fin 256) (c' : Fin 512)
    (h : c'.val = o + c.val) :
    View.ld (Val := Elt Ideal) (e' := .bf16) b (Rect.unit (s := S1x128x512) ![0, 0, o] ![1, 128, 256] inb) (ix3 (0 : Fin 1) k c) = b (ix3 0 k c') := by
  refine congrArg b (funext fun d => Fin.ext ?_)
  match d with
  | ⟨0, _⟩ => rfl
  | ⟨1, _⟩ => show 0 + 1 * k.val = k.val; omega
  | ⟨2, _⟩ => show o + 1 * c.val = c'.val; omega

/-- The load of the row scales. -/
theorem scale_at (i : Fin 1536) :
    View.ld (Val := Elt Ideal) (e' := .f32) cs (Rect.unit (s := S1536x128) ![0, 0] ![1536, 1] inb_S1536x128_S1536x1_0_0) (ix2 i (0 : Fin 1)) = cs (ix2 i 0) :=
  ld_at (Val := Elt Ideal) (e := .f32) cs 0 0 _ i 0 i 0 (by omega) rfl

/-- The first 256 columns of the block. -/
theorem half0 (hg : Wg = deqTile (H := 1280) (G := 20) (N := 512) rfl rfl 0 (by decide) wg sg)
    (hu : Wu = deqTile (H := 1280) (G := 20) (N := 512) rfl rfl 0 (by decide) wu su) (i : Fin 1536) (c : Fin 256) (c' : Fin 512) (h : c'.val = c.val) :
    k0_pay88 (F := Ideal) (View.ld (Val := Elt Ideal) (e' := .f32) cs (Rect.unit (s := S1536x128) ![0, 0] ![1536, 1] inb_S1536x128_S1536x1_0_0))
      (k0_pay45 (View.ld (Val := Elt Ideal) (e' := .f32) cs (Rect.unit (s := S1536x128) ![0, 0] ![1536, 1] inb_S1536x128_S1536x1_0_0)) X Wg R
        (View.ld (Val := Elt Ideal) (e' := .bf16) bg (Rect.unit (s := S1x128x512) ![0, 0, 0] ![1, 128, 256] inb_S1x128x512_S1x128x256_0_0_0)))
      X Wu R (View.ld (Val := Elt Ideal) (e' := .bf16) bu (Rect.unit (s := S1x128x512) ![0, 0, 0] ![1, 128, 256] inb_S1x128x512_S1x128x256_0_0_0)) (ix2 i c)
      = mid X cs R wg wu sg su bg bu (ix2 i c') := by
  subst hg hu
  have hc : ∀ hlt, (⟨0 + c.val, hlt⟩ : Fin 512) = c' := fun _ => Fin.ext (by show 0 + c.val = _; omega)
  rw [pay88_at, pay45_at, scale_at]
  refine congrArg₂ (fun a b => gelu a * b) ?_ ?_ <;>
    refine congrArg₂ (fun a b => a * _ + b) (Finset.sum_congr rfl fun k _ => congrArg (_ * ·) (congrArg _ (hc _)))
      (Finset.sum_congr rfl fun k _ => congrArg (_ * ·) (lora_at _ 0 _ k c c' (by omega)))

/-- The last 256 columns of the block. -/
theorem half1 (hg : Wg' = deqTile (H := 1280) (G := 20) (N := 512) rfl rfl 256 (by decide) wg sg)
    (hu : Wu' = deqTile (H := 1280) (G := 20) (N := 512) rfl rfl 256 (by decide) wu su) (i : Fin 1536) (c : Fin 256) (c' : Fin 512) (h : c'.val = 256 + c.val) :
    k0_pay172 (F := Ideal) (View.ld (Val := Elt Ideal) (e' := .f32) cs (Rect.unit (s := S1536x128) ![0, 0] ![1536, 1] inb_S1536x128_S1536x1_0_0))
      (k0_pay131 (View.ld (Val := Elt Ideal) (e' := .f32) cs (Rect.unit (s := S1536x128) ![0, 0] ![1536, 1] inb_S1536x128_S1536x1_0_0)) X Wg' R
        (View.ld (Val := Elt Ideal) (e' := .bf16) bg (Rect.unit (s := S1x128x512) ![0, 0, 256] ![1, 128, 256] inb_S1x128x512_S1x128x256_0_0_256)))
      (k0_pay171 X Wu') R (View.ld (Val := Elt Ideal) (e' := .bf16) bu (Rect.unit (s := S1x128x512) ![0, 0, 256] ![1, 128, 256] inb_S1x128x512_S1x128x256_0_0_256)) (ix2 i c)
      = mid X cs R wg wu sg su bg bu (ix2 i c') := by
  subst hg hu
  have hc : ∀ hlt, (⟨256 + c.val, hlt⟩ : Fin 512) = c' := fun _ => Fin.ext (by show 256 + c.val = _; omega)
  rw [pay172_at, pay131_at, scale_at]
  refine congrArg₂ (fun a b => gelu a * b) ?_ ?_ <;>
    refine congrArg₂ (fun a b => a * _ + b) (Finset.sum_congr rfl fun k _ => congrArg (_ * ·) (congrArg _ (hc _)))
      (Finset.sum_congr rfl fun k _ => congrArg (_ * ·) (lora_at _ 256 _ k c c' h))

/-- The lane maxima of the block. -/
theorem lanes (hg : Wg = deqTile (H := 1280) (G := 20) (N := 512) rfl rfl 0 (by decide) wg sg)
    (hu : Wu = deqTile (H := 1280) (G := 20) (N := 512) rfl rfl 0 (by decide) wu su)
    (hg' : Wg' = deqTile (H := 1280) (G := 20) (N := 512) rfl rfl 256 (by decide) wg sg)
    (hu' : Wu' = deqTile (H := 1280) (G := 20) (N := 512) rfl rfl 256 (by decide) wu su) (y : S1536x128.Idx) :
    k0_pay1 (k0_pay89 (F := Ideal) (View.ld (Val := Elt Ideal) (e' := .f32) cs (Rect.unit (s := S1536x128) ![0, 0] ![1536, 1] inb_S1536x128_S1536x1_0_0))
      (k0_pay45 (View.ld (Val := Elt Ideal) (e' := .f32) cs (Rect.unit (s := S1536x128) ![0, 0] ![1536, 1] inb_S1536x128_S1536x1_0_0)) X Wg R
        (View.ld (Val := Elt Ideal) (e' := .bf16) bg (Rect.unit (s := S1x128x512) ![0, 0, 0] ![1, 128, 256] inb_S1x128x512_S1x128x256_0_0_0)))
      X Wu R (View.ld (Val := Elt Ideal) (e' := .bf16) bu (Rect.unit (s := S1x128x512) ![0, 0, 0] ![1, 128, 256] inb_S1x128x512_S1x128x256_0_0_0)))
      (k0_pay172 (F := Ideal) (View.ld (Val := Elt Ideal) (e' := .f32) cs (Rect.unit (s := S1536x128) ![0, 0] ![1536, 1] inb_S1536x128_S1536x1_0_0))
      (k0_pay131 (View.ld (Val := Elt Ideal) (e' := .f32) cs (Rect.unit (s := S1536x128) ![0, 0] ![1536, 1] inb_S1536x128_S1536x1_0_0)) X Wg' R
        (View.ld (Val := Elt Ideal) (e' := .bf16) bg (Rect.unit (s := S1x128x512) ![0, 0, 256] ![1, 128, 256] inb_S1x128x512_S1x128x256_0_0_256)))
      (k0_pay171 X Wu') R (View.ld (Val := Elt Ideal) (e' := .bf16) bu (Rect.unit (s := S1x128x512) ![0, 0, 256] ![1, 128, 256] inb_S1x128x512_S1x128x256_0_0_256)))
      (k0_pay173 (F := Ideal) (View.ld (Val := Elt Ideal) (e' := .f32) cs (Rect.unit (s := S1536x128) ![0, 0] ![1536, 1] inb_S1536x128_S1536x1_0_0))
      (k0_pay131 (View.ld (Val := Elt Ideal) (e' := .f32) cs (Rect.unit (s := S1536x128) ![0, 0] ![1536, 1] inb_S1536x128_S1536x1_0_0)) X Wg' R
        (View.ld (Val := Elt Ideal) (e' := .bf16) bg (Rect.unit (s := S1x128x512) ![0, 0, 256] ![1, 128, 256] inb_S1x128x512_S1x128x256_0_0_256)))
      (k0_pay171 X Wu') R (View.ld (Val := Elt Ideal) (e' := .bf16) bu (Rect.unit (s := S1x128x512) ![0, 0, 256] ![1, 128, 256] inb_S1x128x512_S1x128x256_0_0_256))) y
      = mx (mid X cs R wg wu sg su bg bu) y := by
  have a := half0 X cs R wg wu sg su bg bu Wg Wu hg hu
  have b := half1 X cs R wg wu sg su bg bu Wg' Wu' hg' hu'
  obtain ⟨i, l, rfl⟩ : ∃ i l, y = ix2 i l := ⟨y 0, y 1, ValueIdx.eq_ix2 y⟩
  unfold k0_pay89 k0_pay173
  revert a b
  generalize k0_pay88 (F := Ideal) _ _ _ _ _ _ = z
  generalize k0_pay172 (F := Ideal) _ _ _ _ _ = z'
  generalize mid X cs R wg wu sg su bg bu = M
  intro a b
  have e : ∀ c c' : Fin 512, c.val = c'.val → M (ix2 i c) = M (ix2 i c') := fun c c' h => by rw [Fin.ext h]
  pointwise [k0_pay1]
  have hl := l.isLt
  rw [a i _ ⟨l.val, by omega⟩ rfl, a i _ ⟨128 + l.val, by omega⟩ rfl, b i _ ⟨256 + l.val, by omega⟩ rfl,
    b i _ ⟨384 + l.val, by omega⟩ (by show 384 + l.val = 256 + (128 + l.val); omega)]
  rfl
/-- A block at an entry of the box of columns from `o` on. -/
theorem at_emb (M : FVec Ideal S1536x512 .f32) (o : ℕ) (inb : ∀ d, (![0, o] : Fin 2 → ℕ) d + (![1536, 256] : Fin 2 → ℕ) d ≤ S1536x512.size d)
    (x : S1536x256.Idx) (c : Fin 512) (h : c.val = o + (x 1).val) :
    M (ix2 (x 0) c) = M ((Rect.unit (s := S1536x512) ![0, o] ![1536, 256] inb).emb x) := by
  refine congrArg M (funext fun d => Fin.ext ?_)
  match d with
  | ⟨0, _⟩ => show (x 0).val = 0 + 1 * (x 0).val; omega
  | ⟨1, _⟩ => show c.val = o + 1 * (x 1).val; omega

end Halves

variable (m : (ℓ : Loc nD τ sig) → Buf (Elt Ideal) ℓ)

/-- The block the point `t` stores, over the blocks it reads. -/
def out (c : Dev nD) (t : Fin cfg0.N) : FVec Ideal S1536x512 .f32 :=
  mid (iblk m c 0 t) (iblk m c 1 t) (iblk m c 2 t) (iblk m c 3 t) (iblk m c 4 t) (iblk m c 5 t) (iblk m c 6 t) (iblk m c 7 t) (iblk m c 8 t)

set_option maxHeartbeats 1000000 in
theorem mid_A (c : Dev nD) (t : Fin cfg0.N) (h0 : t.val % 20 = 0) (h1 : ¬ 1 ≤ t.val) (y : S1536x512.Idx) :
    (outsAt0 m c t.val t.isLt).1 y = out m c t y := by
  rw [outsAt0_A m c t h0 h1]
  frame_out
  refine canon_tile (Val := Elt Ideal) (e := .f32) _ (out m c t) ?_ (View.cover_of_tiledL _ ![1536, 256] (by sl_kernel_rfl)) y
  refine ⟨fun x => ?_, fun x => ?_, trivial⟩
  · rw [ValueIdx.eq_ix2 x]
    refine (half1 (iblk m c 0 t) (iblk m c 1 t) (iblk m c 2 t) (iblk m c 3 t) (iblk m c 4 t) (iblk m c 5 t) (iblk m c 6 t) (iblk m c 7 t) (iblk m c 8 t) _ _ ?_ ?_ _ _ ⟨256 + (x 1).val, ?_⟩ rfl).trans ?_
    · refine read_tile _ 20 _ _ _ (by decide) ?_ (View.cover_of_tiledL _ ![128, 256] (by sl_kernel_rfl))
      simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 256 inb_S1536x512_S1536x256_0_256 x _ rfl
  · rw [ValueIdx.eq_ix2 x]
    refine (half0 (iblk m c 0 t) (iblk m c 1 t) (iblk m c 2 t) (iblk m c 3 t) (iblk m c 4 t) (iblk m c 5 t) (iblk m c 6 t) (iblk m c 7 t) (iblk m c 8 t) _ _ ?_ ?_ _ _ ⟨(x 1).val, ?_⟩ rfl).trans ?_
    · refine read_tile _ 20 _ _ _ (by decide) ?_ (View.cover_of_tiledL _ ![128, 256] (by sl_kernel_rfl))
      simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 0 inb_S1536x512_S1536x256_0_0 x _ (Nat.zero_add _).symm

set_option maxHeartbeats 1000000 in
theorem mid_B (c : Dev nD) (t : Fin cfg0.N) (h0 : ¬ t.val % 20 = 0) (h1 : 1 ≤ t.val) (y : S1536x512.Idx) :
    (outsAt0 m c t.val t.isLt).1 y = out m c t y := by
  rw [outsAt0_B m c t h0 h1]
  frame_out
  refine canon_tile (Val := Elt Ideal) (e := .f32) _ (out m c t) ?_ (View.cover_of_tiledL _ ![1536, 256] (by sl_kernel_rfl)) y
  refine ⟨fun x => ?_, fun x => ?_, trivial⟩
  · rw [ValueIdx.eq_ix2 x]
    refine (half1 (iblk m c 0 t) (iblk m c 1 t) (iblk m c 2 t) (iblk m c 3 t) (iblk m c 4 t) (iblk m c 5 t) (iblk m c 6 t) (iblk m c 7 t) (iblk m c 8 t) _ _ ?_ ?_ _ _ ⟨256 + (x 1).val, ?_⟩ rfl).trans ?_
    · refine read_tile _ 20 _ _ _ (by decide) ?_ (View.cover_of_tiledL _ ![128, 256] (by sl_kernel_rfl))
      simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 256 inb_S1536x512_S1536x256_0_256 x _ rfl
  · rw [ValueIdx.eq_ix2 x]
    refine (half0 (iblk m c 0 t) (iblk m c 1 t) (iblk m c 2 t) (iblk m c 3 t) (iblk m c 4 t) (iblk m c 5 t) (iblk m c 6 t) (iblk m c 7 t) (iblk m c 8 t) _ _ ?_ ?_ _ _ ⟨(x 1).val, ?_⟩ rfl).trans ?_
    · refine read_tile _ 20 _ _ _ (by decide) ?_ (View.cover_of_tiledL _ ![128, 256] (by sl_kernel_rfl))
      simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · refine read_tile _ 20 _ _ _ (by decide) ?_ (View.cover_of_tiledL _ ![128, 256] (by sl_kernel_rfl))
      simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
      iterate 10 refine ⟨fun x => hi_piece (H := 1280) (G := 20) (K := 2560) (N := 512) (n := 256) (r := 32) _ _ _ _ _ _ _ _ _ (by rfl) (by decide) (by rfl) (by rfl) _ _ _ _ _ _ _ _ x,
        fun x => lo_piece (H := 1280) (G := 20) (K := 2560) (N := 512) (n := 256) (r := 32) _ _ _ _ _ _ _ _ (by rfl) (by decide) (by rfl) _ _ _ _ _ _ _ _ x, ?_⟩
      exact trivial
    · have := (x 1).isLt; change _ < 256 at this; omega
    · exact at_emb (out m c t) 0 inb_S1536x512_S1536x256_0_0 x _ (Nat.zero_add _).symm

set_option maxHeartbeats 1000000 in
theorem mx_A (c : Dev nD) (t : Fin cfg0.N) (h0 : t.val % 20 = 0) (h1 : ¬ 1 ≤ t.val) (y : S1536x128.Idx) :
    (outsAt0 m c t.val t.isLt).2 y = mx (out m c t) y := by
  rw [outsAt0_A m c t h0 h1]
  frame_out
  refine lanes (iblk m c 0 t) (iblk m c 1 t) (iblk m c 2 t) (iblk m c 3 t) (iblk m c 4 t) (iblk m c 5 t) (iblk m c 6 t) (iblk m c 7 t) (iblk m c 8 t) _ _ _ _ ?_ ?_ ?_ ?_ y
  · refine read_tile _ 20 _ _ _ (by decide) ?_ (View.cover_of_tiledL _ ![128, 256] (by sl_kernel_rfl))
    simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial

set_option maxHeartbeats 1000000 in
theorem mx_B (c : Dev nD) (t : Fin cfg0.N) (h0 : ¬ t.val % 20 = 0) (h1 : 1 ≤ t.val) (y : S1536x128.Idx) :
    (outsAt0 m c t.val t.isLt).2 y = max ((outsAt0 m c (t.val - 1) (lt_of_le_of_lt (Nat.sub_le _ _) t.isLt)).2 y) (mx (out m c t) y) := by
  rw [outsAt0_B m c t h0 h1]
  frame_out
  refine (pay2_at _ _ _ _ y).trans (congrArg₂ _ ?_ (lanes (iblk m c 0 t) (iblk m c 1 t) (iblk m c 2 t) (iblk m c 3 t) (iblk m c 4 t) (iblk m c 5 t) (iblk m c 6 t) (iblk m c 7 t) (iblk m c 8 t) _ _ _ _ ?_ ?_ ?_ ?_ y))
  · rfl
  · refine read_tile _ 20 _ _ _ (by decide) ?_ (View.cover_of_tiledL _ ![128, 256] (by sl_kernel_rfl))
    simp only [List.take_succ_cons, List.take_zero, View.PiecesOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial
  · refine read_tile _ 20 _ _ _ (by decide) ?_ (View.cover_of_tiledL _ ![128, 256] (by sl_kernel_rfl))
    simp only [List.take_succ_cons, List.take_zero, View.PiecesOf, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]
    iterate 10 refine ⟨fun x => hi_piece (H := 1280) (G := 20) (K := 2560) (N := 512) (n := 256) (r := 32) _ _ _ _ _ _ _ _ _ (by rfl) (by decide) (by rfl) (by rfl) _ _ _ _ _ _ _ _ x,
      fun x => lo_piece (H := 1280) (G := 20) (K := 2560) (N := 512) (n := 256) (r := 32) _ _ _ _ _ _ _ _ (by rfl) (by decide) (by rfl) _ _ _ _ _ _ _ _ x, ?_⟩
    exact trivial

end Cert.GuBIdeal.Block
-- ==== Proof.GuBVal.lean ====
/-
  THE GATE/UP KERNEL'S RESULTS. Point `t` of the twenty stores columns `512 t … 512 t + 511` of `MID`; the lane maxima it
  carries are those of the columns seen so far, and after the last point those of the whole row.
-/
module

public import proofs.«01_k».proof.Proof.GuBBlock

@[expose] public section

set_option maxRecDepth 16384

noncomputable section

open Idealize.ShloMosaic Idealize.ShloMosaic.TcCoe Idealize.SL.Sem
open Idealize.ShloMosaic.Pipeline (Dat)

namespace Cert.GuBIdeal.Block
open Cert.GuBIdeal Cert.GuBIdeal.Gen Cert.Weights Cert.GuMath

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, t.val] ∧ win0_4.index t = ![0, 20 + t.val] ∧ win0_5.index t = ![0, t.val] ∧ win0_6.index t = ![0, 20 + t.val]
    ∧ win0_7.index t = ![1, 0, t.val] ∧ win0_8.index t = ![1, 0, 20 + t.val] ∧ win0_9.index t = ![0, t.val] ∧ win0_10.index t = ![0, 0] :=
  (by decide +kernel : ∀ t : Fin grid0.N, _)

theorem lt20 (t : Fin cfg0.N) : t.val < 20 := lt_of_lt_of_eq t.isLt N_0

section Reads
variable (c : Dev nD) (t : Fin cfg0.N)

theorem read0 (i : Fin 1536) (k : Fin 2560) : iblk m c 0 t (ix2 i k) = m ((c : Thread nD τ).loc main_arg0) (ix2 i k) := by
  blk_ext [iblk, V, idx t]
theorem read1 (i : Fin 1536) (k : Fin 128) : iblk m c 1 t (ix2 i k) = m ((c : Thread nD τ).loc main_arg1) (ix2 i k) := by
  blk_ext [iblk, V, idx t]
theorem read2 (i : Fin 1536) (k : Fin 128) : iblk m c 2 t (ix2 i k) = m ((c : Thread nD τ).loc main_arg2) (ix2 i k) := by
  blk_ext [iblk, V, idx t]
theorem read3 (k : Fin 1280) (n : Fin 512) (n' : Fin 20480) (h : n'.val = t.val * 512 + n.val) :
    iblk m c 3 t (ix2 k n) = m ((c : Thread nD τ).loc main_arg3) (ix2 k n') := by
  blk_ext [iblk, V, idx t]
theorem read4 (k : Fin 1280) (n : Fin 512) (n' : Fin 20480) (h : n'.val = (20 + t.val) * 512 + n.val) :
    iblk m c 4 t (ix2 k n) = m ((c : Thread nD τ).loc main_arg3) (ix2 k n') := by
  blk_ext [iblk, V, idx t]
theorem read5 (k : Fin 20) (n : Fin 512) (n' : Fin 20480) (h : n'.val = t.val * 512 + n.val) :
    iblk m c 5 t (ix2 k n) = m ((c : Thread nD τ).loc main_arg4) (ix2 k n') := by
  blk_ext [iblk, V, idx t]
theorem read6 (k : Fin 20) (n : Fin 512) (n' : Fin 20480) (h : n'.val = (20 + t.val) * 512 + n.val) :
    iblk m c 6 t (ix2 k n) = m ((c : Thread nD τ).loc main_arg4) (ix2 k n') := by
  blk_ext [iblk, V, idx t]
theorem read7 (k : Fin 128) (n : Fin 512) (n' : Fin 20480) (h : n'.val = t.val * 512 + n.val) :
    iblk m c 7 t (ix3 0 k n) = m ((c : Thread nD τ).loc main_arg5) (ix3 (1 : Fin 2) k n') := by
  blk_ext [iblk, V, idx t]
theorem read8 (k : Fin 128) (n : Fin 512) (n' : Fin 20480) (h : n'.val = (20 + t.val) * 512 + n.val) :
    iblk m c 8 t (ix3 0 k n) = m ((c : Thread nD τ).loc main_arg5) (ix3 (1 : Fin 2) k n') := by
  blk_ext [iblk, V, idx t]
end Reads

/-- `MID` of the argument arrays. -/
abbrev midOf (c : Dev nD) : Fin 1536 → Fin 10240 → EReal :=
  MID (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 1

/-- The point's block is the point's columns of `MID`. -/
theorem out_at (c : Dev nD) (t : Fin cfg0.N) (i : Fin 1536) (n : Fin 512) (f : Fin 10240) (h : f.val = t.val * 512 + n.val) :
    out m c t (ix2 i n) = midOf m c i f := by
  have e0 : iblk m c 0 t = m ((c : Thread nD τ).loc main_arg0) := funext fun y => by
    rw [ValueIdx.eq_ix2 y]; exact read0 m c t _ _
  have e1 : iblk m c 1 t = m ((c : Thread nD τ).loc main_arg1) := funext fun y => by
    rw [ValueIdx.eq_ix2 y]; exact read1 m c t _ _
  have e2 : iblk m c 2 t = m ((c : Thread nD τ).loc main_arg2) := funext fun y => by
    rw [ValueIdx.eq_ix2 y]; exact read2 m c t _ _
  unfold out
  rw [e0, e1, e2]
  refine congrArg₂ (fun a b => gelu a * b) ?_ ?_
  · exact proj_congr _ _ _ _ _ _ _ _ _ _
      (fun k => deq_congr _ _ _ _ _ _ _ _ _ (fun k => read3 m c t k n _ h) fun g => read5 m c t g n _ h) fun k => read7 m c t k n _ h
  · have h' : 10240 + f.val = (20 + t.val) * 512 + n.val := by omega
    exact proj_congr _ _ _ _ _ _ _ _ _ _
      (fun k => deq_congr _ _ _ _ _ _ _ _ _ (fun k => read4 m c t k n _ h') fun g => read6 m c t g n _ h') fun k => read8 m c t k n _ h'

/-- The first result. -/
theorem final9 (c : Dev nD) : (dats m 0 c).arrAt 9 cfg0.N = fun y => midOf m c (y 0) (y 1) := by
  refine (dats m 0 c).arrAt_eq_of_covers 9 _ (by decide +kernel) fun t hf y => ?_
  blk_simp
  rw [after0_9]
  have ht := lt20 t
  have h1 : (y 1).val < 512 := (y 1).isLt
  have e : (win0_9.blk t).view.emb y = ix2 (y 0) ⟨t.val * 512 + (y 1).val, by omega⟩ := by blk_ext [idx t]
  rw [e]
  refine Eq.trans ?_ (out_at m c t (y 0) (y 1) _ rfl)
  refine Eq.trans ?_ (congrArg (out m c t) (ValueIdx.eq_ix2 (n0 := 1536) (n1 := 512) y))
  by_cases h0 : t.val % 20 = 0
  · exact mid_A m c t h0 (by omega) y
  · exact mid_B m c t h0 (by omega) y

/-- The lane maxima of one block. -/
theorem mx_le (c : Dev nD) (t : Fin cfg0.N) (i : Fin 1536) (l : Fin 128) (z : EReal) :
    mx (out m c t) (ix2 i l) ≤ z ↔ ∀ f : Fin 10240, f.val % 128 = l.val → f.val / 512 = t.val → mag (midOf m c i f) ≤ z := by
  have ht := lt20 t
  have hl := l.isLt
  have e : mx (out m c t) (ix2 i l) = max (max (max (mag (out m c t (ix2 i ⟨l.val, by omega⟩))) (mag (out m c t (ix2 i ⟨128 + l.val, by omega⟩))))
    (mag (out m c t (ix2 i ⟨256 + l.val, by omega⟩)))) (mag (out m c t (ix2 i ⟨384 + l.val, by omega⟩))) := rfl
  rw [e, out_at m c t i _ ⟨t.val * 512 + l.val, by omega⟩ rfl, out_at m c t i _ ⟨t.val * 512 + (128 + l.val), by omega⟩ rfl,
    out_at m c t i _ ⟨t.val * 512 + (256 + l.val), by omega⟩ rfl, out_at m c t i _ ⟨t.val * 512 + (384 + l.val), by omega⟩ rfl]
  exact lane_le (midOf m c i) t.val l.val ht hl z

/-- The lane maxima after a point are those of the columns seen so far. -/
theorem carried (c : Dev nD) (i : Fin 1536) (l : Fin 128) (z : EReal) : ∀ (n : ℕ) (hn : n < cfg0.N),
    (outsAt0 m c n hn).2 (ix2 i l) ≤ z ↔ ∀ f : Fin 10240, f.val % 128 = l.val → f.val / 512 ≤ n → mag (midOf m c i f) ≤ z := by
  intro n
  induction n with
  | zero =>
    intro hn
    rw [mx_A m c ⟨0, hn⟩ rfl (by show ¬ 1 ≤ 0; decide), mx_le]
    exact forall_congr' fun f => forall_congr' fun _ => by rw [Nat.le_zero]
  | succ n ih =>
    intro hn
    have h20 := lt20 ⟨n + 1, hn⟩
    rw [mx_B m c ⟨n + 1, hn⟩ (by dsimp only at h20 ⊢; omega) (by dsimp only; omega), max_le_iff, mx_le]
    have := ih (by omega)
    simp only [Nat.add_sub_cancel] at this ⊢
    rw [this]
    constructor
    · rintro ⟨a, b⟩ f hf hq
      rcases Nat.lt_or_ge (f.val / 512) (n + 1) with h | h
      · exact a f hf (by omega)
      · exact b f hf (by omega)
    · exact fun h => ⟨fun f hf hq => h f hf (by omega), fun f hf hq => h f hf (by omega)⟩

/-- Only the last point writes the maxima back. -/
theorem last10 : ∀ t : Fin cfg0.N, (cfg0.win 10).flush t = true → t.val = 19 :=
  (by decide +kernel : ∀ t : Fin grid0.N, (cfg0.win 10).flush t = true → t.val = 19)

/-- `MX` of the argument arrays. -/
abbrev mxOf (c : Dev nD) : Fin 1536 → Fin 128 → EReal :=
  MX (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) 1

/-- The second result. -/
theorem final10 (c : Dev nD) : (dats m 0 c).arrAt 10 cfg0.N = fun y => mxOf m c (y 0) (y 1) := by
  refine (dats m 0 c).arrAt_eq_of_covers 10 _ (by decide +kernel) fun t hf y => ?_
  blk_simp
  rw [after0_10]
  have ht : t.val = 19 := last10 t hf
  have e : (win0_10.blk t).view.emb y = ix2 (y 0) (y 1) := by blk_ext [idx t]
  rw [e]
  refine eq_of_forall_ge_iff (α := EReal) fun z => ?_
  have hy : y = ix2 (y 0) (y 1) := ValueIdx.eq_ix2 (n0 := 1536) (n1 := 128) y
  rw [hy]
  refine (carried m c (y 0) (y 1) z t.val t.isLt).trans ?_
  refine Iff.trans ?_ (MX_le _ _ _ _ _ _ _ _ _ z).symm
  exact ⟨fun h f hf => h f hf (by have := f.isLt; omega), fun h f hf _ => h f hf⟩

end Cert.GuBIdeal.Block
-- ==== Proof.GuBRef.lean ====
/-
  THE GATE/UP REFERENCE'S RESULTS, read at an index: `MID` and `MX`.
-/
module

public import proofs.«01_k».proof.Proof.GuMath
public import proofs.«01_k».proof.Proof.Gen.GuBRefIdeal.Read
public import Idealize.ShloMosaic.Lib.Pipeline.ValueKit

@[expose] public section

set_option maxRecDepth 16384

noncomputable section

open Idealize.ShloMosaic Idealize.ShloMosaic.TcCoe Idealize.SL.Sem

namespace Cert.GuBRefIdeal.Math
open Cert.GuBRefIdeal Cert.GuBRefIdeal.Gen Cert.GuBRefIdeal.Read Cert.Weights Cert.GuMath

variable (x : FVec Ideal S1536x2560 .bf16) (cs : FVec Ideal S1536x128 .f32) (r : FVec Ideal S1536x128 .bf16)
  (w : IVec S1280x20480 8) (s : FVec Ideal S20x20480 .f32) (lb : FVec Ideal S2x128x20480 .bf16)

theorem lo_at (k : Fin 1280) (c : Fin 20480) :
    val_main_v23 (F := Ideal) w s (ix2 k c) = wLo (w (ix2 k c)) * s (ix2 ⟨k.val / 128, by omega⟩ c) := by
  pointwise [val_main_v23, val_main_v22, val_main_v21, val_main_v20, val_main_v19, val_main_v18, val_main_v17, val_main_v15, val_main_v9,
    val_main_v8, val_main_v7, val_main_v6, val_main_v5, val_main_v2, val_main_v1, val_main_v0, val_main_c, val_main_c_1, val_main_c_2]
  rfl

theorem hi_at (k : Fin 1280) (c : Fin 20480) :
    val_main_v30 (F := Ideal) w s (ix2 k c) = wHi (w (ix2 k c)) * s (ix2 ⟨10 + k.val / 128, by omega⟩ c) := by
  pointwise [val_main_v30, val_main_v29, val_main_v28, val_main_v27, val_main_v26, val_main_v25, val_main_v24, val_main_v16, val_main_v14,
    val_main_v13, val_main_v12, val_main_v11, val_main_v10, val_main_v4, val_main_v3, val_main_v0, val_main_c_0, val_main_c_3, val_main_c_4]
  rfl

theorem gu_at (i : Fin 1536) (c : Fin 20480) : val_main_v42 (F := Ideal) x cs r w s lb (ix2 i c) = GU x cs r w s lb 1 i c := by
  pointwise [val_main_v42, val_main_v41, val_main_v40, val_main_v39, val_main_v38, val_main_v37, val_main_v36, val_main_v35, val_main_v34,
    val_main_v33, val_main_v32, val_main_v31]
  unfold GU proj
  rw [sum_halves (H := 1280) (K := 2560) rfl (fun k => x (ix2 i k) * deq (H := 1280) (G := 20) rfl rfl w s k c)
    (fun k => x (ix2 i ⟨k.val, by omega⟩) * val_main_v23 (F := Ideal) w s (ix2 k c))
    (fun k => x (ix2 i ⟨1280 + k.val, by omega⟩) * val_main_v30 (F := Ideal) w s (ix2 k c))]
  · intro k
    have hk := k.isLt
    refine congrArg (_ * ·) ?_
    rw [lo_at]
    exact (deq_lo (H := 1280) (G := 20) rfl rfl w s _ k c _ (by rfl) (by rfl)).symm
  · intro k
    have hk := k.isLt
    refine congrArg (_ * ·) ?_
    rw [hi_at]
    exact (deq_hi (H := 1280) (G := 20) rfl rfl w s _ k c _ (by rfl) (by show 10 + k.val / 128 = (1280 + k.val) / 128; omega)).symm

theorem mid_at (i : Fin 1536) (f : Fin 10240) : val_main_v52 (F := Ideal) x cs r w s lb (ix2 i f) = MID x cs r w s lb 1 i f := by
  unfold val_main_v52 val_main_v51 val_main_v50 val_main_v49 val_main_v48 val_main_v47 val_main_v46 val_main_v45 val_main_v44 val_main_v43
  have e := gu_at x cs r w s lb i
  revert e
  generalize val_main_v42 (F := Ideal) x cs r w s lb = z
  intro e
  pointwise [val_main_cst, val_main_cst_5]
  rw [e, e, neg_mul, Ideal.erfc_neg]
  unfold MID gelu
  pointwise

theorem max_at (i : Fin 1536) (l : Fin 128) : val_main_v55 (F := Ideal) x cs r w s lb (ix2 i l) = MX x cs r w s lb 1 i l := by
  unfold val_main_v55 val_main_v54 val_main_v53
  have e := mid_at x cs r w s lb i
  revert e
  generalize val_main_v52 (F := Ideal) x cs r w s lb = z
  intro e
  pointwise [val_main_cst_6]
  unfold MX
  simp only [e]
  rfl

end Cert.GuBRefIdeal.Math
-- ==== Proof.GuBClaim.lean ====
/-
  THE CLAIM OF THE GATE/UP STAGE: at the ideal instance the kernel and the reference end with the same two arrays, `midArr` and
  `mxArr` of the arguments.
-/
module

public import proofs.«01_k».proof.Defs
public import proofs.«01_k».proof.Proof.GuBVal
public import proofs.«01_k».proof.Proof.GuBRef

@[expose] public section

set_option maxRecDepth 16384

noncomputable section

open Idealize.ShloMosaic Idealize.ShloMosaic.TcCoe Idealize.SL.Sem

namespace Cert.GuB.Claims
open Cert.GuMath

/-- What the kernel's two result arrays hold. -/
theorem kernel_value (m : (ℓ : Loc Cert.GuBIdeal.nD Cert.GuBIdeal.τ Cert.GuBIdeal.sig) → Buf (Elt Ideal) ℓ) (c : Dev Cert.GuBIdeal.nD) :
    (Cert.GuBIdeal.Gen.dats m 0 c).arrAt 9 Cert.GuBIdeal.cfg0.N = midArr (m ((c.tc : Thread Cert.GuBIdeal.nD Cert.GuBIdeal.τ).loc Cert.GuBIdeal.main_arg0)) (m ((c.tc : Thread Cert.GuBIdeal.nD Cert.GuBIdeal.τ).loc Cert.GuBIdeal.main_arg1)) (m ((c.tc : Thread Cert.GuBIdeal.nD Cert.GuBIdeal.τ).loc Cert.GuBIdeal.main_arg2)) (m ((c.tc : Thread Cert.GuBIdeal.nD Cert.GuBIdeal.τ).loc Cert.GuBIdeal.main_arg3)) (m ((c.tc : Thread Cert.GuBIdeal.nD Cert.GuBIdeal.τ).loc Cert.GuBIdeal.main_arg4)) (m ((c.tc : Thread Cert.GuBIdeal.nD Cert.GuBIdeal.τ).loc Cert.GuBIdeal.main_arg5)) 1
    ∧ (Cert.GuBIdeal.Gen.dats m 0 c).arrAt 10 Cert.GuBIdeal.cfg0.N = mxArr (m ((c.tc : Thread Cert.GuBIdeal.nD Cert.GuBIdeal.τ).loc Cert.GuBIdeal.main_arg0)) (m ((c.tc : Thread Cert.GuBIdeal.nD Cert.GuBIdeal.τ).loc Cert.GuBIdeal.main_arg1)) (m ((c.tc : Thread Cert.GuBIdeal.nD Cert.GuBIdeal.τ).loc Cert.GuBIdeal.main_arg2)) (m ((c.tc : Thread Cert.GuBIdeal.nD Cert.GuBIdeal.τ).loc Cert.GuBIdeal.main_arg3)) (m ((c.tc : Thread Cert.GuBIdeal.nD Cert.GuBIdeal.τ).loc Cert.GuBIdeal.main_arg4)) (m ((c.tc : Thread Cert.GuBIdeal.nD Cert.GuBIdeal.τ).loc Cert.GuBIdeal.main_arg5)) 1 :=
  ⟨Cert.GuBIdeal.Block.final9 m c, Cert.GuBIdeal.Block.final10 m c⟩

/-- What the reference's two results are. -/
theorem ref_value (m : (ℓ : Loc Cert.GuBRefIdeal.nD Cert.GuBRefIdeal.τ Cert.GuBRefIdeal.sig) → Buf (Elt Ideal) ℓ) (c : Dev Cert.GuBRefIdeal.nD) :
    Cert.GuBRefIdeal.Value.res_main_v52 m c = midArr (m ((c.tc : Thread Cert.GuBRefIdeal.nD Cert.GuBRefIdeal.τ).loc Cert.GuBRefIdeal.main_arg0)) (m ((c.tc : Thread Cert.GuBRefIdeal.nD Cert.GuBRefIdeal.τ).loc Cert.GuBRefIdeal.main_arg1)) (m ((c.tc : Thread Cert.GuBRefIdeal.nD Cert.GuBRefIdeal.τ).loc Cert.GuBRefIdeal.main_arg2)) (m ((c.tc : Thread Cert.GuBRefIdeal.nD Cert.GuBRefIdeal.τ).loc Cert.GuBRefIdeal.main_arg3)) (m ((c.tc : Thread Cert.GuBRefIdeal.nD Cert.GuBRefIdeal.τ).loc Cert.GuBRefIdeal.main_arg4)) (m ((c.tc : Thread Cert.GuBRefIdeal.nD Cert.GuBRefIdeal.τ).loc Cert.GuBRefIdeal.main_arg5)) 1
    ∧ Cert.GuBRefIdeal.Value.res_main_v55 m c = mxArr (m ((c.tc : Thread Cert.GuBRefIdeal.nD Cert.GuBRefIdeal.τ).loc Cert.GuBRefIdeal.main_arg0)) (m ((c.tc : Thread Cert.GuBRefIdeal.nD Cert.GuBRefIdeal.τ).loc Cert.GuBRefIdeal.main_arg1)) (m ((c.tc : Thread Cert.GuBRefIdeal.nD Cert.GuBRefIdeal.τ).loc Cert.GuBRefIdeal.main_arg2)) (m ((c.tc : Thread Cert.GuBRefIdeal.nD Cert.GuBRefIdeal.τ).loc Cert.GuBRefIdeal.main_arg3)) (m ((c.tc : Thread Cert.GuBRefIdeal.nD Cert.GuBRefIdeal.τ).loc Cert.GuBRefIdeal.main_arg4)) (m ((c.tc : Thread Cert.GuBRefIdeal.nD Cert.GuBRefIdeal.τ).loc Cert.GuBRefIdeal.main_arg5)) 1 := by
  constructor <;> funext y
  · rw [Cert.GuBRefIdeal.Read.val_main_v52_eq, ValueIdx.eq_ix2 (n0 := 1536) (n1 := 10240) y]
    exact Cert.GuBRefIdeal.Math.mid_at _ _ _ _ _ _ _ _
  · rw [Cert.GuBRefIdeal.Read.val_main_v55_eq, ValueIdx.eq_ix2 (n0 := 1536) (n1 := 128) y]
    exact Cert.GuBRefIdeal.Math.max_at _ _ _ _ _ _ _ _

/-- The reference terminates and keeps its arguments. -/
theorem ref_frame : Cert.quiescent_GuBRefIdeal (hGuBRefIdeal := Cert.GuBRefIdeal.Gen.facts) := fun m ρ _ =>
  (θ_run Cert.GuBRefIdeal.defs _ _).mono (fun r h => ⟨fun c => (h c).2.2, sem_eq_zero_of_no_sems (by decide) r.2⟩) (Cert.GuBRefIdeal.Value.run m ρ)

theorem algebraic : Cert.algebraic_GuBIdeal_GuBRefIdeal (hGuBIdeal := Cert.GuBIdeal.Gen.facts) (hGuBRefIdeal := Cert.GuBRefIdeal.Gen.facts) := by
  intro m ρ m' ρ' _ hag
  refine ⟨fun c => midArr (m ((c.tc : Thread Cert.GuBIdeal.nD Cert.GuBIdeal.τ).loc Cert.GuBIdeal.main_arg0)) (m ((c.tc : Thread Cert.GuBIdeal.nD Cert.GuBIdeal.τ).loc Cert.GuBIdeal.main_arg1)) (m ((c.tc : Thread Cert.GuBIdeal.nD Cert.GuBIdeal.τ).loc Cert.GuBIdeal.main_arg2)) (m ((c.tc : Thread Cert.GuBIdeal.nD Cert.GuBIdeal.τ).loc Cert.GuBIdeal.main_arg3)) (m ((c.tc : Thread Cert.GuBIdeal.nD Cert.GuBIdeal.τ).loc Cert.GuBIdeal.main_arg4)) (m ((c.tc : Thread Cert.GuBIdeal.nD Cert.GuBIdeal.τ).loc Cert.GuBIdeal.main_arg5)) 1,
    fun c => mxArr (m ((c.tc : Thread Cert.GuBIdeal.nD Cert.GuBIdeal.τ).loc Cert.GuBIdeal.main_arg0)) (m ((c.tc : Thread Cert.GuBIdeal.nD Cert.GuBIdeal.τ).loc Cert.GuBIdeal.main_arg1)) (m ((c.tc : Thread Cert.GuBIdeal.nD Cert.GuBIdeal.τ).loc Cert.GuBIdeal.main_arg2)) (m ((c.tc : Thread Cert.GuBIdeal.nD Cert.GuBIdeal.τ).loc Cert.GuBIdeal.main_arg3)) (m ((c.tc : Thread Cert.GuBIdeal.nD Cert.GuBIdeal.τ).loc Cert.GuBIdeal.main_arg4)) (m ((c.tc : Thread Cert.GuBIdeal.nD Cert.GuBIdeal.τ).loc Cert.GuBIdeal.main_arg5)) 1, ?_, ?_⟩
  · exact (θ_run Cert.GuBIdeal.defs _ _).mono
      (fun _ h c => ⟨(h c).1.trans (kernel_value m c).1, (h c).2.1.trans (kernel_value m c).2, (h c).2.2⟩) (Cert.GuBIdeal.Value.run_blocks m ρ)
  · refine (θ_run Cert.GuBRefIdeal.defs _ _).mono
      (fun _ h c => ⟨(h c).1.trans ?_, (h c).2.1.trans ?_, (h c).2.2⟩) (Cert.GuBRefIdeal.Value.run m' ρ')
    · rw [(ref_value m' c).1, (hag c).1, (hag c).2.1, (hag c).2.2.1, (hag c).2.2.2.1, (hag c).2.2.2.2.1, (hag c).2.2.2.2.2]
    · rw [(ref_value m' c).2, (hag c).1, (hag c).2.1, (hag c).2.2.1, (hag c).2.2.2.1, (hag c).2.2.2.2.1, (hag c).2.2.2.2.2]

end Cert.GuB.Claims
-- ==== Proof.QkvMath.lean ====
/-
  THE QUERY/KEY/VALUE STAGE AS MATHEMATICS. `Z` is a projection of the quantised rows: the integer rows times the dequantised
  weights, rescaled by the row's scale, plus the LoRA term. Its 5120 columns are 32 heads of 160; `rot` is the rotary rotation
  inside a head: column `c` of the first 80 is paired with column `c + 80`. `stack_at` reads a stack of blocks of 80 rows.
-/
module

public import proofs.«01_k».proof.Proof.Packed
public import Idealize.ShloMosaic.Lib.Pipeline.ValueKit

@[expose] public section

set_option maxRecDepth 16384

noncomputable section

namespace Cert.QkvMath

open Idealize.ShloMosaic Cert.Weights

/-- A row of numbers continued by zero. -/
def ext {N : ℕ} (f : Fin N → EReal) (c : ℕ) : EReal := if h : c < N then f ⟨c, h⟩ else 0

theorem ext_of {N : ℕ} (f : Fin N → EReal) (c : ℕ) (c' : Fin N) (h : c'.val = c) : ext f c = f c' := by
  subst h
  exact dif_pos c'.isLt

/-- The rotation of a row `z` of heads of 160 numbers. -/
def rot (z cos sin : ℕ → EReal) (c : ℕ) : EReal :=
  if c % 160 < 80 then z c * cos (c % 80) - z (c + 80) * sin (c % 80) else z c * cos (c % 80) + z (c - 80) * sin (c % 80)

/-- The rotation moves with a shift by whole heads. -/
theorem rot_shift (z z' cos sin cos' sin' : ℕ → EReal) (o c : ℕ) (ho : o % 160 = 0) (hz : ∀ e, e < c + 160 → c < e + 160 → e / 160 = c / 160 → z e = z' (o + e))
    (hc : ∀ d, d < 80 → cos d = cos' d) (hs : ∀ d, d < 80 → sin d = sin' d) : rot z cos sin c = rot z' cos' sin' (o + c) := by
  unfold rot
  rw [show (o + c) % 160 = c % 160 by omega, show (o + c) % 80 = c % 80 by omega, hc _ (by omega), hs _ (by omega),
    hz c (by omega) (by omega) rfl]
  by_cases h : c % 160 < 80
  · rw [if_pos h, if_pos h, hz (c + 80) (by omega) (by omega) (by omega)]
    rfl
  · rw [if_neg h, if_neg h, hz (c - 80) (by omega) (by omega) (by omega), show o + (c - 80) = o + c - 80 by omega]

/-- One number of a projection. -/
def proj {N : ℕ} (X : FVec Ideal ⟨2, ![1536, 5120]⟩ .bf16) (cs : FVec Ideal ⟨2, ![1536, 128]⟩ .f32) (R : Fin 1536 → Fin 128 → EReal)
    (w : Fin 5120 → Fin N → EReal) (L : Fin 128 → Fin N → EReal) (i : Fin 1536) (c : Fin N) : EReal :=
  (∑ k : Fin 5120, X (ix2 i k) * w k c) * cs (ix2 i 0) + ∑ k : Fin 128, R i k * L k c

theorem proj_congr {N N' : ℕ} (X : FVec Ideal ⟨2, ![1536, 5120]⟩ .bf16) (cs : FVec Ideal ⟨2, ![1536, 128]⟩ .f32)
    (R R' : Fin 1536 → Fin 128 → EReal) (w : Fin 5120 → Fin N → EReal) (w' : Fin 5120 → Fin N' → EReal) (L : Fin 128 → Fin N → EReal)
    (L' : Fin 128 → Fin N' → EReal) (i : Fin 1536) (c : Fin N) (c' : Fin N') (hR : ∀ k, R i k = R' i k) (hw : ∀ k, w k c = w' k c')
    (hL : ∀ k, L k c = L' k c') : proj X cs R w L i c = proj X cs R' w' L' i c' := by
  unfold proj
  simp only [hR, hw, hL]

section Arrays
variable (X : FVec Ideal ⟨2, ![1536, 5120]⟩ .bf16) (CS : FVec Ideal ⟨2, ![1536, 128]⟩ .f32) (T : FVec Ideal ⟨2, ![1536, 384]⟩ .bf16)
  (W : IVec ⟨2, ![2560, 15360]⟩ 8) (S : FVec Ideal ⟨2, ![40, 15360]⟩ .f32) (LB : FVec Ideal ⟨4, ![2, 3, 128, 5120]⟩ .bf16)
  (C N : FVec Ideal ⟨3, ![4, 80, 384]⟩ .f32)

/-- The projection number `kind` (query, key, value), with the LoRA factors of invocation `inv`. -/
def Z (kind : Fin 3) (inv : Fin 2) (i : Fin 1536) (c : Fin 5120) : EReal :=
  proj X CS (fun i k => T (ix2 i ⟨kind.val * 128 + k.val, by omega⟩))
    (fun k c => deq (H := 2560) (G := 40) rfl rfl W S k (⟨kind.val * 5120 + c.val, by omega⟩ : Fin 15360)) (fun k c => LB (ix4 inv kind k c)) i c

/-- The rotated projection at row `i`, which is position `i % 384` of batch `i / 384`. -/
def ROT (kind : Fin 3) (inv : Fin 2) (i : Fin 1536) (c : Fin 5120) : EReal :=
  rot (ext (Z X CS T W S LB kind inv i)) (ext fun d => C (ix3 (⟨i.val / 384, by omega⟩ : Fin 4) d (⟨i.val % 384, by omega⟩ : Fin 384)))
    (ext fun d => N (ix3 (⟨i.val / 384, by omega⟩ : Fin 4) d (⟨i.val % 384, by omega⟩ : Fin 384))) c.val

/-- The rotated query rows as an array. -/
def qArr (inv : Fin 2) : FVec Ideal ⟨2, ![1536, 5120]⟩ .bf16 := fun y => ROT X CS T W S LB C N 0 inv (y 0) (y 1)

/-- The projection from the two halves of the packed weights. -/
theorem Z_halves (kind : Fin 3) (inv : Fin 2) (i : Fin 1536) (c : Fin 5120) (n : Fin 15360) (hn : n.val = kind.val * 5120 + c.val)
    (a b : Fin 2560 → EReal) (l : Fin 128 → EReal) (g g' : Fin 2560 → Fin 40) (k0 k1 : Fin 2560 → Fin 5120)
    (h0 : ∀ k, (k0 k).val = k.val) (h1 : ∀ k, (k1 k).val = 2560 + k.val) (hg : ∀ k, (g k).val = k.val / 128) (hg' : ∀ k, (g' k).val = 20 + k.val / 128)
    (ha : ∀ k, a k = X (ix2 i (k0 k)) * (wLo (W (ix2 k n)) * S (ix2 (g k) n))) (hb : ∀ k, b k = X (ix2 i (k1 k)) * (wHi (W (ix2 k n)) * S (ix2 (g' k) n)))
    (hl : ∀ k : Fin 128, l k = T (ix2 i ⟨kind.val * 128 + k.val, by omega⟩) * LB (ix4 inv kind k c)) :
    (∑ k, a k + ∑ k, b k) * CS (ix2 i 0) + ∑ k, l k = Z X CS T W S LB kind inv i c := by
  obtain rfl : n = ⟨kind.val * 5120 + c.val, by clear hn ha hb; omega⟩ := Fin.ext hn
  unfold Z proj
  refine congrArg₂ (fun a b => a * _ + b) ?_ (Finset.sum_congr rfl fun k _ => hl k)
  refine (sum_halves (H := 2560) (K := 5120) rfl _ a b (fun k => ?_) (fun k => ?_)).symm
  · rw [ha, deq_lo (H := 2560) (G := 40) rfl rfl W S (k0 k) k _ (g k) (h0 k) (by rw [hg, h0])]
    rw [show k0 k = ⟨k.val, by omega⟩ from Fin.ext (h0 k)]
  · rw [hb, deq_hi (H := 2560) (G := 40) rfl rfl W S (k1 k) k _ (g' k) (h1 k) (by rw [hg', h1]; omega)]
    rw [show k1 k = ⟨2560 + k.val, by omega⟩ from Fin.ext (h1 k)]

/-- The rotation in the first half of a head, -/
theorem ROT_first (kind : Fin 3) (inv : Fin 2) (i : Fin 1536) (c c1 : Fin 5120) (d : Fin 80) (h : c.val % 160 < 80) (h1 : c1.val = c.val + 80)
    (hd : d.val = c.val % 160) : Z X CS T W S LB kind inv i c * C (ix3 (⟨i.val / 384, by omega⟩ : Fin 4) d (⟨i.val % 384, by omega⟩ : Fin 384))
      - Z X CS T W S LB kind inv i c1 * N (ix3 (⟨i.val / 384, by omega⟩ : Fin 4) d (⟨i.val % 384, by omega⟩ : Fin 384)) = ROT X CS T W S LB C N kind inv i c := by
  unfold ROT rot
  rw [if_pos h, ext_of _ c.val c rfl, ext_of _ (c.val + 80) c1 h1, ext_of _ (c.val % 80) d (by omega), ext_of _ (c.val % 80) d (by omega)]

/-- and in the second half. -/
theorem ROT_second (kind : Fin 3) (inv : Fin 2) (i : Fin 1536) (c c0 c1 : Fin 5120) (d : Fin 80) (h : ¬ c.val % 160 < 80) (h0 : c0.val = c.val)
    (h1 : c1.val + 80 = c.val) (hd : d.val + 80 = c.val % 160) :
    Z X CS T W S LB kind inv i c0 * C (ix3 (⟨i.val / 384, by omega⟩ : Fin 4) d (⟨i.val % 384, by omega⟩ : Fin 384))
      + Z X CS T W S LB kind inv i c1 * N (ix3 (⟨i.val / 384, by omega⟩ : Fin 4) d (⟨i.val % 384, by omega⟩ : Fin 384)) = ROT X CS T W S LB C N kind inv i c := by
  obtain rfl : c0 = c := Fin.ext h0
  unfold ROT rot
  rw [if_neg h, ext_of _ c0.val c0 rfl, ext_of _ (c0.val - 80) c1 (by omega), ext_of _ (c0.val % 80) d (by omega), ext_of _ (c0.val % 80) d (by omega)]

end Arrays

section Stack
variable {α : Type} {M n R : ℕ}

/-- The blocks of a list of blocks of `R` rows are the rows `o, o + 1, …` of `g`. -/
def Rows (g : ℕ → Fin n → α) : ℕ → List ((⟨2, ![R, n]⟩ : Shape).Idx → α) → Prop
  | _, [] => True
  | o, f :: L => (∀ (d : Fin R) (s : Fin n), f (ix2 d s) = g (o + d.val) s) ∧ Rows g (o + R) L

theorem stackAt (g : ℕ → Fin n → α) (j : (⟨2, ![M, n]⟩ : Shape).Idx) : ∀ (L : List ((⟨2, ![R, n]⟩ : Shape).Idx → α)) (o c : ℕ) (hs) (hc),
    Rows g o L → concatenateAt ⟨2, ![M, n]⟩ 0 j (L.map fun f => ⟨⟨2, ![R, n]⟩, f⟩) hs c hc = g (o + c) (j 1)
  | [], _, _, _, hc, _ => absurd hc (Nat.not_lt_zero _)
  | [f], o, c, hs, hc, h => by
    have hc' : c < R := by simpa [axisSizes] using hc
    refine Eq.trans ?_ (h.1 ⟨c, hc'⟩ (j 1))
    show f _ = f _
    refine congrArg f (funext fun d => Fin.ext ?_)
    match d with
    | ⟨0, _⟩ => rfl
    | ⟨1, _⟩ => rfl
  | f :: f' :: L, o, c, hs, hc, h => by
    by_cases hlt : c < R
    · refine Eq.trans (dif_pos hlt) ?_
      refine Eq.trans ?_ (h.1 ⟨c, hlt⟩ (j 1))
      refine congrArg f (funext fun d => Fin.ext ?_)
      match d with
      | ⟨0, _⟩ => rfl
      | ⟨1, _⟩ => rfl
    · refine Eq.trans (dif_neg hlt) ?_
      refine Eq.trans (stackAt g j (f' :: L) (o + R) (c - R) _ _ h.2) ?_
      rw [show o + R + (c - R) = o + c by omega]

/-- A stack of blocks of `R` rows, read at row `c`. -/
theorem stack_at (g : ℕ → Fin n → α) (f f' : (⟨2, ![R, n]⟩ : Shape).Idx → α) (L : List ((⟨2, ![R, n]⟩ : Shape).Idx → α)) (h)
    (hg : Rows g 0 (f :: f' :: L)) (c : Fin M) (s : Fin n) :
    concatenate ⟨2, ![M, n]⟩ 0 ((f :: f' :: L).map fun f => ⟨⟨2, ![R, n]⟩, f⟩) h (ix2 c s) = g c.val s := by
  refine (concatenate_apply _ _ _ h _).trans ((stackAt g _ (f :: f' :: L) 0 _ _ _ hg).trans ?_)
  rw [Nat.zero_add]
  rfl

end Stack

section Heads
variable (z : FVec Ideal ⟨2, ![1280, 384]⟩ .f32) (C S : FVec Ideal ⟨2, ![80, 384]⟩ .f32) (o o' : ℕ)
  (h : (⟨2, ![1280, 384]⟩ : Shape).Slices ![o, 0] ⟨2, ![80, 384]⟩) (h' : (⟨2, ![1280, 384]⟩ : Shape).Slices ![o', 0] ⟨2, ![80, 384]⟩)
  (d : Fin 80) (s : Fin 384)

/-- The rotated columns of position `s`. -/
def rotRow (c : ℕ) (s : Fin 384) : EReal := rot (ext fun c => z (ix2 c s)) (ext fun d => C (ix2 d s)) (ext fun d => S (ix2 d s)) c

theorem slice_at (ho : o + 80 ≤ 1280) (h) : extractStridedSlice ⟨2, ![80, 384]⟩ ![o, 0] z h (ix2 d s) = z (ix2 ⟨o + d.val, by omega⟩ s) := by
  pointwise

/-- The first half of a head, rotated. -/
theorem first_half (ho : o % 160 = 0) (ho' : o' = o + 80) (hb : o' + 80 ≤ 1280) :
    subf (F := Ideal) (mulf (extractStridedSlice ⟨2, ![80, 384]⟩ ![o, 0] z h) C) (mulf (extractStridedSlice ⟨2, ![80, 384]⟩ ![o', 0] z h') S) (ix2 d s)
      = rotRow z C S (o + d.val) s := by
  have hd := d.isLt
  show extractStridedSlice ⟨2, ![80, 384]⟩ ![o, 0] z h (ix2 d s) * C (ix2 d s) - extractStridedSlice ⟨2, ![80, 384]⟩ ![o', 0] z h' (ix2 d s) * S (ix2 d s) = _
  rw [slice_at z o d s (by omega), slice_at z o' d s hb]
  unfold rotRow rot
  rw [if_pos (by omega), ext_of _ _ ⟨o + d.val, by omega⟩ rfl, ext_of _ _ d (by omega), ext_of _ (o + d.val + 80) ⟨o' + d.val, by omega⟩ (by dsimp only; omega),
    ext_of _ _ d (by omega)]

/-- The second half of a head, rotated. -/
theorem second_half (ho : o % 160 = 80) (ho' : o = o' + 80) (hb : o + 80 ≤ 1280) :
    addf (F := Ideal) (mulf (extractStridedSlice ⟨2, ![80, 384]⟩ ![o, 0] z h) C) (mulf (extractStridedSlice ⟨2, ![80, 384]⟩ ![o', 0] z h') S) (ix2 d s)
      = rotRow z C S (o + d.val) s := by
  have hd := d.isLt
  show extractStridedSlice ⟨2, ![80, 384]⟩ ![o, 0] z h (ix2 d s) * C (ix2 d s) + extractStridedSlice ⟨2, ![80, 384]⟩ ![o', 0] z h' (ix2 d s) * S (ix2 d s) = _
  rw [slice_at z o d s hb, slice_at z o' d s (by omega)]
  unfold rotRow rot
  rw [if_neg (by omega), ext_of _ _ ⟨o + d.val, by omega⟩ rfl, ext_of _ _ d (by omega), ext_of _ (o + d.val - 80) ⟨o' + d.val, by omega⟩ (by dsimp only; omega),
    ext_of _ _ d (by omega)]

end Heads

section Chunks
variable (X : FVec Ideal ⟨2, ![1536, 5120]⟩ .bf16) (cs : FVec Ideal ⟨2, ![1536, 128]⟩ .f32) (R : FVec Ideal ⟨2, ![1536, 128]⟩ .bf16)
  (w : IVec ⟨2, ![2560, 1280]⟩ 8) (s : FVec Ideal ⟨2, ![40, 1280]⟩ .f32) (L : FVec Ideal ⟨4, ![1, 1, 128, 1280]⟩ .bf16)

/-- The projection onto the 1280 columns of a grid point, over the blocks the point reads. -/
def zBlk : FVec Ideal ⟨2, ![1536, 1280]⟩ .f32 := fun y => proj X cs (fun i k => R (ix2 i k)) (deq (H := 2560) (G := 40) rfl rfl w s)
  (fun k c => L (ix4 (0 : Fin 1) (0 : Fin 1) k c)) (y 0) (y 1)

/-- A chunk of 256 columns computed from the dequantised weights of its columns is the projection's chunk. -/
theorem chunk_at (o : ℕ) (ho : o + 256 ≤ 1280) (p : FVec Ideal ⟨2, ![1536, 256]⟩ .f32) (Wd : FVec Ideal ⟨2, ![5120, 256]⟩ .bf16)
    (inbC : ∀ d, (![0, 0] : Fin 2 → ℕ) d + (![1536, 1] : Fin 2 → ℕ) d ≤ (⟨2, ![1536, 128]⟩ : Shape).size d)
    (inbL : ∀ d, (![0, 0, 0, o] : Fin 4 → ℕ) d + (![1, 1, 128, 256] : Fin 4 → ℕ) d ≤ (⟨4, ![1, 1, 128, 1280]⟩ : Shape).size d)
    (hp : ∀ i c, p (ix2 i c) = (∑ k : Fin 5120, X (ix2 i k) * Wd (ix2 k c))
      * View.ld (Val := Elt Ideal) (e' := .f32) cs (Rect.unit (s := ⟨2, ![1536, 128]⟩) ![0, 0] ![1536, 1] inbC) (ix2 i (0 : Fin 1))
      + ∑ k : Fin 128, R (ix2 i k) * View.ld (Val := Elt Ideal) (e' := .bf16) L
        (Rect.unit (s := ⟨4, ![1, 1, 128, 1280]⟩) ![0, 0, 0, o] ![1, 1, 128, 256] inbL) (ix4 (0 : Fin 1) (0 : Fin 1) k c))
    (hW : Wd = deqTile (H := 2560) (G := 40) (N := 1280) rfl rfl o ho w s)
    (inb : ∀ d, (![0, o] : Fin 2 → ℕ) d + (![1536, 256] : Fin 2 → ℕ) d ≤ (⟨2, ![1536, 1280]⟩ : Shape).size d)
    (x : (⟨2, ![1536, 256]⟩ : Shape).Idx) :
    p x = zBlk X cs R w s L ((Rect.unit (s := ⟨2, ![1536, 1280]⟩) ![0, o] ![1536, 256] inb).emb x) := by
  obtain ⟨i, c, rfl⟩ : ∃ (i : Fin 1536) (c : Fin 256), x = ix2 i c := ⟨x 0, x 1, ValueIdx.eq_ix2 (n0 := 1536) (n1 := 256) x⟩
  subst hW
  have hc := c.isLt
  have e0 : ∀ h, (⟨o + c.val, h⟩ : Fin 1280) = ⟨o + c.val, by omega⟩ := fun _ => rfl
  have e : ((Rect.unit (s := ⟨2, ![1536, 1280]⟩) ![0, o] ![1536, 256] inb).emb (ix2 i c)) = ix2 i (⟨o + c.val, by omega⟩ : Fin 1280) := by
    funext d
    refine Fin.ext ?_
    match d with
    | ⟨0, _⟩ => show 0 + 1 * i.val = i.val; omega
    | ⟨1, _⟩ => show o + 1 * c.val = o + c.val; omega
  rw [hp, e, ld_at (Val := Elt Ideal) (e := .f32) cs 0 0 _ i 0 i 0 (by omega) rfl]
  refine congrArg₂ (fun a b => a * _ + b) rfl (Finset.sum_congr rfl fun k _ => congrArg (_ * ·) (congrArg L (funext fun d => Fin.ext ?_)))
  match d with
  | ⟨0, _⟩ => rfl
  | ⟨1, _⟩ => rfl
  | ⟨2, _⟩ => show 0 + 1 * k.val = k.val; omega
  | ⟨3, _⟩ => show o + 1 * c.val = o + c.val; omega

end Chunks

/-- Pieces of two lists. -/
theorem piecesOf_append {Val : EltTy → Type} {s : Shape} {e : EltTy} (G : s.Idx → Val e) : ∀ (L L' : List (View.Piece Val s e)),
    View.PiecesOf G L → View.PiecesOf G L' → View.PiecesOf G (L ++ L')
  | [], _, _, h => h
  | _ :: L, L', h, h' => ⟨h.1, piecesOf_append G L L' h.2 h'⟩

end Cert.QkvMath
-- ==== Proof.QBlock.lean ====
/-
  ONE GRID POINT of the query stage. A point holds 1280 columns (8 heads). It dequantises 256 columns at a time and multiplies,
  which fills the block `zBlk` of projections; then a loop over the four batches rotates each head and stores the rows.
-/
module

public import proofs.«01_k».proof.Proof.QkvMath
public import proofs.«01_k».proof.Proof.Gen.QIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QIdeal.Block
open Cert.QIdeal Cert.QIdeal.Gen Cert.Weights Cert.QkvMath

section Rotation
variable (C S : FVec Ideal S1x80x384 .f32) (Z : FVec Ideal S384x1280 .f32)

theorem flip_at (z : FVec Ideal S1280x384 .f32) (s : Fin 384) (c : Fin 1280) (h h') :
    truncf (F := Ideal) .bf16 (transpose S384x1280 [1, 0] z h) h' (ix2 s c) = z (ix2 c s) := by
  pointwise

/-- The stack a trip stores is the rotated rows. -/
theorem rot_at (s : Fin 384) (c : Fin 1280) :
   k0_pay1 (F := Ideal) (k0_pay2 C) (k0_pay3 S) (k0_pay4 Z) (k0_pay7 C S Z) (k0_pay8 C S Z) (k0_pay11 C S Z) (k0_pay12 C S Z)
    (k0_pay15 C S Z) (k0_pay16 C S Z) (k0_pay19 C S Z) (k0_pay20 C S Z) (k0_pay23 C S Z) (k0_pay24 C S Z) (k0_pay25 Z) (k0_pay26 Z) (ix2 s c)
    = rotRow (k0_pay4 Z) (k0_pay2 C) (k0_pay3 S) c.val s := by
  refine (flip_at _ s c _ _).trans ?_
  refine (stack_at (R := 80) (M := 1280) (rotRow (k0_pay4 Z) (k0_pay2 C) (k0_pay3 S)) _ _ [_, _, _, _, _, _, _, _, _, _, _, _, _, _] _ ?_ c s)
  exact ⟨fun d s => first_half _ _ _ 0 80 (by decide) (by decide) d s (by rfl) (by rfl) (by decide),
    fun d s => second_half _ _ _ 80 0 (by decide) (by decide) d s (by rfl) (by rfl) (by decide),
    fun d s => first_half _ _ _ 160 240 (by decide) (by decide) d s (by rfl) (by rfl) (by decide),
    fun d s => second_half _ _ _ 240 160 (by decide) (by decide) d s (by rfl) (by rfl) (by decide),
    fun d s => first_half _ _ _ 320 400 (by decide) (by decide) d s (by rfl) (by rfl) (by decide),
    fun d s => second_half _ _ _ 400 320 (by decide) (by decide) d s (by rfl) (by rfl) (by decide),
    fun d s => first_half _ _ _ 480 560 (by decide) (by decide) d s (by rfl) (by rfl) (by decide),
    fun d s => second_half _ _ _ 560 480 (by decide) (by decide) d s (by rfl) (by rfl) (by decide),
    fun d s => first_half _ _ _ 640 720 (by decide) (by decide) d s (by rfl) (by rfl) (by decide),
    fun d s => second_half _ _ _ 720 640 (by decide) (by decide) d s (by rfl) (by rfl) (by decide),
    fun d s => first_half _ _ _ 800 880 (by decide) (by decide) d s (by rfl) (by rfl) (by decide),
    fun d s => second_half _ _ _ 880 800 (by decide) (by decide) d s (by rfl) (by rfl) (by decide),
    fun d s => first_half _ _ _ 960 1040 (by decide) (by decide) d s (by rfl) (by rfl) (by decide),
    fun d s => second_half _ _ _ 1040 960 (by decide) (by decide) d s (by rfl) (by rfl) (by decide),
    fun d s => first_half _ _ _ 1120 1200 (by decide) (by decide) d s (by rfl) (by rfl) (by decide),
    fun d s => second_half _ _ _ 1200 1120 (by decide) (by decide) d s (by rfl) (by rfl) (by decide), trivial⟩

end Rotation

/-- Trip `k` of the loop is batch `k`. -/
theorem off1_eq : ∀ k : Fin k0_t1_loop.trips, k0_off1 k = ![k.val, 0, 0] := by decide +kernel
theorem off2_eq : ∀ k : Fin k0_t1_loop.trips, k0_off2 k = ![384 * k.val, 0] := by decide +kernel
theorem trips_eq : k0_t1_loop.trips = 4 := by decide +kernel

/-- The rotated block, from the accumulated block and the two tables. -/
def qBlk (A : FVec Ideal S1536x1280 .f32) (C N : FVec Ideal S4x80x384 .f32) : FVec Ideal S1536x1280 .bf16 :=
  fun y => rot (ext fun c => A (ix2 (y 0) c))
    (ext fun d => C (ix3 (⟨(y 0).val / 384, by have := (y 0).isLt; change _ < 1536 at this; omega⟩ : Fin 4) d (⟨(y 0).val % 384, by omega⟩ : Fin 384)))
    (ext fun d => N (ix3 (⟨(y 0).val / 384, by have := (y 0).isLt; change _ < 1536 at this; omega⟩ : Fin 4) d (⟨(y 0).val % 384, by omega⟩ : Fin 384))) (y 1).val

section Trip
variable (A : FVec Ideal S1536x1280 .f32) (C N : FVec Ideal S4x80x384 .f32) (k : Fin k0_t1_loop.trips)

theorem tab_at (inb) (d : Fin 80) (s : Fin 384) (b : Fin 4) (h : b.val = k.val) :
    k0_pay2 (F := Ideal) (View.ld (Val := Elt Ideal) (e' := .f32) C (Rect.unit (s := S4x80x384) (k0_off1 k) S1x80x384.size inb)) (ix2 d s) = C (ix3 b d s) := by
  have e : ∀ v : FVec Ideal S1x80x384 .f32, k0_pay2 (F := Ideal) v (ix2 d s) = v (ix3 (0 : Fin 1) d s) := fun v => by pointwise [k0_pay2]
  rw [e]
  refine congrArg C (funext fun a => Fin.ext ?_)
  have o := off1_eq k
  match a with
  | ⟨0, _⟩ => show k0_off1 k 0 + 1 * 0 = b.val; rw [o]; exact h.symm
  | ⟨1, _⟩ => show k0_off1 k 1 + 1 * d.val = d.val; rw [o]; show 0 + 1 * d.val = d.val; omega
  | ⟨2, _⟩ => show k0_off1 k 2 + 1 * s.val = s.val; rw [o]; show 0 + 1 * s.val = s.val; omega

theorem acc_at (inb) (c : Fin 1280) (s : Fin 384) (i : Fin 1536) (h : i.val = 384 * k.val + s.val) :
    k0_pay4 (F := Ideal) (View.ld (Val := Elt Ideal) (e' := .f32) A (Rect.unit (s := S1536x1280) (k0_off2 k) S384x1280.size inb)) (ix2 c s) = A (ix2 i c) := by
  have e : ∀ v : FVec Ideal S384x1280 .f32, k0_pay4 (F := Ideal) v (ix2 c s) = v (ix2 s c) := fun v => by pointwise [k0_pay4]
  rw [e]
  refine congrArg A (funext fun a => Fin.ext ?_)
  have o := off2_eq k
  match a with
  | ⟨0, _⟩ => show k0_off2 k 0 + 1 * s.val = i.val; rw [o]; show 384 * k.val + 1 * s.val = i.val; omega
  | ⟨1, _⟩ => show k0_off2 k 1 + 1 * c.val = c.val; rw [o]; show 0 + 1 * c.val = c.val; omega

/-- What a trip stores at row `s`, column `c` of its block. -/
theorem trip_at (i1 i2 i3) (s : Fin 384) (c : Fin 1280) (y : S1536x1280.Idx) (h0 : (y 0).val = 384 * k.val + s.val) (h1 : (y 1).val = c.val) :
    rotRow (k0_pay4 (F := Ideal) (View.ld (Val := Elt Ideal) (e' := .f32) A (Rect.unit (s := S1536x1280) (k0_off2 k) S384x1280.size i3)))
      (k0_pay2 (View.ld (Val := Elt Ideal) (e' := .f32) C (Rect.unit (s := S4x80x384) (k0_off1 k) S1x80x384.size i1)))
      (k0_pay3 (View.ld (Val := Elt Ideal) (e' := .f32) N (Rect.unit (s := S4x80x384) (k0_off1 k) S1x80x384.size i2))) c.val s = qBlk A C N y := by
  have hs := s.isLt
  unfold rotRow qBlk
  rw [h1]
  have ea : (fun c => k0_pay4 (F := Ideal) (View.ld (Val := Elt Ideal) (e' := .f32) A (Rect.unit (s := S1536x1280) (k0_off2 k) S384x1280.size i3)) (ix2 c s))
      = fun c => A (ix2 (y 0) c) := funext fun c => acc_at A k i3 c s (y 0) h0
  have ec : ∀ (T : FVec Ideal S4x80x384 .f32) (i1), (fun d => k0_pay2 (F := Ideal) (View.ld (Val := Elt Ideal) (e' := .f32) T (Rect.unit (s := S4x80x384) (k0_off1 k) S1x80x384.size i1)) (ix2 d s))
      = fun d => T (ix3 (⟨(y 0).val / 384, by have := (y 0).isLt; change _ < 1536 at this; omega⟩ : Fin 4) d (⟨(y 0).val % 384, by omega⟩ : Fin 384)) :=
    fun T i1 => funext fun d => by
      rw [show (⟨(y 0).val % 384, by omega⟩ : Fin 384) = s from Fin.ext (by show (y 0).val % 384 = s.val; omega)]
      exact tab_at T k i1 d s _ (by show (y 0).val / 384 = k.val; omega)
  rw [ea, ec C i1]
  exact congrArg (fun f => rot _ _ (ext f) _) (ec N i2)

end Trip

section Loop
variable (𝒱 : Variants) (c : Dev nD) (bd : Option 𝒱.V) (i : grid0.Coords) (arg1 : Memref sig .tc .vmem S1536x5120 .bf16) (harg1 : arg1.IsWhole) (arg2 : Memref sig .tc .vmem S1536x128 .f32) (harg2 : arg2.IsWhole) (arg3 : Memref sig .tc .vmem S1536x128 .bf16) (harg3 : arg3.IsWhole) (arg4 : Memref sig .tc .vmem S2560x1280 .i8) (harg4 : arg4.IsWhole) (arg5 : Memref sig .tc .vmem S40x1280 .f32) (harg5 : arg5.IsWhole) (arg6 : Memref sig .tc .vmem S1x1x128x1280 .bf16) (harg6 : arg6.IsWhole) (arg7 : Memref sig .tc .vmem S4x80x384 .f32) (harg7 : arg7.IsWhole) (arg8 : Memref sig .tc .vmem S4x80x384 .f32) (harg8 : arg8.IsWhole) (arg9 : Memref sig .tc .vmem S1536x1280 .bf16) (harg9 : arg9.IsWhole) (arg10 : Memref sig .tc .vmem S5120x256 .bf16) (harg10 : arg10.IsWhole) (arg11 : Memref sig .tc .vmem S5120x256 .bf16) (harg11 : arg11.IsWhole) (arg12 : Memref sig .tc .vmem S1536x1280 .f32) (harg12 : arg12.IsWhole) (c0_i32 : BitVec 32) (c1_i32 : BitVec 32) (X_arg7 : BufTy.Contents (Elt Ideal) arg7.view.ty) (X_arg8 : BufTy.Contents (Elt Ideal) arg8.view.ty) (X_arg12 : BufTy.Contents (Elt Ideal) arg12.view.ty)

theorem trip_pieces (k : Fin k0_t1_loop.trips) :
    View.PiecesOf (qBlk (arg12.view.read (Elt Ideal) X_arg12) (arg7.view.read (Elt Ideal) X_arg7) (arg8.view.read (Elt Ideal) X_arg8))
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 k) := by
  unfold tripL_k0_t1 trip_k0_t1
  frame_out
  refine ⟨fun x => ?_, trivial⟩
  obtain ⟨s, c, rfl⟩ : ∃ (s : Fin 384) (c : Fin 1280), x = ix2 s c := ⟨x 0, x 1, ValueIdx.eq_ix2 (n0 := 384) (n1 := 1280) x⟩
  have o := off2_eq k
  refine (rot_at _ _ _ s c).trans (trip_at _ _ _ k _ _ _ s c _ ?_ ?_)
  · show k0_off2 k 0 + 1 * s.val = _
    rw [o]; show 384 * k.val + 1 * s.val = _; omega
  · show k0_off2 k 1 + 1 * c.val = _
    rw [o]; show 0 + 1 * c.val = _; omega

theorem loop_pieces : ∀ n : ℕ, n ≤ k0_t1_loop.trips →
    View.PiecesOf (qBlk (arg12.view.read (Elt Ideal) X_arg12) (arg7.view.read (Elt Ideal) X_arg7) (arg8.view.read (Elt Ideal) X_arg8))
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 n)
  | 0, _ => trivial
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 ⟨n, h⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 (n + 1) = _ from e]
    exact piecesOf_append _ _ _ (trip_pieces 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 ⟨n, h⟩) (loop_pieces n (by omega))

end Loop

section Payloads
variable (X : FVec Ideal S1536x5120 .bf16) (W : FVec Ideal S5120x256 .bf16) (R : FVec Ideal S1536x128 .bf16)
  (L : FVec Ideal S1x1x128x256 .bf16) (v : FVec Ideal S1536x1 .f32) (i : Fin 1536) (c : Fin 256)

theorem chunk1024_at : k0_pay445 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay445]

theorem chunk768_at : k0_pay361 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay361]

theorem chunk512_at : k0_pay278 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay278]

theorem chunk256_at : k0_pay195 (F := Ideal) (k0_pay194 X W) R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay195, k0_pay194]

theorem chunk0_at : k0_pay111 (F := Ideal) (k0_pay109 X W) (k0_pay110 R L) v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay111, k0_pay109, k0_pay110]

end Payloads

variable (m : (ℓ : Loc nD τ sig) → Buf (Elt Ideal) ℓ)

set_option maxHeartbeats 2000000 in
/-- What a point stores, over the blocks it reads. -/
theorem out_at (c : Dev nD) (t : Fin cfg0.N) (y : S1536x1280.Idx) : outsAt0 m c t y
    = qBlk (zBlk (iblk m c 0 t) (iblk m c 1 t) (iblk m c 2 t) (iblk m c 3 t) (iblk m c 4 t) (iblk m c 5 t)) (iblk m c 6 t) (iblk m c 7 t) y := by
  unfold outsAt0 out0_A_8
  have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
  revert hc
  unfold kernelRun0_A
  intro hc
  rw [View.read_writes_eq_canon _ _ _ hc]
  refine (canon_tile _ _ (loop_pieces _ _ _ _ _ _ _ _ _ _ _ _ _ _ _ _ _ _ _ _ _ _ _ _ _ _ _ _ _ _ _ _ _ _ le_rfl) hc y).trans ?_
  clear hc
  frame_out
  refine congrArg (fun A => qBlk A _ _ y) (funext fun y => ?_)
  refine canon_tile (Val := Elt Ideal) (e := .f32) _ (zBlk (iblk m c 0 t) (iblk m c 1 t) (iblk m c 2 t) (iblk m c 3 t) (iblk m c 4 t) (iblk m c 5 t)) ?_
    (View.cover_of_tiledL _ ![1536, 256] (by sl_kernel_rfl)) y
  refine ⟨fun x => ?_, fun x => ?_, fun x => ?_, fun x => ?_, fun x => ?_, trivial⟩
  · refine chunk_at _ _ _ _ _ _ 1024 (by decide) _ _ _ _ (fun i c => chunk1024_at _ _ _ _ _ i c) ?_ inb_S1536x1280_S1536x256_0_1024 x
    refine read_tile _ 40 _ _ _ (by decide) ?_ (View.cover_of_tiledL _ ![128, 256] (by sl_kernel_rfl))
    simp only [List.take_succ_cons, List.take_zero, View.PiecesOf, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 768 (by decide) _ _ _ _ (fun i c => chunk768_at _ _ _ _ _ i c) ?_ inb_S1536x1280_S1536x256_0_768 x
    refine read_tile _ 40 _ _ _ (by decide) ?_ (View.cover_of_tiledL _ ![128, 256] (by sl_kernel_rfl))
    simp only [List.take_succ_cons, List.take_zero, View.PiecesOf, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 512 (by decide) _ _ _ _ (fun i c => chunk512_at _ _ _ _ _ i c) ?_ inb_S1536x1280_S1536x256_0_512 x
    refine read_tile _ 40 _ _ _ (by decide) ?_ (View.cover_of_tiledL _ ![128, 256] (by sl_kernel_rfl))
    simp only [List.take_succ_cons, List.take_zero, View.PiecesOf, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 256 (by decide) _ _ _ _ (fun i c => chunk256_at _ _ _ _ _ i c) ?_ inb_S1536x1280_S1536x256_0_256 x
    refine read_tile _ 40 _ _ _ (by decide) ?_ (View.cover_of_tiledL _ ![128, 256] (by sl_kernel_rfl))
    simp only [List.take_succ_cons, List.take_zero, View.PiecesOf, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 0 (by decide) _ _ _ _ (fun i c => chunk0_at _ _ _ _ _ i c) ?_ inb_S1536x1280_S1536x256_0_0 x
    refine read_tile _ 40 _ _ _ (by decide) ?_ (View.cover_of_tiledL _ ![128, 256] (by sl_kernel_rfl))
    simp only [List.take_succ_cons, List.take_zero, View.PiecesOf, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial

end Cert.QIdeal.Block
-- ==== Proof.QVal.lean ====
/-
  THE QUERY KERNEL'S RESULT. Point `t` of the four stores columns `1280 t … 1280 t + 1279` of the rotated query rows.
-/
module

public import proofs.«01_k».proof.Proof.QBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QIdeal.Block
open Cert.QIdeal Cert.QIdeal.Gen Cert.Weights Cert.QkvMath

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0 + t.val] ∧ win0_4.index t = ![0, 0 + t.val] ∧ win0_5.index t = ![0, 0, 0, t.val] ∧ win0_6.index t = ![0, 0, 0] ∧ win0_7.index t = ![0, 0, 0] ∧ win0_8.index t = ![0, t.val] :=
  (by decide +kernel : ∀ t : Fin grid0.N, _)

theorem lt4 (t : Fin cfg0.N) : t.val < 4 := lt_of_lt_of_eq t.isLt N_0

section Reads
variable (c : Dev nD) (t : Fin cfg0.N)

theorem read0 : iblk m c 0 t = m ((c : Thread nD τ).loc main_arg0) := funext fun y => by
  have h : ∀ (i : Fin 1536) (k : Fin 5120), iblk m c 0 t (ix2 i k) = m ((c : Thread nD τ).loc main_arg0) (ix2 i k) := fun i k => by blk_ext [iblk, V, idx t]
  rw [ValueIdx.eq_ix2 y]; exact h _ _
theorem read1 : iblk m c 1 t = m ((c : Thread nD τ).loc main_arg1) := funext fun y => by
  have h : ∀ (i : Fin 1536) (k : Fin 128), iblk m c 1 t (ix2 i k) = m ((c : Thread nD τ).loc main_arg1) (ix2 i k) := fun i k => by blk_ext [iblk, V, idx t]
  rw [ValueIdx.eq_ix2 y]; exact h _ _
theorem read2 (i : Fin 1536) (k : Fin 128) (k' : Fin 384) (h : k'.val = 0 * 128 + k.val) :
    iblk m c 2 t (ix2 i k) = m ((c : Thread nD τ).loc main_arg2) (ix2 i k') := by
  blk_ext [iblk, V, idx t]
theorem read3 (k : Fin 2560) (n : Fin 1280) (n' : Fin 15360) (h : n'.val = (0 + t.val) * 1280 + n.val) :
    iblk m c 3 t (ix2 k n) = m ((c : Thread nD τ).loc main_arg3) (ix2 k n') := by
  blk_ext [iblk, V, idx t]
theorem read4 (k : Fin 40) (n : Fin 1280) (n' : Fin 15360) (h : n'.val = (0 + t.val) * 1280 + n.val) :
    iblk m c 4 t (ix2 k n) = m ((c : Thread nD τ).loc main_arg4) (ix2 k n') := by
  blk_ext [iblk, V, idx t]
theorem read5 (k : Fin 128) (n : Fin 1280) (n' : Fin 5120) (h : n'.val = t.val * 1280 + n.val) :
    iblk m c 5 t (ix4 (0 : Fin 1) (0 : Fin 1) k n) = m ((c : Thread nD τ).loc main_arg5) (ix4 (0 : Fin 2) (0 : Fin 3) k n') := by
  blk_ext [iblk, V, idx t]
theorem read6 : iblk m c 6 t = m ((c : Thread nD τ).loc main_arg6) := funext fun y => by
  have h : ∀ (b : Fin 4) (d : Fin 80) (s : Fin 384), iblk m c 6 t (ix3 b d s) = m ((c : Thread nD τ).loc main_arg6) (ix3 b d s) := fun b d s => by blk_ext [iblk, V, idx t]
  rw [ValueIdx.eq_ix3 y]; exact h _ _ _
theorem read7 : iblk m c 7 t = m ((c : Thread nD τ).loc main_arg7) := funext fun y => by
  have h : ∀ (b : Fin 4) (d : Fin 80) (s : Fin 384), iblk m c 7 t (ix3 b d s) = m ((c : Thread nD τ).loc main_arg7) (ix3 b d s) := fun b d s => by blk_ext [iblk, V, idx t]
  rw [ValueIdx.eq_ix3 y]; exact h _ _ _

/-- The point's projections are the columns from `1280 t` on of `Z`. -/
theorem z_at (i : Fin 1536) (n : Fin 1280) (f : Fin 5120) (h : f.val = t.val * 1280 + n.val) :
    zBlk (iblk m c 0 t) (iblk m c 1 t) (iblk m c 2 t) (iblk m c 3 t) (iblk m c 4 t) (iblk m c 5 t) (ix2 i n) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 0 i f := by
  rw [read0 m c t, read1 m c t]
  refine proj_congr _ _ _ _ _ _ _ _ _ _ _ (fun k => read2 m c t i k _ rfl) (fun k => deq_congr _ _ _ _ _ _ _ _ _ (fun k => read3 m c t k n _ ?_) fun g => read4 m c t g n _ ?_)
    fun k => read5 m c t k n _ h
  · show 0 * 5120 + f.val = _; omega
  · show 0 * 5120 + f.val = _; omega

theorem z_shift (i : Fin 1536) (n : ℕ) (h1 : n < 1280) (e : ℕ) (_ : e < n + 160) (_ : n < e + 160) (h2 : e / 160 = n / 160) :
    ext (fun n => zBlk (iblk m c 0 t) (iblk m c 1 t) (iblk m c 2 t) (iblk m c 3 t) (iblk m c 4 t) (iblk m c 5 t) (ix2 i n)) e
      = ext (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 0 i) (t.val * 1280 + e) := by
  have ht := lt4 t
  have he : e < 1280 := by omega
  rw [ext_of _ e ⟨e, he⟩ rfl, ext_of _ (t.val * 1280 + e) ⟨t.val * 1280 + e, by omega⟩ rfl]
  exact z_at m c t i _ _ rfl

end Reads

/-- The kernel's result. -/
theorem final8 (c : Dev nD) : (dats m 0 c).arrAt 8 cfg0.N = qArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  refine (dats m 0 c).arrAt_eq_of_covers 8 _ (by decide +kernel) fun t hf y => ?_
  blk_simp
  rw [after0_8]
  have ht := lt4 t
  have h1 : (y 1).val < 1280 := (y 1).isLt
  have e : (win0_8.blk t).view.emb y = ix2 (y 0) ⟨t.val * 1280 + (y 1).val, by omega⟩ := by blk_ext [idx t]
  rw [e]
  refine (out_at m c t y).trans ?_
  unfold qBlk
  rw [read6 m c t, read7 m c t]
  exact rot_shift _ _ _ _ _ _ (t.val * 1280) (y 1).val (by omega) (z_shift m c t (y 0) (y 1).val h1) (fun _ _ => rfl) (fun _ _ => rfl)

end Cert.QIdeal.Block
-- ==== Proof.QRef.lean ====
/-
  THE QUERY REFERENCE'S RESULT, read at an index: `ROT`.
-/
module

public import proofs.«01_k».proof.Proof.QkvMath
public import proofs.«01_k».proof.Proof.Gen.QRefIdeal.Read

@[expose] public section

set_option maxRecDepth 16384

noncomputable section

open Idealize.ShloMosaic Idealize.ShloMosaic.TcCoe Idealize.SL.Sem

namespace Cert.QRefIdeal.Math
open Cert.QRefIdeal Cert.QRefIdeal.Gen Cert.QRefIdeal.Read Cert.Weights Cert.QkvMath

variable (x : FVec Ideal S1536x5120 .bf16) (cs : FVec Ideal S1536x128 .f32) (t : FVec Ideal S1536x384 .bf16)
  (w : IVec S2560x15360 8) (s : FVec Ideal S40x15360 .f32) (lb : FVec Ideal S2x3x128x5120 .bf16) (C N : FVec Ideal S4x80x384 .f32)

theorem lo_at (k : Fin 2560) (c : Fin 5120) :
    val_main_v25 (F := Ideal) w s (ix2 k c) = wLo (w (ix2 k ⟨0 * 5120 + c.val, by omega⟩)) * s (ix2 ⟨k.val / 128, by omega⟩ ⟨0 * 5120 + c.val, by omega⟩) := by
  pointwise [val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_v0, val_main_v17, val_main_c, val_main_c_1, val_main_c_2]
  rfl

theorem hi_at (k : Fin 2560) (c : Fin 5120) :
    val_main_v32 (F := Ideal) w s (ix2 k c) = wHi (w (ix2 k ⟨0 * 5120 + c.val, by omega⟩)) * s (ix2 ⟨20 + k.val / 128, by omega⟩ ⟨0 * 5120 + c.val, by omega⟩) := by
  pointwise [val_main_v32, val_main_v31, val_main_v30, val_main_v29, val_main_v28, val_main_v27, val_main_v26, val_main_v16, val_main_v15, val_main_v14, val_main_v13, val_main_v12, val_main_v18, val_main_v6, val_main_v5, val_main_v2, val_main_v1, val_main_v0, val_main_c_0, val_main_c_3, val_main_c_4]
  rfl

theorem z_at (i : Fin 1536) (c : Fin 5120) : val_main_v45 (F := Ideal) x cs t w s lb (ix2 i c) = Z x cs t w s lb 0 0 i c := by
  pointwise [val_main_v45, val_main_v44, val_main_v43, val_main_v42, val_main_v41, val_main_v40, val_main_v39, val_main_v38, val_main_v37, val_main_v36, val_main_v35, val_main_v34, val_main_v33]
  have hc := c.isLt
  refine Z_halves x cs t w s lb 0 0 i c ⟨0 * 5120 + c.val, by omega⟩ rfl _ _ _ (fun k => ⟨k.val / 128, by omega⟩) (fun k => ⟨20 + k.val / 128, by omega⟩)
    (fun k => ⟨k.val, by omega⟩) (fun k => ⟨2560 + k.val, by omega⟩) (fun _ => rfl) (fun _ => rfl) (fun _ => rfl) (fun _ => rfl)
    (fun k => congrArg (_ * ·) (lo_at w s k c)) (fun k => congrArg (_ * ·) (hi_at w s k c)) fun k => ?_
  refine congrArg (fun j => t (ix2 i j) * _) (Fin.ext ?_)
  first | rfl | (show k.val = 0 * 128 + k.val; omega)

theorem q_at (i : Fin 1536) (c : Fin 5120) : val_main_v65 (F := Ideal) x cs t w s lb C N (ix2 i c) = ROT x cs t w s lb C N 0 0 i c := by
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46
  have e := z_at x cs t w s lb i
  revert e
  generalize val_main_v45 (F := Ideal) x cs t w s lb = z
  intro e
  pointwise
  have hc := c.isLt
  by_cases h : c.val % 160 < 80
  · refine (dif_pos h).trans ((congrArg₂ (fun a b => a * _ - b * _) (e _) (e _)).trans ?_)
    exact ROT_first x cs t w s lb C N 0 0 i c _ _ h (by dsimp only; omega) rfl
  · refine (dif_neg h).trans ((congrArg₂ (fun a b => a * _ + b * _) (e _) (e _)).trans ?_)
    exact ROT_second x cs t w s lb C N 0 0 i c _ _ _ h (by dsimp only; omega) (by dsimp only; omega) (by dsimp only; omega)

end Cert.QRefIdeal.Math
-- ==== Proof.QClaim.lean ====
/-
  THE CLAIM OF THE QUERY STAGE: at the ideal instance the kernel and the reference end with the same array, `qArr` of the arguments.
-/
module

public import proofs.«01_k».proof.Defs
public import proofs.«01_k».proof.Proof.QVal
public import proofs.«01_k».proof.Proof.QRef

@[expose] public section

set_option maxRecDepth 16384

noncomputable section

open Idealize.ShloMosaic Idealize.ShloMosaic.TcCoe Idealize.SL.Sem

namespace Cert.Q.Claims
open Cert.QkvMath

/-- What the reference's result is. -/
theorem ref_value (m : (ℓ : Loc Cert.QRefIdeal.nD Cert.QRefIdeal.τ Cert.QRefIdeal.sig) → Buf (Elt Ideal) ℓ) (c : Dev Cert.QRefIdeal.nD) :
    Cert.QRefIdeal.Value.res_main_v65 m c = qArr (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4)) (m ((c.tc : Thread Cert.QRefIdeal.nD Cert.QRefIdeal.τ).loc Cert.QRefIdeal.main_arg5)) (m ((c.tc : Thread Cert.QRefIdeal.nD Cert.QRefIdeal.τ).loc Cert.QRefIdeal.main_arg6)) (m ((c.tc : Thread Cert.QRefIdeal.nD Cert.QRefIdeal.τ).loc Cert.QRefIdeal.main_arg7)) 0 := by
  funext y
  rw [Cert.QRefIdeal.Read.val_main_v65_eq, ValueIdx.eq_ix2 (n0 := 1536) (n1 := 5120) y]
  exact Cert.QRefIdeal.Math.q_at _ _ _ _ _ _ _ _ _ _

/-- The reference terminates and keeps its arguments. -/
theorem ref_frame : Cert.quiescent_QRefIdeal (hQRefIdeal := Cert.QRefIdeal.Gen.facts) := fun m ρ _ =>
  (θ_run Cert.QRefIdeal.defs _ _).mono (fun r h => ⟨fun c => (h c).2, sem_eq_zero_of_no_sems (by decide) r.2⟩) (Cert.QRefIdeal.Value.run m ρ)

theorem algebraic : Cert.algebraic_QIdeal_QRefIdeal (hQIdeal := Cert.QIdeal.Gen.facts) (hQRefIdeal := Cert.QRefIdeal.Gen.facts) := by
  intro m ρ m' ρ' _ hag
  refine ⟨fun c => qArr (m ((c.tc : Thread Cert.QIdeal.nD Cert.QIdeal.τ).loc Cert.QIdeal.main_arg0)) (m ((c.tc : Thread Cert.QIdeal.nD Cert.QIdeal.τ).loc Cert.QIdeal.main_arg1)) (m ((c.tc : Thread Cert.QIdeal.nD Cert.QIdeal.τ).loc Cert.QIdeal.main_arg2)) (m ((c.tc : Thread Cert.QIdeal.nD Cert.QIdeal.τ).loc Cert.QIdeal.main_arg3)) (m ((c.tc : Thread Cert.QIdeal.nD Cert.QIdeal.τ).loc Cert.QIdeal.main_arg4)) (m ((c.tc : Thread Cert.QIdeal.nD Cert.QIdeal.τ).loc Cert.QIdeal.main_arg5)) (m ((c.tc : Thread Cert.QIdeal.nD Cert.QIdeal.τ).loc Cert.QIdeal.main_arg6)) (m ((c.tc : Thread Cert.QIdeal.nD Cert.QIdeal.τ).loc Cert.QIdeal.main_arg7)) 0, ?_, ?_⟩
  · exact (θ_run Cert.QIdeal.defs _ _).mono
      (fun _ h c => ⟨(h c).1.trans (Cert.QIdeal.Block.final8 m c), (h c).2⟩) (Cert.QIdeal.Value.run_blocks m ρ)
  · refine (θ_run Cert.QRefIdeal.defs _ _).mono
      (fun _ h c => ⟨(h c).1.trans ?_, (h c).2⟩) (Cert.QRefIdeal.Value.run m' ρ')
    rw [ref_value m' c, (hag c).1, (hag c).2.1, (hag c).2.2.1, (hag c).2.2.2.1, (hag c).2.2.2.2.1, (hag c).2.2.2.2.2.1, (hag c).2.2.2.2.2.2.1, (hag c).2.2.2.2.2.2.2]

end Cert.Q.Claims
-- ==== Proof.QBBlock.lean ====
/-
  ONE GRID POINT of the query stage. A point holds 1280 columns (8 heads). It dequantises 256 columns at a time and multiplies,
  which fills the block `zBlk` of projections; then a loop over the four batches rotates each head and stores the rows.
-/
module

public import proofs.«01_k».proof.Proof.QkvMath
public import proofs.«01_k».proof.Proof.Gen.QBIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QBIdeal.Block
open Cert.QBIdeal Cert.QBIdeal.Gen Cert.Weights Cert.QkvMath

section Rotation
variable (C S : FVec Ideal S1x80x384 .f32) (Z : FVec Ideal S384x1280 .f32)

theorem flip_at (z : FVec Ideal S1280x384 .f32) (s : Fin 384) (c : Fin 1280) (h h') :
    truncf (F := Ideal) .bf16 (transpose S384x1280 [1, 0] z h) h' (ix2 s c) = z (ix2 c s) := by
  pointwise

/-- The stack a trip stores is the rotated rows. -/
theorem rot_at (s : Fin 384) (c : Fin 1280) :
   k0_pay1 (F := Ideal) (k0_pay2 C) (k0_pay3 S) (k0_pay4 Z) (k0_pay7 C S Z) (k0_pay8 C S Z) (k0_pay11 C S Z) (k0_pay12 C S Z)
    (k0_pay15 C S Z) (k0_pay16 C S Z) (k0_pay19 C S Z) (k0_pay20 C S Z) (k0_pay23 C S Z) (k0_pay24 C S Z) (k0_pay25 Z) (k0_pay26 Z) (ix2 s c)
    = rotRow (k0_pay4 Z) (k0_pay2 C) (k0_pay3 S) c.val s := by
  refine (flip_at _ s c _ _).trans ?_
  refine (stack_at (R := 80) (M := 1280) (rotRow (k0_pay4 Z) (k0_pay2 C) (k0_pay3 S)) _ _ [_, _, _, _, _, _, _, _, _, _, _, _, _, _] _ ?_ c s)
  exact ⟨fun d s => first_half _ _ _ 0 80 (by decide) (by decide) d s (by rfl) (by rfl) (by decide),
    fun d s => second_half _ _ _ 80 0 (by decide) (by decide) d s (by rfl) (by rfl) (by decide),
    fun d s => first_half _ _ _ 160 240 (by decide) (by decide) d s (by rfl) (by rfl) (by decide),
    fun d s => second_half _ _ _ 240 160 (by decide) (by decide) d s (by rfl) (by rfl) (by decide),
    fun d s => first_half _ _ _ 320 400 (by decide) (by decide) d s (by rfl) (by rfl) (by decide),
    fun d s => second_half _ _ _ 400 320 (by decide) (by decide) d s (by rfl) (by rfl) (by decide),
    fun d s => first_half _ _ _ 480 560 (by decide) (by decide) d s (by rfl) (by rfl) (by decide),
    fun d s => second_half _ _ _ 560 480 (by decide) (by decide) d s (by rfl) (by rfl) (by decide),
    fun d s => first_half _ _ _ 640 720 (by decide) (by decide) d s (by rfl) (by rfl) (by decide),
    fun d s => second_half _ _ _ 720 640 (by decide) (by decide) d s (by rfl) (by rfl) (by decide),
    fun d s => first_half _ _ _ 800 880 (by decide) (by decide) d s (by rfl) (by rfl) (by decide),
    fun d s => second_half _ _ _ 880 800 (by decide) (by decide) d s (by rfl) (by rfl) (by decide),
    fun d s => first_half _ _ _ 960 1040 (by decide) (by decide) d s (by rfl) (by rfl) (by decide),
    fun d s => second_half _ _ _ 1040 960 (by decide) (by decide) d s (by rfl) (by rfl) (by decide),
    fun d s => first_half _ _ _ 1120 1200 (by decide) (by decide) d s (by rfl) (by rfl) (by decide),
    fun d s => second_half _ _ _ 1200 1120 (by decide) (by decide) d s (by rfl) (by rfl) (by decide), trivial⟩

end Rotation

/-- Trip `k` of the loop is batch `k`. -/
theorem off1_eq : ∀ k : Fin k0_t1_loop.trips, k0_off1 k = ![k.val, 0, 0] := by decide +kernel
theorem off2_eq : ∀ k : Fin k0_t1_loop.trips, k0_off2 k = ![384 * k.val, 0] := by decide +kernel
theorem trips_eq : k0_t1_loop.trips = 4 := by decide +kernel

/-- The rotated block, from the accumulated block and the two tables. -/
def qBlk (A : FVec Ideal S1536x1280 .f32) (C N : FVec Ideal S4x80x384 .f32) : FVec Ideal S1536x1280 .bf16 :=
  fun y => rot (ext fun c => A (ix2 (y 0) c))
    (ext fun d => C (ix3 (⟨(y 0).val / 384, by have := (y 0).isLt; change _ < 1536 at this; omega⟩ : Fin 4) d (⟨(y 0).val % 384, by omega⟩ : Fin 384)))
    (ext fun d => N (ix3 (⟨(y 0).val / 384, by have := (y 0).isLt; change _ < 1536 at this; omega⟩ : Fin 4) d (⟨(y 0).val % 384, by omega⟩ : Fin 384))) (y 1).val

section Trip
variable (A : FVec Ideal S1536x1280 .f32) (C N : FVec Ideal S4x80x384 .f32) (k : Fin k0_t1_loop.trips)

theorem tab_at (inb) (d : Fin 80) (s : Fin 384) (b : Fin 4) (h : b.val = k.val) :
    k0_pay2 (F := Ideal) (View.ld (Val := Elt Ideal) (e' := .f32) C (Rect.unit (s := S4x80x384) (k0_off1 k) S1x80x384.size inb)) (ix2 d s) = C (ix3 b d s) := by
  have e : ∀ v : FVec Ideal S1x80x384 .f32, k0_pay2 (F := Ideal) v (ix2 d s) = v (ix3 (0 : Fin 1) d s) := fun v => by pointwise [k0_pay2]
  rw [e]
  refine congrArg C (funext fun a => Fin.ext ?_)
  have o := off1_eq k
  match a with
  | ⟨0, _⟩ => show k0_off1 k 0 + 1 * 0 = b.val; rw [o]; exact h.symm
  | ⟨1, _⟩ => show k0_off1 k 1 + 1 * d.val = d.val; rw [o]; show 0 + 1 * d.val = d.val; omega
  | ⟨2, _⟩ => show k0_off1 k 2 + 1 * s.val = s.val; rw [o]; show 0 + 1 * s.val = s.val; omega

theorem acc_at (inb) (c : Fin 1280) (s : Fin 384) (i : Fin 1536) (h : i.val = 384 * k.val + s.val) :
    k0_pay4 (F := Ideal) (View.ld (Val := Elt Ideal) (e' := .f32) A (Rect.unit (s := S1536x1280) (k0_off2 k) S384x1280.size inb)) (ix2 c s) = A (ix2 i c) := by
  have e : ∀ v : FVec Ideal S384x1280 .f32, k0_pay4 (F := Ideal) v (ix2 c s) = v (ix2 s c) := fun v => by pointwise [k0_pay4]
  rw [e]
  refine congrArg A (funext fun a => Fin.ext ?_)
  have o := off2_eq k
  match a with
  | ⟨0, _⟩ => show k0_off2 k 0 + 1 * s.val = i.val; rw [o]; show 384 * k.val + 1 * s.val = i.val; omega
  | ⟨1, _⟩ => show k0_off2 k 1 + 1 * c.val = c.val; rw [o]; show 0 + 1 * c.val = c.val; omega

/-- What a trip stores at row `s`, column `c` of its block. -/
theorem trip_at (i1 i2 i3) (s : Fin 384) (c : Fin 1280) (y : S1536x1280.Idx) (h0 : (y 0).val = 384 * k.val + s.val) (h1 : (y 1).val = c.val) :
    rotRow (k0_pay4 (F := Ideal) (View.ld (Val := Elt Ideal) (e' := .f32) A (Rect.unit (s := S1536x1280) (k0_off2 k) S384x1280.size i3)))
      (k0_pay2 (View.ld (Val := Elt Ideal) (e' := .f32) C (Rect.unit (s := S4x80x384) (k0_off1 k) S1x80x384.size i1)))
      (k0_pay3 (View.ld (Val := Elt Ideal) (e' := .f32) N (Rect.unit (s := S4x80x384) (k0_off1 k) S1x80x384.size i2))) c.val s = qBlk A C N y := by
  have hs := s.isLt
  unfold rotRow qBlk
  rw [h1]
  have ea : (fun c => k0_pay4 (F := Ideal) (View.ld (Val := Elt Ideal) (e' := .f32) A (Rect.unit (s := S1536x1280) (k0_off2 k) S384x1280.size i3)) (ix2 c s))
      = fun c => A (ix2 (y 0) c) := funext fun c => acc_at A k i3 c s (y 0) h0
  have ec : ∀ (T : FVec Ideal S4x80x384 .f32) (i1), (fun d => k0_pay2 (F := Ideal) (View.ld (Val := Elt Ideal) (e' := .f32) T (Rect.unit (s := S4x80x384) (k0_off1 k) S1x80x384.size i1)) (ix2 d s))
      = fun d => T (ix3 (⟨(y 0).val / 384, by have := (y 0).isLt; change _ < 1536 at this; omega⟩ : Fin 4) d (⟨(y 0).val % 384, by omega⟩ : Fin 384)) :=
    fun T i1 => funext fun d => by
      rw [show (⟨(y 0).val % 384, by omega⟩ : Fin 384) = s from Fin.ext (by show (y 0).val % 384 = s.val; omega)]
      exact tab_at T k i1 d s _ (by show (y 0).val / 384 = k.val; omega)
  rw [ea, ec C i1]
  exact congrArg (fun f => rot _ _ (ext f) _) (ec N i2)

end Trip

section Loop
variable (𝒱 : Variants) (c : Dev nD) (bd : Option 𝒱.V) (i : grid0.Coords) (arg1 : Memref sig .tc .vmem S1536x5120 .bf16) (harg1 : arg1.IsWhole) (arg2 : Memref sig .tc .vmem S1536x128 .f32) (harg2 : arg2.IsWhole) (arg3 : Memref sig .tc .vmem S1536x128 .bf16) (harg3 : arg3.IsWhole) (arg4 : Memref sig .tc .vmem S2560x1280 .i8) (harg4 : arg4.IsWhole) (arg5 : Memref sig .tc .vmem S40x1280 .f32) (harg5 : arg5.IsWhole) (arg6 : Memref sig .tc .vmem S1x1x128x1280 .bf16) (harg6 : arg6.IsWhole) (arg7 : Memref sig .tc .vmem S4x80x384 .f32) (harg7 : arg7.IsWhole) (arg8 : Memref sig .tc .vmem S4x80x384 .f32) (harg8 : arg8.IsWhole) (arg9 : Memref sig .tc .vmem S1536x1280 .bf16) (harg9 : arg9.IsWhole) (arg10 : Memref sig .tc .vmem S5120x256 .bf16) (harg10 : arg10.IsWhole) (arg11 : Memref sig .tc .vmem S5120x256 .bf16) (harg11 : arg11.IsWhole) (arg12 : Memref sig .tc .vmem S1536x1280 .f32) (harg12 : arg12.IsWhole) (c0_i32 : BitVec 32) (c1_i32 : BitVec 32) (X_arg7 : BufTy.Contents (Elt Ideal) arg7.view.ty) (X_arg8 : BufTy.Contents (Elt Ideal) arg8.view.ty) (X_arg12 : BufTy.Contents (Elt Ideal) arg12.view.ty)

theorem trip_pieces (k : Fin k0_t1_loop.trips) :
    View.PiecesOf (qBlk (arg12.view.read (Elt Ideal) X_arg12) (arg7.view.read (Elt Ideal) X_arg7) (arg8.view.read (Elt Ideal) X_arg8))
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 k) := by
  unfold tripL_k0_t1 trip_k0_t1
  frame_out
  refine ⟨fun x => ?_, trivial⟩
  obtain ⟨s, c, rfl⟩ : ∃ (s : Fin 384) (c : Fin 1280), x = ix2 s c := ⟨x 0, x 1, ValueIdx.eq_ix2 (n0 := 384) (n1 := 1280) x⟩
  have o := off2_eq k
  refine (rot_at _ _ _ s c).trans (trip_at _ _ _ k _ _ _ s c _ ?_ ?_)
  · show k0_off2 k 0 + 1 * s.val = _
    rw [o]; show 384 * k.val + 1 * s.val = _; omega
  · show k0_off2 k 1 + 1 * c.val = _
    rw [o]; show 0 + 1 * c.val = _; omega

theorem loop_pieces : ∀ n : ℕ, n ≤ k0_t1_loop.trips →
    View.PiecesOf (qBlk (arg12.view.read (Elt Ideal) X_arg12) (arg7.view.read (Elt Ideal) X_arg7) (arg8.view.read (Elt Ideal) X_arg8))
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 n)
  | 0, _ => trivial
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 ⟨n, h⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 (n + 1) = _ from e]
    exact piecesOf_append _ _ _ (trip_pieces 𝒱 c bd i arg1 harg1 arg2 harg2 arg3 harg3 arg4 harg4 arg5 harg5 arg6 harg6 arg7 harg7 arg8 harg8 arg9 harg9 arg10 harg10 arg11 harg11 arg12 harg12 c0_i32 c1_i32 X_arg7 X_arg8 X_arg12 ⟨n, h⟩) (loop_pieces n (by omega))

end Loop

section Payloads
variable (X : FVec Ideal S1536x5120 .bf16) (W : FVec Ideal S5120x256 .bf16) (R : FVec Ideal S1536x128 .bf16)
  (L : FVec Ideal S1x1x128x256 .bf16) (v : FVec Ideal S1536x1 .f32) (i : Fin 1536) (c : Fin 256)

theorem chunk1024_at : k0_pay445 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay445]

theorem chunk768_at : k0_pay361 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay361]

theorem chunk512_at : k0_pay278 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay278]

theorem chunk256_at : k0_pay195 (F := Ideal) (k0_pay194 X W) R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay195, k0_pay194]

theorem chunk0_at : k0_pay111 (F := Ideal) (k0_pay109 X W) (k0_pay110 R L) v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay111, k0_pay109, k0_pay110]

end Payloads

variable (m : (ℓ : Loc nD τ sig) → Buf (Elt Ideal) ℓ)

set_option maxHeartbeats 2000000 in
/-- What a point stores, over the blocks it reads. -/
theorem out_at (c : Dev nD) (t : Fin cfg0.N) (y : S1536x1280.Idx) : outsAt0 m c t y
    = qBlk (zBlk (iblk m c 0 t) (iblk m c 1 t) (iblk m c 2 t) (iblk m c 3 t) (iblk m c 4 t) (iblk m c 5 t)) (iblk m c 6 t) (iblk m c 7 t) y := by
  unfold outsAt0 out0_A_8
  have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
  revert hc
  unfold kernelRun0_A
  intro hc
  rw [View.read_writes_eq_canon _ _ _ hc]
  refine (canon_tile _ _ (loop_pieces _ _ _ _ _ _ _ _ _ _ _ _ _ _ _ _ _ _ _ _ _ _ _ _ _ _ _ _ _ _ _ _ _ _ le_rfl) hc y).trans ?_
  clear hc
  frame_out
  refine congrArg (fun A => qBlk A _ _ y) (funext fun y => ?_)
  refine canon_tile (Val := Elt Ideal) (e := .f32) _ (zBlk (iblk m c 0 t) (iblk m c 1 t) (iblk m c 2 t) (iblk m c 3 t) (iblk m c 4 t) (iblk m c 5 t)) ?_
    (View.cover_of_tiledL _ ![1536, 256] (by sl_kernel_rfl)) y
  refine ⟨fun x => ?_, fun x => ?_, fun x => ?_, fun x => ?_, fun x => ?_, trivial⟩
  · refine chunk_at _ _ _ _ _ _ 1024 (by decide) _ _ _ _ (fun i c => chunk1024_at _ _ _ _ _ i c) ?_ inb_S1536x1280_S1536x256_0_1024 x
    refine read_tile _ 40 _ _ _ (by decide) ?_ (View.cover_of_tiledL _ ![128, 256] (by sl_kernel_rfl))
    simp only [List.take_succ_cons, List.take_zero, View.PiecesOf, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 768 (by decide) _ _ _ _ (fun i c => chunk768_at _ _ _ _ _ i c) ?_ inb_S1536x1280_S1536x256_0_768 x
    refine read_tile _ 40 _ _ _ (by decide) ?_ (View.cover_of_tiledL _ ![128, 256] (by sl_kernel_rfl))
    simp only [List.take_succ_cons, List.take_zero, View.PiecesOf, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 512 (by decide) _ _ _ _ (fun i c => chunk512_at _ _ _ _ _ i c) ?_ inb_S1536x1280_S1536x256_0_512 x
    refine read_tile _ 40 _ _ _ (by decide) ?_ (View.cover_of_tiledL _ ![128, 256] (by sl_kernel_rfl))
    simp only [List.take_succ_cons, List.take_zero, View.PiecesOf, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 256 (by decide) _ _ _ _ (fun i c => chunk256_at _ _ _ _ _ i c) ?_ inb_S1536x1280_S1536x256_0_256 x
    refine read_tile _ 40 _ _ _ (by decide) ?_ (View.cover_of_tiledL _ ![128, 256] (by sl_kernel_rfl))
    simp only [List.take_succ_cons, List.take_zero, View.PiecesOf, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 0 (by decide) _ _ _ _ (fun i c => chunk0_at _ _ _ _ _ i c) ?_ inb_S1536x1280_S1536x256_0_0 x
    refine read_tile _ 40 _ _ _ (by decide) ?_ (View.cover_of_tiledL _ ![128, 256] (by sl_kernel_rfl))
    simp only [List.take_succ_cons, List.take_zero, View.PiecesOf, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial

end Cert.QBIdeal.Block
-- ==== Proof.QBVal.lean ====
/-
  THE QUERY KERNEL'S RESULT. Point `t` of the four stores columns `1280 t … 1280 t + 1279` of the rotated query rows.
-/
module

public import proofs.«01_k».proof.Proof.QBBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QBIdeal.Block
open Cert.QBIdeal Cert.QBIdeal.Gen Cert.Weights Cert.QkvMath

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0 + t.val] ∧ win0_4.index t = ![0, 0 + t.val] ∧ win0_5.index t = ![1, 0, 0, t.val] ∧ win0_6.index t = ![0, 0, 0] ∧ win0_7.index t = ![0, 0, 0] ∧ win0_8.index t = ![0, t.val] :=
  (by decide +kernel : ∀ t : Fin grid0.N, _)

theorem lt4 (t : Fin cfg0.N) : t.val < 4 := lt_of_lt_of_eq t.isLt N_0

section Reads
variable (c : Dev nD) (t : Fin cfg0.N)

theorem read0 : iblk m c 0 t = m ((c : Thread nD τ).loc main_arg0) := funext fun y => by
  have h : ∀ (i : Fin 1536) (k : Fin 5120), iblk m c 0 t (ix2 i k) = m ((c : Thread nD τ).loc main_arg0) (ix2 i k) := fun i k => by blk_ext [iblk, V, idx t]
  rw [ValueIdx.eq_ix2 y]; exact h _ _
theorem read1 : iblk m c 1 t = m ((c : Thread nD τ).loc main_arg1) := funext fun y => by
  have h : ∀ (i : Fin 1536) (k : Fin 128), iblk m c 1 t (ix2 i k) = m ((c : Thread nD τ).loc main_arg1) (ix2 i k) := fun i k => by blk_ext [iblk, V, idx t]
  rw [ValueIdx.eq_ix2 y]; exact h _ _
theorem read2 (i : Fin 1536) (k : Fin 128) (k' : Fin 384) (h : k'.val = 0 * 128 + k.val) :
    iblk m c 2 t (ix2 i k) = m ((c : Thread nD τ).loc main_arg2) (ix2 i k') := by
  blk_ext [iblk, V, idx t]
theorem read3 (k : Fin 2560) (n : Fin 1280) (n' : Fin 15360) (h : n'.val = (0 + t.val) * 1280 + n.val) :
    iblk m c 3 t (ix2 k n) = m ((c : Thread nD τ).loc main_arg3) (ix2 k n') := by
  blk_ext [iblk, V, idx t]
theorem read4 (k : Fin 40) (n : Fin 1280) (n' : Fin 15360) (h : n'.val = (0 + t.val) * 1280 + n.val) :
    iblk m c 4 t (ix2 k n) = m ((c : Thread nD τ).loc main_arg4) (ix2 k n') := by
  blk_ext [iblk, V, idx t]
theorem read5 (k : Fin 128) (n : Fin 1280) (n' : Fin 5120) (h : n'.val = t.val * 1280 + n.val) :
    iblk m c 5 t (ix4 (0 : Fin 1) (0 : Fin 1) k n) = m ((c : Thread nD τ).loc main_arg5) (ix4 (1 : Fin 2) (0 : Fin 3) k n') := by
  blk_ext [iblk, V, idx t]
theorem read6 : iblk m c 6 t = m ((c : Thread nD τ).loc main_arg6) := funext fun y => by
  have h : ∀ (b : Fin 4) (d : Fin 80) (s : Fin 384), iblk m c 6 t (ix3 b d s) = m ((c : Thread nD τ).loc main_arg6) (ix3 b d s) := fun b d s => by blk_ext [iblk, V, idx t]
  rw [ValueIdx.eq_ix3 y]; exact h _ _ _
theorem read7 : iblk m c 7 t = m ((c : Thread nD τ).loc main_arg7) := funext fun y => by
  have h : ∀ (b : Fin 4) (d : Fin 80) (s : Fin 384), iblk m c 7 t (ix3 b d s) = m ((c : Thread nD τ).loc main_arg7) (ix3 b d s) := fun b d s => by blk_ext [iblk, V, idx t]
  rw [ValueIdx.eq_ix3 y]; exact h _ _ _

/-- The point's projections are the columns from `1280 t` on of `Z`. -/
theorem z_at (i : Fin 1536) (n : Fin 1280) (f : Fin 5120) (h : f.val = t.val * 1280 + n.val) :
    zBlk (iblk m c 0 t) (iblk m c 1 t) (iblk m c 2 t) (iblk m c 3 t) (iblk m c 4 t) (iblk m c 5 t) (ix2 i n) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 1 i f := by
  rw [read0 m c t, read1 m c t]
  refine proj_congr _ _ _ _ _ _ _ _ _ _ _ (fun k => read2 m c t i k _ rfl) (fun k => deq_congr _ _ _ _ _ _ _ _ _ (fun k => read3 m c t k n _ ?_) fun g => read4 m c t g n _ ?_)
    fun k => read5 m c t k n _ h
  · show 0 * 5120 + f.val = _; omega
  · show 0 * 5120 + f.val = _; omega

theorem z_shift (i : Fin 1536) (n : ℕ) (h1 : n < 1280) (e : ℕ) (_ : e < n + 160) (_ : n < e + 160) (h2 : e / 160 = n / 160) :
    ext (fun n => zBlk (iblk m c 0 t) (iblk m c 1 t) (iblk m c 2 t) (iblk m c 3 t) (iblk m c 4 t) (iblk m c 5 t) (ix2 i n)) e
      = ext (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 1 i) (t.val * 1280 + e) := by
  have ht := lt4 t
  have he : e < 1280 := by omega
  rw [ext_of _ e ⟨e, he⟩ rfl, ext_of _ (t.val * 1280 + e) ⟨t.val * 1280 + e, by omega⟩ rfl]
  exact z_at m c t i _ _ rfl

end Reads

/-- The kernel's result. -/
theorem final8 (c : Dev nD) : (dats m 0 c).arrAt 8 cfg0.N = qArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  refine (dats m 0 c).arrAt_eq_of_covers 8 _ (by decide +kernel) fun t hf y => ?_
  blk_simp
  rw [after0_8]
  have ht := lt4 t
  have h1 : (y 1).val < 1280 := (y 1).isLt
  have e : (win0_8.blk t).view.emb y = ix2 (y 0) ⟨t.val * 1280 + (y 1).val, by omega⟩ := by blk_ext [idx t]
  rw [e]
  refine (out_at m c t y).trans ?_
  unfold qBlk
  rw [read6 m c t, read7 m c t]
  exact rot_shift _ _ _ _ _ _ (t.val * 1280) (y 1).val (by omega) (z_shift m c t (y 0) (y 1).val h1) (fun _ _ => rfl) (fun _ _ => rfl)

end Cert.QBIdeal.Block
-- ==== Proof.QBRef.lean ====
/-
  THE QUERY REFERENCE'S RESULT, read at an index: `ROT`.
-/
module

public import proofs.«01_k».proof.Proof.QkvMath
public import proofs.«01_k».proof.Proof.Gen.QBRefIdeal.Read

@[expose] public section

set_option maxRecDepth 16384

noncomputable section

open Idealize.ShloMosaic Idealize.ShloMosaic.TcCoe Idealize.SL.Sem

namespace Cert.QBRefIdeal.Math
open Cert.QBRefIdeal Cert.QBRefIdeal.Gen Cert.QBRefIdeal.Read Cert.Weights Cert.QkvMath

variable (x : FVec Ideal S1536x5120 .bf16) (cs : FVec Ideal S1536x128 .f32) (t : FVec Ideal S1536x384 .bf16)
  (w : IVec S2560x15360 8) (s : FVec Ideal S40x15360 .f32) (lb : FVec Ideal S2x3x128x5120 .bf16) (C N : FVec Ideal S4x80x384 .f32)

theorem lo_at (k : Fin 2560) (c : Fin 5120) :
    val_main_v25 (F := Ideal) w s (ix2 k c) = wLo (w (ix2 k ⟨0 * 5120 + c.val, by omega⟩)) * s (ix2 ⟨k.val / 128, by omega⟩ ⟨0 * 5120 + c.val, by omega⟩) := by
  pointwise [val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_v0, val_main_v17, val_main_c, val_main_c_1, val_main_c_2]
  rfl

theorem hi_at (k : Fin 2560) (c : Fin 5120) :
    val_main_v32 (F := Ideal) w s (ix2 k c) = wHi (w (ix2 k ⟨0 * 5120 + c.val, by omega⟩)) * s (ix2 ⟨20 + k.val / 128, by omega⟩ ⟨0 * 5120 + c.val, by omega⟩) := by
  pointwise [val_main_v32, val_main_v31, val_main_v30, val_main_v29, val_main_v28, val_main_v27, val_main_v26, val_main_v16, val_main_v15, val_main_v14, val_main_v13, val_main_v12, val_main_v18, val_main_v6, val_main_v5, val_main_v2, val_main_v1, val_main_v0, val_main_c_0, val_main_c_3, val_main_c_4]
  rfl

theorem z_at (i : Fin 1536) (c : Fin 5120) : val_main_v45 (F := Ideal) x cs t w s lb (ix2 i c) = Z x cs t w s lb 0 1 i c := by
  pointwise [val_main_v45, val_main_v44, val_main_v43, val_main_v42, val_main_v41, val_main_v40, val_main_v39, val_main_v38, val_main_v37, val_main_v36, val_main_v35, val_main_v34, val_main_v33]
  have hc := c.isLt
  refine Z_halves x cs t w s lb 0 1 i c ⟨0 * 5120 + c.val, by omega⟩ rfl _ _ _ (fun k => ⟨k.val / 128, by omega⟩) (fun k => ⟨20 + k.val / 128, by omega⟩)
    (fun k => ⟨k.val, by omega⟩) (fun k => ⟨2560 + k.val, by omega⟩) (fun _ => rfl) (fun _ => rfl) (fun _ => rfl) (fun _ => rfl)
    (fun k => congrArg (_ * ·) (lo_at w s k c)) (fun k => congrArg (_ * ·) (hi_at w s k c)) fun k => ?_
  refine congrArg (fun j => t (ix2 i j) * _) (Fin.ext ?_)
  first | rfl | (show k.val = 0 * 128 + k.val; omega)

theorem q_at (i : Fin 1536) (c : Fin 5120) : val_main_v65 (F := Ideal) x cs t w s lb C N (ix2 i c) = ROT x cs t w s lb C N 0 1 i c := by
  unfold val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46
  have e := z_at x cs t w s lb i
  revert e
  generalize val_main_v45 (F := Ideal) x cs t w s lb = z
  intro e
  pointwise
  have hc := c.isLt
  by_cases h : c.val % 160 < 80
  · refine (dif_pos h).trans ((congrArg₂ (fun a b => a * _ - b * _) (e _) (e _)).trans ?_)
    exact ROT_first x cs t w s lb C N 0 1 i c _ _ h (by dsimp only; omega) rfl
  · refine (dif_neg h).trans ((congrArg₂ (fun a b => a * _ + b * _) (e _) (e _)).trans ?_)
    exact ROT_second x cs t w s lb C N 0 1 i c _ _ _ h (by dsimp only; omega) (by dsimp only; omega) (by dsimp only; omega)

end Cert.QBRefIdeal.Math
-- ==== Proof.QBClaim.lean ====
/-
  THE CLAIM OF THE QUERY STAGE: at the ideal instance the kernel and the reference end with the same array, `qArr` of the arguments.
-/
module

public import proofs.«01_k».proof.Defs
public import proofs.«01_k».proof.Proof.QBVal
public import proofs.«01_k».proof.Proof.QBRef

@[expose] public section

set_option maxRecDepth 16384

noncomputable section

open Idealize.ShloMosaic Idealize.ShloMosaic.TcCoe Idealize.SL.Sem

namespace Cert.QB.Claims
open Cert.QkvMath

/-- What the reference's result is. -/
theorem ref_value (m : (ℓ : Loc Cert.QBRefIdeal.nD Cert.QBRefIdeal.τ Cert.QBRefIdeal.sig) → Buf (Elt Ideal) ℓ) (c : Dev Cert.QBRefIdeal.nD) :
    Cert.QBRefIdeal.Value.res_main_v65 m c = qArr (m ((c.tc : Thread Cert.QBRefIdeal.nD Cert.QBRefIdeal.τ).loc Cert.QBRefIdeal.main_arg0)) (m ((c.tc : Thread Cert.QBRefIdeal.nD Cert.QBRefIdeal.τ).loc Cert.QBRefIdeal.main_arg1)) (m ((c.tc : Thread Cert.QBRefIdeal.nD Cert.QBRefIdeal.τ).loc Cert.QBRefIdeal.main_arg2)) (m ((c.tc : Thread Cert.QBRefIdeal.nD Cert.QBRefIdeal.τ).loc Cert.QBRefIdeal.main_arg3)) (m ((c.tc : Thread Cert.QBRefIdeal.nD Cert.QBRefIdeal.τ).loc Cert.QBRefIdeal.main_arg4)) (m ((c.tc : Thread Cert.QBRefIdeal.nD Cert.QBRefIdeal.τ).loc Cert.QBRefIdeal.main_arg5)) (m ((c.tc : Thread Cert.QBRefIdeal.nD Cert.QBRefIdeal.τ).loc Cert.QBRefIdeal.main_arg6)) (m ((c.tc : Thread Cert.QBRefIdeal.nD Cert.QBRefIdeal.τ).loc Cert.QBRefIdeal.main_arg7)) 1 := by
  funext y
  rw [Cert.QBRefIdeal.Read.val_main_v65_eq, ValueIdx.eq_ix2 (n0 := 1536) (n1 := 5120) y]
  exact Cert.QBRefIdeal.Math.q_at _ _ _ _ _ _ _ _ _ _

/-- The reference terminates and keeps its arguments. -/
theorem ref_frame : Cert.quiescent_QBRefIdeal (hQBRefIdeal := Cert.QBRefIdeal.Gen.facts) := fun m ρ _ =>
  (θ_run Cert.QBRefIdeal.defs _ _).mono (fun r h => ⟨fun c => (h c).2, sem_eq_zero_of_no_sems (by decide) r.2⟩) (Cert.QBRefIdeal.Value.run m ρ)

theorem algebraic : Cert.algebraic_QBIdeal_QBRefIdeal (hQBIdeal := Cert.QBIdeal.Gen.facts) (hQBRefIdeal := Cert.QBRefIdeal.Gen.facts) := by
  intro m ρ m' ρ' _ hag
  refine ⟨fun c => qArr (m ((c.tc : Thread Cert.QBIdeal.nD Cert.QBIdeal.τ).loc Cert.QBIdeal.main_arg0)) (m ((c.tc : Thread Cert.QBIdeal.nD Cert.QBIdeal.τ).loc Cert.QBIdeal.main_arg1)) (m ((c.tc : Thread Cert.QBIdeal.nD Cert.QBIdeal.τ).loc Cert.QBIdeal.main_arg2)) (m ((c.tc : Thread Cert.QBIdeal.nD Cert.QBIdeal.τ).loc Cert.QBIdeal.main_arg3)) (m ((c.tc : Thread Cert.QBIdeal.nD Cert.QBIdeal.τ).loc Cert.QBIdeal.main_arg4)) (m ((c.tc : Thread Cert.QBIdeal.nD Cert.QBIdeal.τ).loc Cert.QBIdeal.main_arg5)) (m ((c.tc : Thread Cert.QBIdeal.nD Cert.QBIdeal.τ).loc Cert.QBIdeal.main_arg6)) (m ((c.tc : Thread Cert.QBIdeal.nD Cert.QBIdeal.τ).loc Cert.QBIdeal.main_arg7)) 1, ?_, ?_⟩
  · exact (θ_run Cert.QBIdeal.defs _ _).mono
      (fun _ h c => ⟨(h c).1.trans (Cert.QBIdeal.Block.final8 m c), (h c).2⟩) (Cert.QBIdeal.Value.run_blocks m ρ)
  · refine (θ_run Cert.QBRefIdeal.defs _ _).mono
      (fun _ h c => ⟨(h c).1.trans ?_, (h c).2⟩) (Cert.QBRefIdeal.Value.run m' ρ')
    rw [ref_value m' c, (hag c).1, (hag c).2.1, (hag c).2.2.1, (hag c).2.2.2.1, (hag c).2.2.2.2.1, (hag c).2.2.2.2.2.1, (hag c).2.2.2.2.2.2.1, (hag c).2.2.2.2.2.2.2]

end Cert.QB.Claims
-- ==== Proof.KvMath.lean ====
/-
  THE FP8 QUANTISER OF THE KEYS AND VALUES AS MATHEMATICS. A head is 160 columns over the 384 positions of a batch: its scale
  `qscale` is its largest magnitude over 448 (one if it is all zero), its codes `qcode` are the numbers over the scale, held
  between -448 and 448. The last sections say that the kernel's terms for one head, which keep the two halves of a head apart,
  compute these.
-/
module

public import proofs.«01_k».proof.Proof.QkvMath
public import Idealize.ShloMosaic.Lib.Pipeline.ValueKit

@[expose] public section

set_option maxRecDepth 16384

noncomputable section

namespace Cert.KvMath

open Idealize.ShloMosaic Cert.Weights Cert.QkvMath

/-- The magnitude of a number. -/
def mag (z : EReal) : EReal := max z (-z)

/-- The largest magnitude of a head. -/
def amax (g : ℕ → Fin 384 → EReal) : EReal := Finset.univ.fold max ⊥ fun p : Fin 160 × Fin 384 => mag (g p.1.val p.2)

theorem amax_le (g : ℕ → Fin 384 → EReal) (z : EReal) : amax g ≤ z ↔ ∀ d, d < 160 → ∀ s, mag (g d s) ≤ z := by
  unfold amax
  rw [Finset.fold_max_le]
  exact ⟨fun h d hd s => h.2 (⟨d, hd⟩, s) (Finset.mem_univ _), fun h => ⟨bot_le, fun p _ => h p.1.val p.1.isLt p.2⟩⟩

/-- The scale of a head of the given largest magnitude. -/
def qscale (a : EReal) : EReal := if 0 < a then Ideal.div a (Ideal.ofBits .f32 0x43E00000#32) else 1

/-- The code of a number at a scale. -/
def qcode (z s : EReal) : EReal := min (Ideal.ofBits .f32 0x43E00000#32) (max (Ideal.ofBits .f32 0xC3E00000#32) (Ideal.div z s))

/-- The scale of head `j` of the columns `g`. -/
def hs (g : ℕ → Fin 384 → EReal) (j : ℕ) : EReal := qscale (amax fun d s => g (160 * j + d) s)

/-- Scales move with a shift by whole heads. -/
theorem hs_shift (g g' : ℕ → Fin 384 → EReal) (j j' : ℕ) (h : ∀ d, d < 160 → ∀ s, g (160 * j + d) s = g' (160 * j' + d) s) : hs g j = hs g' j' := by
  refine congrArg qscale (eq_of_forall_ge_iff (α := EReal) fun z => ?_)
  rw [amax_le, amax_le]
  exact ⟨fun k d hd s => by rw [← h d hd s]; exact k d hd s, fun k d hd s => by rw [h d hd s]; exact k d hd s⟩

theorem bot_bits : Ideal.ofBits .f32 0xFF800000#32 = ⊥ := rfl

theorem cat_halves : Shape.Concatenates [⟨2, ![80, 384]⟩, ⟨2, ![80, 384]⟩] ⟨2, ![160, 384]⟩ 0 := by decide

section Head
variable (A B : FVec Ideal ⟨2, ![80, 384]⟩ .f32) (g : ℕ → Fin 384 → EReal) (j : ℕ)
  (hA : ∀ d s, A (ix2 d s) = g (160 * j + d.val) s) (hB : ∀ d s, B (ix2 d s) = g (160 * j + 80 + d.val) s)

/-- A head's largest magnitude, as the kernel takes it: half by half over the columns, then over the positions. -/
def amaxT : FVec Ideal ⟨2, ![1, 1]⟩ .f32 :=
  shapeCast ⟨2, ![1, 1]⟩ (multiReduction (F := Ideal) .maximumf [1] ⟨1, ![1]⟩
    (maximumf (shapeCast ⟨2, ![1, 384]⟩ (multiReduction (F := Ideal) (φ := .f32) .maximumf [0] ⟨1, ![384]⟩ (absf A) 0xFF800000#32 (by decide) (by decide) (by decide)) (by decide))
      (shapeCast ⟨2, ![1, 384]⟩ (multiReduction (F := Ideal) (φ := .f32) .maximumf [0] ⟨1, ![384]⟩ (absf B) 0xFF800000#32 (by decide) (by decide) (by decide)) (by decide))) 0xFF800000#32 (by decide) (by decide) (by decide)) (by decide)

/-- The scale of a head from its two halves. -/
def scaleT : FVec Ideal ⟨2, ![1, 1]⟩ .f32 :=
  select (cmpf .ogt (amaxT A B) (broadcast ⟨2, ![1, 1]⟩ (Scalar.ofBits (F := Ideal) .f32 0x00000000#32)))
    (divf (amaxT A B) (broadcast ⟨2, ![1, 1]⟩ (Scalar.ofBits (F := Ideal) .f32 0x43E00000#32)))
    (broadcast ⟨2, ![1, 1]⟩ (Scalar.ofBits (F := Ideal) .f32 0x3F800000#32))

include hA hB in
theorem scaleT_at :
    scaleT A B (ix2 (0 : Fin 1) (0 : Fin 1)) = hs g j := by
  have e : amaxT A B (ix2 (0 : Fin 1) (0 : Fin 1)) = amax fun d s => g (160 * j + d) s := by
    pointwise [amaxT]
    refine eq_of_forall_ge_iff (α := EReal) fun z => ?_
    refine Finset.fold_max_le _ |>.trans ?_
    simp only [Finset.mem_univ, true_implies, max_le_iff, Finset.fold_max_le, amax_le, bot_bits, bot_le, true_and]
    constructor
    · intro h d hd s
      by_cases hlt : d < 80
      · have := (h s).1 ⟨d, hlt⟩
        rwa [hA] at this
      · have := (h s).2 ⟨d - 80, by omega⟩
        rw [hB] at this
        have e : 160 * j + 80 + (d - 80) = 160 * j + d := by omega
        dsimp only at this
        rwa [e] at this
    · intro h s
      refine ⟨fun d => ?_, fun d => ?_⟩
      · rw [hA]; exact h d.val (by omega) s
      · rw [hB, show 160 * j + 80 + d.val = 160 * j + (80 + d.val) by omega]; exact h (80 + d.val) (by omega) s
  unfold scaleT
  revert e
  generalize amaxT A B = v
  intro e
  pointwise
  rw [e]
  rfl

/-- The codes of a head from its two halves. -/
def codeT : FVec Ideal ⟨3, ![1, 160, 384]⟩ .fp8e4m3 :=
  shapeCast ⟨3, ![1, 160, 384]⟩ (truncf .fp8e4m3 (minimumf (broadcast ⟨2, ![160, 384]⟩ (Scalar.ofBits (F := Ideal) .f32 0x43E00000#32))
    (maximumf (broadcast ⟨2, ![160, 384]⟩ (Scalar.ofBits (F := Ideal) .f32 0xC3E00000#32))
     (divf (concatenate ⟨2, ![160, 384]⟩ 0 [⟨⟨2, ![80, 384]⟩, A⟩, ⟨⟨2, ![80, 384]⟩, B⟩] cat_halves)
      (broadcastTo ⟨2, ![160, 384]⟩ (scaleT A B) (by decide))))) (by decide)) (by decide)

include hA hB in
theorem codeT_at (d : Fin 160) (s : Fin 384) :
    codeT A B (ix3 (0 : Fin 1) d s) = qcode (g (160 * j + d.val) s) (hs g j) := by
  have e := scaleT_at A B g j hA hB
  unfold codeT
  revert e
  generalize scaleT A B = v
  intro e
  pointwise
  unfold qcode
  refine congrArg (fun z => min _ (max _ z)) (congrArg₂ Ideal.div ?_ e)
  by_cases h : d.val < 80
  · exact (dif_pos h).trans (hA _ _)
  · refine (dif_neg h).trans ((hB _ _).trans ?_)
    rw [show 160 * j + 80 + (d.val - 80) = 160 * j + d.val by omega]

/-- A scale repeated over the lanes. -/
theorem lanes_at (v : FVec Ideal ⟨2, ![1, 1]⟩ .f32) (h h') (o : Fin 1) (l : Fin 128) :
    broadcastTo ⟨2, ![1, 128]⟩ (shapeCast ⟨2, ![1, 1]⟩ v h) h' (ix2 o l) = v (ix2 (0 : Fin 1) (0 : Fin 1)) := by
  pointwise

end Head

end Cert.KvMath
-- ==== Proof.KvBlock.lean ====
/-
  THE TWO ARRAYS OF THE KEY AND VALUE STAGES. `g b c s` is the number of column `c` at position `s` of batch `b`; `codesOf g` are
  its codes and `scalesOf g` its heads' scales, repeated over 128 lanes. `kRow` and `vRow` read such numbers off a block of
  projections, with and without the rotation. `code_piece` and `scale_piece` say that what the loop stores for one head and
  for one batch are pieces of the two arrays.
-/
module

public import proofs.«01_k».proof.Proof.KvMath
public import Idealize.ShloMosaic.Lib.Pipeline.ValueKit

@[expose] public section

set_option maxRecDepth 16384

noncomputable section

namespace Cert.KvMath

open Idealize.ShloMosaic Cert.Weights Cert.QkvMath

/-- The row of position `s` of batch `b`. -/
def pos (b : Fin 4) (s : Fin 384) : Fin 1536 := ⟨384 * b.val + s.val, by omega⟩

/-- The codes of four batches of numbers. -/
def codesOf {N : ℕ} (g : Fin 4 → ℕ → Fin 384 → EReal) : FVec Ideal ⟨3, ![4, N, 384]⟩ .fp8e4m3 :=
  fun y => qcode (g (y 0) (y 1).val (y 2)) (hs (g (y 0)) ((y 1).val / 160))

/-- The scales of their heads. -/
def scalesOf {H : ℕ} (g : Fin 4 → ℕ → Fin 384 → EReal) : FVec Ideal ⟨3, ![4, H, 128]⟩ .f32 := fun y => hs (g (y 0)) (y 1).val

/-- The rotated columns of a block. -/
def kRow {N : ℕ} (A : FVec Ideal ⟨2, ![1536, N]⟩ .f32) (C S : FVec Ideal ⟨3, ![4, 80, 384]⟩ .f32) (b : Fin 4) (c : ℕ) (s : Fin 384) : EReal :=
  rot (ext fun c => A (ix2 (pos b s) c)) (ext fun d => C (ix3 b d s)) (ext fun d => S (ix3 b d s)) c

/-- The columns of a block. -/
def vRow {N : ℕ} (A : FVec Ideal ⟨2, ![1536, N]⟩ .f32) (b : Fin 4) (c : ℕ) (s : Fin 384) : EReal := ext (fun c => A (ix2 (pos b s) c)) c

/-- The columns of position `s`. -/
def plainRow (z : FVec Ideal ⟨2, ![1280, 384]⟩ .f32) (c : ℕ) (s : Fin 384) : EReal := ext (fun c => z (ix2 c s)) c

theorem slice_row (z : FVec Ideal ⟨2, ![1280, 384]⟩ .f32) (o : ℕ) (d : Fin 80) (s : Fin 384) (ho : o + 80 ≤ 1280) (h) :
    extractStridedSlice ⟨2, ![80, 384]⟩ ![o, 0] z h (ix2 d s) = plainRow z (o + d.val) s :=
  (slice_at z o d s ho h).trans (ext_of (fun c => z (ix2 c s)) (o + d.val) (⟨o + d.val, by omega⟩ : Fin 1280) rfl).symm

theorem code_inb (b : Fin 4) (j : ℕ) (hj : j < 8) (off : Fin 3 → ℕ) (ho : off = ![b.val, 160 * j, 0]) (d : Fin 3) :
    off d + (![1, 160, 384] : Fin 3 → ℕ) d ≤ (⟨3, ![4, 1280, 384]⟩ : Shape).size d := by
  subst ho
  match d with
  | ⟨0, _⟩ => show b.val + 1 ≤ 4; omega
  | ⟨1, _⟩ => show 160 * j + 160 ≤ 1280; omega
  | ⟨2, _⟩ => show 0 + 384 ≤ 384; omega

/-- What is stored for head `j` of batch `b` is a piece of the codes, -/
theorem code_piece (gb : Fin 4 → ℕ → Fin 384 → EReal) (b : Fin 4) (g : ℕ → Fin 384 → EReal) (hg : g = gb b) (j : ℕ)
    (p : FVec Ideal ⟨3, ![1, 160, 384]⟩ .fp8e4m3) (hp : ∀ d s, p (ix3 (0 : Fin 1) d s) = qcode (g (160 * j + d.val) s) (hs g j))
    (off : Fin 3 → ℕ) (ho : off = ![b.val, 160 * j, 0]) (inb : ∀ d, off d + (![1, 160, 384] : Fin 3 → ℕ) d ≤ (⟨3, ![4, 1280, 384]⟩ : Shape).size d)
    (x : (⟨3, ![1, 160, 384]⟩ : Shape).Idx) :
    p x = codesOf (N := 1280) gb ((Rect.unit (s := ⟨3, ![4, 1280, 384]⟩) off ![1, 160, 384] inb).emb x) := by
  obtain ⟨i, d, s, rfl⟩ : ∃ (i : Fin 1) (d : Fin 160) (s : Fin 384), x = ix3 i d s := ⟨x 0, x 1, x 2, ValueIdx.eq_ix3 (n0 := 1) (n1 := 160) (n2 := 384) x⟩
  obtain rfl : i = 0 := Subsingleton.elim _ _
  subst hg ho
  have hb : 160 * j + 160 ≤ 1280 := inb 1
  have e : (Rect.unit (s := ⟨3, ![4, 1280, 384]⟩) ![b.val, 160 * j, 0] ![1, 160, 384] inb).emb (ix3 (0 : Fin 1) d s)
      = ix3 b (⟨160 * j + d.val, by omega⟩ : Fin 1280) s := by
    funext a
    refine Fin.ext ?_
    match a with
    | ⟨0, _⟩ => show b.val + 1 * 0 = b.val; omega
    | ⟨1, _⟩ => show 160 * j + 1 * d.val = 160 * j + d.val; omega
    | ⟨2, _⟩ => show 0 + 1 * s.val = s.val; omega
  rw [e, hp]
  show _ = qcode (gb b (160 * j + d.val) s) (hs (gb b) ((160 * j + d.val) / 160))
  rw [show (160 * j + d.val) / 160 = j by omega]

theorem scale_inb (b : Fin 4) (off : Fin 3 → ℕ) (ho : off = ![b.val, 0, 0]) (d : Fin 3) :
    off d + (![1, 8, 128] : Fin 3 → ℕ) d ≤ (⟨3, ![4, 8, 128]⟩ : Shape).size d := by
  subst ho
  match d with
  | ⟨0, _⟩ => show b.val + 1 ≤ 4; omega
  | ⟨1, _⟩ => show 0 + 8 ≤ 8; omega
  | ⟨2, _⟩ => show 0 + 128 ≤ 128; omega

/-- and what is stored for a batch is a piece of the scales. -/
theorem scale_piece (gb : Fin 4 → ℕ → Fin 384 → EReal) (b : Fin 4) (g : ℕ → Fin 384 → EReal) (hg : g = gb b)
    (p : FVec Ideal ⟨3, ![1, 8, 128]⟩ .f32) (hp : ∀ (j : Fin 8) (l : Fin 128), p (ix3 (0 : Fin 1) j l) = hs g j.val)
    (off : Fin 3 → ℕ) (ho : off = ![b.val, 0, 0]) (inb : ∀ d, off d + (![1, 8, 128] : Fin 3 → ℕ) d ≤ (⟨3, ![4, 8, 128]⟩ : Shape).size d)
    (x : (⟨3, ![1, 8, 128]⟩ : Shape).Idx) :
    p x = scalesOf (H := 8) gb ((Rect.unit (s := ⟨3, ![4, 8, 128]⟩) off ![1, 8, 128] inb).emb x) := by
  obtain ⟨i, j, l, rfl⟩ : ∃ (i : Fin 1) (j : Fin 8) (l : Fin 128), x = ix3 i j l := ⟨x 0, x 1, x 2, ValueIdx.eq_ix3 (n0 := 1) (n1 := 8) (n2 := 128) x⟩
  obtain rfl : i = 0 := Subsingleton.elim _ _
  subst hg ho
  have e : (Rect.unit (s := ⟨3, ![4, 8, 128]⟩) ![b.val, 0, 0] ![1, 8, 128] inb).emb (ix3 (0 : Fin 1) j l) = ix3 b j l := by
    funext a
    refine Fin.ext ?_
    match a with
    | ⟨0, _⟩ => show b.val + 1 * 0 = b.val; omega
    | ⟨1, _⟩ => show 0 + 1 * j.val = j.val; omega
    | ⟨2, _⟩ => show 0 + 1 * l.val = l.val; omega
  rw [e, hp]
  rfl

/-- One row of the stack of scales. -/
theorem row_at (A B : FVec Ideal ⟨2, ![80, 384]⟩ .f32) (g : ℕ → Fin 384 → EReal) (j : ℕ)
    (hA : ∀ d s, A (ix2 d s) = g (160 * j + d.val) s) (hB : ∀ d s, B (ix2 d s) = g (160 * j + 80 + d.val) s) (h h') (o : Fin 1) (l : Fin 128) :
    broadcastTo ⟨2, ![1, 128]⟩ (shapeCast ⟨2, ![1, 1]⟩ (scaleT A B) h) h' (ix2 o l) = hs g (j + o.val) := by
  rw [show j + o.val = j by omega]
  exact (lanes_at _ h h' o l).trans (scaleT_at A B g j hA hB)

theorem flat_at (w : FVec Ideal ⟨2, ![8, 128]⟩ .f32) (h) (j : Fin 8) (l : Fin 128) :
    shapeCast ⟨3, ![1, 8, 128]⟩ w h (ix3 (0 : Fin 1) j l) = w (ix2 j l) := by
  pointwise

section Shift
variable (gb G : Fin 4 → ℕ → Fin 384 → EReal) (t : ℕ) (ht : t < 4) (h : ∀ b c s, c < 1280 → gb b c s = G b (t * 1280 + c) s)

include ht h in
theorem hs_block (b : Fin 4) (j : ℕ) (hj : j < 8) : hs (gb b) j = hs (G b) (t * 8 + j) :=
  hs_shift _ _ _ _ fun d hd s => by rw [h b _ s (by omega), show t * 1280 + (160 * j + d) = 160 * (t * 8 + j) + d by omega]

include ht h in
/-- The codes of block `t` are columns of the codes, -/
theorem codes_block (b : Fin 4) (c : Fin 1280) (s : Fin 384) :
    codesOf (N := 1280) gb (ix3 b c s) = codesOf (N := 5120) G (ix3 b ⟨t * 1280 + c.val, by omega⟩ s) := by
  show qcode (gb b c.val s) (hs (gb b) (c.val / 160)) = qcode (G b (t * 1280 + c.val) s) (hs (G b) ((t * 1280 + c.val) / 160))
  rw [h b _ s c.isLt, hs_block gb G t ht h b _ (by omega), show t * 8 + c.val / 160 = (t * 1280 + c.val) / 160 by omega]

include ht h in
/-- and its scales are heads of the scales. -/
theorem scales_block (b : Fin 4) (j : Fin 8) (l : Fin 128) :
    scalesOf (H := 8) gb (ix3 b j l) = scalesOf (H := 32) G (ix3 b ⟨t * 8 + j.val, by omega⟩ l) :=
  hs_block gb G t ht h b j.val j.isLt

end Shift

section Arrays
variable (X : FVec Ideal ⟨2, ![1536, 5120]⟩ .bf16) (CS : FVec Ideal ⟨2, ![1536, 128]⟩ .f32) (T : FVec Ideal ⟨2, ![1536, 384]⟩ .bf16)
  (W : IVec ⟨2, ![2560, 15360]⟩ 8) (S : FVec Ideal ⟨2, ![40, 15360]⟩ .f32) (LB : FVec Ideal ⟨4, ![2, 3, 128, 5120]⟩ .bf16)
  (C N : FVec Ideal ⟨3, ![4, 80, 384]⟩ .f32) (inv : Fin 2)

/-- The rotated keys, -/
def kNum (b : Fin 4) (c : ℕ) (s : Fin 384) : EReal :=
  rot (ext (Z X CS T W S LB 1 inv (pos b s))) (ext fun d => C (ix3 b d s)) (ext fun d => N (ix3 b d s)) c
/-- and the values. -/
def vNum (b : Fin 4) (c : ℕ) (s : Fin 384) : EReal := ext (Z X CS T W S LB 2 inv (pos b s)) c

def kCodes : FVec Ideal ⟨3, ![4, 5120, 384]⟩ .fp8e4m3 := codesOf (kNum X CS T W S LB C N inv)
def kScales : FVec Ideal ⟨3, ![4, 32, 128]⟩ .f32 := scalesOf (kNum X CS T W S LB C N inv)
def vCodes : FVec Ideal ⟨3, ![4, 5120, 384]⟩ .fp8e4m3 := codesOf (vNum X CS T W S LB inv)
def vScales : FVec Ideal ⟨3, ![4, 32, 128]⟩ .f32 := scalesOf (vNum X CS T W S LB inv)

end Arrays

end Cert.KvMath
-- ==== Proof.KBlock.lean ====
/-
  ONE GRID POINT of the key stage. A point holds 1280 columns (8 heads). It dequantises 256 columns at a time and multiplies,
  which fills the block `zBlk` of projections; then a loop over the four batches rotates and quantises each head.
-/
module

public import proofs.«01_k».proof.Proof.KvBlock
public import proofs.«01_k».proof.Proof.Gen.KIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KIdeal.Block
open Cert.KIdeal Cert.KIdeal.Gen Cert.Weights Cert.QkvMath Cert.KvMath

section Payloads
variable (C S : FVec Ideal S1x80x384 .f32) (Z : FVec Ideal S384x1280 .f32)

/-- The numbers a trip works on: the rotated columns of its rows. -/
def trow : ℕ → Fin 384 → EReal := rotRow (k0_pay6 (F := Ideal) Z) (k0_pay4 (F := Ideal) C) (k0_pay5 (F := Ideal) S)

theorem code0_at (d : Fin 160) (s : Fin 384) : k0_pay40 (F := Ideal) (k0_pay9 (F := Ideal) C S Z) (k0_pay10 (F := Ideal) C S Z) (ix3 (0 : Fin 1) d s)
    = qcode (trow C S Z (160 * 0 + d.val) s) (hs (trow C S Z) 0) :=
  codeT_at _ _ (trow C S Z) 0 (fun d s => first_half _ _ _ 0 80 (by decide) (by decide) d s (by rfl) (by rfl) (by decide))
    (fun d s => second_half _ _ _ 80 0 (by decide) (by decide) d s (by rfl) (by rfl) (by decide)) d s

theorem code1_at (d : Fin 160) (s : Fin 384) : k0_pay43 (F := Ideal) (k0_pay13 (F := Ideal) C S Z) (k0_pay14 (F := Ideal) C S Z) (ix3 (0 : Fin 1) d s)
    = qcode (trow C S Z (160 * 1 + d.val) s) (hs (trow C S Z) 1) :=
  codeT_at _ _ (trow C S Z) 1 (fun d s => first_half _ _ _ 160 240 (by decide) (by decide) d s (by rfl) (by rfl) (by decide))
    (fun d s => second_half _ _ _ 240 160 (by decide) (by decide) d s (by rfl) (by rfl) (by decide)) d s

theorem code2_at (d : Fin 160) (s : Fin 384) : k0_pay49 (F := Ideal) (k0_pay17 (F := Ideal) C S Z) (k0_pay18 (F := Ideal) C S Z) (k0_pay46 (F := Ideal) (k0_pay17 (F := Ideal) C S Z) (k0_pay18 (F := Ideal) C S Z)) (k0_pay47 (F := Ideal) (k0_pay17 (F := Ideal) C S Z) (k0_pay18 (F := Ideal) C S Z)) (ix3 (0 : Fin 1) d s)
    = qcode (trow C S Z (160 * 2 + d.val) s) (hs (trow C S Z) 2) :=
  codeT_at _ _ (trow C S Z) 2 (fun d s => first_half _ _ _ 320 400 (by decide) (by decide) d s (by rfl) (by rfl) (by decide))
    (fun d s => second_half _ _ _ 400 320 (by decide) (by decide) d s (by rfl) (by rfl) (by decide)) d s

theorem code3_at (d : Fin 160) (s : Fin 384) : k0_pay52 (F := Ideal) (k0_pay21 (F := Ideal) C S Z) (k0_pay22 (F := Ideal) C S Z) (ix3 (0 : Fin 1) d s)
    = qcode (trow C S Z (160 * 3 + d.val) s) (hs (trow C S Z) 3) :=
  codeT_at _ _ (trow C S Z) 3 (fun d s => first_half _ _ _ 480 560 (by decide) (by decide) d s (by rfl) (by rfl) (by decide))
    (fun d s => second_half _ _ _ 560 480 (by decide) (by decide) d s (by rfl) (by rfl) (by decide)) d s

theorem code4_at (d : Fin 160) (s : Fin 384) : k0_pay55 (F := Ideal) (k0_pay25 (F := Ideal) C S Z) (k0_pay26 (F := Ideal) C S Z) (ix3 (0 : Fin 1) d s)
    = qcode (trow C S Z (160 * 4 + d.val) s) (hs (trow C S Z) 4) :=
  codeT_at _ _ (trow C S Z) 4 (fun d s => first_half _ _ _ 640 720 (by decide) (by decide) d s (by rfl) (by rfl) (by decide))
    (fun d s => second_half _ _ _ 720 640 (by decide) (by decide) d s (by rfl) (by rfl) (by decide)) d s

theorem code5_at (d : Fin 160) (s : Fin 384) : k0_pay61 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z)) (k0_pay58 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z))) (k0_pay59 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z))) (ix3 (0 : Fin 1) d s)
    = qcode (trow C S Z (160 * 5 + d.val) s) (hs (trow C S Z) 5) :=
  codeT_at _ _ (trow C S Z) 5 (fun d s => first_half _ _ _ 800 880 (by decide) (by decide) d s (by rfl) (by rfl) (by decide))
    (fun d s => second_half _ _ _ 880 800 (by decide) (by decide) d s (by rfl) (by rfl) (by decide)) d s

theorem code6_at (d : Fin 160) (s : Fin 384) : k0_pay64 (F := Ideal) (k0_pay33 (F := Ideal) (k0_pay4 (F := Ideal) C) (k0_pay5 (F := Ideal) S) (k0_pay6 (F := Ideal) Z)) (k0_pay34 (F := Ideal) (k0_pay4 (F := Ideal) C) (k0_pay5 (F := Ideal) S) (k0_pay6 (F := Ideal) Z)) (ix3 (0 : Fin 1) d s)
    = qcode (trow C S Z (160 * 6 + d.val) s) (hs (trow C S Z) 6) :=
  codeT_at _ _ (trow C S Z) 6 (fun d s => first_half _ _ _ 960 1040 (by decide) (by decide) d s (by rfl) (by rfl) (by decide))
    (fun d s => second_half _ _ _ 1040 960 (by decide) (by decide) d s (by rfl) (by rfl) (by decide)) d s

theorem code7_at (d : Fin 160) (s : Fin 384) : k0_pay2 (F := Ideal) (k0_pay37 (F := Ideal) (k0_pay4 (F := Ideal) C) (k0_pay5 (F := Ideal) S) (k0_pay6 (F := Ideal) Z)) (k0_pay38 (F := Ideal) (k0_pay4 (F := Ideal) C) (k0_pay5 (F := Ideal) S) (k0_pay6 (F := Ideal) Z)) (ix3 (0 : Fin 1) d s)
    = qcode (trow C S Z (160 * 7 + d.val) s) (hs (trow C S Z) 7) :=
  codeT_at _ _ (trow C S Z) 7 (fun d s => first_half _ _ _ 1120 1200 (by decide) (by decide) d s (by rfl) (by rfl) (by decide))
    (fun d s => second_half _ _ _ 1200 1120 (by decide) (by decide) d s (by rfl) (by rfl) (by decide)) d s

/-- The stack of a trip's eight scales. -/
theorem scale_at (j : Fin 8) (l : Fin 128) : k0_pay3 (F := Ideal) (k0_pay37 (F := Ideal) (k0_pay4 (F := Ideal) C) (k0_pay5 (F := Ideal) S) (k0_pay6 (F := Ideal) Z)) (k0_pay38 (F := Ideal) (k0_pay4 (F := Ideal) C) (k0_pay5 (F := Ideal) S) (k0_pay6 (F := Ideal) Z)) (k0_pay41 (F := Ideal) (k0_pay39 (F := Ideal) (k0_pay9 (F := Ideal) C S Z) (k0_pay10 (F := Ideal) C S Z))) (k0_pay44 (F := Ideal) (k0_pay13 (F := Ideal) C S Z) (k0_pay14 (F := Ideal) C S Z)) (k0_pay50 (F := Ideal) (k0_pay46 (F := Ideal) (k0_pay17 (F := Ideal) C S Z) (k0_pay18 (F := Ideal) C S Z)) (k0_pay47 (F := Ideal) (k0_pay17 (F := Ideal) C S Z) (k0_pay18 (F := Ideal) C S Z))) (k0_pay53 (F := Ideal) (k0_pay51 (F := Ideal) (k0_pay21 (F := Ideal) C S Z) (k0_pay22 (F := Ideal) C S Z))) (k0_pay56 (F := Ideal) (k0_pay25 (F := Ideal) C S Z) (k0_pay26 (F := Ideal) C S Z)) (k0_pay62 (F := Ideal) (k0_pay58 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z))) (k0_pay59 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z)))) (k0_pay63 (F := Ideal) (k0_pay33 (F := Ideal) (k0_pay4 (F := Ideal) C) (k0_pay5 (F := Ideal) S) (k0_pay6 (F := Ideal) Z)) (k0_pay34 (F := Ideal) (k0_pay4 (F := Ideal) C) (k0_pay5 (F := Ideal) S) (k0_pay6 (F := Ideal) Z))) (ix3 (0 : Fin 1) j l) = hs (trow C S Z) j.val := by
  unfold k0_pay3
  refine (flat_at _ _ j l).trans ?_
  refine stack_at (R := 1) (M := 8) (fun c (_ : Fin 128) => hs (trow C S Z) c) _ _ [_, _, _, _, _, _] _ ?_ j l
  exact ⟨fun o l => row_at _ _ (trow C S Z) 0 (fun d s => first_half _ _ _ 0 80 (by decide) (by decide) d s (by rfl) (by rfl) (by decide))
      (fun d s => second_half _ _ _ 80 0 (by decide) (by decide) d s (by rfl) (by rfl) (by decide)) (by decide) (by decide) o l,
    fun o l => row_at _ _ (trow C S Z) 1 (fun d s => first_half _ _ _ 160 240 (by decide) (by decide) d s (by rfl) (by rfl) (by decide))
      (fun d s => second_half _ _ _ 240 160 (by decide) (by decide) d s (by rfl) (by rfl) (by decide)) (by decide) (by decide) o l,
    fun o l => row_at _ _ (trow C S Z) 2 (fun d s => first_half _ _ _ 320 400 (by decide) (by decide) d s (by rfl) (by rfl) (by decide))
      (fun d s => second_half _ _ _ 400 320 (by decide) (by decide) d s (by rfl) (by rfl) (by decide)) (by decide) (by decide) o l,
    fun o l => row_at _ _ (trow C S Z) 3 (fun d s => first_half _ _ _ 480 560 (by decide) (by decide) d s (by rfl) (by rfl) (by decide))
      (fun d s => second_half _ _ _ 560 480 (by decide) (by decide) d s (by rfl) (by rfl) (by decide)) (by decide) (by decide) o l,
    fun o l => row_at _ _ (trow C S Z) 4 (fun d s => first_half _ _ _ 640 720 (by decide) (by decide) d s (by rfl) (by rfl) (by decide))
      (fun d s => second_half _ _ _ 720 640 (by decide) (by decide) d s (by rfl) (by rfl) (by decide)) (by decide) (by decide) o l,
    fun o l => row_at _ _ (trow C S Z) 5 (fun d s => first_half _ _ _ 800 880 (by decide) (by decide) d s (by rfl) (by rfl) (by decide))
      (fun d s => second_half _ _ _ 880 800 (by decide) (by decide) d s (by rfl) (by rfl) (by decide)) (by decide) (by decide) o l,
    fun o l => row_at _ _ (trow C S Z) 6 (fun d s => first_half _ _ _ 960 1040 (by decide) (by decide) d s (by rfl) (by rfl) (by decide))
      (fun d s => second_half _ _ _ 1040 960 (by decide) (by decide) d s (by rfl) (by rfl) (by decide)) (by decide) (by decide) o l,
    fun o l => row_at _ _ (trow C S Z) 7 (fun d s => first_half _ _ _ 1120 1200 (by decide) (by decide) d s (by rfl) (by rfl) (by decide))
      (fun d s => second_half _ _ _ 1200 1120 (by decide) (by decide) d s (by rfl) (by rfl) (by decide)) (by decide) (by decide) o l, trivial⟩

end Payloads

/-- Trip `k` of the loop is batch `k`. -/
theorem trips_eq : k0_t1_loop.trips = 4 := by decide +kernel
theorem off1_eq : ∀ k : Fin k0_t1_loop.trips, k0_off1 k = ![k.val, 0, 0] := by decide +kernel
theorem off2_eq : ∀ k : Fin k0_t1_loop.trips, k0_off2 k = ![384 * k.val, 0] := by decide +kernel
theorem off3_eq : ∀ k : Fin k0_t1_loop.trips, k0_off3 k = ![k.val, 160 * 0, 0] := by decide +kernel
theorem off4_eq : ∀ k : Fin k0_t1_loop.trips, k0_off4 k = ![k.val, 160 * 1, 0] := by decide +kernel
theorem off5_eq : ∀ k : Fin k0_t1_loop.trips, k0_off5 k = ![k.val, 160 * 2, 0] := by decide +kernel
theorem off6_eq : ∀ k : Fin k0_t1_loop.trips, k0_off6 k = ![k.val, 160 * 3, 0] := by decide +kernel
theorem off7_eq : ∀ k : Fin k0_t1_loop.trips, k0_off7 k = ![k.val, 160 * 4, 0] := by decide +kernel
theorem off8_eq : ∀ k : Fin k0_t1_loop.trips, k0_off8 k = ![k.val, 160 * 5, 0] := by decide +kernel
theorem off9_eq : ∀ k : Fin k0_t1_loop.trips, k0_off9 k = ![k.val, 160 * 6, 0] := by decide +kernel
theorem off10_eq : ∀ k : Fin k0_t1_loop.trips, k0_off10 k = ![k.val, 160 * 7, 0] := by decide +kernel
theorem off11_eq : ∀ k : Fin k0_t1_loop.trips, k0_off11 k = ![k.val, 0, 0] := by decide +kernel

section Trip
variable (A : FVec Ideal S1536x1280 .f32) (C N : FVec Ideal S4x80x384 .f32) (k : Fin k0_t1_loop.trips)

theorem tab_at (inb) (d : Fin 80) (s : Fin 384) (b : Fin 4) (h : b.val = k.val) :
    k0_pay4 (F := Ideal) (View.ld (Val := Elt Ideal) (e' := .f32) C (Rect.unit (s := S4x80x384) (k0_off1 k) S1x80x384.size inb)) (ix2 d s) = C (ix3 b d s) := by
  have e : ∀ v : FVec Ideal S1x80x384 .f32, k0_pay4 (F := Ideal) v (ix2 d s) = v (ix3 (0 : Fin 1) d s) := fun v => by pointwise [k0_pay4]
  rw [e]
  refine congrArg C (funext fun a => Fin.ext ?_)
  have o := off1_eq k
  match a with
  | ⟨0, _⟩ => show k0_off1 k 0 + 1 * 0 = b.val; rw [o]; exact h.symm
  | ⟨1, _⟩ => show k0_off1 k 1 + 1 * d.val = d.val; rw [o]; show 0 + 1 * d.val = d.val; omega
  | ⟨2, _⟩ => show k0_off1 k 2 + 1 * s.val = s.val; rw [o]; show 0 + 1 * s.val = s.val; omega

theorem acc_at (inb) (c : Fin 1280) (s : Fin 384) (i : Fin 1536) (h : i.val = 384 * k.val + s.val) :
    k0_pay6 (F := Ideal) (View.ld (Val := Elt Ideal) (e' := .f32) A (Rect.unit (s := S1536x1280) (k0_off2 k) S384x1280.size inb)) (ix2 c s) = A (ix2 i c) := by
  have e : ∀ v : FVec Ideal S384x1280 .f32, k0_pay6 (F := Ideal) v (ix2 c s) = v (ix2 s c) := fun v => by pointwise [k0_pay6]
  rw [e]
  refine congrArg A (funext fun a => Fin.ext ?_)
  have o := off2_eq k
  match a with
  | ⟨0, _⟩ => show k0_off2 k 0 + 1 * s.val = i.val; rw [o]; show 384 * k.val + 1 * s.val = i.val; omega
  | ⟨1, _⟩ => show k0_off2 k 1 + 1 * c.val = c.val; rw [o]; show 0 + 1 * c.val = c.val; omega

/-- The numbers trip `k` works on are the rotated columns of batch `k`. -/
theorem trow_eq (i1 i2 i3) (b : Fin 4) (h : b.val = k.val) :
    trow (View.ld (Val := Elt Ideal) (e' := .f32) C (Rect.unit (s := S4x80x384) (k0_off1 k) S1x80x384.size i1)) (View.ld (Val := Elt Ideal) (e' := .f32) N (Rect.unit (s := S4x80x384) (k0_off1 k) S1x80x384.size i2))
      (View.ld (Val := Elt Ideal) (e' := .f32) A (Rect.unit (s := S1536x1280) (k0_off2 k) S384x1280.size i3)) = kRow A C N b := by
  funext c s
  unfold trow rotRow kRow
  rw [funext fun c => acc_at A k i3 c s (pos b s) (by show 384 * b.val + s.val = _; omega), funext fun d => tab_at C k i1 d s b h]
  exact congrArg (fun f => rot _ _ (ext f) _) (funext fun d => tab_at N k i2 d s b h)

end Trip

section Loop
variable (𝒱 : Variants) (c : Dev nD) (bd : Option 𝒱.V) (i : grid0.Coords) (arg1 : Memref sig .tc .vmem S1536x5120 .bf16) (harg1 : arg1.IsWhole) (arg2 : Memref sig .tc .vmem S1536x128 .f32) (harg2 : arg2.IsWhole) (arg3 : Memref sig .tc .vmem S1536x128 .bf16) (harg3 : arg3.IsWhole) (arg4 : Memref sig .tc .vmem S2560x1280 .i8) (harg4 : arg4.IsWhole) (arg5 : Memref sig .tc .vmem S40x1280 .f32) (harg5 : arg5.IsWhole) (arg6 : Memref sig .tc .vmem S1x1x128x1280 .bf16) (harg6 : arg6.IsWhole) (arg7 : Memref sig .tc .vmem S4x80x384 .f32) (harg7 : arg7.IsWhole) (arg8 : Memref sig .tc .vmem S4x80x384 .f32) (harg8 : arg8.IsWhole) (arg9 : Memref sig .tc .vmem S4x1280x384 .fp8e4m3) (harg9 : arg9.IsWhole) (arg10 : Memref sig .tc .vmem S4x8x128 .f32) (harg10 : arg10.IsWhole) (arg11 : Memref sig .tc .vmem S5120x256 .bf16) (harg11 : arg11.IsWhole) (arg12 : Memref sig .tc .vmem S5120x256 .bf16) (harg12 : arg12.IsWhole) (arg13 : Memref sig .tc .vmem S1536x1280 .f32) (harg13 : arg13.IsWhole) (c0_i32 : BitVec 32) (c1_i32 : BitVec 32) (X_arg7 : BufTy.Contents (Elt Ideal) arg7.view.ty) (X_arg8 : BufTy.Contents (Elt Ideal) arg8.view.ty) (X_arg13 : BufTy.Contents (Elt Ideal) arg13.view.ty)

theorem trip_pieces (k : Fin k0_t1_loop.trips) :
    View.PiecesOf (codesOf (kRow (arg13.view.read (Elt Ideal) X_arg13) (arg7.view.read (Elt Ideal) X_arg7) (arg8.view.read (Elt Ideal) X_arg8))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 k).1
    ∧ View.PiecesOf (scalesOf (kRow (arg13.view.read (Elt Ideal) X_arg13) (arg7.view.read (Elt Ideal) X_arg7) (arg8.view.read (Elt Ideal) X_arg8))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 k).2 := by
  unfold tripL_k0_t1 trip_k0_t1
  frame_out
  refine ⟨⟨fun x => ?_, fun x => ?_, fun x => ?_, fun x => ?_, fun x => ?_, fun x => ?_, fun x => ?_, fun x => ?_, trivial⟩, fun x => ?_, trivial⟩
  · exact code_piece _ (⟨k.val, lt_of_lt_of_eq k.isLt trips_eq⟩ : Fin 4) _ (trow_eq _ _ _ k _ _ _ _ rfl) 7 _ (fun d s => code7_at _ _ _ d s) _ (off10_eq k) (code_inb _ 7 (by decide) _ (off10_eq k)) x
  · exact code_piece _ (⟨k.val, lt_of_lt_of_eq k.isLt trips_eq⟩ : Fin 4) _ (trow_eq _ _ _ k _ _ _ _ rfl) 6 _ (fun d s => code6_at _ _ _ d s) _ (off9_eq k) (code_inb _ 6 (by decide) _ (off9_eq k)) x
  · exact code_piece _ (⟨k.val, lt_of_lt_of_eq k.isLt trips_eq⟩ : Fin 4) _ (trow_eq _ _ _ k _ _ _ _ rfl) 5 _ (fun d s => code5_at _ _ _ d s) _ (off8_eq k) (code_inb _ 5 (by decide) _ (off8_eq k)) x
  · exact code_piece _ (⟨k.val, lt_of_lt_of_eq k.isLt trips_eq⟩ : Fin 4) _ (trow_eq _ _ _ k _ _ _ _ rfl) 4 _ (fun d s => code4_at _ _ _ d s) _ (off7_eq k) (code_inb _ 4 (by decide) _ (off7_eq k)) x
  · exact code_piece _ (⟨k.val, lt_of_lt_of_eq k.isLt trips_eq⟩ : Fin 4) _ (trow_eq _ _ _ k _ _ _ _ rfl) 3 _ (fun d s => code3_at _ _ _ d s) _ (off6_eq k) (code_inb _ 3 (by decide) _ (off6_eq k)) x
  · exact code_piece _ (⟨k.val, lt_of_lt_of_eq k.isLt trips_eq⟩ : Fin 4) _ (trow_eq _ _ _ k _ _ _ _ rfl) 2 _ (fun d s => code2_at _ _ _ d s) _ (off5_eq k) (code_inb _ 2 (by decide) _ (off5_eq k)) x
  · exact code_piece _ (⟨k.val, lt_of_lt_of_eq k.isLt trips_eq⟩ : Fin 4) _ (trow_eq _ _ _ k _ _ _ _ rfl) 1 _ (fun d s => code1_at _ _ _ d s) _ (off4_eq k) (code_inb _ 1 (by decide) _ (off4_eq k)) x
  · exact code_piece _ (⟨k.val, lt_of_lt_of_eq k.isLt trips_eq⟩ : Fin 4) _ (trow_eq _ _ _ k _ _ _ _ rfl) 0 _ (fun d s => code0_at _ _ _ d s) _ (off3_eq k) (code_inb _ 0 (by decide) _ (off3_eq k)) x
  · exact scale_piece _ (⟨k.val, lt_of_lt_of_eq k.isLt trips_eq⟩ : Fin 4) _ (trow_eq _ _ _ k _ _ _ _ rfl) _ (fun j l => scale_at _ _ _ j l) _ (off11_eq k) (scale_inb _ _ (off11_eq k)) x

theorem loop_pieces : ∀ n : ℕ, n ≤ k0_t1_loop.trips →
    View.PiecesOf (codesOf (kRow (arg13.view.read (Elt Ideal) X_arg13) (arg7.view.read (Elt Ideal) X_arg7) (arg8.view.read (Elt Ideal) X_arg8))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 n).1
    ∧ View.PiecesOf (scalesOf (kRow (arg13.view.read (Elt Ideal) X_arg13) (arg7.view.read (Elt Ideal) X_arg7) (arg8.view.read (Elt Ideal) X_arg8))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 n).2
  | 0, _ => ⟨trivial, trivial⟩
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 ⟨n, h⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 (n + 1) = _ from e]
    have p := trip_pieces 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 ⟨n, h⟩
    have q := loop_pieces n (by omega)
    exact ⟨piecesOf_append _ _ _ p.1 q.1, piecesOf_append _ _ _ p.2 q.2⟩

end Loop

section Payloads
variable (X : FVec Ideal S1536x5120 .bf16) (W : FVec Ideal S5120x256 .bf16) (R : FVec Ideal S1536x128 .bf16)
  (L : FVec Ideal S1x1x128x256 .bf16) (v : FVec Ideal S1536x1 .f32) (i : Fin 1536) (c : Fin 256)

theorem chunk1024_at : k0_pay483 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay483]

theorem chunk768_at : k0_pay399 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay399]

theorem chunk512_at : k0_pay316 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay316]

theorem chunk256_at : k0_pay233 (F := Ideal) (k0_pay232 X W) R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay233, k0_pay232]

theorem chunk0_at : k0_pay149 (F := Ideal) (k0_pay147 X W) (k0_pay148 R L) v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay149, k0_pay147, k0_pay148]

end Payloads

variable (m : (ℓ : Loc nD τ sig) → Buf (Elt Ideal) ℓ)

set_option maxHeartbeats 2000000 in
/-- What a point stores are the codes and the scales of one block of projections, which is `zBlk` of the blocks it reads. -/
theorem outs_at (c : Dev nD) (t : Fin cfg0.N) : ∃ A : FVec Ideal S1536x1280 .f32, A = zBlk (iblk m c 0 t) (iblk m c 1 t) (iblk m c 2 t) (iblk m c 3 t) (iblk m c 4 t) (iblk m c 5 t)
    ∧ (∀ y, (outsAt0 m c t).1 y = codesOf (kRow A (iblk m c 6 t) (iblk m c 7 t)) y) ∧ ∀ y, (outsAt0 m c t).2 y = scalesOf (kRow A (iblk m c 6 t) (iblk m c 7 t)) y := by
  apply Exists.intro
  refine ⟨?z, fun y => ?e8, fun y => ?e9⟩
  case e8 =>
    unfold outsAt0
    show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_8
    have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ _ _ le_rfl).1 hc y).trans ?_
    clear hc
    frame_out
    exact congrArg (fun A => codesOf (kRow A _ _) y) rfl
  case e9 =>
    unfold outsAt0
    show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_9
    have hc := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ _ _ le_rfl).2 hc y).trans ?_
    clear hc
    frame_out
  refine funext fun y => ?_
  refine canon_tile (Val := Elt Ideal) (e := .f32) _ (zBlk (iblk m c 0 t) (iblk m c 1 t) (iblk m c 2 t) (iblk m c 3 t) (iblk m c 4 t) (iblk m c 5 t)) ?_
    (View.cover_of_tiledL _ ![1536, 256] (by sl_kernel_rfl)) y
  refine ⟨fun x => ?_, fun x => ?_, fun x => ?_, fun x => ?_, fun x => ?_, trivial⟩
  · refine chunk_at _ _ _ _ _ _ 1024 (by decide) _ _ _ _ (fun i c => chunk1024_at _ _ _ _ _ i c) ?_ inb_S1536x1280_S1536x256_0_1024 x
    refine read_tile _ 40 _ _ _ (by decide) ?_ (View.cover_of_tiledL _ ![128, 256] (by sl_kernel_rfl))
    simp only [List.take_succ_cons, List.take_zero, View.PiecesOf, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 768 (by decide) _ _ _ _ (fun i c => chunk768_at _ _ _ _ _ i c) ?_ inb_S1536x1280_S1536x256_0_768 x
    refine read_tile _ 40 _ _ _ (by decide) ?_ (View.cover_of_tiledL _ ![128, 256] (by sl_kernel_rfl))
    simp only [List.take_succ_cons, List.take_zero, View.PiecesOf, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 512 (by decide) _ _ _ _ (fun i c => chunk512_at _ _ _ _ _ i c) ?_ inb_S1536x1280_S1536x256_0_512 x
    refine read_tile _ 40 _ _ _ (by decide) ?_ (View.cover_of_tiledL _ ![128, 256] (by sl_kernel_rfl))
    simp only [List.take_succ_cons, List.take_zero, View.PiecesOf, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 256 (by decide) _ _ _ _ (fun i c => chunk256_at _ _ _ _ _ i c) ?_ inb_S1536x1280_S1536x256_0_256 x
    refine read_tile _ 40 _ _ _ (by decide) ?_ (View.cover_of_tiledL _ ![128, 256] (by sl_kernel_rfl))
    simp only [List.take_succ_cons, List.take_zero, View.PiecesOf, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 0 (by decide) _ _ _ _ (fun i c => chunk0_at _ _ _ _ _ i c) ?_ inb_S1536x1280_S1536x256_0_0 x
    refine read_tile _ 40 _ _ _ (by decide) ?_ (View.cover_of_tiledL _ ![128, 256] (by sl_kernel_rfl))
    simp only [List.take_succ_cons, List.take_zero, View.PiecesOf, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial

/-- The codes a point stores, over the blocks it reads. -/
theorem out8_at (c : Dev nD) (t : Fin cfg0.N) (y : S4x1280x384.Idx) : (outsAt0 m c t).1 y
    = codesOf (kRow (zBlk (iblk m c 0 t) (iblk m c 1 t) (iblk m c 2 t) (iblk m c 3 t) (iblk m c 4 t) (iblk m c 5 t)) (iblk m c 6 t) (iblk m c 7 t)) y := by
  obtain ⟨A, e, h, -⟩ := outs_at m c t
  exact (h y).trans (e ▸ rfl)

/-- The scales a point stores, over the blocks it reads. -/
theorem out9_at (c : Dev nD) (t : Fin cfg0.N) (y : S4x8x128.Idx) : (outsAt0 m c t).2 y
    = scalesOf (kRow (zBlk (iblk m c 0 t) (iblk m c 1 t) (iblk m c 2 t) (iblk m c 3 t) (iblk m c 4 t) (iblk m c 5 t)) (iblk m c 6 t) (iblk m c 7 t)) y := by
  obtain ⟨A, e, -, h⟩ := outs_at m c t
  exact (h y).trans (e ▸ rfl)

end Cert.KIdeal.Block
-- ==== Proof.KVal.lean ====
/-
  THE KEY KERNEL'S RESULTS. Point `t` of the four stores the codes of columns `1280 t … 1280 t + 1279` and the scales of heads `8 t … 8 t + 7`.
-/
module

public import proofs.«01_k».proof.Proof.KBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KIdeal.Block
open Cert.KIdeal Cert.KIdeal.Gen Cert.Weights Cert.QkvMath Cert.KvMath

variable (m : (ℓ : Loc nD τ sig) → Buf (Elt Ideal) ℓ)

theorem idx : ∀ t : Fin cfg0.N, win0_0.index t = ![0, 0] ∧ win0_1.index t = ![0, 0] ∧ win0_2.index t = ![0, 1]
    ∧ win0_3.index t = ![0, 4 + t.val] ∧ win0_4.index t = ![0, 4 + t.val] ∧ win0_5.index t = ![0, 1, 0, t.val] ∧ win0_6.index t = ![0, 0, 0] ∧ win0_7.index t = ![0, 0, 0] ∧ win0_8.index t = ![0, t.val, 0] ∧ win0_9.index t = ![0, t.val, 0] :=
  (by decide +kernel : ∀ t : Fin grid0.N, _)

theorem lt4 (t : Fin cfg0.N) : t.val < 4 := lt_of_lt_of_eq t.isLt N_0

section Reads
variable (c : Dev nD) (t : Fin cfg0.N)

theorem read0 : iblk m c 0 t = m ((c : Thread nD τ).loc main_arg0) := funext fun y => by
  have h : ∀ (i : Fin 1536) (k : Fin 5120), iblk m c 0 t (ix2 i k) = m ((c : Thread nD τ).loc main_arg0) (ix2 i k) := fun i k => by blk_ext [iblk, V, idx t]
  rw [ValueIdx.eq_ix2 y]; exact h _ _
theorem read1 : iblk m c 1 t = m ((c : Thread nD τ).loc main_arg1) := funext fun y => by
  have h : ∀ (i : Fin 1536) (k : Fin 128), iblk m c 1 t (ix2 i k) = m ((c : Thread nD τ).loc main_arg1) (ix2 i k) := fun i k => by blk_ext [iblk, V, idx t]
  rw [ValueIdx.eq_ix2 y]; exact h _ _
theorem read2 (i : Fin 1536) (k : Fin 128) (k' : Fin 384) (h : k'.val = 1 * 128 + k.val) :
    iblk m c 2 t (ix2 i k) = m ((c : Thread nD τ).loc main_arg2) (ix2 i k') := by
  blk_ext [iblk, V, idx t]
theorem read3 (k : Fin 2560) (n : Fin 1280) (n' : Fin 15360) (h : n'.val = (4 + t.val) * 1280 + n.val) :
    iblk m c 3 t (ix2 k n) = m ((c : Thread nD τ).loc main_arg3) (ix2 k n') := by
  blk_ext [iblk, V, idx t]
theorem read4 (k : Fin 40) (n : Fin 1280) (n' : Fin 15360) (h : n'.val = (4 + t.val) * 1280 + n.val) :
    iblk m c 4 t (ix2 k n) = m ((c : Thread nD τ).loc main_arg4) (ix2 k n') := by
  blk_ext [iblk, V, idx t]
theorem read5 (k : Fin 128) (n : Fin 1280) (n' : Fin 5120) (h : n'.val = t.val * 1280 + n.val) :
    iblk m c 5 t (ix4 (0 : Fin 1) (0 : Fin 1) k n) = m ((c : Thread nD τ).loc main_arg5) (ix4 (0 : Fin 2) (1 : Fin 3) k n') := by
  blk_ext [iblk, V, idx t]
theorem read6 : iblk m c 6 t = m ((c : Thread nD τ).loc main_arg6) := funext fun y => by
  have h : ∀ (b : Fin 4) (d : Fin 80) (s : Fin 384), iblk m c 6 t (ix3 b d s) = m ((c : Thread nD τ).loc main_arg6) (ix3 b d s) := fun b d s => by blk_ext [iblk, V, idx t]
  rw [ValueIdx.eq_ix3 y]; exact h _ _ _
theorem read7 : iblk m c 7 t = m ((c : Thread nD τ).loc main_arg7) := funext fun y => by
  have h : ∀ (b : Fin 4) (d : Fin 80) (s : Fin 384), iblk m c 7 t (ix3 b d s) = m ((c : Thread nD τ).loc main_arg7) (ix3 b d s) := fun b d s => by blk_ext [iblk, V, idx t]
  rw [ValueIdx.eq_ix3 y]; exact h _ _ _

/-- The point's projections are the columns from `1280 t` on of `Z`. -/
theorem z_at (i : Fin 1536) (n : Fin 1280) (f : Fin 5120) (h : f.val = t.val * 1280 + n.val) :
    zBlk (iblk m c 0 t) (iblk m c 1 t) (iblk m c 2 t) (iblk m c 3 t) (iblk m c 4 t) (iblk m c 5 t) (ix2 i n) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 0 i f := by
  rw [read0 m c t, read1 m c t]
  refine proj_congr _ _ _ _ _ _ _ _ _ _ _ (fun k => read2 m c t i k _ rfl) (fun k => deq_congr _ _ _ _ _ _ _ _ _ (fun k => read3 m c t k n _ ?_) fun g => read4 m c t g n _ ?_)
    fun k => read5 m c t k n _ h
  · show 1 * 5120 + f.val = _; omega
  · show 1 * 5120 + f.val = _; omega

theorem z_shift (i : Fin 1536) (n : ℕ) (h1 : n < 1280) (e : ℕ) (_ : e < n + 160) (_ : n < e + 160) (h2 : e / 160 = n / 160) :
    ext (fun n => zBlk (iblk m c 0 t) (iblk m c 1 t) (iblk m c 2 t) (iblk m c 3 t) (iblk m c 4 t) (iblk m c 5 t) (ix2 i n)) e
      = ext (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 0 i) (t.val * 1280 + e) := by
  have ht := lt4 t
  have he : e < 1280 := by omega
  rw [ext_of _ e ⟨e, he⟩ rfl, ext_of _ (t.val * 1280 + e) ⟨t.val * 1280 + e, by omega⟩ rfl]
  exact z_at m c t i _ _ rfl

end Reads

/-- The point's numbers are the columns from `1280 t` on. -/
theorem num_shift (c : Dev nD) (t : Fin cfg0.N) (b : Fin 4) (n : ℕ) (s : Fin 384) (hn : n < 1280) :
    kRow (zBlk (iblk m c 0 t) (iblk m c 1 t) (iblk m c 2 t) (iblk m c 3 t) (iblk m c 4 t) (iblk m c 5 t)) (iblk m c 6 t) (iblk m c 7 t) b n s = kNum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 b (t.val * 1280 + n) s := by
  rw [read6 m c t, read7 m c t]
  exact rot_shift _ _ _ _ _ _ (t.val * 1280) n (by omega) (z_shift m c t (pos b s) n hn) (fun _ _ => rfl) (fun _ _ => rfl)

/-- The codes. -/
theorem final8 (c : Dev nD) : (dats m 0 c).arrAt 8 cfg0.N = kCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  refine (dats m 0 c).arrAt_eq_of_covers 8 _ (by decide +kernel) fun t hf y => ?_
  blk_simp
  rw [after0_8]
  have ht := lt4 t
  have h1 : (y 1).val < 1280 := (y 1).isLt
  have e : (win0_8.blk t).view.emb y = ix3 (y 0) ⟨t.val * 1280 + (y 1).val, by omega⟩ (y 2) := by blk_ext [idx t]
  rw [e]
  refine (out8_at m c t y).trans ((congrArg _ (ValueIdx.eq_ix3 (n0 := 4) (n1 := 1280) (n2 := 384) y)).trans ?_)
  exact codes_block _ _ t.val ht (fun b n s hn => num_shift m c t b n s hn) (y 0) (y 1) (y 2)

/-- The scales. -/
theorem final9 (c : Dev nD) : (dats m 0 c).arrAt 9 cfg0.N = kScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  refine (dats m 0 c).arrAt_eq_of_covers 9 _ (by decide +kernel) fun t hf y => ?_
  blk_simp
  rw [after0_9]
  have ht := lt4 t
  have h1 : (y 1).val < 8 := (y 1).isLt
  have e : (win0_9.blk t).view.emb y = ix3 (y 0) ⟨t.val * 8 + (y 1).val, by omega⟩ (y 2) := by blk_ext [idx t]
  rw [e]
  refine (out9_at m c t y).trans ((congrArg _ (ValueIdx.eq_ix3 (n0 := 4) (n1 := 8) (n2 := 128) y)).trans ?_)
  exact scales_block _ _ t.val ht (fun b n s hn => num_shift m c t b n s hn) (y 0) (y 1) (y 2)

end Cert.KIdeal.Block
-- ==== Proof.KvRefMath.lean ====
/-
  THE KEY AND VALUE REFERENCES, as array expressions over the projected rows `z`: `heads` cuts the rows into batches and heads,
  `rotated` rotates them, `scale` is the quantiser's scale of every head, `codes` and `scales` are the two results. Read at an
  index they are `codesOf` and `scalesOf` of the same numbers.
-/
module

public import proofs.«01_k».proof.Proof.KvBlock

@[expose] public section

set_option maxRecDepth 16384

noncomputable section

namespace Cert.KvRefMath

open Idealize.ShloMosaic Cert.Weights Cert.QkvMath Cert.KvMath

def heads (z : FVec Ideal ⟨2, ![1536, 5120]⟩ .f32) : FVec Ideal ⟨4, ![4, 384, 32, 160]⟩ .f32 := shapeCast _ z (by decide)

/-- A rotation table beside the heads. -/
def table (C : FVec Ideal ⟨3, ![4, 80, 384]⟩ .f32) : FVec Ideal ⟨4, ![4, 384, 32, 80]⟩ .f32 :=
  broadcastInDim ⟨4, ![4, 384, 32, 80]⟩ ![0, 1, 2, 3] (by decide)
    (broadcastInDim ⟨4, ![4, 384, 1, 80]⟩ ![0, 1, 3] (by decide) (transpose ⟨3, ![4, 384, 80]⟩ [0, 2, 1] C (by decide)))

def half1 (z : FVec Ideal ⟨4, ![4, 384, 32, 160]⟩ .f32) : FVec Ideal ⟨4, ![4, 384, 32, 80]⟩ .f32 := extractStridedSlice _ ![0, 0, 0, 0] z (by decide)
def half2 (z : FVec Ideal ⟨4, ![4, 384, 32, 160]⟩ .f32) : FVec Ideal ⟨4, ![4, 384, 32, 80]⟩ .f32 := extractStridedSlice _ ![0, 0, 0, 80] z (by decide)

theorem cat_heads : Shape.Concatenates [⟨4, ![4, 384, 32, 80]⟩, ⟨4, ![4, 384, 32, 80]⟩] ⟨4, ![4, 384, 32, 160]⟩ 3 := by decide

/-- The rotated heads. -/
def rotated (z : FVec Ideal ⟨2, ![1536, 5120]⟩ .f32) (C N : FVec Ideal ⟨3, ![4, 80, 384]⟩ .f32) : FVec Ideal ⟨4, ![4, 384, 32, 160]⟩ .f32 :=
  concatenate ⟨4, ![4, 384, 32, 160]⟩ 3
    [⟨⟨4, ![4, 384, 32, 80]⟩, subf (mulf (half1 (heads z)) (table C)) (mulf (half2 (heads z)) (table N))⟩,
     ⟨⟨4, ![4, 384, 32, 80]⟩, addf (mulf (half2 (heads z)) (table C)) (mulf (half1 (heads z)) (table N))⟩] cat_heads

theorem red_heads : (⟨4, ![4, 384, 32, 160]⟩ : Shape).ReducesTo [1, 3] ⟨2, ![4, 32]⟩ := by decide
theorem one_pos : 0 < (⟨0, ![]⟩ : Shape).numel := by decide

def amaxR (z : FVec Ideal ⟨4, ![4, 384, 32, 160]⟩ .f32) : FVec Ideal ⟨2, ![4, 32]⟩ .f32 :=
  Host.reduce (axes := [1, 3]) FloatOps.maximumf (Host.absf z) (constant ⟨0, ![]⟩ .f32 0xFF800000#32) red_heads one_pos

theorem bc_s : (⟨0, ![]⟩ : Shape).BroadcastsInDim ⟨2, ![4, 32]⟩ (![] : Fin 0 → Fin 2) := by decide
theorem bc_z : (⟨0, ![]⟩ : Shape).BroadcastsInDim ⟨4, ![4, 384, 32, 160]⟩ (![] : Fin 0 → Fin 4) := by decide
theorem bc_h1 : (⟨2, ![4, 32]⟩ : Shape).BroadcastsInDim ⟨4, ![4, 1, 32, 1]⟩ (![0, 2] : Fin 2 → Fin 4) := by decide
theorem bc_h2 : (⟨4, ![4, 1, 32, 1]⟩ : Shape).BroadcastsInDim ⟨4, ![4, 384, 32, 160]⟩ (![0, 1, 2, 3] : Fin 4 → Fin 4) := by decide
theorem bc_l1 : (⟨2, ![4, 32]⟩ : Shape).BroadcastsInDim ⟨3, ![4, 32, 1]⟩ (![0, 1] : Fin 2 → Fin 3) := by decide
theorem bc_l2 : (⟨3, ![4, 32, 1]⟩ : Shape).BroadcastsInDim ⟨3, ![4, 32, 128]⟩ (![0, 1, 2] : Fin 3 → Fin 3) := by decide
theorem tr_z : (⟨4, ![4, 384, 32, 160]⟩ : Shape).Transposes [0, 2, 3, 1] ⟨4, ![4, 32, 160, 384]⟩ := by decide
theorem sc_z : (⟨4, ![4, 32, 160, 384]⟩ : Shape).ShapeCasts ⟨3, ![4, 5120, 384]⟩ := by decide

/-- A constant of any shape. -/
def cst {t : Shape} {d : Fin 0 → Fin t.rank} (h : (⟨0, ![]⟩ : Shape).BroadcastsInDim t d) (v : BitVec 32) : FVec Ideal t .f32 :=
  broadcastInDim t d h (constant (F := Ideal) ⟨0, ![]⟩ .f32 v)

theorem cst_eq {t : Shape} {d : Fin 0 → Fin t.rank} (h : (⟨0, ![]⟩ : Shape).BroadcastsInDim t d) (v : BitVec 32) :
    cst h v = fun _ => Ideal.ofBits .f32 v := rfl

/-- The quantiser's scales from the largest magnitudes. -/
def scaleOf (v : FVec Ideal ⟨2, ![4, 32]⟩ .f32) : FVec Ideal ⟨2, ![4, 32]⟩ .f32 :=
  select (cmpf .ogt v (cst bc_s 0x00000000#32)) (Host.divf v (cst bc_s 0x43E00000#32)) (cst bc_s 0x3F800000#32)

def scale (z : FVec Ideal ⟨4, ![4, 384, 32, 160]⟩ .f32) : FVec Ideal ⟨2, ![4, 32]⟩ .f32 := scaleOf (amaxR z)

/-- The codes at given scales. -/
def codesAt (z : FVec Ideal ⟨4, ![4, 384, 32, 160]⟩ .f32) (v : FVec Ideal ⟨2, ![4, 32]⟩ .f32) : FVec Ideal ⟨3, ![4, 5120, 384]⟩ .f32 :=
  shapeCast _ (transpose ⟨4, ![4, 32, 160, 384]⟩ [0, 2, 3, 1]
    (minimumf (cst bc_z 0x43E00000#32) (maximumf (cst bc_z 0xC3E00000#32)
      (Host.divf z (broadcastInDim ⟨4, ![4, 384, 32, 160]⟩ ![0, 1, 2, 3] bc_h2
        (broadcastInDim ⟨4, ![4, 1, 32, 1]⟩ ![0, 2] bc_h1 v))))) tr_z) sc_z

def codes (z : FVec Ideal ⟨4, ![4, 384, 32, 160]⟩ .f32) : FVec Ideal ⟨3, ![4, 5120, 384]⟩ .f32 := codesAt z (scale z)

/-- The scales over the lanes. -/
def lanes (v : FVec Ideal ⟨2, ![4, 32]⟩ .f32) : FVec Ideal ⟨3, ![4, 32, 128]⟩ .f32 :=
  broadcastInDim ⟨3, ![4, 32, 128]⟩ ![0, 1, 2] bc_l2 (broadcastInDim ⟨3, ![4, 32, 1]⟩ ![0, 1] bc_l1 v)

def scales (z : FVec Ideal ⟨4, ![4, 384, 32, 160]⟩ .f32) : FVec Ideal ⟨3, ![4, 32, 128]⟩ .f32 := lanes (scale z)

theorem scaleOf_at (v : FVec Ideal ⟨2, ![4, 32]⟩ .f32) (b : Fin 4) (h : Fin 32) : scaleOf v (ix2 b h) = qscale (v (ix2 b h)) := by
  unfold scaleOf
  rw [cst_eq, cst_eq, cst_eq]
  pointwise
  rfl

theorem codesAt_at (z : FVec Ideal ⟨4, ![4, 384, 32, 160]⟩ .f32) (v : FVec Ideal ⟨2, ![4, 32]⟩ .f32) (b : Fin 4) (c : Fin 5120) (s : Fin 384) :
    codesAt z v (ix3 b c s) = qcode (z (ix4 b s ⟨c.val / 160, by omega⟩ ⟨c.val % 160, by omega⟩)) (v (ix2 b ⟨c.val / 160, by omega⟩)) := by
  unfold codesAt
  rw [cst_eq, cst_eq]
  pointwise
  rfl

theorem lanes_at (v : FVec Ideal ⟨2, ![4, 32]⟩ .f32) (b : Fin 4) (h : Fin 32) (l : Fin 128) : lanes v (ix3 b h l) = v (ix2 b h) := by
  unfold lanes
  pointwise

theorem drop_at (b : Fin 4) (s : Fin 384) (h : Fin 32) (d : Fin 160) : red_heads.drop (ix4 b s h d) = ix2 b h := by
  funext a
  refine Fin.ext ?_
  match a with
  | ⟨0, _⟩ => exact Shape.ReducesTo.drop_apply_val_of_eq red_heads (ix4 b s h d) 0 0 (by decide)
  | ⟨1, _⟩ => exact Shape.ReducesTo.drop_apply_val_of_eq red_heads (ix4 b s h d) 1 2 (by decide)

theorem amaxR_at (z : FVec Ideal ⟨4, ![4, 384, 32, 160]⟩ .f32) (g : ℕ → Fin 384 → EReal) (b : Fin 4) (h : Fin 32)
    (hz : ∀ s (d : Fin 160), z (ix4 b s h d) = g (160 * h.val + d.val) s) : amaxR z (ix2 b h) = amax fun d s => g (160 * h.val + d) s := by
  unfold amaxR
  pointwise
  refine eq_of_forall_ge_iff (α := EReal) fun w => ?_
  refine (Finset.fold_max_le _).trans ?_
  rw [amax_le]
  constructor
  · intro k d hd s
    have := k.2 (ix4 b s h ⟨d, hd⟩) (Finset.mem_filter.mpr ⟨Finset.mem_univ _, drop_at b s h ⟨d, hd⟩⟩)
    rw [← hz s ⟨d, hd⟩]
    exact this
  · intro k
    refine ⟨bot_le, fun i hi => ?_⟩
    have hi := (Finset.mem_filter.mp hi).2
    obtain ⟨b', s, h', d, rfl⟩ : ∃ (b' : Fin 4) (s : Fin 384) (h' : Fin 32) (d : Fin 160), i = ix4 b' s h' d := ⟨i 0, i 1, i 2, i 3, ValueIdx.eq_ix4 (n0 := 4) (n1 := 384) (n2 := 32) (n3 := 160) i⟩
    rw [drop_at] at hi
    obtain rfl : b' = b := congrFun hi 0
    obtain rfl : h' = h := congrFun hi 1
    have := k d.val d.isLt s
    rw [← hz s d] at this
    exact this

theorem heads_at (z : FVec Ideal ⟨2, ![1536, 5120]⟩ .f32) (b : Fin 4) (s : Fin 384) (h : Fin 32) (d : Fin 160) :
    heads z (ix4 b s h d) = vRow z b (160 * h.val + d.val) s := by
  unfold vRow
  rw [ext_of _ _ (⟨160 * h.val + d.val, by omega⟩ : Fin 5120) rfl]
  unfold heads
  pointwise
  exact congrArg z (congrArg₂ ix2 (Fin.ext (by show b.val * 384 + s.val = 384 * b.val + s.val; omega)) (Fin.ext (by show h.val * 160 + d.val = 160 * h.val + d.val; omega)))

theorem rotated_at (z : FVec Ideal ⟨2, ![1536, 5120]⟩ .f32) (C N : FVec Ideal ⟨3, ![4, 80, 384]⟩ .f32) (b : Fin 4) (s : Fin 384) (h : Fin 32) (d : Fin 160) :
    rotated z C N (ix4 b s h d) = kRow z C N b (160 * h.val + d.val) s := by
  unfold rotated half1 half2 table
  have e := heads_at z b s h
  revert e
  generalize heads z = w
  intro e
  pointwise
  unfold kRow rot
  by_cases hd : d.val < 80
  · refine (dif_pos hd).trans ((congrArg₂ (fun a b => a * _ - b * _) (e _) (e _)).trans ?_)
    rw [if_pos (by omega), ext_of _ _ (⟨d.val, hd⟩ : Fin 80) (by dsimp only; omega), ext_of _ _ (⟨d.val, hd⟩ : Fin 80) (by dsimp only; omega)]
    unfold vRow
    rw [show 160 * h.val + d.val + 80 = 160 * h.val + (80 + d.val) by omega]
  · refine (dif_neg hd).trans ((congrArg₂ (fun a b => a * _ + b * _) (e _) (e _)).trans ?_)
    show ext (fun c => z (ix2 (pos b s) c)) (160 * h.val + (80 + (d.val - 80))) * C (ix3 b (⟨d.val - 80, by omega⟩ : Fin 80) s)
      + ext (fun c => z (ix2 (pos b s) c)) (160 * h.val + (d.val - 80)) * N (ix3 b (⟨d.val - 80, by omega⟩ : Fin 80) s) = _
    rw [show 80 + (d.val - 80) = d.val by omega, if_neg (by omega), ext_of (fun d => C (ix3 b d s)) _ (⟨d.val - 80, by omega⟩ : Fin 80) (by dsimp only; omega),
      ext_of (fun d => N (ix3 b d s)) _ (⟨d.val - 80, by omega⟩ : Fin 80) (by dsimp only; omega), show 160 * h.val + d.val - 80 = 160 * h.val + (d.val - 80) by omega]

variable (z : FVec Ideal ⟨4, ![4, 384, 32, 160]⟩ .f32) (g : Fin 4 → ℕ → Fin 384 → EReal)
  (hz : ∀ b s (h : Fin 32) (d : Fin 160), z (ix4 b s h d) = g b (160 * h.val + d.val) s)

include hz in
theorem scale_at (b : Fin 4) (h : Fin 32) : scale z (ix2 b h) = hs (g b) h.val :=
  (scaleOf_at _ b h).trans (congrArg qscale (amaxR_at z (g b) b h fun s d => hz b s h d))

include hz in
theorem codes_eq : codes z = codesOf (N := 5120) g := funext fun y => by
  obtain ⟨b, c, s, rfl⟩ : ∃ (b : Fin 4) (c : Fin 5120) (s : Fin 384), y = ix3 b c s := ⟨y 0, y 1, y 2, ValueIdx.eq_ix3 (n0 := 4) (n1 := 5120) (n2 := 384) y⟩
  refine (codesAt_at z _ b c s).trans (congrArg₂ qcode ((hz b s _ _).trans ?_) (scale_at z g hz b _))
  show g b (160 * (c.val / 160) + c.val % 160) s = g b c.val s
  rw [show 160 * (c.val / 160) + c.val % 160 = c.val by omega]

include hz in
theorem scales_eq : scales z = scalesOf (H := 32) g := funext fun y => by
  obtain ⟨b, h, l, rfl⟩ : ∃ (b : Fin 4) (h : Fin 32) (l : Fin 128), y = ix3 b h l := ⟨y 0, y 1, y 2, ValueIdx.eq_ix3 (n0 := 4) (n1 := 32) (n2 := 128) y⟩
  exact (lanes_at _ b h l).trans (scale_at z g hz b h)

end Cert.KvRefMath
-- ==== Proof.KRefRun.lean ====
/-
  WHAT THE KEY REFERENCE COMPUTES ON THE HOST. `val_b` is the contents of buffer `b` as a function of the arguments, up to the
  projected rows `main_v45`; from there on the host arrays are the expressions of `KvRefMath`.
-/
module

public import proofs.«01_k».proof.Proof.KvRefMath
public import proofs.«01_k».proof.Proof.Gen.KRefIdeal.Value

@[expose] public section

set_option maxRecDepth 16384

noncomputable section

open Idealize.ShloMosaic Idealize.ShloMosaic.TcCoe Idealize.SL.Sem

namespace Cert.KRefIdeal.Math
open Cert.KRefIdeal Cert.KRefIdeal.Gen Cert.Weights Cert.QkvMath Cert.KvMath Cert.KvRefMath

section Stages
variable {F : FTy → Type} [FloatOps F]

def val_main_v0 (x3 : (⟨S2560x15360, .i8⟩ : BufTy).Contents (Elt F)) : (⟨S2560x5120, .i8⟩ : BufTy).Contents (Elt F) :=
  extractStridedSlice S2560x5120 ![0, 5120] x3 slices_S2560x15360_S2560x5120_0_5120
def val_main_v1 (x4 : (⟨S40x15360, .f32⟩ : BufTy).Contents (Elt F)) : (⟨S40x5120, .f32⟩ : BufTy).Contents (Elt F) :=
  extractStridedSlice S40x5120 ![0, 5120] x4 slices_S40x15360_S40x5120_0_5120
def val_main_v2 (x3 : (⟨S2560x15360, .i8⟩ : BufTy).Contents (Elt F)) : (⟨S2560x5120, .i32⟩ : BufTy).Contents (Elt F) :=
  extui 32 (val_main_v0 (F := F) x3) natLt_8_32
def val_main_c : (⟨S_, .i32⟩ : BufTy).Contents (Elt F) :=
  constantI S_ 32 15#32
def val_main_v3 : (⟨S2560x5120, .i32⟩ : BufTy).Contents (Elt F) :=
  broadcastInDim S2560x5120 ![] bcast_S_S2560x5120 (val_main_c (F := F))
def val_main_v4 (x3 : (⟨S2560x15360, .i8⟩ : BufTy).Contents (Elt F)) : (⟨S2560x5120, .i32⟩ : BufTy).Contents (Elt F) :=
  andi (val_main_v2 (F := F) x3) (val_main_v3 (F := F))
def val_main_c_0 : (⟨S_, .i32⟩ : BufTy).Contents (Elt F) :=
  constantI S_ 32 4#32
def val_main_v5 : (⟨S2560x5120, .i32⟩ : BufTy).Contents (Elt F) :=
  broadcastInDim S2560x5120 ![] bcast_S_S2560x5120 (val_main_c_0 (F := F))
def val_main_v6 (x3 : (⟨S2560x15360, .i8⟩ : BufTy).Contents (Elt F)) : (⟨S2560x5120, .i32⟩ : BufTy).Contents (Elt F) :=
  Host.shrsi (val_main_v2 (F := F) x3) (val_main_v5 (F := F))
def val_main_c_1 : (⟨S_, .i32⟩ : BufTy).Contents (Elt F) :=
  constantI S_ 32 8#32
def val_main_v7 : (⟨S2560x5120, .i32⟩ : BufTy).Contents (Elt F) :=
  broadcastInDim S2560x5120 ![] bcast_S_S2560x5120 (val_main_c_1 (F := F))
def val_main_v8 (x3 : (⟨S2560x15360, .i8⟩ : BufTy).Contents (Elt F)) : (⟨S2560x5120, .i1⟩ : BufTy).Contents (Elt F) :=
  cmpi .sge (val_main_v4 (F := F) x3) (val_main_v7 (F := F))
def val_main_c_2 : (⟨S_, .i32⟩ : BufTy).Contents (Elt F) :=
  constantI S_ 32 16#32
def val_main_v9 : (⟨S2560x5120, .i32⟩ : BufTy).Contents (Elt F) :=
  broadcastInDim S2560x5120 ![] bcast_S_S2560x5120 (val_main_c_2 (F := F))
def val_main_v10 (x3 : (⟨S2560x15360, .i8⟩ : BufTy).Contents (Elt F)) : (⟨S2560x5120, .i32⟩ : BufTy).Contents (Elt F) :=
  subi (val_main_v4 (F := F) x3) (val_main_v9 (F := F))
def val_main_v11 (x3 : (⟨S2560x15360, .i8⟩ : BufTy).Contents (Elt F)) : (⟨S2560x5120, .i32⟩ : BufTy).Contents (Elt F) :=
  select (val_main_v8 (F := F) x3) (val_main_v10 (F := F) x3) (val_main_v4 (F := F) x3)
def val_main_c_3 : (⟨S_, .i32⟩ : BufTy).Contents (Elt F) :=
  constantI S_ 32 8#32
def val_main_v12 : (⟨S2560x5120, .i32⟩ : BufTy).Contents (Elt F) :=
  broadcastInDim S2560x5120 ![] bcast_S_S2560x5120 (val_main_c_3 (F := F))
def val_main_v13 (x3 : (⟨S2560x15360, .i8⟩ : BufTy).Contents (Elt F)) : (⟨S2560x5120, .i1⟩ : BufTy).Contents (Elt F) :=
  cmpi .sge (val_main_v6 (F := F) x3) (val_main_v12 (F := F))
def val_main_c_4 : (⟨S_, .i32⟩ : BufTy).Contents (Elt F) :=
  constantI S_ 32 16#32
def val_main_v14 : (⟨S2560x5120, .i32⟩ : BufTy).Contents (Elt F) :=
  broadcastInDim S2560x5120 ![] bcast_S_S2560x5120 (val_main_c_4 (F := F))
def val_main_v15 (x3 : (⟨S2560x15360, .i8⟩ : BufTy).Contents (Elt F)) : (⟨S2560x5120, .i32⟩ : BufTy).Contents (Elt F) :=
  subi (val_main_v6 (F := F) x3) (val_main_v14 (F := F))
def val_main_v16 (x3 : (⟨S2560x15360, .i8⟩ : BufTy).Contents (Elt F)) : (⟨S2560x5120, .i32⟩ : BufTy).Contents (Elt F) :=
  select (val_main_v13 (F := F) x3) (val_main_v15 (F := F) x3) (val_main_v6 (F := F) x3)
def val_main_v17 (x3 : (⟨S2560x15360, .i8⟩ : BufTy).Contents (Elt F)) : (⟨S2560x5120, .bf16⟩ : BufTy).Contents (Elt F) :=
  sitofp .bf16 (val_main_v11 (F := F) x3)
def val_main_v18 (x3 : (⟨S2560x15360, .i8⟩ : BufTy).Contents (Elt F)) : (⟨S2560x5120, .bf16⟩ : BufTy).Contents (Elt F) :=
  sitofp .bf16 (val_main_v16 (F := F) x3)
def val_main_v19 (x4 : (⟨S40x15360, .f32⟩ : BufTy).Contents (Elt F)) : (⟨S20x5120, .f32⟩ : BufTy).Contents (Elt F) :=
  extractStridedSlice S20x5120 ![0, 0] (val_main_v1 (F := F) x4) slices_S40x5120_S20x5120_0_0
def val_main_v20 (x3 : (⟨S2560x15360, .i8⟩ : BufTy).Contents (Elt F)) : (⟨S20x128x5120, .bf16⟩ : BufTy).Contents (Elt F) :=
  shapeCast _ (val_main_v17 (F := F) x3) shapeCasts_S2560x5120_S20x128x5120
def val_main_v21 (x4 : (⟨S40x15360, .f32⟩ : BufTy).Contents (Elt F)) : (⟨S20x5120, .bf16⟩ : BufTy).Contents (Elt F) :=
  truncf .bf16 (val_main_v19 (F := F) x4) bitsLt_bf16_f32
def val_main_v22 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v21 (F := F) x4)
def val_main_v23 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v22 (F := F) x4)
def val_main_v24 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v20 (F := F) x3) (val_main_v23 (F := F) x4)
def val_main_v25 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v24 (F := F) x3 x4) shapeCasts_S20x128x5120_S2560x5120
def val_main_v26 (x4 : (⟨S40x15360, .f32⟩ : BufTy).Contents (Elt F)) : (⟨S20x5120, .f32⟩ : BufTy).Contents (Elt F) :=
  extractStridedSlice S20x5120 ![20, 0] (val_main_v1 (F := F) x4) slices_S40x5120_S20x5120_20_0
def val_main_v27 (x3 : (⟨S2560x15360, .i8⟩ : BufTy).Contents (Elt F)) : (⟨S20x128x5120, .bf16⟩ : BufTy).Contents (Elt F) :=
  shapeCast _ (val_main_v18 (F := F) x3) shapeCasts_S2560x5120_S20x128x5120
def val_main_v28 (x4 : (⟨S40x15360, .f32⟩ : BufTy).Contents (Elt F)) : (⟨S20x5120, .bf16⟩ : BufTy).Contents (Elt F) :=
  truncf .bf16 (val_main_v26 (F := F) x4) bitsLt_bf16_f32
def val_main_v29 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v28 (F := F) x4)
def val_main_v30 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v29 (F := F) x4)
def val_main_v31 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v27 (F := F) x3) (val_main_v30 (F := F) x4)
def val_main_v32 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v31 (F := F) x3 x4) shapeCasts_S20x128x5120_S2560x5120
def val_main_v33 (x0 : (⟨S1536x5120, .bf16⟩ : BufTy).Contents (Elt F)) : (⟨S1536x2560, .bf16⟩ : BufTy).Contents (Elt F) :=
  extractStridedSlice S1536x2560 ![0, 0] x0 slices_S1536x5120_S1536x2560_0_0
def val_main_v34 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v33 (F := F) x0) (val_main_v25 (F := F) x3 x4)
def val_main_v35 (x0 : (⟨S1536x5120, .bf16⟩ : BufTy).Contents (Elt F)) : (⟨S1536x2560, .bf16⟩ : BufTy).Contents (Elt F) :=
  extractStridedSlice S1536x2560 ![0, 2560] x0 slices_S1536x5120_S1536x2560_0_2560
def val_main_v36 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v35 (F := F) x0) (val_main_v32 (F := F) x3 x4)
def val_main_v37 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  addf (val_main_v34 (F := F) x0 x3 x4) (val_main_v36 (F := F) x0 x3 x4)
def val_main_v38 (x2 : (⟨S1536x384, .bf16⟩ : BufTy).Contents (Elt F)) : (⟨S1536x128, .bf16⟩ : BufTy).Contents (Elt F) :=
  extractStridedSlice S1536x128 ![0, 128] x2 slices_S1536x384_S1536x128_0_128
def val_main_v39 (x5 : (⟨S2x3x128x5120, .bf16⟩ : BufTy).Contents (Elt F)) : (⟨S1x1x128x5120, .bf16⟩ : BufTy).Contents (Elt F) :=
  extractStridedSlice S1x1x128x5120 ![0, 1, 0, 0] x5 slices_S2x3x128x5120_S1x1x128x5120_0_1_0_0
def val_main_v40 (x5 : (⟨S2x3x128x5120, .bf16⟩ : BufTy).Contents (Elt F)) : (⟨S128x5120, .bf16⟩ : BufTy).Contents (Elt F) :=
  shapeCast _ (val_main_v39 (F := F) x5) shapeCasts_S1x1x128x5120_S128x5120
def val_main_v41 (x2 : (⟨S1536x384, .bf16⟩ : BufTy).Contents (Elt F)) (x5 : (⟨S2x3x128x5120, .bf16⟩ : BufTy).Contents (Elt F)) : (⟨S1536x5120, .f32⟩ : BufTy).Contents (Elt F) :=
  Host.dotGeneral dot_S1536x128_S128x5120_S1536x5120_1_0_0_1_n_n none (val_main_v38 (F := F) x2) (val_main_v40 (F := F) x5)
def val_main_v42 (x1 : (⟨S1536x128, .f32⟩ : BufTy).Contents (Elt F)) : (⟨S1536x1, .f32⟩ : BufTy).Contents (Elt F) :=
  extractStridedSlice S1536x1 ![0, 0] x1 slices_S1536x128_S1536x1_0_0
def val_main_v43 (x1 : (⟨S1536x128, .f32⟩ : BufTy).Contents (Elt F)) : (⟨S1536x5120, .f32⟩ : BufTy).Contents (Elt F) :=
  broadcastInDim S1536x5120 ![0, 1] bcast_S1536x1_S1536x5120_0_1 (val_main_v42 (F := F) x1)
def val_main_v44 (x0 : (⟨S1536x5120, .bf16⟩ : BufTy).Contents (Elt F)) (x1 : (⟨S1536x128, .f32⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  mulf (val_main_v37 (F := F) x0 x3 x4) (val_main_v43 (F := F) x1)
def val_main_v45 (x0 : (⟨S1536x5120, .bf16⟩ : BufTy).Contents (Elt F)) (x1 : (⟨S1536x128, .f32⟩ : BufTy).Contents (Elt F)) (x2 : (⟨S1536x384, .bf16⟩ : BufTy).Contents (Elt F)) (x3 : (⟨S2560x15360, .i8⟩ : BufTy).Contents (Elt F)) (x4 : (⟨S40x15360, .f32⟩ : BufTy).Contents (Elt F)) (x5 : (⟨S2x3x128x5120, .bf16⟩ : BufTy).Contents (Elt F)) : (⟨S1536x5120, .f32⟩ : BufTy).Contents (Elt F) :=
  addf (val_main_v44 (F := F) x0 x1 x3 x4) (val_main_v41 (F := F) x2 x5)

/-- The host's operations, in order: up to the projected rows, and from there on. -/
abbrev ops : List (HloOp τ sig (Elt F)) := List.flatten [hostOps0, hostOps0_1, hostOps0_2, hostOps0_3, hostOps0_4, hostOps0_5, hostOps0_6, hostOps0_7, hostOps0_8]
abbrev opsA : List (HloOp τ sig (Elt F)) := (ops (F := F)).take 52
abbrev opsB : List (HloOp τ sig (Elt F)) := (ops (F := F)).drop 52

end Stages

variable (W : Valuation τ sig (Elt Ideal))

theorem A_z : StableHlo.after (opsA (F := Ideal)) W (Proc.devRef .tc main_v45) = val_main_v45 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_6 : StableHlo.after (opsA (F := Ideal)) W (Proc.devRef .tc main_arg6) = (W (Proc.devRef .tc main_arg6)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_7 : StableHlo.after (opsA (F := Ideal)) W (Proc.devRef .tc main_arg7) = (W (Proc.devRef .tc main_arg7)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

theorem B_codes : StableHlo.after (opsB (F := Ideal)) W (Proc.devRef .tc main_v76) = codes (rotated (W (Proc.devRef .tc main_v45)) (W (Proc.devRef .tc main_arg6)) (W (Proc.devRef .tc main_arg7))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem B_scales : StableHlo.after (opsB (F := Ideal)) W (Proc.devRef .tc main_v78) = scales (rotated (W (Proc.devRef .tc main_v45)) (W (Proc.devRef .tc main_arg6)) (W (Proc.devRef .tc main_arg7))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

variable (m : (ℓ : Loc nD τ sig) → Buf (Elt Ideal) ℓ) (c : Dev nD)

theorem V_split (b : Ref sig .tc) : V m c b = StableHlo.after (opsB (F := Ideal)) (StableHlo.after (opsA (F := Ideal)) (fun b => m (c, b))) (Proc.devRef .tc b) := by
  show StableHlo.after (ops (F := Ideal)) _ _ = _
  conv_lhs => rw [← List.take_append_drop 52 (ops (F := Ideal))]
  rw [StableHlo.after_append]

end Cert.KRefIdeal.Math
-- ==== Proof.KRef.lean ====
/-
  THE KEY REFERENCE'S RESULTS are `kCodes` and `kScales` of the arguments.
-/
module

public import proofs.«01_k».proof.Proof.KRefRun

@[expose] public section

set_option maxRecDepth 16384

noncomputable section

open Idealize.ShloMosaic Idealize.ShloMosaic.TcCoe Idealize.SL.Sem

namespace Cert.KRefIdeal.Math
open Cert.KRefIdeal Cert.KRefIdeal.Gen Cert.Weights Cert.QkvMath Cert.KvMath Cert.KvRefMath

section Rows
variable (x : FVec Ideal S1536x5120 .bf16) (cs : FVec Ideal S1536x128 .f32) (t : FVec Ideal S1536x384 .bf16)
  (w : IVec S2560x15360 8) (s : FVec Ideal S40x15360 .f32) (lb : FVec Ideal S2x3x128x5120 .bf16) (C N : FVec Ideal S4x80x384 .f32)

theorem lo_at (k : Fin 2560) (c : Fin 5120) :
    val_main_v25 (F := Ideal) w s (ix2 k c) = wLo (w (ix2 k ⟨1 * 5120 + c.val, by omega⟩)) * s (ix2 ⟨k.val / 128, by omega⟩ ⟨1 * 5120 + c.val, by omega⟩) := by
  pointwise [val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_v0, val_main_v17, val_main_c, val_main_c_1, val_main_c_2]
  rfl

theorem hi_at (k : Fin 2560) (c : Fin 5120) :
    val_main_v32 (F := Ideal) w s (ix2 k c) = wHi (w (ix2 k ⟨1 * 5120 + c.val, by omega⟩)) * s (ix2 ⟨20 + k.val / 128, by omega⟩ ⟨1 * 5120 + c.val, by omega⟩) := by
  pointwise [val_main_v32, val_main_v31, val_main_v30, val_main_v29, val_main_v28, val_main_v27, val_main_v26, val_main_v16, val_main_v15, val_main_v14, val_main_v13, val_main_v12, val_main_v18, val_main_v6, val_main_v5, val_main_v2, val_main_v1, val_main_v0, val_main_c_0, val_main_c_3, val_main_c_4]
  rfl

theorem z_at (i : Fin 1536) (c : Fin 5120) : val_main_v45 (F := Ideal) x cs t w s lb (ix2 i c) = Z x cs t w s lb 1 0 i c := by
  pointwise [val_main_v45, val_main_v44, val_main_v43, val_main_v42, val_main_v41, val_main_v40, val_main_v39, val_main_v38, val_main_v37, val_main_v36, val_main_v35, val_main_v34, val_main_v33]
  have hc := c.isLt
  refine Z_halves x cs t w s lb 1 0 i c ⟨1 * 5120 + c.val, by omega⟩ rfl _ _ _ (fun k => ⟨k.val / 128, by omega⟩) (fun k => ⟨20 + k.val / 128, by omega⟩)
    (fun k => ⟨k.val, by omega⟩) (fun k => ⟨2560 + k.val, by omega⟩) (fun _ => rfl) (fun _ => rfl) (fun _ => rfl) (fun _ => rfl)
    (fun k => congrArg (_ * ·) (lo_at w s k c)) (fun k => congrArg (_ * ·) (hi_at w s k c)) fun k => ?_
  refine congrArg (fun j => t (ix2 i j) * _) (Fin.ext ?_)
  first | rfl | (show k.val = 1 * 128 + k.val; omega)

/-- The numbers that are quantised. -/
theorem num_at (b : Fin 4) (p : Fin 384) (h : Fin 32) (d : Fin 160) :
    rotated (val_main_v45 (F := Ideal) x cs t w s lb) C N (ix4 b p h d) = kNum x cs t w s lb C N 0 b (160 * h.val + d.val) p := by
  refine (rotated_at _ C N b p h d).trans ?_
  unfold kRow kNum
  rw [show (fun c => val_main_v45 (F := Ideal) x cs t w s lb (ix2 (pos b p) c)) = Z x cs t w s lb 1 0 (pos b p) from funext fun c => z_at x cs t w s lb (pos b p) c]

end Rows

variable (m : (ℓ : Loc nD τ sig) → Buf (Elt Ideal) ℓ) (c : Dev nD)

/-- The host array the region casts to codes, -/
theorem V_codes : V m c main_v76 = kCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  rw [V_split, B_codes, A_z, A_6, A_7]
  exact codes_eq _ _ fun b p h d => num_at _ _ _ _ _ _ _ _ b p h d

/-- and the scales. -/
theorem V_scales : V m c main_v78 = kScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  rw [V_split, B_scales, A_z, A_6, A_7]
  exact scales_eq _ _ fun b p h d => num_at _ _ _ _ _ _ _ _ b p h d

theorem idx : ∀ t : Fin cfg0.N, win0_0.index t = ![0, 0, 0] ∧ win0_1.index t = ![0, 0, 0] :=
  (by decide +kernel : ∀ t : Fin grid0.N, _)

/-- The region's one block is the whole array: what the body casts is read, and written, where it stands. -/
theorem emb0 (t : Fin cfg0.N) (b : Fin 4) (d : Fin 5120) (s : Fin 384) : (win0_0.blk t).view.emb (ix3 b d s) = ix3 b d s := by blk_ext [idx t]
theorem emb1 (t : Fin cfg0.N) (y : S4x5120x384.Idx) : (win0_1.blk t).view.emb y = ix3 (y 0) (y 1) (y 2) := by blk_ext [idx t]

theorem read_at (A : Buf (Elt Ideal) ((c : Thread nD τ).loc main_v76)) (t : Fin cfg0.N) (b : Fin 4) (d : Fin 5120) (s : Fin 384) :
    ((cfg0.win 0).blk t).view.read (Elt Ideal) A (ix3 b d s) = A (ix3 b d s) := by
  rw [View.read_apply]
  exact congrArg A (emb0 t b d s)

theorem out_at (A : Buf (Elt Ideal) ((c : Thread nD τ).loc main_v76)) (t : Fin cfg0.N) (y : S4x5120x384.Idx) :
    out0_1 (((cfg0.win 0).blk t).view.read (Elt Ideal) A) y = A ((win0_1.blk t).view.emb y) := by
  refine (Cert.KRefIdeal.Value.canon1_eq _ y).trans ?_
  have e0 : r0_0.idx (Cert.KRefIdeal.Value.ix1_0 y) = ix3 (y 0) (y 1) (y 2) := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine Eq.trans (b := ((cfg0.win 0).blk t).view.read (Elt Ideal) A (r0_0.idx (Cert.KRefIdeal.Value.ix1_0 y))) rfl ?_
  exact (congrArg (((cfg0.win 0).blk t).view.read (Elt Ideal) A) e0).trans ((read_at c A t (y 0) (y 1) (y 2)).trans (congrArg A (emb1 t y).symm))

theorem iblk_eq (t : Fin cfg0.N) : iblk m c 0 t = ((cfg0.win 0).blk t).view.read (Elt Ideal) (V m c main_v76) := by
  unfold iblk
  rfl

/-- The region's result is that array. -/
theorem final1 : (dats m 0 c).arrAt 1 cfg0.N = kCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 := by
  rw [← V_codes]
  refine (dats m 0 c).arrAt_eq_of_covers 1 _ (by decide +kernel) fun t hf y => ?_
  blk_simp
  rw [after0_1, iblk_eq]
  exact out_at c (V m c main_v76) t y

end Cert.KRefIdeal.Math
-- ==== Proof.KClaim.lean ====
/-
  THE CLAIM OF THE KEY STAGE: at the ideal instance the kernel and the reference end with the same two arrays, the codes
  `kCodes` and the scales `kScales` of the arguments.
-/
module

public import proofs.«01_k».proof.Defs
public import proofs.«01_k».proof.Proof.KVal
public import proofs.«01_k».proof.Proof.KRef

@[expose] public section

set_option maxRecDepth 16384

noncomputable section

open Idealize.ShloMosaic Idealize.ShloMosaic.TcCoe Idealize.SL.Sem

namespace Cert.K.Claims
open Cert.KvMath

/-- The reference terminates and keeps its arguments. -/
theorem ref_frame : Cert.quiescent_KRefIdeal (hKRefIdeal := Cert.KRefIdeal.Gen.facts) := fun m ρ _ => Cert.KRefIdeal.Gen.frame m ρ

/-- What the reference's run leaves in its two results and its arguments. -/
theorem ref_run (m' : (ℓ : Loc Cert.KRefIdeal.nD Cert.KRefIdeal.τ Cert.KRefIdeal.sig) → Buf (Elt Ideal) ℓ) (ρ' : Dev Cert.KRefIdeal.nD → PrngReg) :
    θ_run (Cert.KRefIdeal.defs (F := Ideal)) (onTc (τ := Cert.KRefIdeal.τ) (Cert.KRefIdeal.main (F := Ideal))) ⟨m', fun _ => 0, ρ'⟩ (fun r => ∀ c : Dev Cert.KRefIdeal.nD,
      r.2.mem ((c.tc : Thread Cert.KRefIdeal.nD Cert.KRefIdeal.τ).loc Cert.KRefIdeal.main_v79) = kCodes (m' ((c.tc : Thread Cert.KRefIdeal.nD Cert.KRefIdeal.τ).loc Cert.KRefIdeal.main_arg0)) (m' ((c.tc : Thread Cert.KRefIdeal.nD Cert.KRefIdeal.τ).loc Cert.KRefIdeal.main_arg1)) (m' ((c.tc : Thread Cert.KRefIdeal.nD Cert.KRefIdeal.τ).loc Cert.KRefIdeal.main_arg2)) (m' ((c.tc : Thread Cert.KRefIdeal.nD Cert.KRefIdeal.τ).loc Cert.KRefIdeal.main_arg3)) (m' ((c.tc : Thread Cert.KRefIdeal.nD Cert.KRefIdeal.τ).loc Cert.KRefIdeal.main_arg4)) (m' ((c.tc : Thread Cert.KRefIdeal.nD Cert.KRefIdeal.τ).loc Cert.KRefIdeal.main_arg5)) (m' ((c.tc : Thread Cert.KRefIdeal.nD Cert.KRefIdeal.τ).loc Cert.KRefIdeal.main_arg6)) (m' ((c.tc : Thread Cert.KRefIdeal.nD Cert.KRefIdeal.τ).loc Cert.KRefIdeal.main_arg7)) 0
      ∧ r.2.mem ((c.tc : Thread Cert.KRefIdeal.nD Cert.KRefIdeal.τ).loc Cert.KRefIdeal.main_v78) = kScales (m' ((c.tc : Thread Cert.KRefIdeal.nD Cert.KRefIdeal.τ).loc Cert.KRefIdeal.main_arg0)) (m' ((c.tc : Thread Cert.KRefIdeal.nD Cert.KRefIdeal.τ).loc Cert.KRefIdeal.main_arg1)) (m' ((c.tc : Thread Cert.KRefIdeal.nD Cert.KRefIdeal.τ).loc Cert.KRefIdeal.main_arg2)) (m' ((c.tc : Thread Cert.KRefIdeal.nD Cert.KRefIdeal.τ).loc Cert.KRefIdeal.main_arg3)) (m' ((c.tc : Thread Cert.KRefIdeal.nD Cert.KRefIdeal.τ).loc Cert.KRefIdeal.main_arg4)) (m' ((c.tc : Thread Cert.KRefIdeal.nD Cert.KRefIdeal.τ).loc Cert.KRefIdeal.main_arg5)) (m' ((c.tc : Thread Cert.KRefIdeal.nD Cert.KRefIdeal.τ).loc Cert.KRefIdeal.main_arg6)) (m' ((c.tc : Thread Cert.KRefIdeal.nD Cert.KRefIdeal.τ).loc Cert.KRefIdeal.main_arg7)) 0
      ∧ r.2.mem ((c.tc : Thread Cert.KRefIdeal.nD Cert.KRefIdeal.τ).loc Cert.KRefIdeal.main_arg0) = m' ((c.tc : Thread Cert.KRefIdeal.nD Cert.KRefIdeal.τ).loc Cert.KRefIdeal.main_arg0)
      ∧ r.2.mem ((c.tc : Thread Cert.KRefIdeal.nD Cert.KRefIdeal.τ).loc Cert.KRefIdeal.main_arg1) = m' ((c.tc : Thread Cert.KRefIdeal.nD Cert.KRefIdeal.τ).loc Cert.KRefIdeal.main_arg1)
      ∧ r.2.mem ((c.tc : Thread Cert.KRefIdeal.nD Cert.KRefIdeal.τ).loc Cert.KRefIdeal.main_arg2) = m' ((c.tc : Thread Cert.KRefIdeal.nD Cert.KRefIdeal.τ).loc Cert.KRefIdeal.main_arg2)
      ∧ r.2.mem ((c.tc : Thread Cert.KRefIdeal.nD Cert.KRefIdeal.τ).loc Cert.KRefIdeal.main_arg3) = m' ((c.tc : Thread Cert.KRefIdeal.nD Cert.KRefIdeal.τ).loc Cert.KRefIdeal.main_arg3)
      ∧ r.2.mem ((c.tc : Thread Cert.KRefIdeal.nD Cert.KRefIdeal.τ).loc Cert.KRefIdeal.main_arg4) = m' ((c.tc : Thread Cert.KRefIdeal.nD Cert.KRefIdeal.τ).loc Cert.KRefIdeal.main_arg4)
      ∧ r.2.mem ((c.tc : Thread Cert.KRefIdeal.nD Cert.KRefIdeal.τ).loc Cert.KRefIdeal.main_arg5) = m' ((c.tc : Thread Cert.KRefIdeal.nD Cert.KRefIdeal.τ).loc Cert.KRefIdeal.main_arg5)
      ∧ r.2.mem ((c.tc : Thread Cert.KRefIdeal.nD Cert.KRefIdeal.τ).loc Cert.KRefIdeal.main_arg6) = m' ((c.tc : Thread Cert.KRefIdeal.nD Cert.KRefIdeal.τ).loc Cert.KRefIdeal.main_arg6)
      ∧ r.2.mem ((c.tc : Thread Cert.KRefIdeal.nD Cert.KRefIdeal.τ).loc Cert.KRefIdeal.main_arg7) = m' ((c.tc : Thread Cert.KRefIdeal.nD Cert.KRefIdeal.τ).loc Cert.KRefIdeal.main_arg7)) :=
  (θ_run Cert.KRefIdeal.defs _ _).mono (fun r h c =>
    ⟨(Cert.KRefIdeal.Value.post1 m' r h c).trans (Cert.KRefIdeal.Math.final1 m' c),
     ((h c).2 Cert.KRefIdeal.main_v78 (Pipeline.mem_restRefs_of Cert.KRefIdeal.main_v78 (by decide) (by decide))).trans (Cert.KRefIdeal.Math.V_scales m' c),
     Cert.KRefIdeal.Value.kept_main_arg0 m' r h c, Cert.KRefIdeal.Value.kept_main_arg1 m' r h c, Cert.KRefIdeal.Value.kept_main_arg2 m' r h c, Cert.KRefIdeal.Value.kept_main_arg3 m' r h c, Cert.KRefIdeal.Value.kept_main_arg4 m' r h c, Cert.KRefIdeal.Value.kept_main_arg5 m' r h c, Cert.KRefIdeal.Value.kept_main_arg6 m' r h c, Cert.KRefIdeal.Value.kept_main_arg7 m' r h c⟩) (Cert.KRefIdeal.Gen.run_main m' ρ')

theorem algebraic : Cert.algebraic_KIdeal_KRefIdeal (hKIdeal := Cert.KIdeal.Gen.facts) (hKRefIdeal := Cert.KRefIdeal.Gen.facts) := by
  intro m ρ m' ρ' _ hag
  refine ⟨fun c => kCodes (m ((c.tc : Thread Cert.KIdeal.nD Cert.KIdeal.τ).loc Cert.KIdeal.main_arg0)) (m ((c.tc : Thread Cert.KIdeal.nD Cert.KIdeal.τ).loc Cert.KIdeal.main_arg1)) (m ((c.tc : Thread Cert.KIdeal.nD Cert.KIdeal.τ).loc Cert.KIdeal.main_arg2)) (m ((c.tc : Thread Cert.KIdeal.nD Cert.KIdeal.τ).loc Cert.KIdeal.main_arg3)) (m ((c.tc : Thread Cert.KIdeal.nD Cert.KIdeal.τ).loc Cert.KIdeal.main_arg4)) (m ((c.tc : Thread Cert.KIdeal.nD Cert.KIdeal.τ).loc Cert.KIdeal.main_arg5)) (m ((c.tc : Thread Cert.KIdeal.nD Cert.KIdeal.τ).loc Cert.KIdeal.main_arg6)) (m ((c.tc : Thread Cert.KIdeal.nD Cert.KIdeal.τ).loc Cert.KIdeal.main_arg7)) 0, fun c => kScales (m ((c.tc : Thread Cert.KIdeal.nD Cert.KIdeal.τ).loc Cert.KIdeal.main_arg0)) (m ((c.tc : Thread Cert.KIdeal.nD Cert.KIdeal.τ).loc Cert.KIdeal.main_arg1)) (m ((c.tc : Thread Cert.KIdeal.nD Cert.KIdeal.τ).loc Cert.KIdeal.main_arg2)) (m ((c.tc : Thread Cert.KIdeal.nD Cert.KIdeal.τ).loc Cert.KIdeal.main_arg3)) (m ((c.tc : Thread Cert.KIdeal.nD Cert.KIdeal.τ).loc Cert.KIdeal.main_arg4)) (m ((c.tc : Thread Cert.KIdeal.nD Cert.KIdeal.τ).loc Cert.KIdeal.main_arg5)) (m ((c.tc : Thread Cert.KIdeal.nD Cert.KIdeal.τ).loc Cert.KIdeal.main_arg6)) (m ((c.tc : Thread Cert.KIdeal.nD Cert.KIdeal.τ).loc Cert.KIdeal.main_arg7)) 0, ?_, ?_⟩
  · exact (θ_run Cert.KIdeal.defs _ _).mono
      (fun _ h c => ⟨(h c).1.trans (Cert.KIdeal.Block.final8 m c), (h c).2.1.trans (Cert.KIdeal.Block.final9 m c), (h c).2.2⟩) (Cert.KIdeal.Value.run_blocks m ρ)
  · refine (θ_run Cert.KRefIdeal.defs _ _).mono
      (fun _ h c => ⟨(h c).1.trans ?_, (h c).2.1.trans ?_, (h c).2.2⟩) (ref_run m' ρ')
    · rw [(hag c).1, (hag c).2.1, (hag c).2.2.1, (hag c).2.2.2.1, (hag c).2.2.2.2.1, (hag c).2.2.2.2.2.1, (hag c).2.2.2.2.2.2.1, (hag c).2.2.2.2.2.2.2]
    · rw [(hag c).1, (hag c).2.1, (hag c).2.2.1, (hag c).2.2.2.1, (hag c).2.2.2.2.1, (hag c).2.2.2.2.2.1, (hag c).2.2.2.2.2.2.1, (hag c).2.2.2.2.2.2.2]

end Cert.K.Claims
-- ==== Proof.KBBlock.lean ====
/-
  ONE GRID POINT of the key stage. A point holds 1280 columns (8 heads). It dequantises 256 columns at a time and multiplies,
  which fills the block `zBlk` of projections; then a loop over the four batches rotates and quantises each head.
-/
module

public import proofs.«01_k».proof.Proof.KvBlock
public import proofs.«01_k».proof.Proof.Gen.KBIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KBIdeal.Block
open Cert.KBIdeal Cert.KBIdeal.Gen Cert.Weights Cert.QkvMath Cert.KvMath

section Payloads
variable (C S : FVec Ideal S1x80x384 .f32) (Z : FVec Ideal S384x1280 .f32)

/-- The numbers a trip works on: the rotated columns of its rows. -/
def trow : ℕ → Fin 384 → EReal := rotRow (k0_pay6 (F := Ideal) Z) (k0_pay4 (F := Ideal) C) (k0_pay5 (F := Ideal) S)

theorem code0_at (d : Fin 160) (s : Fin 384) : k0_pay40 (F := Ideal) (k0_pay9 (F := Ideal) C S Z) (k0_pay10 (F := Ideal) C S Z) (ix3 (0 : Fin 1) d s)
    = qcode (trow C S Z (160 * 0 + d.val) s) (hs (trow C S Z) 0) :=
  codeT_at _ _ (trow C S Z) 0 (fun d s => first_half _ _ _ 0 80 (by decide) (by decide) d s (by rfl) (by rfl) (by decide))
    (fun d s => second_half _ _ _ 80 0 (by decide) (by decide) d s (by rfl) (by rfl) (by decide)) d s

theorem code1_at (d : Fin 160) (s : Fin 384) : k0_pay43 (F := Ideal) (k0_pay13 (F := Ideal) C S Z) (k0_pay14 (F := Ideal) C S Z) (ix3 (0 : Fin 1) d s)
    = qcode (trow C S Z (160 * 1 + d.val) s) (hs (trow C S Z) 1) :=
  codeT_at _ _ (trow C S Z) 1 (fun d s => first_half _ _ _ 160 240 (by decide) (by decide) d s (by rfl) (by rfl) (by decide))
    (fun d s => second_half _ _ _ 240 160 (by decide) (by decide) d s (by rfl) (by rfl) (by decide)) d s

theorem code2_at (d : Fin 160) (s : Fin 384) : k0_pay49 (F := Ideal) (k0_pay17 (F := Ideal) C S Z) (k0_pay18 (F := Ideal) C S Z) (k0_pay46 (F := Ideal) (k0_pay17 (F := Ideal) C S Z) (k0_pay18 (F := Ideal) C S Z)) (k0_pay47 (F := Ideal) (k0_pay17 (F := Ideal) C S Z) (k0_pay18 (F := Ideal) C S Z)) (ix3 (0 : Fin 1) d s)
    = qcode (trow C S Z (160 * 2 + d.val) s) (hs (trow C S Z) 2) :=
  codeT_at _ _ (trow C S Z) 2 (fun d s => first_half _ _ _ 320 400 (by decide) (by decide) d s (by rfl) (by rfl) (by decide))
    (fun d s => second_half _ _ _ 400 320 (by decide) (by decide) d s (by rfl) (by rfl) (by decide)) d s

theorem code3_at (d : Fin 160) (s : Fin 384) : k0_pay52 (F := Ideal) (k0_pay21 (F := Ideal) C S Z) (k0_pay22 (F := Ideal) C S Z) (ix3 (0 : Fin 1) d s)
    = qcode (trow C S Z (160 * 3 + d.val) s) (hs (trow C S Z) 3) :=
  codeT_at _ _ (trow C S Z) 3 (fun d s => first_half _ _ _ 480 560 (by decide) (by decide) d s (by rfl) (by rfl) (by decide))
    (fun d s => second_half _ _ _ 560 480 (by decide) (by decide) d s (by rfl) (by rfl) (by decide)) d s

theorem code4_at (d : Fin 160) (s : Fin 384) : k0_pay55 (F := Ideal) (k0_pay25 (F := Ideal) C S Z) (k0_pay26 (F := Ideal) C S Z) (ix3 (0 : Fin 1) d s)
    = qcode (trow C S Z (160 * 4 + d.val) s) (hs (trow C S Z) 4) :=
  codeT_at _ _ (trow C S Z) 4 (fun d s => first_half _ _ _ 640 720 (by decide) (by decide) d s (by rfl) (by rfl) (by decide))
    (fun d s => second_half _ _ _ 720 640 (by decide) (by decide) d s (by rfl) (by rfl) (by decide)) d s

theorem code5_at (d : Fin 160) (s : Fin 384) : k0_pay61 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z)) (k0_pay58 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z))) (k0_pay59 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z))) (ix3 (0 : Fin 1) d s)
    = qcode (trow C S Z (160 * 5 + d.val) s) (hs (trow C S Z) 5) :=
  codeT_at _ _ (trow C S Z) 5 (fun d s => first_half _ _ _ 800 880 (by decide) (by decide) d s (by rfl) (by rfl) (by decide))
    (fun d s => second_half _ _ _ 880 800 (by decide) (by decide) d s (by rfl) (by rfl) (by decide)) d s

theorem code6_at (d : Fin 160) (s : Fin 384) : k0_pay64 (F := Ideal) (k0_pay33 (F := Ideal) (k0_pay4 (F := Ideal) C) (k0_pay5 (F := Ideal) S) (k0_pay6 (F := Ideal) Z)) (k0_pay34 (F := Ideal) (k0_pay4 (F := Ideal) C) (k0_pay5 (F := Ideal) S) (k0_pay6 (F := Ideal) Z)) (ix3 (0 : Fin 1) d s)
    = qcode (trow C S Z (160 * 6 + d.val) s) (hs (trow C S Z) 6) :=
  codeT_at _ _ (trow C S Z) 6 (fun d s => first_half _ _ _ 960 1040 (by decide) (by decide) d s (by rfl) (by rfl) (by decide))
    (fun d s => second_half _ _ _ 1040 960 (by decide) (by decide) d s (by rfl) (by rfl) (by decide)) d s

theorem code7_at (d : Fin 160) (s : Fin 384) : k0_pay2 (F := Ideal) (k0_pay37 (F := Ideal) (k0_pay4 (F := Ideal) C) (k0_pay5 (F := Ideal) S) (k0_pay6 (F := Ideal) Z)) (k0_pay38 (F := Ideal) (k0_pay4 (F := Ideal) C) (k0_pay5 (F := Ideal) S) (k0_pay6 (F := Ideal) Z)) (ix3 (0 : Fin 1) d s)
    = qcode (trow C S Z (160 * 7 + d.val) s) (hs (trow C S Z) 7) :=
  codeT_at _ _ (trow C S Z) 7 (fun d s => first_half _ _ _ 1120 1200 (by decide) (by decide) d s (by rfl) (by rfl) (by decide))
    (fun d s => second_half _ _ _ 1200 1120 (by decide) (by decide) d s (by rfl) (by rfl) (by decide)) d s

/-- The stack of a trip's eight scales. -/
theorem scale_at (j : Fin 8) (l : Fin 128) : k0_pay3 (F := Ideal) (k0_pay37 (F := Ideal) (k0_pay4 (F := Ideal) C) (k0_pay5 (F := Ideal) S) (k0_pay6 (F := Ideal) Z)) (k0_pay38 (F := Ideal) (k0_pay4 (F := Ideal) C) (k0_pay5 (F := Ideal) S) (k0_pay6 (F := Ideal) Z)) (k0_pay41 (F := Ideal) (k0_pay39 (F := Ideal) (k0_pay9 (F := Ideal) C S Z) (k0_pay10 (F := Ideal) C S Z))) (k0_pay44 (F := Ideal) (k0_pay13 (F := Ideal) C S Z) (k0_pay14 (F := Ideal) C S Z)) (k0_pay50 (F := Ideal) (k0_pay46 (F := Ideal) (k0_pay17 (F := Ideal) C S Z) (k0_pay18 (F := Ideal) C S Z)) (k0_pay47 (F := Ideal) (k0_pay17 (F := Ideal) C S Z) (k0_pay18 (F := Ideal) C S Z))) (k0_pay53 (F := Ideal) (k0_pay51 (F := Ideal) (k0_pay21 (F := Ideal) C S Z) (k0_pay22 (F := Ideal) C S Z))) (k0_pay56 (F := Ideal) (k0_pay25 (F := Ideal) C S Z) (k0_pay26 (F := Ideal) C S Z)) (k0_pay62 (F := Ideal) (k0_pay58 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z))) (k0_pay59 (F := Ideal) (k0_pay29 (F := Ideal) (k0_pay4 (F := Ideal) C) (k0_pay5 (F := Ideal) S) (k0_pay27 (F := Ideal) Z) (k0_pay28 (F := Ideal) Z)) (k0_pay30 (F := Ideal) (k0_pay4 (F := Ideal) C) (k0_pay5 (F := Ideal) S) (k0_pay27 (F := Ideal) Z) (k0_pay28 (F := Ideal) Z)))) (k0_pay63 (F := Ideal) (k0_pay33 (F := Ideal) (k0_pay4 (F := Ideal) C) (k0_pay5 (F := Ideal) S) (k0_pay6 (F := Ideal) Z)) (k0_pay34 (F := Ideal) (k0_pay4 (F := Ideal) C) (k0_pay5 (F := Ideal) S) (k0_pay6 (F := Ideal) Z))) (ix3 (0 : Fin 1) j l) = hs (trow C S Z) j.val := by
  unfold k0_pay3
  refine (flat_at _ _ j l).trans ?_
  refine stack_at (R := 1) (M := 8) (fun c (_ : Fin 128) => hs (trow C S Z) c) _ _ [_, _, _, _, _, _] _ ?_ j l
  exact ⟨fun o l => row_at _ _ (trow C S Z) 0 (fun d s => first_half _ _ _ 0 80 (by decide) (by decide) d s (by rfl) (by rfl) (by decide))
      (fun d s => second_half _ _ _ 80 0 (by decide) (by decide) d s (by rfl) (by rfl) (by decide)) (by decide) (by decide) o l,
    fun o l => row_at _ _ (trow C S Z) 1 (fun d s => first_half _ _ _ 160 240 (by decide) (by decide) d s (by rfl) (by rfl) (by decide))
      (fun d s => second_half _ _ _ 240 160 (by decide) (by decide) d s (by rfl) (by rfl) (by decide)) (by decide) (by decide) o l,
    fun o l => row_at _ _ (trow C S Z) 2 (fun d s => first_half _ _ _ 320 400 (by decide) (by decide) d s (by rfl) (by rfl) (by decide))
      (fun d s => second_half _ _ _ 400 320 (by decide) (by decide) d s (by rfl) (by rfl) (by decide)) (by decide) (by decide) o l,
    fun o l => row_at _ _ (trow C S Z) 3 (fun d s => first_half _ _ _ 480 560 (by decide) (by decide) d s (by rfl) (by rfl) (by decide))
      (fun d s => second_half _ _ _ 560 480 (by decide) (by decide) d s (by rfl) (by rfl) (by decide)) (by decide) (by decide) o l,
    fun o l => row_at _ _ (trow C S Z) 4 (fun d s => first_half _ _ _ 640 720 (by decide) (by decide) d s (by rfl) (by rfl) (by decide))
      (fun d s => second_half _ _ _ 720 640 (by decide) (by decide) d s (by rfl) (by rfl) (by decide)) (by decide) (by decide) o l,
    fun o l => row_at _ _ (trow C S Z) 5 (fun d s => first_half _ _ _ 800 880 (by decide) (by decide) d s (by rfl) (by rfl) (by decide))
      (fun d s => second_half _ _ _ 880 800 (by decide) (by decide) d s (by rfl) (by rfl) (by decide)) (by decide) (by decide) o l,
    fun o l => row_at _ _ (trow C S Z) 6 (fun d s => first_half _ _ _ 960 1040 (by decide) (by decide) d s (by rfl) (by rfl) (by decide))
      (fun d s => second_half _ _ _ 1040 960 (by decide) (by decide) d s (by rfl) (by rfl) (by decide)) (by decide) (by decide) o l,
    fun o l => row_at _ _ (trow C S Z) 7 (fun d s => first_half _ _ _ 1120 1200 (by decide) (by decide) d s (by rfl) (by rfl) (by decide))
      (fun d s => second_half _ _ _ 1200 1120 (by decide) (by decide) d s (by rfl) (by rfl) (by decide)) (by decide) (by decide) o l, trivial⟩

end Payloads

/-- Trip `k` of the loop is batch `k`. -/
theorem trips_eq : k0_t1_loop.trips = 4 := by decide +kernel
theorem off1_eq : ∀ k : Fin k0_t1_loop.trips, k0_off1 k = ![k.val, 0, 0] := by decide +kernel
theorem off2_eq : ∀ k : Fin k0_t1_loop.trips, k0_off2 k = ![384 * k.val, 0] := by decide +kernel
theorem off3_eq : ∀ k : Fin k0_t1_loop.trips, k0_off3 k = ![k.val, 160 * 0, 0] := by decide +kernel
theorem off4_eq : ∀ k : Fin k0_t1_loop.trips, k0_off4 k = ![k.val, 160 * 1, 0] := by decide +kernel
theorem off5_eq : ∀ k : Fin k0_t1_loop.trips, k0_off5 k = ![k.val, 160 * 2, 0] := by decide +kernel
theorem off6_eq : ∀ k : Fin k0_t1_loop.trips, k0_off6 k = ![k.val, 160 * 3, 0] := by decide +kernel
theorem off7_eq : ∀ k : Fin k0_t1_loop.trips, k0_off7 k = ![k.val, 160 * 4, 0] := by decide +kernel
theorem off8_eq : ∀ k : Fin k0_t1_loop.trips, k0_off8 k = ![k.val, 160 * 5, 0] := by decide +kernel
theorem off9_eq : ∀ k : Fin k0_t1_loop.trips, k0_off9 k = ![k.val, 160 * 6, 0] := by decide +kernel
theorem off10_eq : ∀ k : Fin k0_t1_loop.trips, k0_off10 k = ![k.val, 160 * 7, 0] := by decide +kernel
theorem off11_eq : ∀ k : Fin k0_t1_loop.trips, k0_off11 k = ![k.val, 0, 0] := by decide +kernel

section Trip
variable (A : FVec Ideal S1536x1280 .f32) (C N : FVec Ideal S4x80x384 .f32) (k : Fin k0_t1_loop.trips)

theorem tab_at (inb) (d : Fin 80) (s : Fin 384) (b : Fin 4) (h : b.val = k.val) :
    k0_pay4 (F := Ideal) (View.ld (Val := Elt Ideal) (e' := .f32) C (Rect.unit (s := S4x80x384) (k0_off1 k) S1x80x384.size inb)) (ix2 d s) = C (ix3 b d s) := by
  have e : ∀ v : FVec Ideal S1x80x384 .f32, k0_pay4 (F := Ideal) v (ix2 d s) = v (ix3 (0 : Fin 1) d s) := fun v => by pointwise [k0_pay4]
  rw [e]
  refine congrArg C (funext fun a => Fin.ext ?_)
  have o := off1_eq k
  match a with
  | ⟨0, _⟩ => show k0_off1 k 0 + 1 * 0 = b.val; rw [o]; exact h.symm
  | ⟨1, _⟩ => show k0_off1 k 1 + 1 * d.val = d.val; rw [o]; show 0 + 1 * d.val = d.val; omega
  | ⟨2, _⟩ => show k0_off1 k 2 + 1 * s.val = s.val; rw [o]; show 0 + 1 * s.val = s.val; omega

theorem acc_at (inb) (c : Fin 1280) (s : Fin 384) (i : Fin 1536) (h : i.val = 384 * k.val + s.val) :
    k0_pay6 (F := Ideal) (View.ld (Val := Elt Ideal) (e' := .f32) A (Rect.unit (s := S1536x1280) (k0_off2 k) S384x1280.size inb)) (ix2 c s) = A (ix2 i c) := by
  have e : ∀ v : FVec Ideal S384x1280 .f32, k0_pay6 (F := Ideal) v (ix2 c s) = v (ix2 s c) := fun v => by pointwise [k0_pay6]
  rw [e]
  refine congrArg A (funext fun a => Fin.ext ?_)
  have o := off2_eq k
  match a with
  | ⟨0, _⟩ => show k0_off2 k 0 + 1 * s.val = i.val; rw [o]; show 384 * k.val + 1 * s.val = i.val; omega
  | ⟨1, _⟩ => show k0_off2 k 1 + 1 * c.val = c.val; rw [o]; show 0 + 1 * c.val = c.val; omega

/-- The numbers trip `k` works on are the rotated columns of batch `k`. -/
theorem trow_eq (i1 i2 i3) (b : Fin 4) (h : b.val = k.val) :
    trow (View.ld (Val := Elt Ideal) (e' := .f32) C (Rect.unit (s := S4x80x384) (k0_off1 k) S1x80x384.size i1)) (View.ld (Val := Elt Ideal) (e' := .f32) N (Rect.unit (s := S4x80x384) (k0_off1 k) S1x80x384.size i2))
      (View.ld (Val := Elt Ideal) (e' := .f32) A (Rect.unit (s := S1536x1280) (k0_off2 k) S384x1280.size i3)) = kRow A C N b := by
  funext c s
  unfold trow rotRow kRow
  rw [funext fun c => acc_at A k i3 c s (pos b s) (by show 384 * b.val + s.val = _; omega), funext fun d => tab_at C k i1 d s b h]
  exact congrArg (fun f => rot _ _ (ext f) _) (funext fun d => tab_at N k i2 d s b h)

end Trip

section Loop
variable (𝒱 : Variants) (c : Dev nD) (bd : Option 𝒱.V) (i : grid0.Coords) (arg1 : Memref sig .tc .vmem S1536x5120 .bf16) (harg1 : arg1.IsWhole) (arg2 : Memref sig .tc .vmem S1536x128 .f32) (harg2 : arg2.IsWhole) (arg3 : Memref sig .tc .vmem S1536x128 .bf16) (harg3 : arg3.IsWhole) (arg4 : Memref sig .tc .vmem S2560x1280 .i8) (harg4 : arg4.IsWhole) (arg5 : Memref sig .tc .vmem S40x1280 .f32) (harg5 : arg5.IsWhole) (arg6 : Memref sig .tc .vmem S1x1x128x1280 .bf16) (harg6 : arg6.IsWhole) (arg7 : Memref sig .tc .vmem S4x80x384 .f32) (harg7 : arg7.IsWhole) (arg8 : Memref sig .tc .vmem S4x80x384 .f32) (harg8 : arg8.IsWhole) (arg9 : Memref sig .tc .vmem S4x1280x384 .fp8e4m3) (harg9 : arg9.IsWhole) (arg10 : Memref sig .tc .vmem S4x8x128 .f32) (harg10 : arg10.IsWhole) (arg11 : Memref sig .tc .vmem S5120x256 .bf16) (harg11 : arg11.IsWhole) (arg12 : Memref sig .tc .vmem S5120x256 .bf16) (harg12 : arg12.IsWhole) (arg13 : Memref sig .tc .vmem S1536x1280 .f32) (harg13 : arg13.IsWhole) (c0_i32 : BitVec 32) (c1_i32 : BitVec 32) (X_arg7 : BufTy.Contents (Elt Ideal) arg7.view.ty) (X_arg8 : BufTy.Contents (Elt Ideal) arg8.view.ty) (X_arg13 : BufTy.Contents (Elt Ideal) arg13.view.ty)

theorem trip_pieces (k : Fin k0_t1_loop.trips) :
    View.PiecesOf (codesOf (kRow (arg13.view.read (Elt Ideal) X_arg13) (arg7.view.read (Elt Ideal) X_arg7) (arg8.view.read (Elt Ideal) X_arg8))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 k).1
    ∧ View.PiecesOf (scalesOf (kRow (arg13.view.read (Elt Ideal) X_arg13) (arg7.view.read (Elt Ideal) X_arg7) (arg8.view.read (Elt Ideal) X_arg8))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 k).2 := by
  unfold tripL_k0_t1 trip_k0_t1
  frame_out
  refine ⟨⟨fun x => ?_, fun x => ?_, fun x => ?_, fun x => ?_, fun x => ?_, fun x => ?_, fun x => ?_, fun x => ?_, trivial⟩, fun x => ?_, trivial⟩
  · exact code_piece _ (⟨k.val, lt_of_lt_of_eq k.isLt trips_eq⟩ : Fin 4) _ (trow_eq _ _ _ k _ _ _ _ rfl) 7 _ (fun d s => code7_at _ _ _ d s) _ (off10_eq k) (code_inb _ 7 (by decide) _ (off10_eq k)) x
  · exact code_piece _ (⟨k.val, lt_of_lt_of_eq k.isLt trips_eq⟩ : Fin 4) _ (trow_eq _ _ _ k _ _ _ _ rfl) 6 _ (fun d s => code6_at _ _ _ d s) _ (off9_eq k) (code_inb _ 6 (by decide) _ (off9_eq k)) x
  · exact code_piece _ (⟨k.val, lt_of_lt_of_eq k.isLt trips_eq⟩ : Fin 4) _ (trow_eq _ _ _ k _ _ _ _ rfl) 5 _ (fun d s => code5_at _ _ _ d s) _ (off8_eq k) (code_inb _ 5 (by decide) _ (off8_eq k)) x
  · exact code_piece _ (⟨k.val, lt_of_lt_of_eq k.isLt trips_eq⟩ : Fin 4) _ (trow_eq _ _ _ k _ _ _ _ rfl) 4 _ (fun d s => code4_at _ _ _ d s) _ (off7_eq k) (code_inb _ 4 (by decide) _ (off7_eq k)) x
  · exact code_piece _ (⟨k.val, lt_of_lt_of_eq k.isLt trips_eq⟩ : Fin 4) _ (trow_eq _ _ _ k _ _ _ _ rfl) 3 _ (fun d s => code3_at _ _ _ d s) _ (off6_eq k) (code_inb _ 3 (by decide) _ (off6_eq k)) x
  · exact code_piece _ (⟨k.val, lt_of_lt_of_eq k.isLt trips_eq⟩ : Fin 4) _ (trow_eq _ _ _ k _ _ _ _ rfl) 2 _ (fun d s => code2_at _ _ _ d s) _ (off5_eq k) (code_inb _ 2 (by decide) _ (off5_eq k)) x
  · exact code_piece _ (⟨k.val, lt_of_lt_of_eq k.isLt trips_eq⟩ : Fin 4) _ (trow_eq _ _ _ k _ _ _ _ rfl) 1 _ (fun d s => code1_at _ _ _ d s) _ (off4_eq k) (code_inb _ 1 (by decide) _ (off4_eq k)) x
  · exact code_piece _ (⟨k.val, lt_of_lt_of_eq k.isLt trips_eq⟩ : Fin 4) _ (trow_eq _ _ _ k _ _ _ _ rfl) 0 _ (fun d s => code0_at _ _ _ d s) _ (off3_eq k) (code_inb _ 0 (by decide) _ (off3_eq k)) x
  · exact scale_piece _ (⟨k.val, lt_of_lt_of_eq k.isLt trips_eq⟩ : Fin 4) _ (trow_eq _ _ _ k _ _ _ _ rfl) _ (fun j l => scale_at _ _ _ j l) _ (off11_eq k) (scale_inb _ _ (off11_eq k)) x

theorem loop_pieces : ∀ n : ℕ, n ≤ k0_t1_loop.trips →
    View.PiecesOf (codesOf (kRow (arg13.view.read (Elt Ideal) X_arg13) (arg7.view.read (Elt Ideal) X_arg7) (arg8.view.read (Elt Ideal) X_arg8))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 n).1
    ∧ View.PiecesOf (scalesOf (kRow (arg13.view.read (Elt Ideal) X_arg13) (arg7.view.read (Elt Ideal) X_arg7) (arg8.view.read (Elt Ideal) X_arg8))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 n).2
  | 0, _ => ⟨trivial, trivial⟩
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 ⟨n, h⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 (n + 1) = _ from e]
    have p := trip_pieces 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg7 X_arg8 X_arg13 ⟨n, h⟩
    have q := loop_pieces n (by omega)
    exact ⟨piecesOf_append _ _ _ p.1 q.1, piecesOf_append _ _ _ p.2 q.2⟩

end Loop

section Payloads
variable (X : FVec Ideal S1536x5120 .bf16) (W : FVec Ideal S5120x256 .bf16) (R : FVec Ideal S1536x128 .bf16)
  (L : FVec Ideal S1x1x128x256 .bf16) (v : FVec Ideal S1536x1 .f32) (i : Fin 1536) (c : Fin 256)

theorem chunk1024_at : k0_pay483 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay483]

theorem chunk768_at : k0_pay399 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay399]

theorem chunk512_at : k0_pay316 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay316]

theorem chunk256_at : k0_pay233 (F := Ideal) (k0_pay232 X W) R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay233, k0_pay232]

theorem chunk0_at : k0_pay149 (F := Ideal) (k0_pay147 X W) (k0_pay148 R L) v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay149, k0_pay147, k0_pay148]

end Payloads

variable (m : (ℓ : Loc nD τ sig) → Buf (Elt Ideal) ℓ)

set_option maxHeartbeats 2000000 in
/-- What a point stores are the codes and the scales of one block of projections, which is `zBlk` of the blocks it reads. -/
theorem outs_at (c : Dev nD) (t : Fin cfg0.N) : ∃ A : FVec Ideal S1536x1280 .f32, A = zBlk (iblk m c 0 t) (iblk m c 1 t) (iblk m c 2 t) (iblk m c 3 t) (iblk m c 4 t) (iblk m c 5 t)
    ∧ (∀ y, (outsAt0 m c t).1 y = codesOf (kRow A (iblk m c 6 t) (iblk m c 7 t)) y) ∧ ∀ y, (outsAt0 m c t).2 y = scalesOf (kRow A (iblk m c 6 t) (iblk m c 7 t)) y := by
  apply Exists.intro
  refine ⟨?z, fun y => ?e8, fun y => ?e9⟩
  case e8 =>
    unfold outsAt0
    show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_8
    have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ _ _ le_rfl).1 hc y).trans ?_
    clear hc
    frame_out
    exact congrArg (fun A => codesOf (kRow A _ _) y) rfl
  case e9 =>
    unfold outsAt0
    show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_9
    have hc := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ _ _ le_rfl).2 hc y).trans ?_
    clear hc
    frame_out
  refine funext fun y => ?_
  refine canon_tile (Val := Elt Ideal) (e := .f32) _ (zBlk (iblk m c 0 t) (iblk m c 1 t) (iblk m c 2 t) (iblk m c 3 t) (iblk m c 4 t) (iblk m c 5 t)) ?_
    (View.cover_of_tiledL _ ![1536, 256] (by sl_kernel_rfl)) y
  refine ⟨fun x => ?_, fun x => ?_, fun x => ?_, fun x => ?_, fun x => ?_, trivial⟩
  · refine chunk_at _ _ _ _ _ _ 1024 (by decide) _ _ _ _ (fun i c => chunk1024_at _ _ _ _ _ i c) ?_ inb_S1536x1280_S1536x256_0_1024 x
    refine read_tile _ 40 _ _ _ (by decide) ?_ (View.cover_of_tiledL _ ![128, 256] (by sl_kernel_rfl))
    simp only [List.take_succ_cons, List.take_zero, View.PiecesOf, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 768 (by decide) _ _ _ _ (fun i c => chunk768_at _ _ _ _ _ i c) ?_ inb_S1536x1280_S1536x256_0_768 x
    refine read_tile _ 40 _ _ _ (by decide) ?_ (View.cover_of_tiledL _ ![128, 256] (by sl_kernel_rfl))
    simp only [List.take_succ_cons, List.take_zero, View.PiecesOf, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 512 (by decide) _ _ _ _ (fun i c => chunk512_at _ _ _ _ _ i c) ?_ inb_S1536x1280_S1536x256_0_512 x
    refine read_tile _ 40 _ _ _ (by decide) ?_ (View.cover_of_tiledL _ ![128, 256] (by sl_kernel_rfl))
    simp only [List.take_succ_cons, List.take_zero, View.PiecesOf, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 256 (by decide) _ _ _ _ (fun i c => chunk256_at _ _ _ _ _ i c) ?_ inb_S1536x1280_S1536x256_0_256 x
    refine read_tile _ 40 _ _ _ (by decide) ?_ (View.cover_of_tiledL _ ![128, 256] (by sl_kernel_rfl))
    simp only [List.take_succ_cons, List.take_zero, View.PiecesOf, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 0 (by decide) _ _ _ _ (fun i c => chunk0_at _ _ _ _ _ i c) ?_ inb_S1536x1280_S1536x256_0_0 x
    refine read_tile _ 40 _ _ _ (by decide) ?_ (View.cover_of_tiledL _ ![128, 256] (by sl_kernel_rfl))
    simp only [List.take_succ_cons, List.take_zero, View.PiecesOf, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial

/-- The codes a point stores, over the blocks it reads. -/
theorem out8_at (c : Dev nD) (t : Fin cfg0.N) (y : S4x1280x384.Idx) : (outsAt0 m c t).1 y
    = codesOf (kRow (zBlk (iblk m c 0 t) (iblk m c 1 t) (iblk m c 2 t) (iblk m c 3 t) (iblk m c 4 t) (iblk m c 5 t)) (iblk m c 6 t) (iblk m c 7 t)) y := by
  obtain ⟨A, e, h, -⟩ := outs_at m c t
  exact (h y).trans (e ▸ rfl)

/-- The scales a point stores, over the blocks it reads. -/
theorem out9_at (c : Dev nD) (t : Fin cfg0.N) (y : S4x8x128.Idx) : (outsAt0 m c t).2 y
    = scalesOf (kRow (zBlk (iblk m c 0 t) (iblk m c 1 t) (iblk m c 2 t) (iblk m c 3 t) (iblk m c 4 t) (iblk m c 5 t)) (iblk m c 6 t) (iblk m c 7 t)) y := by
  obtain ⟨A, e, -, h⟩ := outs_at m c t
  exact (h y).trans (e ▸ rfl)

end Cert.KBIdeal.Block
-- ==== Proof.KBVal.lean ====
/-
  THE KEY KERNEL'S RESULTS. Point `t` of the four stores the codes of columns `1280 t … 1280 t + 1279` and the scales of heads `8 t … 8 t + 7`.
-/
module

public import proofs.«01_k».proof.Proof.KBBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KBIdeal.Block
open Cert.KBIdeal Cert.KBIdeal.Gen Cert.Weights Cert.QkvMath Cert.KvMath

variable (m : (ℓ : Loc nD τ sig) → Buf (Elt Ideal) ℓ)

theorem idx : ∀ t : Fin cfg0.N, win0_0.index t = ![0, 0] ∧ win0_1.index t = ![0, 0] ∧ win0_2.index t = ![0, 1]
    ∧ win0_3.index t = ![0, 4 + t.val] ∧ win0_4.index t = ![0, 4 + t.val] ∧ win0_5.index t = ![1, 1, 0, t.val] ∧ win0_6.index t = ![0, 0, 0] ∧ win0_7.index t = ![0, 0, 0] ∧ win0_8.index t = ![0, t.val, 0] ∧ win0_9.index t = ![0, t.val, 0] :=
  (by decide +kernel : ∀ t : Fin grid0.N, _)

theorem lt4 (t : Fin cfg0.N) : t.val < 4 := lt_of_lt_of_eq t.isLt N_0

section Reads
variable (c : Dev nD) (t : Fin cfg0.N)

theorem read0 : iblk m c 0 t = m ((c : Thread nD τ).loc main_arg0) := funext fun y => by
  have h : ∀ (i : Fin 1536) (k : Fin 5120), iblk m c 0 t (ix2 i k) = m ((c : Thread nD τ).loc main_arg0) (ix2 i k) := fun i k => by blk_ext [iblk, V, idx t]
  rw [ValueIdx.eq_ix2 y]; exact h _ _
theorem read1 : iblk m c 1 t = m ((c : Thread nD τ).loc main_arg1) := funext fun y => by
  have h : ∀ (i : Fin 1536) (k : Fin 128), iblk m c 1 t (ix2 i k) = m ((c : Thread nD τ).loc main_arg1) (ix2 i k) := fun i k => by blk_ext [iblk, V, idx t]
  rw [ValueIdx.eq_ix2 y]; exact h _ _
theorem read2 (i : Fin 1536) (k : Fin 128) (k' : Fin 384) (h : k'.val = 1 * 128 + k.val) :
    iblk m c 2 t (ix2 i k) = m ((c : Thread nD τ).loc main_arg2) (ix2 i k') := by
  blk_ext [iblk, V, idx t]
theorem read3 (k : Fin 2560) (n : Fin 1280) (n' : Fin 15360) (h : n'.val = (4 + t.val) * 1280 + n.val) :
    iblk m c 3 t (ix2 k n) = m ((c : Thread nD τ).loc main_arg3) (ix2 k n') := by
  blk_ext [iblk, V, idx t]
theorem read4 (k : Fin 40) (n : Fin 1280) (n' : Fin 15360) (h : n'.val = (4 + t.val) * 1280 + n.val) :
    iblk m c 4 t (ix2 k n) = m ((c : Thread nD τ).loc main_arg4) (ix2 k n') := by
  blk_ext [iblk, V, idx t]
theorem read5 (k : Fin 128) (n : Fin 1280) (n' : Fin 5120) (h : n'.val = t.val * 1280 + n.val) :
    iblk m c 5 t (ix4 (0 : Fin 1) (0 : Fin 1) k n) = m ((c : Thread nD τ).loc main_arg5) (ix4 (1 : Fin 2) (1 : Fin 3) k n') := by
  blk_ext [iblk, V, idx t]
theorem read6 : iblk m c 6 t = m ((c : Thread nD τ).loc main_arg6) := funext fun y => by
  have h : ∀ (b : Fin 4) (d : Fin 80) (s : Fin 384), iblk m c 6 t (ix3 b d s) = m ((c : Thread nD τ).loc main_arg6) (ix3 b d s) := fun b d s => by blk_ext [iblk, V, idx t]
  rw [ValueIdx.eq_ix3 y]; exact h _ _ _
theorem read7 : iblk m c 7 t = m ((c : Thread nD τ).loc main_arg7) := funext fun y => by
  have h : ∀ (b : Fin 4) (d : Fin 80) (s : Fin 384), iblk m c 7 t (ix3 b d s) = m ((c : Thread nD τ).loc main_arg7) (ix3 b d s) := fun b d s => by blk_ext [iblk, V, idx t]
  rw [ValueIdx.eq_ix3 y]; exact h _ _ _

/-- The point's projections are the columns from `1280 t` on of `Z`. -/
theorem z_at (i : Fin 1536) (n : Fin 1280) (f : Fin 5120) (h : f.val = t.val * 1280 + n.val) :
    zBlk (iblk m c 0 t) (iblk m c 1 t) (iblk m c 2 t) (iblk m c 3 t) (iblk m c 4 t) (iblk m c 5 t) (ix2 i n) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 1 i f := by
  rw [read0 m c t, read1 m c t]
  refine proj_congr _ _ _ _ _ _ _ _ _ _ _ (fun k => read2 m c t i k _ rfl) (fun k => deq_congr _ _ _ _ _ _ _ _ _ (fun k => read3 m c t k n _ ?_) fun g => read4 m c t g n _ ?_)
    fun k => read5 m c t k n _ h
  · show 1 * 5120 + f.val = _; omega
  · show 1 * 5120 + f.val = _; omega

theorem z_shift (i : Fin 1536) (n : ℕ) (h1 : n < 1280) (e : ℕ) (_ : e < n + 160) (_ : n < e + 160) (h2 : e / 160 = n / 160) :
    ext (fun n => zBlk (iblk m c 0 t) (iblk m c 1 t) (iblk m c 2 t) (iblk m c 3 t) (iblk m c 4 t) (iblk m c 5 t) (ix2 i n)) e
      = ext (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 1 i) (t.val * 1280 + e) := by
  have ht := lt4 t
  have he : e < 1280 := by omega
  rw [ext_of _ e ⟨e, he⟩ rfl, ext_of _ (t.val * 1280 + e) ⟨t.val * 1280 + e, by omega⟩ rfl]
  exact z_at m c t i _ _ rfl

end Reads

/-- The point's numbers are the columns from `1280 t` on. -/
theorem num_shift (c : Dev nD) (t : Fin cfg0.N) (b : Fin 4) (n : ℕ) (s : Fin 384) (hn : n < 1280) :
    kRow (zBlk (iblk m c 0 t) (iblk m c 1 t) (iblk m c 2 t) (iblk m c 3 t) (iblk m c 4 t) (iblk m c 5 t)) (iblk m c 6 t) (iblk m c 7 t) b n s = kNum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 b (t.val * 1280 + n) s := by
  rw [read6 m c t, read7 m c t]
  exact rot_shift _ _ _ _ _ _ (t.val * 1280) n (by omega) (z_shift m c t (pos b s) n hn) (fun _ _ => rfl) (fun _ _ => rfl)

/-- The codes. -/
theorem final8 (c : Dev nD) : (dats m 0 c).arrAt 8 cfg0.N = kCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  refine (dats m 0 c).arrAt_eq_of_covers 8 _ (by decide +kernel) fun t hf y => ?_
  blk_simp
  rw [after0_8]
  have ht := lt4 t
  have h1 : (y 1).val < 1280 := (y 1).isLt
  have e : (win0_8.blk t).view.emb y = ix3 (y 0) ⟨t.val * 1280 + (y 1).val, by omega⟩ (y 2) := by blk_ext [idx t]
  rw [e]
  refine (out8_at m c t y).trans ((congrArg _ (ValueIdx.eq_ix3 (n0 := 4) (n1 := 1280) (n2 := 384) y)).trans ?_)
  exact codes_block _ _ t.val ht (fun b n s hn => num_shift m c t b n s hn) (y 0) (y 1) (y 2)

/-- The scales. -/
theorem final9 (c : Dev nD) : (dats m 0 c).arrAt 9 cfg0.N = kScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  refine (dats m 0 c).arrAt_eq_of_covers 9 _ (by decide +kernel) fun t hf y => ?_
  blk_simp
  rw [after0_9]
  have ht := lt4 t
  have h1 : (y 1).val < 8 := (y 1).isLt
  have e : (win0_9.blk t).view.emb y = ix3 (y 0) ⟨t.val * 8 + (y 1).val, by omega⟩ (y 2) := by blk_ext [idx t]
  rw [e]
  refine (out9_at m c t y).trans ((congrArg _ (ValueIdx.eq_ix3 (n0 := 4) (n1 := 8) (n2 := 128) y)).trans ?_)
  exact scales_block _ _ t.val ht (fun b n s hn => num_shift m c t b n s hn) (y 0) (y 1) (y 2)

end Cert.KBIdeal.Block
-- ==== Proof.KBRefRun.lean ====
/-
  WHAT THE KEY REFERENCE COMPUTES ON THE HOST. `val_b` is the contents of buffer `b` as a function of the arguments, up to the
  projected rows `main_v45`; from there on the host arrays are the expressions of `KvRefMath`.
-/
module

public import proofs.«01_k».proof.Proof.KvRefMath
public import proofs.«01_k».proof.Proof.Gen.KBRefIdeal.Value

@[expose] public section

set_option maxRecDepth 16384

noncomputable section

open Idealize.ShloMosaic Idealize.ShloMosaic.TcCoe Idealize.SL.Sem

namespace Cert.KBRefIdeal.Math
open Cert.KBRefIdeal Cert.KBRefIdeal.Gen Cert.Weights Cert.QkvMath Cert.KvMath Cert.KvRefMath

section Stages
variable {F : FTy → Type} [FloatOps F]

def val_main_v0 (x3 : (⟨S2560x15360, .i8⟩ : BufTy).Contents (Elt F)) : (⟨S2560x5120, .i8⟩ : BufTy).Contents (Elt F) :=
  extractStridedSlice S2560x5120 ![0, 5120] x3 slices_S2560x15360_S2560x5120_0_5120
def val_main_v1 (x4 : (⟨S40x15360, .f32⟩ : BufTy).Contents (Elt F)) : (⟨S40x5120, .f32⟩ : BufTy).Contents (Elt F) :=
  extractStridedSlice S40x5120 ![0, 5120] x4 slices_S40x15360_S40x5120_0_5120
def val_main_v2 (x3 : (⟨S2560x15360, .i8⟩ : BufTy).Contents (Elt F)) : (⟨S2560x5120, .i32⟩ : BufTy).Contents (Elt F) :=
  extui 32 (val_main_v0 (F := F) x3) natLt_8_32
def val_main_c : (⟨S_, .i32⟩ : BufTy).Contents (Elt F) :=
  constantI S_ 32 15#32
def val_main_v3 : (⟨S2560x5120, .i32⟩ : BufTy).Contents (Elt F) :=
  broadcastInDim S2560x5120 ![] bcast_S_S2560x5120 (val_main_c (F := F))
def val_main_v4 (x3 : (⟨S2560x15360, .i8⟩ : BufTy).Contents (Elt F)) : (⟨S2560x5120, .i32⟩ : BufTy).Contents (Elt F) :=
  andi (val_main_v2 (F := F) x3) (val_main_v3 (F := F))
def val_main_c_0 : (⟨S_, .i32⟩ : BufTy).Contents (Elt F) :=
  constantI S_ 32 4#32
def val_main_v5 : (⟨S2560x5120, .i32⟩ : BufTy).Contents (Elt F) :=
  broadcastInDim S2560x5120 ![] bcast_S_S2560x5120 (val_main_c_0 (F := F))
def val_main_v6 (x3 : (⟨S2560x15360, .i8⟩ : BufTy).Contents (Elt F)) : (⟨S2560x5120, .i32⟩ : BufTy).Contents (Elt F) :=
  Host.shrsi (val_main_v2 (F := F) x3) (val_main_v5 (F := F))
def val_main_c_1 : (⟨S_, .i32⟩ : BufTy).Contents (Elt F) :=
  constantI S_ 32 8#32
def val_main_v7 : (⟨S2560x5120, .i32⟩ : BufTy).Contents (Elt F) :=
  broadcastInDim S2560x5120 ![] bcast_S_S2560x5120 (val_main_c_1 (F := F))
def val_main_v8 (x3 : (⟨S2560x15360, .i8⟩ : BufTy).Contents (Elt F)) : (⟨S2560x5120, .i1⟩ : BufTy).Contents (Elt F) :=
  cmpi .sge (val_main_v4 (F := F) x3) (val_main_v7 (F := F))
def val_main_c_2 : (⟨S_, .i32⟩ : BufTy).Contents (Elt F) :=
  constantI S_ 32 16#32
def val_main_v9 : (⟨S2560x5120, .i32⟩ : BufTy).Contents (Elt F) :=
  broadcastInDim S2560x5120 ![] bcast_S_S2560x5120 (val_main_c_2 (F := F))
def val_main_v10 (x3 : (⟨S2560x15360, .i8⟩ : BufTy).Contents (Elt F)) : (⟨S2560x5120, .i32⟩ : BufTy).Contents (Elt F) :=
  subi (val_main_v4 (F := F) x3) (val_main_v9 (F := F))
def val_main_v11 (x3 : (⟨S2560x15360, .i8⟩ : BufTy).Contents (Elt F)) : (⟨S2560x5120, .i32⟩ : BufTy).Contents (Elt F) :=
  select (val_main_v8 (F := F) x3) (val_main_v10 (F := F) x3) (val_main_v4 (F := F) x3)
def val_main_c_3 : (⟨S_, .i32⟩ : BufTy).Contents (Elt F) :=
  constantI S_ 32 8#32
def val_main_v12 : (⟨S2560x5120, .i32⟩ : BufTy).Contents (Elt F) :=
  broadcastInDim S2560x5120 ![] bcast_S_S2560x5120 (val_main_c_3 (F := F))
def val_main_v13 (x3 : (⟨S2560x15360, .i8⟩ : BufTy).Contents (Elt F)) : (⟨S2560x5120, .i1⟩ : BufTy).Contents (Elt F) :=
  cmpi .sge (val_main_v6 (F := F) x3) (val_main_v12 (F := F))
def val_main_c_4 : (⟨S_, .i32⟩ : BufTy).Contents (Elt F) :=
  constantI S_ 32 16#32
def val_main_v14 : (⟨S2560x5120, .i32⟩ : BufTy).Contents (Elt F) :=
  broadcastInDim S2560x5120 ![] bcast_S_S2560x5120 (val_main_c_4 (F := F))
def val_main_v15 (x3 : (⟨S2560x15360, .i8⟩ : BufTy).Contents (Elt F)) : (⟨S2560x5120, .i32⟩ : BufTy).Contents (Elt F) :=
  subi (val_main_v6 (F := F) x3) (val_main_v14 (F := F))
def val_main_v16 (x3 : (⟨S2560x15360, .i8⟩ : BufTy).Contents (Elt F)) : (⟨S2560x5120, .i32⟩ : BufTy).Contents (Elt F) :=
  select (val_main_v13 (F := F) x3) (val_main_v15 (F := F) x3) (val_main_v6 (F := F) x3)
def val_main_v17 (x3 : (⟨S2560x15360, .i8⟩ : BufTy).Contents (Elt F)) : (⟨S2560x5120, .bf16⟩ : BufTy).Contents (Elt F) :=
  sitofp .bf16 (val_main_v11 (F := F) x3)
def val_main_v18 (x3 : (⟨S2560x15360, .i8⟩ : BufTy).Contents (Elt F)) : (⟨S2560x5120, .bf16⟩ : BufTy).Contents (Elt F) :=
  sitofp .bf16 (val_main_v16 (F := F) x3)
def val_main_v19 (x4 : (⟨S40x15360, .f32⟩ : BufTy).Contents (Elt F)) : (⟨S20x5120, .f32⟩ : BufTy).Contents (Elt F) :=
  extractStridedSlice S20x5120 ![0, 0] (val_main_v1 (F := F) x4) slices_S40x5120_S20x5120_0_0
def val_main_v20 (x3 : (⟨S2560x15360, .i8⟩ : BufTy).Contents (Elt F)) : (⟨S20x128x5120, .bf16⟩ : BufTy).Contents (Elt F) :=
  shapeCast _ (val_main_v17 (F := F) x3) shapeCasts_S2560x5120_S20x128x5120
def val_main_v21 (x4 : (⟨S40x15360, .f32⟩ : BufTy).Contents (Elt F)) : (⟨S20x5120, .bf16⟩ : BufTy).Contents (Elt F) :=
  truncf .bf16 (val_main_v19 (F := F) x4) bitsLt_bf16_f32
def val_main_v22 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v21 (F := F) x4)
def val_main_v23 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v22 (F := F) x4)
def val_main_v24 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v20 (F := F) x3) (val_main_v23 (F := F) x4)
def val_main_v25 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v24 (F := F) x3 x4) shapeCasts_S20x128x5120_S2560x5120
def val_main_v26 (x4 : (⟨S40x15360, .f32⟩ : BufTy).Contents (Elt F)) : (⟨S20x5120, .f32⟩ : BufTy).Contents (Elt F) :=
  extractStridedSlice S20x5120 ![20, 0] (val_main_v1 (F := F) x4) slices_S40x5120_S20x5120_20_0
def val_main_v27 (x3 : (⟨S2560x15360, .i8⟩ : BufTy).Contents (Elt F)) : (⟨S20x128x5120, .bf16⟩ : BufTy).Contents (Elt F) :=
  shapeCast _ (val_main_v18 (F := F) x3) shapeCasts_S2560x5120_S20x128x5120
def val_main_v28 (x4 : (⟨S40x15360, .f32⟩ : BufTy).Contents (Elt F)) : (⟨S20x5120, .bf16⟩ : BufTy).Contents (Elt F) :=
  truncf .bf16 (val_main_v26 (F := F) x4) bitsLt_bf16_f32
def val_main_v29 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v28 (F := F) x4)
def val_main_v30 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v29 (F := F) x4)
def val_main_v31 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v27 (F := F) x3) (val_main_v30 (F := F) x4)
def val_main_v32 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v31 (F := F) x3 x4) shapeCasts_S20x128x5120_S2560x5120
def val_main_v33 (x0 : (⟨S1536x5120, .bf16⟩ : BufTy).Contents (Elt F)) : (⟨S1536x2560, .bf16⟩ : BufTy).Contents (Elt F) :=
  extractStridedSlice S1536x2560 ![0, 0] x0 slices_S1536x5120_S1536x2560_0_0
def val_main_v34 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v33 (F := F) x0) (val_main_v25 (F := F) x3 x4)
def val_main_v35 (x0 : (⟨S1536x5120, .bf16⟩ : BufTy).Contents (Elt F)) : (⟨S1536x2560, .bf16⟩ : BufTy).Contents (Elt F) :=
  extractStridedSlice S1536x2560 ![0, 2560] x0 slices_S1536x5120_S1536x2560_0_2560
def val_main_v36 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v35 (F := F) x0) (val_main_v32 (F := F) x3 x4)
def val_main_v37 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  addf (val_main_v34 (F := F) x0 x3 x4) (val_main_v36 (F := F) x0 x3 x4)
def val_main_v38 (x2 : (⟨S1536x384, .bf16⟩ : BufTy).Contents (Elt F)) : (⟨S1536x128, .bf16⟩ : BufTy).Contents (Elt F) :=
  extractStridedSlice S1536x128 ![0, 128] x2 slices_S1536x384_S1536x128_0_128
def val_main_v39 (x5 : (⟨S2x3x128x5120, .bf16⟩ : BufTy).Contents (Elt F)) : (⟨S1x1x128x5120, .bf16⟩ : BufTy).Contents (Elt F) :=
  extractStridedSlice S1x1x128x5120 ![1, 1, 0, 0] x5 slices_S2x3x128x5120_S1x1x128x5120_1_1_0_0
def val_main_v40 (x5 : (⟨S2x3x128x5120, .bf16⟩ : BufTy).Contents (Elt F)) : (⟨S128x5120, .bf16⟩ : BufTy).Contents (Elt F) :=
  shapeCast _ (val_main_v39 (F := F) x5) shapeCasts_S1x1x128x5120_S128x5120
def val_main_v41 (x2 : (⟨S1536x384, .bf16⟩ : BufTy).Contents (Elt F)) (x5 : (⟨S2x3x128x5120, .bf16⟩ : BufTy).Contents (Elt F)) : (⟨S1536x5120, .f32⟩ : BufTy).Contents (Elt F) :=
  Host.dotGeneral dot_S1536x128_S128x5120_S1536x5120_1_0_0_1_n_n none (val_main_v38 (F := F) x2) (val_main_v40 (F := F) x5)
def val_main_v42 (x1 : (⟨S1536x128, .f32⟩ : BufTy).Contents (Elt F)) : (⟨S1536x1, .f32⟩ : BufTy).Contents (Elt F) :=
  extractStridedSlice S1536x1 ![0, 0] x1 slices_S1536x128_S1536x1_0_0
def val_main_v43 (x1 : (⟨S1536x128, .f32⟩ : BufTy).Contents (Elt F)) : (⟨S1536x5120, .f32⟩ : BufTy).Contents (Elt F) :=
  broadcastInDim S1536x5120 ![0, 1] bcast_S1536x1_S1536x5120_0_1 (val_main_v42 (F := F) x1)
def val_main_v44 (x0 : (⟨S1536x5120, .bf16⟩ : BufTy).Contents (Elt F)) (x1 : (⟨S1536x128, .f32⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  mulf (val_main_v37 (F := F) x0 x3 x4) (val_main_v43 (F := F) x1)
def val_main_v45 (x0 : (⟨S1536x5120, .bf16⟩ : BufTy).Contents (Elt F)) (x1 : (⟨S1536x128, .f32⟩ : BufTy).Contents (Elt F)) (x2 : (⟨S1536x384, .bf16⟩ : BufTy).Contents (Elt F)) (x3 : (⟨S2560x15360, .i8⟩ : BufTy).Contents (Elt F)) (x4 : (⟨S40x15360, .f32⟩ : BufTy).Contents (Elt F)) (x5 : (⟨S2x3x128x5120, .bf16⟩ : BufTy).Contents (Elt F)) : (⟨S1536x5120, .f32⟩ : BufTy).Contents (Elt F) :=
  addf (val_main_v44 (F := F) x0 x1 x3 x4) (val_main_v41 (F := F) x2 x5)

/-- The host's operations, in order: up to the projected rows, and from there on. -/
abbrev ops : List (HloOp τ sig (Elt F)) := List.flatten [hostOps0, hostOps0_1, hostOps0_2, hostOps0_3, hostOps0_4, hostOps0_5, hostOps0_6, hostOps0_7, hostOps0_8]
abbrev opsA : List (HloOp τ sig (Elt F)) := (ops (F := F)).take 52
abbrev opsB : List (HloOp τ sig (Elt F)) := (ops (F := F)).drop 52

end Stages

variable (W : Valuation τ sig (Elt Ideal))

theorem A_z : StableHlo.after (opsA (F := Ideal)) W (Proc.devRef .tc main_v45) = val_main_v45 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_6 : StableHlo.after (opsA (F := Ideal)) W (Proc.devRef .tc main_arg6) = (W (Proc.devRef .tc main_arg6)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_7 : StableHlo.after (opsA (F := Ideal)) W (Proc.devRef .tc main_arg7) = (W (Proc.devRef .tc main_arg7)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

theorem B_codes : StableHlo.after (opsB (F := Ideal)) W (Proc.devRef .tc main_v76) = codes (rotated (W (Proc.devRef .tc main_v45)) (W (Proc.devRef .tc main_arg6)) (W (Proc.devRef .tc main_arg7))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem B_scales : StableHlo.after (opsB (F := Ideal)) W (Proc.devRef .tc main_v78) = scales (rotated (W (Proc.devRef .tc main_v45)) (W (Proc.devRef .tc main_arg6)) (W (Proc.devRef .tc main_arg7))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

variable (m : (ℓ : Loc nD τ sig) → Buf (Elt Ideal) ℓ) (c : Dev nD)

theorem V_split (b : Ref sig .tc) : V m c b = StableHlo.after (opsB (F := Ideal)) (StableHlo.after (opsA (F := Ideal)) (fun b => m (c, b))) (Proc.devRef .tc b) := by
  show StableHlo.after (ops (F := Ideal)) _ _ = _
  conv_lhs => rw [← List.take_append_drop 52 (ops (F := Ideal))]
  rw [StableHlo.after_append]

end Cert.KBRefIdeal.Math
-- ==== Proof.KBRef.lean ====
/-
  THE KEY REFERENCE'S RESULTS are `kCodes` and `kScales` of the arguments.
-/
module

public import proofs.«01_k».proof.Proof.KBRefRun

@[expose] public section

set_option maxRecDepth 16384

noncomputable section

open Idealize.ShloMosaic Idealize.ShloMosaic.TcCoe Idealize.SL.Sem

namespace Cert.KBRefIdeal.Math
open Cert.KBRefIdeal Cert.KBRefIdeal.Gen Cert.Weights Cert.QkvMath Cert.KvMath Cert.KvRefMath

section Rows
variable (x : FVec Ideal S1536x5120 .bf16) (cs : FVec Ideal S1536x128 .f32) (t : FVec Ideal S1536x384 .bf16)
  (w : IVec S2560x15360 8) (s : FVec Ideal S40x15360 .f32) (lb : FVec Ideal S2x3x128x5120 .bf16) (C N : FVec Ideal S4x80x384 .f32)

theorem lo_at (k : Fin 2560) (c : Fin 5120) :
    val_main_v25 (F := Ideal) w s (ix2 k c) = wLo (w (ix2 k ⟨1 * 5120 + c.val, by omega⟩)) * s (ix2 ⟨k.val / 128, by omega⟩ ⟨1 * 5120 + c.val, by omega⟩) := by
  pointwise [val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_v0, val_main_v17, val_main_c, val_main_c_1, val_main_c_2]
  rfl

theorem hi_at (k : Fin 2560) (c : Fin 5120) :
    val_main_v32 (F := Ideal) w s (ix2 k c) = wHi (w (ix2 k ⟨1 * 5120 + c.val, by omega⟩)) * s (ix2 ⟨20 + k.val / 128, by omega⟩ ⟨1 * 5120 + c.val, by omega⟩) := by
  pointwise [val_main_v32, val_main_v31, val_main_v30, val_main_v29, val_main_v28, val_main_v27, val_main_v26, val_main_v16, val_main_v15, val_main_v14, val_main_v13, val_main_v12, val_main_v18, val_main_v6, val_main_v5, val_main_v2, val_main_v1, val_main_v0, val_main_c_0, val_main_c_3, val_main_c_4]
  rfl

theorem z_at (i : Fin 1536) (c : Fin 5120) : val_main_v45 (F := Ideal) x cs t w s lb (ix2 i c) = Z x cs t w s lb 1 1 i c := by
  pointwise [val_main_v45, val_main_v44, val_main_v43, val_main_v42, val_main_v41, val_main_v40, val_main_v39, val_main_v38, val_main_v37, val_main_v36, val_main_v35, val_main_v34, val_main_v33]
  have hc := c.isLt
  refine Z_halves x cs t w s lb 1 1 i c ⟨1 * 5120 + c.val, by omega⟩ rfl _ _ _ (fun k => ⟨k.val / 128, by omega⟩) (fun k => ⟨20 + k.val / 128, by omega⟩)
    (fun k => ⟨k.val, by omega⟩) (fun k => ⟨2560 + k.val, by omega⟩) (fun _ => rfl) (fun _ => rfl) (fun _ => rfl) (fun _ => rfl)
    (fun k => congrArg (_ * ·) (lo_at w s k c)) (fun k => congrArg (_ * ·) (hi_at w s k c)) fun k => ?_
  refine congrArg (fun j => t (ix2 i j) * _) (Fin.ext ?_)
  first | rfl | (show k.val = 1 * 128 + k.val; omega)

/-- The numbers that are quantised. -/
theorem num_at (b : Fin 4) (p : Fin 384) (h : Fin 32) (d : Fin 160) :
    rotated (val_main_v45 (F := Ideal) x cs t w s lb) C N (ix4 b p h d) = kNum x cs t w s lb C N 1 b (160 * h.val + d.val) p := by
  refine (rotated_at _ C N b p h d).trans ?_
  unfold kRow kNum
  rw [show (fun c => val_main_v45 (F := Ideal) x cs t w s lb (ix2 (pos b p) c)) = Z x cs t w s lb 1 1 (pos b p) from funext fun c => z_at x cs t w s lb (pos b p) c]

end Rows

variable (m : (ℓ : Loc nD τ sig) → Buf (Elt Ideal) ℓ) (c : Dev nD)

/-- The host array the region casts to codes, -/
theorem V_codes : V m c main_v76 = kCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  rw [V_split, B_codes, A_z, A_6, A_7]
  exact codes_eq _ _ fun b p h d => num_at _ _ _ _ _ _ _ _ b p h d

/-- and the scales. -/
theorem V_scales : V m c main_v78 = kScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  rw [V_split, B_scales, A_z, A_6, A_7]
  exact scales_eq _ _ fun b p h d => num_at _ _ _ _ _ _ _ _ b p h d

theorem idx : ∀ t : Fin cfg0.N, win0_0.index t = ![0, 0, 0] ∧ win0_1.index t = ![0, 0, 0] :=
  (by decide +kernel : ∀ t : Fin grid0.N, _)

/-- The region's one block is the whole array: what the body casts is read, and written, where it stands. -/
theorem emb0 (t : Fin cfg0.N) (b : Fin 4) (d : Fin 5120) (s : Fin 384) : (win0_0.blk t).view.emb (ix3 b d s) = ix3 b d s := by blk_ext [idx t]
theorem emb1 (t : Fin cfg0.N) (y : S4x5120x384.Idx) : (win0_1.blk t).view.emb y = ix3 (y 0) (y 1) (y 2) := by blk_ext [idx t]

theorem read_at (A : Buf (Elt Ideal) ((c : Thread nD τ).loc main_v76)) (t : Fin cfg0.N) (b : Fin 4) (d : Fin 5120) (s : Fin 384) :
    ((cfg0.win 0).blk t).view.read (Elt Ideal) A (ix3 b d s) = A (ix3 b d s) := by
  rw [View.read_apply]
  exact congrArg A (emb0 t b d s)

theorem out_at (A : Buf (Elt Ideal) ((c : Thread nD τ).loc main_v76)) (t : Fin cfg0.N) (y : S4x5120x384.Idx) :
    out0_1 (((cfg0.win 0).blk t).view.read (Elt Ideal) A) y = A ((win0_1.blk t).view.emb y) := by
  refine (Cert.KBRefIdeal.Value.canon1_eq _ y).trans ?_
  have e0 : r0_0.idx (Cert.KBRefIdeal.Value.ix1_0 y) = ix3 (y 0) (y 1) (y 2) := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine Eq.trans (b := ((cfg0.win 0).blk t).view.read (Elt Ideal) A (r0_0.idx (Cert.KBRefIdeal.Value.ix1_0 y))) rfl ?_
  exact (congrArg (((cfg0.win 0).blk t).view.read (Elt Ideal) A) e0).trans ((read_at c A t (y 0) (y 1) (y 2)).trans (congrArg A (emb1 t y).symm))

theorem iblk_eq (t : Fin cfg0.N) : iblk m c 0 t = ((cfg0.win 0).blk t).view.read (Elt Ideal) (V m c main_v76) := by
  unfold iblk
  rfl

/-- The region's result is that array. -/
theorem final1 : (dats m 0 c).arrAt 1 cfg0.N = kCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 := by
  rw [← V_codes]
  refine (dats m 0 c).arrAt_eq_of_covers 1 _ (by decide +kernel) fun t hf y => ?_
  blk_simp
  rw [after0_1, iblk_eq]
  exact out_at c (V m c main_v76) t y

end Cert.KBRefIdeal.Math
-- ==== Proof.KBClaim.lean ====
/-
  THE CLAIM OF THE KEY STAGE OF THE SECOND INVOCATION: at the ideal instance the kernel and the reference end with the same two arrays, the codes
  `kCodes` and the scales `kScales` of the arguments.
-/
module

public import proofs.«01_k».proof.Defs
public import proofs.«01_k».proof.Proof.KBVal
public import proofs.«01_k».proof.Proof.KBRef

@[expose] public section

set_option maxRecDepth 16384

noncomputable section

open Idealize.ShloMosaic Idealize.ShloMosaic.TcCoe Idealize.SL.Sem

namespace Cert.KB.Claims
open Cert.KvMath

/-- The reference terminates and keeps its arguments. -/
theorem ref_frame : Cert.quiescent_KBRefIdeal (hKBRefIdeal := Cert.KBRefIdeal.Gen.facts) := fun m ρ _ => Cert.KBRefIdeal.Gen.frame m ρ

/-- What the reference's run leaves in its two results and its arguments. -/
theorem ref_run (m' : (ℓ : Loc Cert.KBRefIdeal.nD Cert.KBRefIdeal.τ Cert.KBRefIdeal.sig) → Buf (Elt Ideal) ℓ) (ρ' : Dev Cert.KBRefIdeal.nD → PrngReg) :
    θ_run (Cert.KBRefIdeal.defs (F := Ideal)) (onTc (τ := Cert.KBRefIdeal.τ) (Cert.KBRefIdeal.main (F := Ideal))) ⟨m', fun _ => 0, ρ'⟩ (fun r => ∀ c : Dev Cert.KBRefIdeal.nD,
      r.2.mem ((c.tc : Thread Cert.KBRefIdeal.nD Cert.KBRefIdeal.τ).loc Cert.KBRefIdeal.main_v79) = kCodes (m' ((c.tc : Thread Cert.KBRefIdeal.nD Cert.KBRefIdeal.τ).loc Cert.KBRefIdeal.main_arg0)) (m' ((c.tc : Thread Cert.KBRefIdeal.nD Cert.KBRefIdeal.τ).loc Cert.KBRefIdeal.main_arg1)) (m' ((c.tc : Thread Cert.KBRefIdeal.nD Cert.KBRefIdeal.τ).loc Cert.KBRefIdeal.main_arg2)) (m' ((c.tc : Thread Cert.KBRefIdeal.nD Cert.KBRefIdeal.τ).loc Cert.KBRefIdeal.main_arg3)) (m' ((c.tc : Thread Cert.KBRefIdeal.nD Cert.KBRefIdeal.τ).loc Cert.KBRefIdeal.main_arg4)) (m' ((c.tc : Thread Cert.KBRefIdeal.nD Cert.KBRefIdeal.τ).loc Cert.KBRefIdeal.main_arg5)) (m' ((c.tc : Thread Cert.KBRefIdeal.nD Cert.KBRefIdeal.τ).loc Cert.KBRefIdeal.main_arg6)) (m' ((c.tc : Thread Cert.KBRefIdeal.nD Cert.KBRefIdeal.τ).loc Cert.KBRefIdeal.main_arg7)) 1
      ∧ r.2.mem ((c.tc : Thread Cert.KBRefIdeal.nD Cert.KBRefIdeal.τ).loc Cert.KBRefIdeal.main_v78) = kScales (m' ((c.tc : Thread Cert.KBRefIdeal.nD Cert.KBRefIdeal.τ).loc Cert.KBRefIdeal.main_arg0)) (m' ((c.tc : Thread Cert.KBRefIdeal.nD Cert.KBRefIdeal.τ).loc Cert.KBRefIdeal.main_arg1)) (m' ((c.tc : Thread Cert.KBRefIdeal.nD Cert.KBRefIdeal.τ).loc Cert.KBRefIdeal.main_arg2)) (m' ((c.tc : Thread Cert.KBRefIdeal.nD Cert.KBRefIdeal.τ).loc Cert.KBRefIdeal.main_arg3)) (m' ((c.tc : Thread Cert.KBRefIdeal.nD Cert.KBRefIdeal.τ).loc Cert.KBRefIdeal.main_arg4)) (m' ((c.tc : Thread Cert.KBRefIdeal.nD Cert.KBRefIdeal.τ).loc Cert.KBRefIdeal.main_arg5)) (m' ((c.tc : Thread Cert.KBRefIdeal.nD Cert.KBRefIdeal.τ).loc Cert.KBRefIdeal.main_arg6)) (m' ((c.tc : Thread Cert.KBRefIdeal.nD Cert.KBRefIdeal.τ).loc Cert.KBRefIdeal.main_arg7)) 1
      ∧ r.2.mem ((c.tc : Thread Cert.KBRefIdeal.nD Cert.KBRefIdeal.τ).loc Cert.KBRefIdeal.main_arg0) = m' ((c.tc : Thread Cert.KBRefIdeal.nD Cert.KBRefIdeal.τ).loc Cert.KBRefIdeal.main_arg0)
      ∧ r.2.mem ((c.tc : Thread Cert.KBRefIdeal.nD Cert.KBRefIdeal.τ).loc Cert.KBRefIdeal.main_arg1) = m' ((c.tc : Thread Cert.KBRefIdeal.nD Cert.KBRefIdeal.τ).loc Cert.KBRefIdeal.main_arg1)
      ∧ r.2.mem ((c.tc : Thread Cert.KBRefIdeal.nD Cert.KBRefIdeal.τ).loc Cert.KBRefIdeal.main_arg2) = m' ((c.tc : Thread Cert.KBRefIdeal.nD Cert.KBRefIdeal.τ).loc Cert.KBRefIdeal.main_arg2)
      ∧ r.2.mem ((c.tc : Thread Cert.KBRefIdeal.nD Cert.KBRefIdeal.τ).loc Cert.KBRefIdeal.main_arg3) = m' ((c.tc : Thread Cert.KBRefIdeal.nD Cert.KBRefIdeal.τ).loc Cert.KBRefIdeal.main_arg3)
      ∧ r.2.mem ((c.tc : Thread Cert.KBRefIdeal.nD Cert.KBRefIdeal.τ).loc Cert.KBRefIdeal.main_arg4) = m' ((c.tc : Thread Cert.KBRefIdeal.nD Cert.KBRefIdeal.τ).loc Cert.KBRefIdeal.main_arg4)
      ∧ r.2.mem ((c.tc : Thread Cert.KBRefIdeal.nD Cert.KBRefIdeal.τ).loc Cert.KBRefIdeal.main_arg5) = m' ((c.tc : Thread Cert.KBRefIdeal.nD Cert.KBRefIdeal.τ).loc Cert.KBRefIdeal.main_arg5)
      ∧ r.2.mem ((c.tc : Thread Cert.KBRefIdeal.nD Cert.KBRefIdeal.τ).loc Cert.KBRefIdeal.main_arg6) = m' ((c.tc : Thread Cert.KBRefIdeal.nD Cert.KBRefIdeal.τ).loc Cert.KBRefIdeal.main_arg6)
      ∧ r.2.mem ((c.tc : Thread Cert.KBRefIdeal.nD Cert.KBRefIdeal.τ).loc Cert.KBRefIdeal.main_arg7) = m' ((c.tc : Thread Cert.KBRefIdeal.nD Cert.KBRefIdeal.τ).loc Cert.KBRefIdeal.main_arg7)) :=
  (θ_run Cert.KBRefIdeal.defs _ _).mono (fun r h c =>
    ⟨(Cert.KBRefIdeal.Value.post1 m' r h c).trans (Cert.KBRefIdeal.Math.final1 m' c),
     ((h c).2 Cert.KBRefIdeal.main_v78 (Pipeline.mem_restRefs_of Cert.KBRefIdeal.main_v78 (by decide) (by decide))).trans (Cert.KBRefIdeal.Math.V_scales m' c),
     Cert.KBRefIdeal.Value.kept_main_arg0 m' r h c, Cert.KBRefIdeal.Value.kept_main_arg1 m' r h c, Cert.KBRefIdeal.Value.kept_main_arg2 m' r h c, Cert.KBRefIdeal.Value.kept_main_arg3 m' r h c, Cert.KBRefIdeal.Value.kept_main_arg4 m' r h c, Cert.KBRefIdeal.Value.kept_main_arg5 m' r h c, Cert.KBRefIdeal.Value.kept_main_arg6 m' r h c, Cert.KBRefIdeal.Value.kept_main_arg7 m' r h c⟩) (Cert.KBRefIdeal.Gen.run_main m' ρ')

theorem algebraic : Cert.algebraic_KBIdeal_KBRefIdeal (hKBIdeal := Cert.KBIdeal.Gen.facts) (hKBRefIdeal := Cert.KBRefIdeal.Gen.facts) := by
  intro m ρ m' ρ' _ hag
  refine ⟨fun c => kCodes (m ((c.tc : Thread Cert.KBIdeal.nD Cert.KBIdeal.τ).loc Cert.KBIdeal.main_arg0)) (m ((c.tc : Thread Cert.KBIdeal.nD Cert.KBIdeal.τ).loc Cert.KBIdeal.main_arg1)) (m ((c.tc : Thread Cert.KBIdeal.nD Cert.KBIdeal.τ).loc Cert.KBIdeal.main_arg2)) (m ((c.tc : Thread Cert.KBIdeal.nD Cert.KBIdeal.τ).loc Cert.KBIdeal.main_arg3)) (m ((c.tc : Thread Cert.KBIdeal.nD Cert.KBIdeal.τ).loc Cert.KBIdeal.main_arg4)) (m ((c.tc : Thread Cert.KBIdeal.nD Cert.KBIdeal.τ).loc Cert.KBIdeal.main_arg5)) (m ((c.tc : Thread Cert.KBIdeal.nD Cert.KBIdeal.τ).loc Cert.KBIdeal.main_arg6)) (m ((c.tc : Thread Cert.KBIdeal.nD Cert.KBIdeal.τ).loc Cert.KBIdeal.main_arg7)) 1, fun c => kScales (m ((c.tc : Thread Cert.KBIdeal.nD Cert.KBIdeal.τ).loc Cert.KBIdeal.main_arg0)) (m ((c.tc : Thread Cert.KBIdeal.nD Cert.KBIdeal.τ).loc Cert.KBIdeal.main_arg1)) (m ((c.tc : Thread Cert.KBIdeal.nD Cert.KBIdeal.τ).loc Cert.KBIdeal.main_arg2)) (m ((c.tc : Thread Cert.KBIdeal.nD Cert.KBIdeal.τ).loc Cert.KBIdeal.main_arg3)) (m ((c.tc : Thread Cert.KBIdeal.nD Cert.KBIdeal.τ).loc Cert.KBIdeal.main_arg4)) (m ((c.tc : Thread Cert.KBIdeal.nD Cert.KBIdeal.τ).loc Cert.KBIdeal.main_arg5)) (m ((c.tc : Thread Cert.KBIdeal.nD Cert.KBIdeal.τ).loc Cert.KBIdeal.main_arg6)) (m ((c.tc : Thread Cert.KBIdeal.nD Cert.KBIdeal.τ).loc Cert.KBIdeal.main_arg7)) 1, ?_, ?_⟩
  · exact (θ_run Cert.KBIdeal.defs _ _).mono
      (fun _ h c => ⟨(h c).1.trans (Cert.KBIdeal.Block.final8 m c), (h c).2.1.trans (Cert.KBIdeal.Block.final9 m c), (h c).2.2⟩) (Cert.KBIdeal.Value.run_blocks m ρ)
  · refine (θ_run Cert.KBRefIdeal.defs _ _).mono
      (fun _ h c => ⟨(h c).1.trans ?_, (h c).2.1.trans ?_, (h c).2.2⟩) (ref_run m' ρ')
    · rw [(hag c).1, (hag c).2.1, (hag c).2.2.1, (hag c).2.2.2.1, (hag c).2.2.2.2.1, (hag c).2.2.2.2.2.1, (hag c).2.2.2.2.2.2.1, (hag c).2.2.2.2.2.2.2]
    · rw [(hag c).1, (hag c).2.1, (hag c).2.2.1, (hag c).2.2.2.1, (hag c).2.2.2.2.1, (hag c).2.2.2.2.2.1, (hag c).2.2.2.2.2.2.1, (hag c).2.2.2.2.2.2.2]

end Cert.KB.Claims
-- ==== Proof.VBlock.lean ====
/-
  ONE GRID POINT of the value stage. A point holds 1280 columns (8 heads). It dequantises 256 columns at a time and multiplies,
  which fills the block `zBlk` of projections; then a loop over the four batches quantises each head.
-/
module

public import proofs.«01_k».proof.Proof.KvBlock
public import proofs.«01_k».proof.Proof.Gen.VIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.VIdeal.Block
open Cert.VIdeal Cert.VIdeal.Gen Cert.Weights Cert.QkvMath Cert.KvMath

section Payloads
variable (Z : FVec Ideal S384x1280 .f32)

/-- The numbers a trip works on: the columns of its rows. -/
def trow : ℕ → Fin 384 → EReal := plainRow (k0_pay5 (F := Ideal) Z)

theorem code0_at (d : Fin 160) (s : Fin 384) : k0_pay24 (F := Ideal) (k0_pay23 (F := Ideal) Z) (ix3 (0 : Fin 1) d s)
    = qcode (trow Z (160 * 0 + d.val) s) (hs (trow Z) 0) :=
  codeT_at _ _ (trow Z) 0 (fun d s => slice_row (k0_pay5 (F := Ideal) Z) 0 d s (by decide) (by decide))
    (fun d s => slice_row (k0_pay5 (F := Ideal) Z) 80 d s (by decide) (by decide)) d s

theorem code1_at (d : Fin 160) (s : Fin 384) : k0_pay27 (F := Ideal) (k0_pay8 (F := Ideal) Z) (k0_pay9 (F := Ideal) Z) (ix3 (0 : Fin 1) d s)
    = qcode (trow Z (160 * 1 + d.val) s) (hs (trow Z) 1) :=
  codeT_at _ _ (trow Z) 1 (fun d s => slice_row (k0_pay5 (F := Ideal) Z) 160 d s (by decide) (by decide))
    (fun d s => slice_row (k0_pay5 (F := Ideal) Z) 240 d s (by decide) (by decide)) d s

theorem code2_at (d : Fin 160) (s : Fin 384) : k0_pay32 (F := Ideal) (k0_pay10 (F := Ideal) Z) (k0_pay11 (F := Ideal) Z) (k0_pay29 (F := Ideal) (k0_pay10 (F := Ideal) Z) (k0_pay11 (F := Ideal) Z)) (k0_pay30 (F := Ideal) (k0_pay10 (F := Ideal) Z) (k0_pay11 (F := Ideal) Z)) (FloatOps.ofBits (F := Ideal) .f32 0x43E00000#32) (ix3 (0 : Fin 1) d s)
    = qcode (trow Z (160 * 2 + d.val) s) (hs (trow Z) 2) :=
  codeT_at _ _ (trow Z) 2 (fun d s => slice_row (k0_pay5 (F := Ideal) Z) 320 d s (by decide) (by decide))
    (fun d s => slice_row (k0_pay5 (F := Ideal) Z) 400 d s (by decide) (by decide)) d s

theorem code3_at (d : Fin 160) (s : Fin 384) : k0_pay36 (F := Ideal) (k0_pay35 (F := Ideal) (k0_pay12 (F := Ideal) Z) (k0_pay13 (F := Ideal) Z)) (ix3 (0 : Fin 1) d s)
    = qcode (trow Z (160 * 3 + d.val) s) (hs (trow Z) 3) :=
  codeT_at _ _ (trow Z) 3 (fun d s => slice_row (k0_pay5 (F := Ideal) Z) 480 d s (by decide) (by decide))
    (fun d s => slice_row (k0_pay5 (F := Ideal) Z) 560 d s (by decide) (by decide)) d s

theorem code4_at (d : Fin 160) (s : Fin 384) : k0_pay39 (F := Ideal) (k0_pay14 (F := Ideal) Z) (k0_pay15 (F := Ideal) Z) (ix3 (0 : Fin 1) d s)
    = qcode (trow Z (160 * 4 + d.val) s) (hs (trow Z) 4) :=
  codeT_at _ _ (trow Z) 4 (fun d s => slice_row (k0_pay5 (F := Ideal) Z) 640 d s (by decide) (by decide))
    (fun d s => slice_row (k0_pay5 (F := Ideal) Z) 720 d s (by decide) (by decide)) d s

theorem code5_at (d : Fin 160) (s : Fin 384) : k0_pay44 (F := Ideal) (k0_pay16 (F := Ideal) Z) (k0_pay17 (F := Ideal) Z) (k0_pay41 (F := Ideal) (k0_pay16 (F := Ideal) Z) (k0_pay17 (F := Ideal) Z)) (k0_pay42 (F := Ideal) (k0_pay16 (F := Ideal) Z) (k0_pay17 (F := Ideal) Z)) (FloatOps.ofBits (F := Ideal) .f32 0x43E00000#32) (ix3 (0 : Fin 1) d s)
    = qcode (trow Z (160 * 5 + d.val) s) (hs (trow Z) 5) :=
  codeT_at _ _ (trow Z) 5 (fun d s => slice_row (k0_pay5 (F := Ideal) Z) 800 d s (by decide) (by decide))
    (fun d s => slice_row (k0_pay5 (F := Ideal) Z) 880 d s (by decide) (by decide)) d s

theorem code6_at (d : Fin 160) (s : Fin 384) : k0_pay1 (F := Ideal) (k0_pay47 (F := Ideal) (k0_pay18 (F := Ideal) Z) (k0_pay19 (F := Ideal) Z)) (ix3 (0 : Fin 1) d s)
    = qcode (trow Z (160 * 6 + d.val) s) (hs (trow Z) 6) :=
  codeT_at _ _ (trow Z) 6 (fun d s => slice_row (k0_pay5 (F := Ideal) Z) 960 d s (by decide) (by decide))
    (fun d s => slice_row (k0_pay5 (F := Ideal) Z) 1040 d s (by decide) (by decide)) d s

theorem code7_at (d : Fin 160) (s : Fin 384) : k0_pay3 (F := Ideal) (k0_pay20 (F := Ideal) Z) (k0_pay21 (F := Ideal) Z) (ix3 (0 : Fin 1) d s)
    = qcode (trow Z (160 * 7 + d.val) s) (hs (trow Z) 7) :=
  codeT_at _ _ (trow Z) 7 (fun d s => slice_row (k0_pay5 (F := Ideal) Z) 1120 d s (by decide) (by decide))
    (fun d s => slice_row (k0_pay5 (F := Ideal) Z) 1200 d s (by decide) (by decide)) d s

/-- The stack of a trip's eight scales. -/
theorem scale_at (j : Fin 8) (l : Fin 128) : k0_pay4 (F := Ideal) (k0_pay20 (F := Ideal) Z) (k0_pay21 (F := Ideal) Z) (k0_pay25 (F := Ideal) (k0_pay22 (F := Ideal) Z)) (k0_pay28 (F := Ideal) (k0_pay8 (F := Ideal) Z) (k0_pay9 (F := Ideal) Z)) (k0_pay33 (F := Ideal) (k0_pay29 (F := Ideal) (k0_pay10 (F := Ideal) Z) (k0_pay11 (F := Ideal) Z)) (k0_pay30 (F := Ideal) (k0_pay10 (F := Ideal) Z) (k0_pay11 (F := Ideal) Z)) (FloatOps.ofBits (F := Ideal) .f32 0x43E00000#32)) (k0_pay37 (F := Ideal) (k0_pay34 (F := Ideal) (k0_pay12 (F := Ideal) Z) (k0_pay13 (F := Ideal) Z))) (k0_pay40 (F := Ideal) (k0_pay14 (F := Ideal) Z) (k0_pay15 (F := Ideal) Z)) (k0_pay45 (F := Ideal) (k0_pay41 (F := Ideal) (k0_pay16 (F := Ideal) Z) (k0_pay17 (F := Ideal) Z)) (k0_pay42 (F := Ideal) (k0_pay16 (F := Ideal) Z) (k0_pay17 (F := Ideal) Z)) (FloatOps.ofBits (F := Ideal) .f32 0x43E00000#32)) (k0_pay46 (F := Ideal) (k0_pay18 (F := Ideal) Z) (k0_pay19 (F := Ideal) Z)) (ix3 (0 : Fin 1) j l) = hs (trow Z) j.val := by
  unfold k0_pay4
  refine (flat_at _ _ j l).trans ?_
  refine stack_at (R := 1) (M := 8) (fun c (_ : Fin 128) => hs (trow Z) c) _ _ [_, _, _, _, _, _] _ ?_ j l
  exact ⟨fun o l => row_at _ _ (trow Z) 0 (fun d s => slice_row (k0_pay5 (F := Ideal) Z) 0 d s (by decide) (by decide))
      (fun d s => slice_row (k0_pay5 (F := Ideal) Z) 80 d s (by decide) (by decide)) (by decide) (by decide) o l,
    fun o l => row_at _ _ (trow Z) 1 (fun d s => slice_row (k0_pay5 (F := Ideal) Z) 160 d s (by decide) (by decide))
      (fun d s => slice_row (k0_pay5 (F := Ideal) Z) 240 d s (by decide) (by decide)) (by decide) (by decide) o l,
    fun o l => row_at _ _ (trow Z) 2 (fun d s => slice_row (k0_pay5 (F := Ideal) Z) 320 d s (by decide) (by decide))
      (fun d s => slice_row (k0_pay5 (F := Ideal) Z) 400 d s (by decide) (by decide)) (by decide) (by decide) o l,
    fun o l => row_at _ _ (trow Z) 3 (fun d s => slice_row (k0_pay5 (F := Ideal) Z) 480 d s (by decide) (by decide))
      (fun d s => slice_row (k0_pay5 (F := Ideal) Z) 560 d s (by decide) (by decide)) (by decide) (by decide) o l,
    fun o l => row_at _ _ (trow Z) 4 (fun d s => slice_row (k0_pay5 (F := Ideal) Z) 640 d s (by decide) (by decide))
      (fun d s => slice_row (k0_pay5 (F := Ideal) Z) 720 d s (by decide) (by decide)) (by decide) (by decide) o l,
    fun o l => row_at _ _ (trow Z) 5 (fun d s => slice_row (k0_pay5 (F := Ideal) Z) 800 d s (by decide) (by decide))
      (fun d s => slice_row (k0_pay5 (F := Ideal) Z) 880 d s (by decide) (by decide)) (by decide) (by decide) o l,
    fun o l => row_at _ _ (trow Z) 6 (fun d s => slice_row (k0_pay5 (F := Ideal) Z) 960 d s (by decide) (by decide))
      (fun d s => slice_row (k0_pay5 (F := Ideal) Z) 1040 d s (by decide) (by decide)) (by decide) (by decide) o l,
    fun o l => row_at _ _ (trow Z) 7 (fun d s => slice_row (k0_pay5 (F := Ideal) Z) 1120 d s (by decide) (by decide))
      (fun d s => slice_row (k0_pay5 (F := Ideal) Z) 1200 d s (by decide) (by decide)) (by decide) (by decide) o l, trivial⟩

end Payloads

/-- Trip `k` of the loop is batch `k`. -/
theorem trips_eq : k0_t1_loop.trips = 4 := by decide +kernel
theorem off1_eq : ∀ k : Fin k0_t1_loop.trips, k0_off1 k = ![384 * k.val, 0] := by decide +kernel
theorem off2_eq : ∀ k : Fin k0_t1_loop.trips, k0_off2 k = ![k.val, 160 * 0, 0] := by decide +kernel
theorem off3_eq : ∀ k : Fin k0_t1_loop.trips, k0_off3 k = ![k.val, 160 * 1, 0] := by decide +kernel
theorem off4_eq : ∀ k : Fin k0_t1_loop.trips, k0_off4 k = ![k.val, 160 * 2, 0] := by decide +kernel
theorem off5_eq : ∀ k : Fin k0_t1_loop.trips, k0_off5 k = ![k.val, 160 * 3, 0] := by decide +kernel
theorem off6_eq : ∀ k : Fin k0_t1_loop.trips, k0_off6 k = ![k.val, 160 * 4, 0] := by decide +kernel
theorem off7_eq : ∀ k : Fin k0_t1_loop.trips, k0_off7 k = ![k.val, 160 * 5, 0] := by decide +kernel
theorem off8_eq : ∀ k : Fin k0_t1_loop.trips, k0_off8 k = ![k.val, 160 * 6, 0] := by decide +kernel
theorem off9_eq : ∀ k : Fin k0_t1_loop.trips, k0_off9 k = ![k.val, 160 * 7, 0] := by decide +kernel
theorem off10_eq : ∀ k : Fin k0_t1_loop.trips, k0_off10 k = ![k.val, 0, 0] := by decide +kernel

section Trip
variable (A : FVec Ideal S1536x1280 .f32) (k : Fin k0_t1_loop.trips)

theorem acc_at (inb) (c : Fin 1280) (s : Fin 384) (i : Fin 1536) (h : i.val = 384 * k.val + s.val) :
    k0_pay5 (F := Ideal) (View.ld (Val := Elt Ideal) (e' := .f32) A (Rect.unit (s := S1536x1280) (k0_off1 k) S384x1280.size inb)) (ix2 c s) = A (ix2 i c) := by
  have e : ∀ v : FVec Ideal S384x1280 .f32, k0_pay5 (F := Ideal) v (ix2 c s) = v (ix2 s c) := fun v => by pointwise [k0_pay5]
  rw [e]
  refine congrArg A (funext fun a => Fin.ext ?_)
  have o := off1_eq k
  match a with
  | ⟨0, _⟩ => show k0_off1 k 0 + 1 * s.val = i.val; rw [o]; show 384 * k.val + 1 * s.val = i.val; omega
  | ⟨1, _⟩ => show k0_off1 k 1 + 1 * c.val = c.val; rw [o]; show 0 + 1 * c.val = c.val; omega

/-- The numbers trip `k` works on are the columns of batch `k`. -/
theorem trow_eq (i3) (b : Fin 4) (h : b.val = k.val) :
    trow (View.ld (Val := Elt Ideal) (e' := .f32) A (Rect.unit (s := S1536x1280) (k0_off1 k) S384x1280.size i3)) = vRow A b := by
  funext c s
  unfold trow plainRow vRow
  rw [funext fun c => acc_at A k i3 c s (pos b s) (by show 384 * b.val + s.val = _; omega)]

end Trip

section Loop
variable (𝒱 : Variants) (c : Dev nD) (bd : Option 𝒱.V) (i : grid0.Coords) (arg1 : Memref sig .tc .vmem S1536x5120 .bf16) (harg1 : arg1.IsWhole) (arg2 : Memref sig .tc .vmem S1536x128 .f32) (harg2 : arg2.IsWhole) (arg3 : Memref sig .tc .vmem S1536x128 .bf16) (harg3 : arg3.IsWhole) (arg4 : Memref sig .tc .vmem S2560x1280 .i8) (harg4 : arg4.IsWhole) (arg5 : Memref sig .tc .vmem S40x1280 .f32) (harg5 : arg5.IsWhole) (arg6 : Memref sig .tc .vmem S1x1x128x1280 .bf16) (harg6 : arg6.IsWhole) (arg7 : Memref sig .tc .vmem S4x80x384 .f32) (harg7 : arg7.IsWhole) (arg8 : Memref sig .tc .vmem S4x80x384 .f32) (harg8 : arg8.IsWhole) (arg9 : Memref sig .tc .vmem S4x1280x384 .fp8e4m3) (harg9 : arg9.IsWhole) (arg10 : Memref sig .tc .vmem S4x8x128 .f32) (harg10 : arg10.IsWhole) (arg11 : Memref sig .tc .vmem S5120x256 .bf16) (harg11 : arg11.IsWhole) (arg12 : Memref sig .tc .vmem S5120x256 .bf16) (harg12 : arg12.IsWhole) (arg13 : Memref sig .tc .vmem S1536x1280 .f32) (harg13 : arg13.IsWhole) (c0_i32 : BitVec 32) (c1_i32 : BitVec 32) (X_arg13 : BufTy.Contents (Elt Ideal) arg13.view.ty)

theorem trip_pieces (k : Fin k0_t1_loop.trips) :
    View.PiecesOf (codesOf (vRow (arg13.view.read (Elt Ideal) X_arg13))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 k).1
    ∧ View.PiecesOf (scalesOf (vRow (arg13.view.read (Elt Ideal) X_arg13))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 k).2 := by
  unfold tripL_k0_t1 trip_k0_t1
  frame_out
  refine ⟨⟨fun x => ?_, fun x => ?_, fun x => ?_, fun x => ?_, fun x => ?_, fun x => ?_, fun x => ?_, fun x => ?_, trivial⟩, fun x => ?_, trivial⟩
  · exact code_piece _ (⟨k.val, lt_of_lt_of_eq k.isLt trips_eq⟩ : Fin 4) _ (trow_eq _ k _ _ rfl) 7 _ (fun d s => code7_at _ d s) _ (off9_eq k) (code_inb _ 7 (by decide) _ (off9_eq k)) x
  · exact code_piece _ (⟨k.val, lt_of_lt_of_eq k.isLt trips_eq⟩ : Fin 4) _ (trow_eq _ k _ _ rfl) 6 _ (fun d s => code6_at _ d s) _ (off8_eq k) (code_inb _ 6 (by decide) _ (off8_eq k)) x
  · exact code_piece _ (⟨k.val, lt_of_lt_of_eq k.isLt trips_eq⟩ : Fin 4) _ (trow_eq _ k _ _ rfl) 5 _ (fun d s => code5_at _ d s) _ (off7_eq k) (code_inb _ 5 (by decide) _ (off7_eq k)) x
  · exact code_piece _ (⟨k.val, lt_of_lt_of_eq k.isLt trips_eq⟩ : Fin 4) _ (trow_eq _ k _ _ rfl) 4 _ (fun d s => code4_at _ d s) _ (off6_eq k) (code_inb _ 4 (by decide) _ (off6_eq k)) x
  · exact code_piece _ (⟨k.val, lt_of_lt_of_eq k.isLt trips_eq⟩ : Fin 4) _ (trow_eq _ k _ _ rfl) 3 _ (fun d s => code3_at _ d s) _ (off5_eq k) (code_inb _ 3 (by decide) _ (off5_eq k)) x
  · exact code_piece _ (⟨k.val, lt_of_lt_of_eq k.isLt trips_eq⟩ : Fin 4) _ (trow_eq _ k _ _ rfl) 2 _ (fun d s => code2_at _ d s) _ (off4_eq k) (code_inb _ 2 (by decide) _ (off4_eq k)) x
  · exact code_piece _ (⟨k.val, lt_of_lt_of_eq k.isLt trips_eq⟩ : Fin 4) _ (trow_eq _ k _ _ rfl) 1 _ (fun d s => code1_at _ d s) _ (off3_eq k) (code_inb _ 1 (by decide) _ (off3_eq k)) x
  · exact code_piece _ (⟨k.val, lt_of_lt_of_eq k.isLt trips_eq⟩ : Fin 4) _ (trow_eq _ k _ _ rfl) 0 _ (fun d s => code0_at _ d s) _ (off2_eq k) (code_inb _ 0 (by decide) _ (off2_eq k)) x
  · exact scale_piece _ (⟨k.val, lt_of_lt_of_eq k.isLt trips_eq⟩ : Fin 4) _ (trow_eq _ k _ _ rfl) _ (fun j l => scale_at _ j l) _ (off10_eq k) (scale_inb _ _ (off10_eq k)) x

theorem loop_pieces : ∀ n : ℕ, n ≤ k0_t1_loop.trips →
    View.PiecesOf (codesOf (vRow (arg13.view.read (Elt Ideal) X_arg13))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 n).1
    ∧ View.PiecesOf (scalesOf (vRow (arg13.view.read (Elt Ideal) X_arg13))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 n).2
  | 0, _ => ⟨trivial, trivial⟩
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 ⟨n, h⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 (n + 1) = _ from e]
    have p := trip_pieces 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 ⟨n, h⟩
    have q := loop_pieces n (by omega)
    exact ⟨piecesOf_append _ _ _ p.1 q.1, piecesOf_append _ _ _ p.2 q.2⟩

end Loop

section Payloads
variable (X : FVec Ideal S1536x5120 .bf16) (W : FVec Ideal S5120x256 .bf16) (R : FVec Ideal S1536x128 .bf16)
  (L : FVec Ideal S1x1x128x256 .bf16) (v : FVec Ideal S1536x1 .f32) (i : Fin 1536) (c : Fin 256)

theorem chunk1024_at : k0_pay466 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay466]

theorem chunk768_at : k0_pay382 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay382]

theorem chunk512_at : k0_pay299 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay299]

theorem chunk256_at : k0_pay216 (F := Ideal) (k0_pay215 X W) R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay216, k0_pay215]

theorem chunk0_at : k0_pay132 (F := Ideal) (k0_pay130 X W) (k0_pay131 R L) v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay132, k0_pay130, k0_pay131]

end Payloads

variable (m : (ℓ : Loc nD τ sig) → Buf (Elt Ideal) ℓ)

set_option maxHeartbeats 2000000 in
/-- What a point stores are the codes and the scales of one block of projections, which is `zBlk` of the blocks it reads. -/
theorem outs_at (c : Dev nD) (t : Fin cfg0.N) : ∃ A : FVec Ideal S1536x1280 .f32, A = zBlk (iblk m c 0 t) (iblk m c 1 t) (iblk m c 2 t) (iblk m c 3 t) (iblk m c 4 t) (iblk m c 5 t)
    ∧ (∀ y, (outsAt0 m c t).1 y = codesOf (vRow A) y) ∧ ∀ y, (outsAt0 m c t).2 y = scalesOf (vRow A) y := by
  apply Exists.intro
  refine ⟨?z, fun y => ?e8, fun y => ?e9⟩
  case e8 =>
    unfold outsAt0
    show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_8
    have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ le_rfl).1 hc y).trans ?_
    clear hc
    frame_out
    exact congrArg (fun A => codesOf (vRow A) y) rfl
  case e9 =>
    unfold outsAt0
    show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_9
    have hc := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ le_rfl).2 hc y).trans ?_
    clear hc
    frame_out
  refine funext fun y => ?_
  refine canon_tile (Val := Elt Ideal) (e := .f32) _ (zBlk (iblk m c 0 t) (iblk m c 1 t) (iblk m c 2 t) (iblk m c 3 t) (iblk m c 4 t) (iblk m c 5 t)) ?_
    (View.cover_of_tiledL _ ![1536, 256] (by sl_kernel_rfl)) y
  refine ⟨fun x => ?_, fun x => ?_, fun x => ?_, fun x => ?_, fun x => ?_, trivial⟩
  · refine chunk_at _ _ _ _ _ _ 1024 (by decide) _ _ _ _ (fun i c => chunk1024_at _ _ _ _ _ i c) ?_ inb_S1536x1280_S1536x256_0_1024 x
    refine read_tile _ 40 _ _ _ (by decide) ?_ (View.cover_of_tiledL _ ![128, 256] (by sl_kernel_rfl))
    simp only [List.take_succ_cons, List.take_zero, View.PiecesOf, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 768 (by decide) _ _ _ _ (fun i c => chunk768_at _ _ _ _ _ i c) ?_ inb_S1536x1280_S1536x256_0_768 x
    refine read_tile _ 40 _ _ _ (by decide) ?_ (View.cover_of_tiledL _ ![128, 256] (by sl_kernel_rfl))
    simp only [List.take_succ_cons, List.take_zero, View.PiecesOf, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 512 (by decide) _ _ _ _ (fun i c => chunk512_at _ _ _ _ _ i c) ?_ inb_S1536x1280_S1536x256_0_512 x
    refine read_tile _ 40 _ _ _ (by decide) ?_ (View.cover_of_tiledL _ ![128, 256] (by sl_kernel_rfl))
    simp only [List.take_succ_cons, List.take_zero, View.PiecesOf, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 256 (by decide) _ _ _ _ (fun i c => chunk256_at _ _ _ _ _ i c) ?_ inb_S1536x1280_S1536x256_0_256 x
    refine read_tile _ 40 _ _ _ (by decide) ?_ (View.cover_of_tiledL _ ![128, 256] (by sl_kernel_rfl))
    simp only [List.take_succ_cons, List.take_zero, View.PiecesOf, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 0 (by decide) _ _ _ _ (fun i c => chunk0_at _ _ _ _ _ i c) ?_ inb_S1536x1280_S1536x256_0_0 x
    refine read_tile _ 40 _ _ _ (by decide) ?_ (View.cover_of_tiledL _ ![128, 256] (by sl_kernel_rfl))
    simp only [List.take_succ_cons, List.take_zero, View.PiecesOf, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial

/-- The codes a point stores, over the blocks it reads. -/
theorem out8_at (c : Dev nD) (t : Fin cfg0.N) (y : S4x1280x384.Idx) : (outsAt0 m c t).1 y
    = codesOf (vRow (zBlk (iblk m c 0 t) (iblk m c 1 t) (iblk m c 2 t) (iblk m c 3 t) (iblk m c 4 t) (iblk m c 5 t))) y := by
  obtain ⟨A, e, h, -⟩ := outs_at m c t
  exact (h y).trans (e ▸ rfl)

/-- The scales a point stores, over the blocks it reads. -/
theorem out9_at (c : Dev nD) (t : Fin cfg0.N) (y : S4x8x128.Idx) : (outsAt0 m c t).2 y
    = scalesOf (vRow (zBlk (iblk m c 0 t) (iblk m c 1 t) (iblk m c 2 t) (iblk m c 3 t) (iblk m c 4 t) (iblk m c 5 t))) y := by
  obtain ⟨A, e, -, h⟩ := outs_at m c t
  exact (h y).trans (e ▸ rfl)

end Cert.VIdeal.Block
-- ==== Proof.VVal.lean ====
/-
  THE VALUE KERNEL'S RESULTS. Point `t` of the four stores the codes of columns `1280 t … 1280 t + 1279` and the scales of heads `8 t … 8 t + 7`.
-/
module

public import proofs.«01_k».proof.Proof.VBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.VIdeal.Block
open Cert.VIdeal Cert.VIdeal.Gen Cert.Weights Cert.QkvMath Cert.KvMath

variable (m : (ℓ : Loc nD τ sig) → Buf (Elt Ideal) ℓ)

theorem idx : ∀ t : Fin cfg0.N, win0_0.index t = ![0, 0] ∧ win0_1.index t = ![0, 0] ∧ win0_2.index t = ![0, 2]
    ∧ win0_3.index t = ![0, 8 + t.val] ∧ win0_4.index t = ![0, 8 + t.val] ∧ win0_5.index t = ![0, 2, 0, t.val] ∧ win0_6.index t = ![0, 0, 0] ∧ win0_7.index t = ![0, 0, 0] ∧ win0_8.index t = ![0, t.val, 0] ∧ win0_9.index t = ![0, t.val, 0] :=
  (by decide +kernel : ∀ t : Fin grid0.N, _)

theorem lt4 (t : Fin cfg0.N) : t.val < 4 := lt_of_lt_of_eq t.isLt N_0

section Reads
variable (c : Dev nD) (t : Fin cfg0.N)

theorem read0 : iblk m c 0 t = m ((c : Thread nD τ).loc main_arg0) := funext fun y => by
  have h : ∀ (i : Fin 1536) (k : Fin 5120), iblk m c 0 t (ix2 i k) = m ((c : Thread nD τ).loc main_arg0) (ix2 i k) := fun i k => by blk_ext [iblk, V, idx t]
  rw [ValueIdx.eq_ix2 y]; exact h _ _
theorem read1 : iblk m c 1 t = m ((c : Thread nD τ).loc main_arg1) := funext fun y => by
  have h : ∀ (i : Fin 1536) (k : Fin 128), iblk m c 1 t (ix2 i k) = m ((c : Thread nD τ).loc main_arg1) (ix2 i k) := fun i k => by blk_ext [iblk, V, idx t]
  rw [ValueIdx.eq_ix2 y]; exact h _ _
theorem read2 (i : Fin 1536) (k : Fin 128) (k' : Fin 384) (h : k'.val = 2 * 128 + k.val) :
    iblk m c 2 t (ix2 i k) = m ((c : Thread nD τ).loc main_arg2) (ix2 i k') := by
  blk_ext [iblk, V, idx t]
theorem read3 (k : Fin 2560) (n : Fin 1280) (n' : Fin 15360) (h : n'.val = (8 + t.val) * 1280 + n.val) :
    iblk m c 3 t (ix2 k n) = m ((c : Thread nD τ).loc main_arg3) (ix2 k n') := by
  blk_ext [iblk, V, idx t]
theorem read4 (k : Fin 40) (n : Fin 1280) (n' : Fin 15360) (h : n'.val = (8 + t.val) * 1280 + n.val) :
    iblk m c 4 t (ix2 k n) = m ((c : Thread nD τ).loc main_arg4) (ix2 k n') := by
  blk_ext [iblk, V, idx t]
theorem read5 (k : Fin 128) (n : Fin 1280) (n' : Fin 5120) (h : n'.val = t.val * 1280 + n.val) :
    iblk m c 5 t (ix4 (0 : Fin 1) (0 : Fin 1) k n) = m ((c : Thread nD τ).loc main_arg5) (ix4 (0 : Fin 2) (2 : Fin 3) k n') := by
  blk_ext [iblk, V, idx t]
theorem read6 : iblk m c 6 t = m ((c : Thread nD τ).loc main_arg6) := funext fun y => by
  have h : ∀ (b : Fin 4) (d : Fin 80) (s : Fin 384), iblk m c 6 t (ix3 b d s) = m ((c : Thread nD τ).loc main_arg6) (ix3 b d s) := fun b d s => by blk_ext [iblk, V, idx t]
  rw [ValueIdx.eq_ix3 y]; exact h _ _ _
theorem read7 : iblk m c 7 t = m ((c : Thread nD τ).loc main_arg7) := funext fun y => by
  have h : ∀ (b : Fin 4) (d : Fin 80) (s : Fin 384), iblk m c 7 t (ix3 b d s) = m ((c : Thread nD τ).loc main_arg7) (ix3 b d s) := fun b d s => by blk_ext [iblk, V, idx t]
  rw [ValueIdx.eq_ix3 y]; exact h _ _ _

/-- The point's projections are the columns from `1280 t` on of `Z`. -/
theorem z_at (i : Fin 1536) (n : Fin 1280) (f : Fin 5120) (h : f.val = t.val * 1280 + n.val) :
    zBlk (iblk m c 0 t) (iblk m c 1 t) (iblk m c 2 t) (iblk m c 3 t) (iblk m c 4 t) (iblk m c 5 t) (ix2 i n) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 2 0 i f := by
  rw [read0 m c t, read1 m c t]
  refine proj_congr _ _ _ _ _ _ _ _ _ _ _ (fun k => read2 m c t i k _ rfl) (fun k => deq_congr _ _ _ _ _ _ _ _ _ (fun k => read3 m c t k n _ ?_) fun g => read4 m c t g n _ ?_)
    fun k => read5 m c t k n _ h
  · show 2 * 5120 + f.val = _; omega
  · show 2 * 5120 + f.val = _; omega

theorem z_shift (i : Fin 1536) (n : ℕ) (h1 : n < 1280) (e : ℕ) (_ : e < n + 160) (_ : n < e + 160) (h2 : e / 160 = n / 160) :
    ext (fun n => zBlk (iblk m c 0 t) (iblk m c 1 t) (iblk m c 2 t) (iblk m c 3 t) (iblk m c 4 t) (iblk m c 5 t) (ix2 i n)) e
      = ext (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 2 0 i) (t.val * 1280 + e) := by
  have ht := lt4 t
  have he : e < 1280 := by omega
  rw [ext_of _ e ⟨e, he⟩ rfl, ext_of _ (t.val * 1280 + e) ⟨t.val * 1280 + e, by omega⟩ rfl]
  exact z_at m c t i _ _ rfl

end Reads

/-- The point's numbers are the columns from `1280 t` on. -/
theorem num_shift (c : Dev nD) (t : Fin cfg0.N) (b : Fin 4) (n : ℕ) (s : Fin 384) (hn : n < 1280) :
    vRow (zBlk (iblk m c 0 t) (iblk m c 1 t) (iblk m c 2 t) (iblk m c 3 t) (iblk m c 4 t) (iblk m c 5 t)) b n s = vNum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 b (t.val * 1280 + n) s := by
  exact z_shift m c t (pos b s) n hn n (by omega) (by omega) rfl

/-- The codes. -/
theorem final8 (c : Dev nD) : (dats m 0 c).arrAt 8 cfg0.N = vCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 := by
  refine (dats m 0 c).arrAt_eq_of_covers 8 _ (by decide +kernel) fun t hf y => ?_
  blk_simp
  rw [after0_8]
  have ht := lt4 t
  have h1 : (y 1).val < 1280 := (y 1).isLt
  have e : (win0_8.blk t).view.emb y = ix3 (y 0) ⟨t.val * 1280 + (y 1).val, by omega⟩ (y 2) := by blk_ext [idx t]
  rw [e]
  refine (out8_at m c t y).trans ((congrArg _ (ValueIdx.eq_ix3 (n0 := 4) (n1 := 1280) (n2 := 384) y)).trans ?_)
  exact codes_block _ _ t.val ht (fun b n s hn => num_shift m c t b n s hn) (y 0) (y 1) (y 2)

/-- The scales. -/
theorem final9 (c : Dev nD) : (dats m 0 c).arrAt 9 cfg0.N = vScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 := by
  refine (dats m 0 c).arrAt_eq_of_covers 9 _ (by decide +kernel) fun t hf y => ?_
  blk_simp
  rw [after0_9]
  have ht := lt4 t
  have h1 : (y 1).val < 8 := (y 1).isLt
  have e : (win0_9.blk t).view.emb y = ix3 (y 0) ⟨t.val * 8 + (y 1).val, by omega⟩ (y 2) := by blk_ext [idx t]
  rw [e]
  refine (out9_at m c t y).trans ((congrArg _ (ValueIdx.eq_ix3 (n0 := 4) (n1 := 8) (n2 := 128) y)).trans ?_)
  exact scales_block _ _ t.val ht (fun b n s hn => num_shift m c t b n s hn) (y 0) (y 1) (y 2)

end Cert.VIdeal.Block
-- ==== Proof.VRefRun.lean ====
/-
  WHAT THE VALUE REFERENCE COMPUTES ON THE HOST. `val_b` is the contents of buffer `b` as a function of the arguments, up to the
  projected rows `main_v45`; from there on the host arrays are the expressions of `KvRefMath`.
-/
module

public import proofs.«01_k».proof.Proof.KvRefMath
public import proofs.«01_k».proof.Proof.Gen.VRefIdeal.Value

@[expose] public section

set_option maxRecDepth 16384

noncomputable section

open Idealize.ShloMosaic Idealize.ShloMosaic.TcCoe Idealize.SL.Sem

namespace Cert.VRefIdeal.Math
open Cert.VRefIdeal Cert.VRefIdeal.Gen Cert.Weights Cert.QkvMath Cert.KvMath Cert.KvRefMath

section Stages
variable {F : FTy → Type} [FloatOps F]

def val_main_v0 (x3 : (⟨S2560x15360, .i8⟩ : BufTy).Contents (Elt F)) : (⟨S2560x5120, .i8⟩ : BufTy).Contents (Elt F) :=
  extractStridedSlice S2560x5120 ![0, 10240] x3 slices_S2560x15360_S2560x5120_0_10240
def val_main_v1 (x4 : (⟨S40x15360, .f32⟩ : BufTy).Contents (Elt F)) : (⟨S40x5120, .f32⟩ : BufTy).Contents (Elt F) :=
  extractStridedSlice S40x5120 ![0, 10240] x4 slices_S40x15360_S40x5120_0_10240
def val_main_v2 (x3 : (⟨S2560x15360, .i8⟩ : BufTy).Contents (Elt F)) : (⟨S2560x5120, .i32⟩ : BufTy).Contents (Elt F) :=
  extui 32 (val_main_v0 (F := F) x3) natLt_8_32
def val_main_c : (⟨S_, .i32⟩ : BufTy).Contents (Elt F) :=
  constantI S_ 32 15#32
def val_main_v3 : (⟨S2560x5120, .i32⟩ : BufTy).Contents (Elt F) :=
  broadcastInDim S2560x5120 ![] bcast_S_S2560x5120 (val_main_c (F := F))
def val_main_v4 (x3 : (⟨S2560x15360, .i8⟩ : BufTy).Contents (Elt F)) : (⟨S2560x5120, .i32⟩ : BufTy).Contents (Elt F) :=
  andi (val_main_v2 (F := F) x3) (val_main_v3 (F := F))
def val_main_c_0 : (⟨S_, .i32⟩ : BufTy).Contents (Elt F) :=
  constantI S_ 32 4#32
def val_main_v5 : (⟨S2560x5120, .i32⟩ : BufTy).Contents (Elt F) :=
  broadcastInDim S2560x5120 ![] bcast_S_S2560x5120 (val_main_c_0 (F := F))
def val_main_v6 (x3 : (⟨S2560x15360, .i8⟩ : BufTy).Contents (Elt F)) : (⟨S2560x5120, .i32⟩ : BufTy).Contents (Elt F) :=
  Host.shrsi (val_main_v2 (F := F) x3) (val_main_v5 (F := F))
def val_main_c_1 : (⟨S_, .i32⟩ : BufTy).Contents (Elt F) :=
  constantI S_ 32 8#32
def val_main_v7 : (⟨S2560x5120, .i32⟩ : BufTy).Contents (Elt F) :=
  broadcastInDim S2560x5120 ![] bcast_S_S2560x5120 (val_main_c_1 (F := F))
def val_main_v8 (x3 : (⟨S2560x15360, .i8⟩ : BufTy).Contents (Elt F)) : (⟨S2560x5120, .i1⟩ : BufTy).Contents (Elt F) :=
  cmpi .sge (val_main_v4 (F := F) x3) (val_main_v7 (F := F))
def val_main_c_2 : (⟨S_, .i32⟩ : BufTy).Contents (Elt F) :=
  constantI S_ 32 16#32
def val_main_v9 : (⟨S2560x5120, .i32⟩ : BufTy).Contents (Elt F) :=
  broadcastInDim S2560x5120 ![] bcast_S_S2560x5120 (val_main_c_2 (F := F))
def val_main_v10 (x3 : (⟨S2560x15360, .i8⟩ : BufTy).Contents (Elt F)) : (⟨S2560x5120, .i32⟩ : BufTy).Contents (Elt F) :=
  subi (val_main_v4 (F := F) x3) (val_main_v9 (F := F))
def val_main_v11 (x3 : (⟨S2560x15360, .i8⟩ : BufTy).Contents (Elt F)) : (⟨S2560x5120, .i32⟩ : BufTy).Contents (Elt F) :=
  select (val_main_v8 (F := F) x3) (val_main_v10 (F := F) x3) (val_main_v4 (F := F) x3)
def val_main_c_3 : (⟨S_, .i32⟩ : BufTy).Contents (Elt F) :=
  constantI S_ 32 8#32
def val_main_v12 : (⟨S2560x5120, .i32⟩ : BufTy).Contents (Elt F) :=
  broadcastInDim S2560x5120 ![] bcast_S_S2560x5120 (val_main_c_3 (F := F))
def val_main_v13 (x3 : (⟨S2560x15360, .i8⟩ : BufTy).Contents (Elt F)) : (⟨S2560x5120, .i1⟩ : BufTy).Contents (Elt F) :=
  cmpi .sge (val_main_v6 (F := F) x3) (val_main_v12 (F := F))
def val_main_c_4 : (⟨S_, .i32⟩ : BufTy).Contents (Elt F) :=
  constantI S_ 32 16#32
def val_main_v14 : (⟨S2560x5120, .i32⟩ : BufTy).Contents (Elt F) :=
  broadcastInDim S2560x5120 ![] bcast_S_S2560x5120 (val_main_c_4 (F := F))
def val_main_v15 (x3 : (⟨S2560x15360, .i8⟩ : BufTy).Contents (Elt F)) : (⟨S2560x5120, .i32⟩ : BufTy).Contents (Elt F) :=
  subi (val_main_v6 (F := F) x3) (val_main_v14 (F := F))
def val_main_v16 (x3 : (⟨S2560x15360, .i8⟩ : BufTy).Contents (Elt F)) : (⟨S2560x5120, .i32⟩ : BufTy).Contents (Elt F) :=
  select (val_main_v13 (F := F) x3) (val_main_v15 (F := F) x3) (val_main_v6 (F := F) x3)
def val_main_v17 (x3 : (⟨S2560x15360, .i8⟩ : BufTy).Contents (Elt F)) : (⟨S2560x5120, .bf16⟩ : BufTy).Contents (Elt F) :=
  sitofp .bf16 (val_main_v11 (F := F) x3)
def val_main_v18 (x3 : (⟨S2560x15360, .i8⟩ : BufTy).Contents (Elt F)) : (⟨S2560x5120, .bf16⟩ : BufTy).Contents (Elt F) :=
  sitofp .bf16 (val_main_v16 (F := F) x3)
def val_main_v19 (x4 : (⟨S40x15360, .f32⟩ : BufTy).Contents (Elt F)) : (⟨S20x5120, .f32⟩ : BufTy).Contents (Elt F) :=
  extractStridedSlice S20x5120 ![0, 0] (val_main_v1 (F := F) x4) slices_S40x5120_S20x5120_0_0
def val_main_v20 (x3 : (⟨S2560x15360, .i8⟩ : BufTy).Contents (Elt F)) : (⟨S20x128x5120, .bf16⟩ : BufTy).Contents (Elt F) :=
  shapeCast _ (val_main_v17 (F := F) x3) shapeCasts_S2560x5120_S20x128x5120
def val_main_v21 (x4 : (⟨S40x15360, .f32⟩ : BufTy).Contents (Elt F)) : (⟨S20x5120, .bf16⟩ : BufTy).Contents (Elt F) :=
  truncf .bf16 (val_main_v19 (F := F) x4) bitsLt_bf16_f32
def val_main_v22 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v21 (F := F) x4)
def val_main_v23 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v22 (F := F) x4)
def val_main_v24 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v20 (F := F) x3) (val_main_v23 (F := F) x4)
def val_main_v25 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v24 (F := F) x3 x4) shapeCasts_S20x128x5120_S2560x5120
def val_main_v26 (x4 : (⟨S40x15360, .f32⟩ : BufTy).Contents (Elt F)) : (⟨S20x5120, .f32⟩ : BufTy).Contents (Elt F) :=
  extractStridedSlice S20x5120 ![20, 0] (val_main_v1 (F := F) x4) slices_S40x5120_S20x5120_20_0
def val_main_v27 (x3 : (⟨S2560x15360, .i8⟩ : BufTy).Contents (Elt F)) : (⟨S20x128x5120, .bf16⟩ : BufTy).Contents (Elt F) :=
  shapeCast _ (val_main_v18 (F := F) x3) shapeCasts_S2560x5120_S20x128x5120
def val_main_v28 (x4 : (⟨S40x15360, .f32⟩ : BufTy).Contents (Elt F)) : (⟨S20x5120, .bf16⟩ : BufTy).Contents (Elt F) :=
  truncf .bf16 (val_main_v26 (F := F) x4) bitsLt_bf16_f32
def val_main_v29 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v28 (F := F) x4)
def val_main_v30 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v29 (F := F) x4)
def val_main_v31 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v27 (F := F) x3) (val_main_v30 (F := F) x4)
def val_main_v32 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v31 (F := F) x3 x4) shapeCasts_S20x128x5120_S2560x5120
def val_main_v33 (x0 : (⟨S1536x5120, .bf16⟩ : BufTy).Contents (Elt F)) : (⟨S1536x2560, .bf16⟩ : BufTy).Contents (Elt F) :=
  extractStridedSlice S1536x2560 ![0, 0] x0 slices_S1536x5120_S1536x2560_0_0
def val_main_v34 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v33 (F := F) x0) (val_main_v25 (F := F) x3 x4)
def val_main_v35 (x0 : (⟨S1536x5120, .bf16⟩ : BufTy).Contents (Elt F)) : (⟨S1536x2560, .bf16⟩ : BufTy).Contents (Elt F) :=
  extractStridedSlice S1536x2560 ![0, 2560] x0 slices_S1536x5120_S1536x2560_0_2560
def val_main_v36 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v35 (F := F) x0) (val_main_v32 (F := F) x3 x4)
def val_main_v37 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  addf (val_main_v34 (F := F) x0 x3 x4) (val_main_v36 (F := F) x0 x3 x4)
def val_main_v38 (x2 : (⟨S1536x384, .bf16⟩ : BufTy).Contents (Elt F)) : (⟨S1536x128, .bf16⟩ : BufTy).Contents (Elt F) :=
  extractStridedSlice S1536x128 ![0, 256] x2 slices_S1536x384_S1536x128_0_256
def val_main_v39 (x5 : (⟨S2x3x128x5120, .bf16⟩ : BufTy).Contents (Elt F)) : (⟨S1x1x128x5120, .bf16⟩ : BufTy).Contents (Elt F) :=
  extractStridedSlice S1x1x128x5120 ![0, 2, 0, 0] x5 slices_S2x3x128x5120_S1x1x128x5120_0_2_0_0
def val_main_v40 (x5 : (⟨S2x3x128x5120, .bf16⟩ : BufTy).Contents (Elt F)) : (⟨S128x5120, .bf16⟩ : BufTy).Contents (Elt F) :=
  shapeCast _ (val_main_v39 (F := F) x5) shapeCasts_S1x1x128x5120_S128x5120
def val_main_v41 (x2 : (⟨S1536x384, .bf16⟩ : BufTy).Contents (Elt F)) (x5 : (⟨S2x3x128x5120, .bf16⟩ : BufTy).Contents (Elt F)) : (⟨S1536x5120, .f32⟩ : BufTy).Contents (Elt F) :=
  Host.dotGeneral dot_S1536x128_S128x5120_S1536x5120_1_0_0_1_n_n none (val_main_v38 (F := F) x2) (val_main_v40 (F := F) x5)
def val_main_v42 (x1 : (⟨S1536x128, .f32⟩ : BufTy).Contents (Elt F)) : (⟨S1536x1, .f32⟩ : BufTy).Contents (Elt F) :=
  extractStridedSlice S1536x1 ![0, 0] x1 slices_S1536x128_S1536x1_0_0
def val_main_v43 (x1 : (⟨S1536x128, .f32⟩ : BufTy).Contents (Elt F)) : (⟨S1536x5120, .f32⟩ : BufTy).Contents (Elt F) :=
  broadcastInDim S1536x5120 ![0, 1] bcast_S1536x1_S1536x5120_0_1 (val_main_v42 (F := F) x1)
def val_main_v44 (x0 : (⟨S1536x5120, .bf16⟩ : BufTy).Contents (Elt F)) (x1 : (⟨S1536x128, .f32⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  mulf (val_main_v37 (F := F) x0 x3 x4) (val_main_v43 (F := F) x1)
def val_main_v45 (x0 : (⟨S1536x5120, .bf16⟩ : BufTy).Contents (Elt F)) (x1 : (⟨S1536x128, .f32⟩ : BufTy).Contents (Elt F)) (x2 : (⟨S1536x384, .bf16⟩ : BufTy).Contents (Elt F)) (x3 : (⟨S2560x15360, .i8⟩ : BufTy).Contents (Elt F)) (x4 : (⟨S40x15360, .f32⟩ : BufTy).Contents (Elt F)) (x5 : (⟨S2x3x128x5120, .bf16⟩ : BufTy).Contents (Elt F)) : (⟨S1536x5120, .f32⟩ : BufTy).Contents (Elt F) :=
  addf (val_main_v44 (F := F) x0 x1 x3 x4) (val_main_v41 (F := F) x2 x5)

/-- The host's operations, in order: up to the projected rows, and from there on. -/
abbrev ops : List (HloOp τ sig (Elt F)) := List.flatten [hostOps0, hostOps0_1, hostOps0_2, hostOps0_3, hostOps0_4, hostOps0_5, hostOps0_6, hostOps0_7, hostOps0_8]
abbrev opsA : List (HloOp τ sig (Elt F)) := (ops (F := F)).take 52
abbrev opsB : List (HloOp τ sig (Elt F)) := (ops (F := F)).drop 52

end Stages

variable (W : Valuation τ sig (Elt Ideal))

theorem A_z : StableHlo.after (opsA (F := Ideal)) W (Proc.devRef .tc main_v45) = val_main_v45 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_6 : StableHlo.after (opsA (F := Ideal)) W (Proc.devRef .tc main_arg6) = (W (Proc.devRef .tc main_arg6)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_7 : StableHlo.after (opsA (F := Ideal)) W (Proc.devRef .tc main_arg7) = (W (Proc.devRef .tc main_arg7)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

theorem B_codes : StableHlo.after (opsB (F := Ideal)) W (Proc.devRef .tc main_v59) = codes (heads (W (Proc.devRef .tc main_v45))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem B_scales : StableHlo.after (opsB (F := Ideal)) W (Proc.devRef .tc main_v61) = scales (heads (W (Proc.devRef .tc main_v45))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

variable (m : (ℓ : Loc nD τ sig) → Buf (Elt Ideal) ℓ) (c : Dev nD)

theorem V_split (b : Ref sig .tc) : V m c b = StableHlo.after (opsB (F := Ideal)) (StableHlo.after (opsA (F := Ideal)) (fun b => m (c, b))) (Proc.devRef .tc b) := by
  show StableHlo.after (ops (F := Ideal)) _ _ = _
  conv_lhs => rw [← List.take_append_drop 52 (ops (F := Ideal))]
  rw [StableHlo.after_append]

end Cert.VRefIdeal.Math
-- ==== Proof.VRef.lean ====
/-
  THE VALUE REFERENCE'S RESULTS are `vCodes` and `vScales` of the arguments.
-/
module

public import proofs.«01_k».proof.Proof.VRefRun

@[expose] public section

set_option maxRecDepth 16384

noncomputable section

open Idealize.ShloMosaic Idealize.ShloMosaic.TcCoe Idealize.SL.Sem

namespace Cert.VRefIdeal.Math
open Cert.VRefIdeal Cert.VRefIdeal.Gen Cert.Weights Cert.QkvMath Cert.KvMath Cert.KvRefMath

section Rows
variable (x : FVec Ideal S1536x5120 .bf16) (cs : FVec Ideal S1536x128 .f32) (t : FVec Ideal S1536x384 .bf16)
  (w : IVec S2560x15360 8) (s : FVec Ideal S40x15360 .f32) (lb : FVec Ideal S2x3x128x5120 .bf16) (C N : FVec Ideal S4x80x384 .f32)

theorem lo_at (k : Fin 2560) (c : Fin 5120) :
    val_main_v25 (F := Ideal) w s (ix2 k c) = wLo (w (ix2 k ⟨2 * 5120 + c.val, by omega⟩)) * s (ix2 ⟨k.val / 128, by omega⟩ ⟨2 * 5120 + c.val, by omega⟩) := by
  pointwise [val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_v0, val_main_v17, val_main_c, val_main_c_1, val_main_c_2]
  rfl

theorem hi_at (k : Fin 2560) (c : Fin 5120) :
    val_main_v32 (F := Ideal) w s (ix2 k c) = wHi (w (ix2 k ⟨2 * 5120 + c.val, by omega⟩)) * s (ix2 ⟨20 + k.val / 128, by omega⟩ ⟨2 * 5120 + c.val, by omega⟩) := by
  pointwise [val_main_v32, val_main_v31, val_main_v30, val_main_v29, val_main_v28, val_main_v27, val_main_v26, val_main_v16, val_main_v15, val_main_v14, val_main_v13, val_main_v12, val_main_v18, val_main_v6, val_main_v5, val_main_v2, val_main_v1, val_main_v0, val_main_c_0, val_main_c_3, val_main_c_4]
  rfl

theorem z_at (i : Fin 1536) (c : Fin 5120) : val_main_v45 (F := Ideal) x cs t w s lb (ix2 i c) = Z x cs t w s lb 2 0 i c := by
  pointwise [val_main_v45, val_main_v44, val_main_v43, val_main_v42, val_main_v41, val_main_v40, val_main_v39, val_main_v38, val_main_v37, val_main_v36, val_main_v35, val_main_v34, val_main_v33]
  have hc := c.isLt
  refine Z_halves x cs t w s lb 2 0 i c ⟨2 * 5120 + c.val, by omega⟩ rfl _ _ _ (fun k => ⟨k.val / 128, by omega⟩) (fun k => ⟨20 + k.val / 128, by omega⟩)
    (fun k => ⟨k.val, by omega⟩) (fun k => ⟨2560 + k.val, by omega⟩) (fun _ => rfl) (fun _ => rfl) (fun _ => rfl) (fun _ => rfl)
    (fun k => congrArg (_ * ·) (lo_at w s k c)) (fun k => congrArg (_ * ·) (hi_at w s k c)) fun k => ?_
  refine congrArg (fun j => t (ix2 i j) * _) (Fin.ext ?_)
  first | rfl | (show k.val = 2 * 128 + k.val; omega)

/-- The numbers that are quantised. -/
theorem num_at (b : Fin 4) (p : Fin 384) (h : Fin 32) (d : Fin 160) :
    heads (val_main_v45 (F := Ideal) x cs t w s lb) (ix4 b p h d) = vNum x cs t w s lb 0 b (160 * h.val + d.val) p := by
  refine (heads_at _ b p h d).trans ?_
  unfold vRow vNum
  rw [show (fun c => val_main_v45 (F := Ideal) x cs t w s lb (ix2 (pos b p) c)) = Z x cs t w s lb 2 0 (pos b p) from funext fun c => z_at x cs t w s lb (pos b p) c]

end Rows

variable (m : (ℓ : Loc nD τ sig) → Buf (Elt Ideal) ℓ) (c : Dev nD)

/-- The host array the region casts to codes, -/
theorem V_codes : V m c main_v59 = vCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 := by
  rw [V_split, B_codes, A_z]
  exact codes_eq _ _ fun b p h d => num_at _ _ _ _ _ _ b p h d

/-- and the scales. -/
theorem V_scales : V m c main_v61 = vScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 := by
  rw [V_split, B_scales, A_z]
  exact scales_eq _ _ fun b p h d => num_at _ _ _ _ _ _ b p h d

theorem idx : ∀ t : Fin cfg0.N, win0_0.index t = ![0, 0, 0] ∧ win0_1.index t = ![0, 0, 0] :=
  (by decide +kernel : ∀ t : Fin grid0.N, _)

/-- The region's one block is the whole array: what the body casts is read, and written, where it stands. -/
theorem emb0 (t : Fin cfg0.N) (b : Fin 4) (d : Fin 5120) (s : Fin 384) : (win0_0.blk t).view.emb (ix3 b d s) = ix3 b d s := by blk_ext [idx t]
theorem emb1 (t : Fin cfg0.N) (y : S4x5120x384.Idx) : (win0_1.blk t).view.emb y = ix3 (y 0) (y 1) (y 2) := by blk_ext [idx t]

theorem read_at (A : Buf (Elt Ideal) ((c : Thread nD τ).loc main_v59)) (t : Fin cfg0.N) (b : Fin 4) (d : Fin 5120) (s : Fin 384) :
    ((cfg0.win 0).blk t).view.read (Elt Ideal) A (ix3 b d s) = A (ix3 b d s) := by
  rw [View.read_apply]
  exact congrArg A (emb0 t b d s)

theorem out_at (A : Buf (Elt Ideal) ((c : Thread nD τ).loc main_v59)) (t : Fin cfg0.N) (y : S4x5120x384.Idx) :
    out0_1 (((cfg0.win 0).blk t).view.read (Elt Ideal) A) y = A ((win0_1.blk t).view.emb y) := by
  refine (Cert.VRefIdeal.Value.canon1_eq _ y).trans ?_
  have e0 : r0_0.idx (Cert.VRefIdeal.Value.ix1_0 y) = ix3 (y 0) (y 1) (y 2) := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine Eq.trans (b := ((cfg0.win 0).blk t).view.read (Elt Ideal) A (r0_0.idx (Cert.VRefIdeal.Value.ix1_0 y))) rfl ?_
  exact (congrArg (((cfg0.win 0).blk t).view.read (Elt Ideal) A) e0).trans ((read_at c A t (y 0) (y 1) (y 2)).trans (congrArg A (emb1 t y).symm))

theorem iblk_eq (t : Fin cfg0.N) : iblk m c 0 t = ((cfg0.win 0).blk t).view.read (Elt Ideal) (V m c main_v59) := by
  unfold iblk
  rfl

/-- The region's result is that array. -/
theorem final1 : (dats m 0 c).arrAt 1 cfg0.N = vCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 0 := by
  rw [← V_codes]
  refine (dats m 0 c).arrAt_eq_of_covers 1 _ (by decide +kernel) fun t hf y => ?_
  blk_simp
  rw [after0_1, iblk_eq]
  exact out_at c (V m c main_v59) t y

end Cert.VRefIdeal.Math
-- ==== Proof.VClaim.lean ====
/-
  THE CLAIM OF THE VALUE STAGE: at the ideal instance the kernel and the reference end with the same two arrays, the codes
  `vCodes` and the scales `vScales` of the arguments.
-/
module

public import proofs.«01_k».proof.Defs
public import proofs.«01_k».proof.Proof.VVal
public import proofs.«01_k».proof.Proof.VRef

@[expose] public section

set_option maxRecDepth 16384

noncomputable section

open Idealize.ShloMosaic Idealize.ShloMosaic.TcCoe Idealize.SL.Sem

namespace Cert.V.Claims
open Cert.KvMath

/-- The reference terminates and keeps its arguments. -/
theorem ref_frame : Cert.quiescent_VRefIdeal (hVRefIdeal := Cert.VRefIdeal.Gen.facts) := fun m ρ _ => Cert.VRefIdeal.Gen.frame m ρ

/-- What the reference's run leaves in its two results and its arguments. -/
theorem ref_run (m' : (ℓ : Loc Cert.VRefIdeal.nD Cert.VRefIdeal.τ Cert.VRefIdeal.sig) → Buf (Elt Ideal) ℓ) (ρ' : Dev Cert.VRefIdeal.nD → PrngReg) :
    θ_run (Cert.VRefIdeal.defs (F := Ideal)) (onTc (τ := Cert.VRefIdeal.τ) (Cert.VRefIdeal.main (F := Ideal))) ⟨m', fun _ => 0, ρ'⟩ (fun r => ∀ c : Dev Cert.VRefIdeal.nD,
      r.2.mem ((c.tc : Thread Cert.VRefIdeal.nD Cert.VRefIdeal.τ).loc Cert.VRefIdeal.main_v62) = vCodes (m' ((c.tc : Thread Cert.VRefIdeal.nD Cert.VRefIdeal.τ).loc Cert.VRefIdeal.main_arg0)) (m' ((c.tc : Thread Cert.VRefIdeal.nD Cert.VRefIdeal.τ).loc Cert.VRefIdeal.main_arg1)) (m' ((c.tc : Thread Cert.VRefIdeal.nD Cert.VRefIdeal.τ).loc Cert.VRefIdeal.main_arg2)) (m' ((c.tc : Thread Cert.VRefIdeal.nD Cert.VRefIdeal.τ).loc Cert.VRefIdeal.main_arg3)) (m' ((c.tc : Thread Cert.VRefIdeal.nD Cert.VRefIdeal.τ).loc Cert.VRefIdeal.main_arg4)) (m' ((c.tc : Thread Cert.VRefIdeal.nD Cert.VRefIdeal.τ).loc Cert.VRefIdeal.main_arg5)) 0
      ∧ r.2.mem ((c.tc : Thread Cert.VRefIdeal.nD Cert.VRefIdeal.τ).loc Cert.VRefIdeal.main_v61) = vScales (m' ((c.tc : Thread Cert.VRefIdeal.nD Cert.VRefIdeal.τ).loc Cert.VRefIdeal.main_arg0)) (m' ((c.tc : Thread Cert.VRefIdeal.nD Cert.VRefIdeal.τ).loc Cert.VRefIdeal.main_arg1)) (m' ((c.tc : Thread Cert.VRefIdeal.nD Cert.VRefIdeal.τ).loc Cert.VRefIdeal.main_arg2)) (m' ((c.tc : Thread Cert.VRefIdeal.nD Cert.VRefIdeal.τ).loc Cert.VRefIdeal.main_arg3)) (m' ((c.tc : Thread Cert.VRefIdeal.nD Cert.VRefIdeal.τ).loc Cert.VRefIdeal.main_arg4)) (m' ((c.tc : Thread Cert.VRefIdeal.nD Cert.VRefIdeal.τ).loc Cert.VRefIdeal.main_arg5)) 0
      ∧ r.2.mem ((c.tc : Thread Cert.VRefIdeal.nD Cert.VRefIdeal.τ).loc Cert.VRefIdeal.main_arg0) = m' ((c.tc : Thread Cert.VRefIdeal.nD Cert.VRefIdeal.τ).loc Cert.VRefIdeal.main_arg0)
      ∧ r.2.mem ((c.tc : Thread Cert.VRefIdeal.nD Cert.VRefIdeal.τ).loc Cert.VRefIdeal.main_arg1) = m' ((c.tc : Thread Cert.VRefIdeal.nD Cert.VRefIdeal.τ).loc Cert.VRefIdeal.main_arg1)
      ∧ r.2.mem ((c.tc : Thread Cert.VRefIdeal.nD Cert.VRefIdeal.τ).loc Cert.VRefIdeal.main_arg2) = m' ((c.tc : Thread Cert.VRefIdeal.nD Cert.VRefIdeal.τ).loc Cert.VRefIdeal.main_arg2)
      ∧ r.2.mem ((c.tc : Thread Cert.VRefIdeal.nD Cert.VRefIdeal.τ).loc Cert.VRefIdeal.main_arg3) = m' ((c.tc : Thread Cert.VRefIdeal.nD Cert.VRefIdeal.τ).loc Cert.VRefIdeal.main_arg3)
      ∧ r.2.mem ((c.tc : Thread Cert.VRefIdeal.nD Cert.VRefIdeal.τ).loc Cert.VRefIdeal.main_arg4) = m' ((c.tc : Thread Cert.VRefIdeal.nD Cert.VRefIdeal.τ).loc Cert.VRefIdeal.main_arg4)
      ∧ r.2.mem ((c.tc : Thread Cert.VRefIdeal.nD Cert.VRefIdeal.τ).loc Cert.VRefIdeal.main_arg5) = m' ((c.tc : Thread Cert.VRefIdeal.nD Cert.VRefIdeal.τ).loc Cert.VRefIdeal.main_arg5)
      ∧ r.2.mem ((c.tc : Thread Cert.VRefIdeal.nD Cert.VRefIdeal.τ).loc Cert.VRefIdeal.main_arg6) = m' ((c.tc : Thread Cert.VRefIdeal.nD Cert.VRefIdeal.τ).loc Cert.VRefIdeal.main_arg6)
      ∧ r.2.mem ((c.tc : Thread Cert.VRefIdeal.nD Cert.VRefIdeal.τ).loc Cert.VRefIdeal.main_arg7) = m' ((c.tc : Thread Cert.VRefIdeal.nD Cert.VRefIdeal.τ).loc Cert.VRefIdeal.main_arg7)) :=
  (θ_run Cert.VRefIdeal.defs _ _).mono (fun r h c =>
    ⟨(Cert.VRefIdeal.Value.post1 m' r h c).trans (Cert.VRefIdeal.Math.final1 m' c),
     ((h c).2 Cert.VRefIdeal.main_v61 (Pipeline.mem_restRefs_of Cert.VRefIdeal.main_v61 (by decide) (by decide))).trans (Cert.VRefIdeal.Math.V_scales m' c),
     Cert.VRefIdeal.Value.kept_main_arg0 m' r h c, Cert.VRefIdeal.Value.kept_main_arg1 m' r h c, Cert.VRefIdeal.Value.kept_main_arg2 m' r h c, Cert.VRefIdeal.Value.kept_main_arg3 m' r h c, Cert.VRefIdeal.Value.kept_main_arg4 m' r h c, Cert.VRefIdeal.Value.kept_main_arg5 m' r h c, Cert.VRefIdeal.Value.kept_main_arg6 m' r h c, Cert.VRefIdeal.Value.kept_main_arg7 m' r h c⟩) (Cert.VRefIdeal.Gen.run_main m' ρ')

theorem algebraic : Cert.algebraic_VIdeal_VRefIdeal (hVIdeal := Cert.VIdeal.Gen.facts) (hVRefIdeal := Cert.VRefIdeal.Gen.facts) := by
  intro m ρ m' ρ' _ hag
  refine ⟨fun c => vCodes (m ((c.tc : Thread Cert.VIdeal.nD Cert.VIdeal.τ).loc Cert.VIdeal.main_arg0)) (m ((c.tc : Thread Cert.VIdeal.nD Cert.VIdeal.τ).loc Cert.VIdeal.main_arg1)) (m ((c.tc : Thread Cert.VIdeal.nD Cert.VIdeal.τ).loc Cert.VIdeal.main_arg2)) (m ((c.tc : Thread Cert.VIdeal.nD Cert.VIdeal.τ).loc Cert.VIdeal.main_arg3)) (m ((c.tc : Thread Cert.VIdeal.nD Cert.VIdeal.τ).loc Cert.VIdeal.main_arg4)) (m ((c.tc : Thread Cert.VIdeal.nD Cert.VIdeal.τ).loc Cert.VIdeal.main_arg5)) 0, fun c => vScales (m ((c.tc : Thread Cert.VIdeal.nD Cert.VIdeal.τ).loc Cert.VIdeal.main_arg0)) (m ((c.tc : Thread Cert.VIdeal.nD Cert.VIdeal.τ).loc Cert.VIdeal.main_arg1)) (m ((c.tc : Thread Cert.VIdeal.nD Cert.VIdeal.τ).loc Cert.VIdeal.main_arg2)) (m ((c.tc : Thread Cert.VIdeal.nD Cert.VIdeal.τ).loc Cert.VIdeal.main_arg3)) (m ((c.tc : Thread Cert.VIdeal.nD Cert.VIdeal.τ).loc Cert.VIdeal.main_arg4)) (m ((c.tc : Thread Cert.VIdeal.nD Cert.VIdeal.τ).loc Cert.VIdeal.main_arg5)) 0, ?_, ?_⟩
  · exact (θ_run Cert.VIdeal.defs _ _).mono
      (fun _ h c => ⟨(h c).1.trans (Cert.VIdeal.Block.final8 m c), (h c).2.1.trans (Cert.VIdeal.Block.final9 m c), (h c).2.2⟩) (Cert.VIdeal.Value.run_blocks m ρ)
  · refine (θ_run Cert.VRefIdeal.defs _ _).mono
      (fun _ h c => ⟨(h c).1.trans ?_, (h c).2.1.trans ?_, (h c).2.2⟩) (ref_run m' ρ')
    · rw [(hag c).1, (hag c).2.1, (hag c).2.2.1, (hag c).2.2.2.1, (hag c).2.2.2.2.1, (hag c).2.2.2.2.2.1]
    · rw [(hag c).1, (hag c).2.1, (hag c).2.2.1, (hag c).2.2.2.1, (hag c).2.2.2.2.1, (hag c).2.2.2.2.2.1]

end Cert.V.Claims
-- ==== Proof.VBBlock.lean ====
/-
  ONE GRID POINT of the value stage. A point holds 1280 columns (8 heads). It dequantises 256 columns at a time and multiplies,
  which fills the block `zBlk` of projections; then a loop over the four batches quantises each head.
-/
module

public import proofs.«01_k».proof.Proof.KvBlock
public import proofs.«01_k».proof.Proof.Gen.VBIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.VBIdeal.Block
open Cert.VBIdeal Cert.VBIdeal.Gen Cert.Weights Cert.QkvMath Cert.KvMath

section Payloads
variable (Z : FVec Ideal S384x1280 .f32)

/-- The numbers a trip works on: the columns of its rows. -/
def trow : ℕ → Fin 384 → EReal := plainRow (k0_pay5 (F := Ideal) Z)

theorem code0_at (d : Fin 160) (s : Fin 384) : k0_pay24 (F := Ideal) (k0_pay23 (F := Ideal) Z) (ix3 (0 : Fin 1) d s)
    = qcode (trow Z (160 * 0 + d.val) s) (hs (trow Z) 0) :=
  codeT_at _ _ (trow Z) 0 (fun d s => slice_row (k0_pay5 (F := Ideal) Z) 0 d s (by decide) (by decide))
    (fun d s => slice_row (k0_pay5 (F := Ideal) Z) 80 d s (by decide) (by decide)) d s

theorem code1_at (d : Fin 160) (s : Fin 384) : k0_pay27 (F := Ideal) (k0_pay8 (F := Ideal) Z) (k0_pay9 (F := Ideal) Z) (ix3 (0 : Fin 1) d s)
    = qcode (trow Z (160 * 1 + d.val) s) (hs (trow Z) 1) :=
  codeT_at _ _ (trow Z) 1 (fun d s => slice_row (k0_pay5 (F := Ideal) Z) 160 d s (by decide) (by decide))
    (fun d s => slice_row (k0_pay5 (F := Ideal) Z) 240 d s (by decide) (by decide)) d s

theorem code2_at (d : Fin 160) (s : Fin 384) : k0_pay32 (F := Ideal) (k0_pay10 (F := Ideal) Z) (k0_pay11 (F := Ideal) Z) (k0_pay29 (F := Ideal) (k0_pay10 (F := Ideal) Z) (k0_pay11 (F := Ideal) Z)) (k0_pay30 (F := Ideal) (k0_pay10 (F := Ideal) Z) (k0_pay11 (F := Ideal) Z)) (FloatOps.ofBits (F := Ideal) .f32 0x43E00000#32) (ix3 (0 : Fin 1) d s)
    = qcode (trow Z (160 * 2 + d.val) s) (hs (trow Z) 2) :=
  codeT_at _ _ (trow Z) 2 (fun d s => slice_row (k0_pay5 (F := Ideal) Z) 320 d s (by decide) (by decide))
    (fun d s => slice_row (k0_pay5 (F := Ideal) Z) 400 d s (by decide) (by decide)) d s

theorem code3_at (d : Fin 160) (s : Fin 384) : k0_pay36 (F := Ideal) (k0_pay35 (F := Ideal) (k0_pay12 (F := Ideal) Z) (k0_pay13 (F := Ideal) Z)) (ix3 (0 : Fin 1) d s)
    = qcode (trow Z (160 * 3 + d.val) s) (hs (trow Z) 3) :=
  codeT_at _ _ (trow Z) 3 (fun d s => slice_row (k0_pay5 (F := Ideal) Z) 480 d s (by decide) (by decide))
    (fun d s => slice_row (k0_pay5 (F := Ideal) Z) 560 d s (by decide) (by decide)) d s

theorem code4_at (d : Fin 160) (s : Fin 384) : k0_pay39 (F := Ideal) (k0_pay14 (F := Ideal) Z) (k0_pay15 (F := Ideal) Z) (ix3 (0 : Fin 1) d s)
    = qcode (trow Z (160 * 4 + d.val) s) (hs (trow Z) 4) :=
  codeT_at _ _ (trow Z) 4 (fun d s => slice_row (k0_pay5 (F := Ideal) Z) 640 d s (by decide) (by decide))
    (fun d s => slice_row (k0_pay5 (F := Ideal) Z) 720 d s (by decide) (by decide)) d s

theorem code5_at (d : Fin 160) (s : Fin 384) : k0_pay44 (F := Ideal) (k0_pay16 (F := Ideal) Z) (k0_pay17 (F := Ideal) Z) (k0_pay41 (F := Ideal) (k0_pay16 (F := Ideal) Z) (k0_pay17 (F := Ideal) Z)) (k0_pay42 (F := Ideal) (k0_pay16 (F := Ideal) Z) (k0_pay17 (F := Ideal) Z)) (FloatOps.ofBits (F := Ideal) .f32 0x43E00000#32) (ix3 (0 : Fin 1) d s)
    = qcode (trow Z (160 * 5 + d.val) s) (hs (trow Z) 5) :=
  codeT_at _ _ (trow Z) 5 (fun d s => slice_row (k0_pay5 (F := Ideal) Z) 800 d s (by decide) (by decide))
    (fun d s => slice_row (k0_pay5 (F := Ideal) Z) 880 d s (by decide) (by decide)) d s

theorem code6_at (d : Fin 160) (s : Fin 384) : k0_pay1 (F := Ideal) (k0_pay47 (F := Ideal) (k0_pay18 (F := Ideal) Z) (k0_pay19 (F := Ideal) Z)) (ix3 (0 : Fin 1) d s)
    = qcode (trow Z (160 * 6 + d.val) s) (hs (trow Z) 6) :=
  codeT_at _ _ (trow Z) 6 (fun d s => slice_row (k0_pay5 (F := Ideal) Z) 960 d s (by decide) (by decide))
    (fun d s => slice_row (k0_pay5 (F := Ideal) Z) 1040 d s (by decide) (by decide)) d s

theorem code7_at (d : Fin 160) (s : Fin 384) : k0_pay3 (F := Ideal) (k0_pay20 (F := Ideal) Z) (k0_pay21 (F := Ideal) Z) (ix3 (0 : Fin 1) d s)
    = qcode (trow Z (160 * 7 + d.val) s) (hs (trow Z) 7) :=
  codeT_at _ _ (trow Z) 7 (fun d s => slice_row (k0_pay5 (F := Ideal) Z) 1120 d s (by decide) (by decide))
    (fun d s => slice_row (k0_pay5 (F := Ideal) Z) 1200 d s (by decide) (by decide)) d s

/-- The stack of a trip's eight scales. -/
theorem scale_at (j : Fin 8) (l : Fin 128) : k0_pay4 (F := Ideal) (k0_pay20 (F := Ideal) Z) (k0_pay21 (F := Ideal) Z) (k0_pay25 (F := Ideal) (k0_pay22 (F := Ideal) Z)) (k0_pay28 (F := Ideal) (k0_pay8 (F := Ideal) Z) (k0_pay9 (F := Ideal) Z)) (k0_pay33 (F := Ideal) (k0_pay29 (F := Ideal) (k0_pay10 (F := Ideal) Z) (k0_pay11 (F := Ideal) Z)) (k0_pay30 (F := Ideal) (k0_pay10 (F := Ideal) Z) (k0_pay11 (F := Ideal) Z)) (FloatOps.ofBits (F := Ideal) .f32 0x43E00000#32)) (k0_pay37 (F := Ideal) (k0_pay34 (F := Ideal) (k0_pay12 (F := Ideal) Z) (k0_pay13 (F := Ideal) Z))) (k0_pay40 (F := Ideal) (k0_pay14 (F := Ideal) Z) (k0_pay15 (F := Ideal) Z)) (k0_pay45 (F := Ideal) (k0_pay41 (F := Ideal) (k0_pay16 (F := Ideal) Z) (k0_pay17 (F := Ideal) Z)) (k0_pay42 (F := Ideal) (k0_pay16 (F := Ideal) Z) (k0_pay17 (F := Ideal) Z)) (FloatOps.ofBits (F := Ideal) .f32 0x43E00000#32)) (k0_pay46 (F := Ideal) (k0_pay18 (F := Ideal) Z) (k0_pay19 (F := Ideal) Z)) (ix3 (0 : Fin 1) j l) = hs (trow Z) j.val := by
  unfold k0_pay4
  refine (flat_at _ _ j l).trans ?_
  refine stack_at (R := 1) (M := 8) (fun c (_ : Fin 128) => hs (trow Z) c) _ _ [_, _, _, _, _, _] _ ?_ j l
  exact ⟨fun o l => row_at _ _ (trow Z) 0 (fun d s => slice_row (k0_pay5 (F := Ideal) Z) 0 d s (by decide) (by decide))
      (fun d s => slice_row (k0_pay5 (F := Ideal) Z) 80 d s (by decide) (by decide)) (by decide) (by decide) o l,
    fun o l => row_at _ _ (trow Z) 1 (fun d s => slice_row (k0_pay5 (F := Ideal) Z) 160 d s (by decide) (by decide))
      (fun d s => slice_row (k0_pay5 (F := Ideal) Z) 240 d s (by decide) (by decide)) (by decide) (by decide) o l,
    fun o l => row_at _ _ (trow Z) 2 (fun d s => slice_row (k0_pay5 (F := Ideal) Z) 320 d s (by decide) (by decide))
      (fun d s => slice_row (k0_pay5 (F := Ideal) Z) 400 d s (by decide) (by decide)) (by decide) (by decide) o l,
    fun o l => row_at _ _ (trow Z) 3 (fun d s => slice_row (k0_pay5 (F := Ideal) Z) 480 d s (by decide) (by decide))
      (fun d s => slice_row (k0_pay5 (F := Ideal) Z) 560 d s (by decide) (by decide)) (by decide) (by decide) o l,
    fun o l => row_at _ _ (trow Z) 4 (fun d s => slice_row (k0_pay5 (F := Ideal) Z) 640 d s (by decide) (by decide))
      (fun d s => slice_row (k0_pay5 (F := Ideal) Z) 720 d s (by decide) (by decide)) (by decide) (by decide) o l,
    fun o l => row_at _ _ (trow Z) 5 (fun d s => slice_row (k0_pay5 (F := Ideal) Z) 800 d s (by decide) (by decide))
      (fun d s => slice_row (k0_pay5 (F := Ideal) Z) 880 d s (by decide) (by decide)) (by decide) (by decide) o l,
    fun o l => row_at _ _ (trow Z) 6 (fun d s => slice_row (k0_pay5 (F := Ideal) Z) 960 d s (by decide) (by decide))
      (fun d s => slice_row (k0_pay5 (F := Ideal) Z) 1040 d s (by decide) (by decide)) (by decide) (by decide) o l,
    fun o l => row_at _ _ (trow Z) 7 (fun d s => slice_row (k0_pay5 (F := Ideal) Z) 1120 d s (by decide) (by decide))
      (fun d s => slice_row (k0_pay5 (F := Ideal) Z) 1200 d s (by decide) (by decide)) (by decide) (by decide) o l, trivial⟩

end Payloads

/-- Trip `k` of the loop is batch `k`. -/
theorem trips_eq : k0_t1_loop.trips = 4 := by decide +kernel
theorem off1_eq : ∀ k : Fin k0_t1_loop.trips, k0_off1 k = ![384 * k.val, 0] := by decide +kernel
theorem off2_eq : ∀ k : Fin k0_t1_loop.trips, k0_off2 k = ![k.val, 160 * 0, 0] := by decide +kernel
theorem off3_eq : ∀ k : Fin k0_t1_loop.trips, k0_off3 k = ![k.val, 160 * 1, 0] := by decide +kernel
theorem off4_eq : ∀ k : Fin k0_t1_loop.trips, k0_off4 k = ![k.val, 160 * 2, 0] := by decide +kernel
theorem off5_eq : ∀ k : Fin k0_t1_loop.trips, k0_off5 k = ![k.val, 160 * 3, 0] := by decide +kernel
theorem off6_eq : ∀ k : Fin k0_t1_loop.trips, k0_off6 k = ![k.val, 160 * 4, 0] := by decide +kernel
theorem off7_eq : ∀ k : Fin k0_t1_loop.trips, k0_off7 k = ![k.val, 160 * 5, 0] := by decide +kernel
theorem off8_eq : ∀ k : Fin k0_t1_loop.trips, k0_off8 k = ![k.val, 160 * 6, 0] := by decide +kernel
theorem off9_eq : ∀ k : Fin k0_t1_loop.trips, k0_off9 k = ![k.val, 160 * 7, 0] := by decide +kernel
theorem off10_eq : ∀ k : Fin k0_t1_loop.trips, k0_off10 k = ![k.val, 0, 0] := by decide +kernel

section Trip
variable (A : FVec Ideal S1536x1280 .f32) (k : Fin k0_t1_loop.trips)

theorem acc_at (inb) (c : Fin 1280) (s : Fin 384) (i : Fin 1536) (h : i.val = 384 * k.val + s.val) :
    k0_pay5 (F := Ideal) (View.ld (Val := Elt Ideal) (e' := .f32) A (Rect.unit (s := S1536x1280) (k0_off1 k) S384x1280.size inb)) (ix2 c s) = A (ix2 i c) := by
  have e : ∀ v : FVec Ideal S384x1280 .f32, k0_pay5 (F := Ideal) v (ix2 c s) = v (ix2 s c) := fun v => by pointwise [k0_pay5]
  rw [e]
  refine congrArg A (funext fun a => Fin.ext ?_)
  have o := off1_eq k
  match a with
  | ⟨0, _⟩ => show k0_off1 k 0 + 1 * s.val = i.val; rw [o]; show 384 * k.val + 1 * s.val = i.val; omega
  | ⟨1, _⟩ => show k0_off1 k 1 + 1 * c.val = c.val; rw [o]; show 0 + 1 * c.val = c.val; omega

/-- The numbers trip `k` works on are the columns of batch `k`. -/
theorem trow_eq (i3) (b : Fin 4) (h : b.val = k.val) :
    trow (View.ld (Val := Elt Ideal) (e' := .f32) A (Rect.unit (s := S1536x1280) (k0_off1 k) S384x1280.size i3)) = vRow A b := by
  funext c s
  unfold trow plainRow vRow
  rw [funext fun c => acc_at A k i3 c s (pos b s) (by show 384 * b.val + s.val = _; omega)]

end Trip

section Loop
variable (𝒱 : Variants) (c : Dev nD) (bd : Option 𝒱.V) (i : grid0.Coords) (arg1 : Memref sig .tc .vmem S1536x5120 .bf16) (harg1 : arg1.IsWhole) (arg2 : Memref sig .tc .vmem S1536x128 .f32) (harg2 : arg2.IsWhole) (arg3 : Memref sig .tc .vmem S1536x128 .bf16) (harg3 : arg3.IsWhole) (arg4 : Memref sig .tc .vmem S2560x1280 .i8) (harg4 : arg4.IsWhole) (arg5 : Memref sig .tc .vmem S40x1280 .f32) (harg5 : arg5.IsWhole) (arg6 : Memref sig .tc .vmem S1x1x128x1280 .bf16) (harg6 : arg6.IsWhole) (arg7 : Memref sig .tc .vmem S4x80x384 .f32) (harg7 : arg7.IsWhole) (arg8 : Memref sig .tc .vmem S4x80x384 .f32) (harg8 : arg8.IsWhole) (arg9 : Memref sig .tc .vmem S4x1280x384 .fp8e4m3) (harg9 : arg9.IsWhole) (arg10 : Memref sig .tc .vmem S4x8x128 .f32) (harg10 : arg10.IsWhole) (arg11 : Memref sig .tc .vmem S5120x256 .bf16) (harg11 : arg11.IsWhole) (arg12 : Memref sig .tc .vmem S5120x256 .bf16) (harg12 : arg12.IsWhole) (arg13 : Memref sig .tc .vmem S1536x1280 .f32) (harg13 : arg13.IsWhole) (c0_i32 : BitVec 32) (c1_i32 : BitVec 32) (X_arg13 : BufTy.Contents (Elt Ideal) arg13.view.ty)

theorem trip_pieces (k : Fin k0_t1_loop.trips) :
    View.PiecesOf (codesOf (vRow (arg13.view.read (Elt Ideal) X_arg13))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 k).1
    ∧ View.PiecesOf (scalesOf (vRow (arg13.view.read (Elt Ideal) X_arg13))) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 k).2 := by
  unfold tripL_k0_t1 trip_k0_t1
  frame_out
  refine ⟨⟨fun x => ?_, fun x => ?_, fun x => ?_, fun x => ?_, fun x => ?_, fun x => ?_, fun x => ?_, fun x => ?_, trivial⟩, fun x => ?_, trivial⟩
  · exact code_piece _ (⟨k.val, lt_of_lt_of_eq k.isLt trips_eq⟩ : Fin 4) _ (trow_eq _ k _ _ rfl) 7 _ (fun d s => code7_at _ d s) _ (off9_eq k) (code_inb _ 7 (by decide) _ (off9_eq k)) x
  · exact code_piece _ (⟨k.val, lt_of_lt_of_eq k.isLt trips_eq⟩ : Fin 4) _ (trow_eq _ k _ _ rfl) 6 _ (fun d s => code6_at _ d s) _ (off8_eq k) (code_inb _ 6 (by decide) _ (off8_eq k)) x
  · exact code_piece _ (⟨k.val, lt_of_lt_of_eq k.isLt trips_eq⟩ : Fin 4) _ (trow_eq _ k _ _ rfl) 5 _ (fun d s => code5_at _ d s) _ (off7_eq k) (code_inb _ 5 (by decide) _ (off7_eq k)) x
  · exact code_piece _ (⟨k.val, lt_of_lt_of_eq k.isLt trips_eq⟩ : Fin 4) _ (trow_eq _ k _ _ rfl) 4 _ (fun d s => code4_at _ d s) _ (off6_eq k) (code_inb _ 4 (by decide) _ (off6_eq k)) x
  · exact code_piece _ (⟨k.val, lt_of_lt_of_eq k.isLt trips_eq⟩ : Fin 4) _ (trow_eq _ k _ _ rfl) 3 _ (fun d s => code3_at _ d s) _ (off5_eq k) (code_inb _ 3 (by decide) _ (off5_eq k)) x
  · exact code_piece _ (⟨k.val, lt_of_lt_of_eq k.isLt trips_eq⟩ : Fin 4) _ (trow_eq _ k _ _ rfl) 2 _ (fun d s => code2_at _ d s) _ (off4_eq k) (code_inb _ 2 (by decide) _ (off4_eq k)) x
  · exact code_piece _ (⟨k.val, lt_of_lt_of_eq k.isLt trips_eq⟩ : Fin 4) _ (trow_eq _ k _ _ rfl) 1 _ (fun d s => code1_at _ d s) _ (off3_eq k) (code_inb _ 1 (by decide) _ (off3_eq k)) x
  · exact code_piece _ (⟨k.val, lt_of_lt_of_eq k.isLt trips_eq⟩ : Fin 4) _ (trow_eq _ k _ _ rfl) 0 _ (fun d s => code0_at _ d s) _ (off2_eq k) (code_inb _ 0 (by decide) _ (off2_eq k)) x
  · exact scale_piece _ (⟨k.val, lt_of_lt_of_eq k.isLt trips_eq⟩ : Fin 4) _ (trow_eq _ k _ _ rfl) _ (fun j l => scale_at _ j l) _ (off10_eq k) (scale_inb _ _ (off10_eq k)) x

theorem loop_pieces : ∀ n : ℕ, n ≤ k0_t1_loop.trips →
    View.PiecesOf (codesOf (vRow (arg13.view.read (Elt Ideal) X_arg13))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 n).1
    ∧ View.PiecesOf (scalesOf (vRow (arg13.view.read (Elt Ideal) X_arg13))) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 n).2
  | 0, _ => ⟨trivial, trivial⟩
  | n + 1, h => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 ⟨n, h⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 (n + 1) = _ from e]
    have p := trip_pieces 𝒱 c bd i arg1 harg1 arg2 harg2 arg3 harg3 arg4 harg4 arg5 harg5 arg6 harg6 arg7 harg7 arg8 harg8 arg9 harg9 arg10 harg10 arg11 harg11 arg12 harg12 arg13 harg13 c0_i32 c1_i32 X_arg13 ⟨n, h⟩
    have q := loop_pieces n (by omega)
    exact ⟨piecesOf_append _ _ _ p.1 q.1, piecesOf_append _ _ _ p.2 q.2⟩

end Loop

section Payloads
variable (X : FVec Ideal S1536x5120 .bf16) (W : FVec Ideal S5120x256 .bf16) (R : FVec Ideal S1536x128 .bf16)
  (L : FVec Ideal S1x1x128x256 .bf16) (v : FVec Ideal S1536x1 .f32) (i : Fin 1536) (c : Fin 256)

theorem chunk1024_at : k0_pay466 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay466]

theorem chunk768_at : k0_pay382 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay382]

theorem chunk512_at : k0_pay299 (F := Ideal) X W R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay299]

theorem chunk256_at : k0_pay216 (F := Ideal) (k0_pay215 X W) R L v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay216, k0_pay215]

theorem chunk0_at : k0_pay132 (F := Ideal) (k0_pay130 X W) (k0_pay131 R L) v (ix2 i c)
    = (∑ k : Fin 5120, X (ix2 i k) * W (ix2 k c)) * v (ix2 i (0 : Fin 1)) + ∑ k : Fin 128, R (ix2 i k) * L (ix4 (0 : Fin 1) (0 : Fin 1) k c) := by
  pointwise [k0_pay132, k0_pay130, k0_pay131]

end Payloads

variable (m : (ℓ : Loc nD τ sig) → Buf (Elt Ideal) ℓ)

set_option maxHeartbeats 2000000 in
/-- What a point stores are the codes and the scales of one block of projections, which is `zBlk` of the blocks it reads. -/
theorem outs_at (c : Dev nD) (t : Fin cfg0.N) : ∃ A : FVec Ideal S1536x1280 .f32, A = zBlk (iblk m c 0 t) (iblk m c 1 t) (iblk m c 2 t) (iblk m c 3 t) (iblk m c 4 t) (iblk m c 5 t)
    ∧ (∀ y, (outsAt0 m c t).1 y = codesOf (vRow A) y) ∧ ∀ y, (outsAt0 m c t).2 y = scalesOf (vRow A) y := by
  apply Exists.intro
  refine ⟨?z, fun y => ?e8, fun y => ?e9⟩
  case e8 =>
    unfold outsAt0
    show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_8
    have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ le_rfl).1 hc y).trans ?_
    clear hc
    frame_out
    exact congrArg (fun A => codesOf (vRow A) y) rfl
  case e9 =>
    unfold outsAt0
    show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) y = _
    unfold out0_A_9
    have hc := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t)
    revert hc
    unfold kernelRun0_A
    intro hc
    rw [View.read_writes_eq_canon _ _ _ hc]
    refine (canon_tile _ _ (loop_pieces _ _ _ _ _ _ _ _ _ _ _ _ _ _ _ _ _ _ _ _ _ _ _ _ _ _ _ _ _ _ _ _ _ _ le_rfl).2 hc y).trans ?_
    clear hc
    frame_out
  refine funext fun y => ?_
  refine canon_tile (Val := Elt Ideal) (e := .f32) _ (zBlk (iblk m c 0 t) (iblk m c 1 t) (iblk m c 2 t) (iblk m c 3 t) (iblk m c 4 t) (iblk m c 5 t)) ?_
    (View.cover_of_tiledL _ ![1536, 256] (by sl_kernel_rfl)) y
  refine ⟨fun x => ?_, fun x => ?_, fun x => ?_, fun x => ?_, fun x => ?_, trivial⟩
  · refine chunk_at _ _ _ _ _ _ 1024 (by decide) _ _ _ _ (fun i c => chunk1024_at _ _ _ _ _ i c) ?_ inb_S1536x1280_S1536x256_0_1024 x
    refine read_tile _ 40 _ _ _ (by decide) ?_ (View.cover_of_tiledL _ ![128, 256] (by sl_kernel_rfl))
    simp only [List.take_succ_cons, List.take_zero, View.PiecesOf, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 768 (by decide) _ _ _ _ (fun i c => chunk768_at _ _ _ _ _ i c) ?_ inb_S1536x1280_S1536x256_0_768 x
    refine read_tile _ 40 _ _ _ (by decide) ?_ (View.cover_of_tiledL _ ![128, 256] (by sl_kernel_rfl))
    simp only [List.take_succ_cons, List.take_zero, View.PiecesOf, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 512 (by decide) _ _ _ _ (fun i c => chunk512_at _ _ _ _ _ i c) ?_ inb_S1536x1280_S1536x256_0_512 x
    refine read_tile _ 40 _ _ _ (by decide) ?_ (View.cover_of_tiledL _ ![128, 256] (by sl_kernel_rfl))
    simp only [List.take_succ_cons, List.take_zero, View.PiecesOf, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 256 (by decide) _ _ _ _ (fun i c => chunk256_at _ _ _ _ _ i c) ?_ inb_S1536x1280_S1536x256_0_256 x
    refine read_tile _ 40 _ _ _ (by decide) ?_ (View.cover_of_tiledL _ ![128, 256] (by sl_kernel_rfl))
    simp only [List.take_succ_cons, List.take_zero, View.PiecesOf, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial
  · refine chunk_at _ _ _ _ _ _ 0 (by decide) _ _ _ _ (fun i c => chunk0_at _ _ _ _ _ i c) ?_ inb_S1536x1280_S1536x256_0_0 x
    refine read_tile _ 40 _ _ _ (by decide) ?_ (View.cover_of_tiledL _ ![128, 256] (by sl_kernel_rfl))
    simp only [List.take_succ_cons, List.take_zero, View.PiecesOf, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129]
    iterate 20 refine ⟨fun x => hi_piece (H := 2560) (G := 40) (K := 5120) (N := 1280) (n := 256) (r := 32) _ _ _ _ _ _ _ _ _ (by rfl) (by decide) (by rfl) (by rfl) _ _ _ _ _ _ _ _ x,
      fun x => lo_piece (H := 2560) (G := 40) (K := 5120) (N := 1280) (n := 256) (r := 32) _ _ _ _ _ _ _ _ (by rfl) (by decide) (by rfl) _ _ _ _ _ _ _ _ x, ?_⟩
    exact trivial

/-- The codes a point stores, over the blocks it reads. -/
theorem out8_at (c : Dev nD) (t : Fin cfg0.N) (y : S4x1280x384.Idx) : (outsAt0 m c t).1 y
    = codesOf (vRow (zBlk (iblk m c 0 t) (iblk m c 1 t) (iblk m c 2 t) (iblk m c 3 t) (iblk m c 4 t) (iblk m c 5 t))) y := by
  obtain ⟨A, e, h, -⟩ := outs_at m c t
  exact (h y).trans (e ▸ rfl)

/-- The scales a point stores, over the blocks it reads. -/
theorem out9_at (c : Dev nD) (t : Fin cfg0.N) (y : S4x8x128.Idx) : (outsAt0 m c t).2 y
    = scalesOf (vRow (zBlk (iblk m c 0 t) (iblk m c 1 t) (iblk m c 2 t) (iblk m c 3 t) (iblk m c 4 t) (iblk m c 5 t))) y := by
  obtain ⟨A, e, -, h⟩ := outs_at m c t
  exact (h y).trans (e ▸ rfl)

end Cert.VBIdeal.Block
-- ==== Proof.VBVal.lean ====
/-
  THE VALUE KERNEL'S RESULTS. Point `t` of the four stores the codes of columns `1280 t … 1280 t + 1279` and the scales of heads `8 t … 8 t + 7`.
-/
module

public import proofs.«01_k».proof.Proof.VBBlock
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.VBIdeal.Block
open Cert.VBIdeal Cert.VBIdeal.Gen Cert.Weights Cert.QkvMath Cert.KvMath

variable (m : (ℓ : Loc nD τ sig) → Buf (Elt Ideal) ℓ)

theorem idx : ∀ t : Fin cfg0.N, win0_0.index t = ![0, 0] ∧ win0_1.index t = ![0, 0] ∧ win0_2.index t = ![0, 2]
    ∧ win0_3.index t = ![0, 8 + t.val] ∧ win0_4.index t = ![0, 8 + t.val] ∧ win0_5.index t = ![1, 2, 0, t.val] ∧ win0_6.index t = ![0, 0, 0] ∧ win0_7.index t = ![0, 0, 0] ∧ win0_8.index t = ![0, t.val, 0] ∧ win0_9.index t = ![0, t.val, 0] :=
  (by decide +kernel : ∀ t : Fin grid0.N, _)

theorem lt4 (t : Fin cfg0.N) : t.val < 4 := lt_of_lt_of_eq t.isLt N_0

section Reads
variable (c : Dev nD) (t : Fin cfg0.N)

theorem read0 : iblk m c 0 t = m ((c : Thread nD τ).loc main_arg0) := funext fun y => by
  have h : ∀ (i : Fin 1536) (k : Fin 5120), iblk m c 0 t (ix2 i k) = m ((c : Thread nD τ).loc main_arg0) (ix2 i k) := fun i k => by blk_ext [iblk, V, idx t]
  rw [ValueIdx.eq_ix2 y]; exact h _ _
theorem read1 : iblk m c 1 t = m ((c : Thread nD τ).loc main_arg1) := funext fun y => by
  have h : ∀ (i : Fin 1536) (k : Fin 128), iblk m c 1 t (ix2 i k) = m ((c : Thread nD τ).loc main_arg1) (ix2 i k) := fun i k => by blk_ext [iblk, V, idx t]
  rw [ValueIdx.eq_ix2 y]; exact h _ _
theorem read2 (i : Fin 1536) (k : Fin 128) (k' : Fin 384) (h : k'.val = 2 * 128 + k.val) :
    iblk m c 2 t (ix2 i k) = m ((c : Thread nD τ).loc main_arg2) (ix2 i k') := by
  blk_ext [iblk, V, idx t]
theorem read3 (k : Fin 2560) (n : Fin 1280) (n' : Fin 15360) (h : n'.val = (8 + t.val) * 1280 + n.val) :
    iblk m c 3 t (ix2 k n) = m ((c : Thread nD τ).loc main_arg3) (ix2 k n') := by
  blk_ext [iblk, V, idx t]
theorem read4 (k : Fin 40) (n : Fin 1280) (n' : Fin 15360) (h : n'.val = (8 + t.val) * 1280 + n.val) :
    iblk m c 4 t (ix2 k n) = m ((c : Thread nD τ).loc main_arg4) (ix2 k n') := by
  blk_ext [iblk, V, idx t]
theorem read5 (k : Fin 128) (n : Fin 1280) (n' : Fin 5120) (h : n'.val = t.val * 1280 + n.val) :
    iblk m c 5 t (ix4 (0 : Fin 1) (0 : Fin 1) k n) = m ((c : Thread nD τ).loc main_arg5) (ix4 (1 : Fin 2) (2 : Fin 3) k n') := by
  blk_ext [iblk, V, idx t]
theorem read6 : iblk m c 6 t = m ((c : Thread nD τ).loc main_arg6) := funext fun y => by
  have h : ∀ (b : Fin 4) (d : Fin 80) (s : Fin 384), iblk m c 6 t (ix3 b d s) = m ((c : Thread nD τ).loc main_arg6) (ix3 b d s) := fun b d s => by blk_ext [iblk, V, idx t]
  rw [ValueIdx.eq_ix3 y]; exact h _ _ _
theorem read7 : iblk m c 7 t = m ((c : Thread nD τ).loc main_arg7) := funext fun y => by
  have h : ∀ (b : Fin 4) (d : Fin 80) (s : Fin 384), iblk m c 7 t (ix3 b d s) = m ((c : Thread nD τ).loc main_arg7) (ix3 b d s) := fun b d s => by blk_ext [iblk, V, idx t]
  rw [ValueIdx.eq_ix3 y]; exact h _ _ _

/-- The point's projections are the columns from `1280 t` on of `Z`. -/
theorem z_at (i : Fin 1536) (n : Fin 1280) (f : Fin 5120) (h : f.val = t.val * 1280 + n.val) :
    zBlk (iblk m c 0 t) (iblk m c 1 t) (iblk m c 2 t) (iblk m c 3 t) (iblk m c 4 t) (iblk m c 5 t) (ix2 i n) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 2 1 i f := by
  rw [read0 m c t, read1 m c t]
  refine proj_congr _ _ _ _ _ _ _ _ _ _ _ (fun k => read2 m c t i k _ rfl) (fun k => deq_congr _ _ _ _ _ _ _ _ _ (fun k => read3 m c t k n _ ?_) fun g => read4 m c t g n _ ?_)
    fun k => read5 m c t k n _ h
  · show 2 * 5120 + f.val = _; omega
  · show 2 * 5120 + f.val = _; omega

theorem z_shift (i : Fin 1536) (n : ℕ) (h1 : n < 1280) (e : ℕ) (_ : e < n + 160) (_ : n < e + 160) (h2 : e / 160 = n / 160) :
    ext (fun n => zBlk (iblk m c 0 t) (iblk m c 1 t) (iblk m c 2 t) (iblk m c 3 t) (iblk m c 4 t) (iblk m c 5 t) (ix2 i n)) e
      = ext (Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 2 1 i) (t.val * 1280 + e) := by
  have ht := lt4 t
  have he : e < 1280 := by omega
  rw [ext_of _ e ⟨e, he⟩ rfl, ext_of _ (t.val * 1280 + e) ⟨t.val * 1280 + e, by omega⟩ rfl]
  exact z_at m c t i _ _ rfl

end Reads

/-- The point's numbers are the columns from `1280 t` on. -/
theorem num_shift (c : Dev nD) (t : Fin cfg0.N) (b : Fin 4) (n : ℕ) (s : Fin 384) (hn : n < 1280) :
    vRow (zBlk (iblk m c 0 t) (iblk m c 1 t) (iblk m c 2 t) (iblk m c 3 t) (iblk m c 4 t) (iblk m c 5 t)) b n s = vNum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 b (t.val * 1280 + n) s := by
  exact z_shift m c t (pos b s) n hn n (by omega) (by omega) rfl

/-- The codes. -/
theorem final8 (c : Dev nD) : (dats m 0 c).arrAt 8 cfg0.N = vCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 := by
  refine (dats m 0 c).arrAt_eq_of_covers 8 _ (by decide +kernel) fun t hf y => ?_
  blk_simp
  rw [after0_8]
  have ht := lt4 t
  have h1 : (y 1).val < 1280 := (y 1).isLt
  have e : (win0_8.blk t).view.emb y = ix3 (y 0) ⟨t.val * 1280 + (y 1).val, by omega⟩ (y 2) := by blk_ext [idx t]
  rw [e]
  refine (out8_at m c t y).trans ((congrArg _ (ValueIdx.eq_ix3 (n0 := 4) (n1 := 1280) (n2 := 384) y)).trans ?_)
  exact codes_block _ _ t.val ht (fun b n s hn => num_shift m c t b n s hn) (y 0) (y 1) (y 2)

/-- The scales. -/
theorem final9 (c : Dev nD) : (dats m 0 c).arrAt 9 cfg0.N = vScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 := by
  refine (dats m 0 c).arrAt_eq_of_covers 9 _ (by decide +kernel) fun t hf y => ?_
  blk_simp
  rw [after0_9]
  have ht := lt4 t
  have h1 : (y 1).val < 8 := (y 1).isLt
  have e : (win0_9.blk t).view.emb y = ix3 (y 0) ⟨t.val * 8 + (y 1).val, by omega⟩ (y 2) := by blk_ext [idx t]
  rw [e]
  refine (out9_at m c t y).trans ((congrArg _ (ValueIdx.eq_ix3 (n0 := 4) (n1 := 8) (n2 := 128) y)).trans ?_)
  exact scales_block _ _ t.val ht (fun b n s hn => num_shift m c t b n s hn) (y 0) (y 1) (y 2)

end Cert.VBIdeal.Block
-- ==== Proof.VBRefRun.lean ====
/-
  WHAT THE VALUE REFERENCE COMPUTES ON THE HOST. `val_b` is the contents of buffer `b` as a function of the arguments, up to the
  projected rows `main_v45`; from there on the host arrays are the expressions of `KvRefMath`.
-/
module

public import proofs.«01_k».proof.Proof.KvRefMath
public import proofs.«01_k».proof.Proof.Gen.VBRefIdeal.Value

@[expose] public section

set_option maxRecDepth 16384

noncomputable section

open Idealize.ShloMosaic Idealize.ShloMosaic.TcCoe Idealize.SL.Sem

namespace Cert.VBRefIdeal.Math
open Cert.VBRefIdeal Cert.VBRefIdeal.Gen Cert.Weights Cert.QkvMath Cert.KvMath Cert.KvRefMath

section Stages
variable {F : FTy → Type} [FloatOps F]

def val_main_v0 (x3 : (⟨S2560x15360, .i8⟩ : BufTy).Contents (Elt F)) : (⟨S2560x5120, .i8⟩ : BufTy).Contents (Elt F) :=
  extractStridedSlice S2560x5120 ![0, 10240] x3 slices_S2560x15360_S2560x5120_0_10240
def val_main_v1 (x4 : (⟨S40x15360, .f32⟩ : BufTy).Contents (Elt F)) : (⟨S40x5120, .f32⟩ : BufTy).Contents (Elt F) :=
  extractStridedSlice S40x5120 ![0, 10240] x4 slices_S40x15360_S40x5120_0_10240
def val_main_v2 (x3 : (⟨S2560x15360, .i8⟩ : BufTy).Contents (Elt F)) : (⟨S2560x5120, .i32⟩ : BufTy).Contents (Elt F) :=
  extui 32 (val_main_v0 (F := F) x3) natLt_8_32
def val_main_c : (⟨S_, .i32⟩ : BufTy).Contents (Elt F) :=
  constantI S_ 32 15#32
def val_main_v3 : (⟨S2560x5120, .i32⟩ : BufTy).Contents (Elt F) :=
  broadcastInDim S2560x5120 ![] bcast_S_S2560x5120 (val_main_c (F := F))
def val_main_v4 (x3 : (⟨S2560x15360, .i8⟩ : BufTy).Contents (Elt F)) : (⟨S2560x5120, .i32⟩ : BufTy).Contents (Elt F) :=
  andi (val_main_v2 (F := F) x3) (val_main_v3 (F := F))
def val_main_c_0 : (⟨S_, .i32⟩ : BufTy).Contents (Elt F) :=
  constantI S_ 32 4#32
def val_main_v5 : (⟨S2560x5120, .i32⟩ : BufTy).Contents (Elt F) :=
  broadcastInDim S2560x5120 ![] bcast_S_S2560x5120 (val_main_c_0 (F := F))
def val_main_v6 (x3 : (⟨S2560x15360, .i8⟩ : BufTy).Contents (Elt F)) : (⟨S2560x5120, .i32⟩ : BufTy).Contents (Elt F) :=
  Host.shrsi (val_main_v2 (F := F) x3) (val_main_v5 (F := F))
def val_main_c_1 : (⟨S_, .i32⟩ : BufTy).Contents (Elt F) :=
  constantI S_ 32 8#32
def val_main_v7 : (⟨S2560x5120, .i32⟩ : BufTy).Contents (Elt F) :=
  broadcastInDim S2560x5120 ![] bcast_S_S2560x5120 (val_main_c_1 (F := F))
def val_main_v8 (x3 : (⟨S2560x15360, .i8⟩ : BufTy).Contents (Elt F)) : (⟨S2560x5120, .i1⟩ : BufTy).Contents (Elt F) :=
  cmpi .sge (val_main_v4 (F := F) x3) (val_main_v7 (F := F))
def val_main_c_2 : (⟨S_, .i32⟩ : BufTy).Contents (Elt F) :=
  constantI S_ 32 16#32
def val_main_v9 : (⟨S2560x5120, .i32⟩ : BufTy).Contents (Elt F) :=
  broadcastInDim S2560x5120 ![] bcast_S_S2560x5120 (val_main_c_2 (F := F))
def val_main_v10 (x3 : (⟨S2560x15360, .i8⟩ : BufTy).Contents (Elt F)) : (⟨S2560x5120, .i32⟩ : BufTy).Contents (Elt F) :=
  subi (val_main_v4 (F := F) x3) (val_main_v9 (F := F))
def val_main_v11 (x3 : (⟨S2560x15360, .i8⟩ : BufTy).Contents (Elt F)) : (⟨S2560x5120, .i32⟩ : BufTy).Contents (Elt F) :=
  select (val_main_v8 (F := F) x3) (val_main_v10 (F := F) x3) (val_main_v4 (F := F) x3)
def val_main_c_3 : (⟨S_, .i32⟩ : BufTy).Contents (Elt F) :=
  constantI S_ 32 8#32
def val_main_v12 : (⟨S2560x5120, .i32⟩ : BufTy).Contents (Elt F) :=
  broadcastInDim S2560x5120 ![] bcast_S_S2560x5120 (val_main_c_3 (F := F))
def val_main_v13 (x3 : (⟨S2560x15360, .i8⟩ : BufTy).Contents (Elt F)) : (⟨S2560x5120, .i1⟩ : BufTy).Contents (Elt F) :=
  cmpi .sge (val_main_v6 (F := F) x3) (val_main_v12 (F := F))
def val_main_c_4 : (⟨S_, .i32⟩ : BufTy).Contents (Elt F) :=
  constantI S_ 32 16#32
def val_main_v14 : (⟨S2560x5120, .i32⟩ : BufTy).Contents (Elt F) :=
  broadcastInDim S2560x5120 ![] bcast_S_S2560x5120 (val_main_c_4 (F := F))
def val_main_v15 (x3 : (⟨S2560x15360, .i8⟩ : BufTy).Contents (Elt F)) : (⟨S2560x5120, .i32⟩ : BufTy).Contents (Elt F) :=
  subi (val_main_v6 (F := F) x3) (val_main_v14 (F := F))
def val_main_v16 (x3 : (⟨S2560x15360, .i8⟩ : BufTy).Contents (Elt F)) : (⟨S2560x5120, .i32⟩ : BufTy).Contents (Elt F) :=
  select (val_main_v13 (F := F) x3) (val_main_v15 (F := F) x3) (val_main_v6 (F := F) x3)
def val_main_v17 (x3 : (⟨S2560x15360, .i8⟩ : BufTy).Contents (Elt F)) : (⟨S2560x5120, .bf16⟩ : BufTy).Contents (Elt F) :=
  sitofp .bf16 (val_main_v11 (F := F) x3)
def val_main_v18 (x3 : (⟨S2560x15360, .i8⟩ : BufTy).Contents (Elt F)) : (⟨S2560x5120, .bf16⟩ : BufTy).Contents (Elt F) :=
  sitofp .bf16 (val_main_v16 (F := F) x3)
def val_main_v19 (x4 : (⟨S40x15360, .f32⟩ : BufTy).Contents (Elt F)) : (⟨S20x5120, .f32⟩ : BufTy).Contents (Elt F) :=
  extractStridedSlice S20x5120 ![0, 0] (val_main_v1 (F := F) x4) slices_S40x5120_S20x5120_0_0
def val_main_v20 (x3 : (⟨S2560x15360, .i8⟩ : BufTy).Contents (Elt F)) : (⟨S20x128x5120, .bf16⟩ : BufTy).Contents (Elt F) :=
  shapeCast _ (val_main_v17 (F := F) x3) shapeCasts_S2560x5120_S20x128x5120
def val_main_v21 (x4 : (⟨S40x15360, .f32⟩ : BufTy).Contents (Elt F)) : (⟨S20x5120, .bf16⟩ : BufTy).Contents (Elt F) :=
  truncf .bf16 (val_main_v19 (F := F) x4) bitsLt_bf16_f32
def val_main_v22 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v21 (F := F) x4)
def val_main_v23 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v22 (F := F) x4)
def val_main_v24 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v20 (F := F) x3) (val_main_v23 (F := F) x4)
def val_main_v25 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v24 (F := F) x3 x4) shapeCasts_S20x128x5120_S2560x5120
def val_main_v26 (x4 : (⟨S40x15360, .f32⟩ : BufTy).Contents (Elt F)) : (⟨S20x5120, .f32⟩ : BufTy).Contents (Elt F) :=
  extractStridedSlice S20x5120 ![20, 0] (val_main_v1 (F := F) x4) slices_S40x5120_S20x5120_20_0
def val_main_v27 (x3 : (⟨S2560x15360, .i8⟩ : BufTy).Contents (Elt F)) : (⟨S20x128x5120, .bf16⟩ : BufTy).Contents (Elt F) :=
  shapeCast _ (val_main_v18 (F := F) x3) shapeCasts_S2560x5120_S20x128x5120
def val_main_v28 (x4 : (⟨S40x15360, .f32⟩ : BufTy).Contents (Elt F)) : (⟨S20x5120, .bf16⟩ : BufTy).Contents (Elt F) :=
  truncf .bf16 (val_main_v26 (F := F) x4) bitsLt_bf16_f32
def val_main_v29 (x4 : (⟨S40x15360, .f32⟩ : BufTy).Contents (Elt F)) : (⟨S20x1x5120, .bf16⟩ : BufTy).Contents (Elt F) :=
  broadcastInDim S20x1x5120 ![0, 2] bcast_S20x5120_S20x1x5120_0_2 (val_main_v28 (F := F) x4)
def val_main_v30 (x4 : (⟨S40x15360, .f32⟩ : BufTy).Contents (Elt F)) : (⟨S20x128x5120, .bf16⟩ : BufTy).Contents (Elt F) :=
  broadcastInDim S20x128x5120 ![0, 1, 2] bcast_S20x1x5120_S20x128x5120_0_1_2 (val_main_v29 (F := F) x4)
def val_main_v31 (x3 : (⟨S2560x15360, .i8⟩ : BufTy).Contents (Elt F)) (x4 : (⟨S40x15360, .f32⟩ : BufTy).Contents (Elt F)) : (⟨S20x128x5120, .bf16⟩ : BufTy).Contents (Elt F) :=
  mulf (val_main_v27 (F := F) x3) (val_main_v30 (F := F) x4)
def val_main_v32 (x3 : (⟨S2560x15360, .i8⟩ : BufTy).Contents (Elt F)) (x4 : (⟨S40x15360, .f32⟩ : BufTy).Contents (Elt F)) : (⟨S2560x5120, .bf16⟩ : BufTy).Contents (Elt F) :=
  shapeCast _ (val_main_v31 (F := F) x3 x4) shapeCasts_S20x128x5120_S2560x5120
def val_main_v33 (x0 : (⟨S1536x5120, .bf16⟩ : BufTy).Contents (Elt F)) : (⟨S1536x2560, .bf16⟩ : BufTy).Contents (Elt F) :=
  extractStridedSlice S1536x2560 ![0, 0] x0 slices_S1536x5120_S1536x2560_0_0
def val_main_v34 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v33 (F := F) x0) (val_main_v25 (F := F) x3 x4)
def val_main_v35 (x0 : (⟨S1536x5120, .bf16⟩ : BufTy).Contents (Elt F)) : (⟨S1536x2560, .bf16⟩ : BufTy).Contents (Elt F) :=
  extractStridedSlice S1536x2560 ![0, 2560] x0 slices_S1536x5120_S1536x2560_0_2560
def val_main_v36 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  Host.dotGeneral dot_S1536x2560_S2560x5120_S1536x5120_1_0_0_1_n_n none (val_main_v35 (F := F) x0) (val_main_v32 (F := F) x3 x4)
def val_main_v37 (x0 : (⟨S1536x5120, .bf16⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  addf (val_main_v34 (F := F) x0 x3 x4) (val_main_v36 (F := F) x0 x3 x4)
def val_main_v38 (x2 : (⟨S1536x384, .bf16⟩ : BufTy).Contents (Elt F)) : (⟨S1536x128, .bf16⟩ : BufTy).Contents (Elt F) :=
  extractStridedSlice S1536x128 ![0, 256] x2 slices_S1536x384_S1536x128_0_256
def val_main_v39 (x5 : (⟨S2x3x128x5120, .bf16⟩ : BufTy).Contents (Elt F)) : (⟨S1x1x128x5120, .bf16⟩ : BufTy).Contents (Elt F) :=
  extractStridedSlice S1x1x128x5120 ![1, 2, 0, 0] x5 slices_S2x3x128x5120_S1x1x128x5120_1_2_0_0
def val_main_v40 (x5 : (⟨S2x3x128x5120, .bf16⟩ : BufTy).Contents (Elt F)) : (⟨S128x5120, .bf16⟩ : BufTy).Contents (Elt F) :=
  shapeCast _ (val_main_v39 (F := F) x5) shapeCasts_S1x1x128x5120_S128x5120
def val_main_v41 (x2 : (⟨S1536x384, .bf16⟩ : BufTy).Contents (Elt F)) (x5 : (⟨S2x3x128x5120, .bf16⟩ : BufTy).Contents (Elt F)) : (⟨S1536x5120, .f32⟩ : BufTy).Contents (Elt F) :=
  Host.dotGeneral dot_S1536x128_S128x5120_S1536x5120_1_0_0_1_n_n none (val_main_v38 (F := F) x2) (val_main_v40 (F := F) x5)
def val_main_v42 (x1 : (⟨S1536x128, .f32⟩ : BufTy).Contents (Elt F)) : (⟨S1536x1, .f32⟩ : BufTy).Contents (Elt F) :=
  extractStridedSlice S1536x1 ![0, 0] x1 slices_S1536x128_S1536x1_0_0
def val_main_v43 (x1 : (⟨S1536x128, .f32⟩ : BufTy).Contents (Elt F)) : (⟨S1536x5120, .f32⟩ : BufTy).Contents (Elt F) :=
  broadcastInDim S1536x5120 ![0, 1] bcast_S1536x1_S1536x5120_0_1 (val_main_v42 (F := F) x1)
def val_main_v44 (x0 : (⟨S1536x5120, .bf16⟩ : BufTy).Contents (Elt F)) (x1 : (⟨S1536x128, .f32⟩ : BufTy).Contents (Elt F)) (x3 : (⟨S2560x15360, .i8⟩ : BufTy).Contents (Elt F)) (x4 : (⟨S40x15360, .f32⟩ : BufTy).Contents (Elt F)) : (⟨S1536x5120, .f32⟩ : BufTy).Contents (Elt F) :=
  mulf (val_main_v37 (F := F) x0 x3 x4) (val_main_v43 (F := F) x1)
def val_main_v45 (x0 : (⟨S1536x5120, .bf16⟩ : BufTy).Contents (Elt F)) (x1 : (⟨S1536x128, .f32⟩ : BufTy).Contents (Elt F)) (x2 : (⟨S1536x384, .bf16⟩ : BufTy).Contents (Elt F)) (x3 : (⟨S2560x15360, .i8⟩ : BufTy).Contents (Elt F)) (x4 : (⟨S40x15360, .f32⟩ : BufTy).Contents (Elt F)) (x5 : (⟨S2x3x128x5120, .bf16⟩ : BufTy).Contents (Elt F)) : (⟨S1536x5120, .f32⟩ : BufTy).Contents (Elt F) :=
  addf (val_main_v44 (F := F) x0 x1 x3 x4) (val_main_v41 (F := F) x2 x5)

/-- The host's operations, in order: up to the projected rows, and from there on. -/
abbrev ops : List (HloOp τ sig (Elt F)) := List.flatten [hostOps0, hostOps0_1, hostOps0_2, hostOps0_3, hostOps0_4, hostOps0_5, hostOps0_6, hostOps0_7, hostOps0_8]
abbrev opsA : List (HloOp τ sig (Elt F)) := (ops (F := F)).take 52
abbrev opsB : List (HloOp τ sig (Elt F)) := (ops (F := F)).drop 52

end Stages

variable (W : Valuation τ sig (Elt Ideal))

theorem A_z : StableHlo.after (opsA (F := Ideal)) W (Proc.devRef .tc main_v45) = val_main_v45 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_6 : StableHlo.after (opsA (F := Ideal)) W (Proc.devRef .tc main_arg6) = (W (Proc.devRef .tc main_arg6)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem A_7 : StableHlo.after (opsA (F := Ideal)) W (Proc.devRef .tc main_arg7) = (W (Proc.devRef .tc main_arg7)) := by
  simp only [opsA, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

theorem B_codes : StableHlo.after (opsB (F := Ideal)) W (Proc.devRef .tc main_v59) = codes (heads (W (Proc.devRef .tc main_v45))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl
theorem B_scales : StableHlo.after (opsB (F := Ideal)) W (Proc.devRef .tc main_v61) = scales (heads (W (Proc.devRef .tc main_v45))) := by
  simp only [opsB, ops, hostOps0, hostOps0_1, hostOps0_2, hostOps0_3, hostOps0_4, hostOps0_5, hostOps0_6, hostOps0_7, hostOps0_8, List.flatten_cons, List.flatten_nil, List.append_nil, List.cons_append, List.nil_append, List.take_succ_cons, List.take_zero, List.drop_succ_cons, List.drop_zero, StableHlo.TRef.ternary, StableHlo.TRef.binary, StableHlo.TRef.unary, StableHlo.TRef.toBuf, StableHlo.TRef.ofBuf, cast_eq]; after_results_simp <;> rfl

variable (m : (ℓ : Loc nD τ sig) → Buf (Elt Ideal) ℓ) (c : Dev nD)

theorem V_split (b : Ref sig .tc) : V m c b = StableHlo.after (opsB (F := Ideal)) (StableHlo.after (opsA (F := Ideal)) (fun b => m (c, b))) (Proc.devRef .tc b) := by
  show StableHlo.after (ops (F := Ideal)) _ _ = _
  conv_lhs => rw [← List.take_append_drop 52 (ops (F := Ideal))]
  rw [StableHlo.after_append]

end Cert.VBRefIdeal.Math
-- ==== Proof.VBRef.lean ====
/-
  THE VALUE REFERENCE'S RESULTS are `vCodes` and `vScales` of the arguments.
-/
module

public import proofs.«01_k».proof.Proof.VBRefRun

@[expose] public section

set_option maxRecDepth 16384

noncomputable section

open Idealize.ShloMosaic Idealize.ShloMosaic.TcCoe Idealize.SL.Sem

namespace Cert.VBRefIdeal.Math
open Cert.VBRefIdeal Cert.VBRefIdeal.Gen Cert.Weights Cert.QkvMath Cert.KvMath Cert.KvRefMath

section Rows
variable (x : FVec Ideal S1536x5120 .bf16) (cs : FVec Ideal S1536x128 .f32) (t : FVec Ideal S1536x384 .bf16)
  (w : IVec S2560x15360 8) (s : FVec Ideal S40x15360 .f32) (lb : FVec Ideal S2x3x128x5120 .bf16) (C N : FVec Ideal S4x80x384 .f32)

theorem lo_at (k : Fin 2560) (c : Fin 5120) :
    val_main_v25 (F := Ideal) w s (ix2 k c) = wLo (w (ix2 k ⟨2 * 5120 + c.val, by omega⟩)) * s (ix2 ⟨k.val / 128, by omega⟩ ⟨2 * 5120 + c.val, by omega⟩) := by
  pointwise [val_main_v25, val_main_v24, val_main_v23, val_main_v22, val_main_v21, val_main_v20, val_main_v19, val_main_v11, val_main_v10, val_main_v9, val_main_v8, val_main_v7, val_main_v6, val_main_v5, val_main_v4, val_main_v3, val_main_v2, val_main_v1, val_main_v0, val_main_v17, val_main_c, val_main_c_1, val_main_c_2]
  rfl

theorem hi_at (k : Fin 2560) (c : Fin 5120) :
    val_main_v32 (F := Ideal) w s (ix2 k c) = wHi (w (ix2 k ⟨2 * 5120 + c.val, by omega⟩)) * s (ix2 ⟨20 + k.val / 128, by omega⟩ ⟨2 * 5120 + c.val, by omega⟩) := by
  pointwise [val_main_v32, val_main_v31, val_main_v30, val_main_v29, val_main_v28, val_main_v27, val_main_v26, val_main_v16, val_main_v15, val_main_v14, val_main_v13, val_main_v12, val_main_v18, val_main_v6, val_main_v5, val_main_v2, val_main_v1, val_main_v0, val_main_c_0, val_main_c_3, val_main_c_4]
  rfl

theorem z_at (i : Fin 1536) (c : Fin 5120) : val_main_v45 (F := Ideal) x cs t w s lb (ix2 i c) = Z x cs t w s lb 2 1 i c := by
  pointwise [val_main_v45, val_main_v44, val_main_v43, val_main_v42, val_main_v41, val_main_v40, val_main_v39, val_main_v38, val_main_v37, val_main_v36, val_main_v35, val_main_v34, val_main_v33]
  have hc := c.isLt
  refine Z_halves x cs t w s lb 2 1 i c ⟨2 * 5120 + c.val, by omega⟩ rfl _ _ _ (fun k => ⟨k.val / 128, by omega⟩) (fun k => ⟨20 + k.val / 128, by omega⟩)
    (fun k => ⟨k.val, by omega⟩) (fun k => ⟨2560 + k.val, by omega⟩) (fun _ => rfl) (fun _ => rfl) (fun _ => rfl) (fun _ => rfl)
    (fun k => congrArg (_ * ·) (lo_at w s k c)) (fun k => congrArg (_ * ·) (hi_at w s k c)) fun k => ?_
  refine congrArg (fun j => t (ix2 i j) * _) (Fin.ext ?_)
  first | rfl | (show k.val = 2 * 128 + k.val; omega)

/-- The numbers that are quantised. -/
theorem num_at (b : Fin 4) (p : Fin 384) (h : Fin 32) (d : Fin 160) :
    heads (val_main_v45 (F := Ideal) x cs t w s lb) (ix4 b p h d) = vNum x cs t w s lb 1 b (160 * h.val + d.val) p := by
  refine (heads_at _ b p h d).trans ?_
  unfold vRow vNum
  rw [show (fun c => val_main_v45 (F := Ideal) x cs t w s lb (ix2 (pos b p) c)) = Z x cs t w s lb 2 1 (pos b p) from funext fun c => z_at x cs t w s lb (pos b p) c]

end Rows

variable (m : (ℓ : Loc nD τ sig) → Buf (Elt Ideal) ℓ) (c : Dev nD)

/-- The host array the region casts to codes, -/
theorem V_codes : V m c main_v59 = vCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 := by
  rw [V_split, B_codes, A_z]
  exact codes_eq _ _ fun b p h d => num_at _ _ _ _ _ _ b p h d

/-- and the scales. -/
theorem V_scales : V m c main_v61 = vScales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 := by
  rw [V_split, B_scales, A_z]
  exact scales_eq _ _ fun b p h d => num_at _ _ _ _ _ _ b p h d

theorem idx : ∀ t : Fin cfg0.N, win0_0.index t = ![0, 0, 0] ∧ win0_1.index t = ![0, 0, 0] :=
  (by decide +kernel : ∀ t : Fin grid0.N, _)

/-- The region's one block is the whole array: what the body casts is read, and written, where it stands. -/
theorem emb0 (t : Fin cfg0.N) (b : Fin 4) (d : Fin 5120) (s : Fin 384) : (win0_0.blk t).view.emb (ix3 b d s) = ix3 b d s := by blk_ext [idx t]
theorem emb1 (t : Fin cfg0.N) (y : S4x5120x384.Idx) : (win0_1.blk t).view.emb y = ix3 (y 0) (y 1) (y 2) := by blk_ext [idx t]

theorem read_at (A : Buf (Elt Ideal) ((c : Thread nD τ).loc main_v59)) (t : Fin cfg0.N) (b : Fin 4) (d : Fin 5120) (s : Fin 384) :
    ((cfg0.win 0).blk t).view.read (Elt Ideal) A (ix3 b d s) = A (ix3 b d s) := by
  rw [View.read_apply]
  exact congrArg A (emb0 t b d s)

theorem out_at (A : Buf (Elt Ideal) ((c : Thread nD τ).loc main_v59)) (t : Fin cfg0.N) (y : S4x5120x384.Idx) :
    out0_1 (((cfg0.win 0).blk t).view.read (Elt Ideal) A) y = A ((win0_1.blk t).view.emb y) := by
  refine (Cert.VBRefIdeal.Value.canon1_eq _ y).trans ?_
  have e0 : r0_0.idx (Cert.VBRefIdeal.Value.ix1_0 y) = ix3 (y 0) (y 1) (y 2) := funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine Eq.trans (b := ((cfg0.win 0).blk t).view.read (Elt Ideal) A (r0_0.idx (Cert.VBRefIdeal.Value.ix1_0 y))) rfl ?_
  exact (congrArg (((cfg0.win 0).blk t).view.read (Elt Ideal) A) e0).trans ((read_at c A t (y 0) (y 1) (y 2)).trans (congrArg A (emb1 t y).symm))

theorem iblk_eq (t : Fin cfg0.N) : iblk m c 0 t = ((cfg0.win 0).blk t).view.read (Elt Ideal) (V m c main_v59) := by
  unfold iblk
  rfl

/-- The region's result is that array. -/
theorem final1 : (dats m 0 c).arrAt 1 cfg0.N = vCodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) 1 := by
  rw [← V_codes]
  refine (dats m 0 c).arrAt_eq_of_covers 1 _ (by decide +kernel) fun t hf y => ?_
  blk_simp
  rw [after0_1, iblk_eq]
  exact out_at c (V m c main_v59) t y

end Cert.VBRefIdeal.Math
-- ==== Proof.VBClaim.lean ====
/-
  THE CLAIM OF THE VALUE STAGE OF THE SECOND INVOCATION: at the ideal instance the kernel and the reference end with the same two arrays, the codes
  `vCodes` and the scales `vScales` of the arguments.
-/
module

public import proofs.«01_k».proof.Defs
public import proofs.«01_k».proof.Proof.VBVal
public import proofs.«01_k».proof.Proof.VBRef

@[expose] public section

set_option maxRecDepth 16384

noncomputable section

open Idealize.ShloMosaic Idealize.ShloMosaic.TcCoe Idealize.SL.Sem

namespace Cert.VB.Claims
open Cert.KvMath

/-- The reference terminates and keeps its arguments. -/
theorem ref_frame : Cert.quiescent_VBRefIdeal (hVBRefIdeal := Cert.VBRefIdeal.Gen.facts) := fun m ρ _ => Cert.VBRefIdeal.Gen.frame m ρ

/-- What the reference's run leaves in its two results and its arguments. -/
theorem ref_run (m' : (ℓ : Loc Cert.VBRefIdeal.nD Cert.VBRefIdeal.τ Cert.VBRefIdeal.sig) → Buf (Elt Ideal) ℓ) (ρ' : Dev Cert.VBRefIdeal.nD → PrngReg) :
    θ_run (Cert.VBRefIdeal.defs (F := Ideal)) (onTc (τ := Cert.VBRefIdeal.τ) (Cert.VBRefIdeal.main (F := Ideal))) ⟨m', fun _ => 0, ρ'⟩ (fun r => ∀ c : Dev Cert.VBRefIdeal.nD,
      r.2.mem ((c.tc : Thread Cert.VBRefIdeal.nD Cert.VBRefIdeal.τ).loc Cert.VBRefIdeal.main_v62) = vCodes (m' ((c.tc : Thread Cert.VBRefIdeal.nD Cert.VBRefIdeal.τ).loc Cert.VBRefIdeal.main_arg0)) (m' ((c.tc : Thread Cert.VBRefIdeal.nD Cert.VBRefIdeal.τ).loc Cert.VBRefIdeal.main_arg1)) (m' ((c.tc : Thread Cert.VBRefIdeal.nD Cert.VBRefIdeal.τ).loc Cert.VBRefIdeal.main_arg2)) (m' ((c.tc : Thread Cert.VBRefIdeal.nD Cert.VBRefIdeal.τ).loc Cert.VBRefIdeal.main_arg3)) (m' ((c.tc : Thread Cert.VBRefIdeal.nD Cert.VBRefIdeal.τ).loc Cert.VBRefIdeal.main_arg4)) (m' ((c.tc : Thread Cert.VBRefIdeal.nD Cert.VBRefIdeal.τ).loc Cert.VBRefIdeal.main_arg5)) 1
      ∧ r.2.mem ((c.tc : Thread Cert.VBRefIdeal.nD Cert.VBRefIdeal.τ).loc Cert.VBRefIdeal.main_v61) = vScales (m' ((c.tc : Thread Cert.VBRefIdeal.nD Cert.VBRefIdeal.τ).loc Cert.VBRefIdeal.main_arg0)) (m' ((c.tc : Thread Cert.VBRefIdeal.nD Cert.VBRefIdeal.τ).loc Cert.VBRefIdeal.main_arg1)) (m' ((c.tc : Thread Cert.VBRefIdeal.nD Cert.VBRefIdeal.τ).loc Cert.VBRefIdeal.main_arg2)) (m' ((c.tc : Thread Cert.VBRefIdeal.nD Cert.VBRefIdeal.τ).loc Cert.VBRefIdeal.main_arg3)) (m' ((c.tc : Thread Cert.VBRefIdeal.nD Cert.VBRefIdeal.τ).loc Cert.VBRefIdeal.main_arg4)) (m' ((c.tc : Thread Cert.VBRefIdeal.nD Cert.VBRefIdeal.τ).loc Cert.VBRefIdeal.main_arg5)) 1
      ∧ r.2.mem ((c.tc : Thread Cert.VBRefIdeal.nD Cert.VBRefIdeal.τ).loc Cert.VBRefIdeal.main_arg0) = m' ((c.tc : Thread Cert.VBRefIdeal.nD Cert.VBRefIdeal.τ).loc Cert.VBRefIdeal.main_arg0)
      ∧ r.2.mem ((c.tc : Thread Cert.VBRefIdeal.nD Cert.VBRefIdeal.τ).loc Cert.VBRefIdeal.main_arg1) = m' ((c.tc : Thread Cert.VBRefIdeal.nD Cert.VBRefIdeal.τ).loc Cert.VBRefIdeal.main_arg1)
      ∧ r.2.mem ((c.tc : Thread Cert.VBRefIdeal.nD Cert.VBRefIdeal.τ).loc Cert.VBRefIdeal.main_arg2) = m' ((c.tc : Thread Cert.VBRefIdeal.nD Cert.VBRefIdeal.τ).loc Cert.VBRefIdeal.main_arg2)
      ∧ r.2.mem ((c.tc : Thread Cert.VBRefIdeal.nD Cert.VBRefIdeal.τ).loc Cert.VBRefIdeal.main_arg3) = m' ((c.tc : Thread Cert.VBRefIdeal.nD Cert.VBRefIdeal.τ).loc Cert.VBRefIdeal.main_arg3)
      ∧ r.2.mem ((c.tc : Thread Cert.VBRefIdeal.nD Cert.VBRefIdeal.τ).loc Cert.VBRefIdeal.main_arg4) = m' ((c.tc : Thread Cert.VBRefIdeal.nD Cert.VBRefIdeal.τ).loc Cert.VBRefIdeal.main_arg4)
      ∧ r.2.mem ((c.tc : Thread Cert.VBRefIdeal.nD Cert.VBRefIdeal.τ).loc Cert.VBRefIdeal.main_arg5) = m' ((c.tc : Thread Cert.VBRefIdeal.nD Cert.VBRefIdeal.τ).loc Cert.VBRefIdeal.main_arg5)
      ∧ r.2.mem ((c.tc : Thread Cert.VBRefIdeal.nD Cert.VBRefIdeal.τ).loc Cert.VBRefIdeal.main_arg6) = m' ((c.tc : Thread Cert.VBRefIdeal.nD Cert.VBRefIdeal.τ).loc Cert.VBRefIdeal.main_arg6)
      ∧ r.2.mem ((c.tc : Thread Cert.VBRefIdeal.nD Cert.VBRefIdeal.τ).loc Cert.VBRefIdeal.main_arg7) = m' ((c.tc : Thread Cert.VBRefIdeal.nD Cert.VBRefIdeal.τ).loc Cert.VBRefIdeal.main_arg7)) :=
  (θ_run Cert.VBRefIdeal.defs _ _).mono (fun r h c =>
    ⟨(Cert.VBRefIdeal.Value.post1 m' r h c).trans (Cert.VBRefIdeal.Math.final1 m' c),
     ((h c).2 Cert.VBRefIdeal.main_v61 (Pipeline.mem_restRefs_of Cert.VBRefIdeal.main_v61 (by decide) (by decide))).trans (Cert.VBRefIdeal.Math.V_scales m' c),
     Cert.VBRefIdeal.Value.kept_main_arg0 m' r h c, Cert.VBRefIdeal.Value.kept_main_arg1 m' r h c, Cert.VBRefIdeal.Value.kept_main_arg2 m' r h c, Cert.VBRefIdeal.Value.kept_main_arg3 m' r h c, Cert.VBRefIdeal.Value.kept_main_arg4 m' r h c, Cert.VBRefIdeal.Value.kept_main_arg5 m' r h c, Cert.VBRefIdeal.Value.kept_main_arg6 m' r h c, Cert.VBRefIdeal.Value.kept_main_arg7 m' r h c⟩) (Cert.VBRefIdeal.Gen.run_main m' ρ')

theorem algebraic : Cert.algebraic_VBIdeal_VBRefIdeal (hVBIdeal := Cert.VBIdeal.Gen.facts) (hVBRefIdeal := Cert.VBRefIdeal.Gen.facts) := by
  intro m ρ m' ρ' _ hag
  refine ⟨fun c => vCodes (m ((c.tc : Thread Cert.VBIdeal.nD Cert.VBIdeal.τ).loc Cert.VBIdeal.main_arg0)) (m ((c.tc : Thread Cert.VBIdeal.nD Cert.VBIdeal.τ).loc Cert.VBIdeal.main_arg1)) (m ((c.tc : Thread Cert.VBIdeal.nD Cert.VBIdeal.τ).loc Cert.VBIdeal.main_arg2)) (m ((c.tc : Thread Cert.VBIdeal.nD Cert.VBIdeal.τ).loc Cert.VBIdeal.main_arg3)) (m ((c.tc : Thread Cert.VBIdeal.nD Cert.VBIdeal.τ).loc Cert.VBIdeal.main_arg4)) (m ((c.tc : Thread Cert.VBIdeal.nD Cert.VBIdeal.τ).loc Cert.VBIdeal.main_arg5)) 1, fun c => vScales (m ((c.tc : Thread Cert.VBIdeal.nD Cert.VBIdeal.τ).loc Cert.VBIdeal.main_arg0)) (m ((c.tc : Thread Cert.VBIdeal.nD Cert.VBIdeal.τ).loc Cert.VBIdeal.main_arg1)) (m ((c.tc : Thread Cert.VBIdeal.nD Cert.VBIdeal.τ).loc Cert.VBIdeal.main_arg2)) (m ((c.tc : Thread Cert.VBIdeal.nD Cert.VBIdeal.τ).loc Cert.VBIdeal.main_arg3)) (m ((c.tc : Thread Cert.VBIdeal.nD Cert.VBIdeal.τ).loc Cert.VBIdeal.main_arg4)) (m ((c.tc : Thread Cert.VBIdeal.nD Cert.VBIdeal.τ).loc Cert.VBIdeal.main_arg5)) 1, ?_, ?_⟩
  · exact (θ_run Cert.VBIdeal.defs _ _).mono
      (fun _ h c => ⟨(h c).1.trans (Cert.VBIdeal.Block.final8 m c), (h c).2.1.trans (Cert.VBIdeal.Block.final9 m c), (h c).2.2⟩) (Cert.VBIdeal.Value.run_blocks m ρ)
  · refine (θ_run Cert.VBRefIdeal.defs _ _).mono
      (fun _ h c => ⟨(h c).1.trans ?_, (h c).2.1.trans ?_, (h c).2.2⟩) (ref_run m' ρ')
    · rw [(hag c).1, (hag c).2.1, (hag c).2.2.1, (hag c).2.2.2.1, (hag c).2.2.2.2.1, (hag c).2.2.2.2.2.1]
    · rw [(hag c).1, (hag c).2.1, (hag c).2.2.1, (hag c).2.2.2.1, (hag c).2.2.2.2.1, (hag c).2.2.2.2.2.1]

end Cert.VB.Claims
-- ==== Proof.InMath.lean ====
/-
  THE FIRST STAGE AS MATHEMATICS. A row is a hidden row `h` followed by an embedding row `e`; `norm` is the row over its root
  mean square, times the gain `g`; `qscale` its largest magnitude over 127 (one if it is all zero), `qcode` the numbers over
  that scale, rounded and held between -127 and 127; `low` the row times a LoRA factor.
-/
module

public import proofs.«01_k».proof.Proof.KvMath

@[expose] public section

set_option maxRecDepth 16384

noncomputable section

namespace Cert.InMath

open Idealize.ShloMosaic Cert.Weights
open Cert.KvMath (mag bot_bits)

/-- Column `k` of the hidden half and of the embedding half. -/
def lo (k : Fin 2560) : Fin 5120 := ⟨k.val, by omega⟩
def hi (k : Fin 2560) : Fin 5120 := ⟨2560 + k.val, by omega⟩

section Row
variable (h e : Fin 2560 → EReal) (g : Fin 5120 → EReal)

def both (k : Fin 5120) : EReal := if p : k.val < 2560 then h ⟨k.val, p⟩ else e ⟨k.val - 2560, by omega⟩

theorem both_lo (k : Fin 2560) : both h e (lo k) = h k := dif_pos k.isLt

theorem both_hi (k : Fin 2560) : both h e (hi k) = e k := by
  unfold both
  rw [dif_neg (by show ¬ 2560 + k.val < 2560; omega)]
  exact congrArg e (Fin.ext (by show 2560 + k.val - 2560 = k.val; omega))

def rmsOf (s : EReal) : EReal := Ideal.sqrt (Ideal.div s (Ideal.ofBits .f32 0x45A00000#32) + Ideal.ofBits .f32 0x3727C5AC#32)
def rms : EReal := rmsOf (∑ k, both h e k * both h e k)
def norm (k : Fin 5120) : EReal := Ideal.div (both h e k) (rms h e) * g k

/-- The largest magnitude of a row. -/
def top (f : Fin 5120 → EReal) : EReal := Finset.univ.fold max ⊥ fun k => mag (f k)

def qscale (a : EReal) : EReal := if 0 < a then Ideal.div a (Ideal.ofBits .f32 0x42FE0000#32) else 1
def qcode (z s : EReal) : EReal := min (Ideal.ofBits .f32 0x42FE0000#32) (max (Ideal.ofBits .f32 0xC2FE0000#32) (FloatOps.roundeven (F := Ideal) (φ := .f32) (Ideal.div z s)))

def rowScale : EReal := qscale (top (norm h e g))
def rowCode (k : Fin 5120) : EReal := qcode (norm h e g k) (rowScale h e g)
def low (w : Fin 5120 → EReal) : EReal := ∑ k, norm h e g k * w k

theorem rms_halves : rmsOf (∑ k, h k * h k + ∑ k, e k * e k) = rms h e :=
  congrArg rmsOf (sum_halves (H := 2560) (K := 5120) rfl _ _ _ (fun k => congrArg₂ (· * ·) (both_lo h e k) (both_lo h e k)) (fun k => congrArg₂ (· * ·) (both_hi h e k) (both_hi h e k))).symm

theorem top_halves (f : Fin 5120 → EReal) (a b : Fin 2560 → EReal) (ha : ∀ k : Fin 2560, a k = f (lo k)) (hb : ∀ k : Fin 2560, b k = f (hi k)) :
    max (Finset.univ.fold max ⊥ fun k => mag (a k)) (Finset.univ.fold max ⊥ fun k => mag (b k)) = top f := by
  refine eq_of_forall_ge_iff (α := EReal) fun z => ?_
  unfold top
  simp only [Finset.mem_univ, true_implies, max_le_iff, Finset.fold_max_le, bot_le, true_and, ha, hb]
  refine ⟨fun q k => ?_, fun q => ⟨fun k => q _, fun k => q _⟩⟩
  by_cases p : k.val < 2560
  · exact q.1 ⟨k.val, p⟩
  · have := q.2 ⟨k.val - 2560, by omega⟩
    rwa [show hi ⟨k.val - 2560, by omega⟩ = k from Fin.ext (by show 2560 + (k.val - 2560) = k.val; omega)] at this

end Row

section Arrays
variable (H E : FVec Ideal ⟨2, ![1536, 2560]⟩ .bf16) (G : FVec Ideal ⟨2, ![1, 5120]⟩ .f32) (L : FVec Ideal ⟨4, ![2, 3, 5120, 128]⟩ .bf16)

def nrm (i : Fin 1536) : Fin 5120 → EReal := norm (fun k => H (ix2 i k)) (fun k => E (ix2 i k)) fun k => G (ix2 0 k)
def scl (i : Fin 1536) : EReal := rowScale (fun k => H (ix2 i k)) (fun k => E (ix2 i k)) fun k => G (ix2 0 k)
def cod (i : Fin 1536) : Fin 5120 → EReal := rowCode (fun k => H (ix2 i k)) (fun k => E (ix2 i k)) fun k => G (ix2 0 k)

/-- The four results: the codes as integers and as numbers, the scales over the lanes, the rows times the three LoRA factors. -/
def codes8 : IVec ⟨2, ![1536, 5120]⟩ 8 := fun y => FloatOps.fptosi (F := Ideal) (φ := .f32) 8 (cod H E G (y 0) (y 1))
def codes : FVec Ideal ⟨2, ![1536, 5120]⟩ .bf16 := fun y => cod H E G (y 0) (y 1)
def scales : FVec Ideal ⟨2, ![1536, 128]⟩ .f32 := fun y => scl H E G (y 0)
def lows : FVec Ideal ⟨2, ![1536, 384]⟩ .bf16 := fun y =>
  low (fun k => H (ix2 (y 0) k)) (fun k => E (ix2 (y 0) k)) (fun k => G (ix2 0 k)) fun k =>
    L (ix4 0 ⟨(y 1).val / 128, by have h : (y 1).val < 384 := (y 1).isLt; omega⟩ k ⟨(y 1).val % 128, by omega⟩)

end Arrays

end Cert.InMath
-- ==== Proof.InRows.lean ====
/-
  ONE BLOCK OF THE FIRST STAGE'S KERNEL. The body keeps the hidden half `x0` and the embedding half `x1` of its rows apart; read
  at a row, its values are the normalised row, its scale, its codes and its LoRA products.
-/
module

public import proofs.«01_k».proof.Proof.InMath
public import proofs.«01_k».proof.Proof.Gen.InIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InIdeal.Block
open Cert.InIdeal Cert.InIdeal.Gen Cert.Weights Cert.InMath Cert.KvMath

section Rows
variable (x0 x1 : FVec Ideal S256x2560 .bf16) (ga gb : FVec Ideal S1x2560 .f32) (i : Fin 256) (g : Fin 5120 → EReal)
  (ha : ∀ k : Fin 2560, ga (ix2 0 k) = g (lo k)) (hb : ∀ k : Fin 2560, gb (ix2 0 k) = g (hi k))

theorem pay6_at : k0_pay6 (F := Ideal) x0 x1 (ix2 i 0) = rms (fun k => x0 (ix2 i k)) fun k => x1 (ix2 i k) := by
  refine Eq.trans ?_ (rms_halves _ _)
  pointwise [k0_pay6, k0_pay5, k0_pay4]
  rfl

include ha in
theorem pay7_at (k : Fin 2560) : k0_pay7 (F := Ideal) x0 x1 ga (ix2 i k) = norm (fun k => x0 (ix2 i k)) (fun k => x1 (ix2 i k)) g (lo k) := by
  have e := pay6_at x0 x1 i
  unfold k0_pay7
  revert e
  generalize k0_pay6 (F := Ideal) x0 x1 = v
  intro e
  pointwise [k0_pay4]
  unfold InMath.norm
  rw [both_lo]
  exact congrArg₂ (fun a b => Ideal.div _ a * b) e (ha k)

include hb in
theorem pay8_at (k : Fin 2560) : k0_pay8 (F := Ideal) x0 x1 gb (ix2 i k) = norm (fun k => x0 (ix2 i k)) (fun k => x1 (ix2 i k)) g (hi k) := by
  have e := pay6_at x0 x1 i
  unfold k0_pay8
  revert e
  generalize k0_pay6 (F := Ideal) x0 x1 = v
  intro e
  pointwise [k0_pay5]
  unfold InMath.norm
  rw [both_hi]
  exact congrArg₂ (fun a b => Ideal.div _ a * b) e (hb k)

include ha hb in
theorem pay9_at : k0_pay9 (F := Ideal) x0 x1 ga gb (ix2 i 0) = rowScale (fun k => x0 (ix2 i k)) (fun k => x1 (ix2 i k)) g := by
  have e := top_halves _ _ _ (pay7_at x0 x1 ga i g ha) (pay8_at x0 x1 gb i g hb)
  unfold k0_pay9 rowScale
  rw [← e]
  generalize k0_pay7 (F := Ideal) x0 x1 ga = v
  generalize k0_pay8 (F := Ideal) x0 x1 gb = w
  pointwise
  rfl

include ha hb in
theorem pay11_at (k : Fin 2560) : k0_pay11 (F := Ideal) (k0_pay10 x0 x1 ga gb) (ix2 i k) = rowCode (fun k => x0 (ix2 i k)) (fun k => x1 (ix2 i k)) g (lo k) := by
  have e := pay7_at x0 x1 ga i g ha k
  have e' := pay9_at x0 x1 ga gb i g ha hb
  unfold k0_pay11 k0_pay10 rowCode
  rw [← e, ← e']
  generalize k0_pay7 (F := Ideal) x0 x1 ga = v
  generalize k0_pay9 (F := Ideal) x0 x1 ga gb = w
  pointwise
  rfl

include ha hb in
theorem pay12_at (k : Fin 2560) : k0_pay12 (F := Ideal) (k0_pay8 x0 x1 gb) (k0_pay9 x0 x1 ga gb) (ix2 i k) = rowCode (fun k => x0 (ix2 i k)) (fun k => x1 (ix2 i k)) g (hi k) := by
  have e := pay8_at x0 x1 gb i g hb k
  have e' := pay9_at x0 x1 ga gb i g ha hb
  unfold k0_pay12 rowCode
  rw [← e, ← e']
  generalize k0_pay8 (F := Ideal) x0 x1 gb = v
  generalize k0_pay9 (F := Ideal) x0 x1 ga gb = w
  pointwise
  rfl

theorem pay17_at (v : FVec Ideal S256x1 .f32) (l : Fin 128) : k0_pay17 v (ix2 i l) = v (ix2 i 0) := by
  pointwise [k0_pay17]

/-- The two half products of a row with a LoRA factor. -/
theorem low_at (v w : FVec Ideal S256x2560 .bf16) (la lb : FVec Ideal S1x1x2560x128 .bf16) (r : Fin 128) (h e : Fin 2560 → EReal) (l : Fin 5120 → EReal)
    (hv : ∀ k : Fin 2560, v (ix2 i k) = norm h e g (lo k)) (hw : ∀ k : Fin 2560, w (ix2 i k) = norm h e g (hi k))
    (hla : ∀ k : Fin 2560, la (ix4 0 0 k r) = l (lo k)) (hlb : ∀ k : Fin 2560, lb (ix4 0 0 k r) = l (hi k)) :
    k0_pay2 v w la lb (ix2 i r) = low h e g l := by
  refine Eq.trans ?_ (sum_halves (H := 2560) (K := 5120) rfl _ (fun k => v (ix2 i k) * la (ix4 0 0 k r)) (fun k => w (ix2 i k) * lb (ix4 0 0 k r))
    (fun k => (congrArg₂ (· * ·) (hv k) (hla k)).symm) (fun k => (congrArg₂ (· * ·) (hw k) (hlb k)).symm)).symm
  pointwise [k0_pay2]

end Rows

end Cert.InIdeal.Block
-- ==== Proof.InVal.lean ====
/-
  THE FIRST STAGE'S KERNEL RESULTS. Point `t` of the six works on rows `256 t … 256 t + 255`; what it stores are the codes,
  scales and LoRA products of those rows.
-/
module

public import proofs.«01_k».proof.Proof.InRows

@[expose] public section

set_option maxRecDepth 16384

noncomputable section

open Idealize.ShloMosaic Idealize.ShloMosaic.TcCoe Idealize.SL.Sem
open Idealize.ShloMosaic.Pipeline (Dat)

namespace Cert.InIdeal.Block
open Cert.InIdeal Cert.InIdeal.Gen Cert.Weights Cert.InMath Cert.KvMath

/-- Where a part of a block stands. -/
theorem idx_part {A B a b : ℕ} (o : ℕ) (hb) (i : Fin a) (k : Fin b) (i' : Fin A) (k' : Fin B) (hi : i'.val = i.val) (hk : k'.val = o + k.val) :
    (Rect.unit (s := ⟨2, ![A, B]⟩) ![0, o] (⟨2, ![a, b]⟩ : Shape).size hb).idx (ix2 i k) = ix2 i' k' := funext fun d => Fin.ext (by
  match d with
  | ⟨0, _⟩ => show 0 + 1 * i.val = i'.val; omega
  | ⟨1, _⟩ => show o + 1 * k.val = k'.val; omega)

theorem idx_part4 (j o : ℕ) (hb) (k : Fin 2560) (r : Fin 128) (j' : Fin 3) (k' : Fin 5120) (r' : Fin 128) (hj : j'.val = j) (hk : k'.val = o + k.val) (hr : r'.val = r.val) :
    (Rect.unit (s := S1x3x5120x128) ![0, j, o, 0] S1x1x2560x128.size hb).idx (ix4 0 0 k r) = ix4 0 j' k' r' := funext fun d => Fin.ext (by
  match d with
  | ⟨0, _⟩ => rfl
  | ⟨1, _⟩ => show j + 1 * 0 = j'.val; omega
  | ⟨2, _⟩ => show o + 1 * k.val = k'.val; omega
  | ⟨3, _⟩ => show 0 + 1 * r.val = r'.val; omega)

theorem at3 (i : Fin 256) (k : Fin 2560) : r0_3.idx (ix2 i k) = ix2 i (lo k) := idx_part 0 _ _ _ _ _ rfl (Nat.zero_add _).symm
theorem at4 (i : Fin 256) (k : Fin 2560) : r0_4.idx (ix2 i k) = ix2 i (hi k) := idx_part 2560 _ _ _ _ _ rfl rfl
theorem at5 (i : Fin 256) (k : Fin 128) : r0_5.idx (ix2 i k) = ix2 i k := idx_part 0 _ _ _ _ _ rfl (Nat.zero_add _).symm
theorem at8 (i : Fin 256) (k : Fin 128) : r0_8.idx (ix2 i k) = ix2 i ⟨0 + k.val, by omega⟩ := idx_part 0 _ _ _ _ _ rfl rfl
theorem at11 (i : Fin 256) (k : Fin 128) : r0_11.idx (ix2 i k) = ix2 i ⟨128 + k.val, by omega⟩ := idx_part 128 _ _ _ _ _ rfl rfl
theorem at14 (i : Fin 256) (k : Fin 128) : r0_14.idx (ix2 i k) = ix2 i ⟨256 + k.val, by omega⟩ := idx_part 256 _ _ _ _ _ rfl rfl

section Outs
variable (x0 x1 : Vec Ideal S256x2560 .bf16) (x2 : Vec Ideal S1x5120 .f32) (x3 : Vec Ideal S1x3x5120x128 .bf16)

theorem ld_whole (x : Vec Ideal S256x2560 .bf16) : View.ld x r0_0 = x := funext fun y => by
  rw [ValueIdx.eq_ix2 y]
  exact congrArg x (idx_part 0 _ _ _ _ _ rfl (Nat.zero_add _).symm)

theorem ld_lo (k : Fin 2560) : View.ld x2 r0_1 (ix2 0 k) = x2 (ix2 0 (lo k)) := congrArg x2 (idx_part 0 _ _ _ _ _ rfl (Nat.zero_add _).symm)
theorem ld_hi (k : Fin 2560) : View.ld x2 r0_2 (ix2 0 k) = x2 (ix2 0 (hi k)) := congrArg x2 (idx_part 2560 _ _ _ _ _ rfl rfl)

/-- A block's row and gain. -/
def bScale (i : Fin 256) : EReal := rowScale (fun k => x0 (ix2 i k)) (fun k => x1 (ix2 i k)) fun k => x2 (ix2 0 k)
def bCode (i : Fin 256) : Fin 5120 → EReal := rowCode (fun k => x0 (ix2 i k)) (fun k => x1 (ix2 i k)) fun k => x2 (ix2 0 k)
def bLow (i : Fin 256) (c : Fin 384) : EReal := low (fun k => x0 (ix2 i k)) (fun k => x1 (ix2 i k)) (fun k => x2 (ix2 0 k)) fun k =>
  x3 (ix4 0 ⟨c.val / 128, by omega⟩ k ⟨c.val % 128, by omega⟩)

theorem code_lo (i : Fin 256) (k : Fin 2560) : k0_pay11 (F := Ideal) (k0_pay24 x0 x1 x2 x3) (ix2 i k) = bCode x0 x1 x2 i (lo k) := by
  unfold k0_pay24
  rw [ld_whole, ld_whole]
  exact pay11_at x0 x1 _ _ i _ (ld_lo x2) (ld_hi x2) k

theorem code_hi (i : Fin 256) (k : Fin 2560) : k0_pay12 (F := Ideal) (k0_pay22 x0 x1 x2 x3) (k0_pay23 x0 x1 x2 x3) (ix2 i k) = bCode x0 x1 x2 i (hi k) := by
  unfold k0_pay22 k0_pay23
  rw [ld_whole, ld_whole]
  exact pay12_at x0 x1 _ _ i _ (ld_lo x2) (ld_hi x2) k

theorem scale_lane (i : Fin 256) (l : Fin 128) : k0_pay17 (F := Ideal) (k0_pay23 x0 x1 x2 x3) (ix2 i l) = bScale x0 x1 x2 i := by
  have e : k0_pay23 (F := Ideal) x0 x1 x2 x3 (ix2 i 0) = bScale x0 x1 x2 i := by
    unfold k0_pay23
    rw [ld_whole, ld_whole]
    exact pay9_at x0 x1 _ _ i _ (ld_lo x2) (ld_hi x2)
  revert e
  generalize k0_pay23 x0 x1 x2 x3 = v
  intro e
  exact (pay17_at i v l).trans e

theorem out4_at : out0_4 x0 x1 x2 x3 = fun y : S256x5120.Idx => FloatOps.fptosi (F := Ideal) (φ := .f32) 8 (bCode x0 x1 x2 (y 0) (y 1)) := funext fun y => by
  unfold out0_4
  refine canon_tile (Val := Elt Ideal) (e := .i8) _ (fun y : S256x5120.Idx => FloatOps.fptosi (F := Ideal) (φ := .f32) 8 (bCode x0 x1 x2 (y 0) (y 1))) ?_ (cover0_4 (F := Ideal) _ _) y
  refine ⟨fun x => ?_, fun x => ?_, trivial⟩
  · rw [ValueIdx.eq_ix2 x]
    refine Eq.trans ?_ (congrArg (fun y : S256x5120.Idx => FloatOps.fptosi (F := Ideal) (φ := .f32) 8 (bCode x0 x1 x2 (y 0) (y 1))) (at4 (x 0) (x 1)).symm)
    exact congrArg (FloatOps.fptosi (F := Ideal) (φ := .f32) 8) (code_hi x0 x1 x2 x3 (x 0) (x 1))
  · rw [ValueIdx.eq_ix2 x]
    refine Eq.trans ?_ (congrArg (fun y : S256x5120.Idx => FloatOps.fptosi (F := Ideal) (φ := .f32) 8 (bCode x0 x1 x2 (y 0) (y 1))) (at3 (x 0) (x 1)).symm)
    exact congrArg (FloatOps.fptosi (F := Ideal) (φ := .f32) 8) (code_lo x0 x1 x2 x3 (x 0) (x 1))

theorem out5_at : out0_5 x0 x1 x2 x3 = fun y : S256x5120.Idx => bCode x0 x1 x2 (y 0) (y 1) := funext fun y => by
  unfold out0_5
  refine canon_tile (Val := Elt Ideal) (e := .bf16) _ (fun y : S256x5120.Idx => bCode x0 x1 x2 (y 0) (y 1)) ?_ (cover0_5 (F := Ideal) _ _) y
  refine ⟨fun x => ?_, fun x => ?_, trivial⟩
  · rw [ValueIdx.eq_ix2 x]
    refine Eq.trans ?_ (congrArg (fun y : S256x5120.Idx => bCode x0 x1 x2 (y 0) (y 1)) (at4 (x 0) (x 1)).symm)
    exact code_hi x0 x1 x2 x3 (x 0) (x 1)
  · rw [ValueIdx.eq_ix2 x]
    refine Eq.trans ?_ (congrArg (fun y : S256x5120.Idx => bCode x0 x1 x2 (y 0) (y 1)) (at3 (x 0) (x 1)).symm)
    exact code_lo x0 x1 x2 x3 (x 0) (x 1)

theorem canon_rows (p : Vec Ideal S256x128 .f32) (f : Fin 256 → EReal) (h : ∀ i l, p (ix2 i l) = f i) (y : S256x128.Idx) :
    View.canon (Val := Elt Ideal) (e := .f32) [⟨r0_5, p⟩] y = f (y 0) := by
  refine canon_tile (Val := Elt Ideal) (e := .f32) _ (fun y : S256x128.Idx => f (y 0)) ?_ (cover0_6 (F := Ideal) _) y
  refine ⟨fun x => ?_, trivial⟩
  rw [ValueIdx.eq_ix2 x]
  have e := congrArg (fun y : S256x128.Idx => f (y 0)) (at5 (x 0) (x 1)).symm
  exact (h (x 0) (x 1)).trans e

theorem out6_at : out0_6 x0 x1 x2 x3 = fun y : S256x128.Idx => bScale x0 x1 x2 (y 0) := funext fun y => by
  unfold out0_6
  exact canon_rows _ _ (scale_lane x0 x1 x2 x3) y

/-- The product with LoRA factor `j`. -/
theorem low_part (j : ℕ) (hj : j < 3) (h1 h2) (i : Fin 256) (r : Fin 128) (c : Fin 384) (hc : c.val = j * 128 + r.val) :
    k0_pay2 (F := Ideal) (k0_pay25 x0 x1 x2 x3) (k0_pay26 x0 x1 x2 x3) (View.ld x3 (Rect.unit (s := S1x3x5120x128) ![0, j, 0, 0] S1x1x2560x128.size h1))
      (View.ld x3 (Rect.unit (s := S1x3x5120x128) ![0, j, 2560, 0] S1x1x2560x128.size h2)) (ix2 i r) = bLow x0 x1 x2 x3 i c := by
  have hv : ∀ k : Fin 2560, k0_pay25 x0 x1 x2 x3 (ix2 i k) = InMath.norm (fun k => x0 (ix2 i k)) (fun k => x1 (ix2 i k)) (fun k => x2 (ix2 0 k)) (lo k) := fun k => by
    unfold k0_pay25 k0_pay21
    rw [ld_whole, ld_whole]
    exact pay7_at x0 x1 _ i _ (ld_lo x2) k
  have hw : ∀ k : Fin 2560, k0_pay26 x0 x1 x2 x3 (ix2 i k) = InMath.norm (fun k => x0 (ix2 i k)) (fun k => x1 (ix2 i k)) (fun k => x2 (ix2 0 k)) (hi k) := fun k => by
    unfold k0_pay26 k0_pay22
    rw [ld_whole, ld_whole]
    exact pay8_at x0 x1 _ i _ (ld_hi x2) k
  have hla : ∀ k : Fin 2560, View.ld x3 (Rect.unit (s := S1x3x5120x128) ![0, j, 0, 0] S1x1x2560x128.size h1) (ix4 0 0 k r)
      = x3 (ix4 0 ⟨c.val / 128, by omega⟩ (lo k) ⟨c.val % 128, by omega⟩) := fun k =>
    congrArg x3 (idx_part4 j 0 _ k _ _ _ _ (by dsimp only; omega) (Nat.zero_add _).symm (by dsimp only; omega))
  have hlb : ∀ k : Fin 2560, View.ld x3 (Rect.unit (s := S1x3x5120x128) ![0, j, 2560, 0] S1x1x2560x128.size h2) (ix4 0 0 k r)
      = x3 (ix4 0 ⟨c.val / 128, by omega⟩ (hi k) ⟨c.val % 128, by omega⟩) := fun k =>
    congrArg x3 (idx_part4 j 2560 _ k _ _ _ _ (by dsimp only; omega) rfl (by dsimp only; omega))
  exact low_at i (fun k => x2 (ix2 0 k)) _ _ _ _ r (fun k => x0 (ix2 i k)) (fun k => x1 (ix2 i k)) (fun k => x3 (ix4 0 ⟨c.val / 128, by omega⟩ k ⟨c.val % 128, by omega⟩)) hv hw hla hlb

theorem out7_at : out0_7 x0 x1 x2 x3 = fun y : S256x384.Idx => bLow x0 x1 x2 x3 (y 0) (y 1) := funext fun y => by
  unfold out0_7
  have lt (x : S256x128.Idx) : (x 1).val < 128 := (x 1).isLt
  refine canon_tile (Val := Elt Ideal) (e := .bf16) _ (fun y : S256x384.Idx => bLow x0 x1 x2 x3 (y 0) (y 1)) ?_ (cover0_7 (F := Ideal) _ _ _) y
  refine ⟨fun x => ?_, fun x => ?_, fun x => ?_, trivial⟩
  · have h := lt x
    rw [ValueIdx.eq_ix2 x]
    refine Eq.trans ?_ (congrArg (fun y : S256x384.Idx => bLow x0 x1 x2 x3 (y 0) (y 1)) (at14 (x 0) (x 1)).symm)
    exact low_part x0 x1 x2 x3 2 (by decide) _ _ (x 0) (x 1) _ rfl
  · have h := lt x
    rw [ValueIdx.eq_ix2 x]
    refine Eq.trans ?_ (congrArg (fun y : S256x384.Idx => bLow x0 x1 x2 x3 (y 0) (y 1)) (at11 (x 0) (x 1)).symm)
    exact low_part x0 x1 x2 x3 1 (by decide) _ _ (x 0) (x 1) _ rfl
  · have h := lt x
    rw [ValueIdx.eq_ix2 x]
    refine Eq.trans ?_ (congrArg (fun y : S256x384.Idx => bLow x0 x1 x2 x3 (y 0) (y 1)) (at8 (x 0) (x 1)).symm)
    exact low_part x0 x1 x2 x3 0 (by decide) _ _ (x 0) (x 1) _ rfl

end Outs

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0, 0, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt6 (t : Fin cfg0.N) : t.val < 6 := lt_of_lt_of_eq t.isLt N_0

section Reads
variable (t : Fin cfg0.N)

theorem read0 (i : Fin 256) (k : Fin 2560) (i' : Fin 1536) (h : i'.val = t.val * 256 + i.val) : iblk m c 0 t (ix2 i k) = m ((c : Thread nD τ).loc main_arg0) (ix2 i' k) := by
  blk_ext [iblk, V, idx t]
theorem read1 (i : Fin 256) (k : Fin 2560) (i' : Fin 1536) (h : i'.val = t.val * 256 + i.val) : iblk m c 1 t (ix2 i k) = m ((c : Thread nD τ).loc main_arg1) (ix2 i' k) := by
  blk_ext [iblk, V, idx t]
theorem read2 (k : Fin 5120) : iblk m c 2 t (ix2 (0 : Fin 1) k) = m ((c : Thread nD τ).loc main_arg2) (ix2 (0 : Fin 1) k) := by
  blk_ext [iblk, V, idx t]
theorem read3 (j : Fin 3) (k : Fin 5120) (r : Fin 128) : iblk m c 3 t (ix4 (0 : Fin 1) j k r) = m ((c : Thread nD τ).loc main_arg3) (ix4 (0 : Fin 2) j k r) := by
  blk_ext [iblk, V, idx t]

theorem code_at (i : Fin 256) (i' : Fin 1536) (h : i'.val = t.val * 256 + i.val) :
    bCode (iblk m c 0 t) (iblk m c 1 t) (iblk m c 2 t) i = cod (m ((c : Thread nD τ).loc main_arg0)) (m ((c : Thread nD τ).loc main_arg1)) (m ((c : Thread nD τ).loc main_arg2)) i' := by
  unfold bCode cod
  simp only [read0 m c t i _ i' h, read1 m c t i _ i' h, read2 m c t]

theorem scale_at (i : Fin 256) (i' : Fin 1536) (h : i'.val = t.val * 256 + i.val) :
    bScale (iblk m c 0 t) (iblk m c 1 t) (iblk m c 2 t) i = scl (m ((c : Thread nD τ).loc main_arg0)) (m ((c : Thread nD τ).loc main_arg1)) (m ((c : Thread nD τ).loc main_arg2)) i' := by
  unfold bScale scl
  simp only [read0 m c t i _ i' h, read1 m c t i _ i' h, read2 m c t]

theorem lows_at (i : Fin 256) (i' : Fin 1536) (h : i'.val = t.val * 256 + i.val) (d : Fin 384) :
    bLow (iblk m c 0 t) (iblk m c 1 t) (iblk m c 2 t) (iblk m c 3 t) i d
      = lows (m ((c : Thread nD τ).loc main_arg0)) (m ((c : Thread nD τ).loc main_arg1)) (m ((c : Thread nD τ).loc main_arg2)) (m ((c : Thread nD τ).loc main_arg3)) (ix2 i' d) := by
  unfold bLow lows
  simp only [read0 m c t i _ i' h, read1 m c t i _ i' h, read2 m c t, read3 m c t]
  rfl

end Reads

theorem final4 : (dats m 0 c).arrAt 4 cfg0.N = codes8 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have ht := lt6 t
  have h0 : (y 0).val < 256 := (y 0).isLt
  have e : (win0_4.blk t).view.emb y = ix2 ⟨t.val * 256 + (y 0).val, by omega⟩ (y 1) := by blk_ext [idx t]
  rw [e]
  refine (congrFun (out4_at _ _ _ _) y).trans ?_
  exact congrArg (FloatOps.fptosi (F := Ideal) (φ := .f32) 8) (congrFun (code_at m c t (y 0) _ rfl) (y 1))

theorem final5 : (dats m 0 c).arrAt 5 cfg0.N = codes (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have ht := lt6 t
  have h0 : (y 0).val < 256 := (y 0).isLt
  have e : (win0_5.blk t).view.emb y = ix2 ⟨t.val * 256 + (y 0).val, by omega⟩ (y 1) := by blk_ext [idx t]
  rw [e]
  refine (congrFun (out5_at _ _ _ _) y).trans ?_
  exact congrFun (code_at m c t (y 0) _ rfl) (y 1)

theorem final6 : (dats m 0 c).arrAt 6 cfg0.N = scales (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have ht := lt6 t
  have h0 : (y 0).val < 256 := (y 0).isLt
  have e : (win0_6.blk t).view.emb y = ix2 ⟨t.val * 256 + (y 0).val, by omega⟩ (y 1) := by blk_ext [idx t]
  rw [e]
  refine (congrFun (out6_at _ _ _ _) y).trans ?_
  exact scale_at m c t (y 0) _ rfl

theorem final7 : (dats m 0 c).arrAt 7 cfg0.N = lows (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have ht := lt6 t
  have h0 : (y 0).val < 256 := (y 0).isLt
  have e : (win0_7.blk t).view.emb y = ix2 ⟨t.val * 256 + (y 0).val, by omega⟩ (y 1) := by blk_ext [idx t]
  rw [e]
  refine (congrFun (out7_at _ _ _ _) y).trans ?_
  exact lows_at m c t (y 0) _ rfl (y 1)

end Cert.InIdeal.Block
-- ==== Proof.InRefMath.lean ====
/-
  THE FIRST STAGE'S REFERENCE, as array expressions: `cat` joins the hidden and embedding rows, `root` is their root mean square,
  `normed` the normalised rows, `scaleOf` and `codesAt` the quantiser, `lowR` the LoRA products. Read at an index they are the
  numbers of `InMath`.
-/
module

public import proofs.«01_k».proof.Proof.InMath
public import proofs.«01_k».proof.Proof.KvRefMath
public import proofs.«01_k».proof.Proof.Gen.InRefIdeal.Value

@[expose] public section

set_option maxRecDepth 16384

noncomputable section

open Idealize.ShloMosaic Idealize.ShloMosaic.TcCoe Idealize.SL.Sem

namespace Cert.InRefIdeal.Math
open Cert.InRefIdeal Cert.InRefIdeal.Gen Cert.Weights Cert.InMath Cert.KvMath
open Cert.KvRefMath (cst cst_eq)

def cat (H E : FVec Ideal S1536x2560 .bf16) : FVec Ideal S1536x5120 .f32 :=
  concatenate S1536x5120 1 [⟨S1536x2560, (extf .f32 H bitsLt_bf16_f32 : FVec Ideal S1536x2560 .f32)⟩, ⟨S1536x2560, (extf .f32 E bitsLt_bf16_f32 : FVec Ideal S1536x2560 .f32)⟩] concatenates_S1536x2560_S1536x2560_S1536x5120_d1

def sumsq (c : FVec Ideal S1536x5120 .f32) : FVec Ideal S1536 .f32 :=
  Host.reduceAdd (mulf c c) (constant S_ .f32 0x00000000#32) reducesTo_S1536x5120_S1536_d1 h_S_

def root (v : FVec Ideal S1536 .f32) : FVec Ideal S1536x1 .f32 :=
  Host.sqrt (addf (Host.divf (broadcastInDim S1536x1 ![0] bcast_S1536_S1536x1_0 v) (cst bcast_S_S1536x1 0x45A00000#32)) (cst bcast_S_S1536x1 0x3727C5AC#32))

def normed (c : FVec Ideal S1536x5120 .f32) (r : FVec Ideal S1536x1 .f32) (g : FVec Ideal S1x5120 .f32) : FVec Ideal S1536x5120 .f32 :=
  mulf (Host.divf c (broadcastInDim S1536x5120 ![0, 1] bcast_S1536x1_S1536x5120_0_1 r)) (broadcastInDim S1536x5120 ![0, 1] bcast_S1x5120_S1536x5120_0_1 g)

def amaxR (z : FVec Ideal S1536x5120 .f32) : FVec Ideal S1536 .f32 :=
  Host.reduce FloatOps.maximumf (Host.absf z) (constant S_ .f32 0xFF800000#32) reducesTo_S1536x5120_S1536_d1 h_S_

def scaleOf (v : FVec Ideal S1536 .f32) : FVec Ideal S1536 .f32 :=
  select (cmpf .ogt v (cst bcast_S_S1536 0x00000000#32)) (Host.divf v (cst bcast_S_S1536 0x42FE0000#32)) (cst bcast_S_S1536 0x3F800000#32)

def codesAt (z : FVec Ideal S1536x5120 .f32) (v : FVec Ideal S1536 .f32) : FVec Ideal S1536x5120 .f32 :=
  minimumf (cst bcast_S_S1536x5120 0x42FE0000#32) (maximumf (cst bcast_S_S1536x5120 0xC2FE0000#32) (Host.roundeven
    (Host.divf z (broadcastInDim S1536x5120 ![0, 1] bcast_S1536x1_S1536x5120_0_1 (broadcastInDim S1536x1 ![0] bcast_S1536_S1536x1_0 v)))))

def lanes (v : FVec Ideal S1536 .f32) : FVec Ideal S1536x128 .f32 :=
  broadcastInDim S1536x128 ![0, 1] bcast_S1536x1_S1536x128_0_1 (broadcastInDim S1536x1 ![0] bcast_S1536_S1536x1_0 v)

def lowR (z : FVec Ideal S1536x5120 .f32) (L : FVec Ideal S2x3x5120x128 .bf16) : FVec Ideal S1536x384 .bf16 :=
  shapeCast _ (truncf .bf16 (Host.dotGeneral dot_S1536x5120_S3x5120x128_S1536x3x128_1_1_0_02_n_n none (truncf .bf16 z bitsLt_bf16_f32)
    (shapeCast S3x5120x128 (extractStridedSlice S1x3x5120x128 ![0, 0, 0, 0] L slices_S2x3x5120x128_S1x3x5120x128_0_0_0_0) shapeCasts_S1x3x5120x128_S3x5120x128) : FVec Ideal S1536x3x128 .f32)
    bitsLt_bf16_f32) shapeCasts_S1536x3x128_S1536x384

theorem cat_at (H E : FVec Ideal S1536x2560 .bf16) (i : Fin 1536) (k : Fin 5120) : cat H E (ix2 i k) = both (fun k => H (ix2 i k)) (fun k => E (ix2 i k)) k := by
  unfold cat both
  pointwise

theorem root_at (v : FVec Ideal S1536 .f32) (i : Fin 1536) : root v (ix2 i 0) = rmsOf (v (ix1 i)) := by
  unfold root
  rw [cst_eq, cst_eq]
  pointwise
  rfl

theorem normed_at (c : FVec Ideal S1536x5120 .f32) (r : FVec Ideal S1536x1 .f32) (g : FVec Ideal S1x5120 .f32) (i : Fin 1536) (k : Fin 5120) :
    normed c r g (ix2 i k) = Ideal.div (c (ix2 i k)) (r (ix2 i 0)) * g (ix2 0 k) := by
  unfold normed
  pointwise

theorem scaleOf_at (v : FVec Ideal S1536 .f32) (i : Fin 1536) : scaleOf v (ix1 i) = InMath.qscale (v (ix1 i)) := by
  unfold scaleOf
  rw [cst_eq, cst_eq, cst_eq]
  pointwise
  rfl

theorem codesAt_at (z : FVec Ideal S1536x5120 .f32) (v : FVec Ideal S1536 .f32) (i : Fin 1536) (k : Fin 5120) :
    codesAt z v (ix2 i k) = InMath.qcode (z (ix2 i k)) (v (ix1 i)) := by
  unfold codesAt
  rw [cst_eq, cst_eq]
  pointwise
  rfl

theorem lanes_at (v : FVec Ideal S1536 .f32) (i : Fin 1536) (l : Fin 128) : lanes v (ix2 i l) = v (ix1 i) := by
  unfold lanes
  pointwise

theorem low_at (z : FVec Ideal S1536x5120 .f32) (L : FVec Ideal S2x3x5120x128 .bf16) (i : Fin 1536) (d : Fin 384) :
    lowR z L (ix2 i d) = ∑ k : Fin 5120, z (ix2 i k) * L (ix4 0 ⟨d.val / 128, by omega⟩ k ⟨d.val % 128, by omega⟩) := by
  unfold lowR
  pointwise

theorem amaxR_at (z : FVec Ideal S1536x5120 .f32) (i : Fin 1536) : amaxR z (ix1 i) = top fun k => z (ix2 i k) := by
  unfold amaxR top
  pointwise
  rfl

theorem sumsq_at (c : FVec Ideal S1536x5120 .f32) (i : Fin 1536) : sumsq c (ix1 i) = ∑ k : Fin 5120, c (ix2 i k) * c (ix2 i k) := by
  unfold sumsq
  pointwise

end Cert.InRefIdeal.Math
-- ==== Proof.InRef.lean ====
/-
  THE FIRST STAGE'S REFERENCE RESULTS are the arrays of `InMath` of the arguments.
-/
module

public import proofs.«01_k».proof.Proof.InRefMath

@[expose] public section

set_option maxRecDepth 16384

noncomputable section

open Idealize.ShloMosaic Idealize.ShloMosaic.TcCoe Idealize.SL.Sem

namespace Cert.InRefIdeal.Math
open Cert.InRefIdeal Cert.InRefIdeal.Gen Cert.Weights Cert.InMath Cert.KvMath

section Rows
variable (H E : FVec Ideal S1536x2560 .bf16) (G : FVec Ideal S1x5120 .f32) (L : FVec Ideal S2x3x5120x128 .bf16)

/-- The normalised rows. -/
def rows : FVec Ideal S1536x5120 .f32 := normed (cat H E) (root (sumsq (cat H E))) G

theorem rows_at (i : Fin 1536) (k : Fin 5120) : rows H E G (ix2 i k) = nrm H E G i k := by
  refine (normed_at _ _ _ i k).trans ?_
  rw [root_at, sumsq_at, cat_at]
  unfold nrm InMath.norm InMath.rms
  refine congrArg (fun s => Ideal.div _ (rmsOf s) * _) (Finset.sum_congr rfl fun k _ => ?_)
  rw [cat_at]

theorem scale_at (i : Fin 1536) : scaleOf (amaxR (rows H E G)) (ix1 i) = scl H E G i := by
  rw [scaleOf_at, amaxR_at, show (fun k => rows H E G (ix2 i k)) = nrm H E G i from funext fun k => rows_at H E G i k]
  rfl

theorem codes_at (i : Fin 1536) (k : Fin 5120) : codesAt (rows H E G) (scaleOf (amaxR (rows H E G))) (ix2 i k) = cod H E G i k := by
  rw [codesAt_at, rows_at, scale_at]
  rfl

theorem lows_at (i : Fin 1536) (d : Fin 384) : lowR (rows H E G) L (ix2 i d) = lows H E G L (ix2 i d) :=
  (low_at _ L i d).trans (Finset.sum_congr rfl fun k _ => congrArg (· * _) (rows_at H E G i k))

end Rows

variable (m : (ℓ : Loc nD τ sig) → Buf (Elt Ideal) ℓ) (c : Dev nD)

/-- What the host leaves: the codes the region casts, the codes as numbers, the scales, the LoRA products. -/
theorem V_num : V m c main_v26 = codesAt (rows (m ((c : Thread nD τ).loc main_arg0)) (m ((c : Thread nD τ).loc main_arg1)) (m ((c : Thread nD τ).loc main_arg2)))
    (scaleOf (amaxR (rows (m ((c : Thread nD τ).loc main_arg0)) (m ((c : Thread nD τ).loc main_arg1)) (m ((c : Thread nD τ).loc main_arg2))))) := by
  unfold V
  simp only [hostOps0, hostOps0_1, hostOps0_2, hostOps0_3, hostOps0_4, hostOps0_5, hostOps0_6, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp <;> rfl

theorem V_num16 : V m c main_v35 = truncf .bf16 (codesAt (rows (m ((c : Thread nD τ).loc main_arg0)) (m ((c : Thread nD τ).loc main_arg1)) (m ((c : Thread nD τ).loc main_arg2)))
    (scaleOf (amaxR (rows (m ((c : Thread nD τ).loc main_arg0)) (m ((c : Thread nD τ).loc main_arg1)) (m ((c : Thread nD τ).loc main_arg2)))))) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp <;> rfl

theorem V_lanes : V m c main_v34 = lanes (scaleOf (amaxR (rows (m ((c : Thread nD τ).loc main_arg0)) (m ((c : Thread nD τ).loc main_arg1)) (m ((c : Thread nD τ).loc main_arg2))))) := by
  unfold V
  simp only [hostOps0, hostOps0_1, hostOps0_2, hostOps0_3, hostOps0_4, hostOps0_5, hostOps0_6, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp <;> rfl

theorem V_low : V m c main_v32 = lowR (rows (m ((c : Thread nD τ).loc main_arg0)) (m ((c : Thread nD τ).loc main_arg1)) (m ((c : Thread nD τ).loc main_arg2))) (m ((c : Thread nD τ).loc main_arg3)) := by
  unfold V
  simp only [hostOps0, hostOps0_1, hostOps0_2, hostOps0_3, hostOps0_4, hostOps0_5, hostOps0_6, List.flatten_cons, List.flatten_nil, List.append_nil, List.cons_append, List.nil_append,
    StableHlo.TRef.ternary, StableHlo.TRef.binary, StableHlo.TRef.unary, StableHlo.TRef.toBuf, StableHlo.TRef.ofBuf, cast_eq]
  after_results_simp <;> rfl

theorem V_codes : V m c main_v35 = codes (m ((c : Thread nD τ).loc main_arg0)) (m ((c : Thread nD τ).loc main_arg1)) (m ((c : Thread nD τ).loc main_arg2)) := by
  rw [V_num16]
  refine funext fun y => ?_
  rw [ValueIdx.eq_ix2 y]
  exact codes_at _ _ _ (y 0) (y 1)

theorem V_scales : V m c main_v34 = scales (m ((c : Thread nD τ).loc main_arg0)) (m ((c : Thread nD τ).loc main_arg1)) (m ((c : Thread nD τ).loc main_arg2)) := by
  rw [V_lanes]
  refine funext fun y => ?_
  rw [ValueIdx.eq_ix2 y]
  exact (lanes_at _ (y 0) (y 1)).trans (scale_at _ _ _ (y 0))

theorem V_lows : V m c main_v32 = lows (m ((c : Thread nD τ).loc main_arg0)) (m ((c : Thread nD τ).loc main_arg1)) (m ((c : Thread nD τ).loc main_arg2)) (m ((c : Thread nD τ).loc main_arg3)) := by
  rw [V_low]
  refine funext fun y => ?_
  rw [ValueIdx.eq_ix2 y]
  exact lows_at _ _ _ _ (y 0) (y 1)

theorem idx : ∀ t : Fin cfg0.N, win0_0.index t = ![0, 0] ∧ win0_1.index t = ![0, 0] :=
  (by decide +kernel : ∀ t : Fin grid0.N, _)

/-- The region's one block is the whole array. -/
theorem emb0 (t : Fin cfg0.N) (i : Fin 1536) (k : Fin 5120) : (win0_0.blk t).view.emb (ix2 i k) = ix2 i k := by blk_ext [idx t]
theorem emb1 (t : Fin cfg0.N) (y : S1536x5120.Idx) : (win0_1.blk t).view.emb y = ix2 (y 0) (y 1) := by blk_ext [idx t]

theorem read_at (A : Buf (Elt Ideal) ((c : Thread nD τ).loc main_v26)) (t : Fin cfg0.N) (i : Fin 1536) (k : Fin 5120) :
    ((cfg0.win 0).blk t).view.read (Elt Ideal) A (ix2 i k) = A (ix2 i k) := by
  rw [View.read_apply]
  exact congrArg A (emb0 t i k)

theorem out_at (A : Buf (Elt Ideal) ((c : Thread nD τ).loc main_v26)) (t : Fin cfg0.N) (y : S1536x5120.Idx) :
    out0_1 (((cfg0.win 0).blk t).view.read (Elt Ideal) A) y = FloatOps.fptosi (F := Ideal) (φ := .f32) 8 (A (ix2 (y 0) (y 1))) := by
  refine (Cert.InRefIdeal.Value.canon1_eq _ y).trans ?_
  have e0 : r0_0.idx (Cert.InRefIdeal.Value.ix1_0 y) = ix2 (y 0) (y 1) := funext fun a => Fin.ext (by
    match a with
    | ⟨0, _⟩ => show 0 + 1 * (y 0).val = (y 0).val; omega
    | ⟨1, _⟩ => show 0 + 1 * (y 1).val = (y 1).val; omega)
  refine Eq.trans (b := FloatOps.fptosi (F := Ideal) (φ := .f32) 8 (((cfg0.win 0).blk t).view.read (Elt Ideal) A (r0_0.idx (Cert.InRefIdeal.Value.ix1_0 y)))) rfl ?_
  exact congrArg (FloatOps.fptosi (F := Ideal) (φ := .f32) 8) ((congrArg (((cfg0.win 0).blk t).view.read (Elt Ideal) A) e0).trans (read_at c A t (y 0) (y 1)))

theorem iblk_eq (t : Fin cfg0.N) : iblk m c 0 t = ((cfg0.win 0).blk t).view.read (Elt Ideal) (V m c main_v26) := by
  unfold iblk
  rfl

theorem cast_at (i : Fin 1536) (k : Fin 5120) : FloatOps.fptosi (F := Ideal) (φ := .f32) 8 (V m c main_v26 (ix2 i k)) = codes8 (m ((c : Thread nD τ).loc main_arg0)) (m ((c : Thread nD τ).loc main_arg1)) (m ((c : Thread nD τ).loc main_arg2)) (ix2 i k) := by
  rw [V_num]
  exact congrArg (FloatOps.fptosi (F := Ideal) (φ := .f32) 8) (codes_at _ _ _ i k)

/-- The region's result is the codes as integers. -/
theorem final1 : (dats m 0 c).arrAt 1 cfg0.N = codes8 (m ((c : Thread nD τ).loc main_arg0)) (m ((c : Thread nD τ).loc main_arg1)) (m ((c : Thread nD τ).loc main_arg2)) := by
  refine (dats m 0 c).arrAt_eq_of_covers 1 _ (by decide +kernel) fun t hf y => ?_
  blk_simp
  rw [after0_1, iblk_eq, emb1 t y]
  exact (out_at c (V m c main_v26) t y).trans (cast_at m c (y 0) (y 1))

end Cert.InRefIdeal.Math
-- ==== Proof.InClaim.lean ====
/-
  THE CLAIM OF THE FIRST STAGE: at the ideal instance the kernel and the reference end with the same four arrays, the codes as
  integers and as numbers, the scales and the LoRA products of the arguments.
-/
module

public import proofs.«01_k».proof.Defs
public import proofs.«01_k».proof.Proof.InVal
public import proofs.«01_k».proof.Proof.InRef

@[expose] public section

set_option maxRecDepth 16384

noncomputable section

open Idealize.ShloMosaic Idealize.ShloMosaic.TcCoe Idealize.SL.Sem

namespace Cert.In.Claims
open Cert.InMath

/-- The reference terminates and keeps its arguments. -/
theorem ref_frame : Cert.quiescent_InRefIdeal (hInRefIdeal := Cert.InRefIdeal.Gen.facts) := fun m ρ _ => Cert.InRefIdeal.Gen.frame m ρ

/-- What the reference's run leaves in its four results and its arguments. -/
theorem ref_run (m' : (ℓ : Loc Cert.InRefIdeal.nD Cert.InRefIdeal.τ Cert.InRefIdeal.sig) → Buf (Elt Ideal) ℓ) (ρ' : Dev Cert.InRefIdeal.nD → PrngReg) :
    θ_run (Cert.InRefIdeal.defs (F := Ideal)) (onTc (τ := Cert.InRefIdeal.τ) (Cert.InRefIdeal.main (F := Ideal))) ⟨m', fun _ => 0, ρ'⟩ (fun r => ∀ c : Dev Cert.InRefIdeal.nD,
      r.2.mem ((c.tc : Thread Cert.InRefIdeal.nD Cert.InRefIdeal.τ).loc Cert.InRefIdeal.main_v36) = codes8 (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2))
      ∧ r.2.mem ((c.tc : Thread Cert.InRefIdeal.nD Cert.InRefIdeal.τ).loc Cert.InRefIdeal.main_v35) = codes (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2))
      ∧ r.2.mem ((c.tc : Thread Cert.InRefIdeal.nD Cert.InRefIdeal.τ).loc Cert.InRefIdeal.main_v34) = scales (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2))
      ∧ r.2.mem ((c.tc : Thread Cert.InRefIdeal.nD Cert.InRefIdeal.τ).loc Cert.InRefIdeal.main_v32) = lows (m' ((c.tc : Thread Cert.InRefIdeal.nD Cert.InRefIdeal.τ).loc Cert.InRefIdeal.main_arg0)) (m' ((c.tc : Thread Cert.InRefIdeal.nD Cert.InRefIdeal.τ).loc Cert.InRefIdeal.main_arg1)) (m' ((c.tc : Thread Cert.InRefIdeal.nD Cert.InRefIdeal.τ).loc Cert.InRefIdeal.main_arg2)) (m' ((c.tc : Thread Cert.InRefIdeal.nD Cert.InRefIdeal.τ).loc Cert.InRefIdeal.main_arg3))
      ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)) :=
  (θ_run Cert.InRefIdeal.defs _ _).mono (fun r h c =>
    ⟨(Cert.InRefIdeal.Value.post1 m' r h c).trans (Cert.InRefIdeal.Math.final1 m' c),
     ((h c).2 Cert.InRefIdeal.main_v35 (Pipeline.mem_restRefs_of Cert.InRefIdeal.main_v35 (by decide) (by decide))).trans (Cert.InRefIdeal.Math.V_codes m' c),
     ((h c).2 Cert.InRefIdeal.main_v34 (Pipeline.mem_restRefs_of Cert.InRefIdeal.main_v34 (by decide) (by decide))).trans (Cert.InRefIdeal.Math.V_scales m' c),
     ((h c).2 Cert.InRefIdeal.main_v32 (Pipeline.mem_restRefs_of Cert.InRefIdeal.main_v32 (by decide) (by decide))).trans (Cert.InRefIdeal.Math.V_lows m' c),
     Cert.InRefIdeal.Value.kept_main_arg0 m' r h c, Cert.InRefIdeal.Value.kept_main_arg1 m' r h c, Cert.InRefIdeal.Value.kept_main_arg2 m' r h c, Cert.InRefIdeal.Value.kept_main_arg3 m' r h c⟩) (Cert.InRefIdeal.Gen.run_main m' ρ')

theorem algebraic : Cert.algebraic_InIdeal_InRefIdeal (hInIdeal := Cert.InIdeal.Gen.facts) (hInRefIdeal := Cert.InRefIdeal.Gen.facts) := by
  intro m ρ m' ρ' _ hag
  refine ⟨fun c => codes8 (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)), fun c => codes (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)), fun c => scales (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)), fun c => lows (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)), ?_, ?_⟩
  · exact (θ_run Cert.InIdeal.defs _ _).mono
      (fun _ h c => ⟨(h c).1.trans (Cert.InIdeal.Block.final4 m c), (h c).2.1.trans (Cert.InIdeal.Block.final5 m c), (h c).2.2.1.trans (Cert.InIdeal.Block.final6 m c),
        (h c).2.2.2.1.trans (Cert.InIdeal.Block.final7 m c), (h c).2.2.2.2⟩) (Cert.InIdeal.Value.run_blocks m ρ)
  · refine (θ_run Cert.InRefIdeal.defs _ _).mono
      (fun _ h c => ⟨(h c).1.trans ?_, (h c).2.1.trans ?_, (h c).2.2.1.trans ?_, (h c).2.2.2.1.trans ?_, (h c).2.2.2.2⟩) (ref_run m' ρ')
    · rw [(hag c).1, (hag c).2.1, (hag c).2.2.1]
    · rw [(hag c).1, (hag c).2.1, (hag c).2.2.1]
    · rw [(hag c).1, (hag c).2.1, (hag c).2.2.1]
    · rw [(hag c).1, (hag c).2.1, (hag c).2.2.1, (hag c).2.2.2]

end Cert.In.Claims
-- ==== Proof.LinMath.lean ====
/-
  THE LAST STAGE AS MATHEMATICS. A row `y` is quantised (`scale`, `code`), multiplied by a matrix of integers `w`, scaled by the
  row's scale and the columns' scales `s`, and added to the row `h`: `next`. That row over its root mean square, times the gain `g`,
  is `normed`, and is quantised in turn.
-/
module

public import proofs.«01_k».proof.Proof.InMath

@[expose] public section

set_option maxRecDepth 16384

noncomputable section

namespace Cert.LinMath

open Idealize.ShloMosaic Cert.Weights
open Cert.KvMath (mag)
open Cert.InMath (qscale qcode)

abbrev Row := Fin 2560 → EReal

/-- A row's scale and codes. -/
def scale (f : Row) : EReal := qscale (Finset.univ.fold max ⊥ fun k => mag (f k))
def code (f : Row) (k : Fin 2560) : EReal := qcode (f k) (scale f)

def next (y h : Row) (w : Fin 2560 → Row) (s : Row) (j : Fin 2560) : EReal := h j + (∑ k, code y k * w k j) * scale y * s j
def rms (f : Row) : EReal := Ideal.sqrt (Ideal.div (∑ k, f k * f k) (Ideal.ofBits .f32 0x45200000#32) + Ideal.ofBits .f32 0x3727C5AC#32)
def normed (f g : Row) (j : Fin 2560) : EReal := Ideal.div (f j) (rms f) * g j

def whole (x : EReal) : BitVec 8 := FloatOps.fptosi (F := Ideal) (φ := .f32) 8 x

/-- Slice `q` of the integer weights, as numbers. -/
def wt (W : IVec ⟨3, ![2, 2560, 2560]⟩ 8) (q : Fin 2) (k j : Fin 2560) : EReal := FloatOps.sitofp (F := Ideal) .bf16 (W (ix3 q k j))

section Arrays
variable (Y H : Fin 1536 → Row) (w : Fin 2560 → Row) (s g : Row)

/-- The five results: the new rows, and the codes and scales of the rows given and of the new rows normalised. -/
def rows (i : Fin 1536) : Row := next (Y i) (H i) w s
def news : FVec Ideal ⟨2, ![1536, 2560]⟩ .f32 := fun y => rows Y H w s (y 0) (y 1)
def codesIn : IVec ⟨2, ![1536, 2560]⟩ 8 := fun y => whole (code (Y (y 0)) (y 1))
def scalesIn : FVec Ideal ⟨2, ![1536, 128]⟩ .f32 := fun y => scale (Y (y 0))
def codesOut : IVec ⟨2, ![1536, 2560]⟩ 8 := fun y => whole (code (normed (rows Y H w s (y 0)) g) (y 1))
def scalesOut : FVec Ideal ⟨2, ![1536, 128]⟩ .f32 := fun y => scale (normed (rows Y H w s (y 0)) g)

end Arrays

end Cert.LinMath
-- ==== Proof.LinRows.lean ====
/-
  ONE BLOCK OF THE LAST STAGE'S KERNEL, read at a row: its scale and codes, the new row, the new row normalised, and the scale and
  codes of that.
-/
module

public import proofs.«01_k».proof.Proof.LinMath
public import proofs.«01_k».proof.Proof.Gen.LinIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LinIdeal.Block
open Cert.LinIdeal Cert.LinIdeal.Gen Cert.Weights Cert.InMath Cert.KvMath Cert.LinMath

section Rows
variable (y h : FVec Ideal S256x2560 .f32) (w : FVec Ideal S2560x2560 .bf16) (s g : FVec Ideal S1x2560 .f32) (i : Fin 256)

def tops : FVec Ideal S256 .f32 := multiReduction .maximumf [1] S256 (absf y) 0xFF800000#32 reduces_S256x2560_S256 (.inl rfl) rfl

theorem tops_at : tops y (ix1 i) = Finset.univ.fold max ⊥ fun k => mag (y (ix2 i k)) := by
  unfold tops
  pointwise
  rfl

theorem scale_at (v : FVec Ideal S256x1 .f32) : select (cmpf .ogt v (broadcast S256x1 (Scalar.ofBits .f32 0x00000000#32 : Ideal .f32))) (divf v (broadcast S256x1 (Scalar.ofBits .f32 0x42FE0000#32 : Ideal .f32)))
    (broadcast S256x1 (Scalar.ofBits .f32 0x3F800000#32 : Ideal .f32)) (ix2 i 0) = InMath.qscale (v (ix2 i 0)) := by
  pointwise
  rfl

theorem column_at (v : FVec Ideal S256 .f32) : shapeCast S256x1 v shapeCasts_S256_S256x1 (ix2 i 0) = v (ix1 i) := by
  pointwise

theorem pay7_at : k0_pay7 (F := Ideal) y (ix2 i 0) = scale fun k => y (ix2 i k) :=
  (scale_at i _).trans (congrArg InMath.qscale ((column_at i (tops y)).trans (tops_at y i)))

theorem code_at (k : Fin 2560) (v : FVec Ideal S256x1 .f32) (hv : k0_pay7 (F := Ideal) y = v) : k0_pay8 (F := Ideal) y (ix2 i k) = InMath.qcode (y (ix2 i k)) (v (ix2 i 0)) := by
  unfold k0_pay8
  rw [hv]
  pointwise
  rfl

theorem pay8_at (k : Fin 2560) : k0_pay8 (F := Ideal) y (ix2 i k) = code (fun k => y (ix2 i k)) k := (code_at y i k _ rfl).trans (congrArg (InMath.qcode _) (pay7_at y i))

theorem pay9_at (k : Fin 2560) : k0_pay9 (F := Ideal) y (ix2 i k) = whole (code (fun k => y (ix2 i k)) k) := congrArg whole (pay8_at y i k)

theorem pay10_at (l : Fin 128) : k0_pay10 (F := Ideal) y (ix2 i l) = scale fun k => y (ix2 i k) := by
  rw [← pay7_at y i]
  unfold k0_pay10
  generalize k0_pay7 (F := Ideal) y = v
  pointwise

/-- The row times the weights, the row's scale and the columns' scales. -/
theorem sum_at (j : Fin 2560) (v : FVec Ideal S256x1 .f32) (u : FVec Ideal S256x2560 .f32) (hv : k0_pay7 (F := Ideal) y = v) (hu : k0_pay8 (F := Ideal) y = u) :
    k0_pay11 (F := Ideal) y w s (ix2 i j) = (∑ k, u (ix2 i k) * w (ix2 k j)) * v (ix2 i 0) * s (ix2 0 j) := by
  unfold k0_pay11
  rw [hv, hu]
  pointwise

theorem pay11_at (j : Fin 2560) : k0_pay11 (F := Ideal) y w s (ix2 i j)
    = (∑ k, code (fun k => y (ix2 i k)) k * w (ix2 k j)) * scale (fun k => y (ix2 i k)) * s (ix2 0 j) := by
  refine (sum_at y w s i j _ _ rfl rfl).trans ?_
  rw [pay7_at y i]
  simp only [pay8_at y i]

/-- The new row. -/
def nrow (j : Fin 2560) : EReal := next (fun k => y (ix2 i k)) (fun k => h (ix2 i k)) (fun k j => w (ix2 k j)) (fun k => s (ix2 0 k)) j

theorem pay1_at (j : Fin 2560) : k0_pay1 (F := Ideal) (k0_pay11 y w s) h (ix2 i j) = nrow y h w s i j :=
  congrArg (h (ix2 i j) + ·) (pay11_at y w s i j)

theorem pay2_at (j : Fin 2560) : k0_pay2 (F := Ideal) (k0_pay11 y w s) h g (ix2 i j) = normed (nrow y h w s i) (fun k => g (ix2 0 k)) j := by
  have e : nrow y h w s i = fun j => k0_pay1 (F := Ideal) (k0_pay11 y w s) h (ix2 i j) := funext fun j => (pay1_at y h w s i j).symm
  rw [e]
  unfold k0_pay2
  generalize k0_pay1 (F := Ideal) (k0_pay11 y w s) h = v
  pointwise
  rfl

theorem pay3_at : k0_pay3 (F := Ideal) (k0_pay11 y w s) h g (ix2 i 0) = scale (normed (nrow y h w s i) fun k => g (ix2 0 k)) := by
  have e : normed (nrow y h w s i) (fun k => g (ix2 0 k)) = fun j => k0_pay2 (F := Ideal) (k0_pay11 y w s) h g (ix2 i j) := funext fun j => (pay2_at y h w s g i j).symm
  rw [e]
  unfold k0_pay3
  generalize k0_pay2 (F := Ideal) (k0_pay11 y w s) h g = v
  exact pay7_at v i

theorem out_at (p : FVec Ideal S256x2560 .f32) (j : Fin 2560) (v : FVec Ideal S256x2560 .f32) (t : FVec Ideal S256x1 .f32) (hv : k0_pay2 (F := Ideal) p h g = v) (ht : k0_pay3 (F := Ideal) p h g = t) :
    k0_pay4 (F := Ideal) p h g (ix2 i j) = whole (InMath.qcode (v (ix2 i j)) (t (ix2 i 0))) := by
  unfold k0_pay4
  rw [hv, ht]
  pointwise
  rfl

theorem pay4_at (j : Fin 2560) : k0_pay4 (F := Ideal) (k0_pay11 y w s) h g (ix2 i j) = whole (code (normed (nrow y h w s i) fun k => g (ix2 0 k)) j) :=
  (out_at h g i _ j _ _ rfl rfl).trans (congrArg whole (congrArg₂ InMath.qcode (pay2_at y h w s g i j) (pay3_at y h w s g i)))

theorem pay5_at (l : Fin 128) : k0_pay5 (F := Ideal) (k0_pay11 y w s) h g (ix2 i l) = scale (normed (nrow y h w s i) fun k => g (ix2 0 k)) := by
  rw [← pay3_at y h w s g i]
  unfold k0_pay5
  generalize k0_pay3 (F := Ideal) (k0_pay11 y w s) h g = u
  pointwise

end Rows

theorem pay6_at (W : IVec S1x2560x2560 8) (k j : Fin 2560) : k0_pay6 (F := Ideal) W (ix2 k j) = FloatOps.sitofp (F := Ideal) .bf16 (W (ix3 0 k j)) := by
  pointwise [k0_pay6]

theorem pay12_eq (h : FVec Ideal S256x2560 .bf16) : k0_pay12 (F := Ideal) h = h := rfl

end Cert.LinIdeal.Block
-- ==== Proof.LinVal.lean ====
/-
  THE LAST STAGE'S KERNEL, POINT BY POINT. The first of the six points keeps the weights as numbers; every point computes from them
  and from its own blocks, and leaves them as they were.
-/
module

public import proofs.«01_k».proof.Proof.LinRows

@[expose] public section

set_option maxRecDepth 16384

noncomputable section

open Idealize.ShloMosaic Idealize.ShloMosaic.TcCoe Idealize.SL.Sem
open Idealize.ShloMosaic.Pipeline (Dat)
namespace Cert.LinIdeal.Block
open Cert.LinIdeal Cert.LinIdeal.Gen Cert.Weights Cert.InMath Cert.KvMath Cert.LinMath

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves, from its blocks and the weights kept. -/
def left (x0 : Vec Ideal S256x2560 .f32) (x1 : Vec Ideal S256x2560 .bf16) (x3 x4 : Vec Ideal S1x2560 .f32) (w : Vec Ideal S2560x2560 .bf16) :
    Vec Ideal S256x2560 .f32 × Vec Ideal S256x2560 .i8 × Vec Ideal S256x128 .f32 × Vec Ideal S256x2560 .i8 × Vec Ideal S256x128 .f32 × Vec Ideal S2560x2560 .bf16 :=
  (k0_pay1 (k0_pay11 x0 w x3) (k0_pay12 x1), k0_pay9 x0, k0_pay10 x0, k0_pay4 (k0_pay11 x0 w x3) (k0_pay12 x1) x4, k0_pay5 (k0_pay11 x0 w x3) (k0_pay12 x1) x4, w)

variable (m : (ℓ : Loc nD τ sig) → Buf (Elt Ideal) ℓ) (c : Dev nD) (t : Fin cfg0.N)

set_option maxHeartbeats 1000000 in
theorem first_at (h0 : t.val % 6 = 0) : outsAt0 m c t.val t.isLt = left (iblk m c 0 t) (iblk m c 1 t) (iblk m c 3 t) (iblk m c 4 t) (k0_pay6 (iblk m c 2 t)) := by
  rw [outsAt0_A m c t h0]
  unfold out0_A_5 out0_A_6 out0_A_7 out0_A_8 out0_A_9 sout0_A_0 left
  simp only [View.read_writes_junk_eq_canon]
  unfold kernelRun0_A
  dsimp only
  sl_unfold_words
  simp only [View.readAt_eq_ld, Memref.IsWhole.read_unread, View.canon_unit_zero (S := S256x2560) hz, View.canon_unit_zero (S := S256x128) hz, View.ld_unit_zero (S := S256x2560) hz, View.ld_unit_zero (S := S1x2560) hz,
    View.ld_unit_zero (S := S1x2560x2560) hz3, View.canon_unit_zero (S := S2560x2560) hz, View.readCov_unit_zero (S := S2560x2560) _ hz]

set_option maxHeartbeats 1000000 in
theorem next_at (h0 : ¬ t.val % 6 = 0) : outsAt0 m c t.val t.isLt = left (iblk m c 0 t) (iblk m c 1 t) (iblk m c 3 t) (iblk m c 4 t)
    (outsAt0 m c (t.val - 1) (Nat.lt_of_le_of_lt (Nat.sub_le _ _) t.isLt)).2.2.2.2.2 := by
  rw [outsAt0_B m c t h0]
  generalize (outsAt0 m c (t.val - 1) (Nat.lt_of_le_of_lt (Nat.sub_le _ _) t.isLt)).2.2.2.2.2 = w
  unfold out0_B_5 out0_B_6 out0_B_7 out0_B_8 out0_B_9 sout0_B_0 left
  simp only [View.read_writes_junk_eq_canon]
  unfold kernelRun0_B
  dsimp only
  sl_unfold_words
  have e : (View.whole cc0_scratch0).read (Elt Ideal) ((Memref.isWhole_whole cc0_scratch0).unread w) = w := (Memref.isWhole_whole cc0_scratch0).read_unread w
  simp only [View.readAt_eq_ld, Memref.IsWhole.read_unread, View.canon_unit_zero (S := S256x2560) hz, View.canon_unit_zero (S := S256x128) hz, View.ld_unit_zero (S := S256x2560) hz, View.ld_unit_zero (S := S1x2560) hz, View.ld_unit_zero (S := S2560x2560) hz, e]

end Cert.LinIdeal.Block
-- ==== Proof.LinFinal.lean ====
/-
  THE LAST STAGE'S KERNEL RESULTS. Point `t` of the six works on rows `256 t … 256 t + 255`; the weights kept are those of the first
  slice, so what it stores are the new rows, codes and scales of those rows.
-/
module

public import proofs.«01_k».proof.Proof.LinVal

@[expose] public section

set_option maxRecDepth 16384

noncomputable section

open Idealize.ShloMosaic Idealize.ShloMosaic.TcCoe Idealize.SL.Sem
open Idealize.ShloMosaic.Pipeline (Dat)

namespace Cert.LinIdeal.Block
open Cert.LinIdeal Cert.LinIdeal.Gen Cert.Weights Cert.InMath Cert.KvMath Cert.LinMath

variable (m : (ℓ : Loc nD τ sig) → Buf (Elt Ideal) ℓ) (c : Dev nD)

/-- The arguments: the rows to multiply, the rows to add to, the integer weights, the columns' scales, the gain. -/
def aY (i : Fin 1536) : Row := fun k => m ((c : Thread nD τ).loc main_arg0) (ix2 i k)
def aH (i : Fin 1536) : Row := fun k => m ((c : Thread nD τ).loc main_arg1) (ix2 i k)
def aW : Fin 2560 → Row := wt (m ((c : Thread nD τ).loc main_arg2)) 0
def aS : Row := fun k => m ((c : Thread nD τ).loc main_arg3) (ix2 0 k)
def aG : Row := fun k => m ((c : Thread nD τ).loc main_arg4) (ix2 0 k)

theorem idx : ∀ t : Fin cfg0.N, win0_0.index t = ![t.val, 0] ∧ win0_1.index t = ![t.val, 0] ∧ win0_2.index t = ![0, 0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

theorem lt6 (t : Fin cfg0.N) : t.val < 6 := lt_of_lt_of_eq t.isLt N_0

theorem read0 (t : Fin cfg0.N) (i : Fin 256) (k : Fin 2560) (i' : Fin 1536) (h : i'.val = t.val * 256 + i.val) : iblk m c 0 t (ix2 i k) = aY m c i' k := by
  unfold aY
  blk_ext [iblk, V, idx t]
theorem read1 (t : Fin cfg0.N) (i : Fin 256) (k : Fin 2560) (i' : Fin 1536) (h : i'.val = t.val * 256 + i.val) : iblk m c 1 t (ix2 i k) = aH m c i' k := by
  unfold aH
  blk_ext [iblk, V, idx t]
theorem read2 (t : Fin cfg0.N) (k j : Fin 2560) : iblk m c 2 t (ix3 (0 : Fin 1) k j) = m ((c : Thread nD τ).loc main_arg2) (ix3 (0 : Fin 2) k j) := by
  blk_ext [iblk, V, idx t]
theorem read3 (t : Fin cfg0.N) (k : Fin 2560) : iblk m c 3 t (ix2 (0 : Fin 1) k) = aS m c k := by
  unfold aS
  blk_ext [iblk, V, idx t]
theorem read4 (t : Fin cfg0.N) (k : Fin 2560) : iblk m c 4 t (ix2 (0 : Fin 1) k) = aG m c k := by
  unfold aG
  blk_ext [iblk, V, idx t]

/-- What a point leaves is a function of the blocks and of weights that are the argument's. -/
def Good (t : Fin cfg0.N) : Prop := ∃ w : Vec Ideal S2560x2560 .bf16, (∀ k j : Fin 2560, w (ix2 k j) = aW m c k j)
  ∧ outsAt0 m c t.val t.isLt = left (iblk m c 0 t) (iblk m c 1 t) (iblk m c 3 t) (iblk m c 4 t) w

theorem good : ∀ (n : ℕ) (h : n < cfg0.N), Good m c ⟨n, h⟩
  | 0, h => ⟨_, fun k j => (pay6_at _ k j).trans (congrArg (FloatOps.sitofp (F := Ideal) .bf16) (read2 m c ⟨0, h⟩ k j)), first_at m c ⟨0, h⟩ rfl⟩
  | n + 1, h => by
    have h6 := lt6 ⟨n + 1, h⟩
    obtain ⟨w, hw, e⟩ := good n (Nat.lt_of_succ_lt h)
    have e' := next_at m c ⟨n + 1, h⟩ (by dsimp only at h6 ⊢; omega)
    have e2 : (outsAt0 m c n (Nat.lt_of_succ_lt h)).2.2.2.2.2 = w := congrArg (fun p => p.2.2.2.2.2) e
    exact ⟨w, hw, e'.trans (congrArg (left _ _ _ _) e2)⟩

/-- The scales of a block's rows and of its new rows normalised. -/
def bScale (x0 : Vec Ideal S256x2560 .f32) (i : Fin 256) : EReal := scale fun k => x0 (ix2 i k)
def bOut (x0 : Vec Ideal S256x2560 .f32) (x1 : Vec Ideal S256x2560 .bf16) (x3 x4 : Vec Ideal S1x2560 .f32) (w : Vec Ideal S2560x2560 .bf16) (i : Fin 256) : EReal :=
  scale (normed (nrow x0 x1 w x3 i) fun k => x4 (ix2 0 k))

section Point
variable (t : Fin cfg0.N) (w : Vec Ideal S2560x2560 .bf16) (hw : ∀ k j : Fin 2560, w (ix2 k j) = aW m c k j) (i : Fin 256) (i' : Fin 1536) (h : i'.val = t.val * 256 + i.val)

include h in
theorem y_row : (fun k => iblk m c 0 t (ix2 i k)) = aY m c i' := funext fun k => read0 m c t i k i' h

include hw h in
theorem row_at : nrow (iblk m c 0 t) (iblk m c 1 t) w (iblk m c 3 t) i = rows (aY m c) (aH m c) (aW m c) (aS m c) i' := by
  funext j
  unfold nrow rows
  simp only [read0 m c t i _ i' h, read1 m c t i _ i' h, read3 m c t, hw]

include hw h in
theorem norm_at : normed (nrow (iblk m c 0 t) (iblk m c 1 t) w (iblk m c 3 t) i) (fun k => iblk m c 4 t (ix2 0 k)) = normed (rows (aY m c) (aH m c) (aW m c) (aS m c) i') (aG m c) :=
  congrArg₂ normed (row_at m c t w hw i i' h) (funext fun k => read4 m c t k)

include h in
theorem scale_row : bScale (iblk m c 0 t) i = scale (aY m c i') := congrArg scale (y_row m c t i i' h)

include hw h in
theorem out_row : bOut (iblk m c 0 t) (iblk m c 1 t) (iblk m c 3 t) (iblk m c 4 t) w i = scale (normed (rows (aY m c) (aH m c) (aW m c) (aS m c) i') (aG m c)) :=
  congrArg scale (norm_at m c t w hw i i' h)

end Point

/-- A block whose rows are constant. -/
theorem lanes_at (p : Vec Ideal S256x128 .f32) (f : Fin 256 → EReal) (h : ∀ i l, p (ix2 i l) = f i) (y : S256x128.Idx) : p y = f (y 0) := by
  obtain ⟨i, l, rfl⟩ : ∃ (i : Fin 256) (l : Fin 128), y = ix2 i l := ⟨y 0, y 1, ValueIdx.eq_ix2 (n0 := 256) (n1 := 128) y⟩
  exact h i l

theorem left_scale (x0 : Vec Ideal S256x2560 .f32) (x1 : Vec Ideal S256x2560 .bf16) (x3 x4 : Vec Ideal S1x2560 .f32) (w : Vec Ideal S2560x2560 .bf16) :
    (left x0 x1 x3 x4 w).2.2.1 = fun y : S256x128.Idx => bScale x0 (y 0) := by
  have h : ∀ i l, k0_pay10 x0 (ix2 i l) = bScale x0 i := fun i l => pay10_at x0 i l
  have e := lanes_at (k0_pay10 x0) (bScale x0) h
  unfold left
  dsimp only
  exact funext e

theorem left_out (x0 : Vec Ideal S256x2560 .f32) (x1 : Vec Ideal S256x2560 .bf16) (x3 x4 : Vec Ideal S1x2560 .f32) (w : Vec Ideal S2560x2560 .bf16) :
    (left x0 x1 x3 x4 w).2.2.2.2.1 = fun y : S256x128.Idx => bOut x0 x1 x3 x4 w (y 0) := by
  have h : ∀ i l, k0_pay5 (k0_pay11 x0 w x3) (k0_pay12 x1) x4 (ix2 i l) = bOut x0 x1 x3 x4 w i := fun i l => pay5_at x0 x1 w x3 x4 i l
  have e := lanes_at (k0_pay5 (k0_pay11 x0 w x3) (k0_pay12 x1) x4) (bOut x0 x1 x3 x4 w) h
  unfold left
  dsimp only
  exact funext e

theorem final5 : (dats m 0 c).arrAt 5 cfg0.N = news (aY m c) (aH m c) (aW m c) (aS m c) := by
  refine (dats m 0 c).arrAt_eq_of_covers 5 _ (by decide +kernel) fun t hf y => ?_
  obtain ⟨w, hw, eo⟩ := good m c t.val t.isLt
  blk_simp
  rw [after0_5]
  have ht := lt6 t
  have h0 : (y 0).val < 256 := (y 0).isLt
  have e : (win0_5.blk t).view.emb y = ix2 ⟨t.val * 256 + (y 0).val, by omega⟩ (y 1) := by blk_ext [idx t]
  rw [e]
  refine (congrFun (congrArg (fun p => p.1) eo) y).trans ?_
  refine (congrArg _ (ValueIdx.eq_ix2 (n0 := 256) (n1 := 2560) y)).trans ?_
  exact (pay1_at _ _ _ _ (y 0) (y 1)).trans (congrFun (row_at m c t w hw (y 0) _ rfl) (y 1))

theorem final6 : (dats m 0 c).arrAt 6 cfg0.N = codesIn (aY m c) := by
  refine (dats m 0 c).arrAt_eq_of_covers 6 _ (by decide +kernel) fun t hf y => ?_
  obtain ⟨w, hw, eo⟩ := good m c t.val t.isLt
  blk_simp
  rw [after0_6]
  have ht := lt6 t
  have h0 : (y 0).val < 256 := (y 0).isLt
  have e : (win0_6.blk t).view.emb y = ix2 ⟨t.val * 256 + (y 0).val, by omega⟩ (y 1) := by blk_ext [idx t]
  rw [e]
  refine (congrFun (congrArg (fun p => p.2.1) eo) y).trans ?_
  refine (congrArg _ (ValueIdx.eq_ix2 (n0 := 256) (n1 := 2560) y)).trans ?_
  exact (pay9_at _ (y 0) (y 1)).trans (congrArg (fun f : Row => whole (code f (y 1))) (y_row m c t (y 0) _ rfl))

theorem final7 : (dats m 0 c).arrAt 7 cfg0.N = scalesIn (aY m c) := by
  refine (dats m 0 c).arrAt_eq_of_covers 7 _ (by decide +kernel) fun t hf y => ?_
  obtain ⟨w, hw, eo⟩ := good m c t.val t.isLt
  blk_simp
  rw [after0_7]
  have ht := lt6 t
  have h0 : (y 0).val < 256 := (y 0).isLt
  have e : (win0_7.blk t).view.emb y = ix2 ⟨t.val * 256 + (y 0).val, by omega⟩ (y 1) := by blk_ext [idx t]
  rw [e]
  refine (congrFun (congrArg (fun p => p.2.2.1) eo) y).trans ?_
  refine (congrFun (left_scale _ _ _ _ _) y).trans ?_
  exact scale_row m c t (y 0) _ rfl

theorem final8 : (dats m 0 c).arrAt 8 cfg0.N = codesOut (aY m c) (aH m c) (aW m c) (aS m c) (aG m c) := by
  refine (dats m 0 c).arrAt_eq_of_covers 8 _ (by decide +kernel) fun t hf y => ?_
  obtain ⟨w, hw, eo⟩ := good m c t.val t.isLt
  blk_simp
  rw [after0_8]
  have ht := lt6 t
  have h0 : (y 0).val < 256 := (y 0).isLt
  have e : (win0_8.blk t).view.emb y = ix2 ⟨t.val * 256 + (y 0).val, by omega⟩ (y 1) := by blk_ext [idx t]
  rw [e]
  refine (congrFun (congrArg (fun p => p.2.2.2.1) eo) y).trans ?_
  refine (congrArg _ (ValueIdx.eq_ix2 (n0 := 256) (n1 := 2560) y)).trans ?_
  exact (pay4_at _ _ _ _ _ (y 0) (y 1)).trans (congrArg (fun f : Row => whole (code f (y 1))) (norm_at m c t w hw (y 0) _ rfl))

theorem final9 : (dats m 0 c).arrAt 9 cfg0.N = scalesOut (aY m c) (aH m c) (aW m c) (aS m c) (aG m c) := by
  refine (dats m 0 c).arrAt_eq_of_covers 9 _ (by decide +kernel) fun t hf y => ?_
  obtain ⟨w, hw, eo⟩ := good m c t.val t.isLt
  blk_simp
  rw [after0_9]
  have ht := lt6 t
  have h0 : (y 0).val < 256 := (y 0).isLt
  have e : (win0_9.blk t).view.emb y = ix2 ⟨t.val * 256 + (y 0).val, by omega⟩ (y 1) := by blk_ext [idx t]
  rw [e]
  refine (congrFun (congrArg (fun p => p.2.2.2.2.1) eo) y).trans ?_
  refine (congrFun (left_out _ _ _ _ _) y).trans ?_
  exact out_row m c t w hw (y 0) _ rfl

end Cert.LinIdeal.Block
-- ==== Proof.LinRefRows.lean ====
/-
  THE LAST STAGE'S REFERENCE, one gridless pass over all the rows, read at a row: the numbers of `LinMath`.
-/
module

public import proofs.«01_k».proof.Proof.LinMath
public import proofs.«01_k».proof.Proof.Gen.LinRefIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LinRefIdeal.Math
open Cert.LinRefIdeal Cert.LinRefIdeal.Gen Cert.Weights Cert.InMath Cert.KvMath Cert.LinMath

section Rows
variable (y : FVec Ideal S1536x2560 .f32) (h : FVec Ideal S1536x2560 .bf16) (W : IVec S1x2560x2560 8) (s g : FVec Ideal S1x2560 .f32) (i : Fin 1536)

def tops : FVec Ideal S1536 .f32 := multiReduction .maximumf [1] S1536 (absf y) 0xFF800000#32 reduces_S1536x2560_S1536 (.inl rfl) rfl

theorem tops_at : tops y (ix1 i) = Finset.univ.fold max ⊥ fun k => mag (y (ix2 i k)) := by
  unfold tops
  pointwise
  rfl

theorem scale_at (v : FVec Ideal S1536 .f32) : select (cmpf .ogt v (broadcast S1536 (Scalar.ofBits .f32 0x00000000#32 : Ideal .f32))) (divf v (broadcast S1536 (Scalar.ofBits .f32 0x42FE0000#32 : Ideal .f32)))
    (broadcast S1536 (Scalar.ofBits .f32 0x3F800000#32 : Ideal .f32)) (ix1 i) = InMath.qscale (v (ix1 i)) := by
  pointwise
  rfl

theorem pay7_at : k0_pay7 (F := Ideal) y (ix1 i) = scale fun k => y (ix2 i k) := (scale_at i (tops y)).trans (congrArg InMath.qscale (tops_at y i))

theorem code_at (k : Fin 2560) (v : FVec Ideal S1536 .f32) (hv : k0_pay7 (F := Ideal) y = v) : k0_pay8 (F := Ideal) y (ix2 i k) = InMath.qcode (y (ix2 i k)) (v (ix1 i)) := by
  unfold k0_pay8
  rw [hv]
  pointwise
  rfl

theorem pay8_at (k : Fin 2560) : k0_pay8 (F := Ideal) y (ix2 i k) = code (fun k => y (ix2 i k)) k := (code_at y i k _ rfl).trans (congrArg (InMath.qcode _) (pay7_at y i))

theorem pay4_at (v : FVec Ideal S1536 .f32) (l : Fin 128) : k0_pay4 v (ix2 i l) = v (ix1 i) := by
  pointwise [k0_pay4]

/-- The new row. -/
def nrow (j : Fin 2560) : EReal := next (fun k => y (ix2 i k)) (fun k => h (ix2 i k)) (fun k j => FloatOps.sitofp (F := Ideal) .bf16 (W (ix3 0 k j))) (fun k => s (ix2 0 k)) j

theorem sum_at (j : Fin 2560) (v : FVec Ideal S1536 .f32) (u : FVec Ideal S1536x2560 .f32) (hv : k0_pay7 (F := Ideal) y = v) (hu : k0_pay8 (F := Ideal) y = u) :
    k0_pay9 (F := Ideal) y W s h (ix2 i j) = h (ix2 i j) + (∑ k, u (ix2 i k) * FloatOps.sitofp (F := Ideal) .bf16 (W (ix3 0 k j))) * v (ix1 i) * s (ix2 0 j) := by
  unfold k0_pay9
  rw [hv, hu]
  pointwise

theorem pay9_at (j : Fin 2560) : k0_pay9 (F := Ideal) y W s h (ix2 i j) = nrow y h W s i j := by
  refine (sum_at y h W s i j _ _ rfl rfl).trans ?_
  rw [pay7_at y i]
  simp only [pay8_at y i]
  rfl

theorem pay1_at (j : Fin 2560) : k0_pay1 (F := Ideal) (k0_pay10 y W s h) g (ix2 i j) = normed (nrow y h W s i) (fun k => g (ix2 0 k)) j := by
  have e : nrow y h W s i = fun j => k0_pay9 (F := Ideal) y W s h (ix2 i j) := funext fun j => (pay9_at y h W s i j).symm
  rw [e]
  unfold k0_pay1 k0_pay10
  generalize k0_pay9 (F := Ideal) y W s h = v
  pointwise
  rfl

theorem pay2_at (u : FVec Ideal S1536x2560 .f32) : k0_pay2 (F := Ideal) u g (ix1 i) = scale fun j => k0_pay1 (F := Ideal) u g (ix2 i j) := by
  unfold k0_pay2
  generalize k0_pay1 (F := Ideal) u g = v
  exact pay7_at v i

theorem out_at (u v : FVec Ideal S1536x2560 .f32) (t : FVec Ideal S1536 .f32) (hv : k0_pay1 (F := Ideal) u g = v) (ht : k0_pay2 (F := Ideal) u g = t) (j : Fin 2560) :
    k0_pay5 (F := Ideal) u g (ix2 i j) = whole (InMath.qcode (v (ix2 i j)) (t (ix1 i))) := by
  unfold k0_pay5
  rw [hv, ht]
  pointwise
  rfl

theorem pay5_at (u : FVec Ideal S1536x2560 .f32) (j : Fin 2560) : k0_pay5 (F := Ideal) u g (ix2 i j) = whole (code (fun j => k0_pay1 (F := Ideal) u g (ix2 i j)) j) :=
  (out_at g i u _ _ rfl rfl j).trans (congrArg (fun t => whole (InMath.qcode _ t)) (pay2_at g i u))

theorem pay6_at (u : FVec Ideal S1536x2560 .f32) (l : Fin 128) : k0_pay6 (F := Ideal) u g (ix2 i l) = scale fun j => k0_pay1 (F := Ideal) u g (ix2 i j) := by
  rw [← pay2_at g i u]
  unfold k0_pay6
  generalize k0_pay2 (F := Ideal) u g = t
  pointwise

end Rows

end Cert.LinRefIdeal.Math
-- ==== Proof.LinRef.lean ====
/-
  THE LAST STAGE'S REFERENCE RESULTS: the five arrays of `LinMath`, of the first slice of the weights.
-/
module

public import proofs.«01_k».proof.Proof.LinRefRows

@[expose] public section

set_option maxRecDepth 16384

noncomputable section

open Idealize.ShloMosaic Idealize.ShloMosaic.TcCoe Idealize.SL.Sem
open Idealize.ShloMosaic.Pipeline (Dat)

namespace Cert.LinRefIdeal.Math
open Cert.LinRefIdeal Cert.LinRefIdeal.Gen Cert.Weights Cert.InMath Cert.KvMath Cert.LinMath

theorem slice_at (k j : Fin 2560) : r0_1.idx (ix3 0 k j) = ix3 0 k j := funext fun d => Fin.ext (by
  match d with
  | ⟨0, _⟩ => rfl
  | ⟨1, _⟩ => show 0 + 1 * k.val = k.val; omega
  | ⟨2, _⟩ => show 0 + 1 * j.val = j.val; omega)

section Outs
variable (x0 : Vec Ideal S1536x2560 .f32) (x1 : Vec Ideal S1536x2560 .bf16) (x2 : Vec Ideal S2x2560x2560 .i8) (x3 x4 : Vec Ideal S1x2560 .f32)

theorem nrow_eq (i : Fin 1536) : nrow x0 x1 (View.ld x2 r0_1) x3 i = rows (fun i k => x0 (ix2 i k)) (fun i k => x1 (ix2 i k)) (wt x2 0) (fun k => x3 (ix2 0 k)) i := by
  have e : (fun k j => FloatOps.sitofp (F := Ideal) .bf16 (View.ld x2 r0_1 (ix3 0 k j))) = wt x2 0 :=
    funext fun k => funext fun j => congrArg (fun z => FloatOps.sitofp (F := Ideal) .bf16 (x2 z)) (slice_at k j)
  unfold nrow
  rw [e]
  rfl

theorem G5_eq : Value.G5 (F := Ideal) x0 x1 x2 x3 x4 = news (fun i k => x0 (ix2 i k)) (fun i k => x1 (ix2 i k)) (wt x2 0) fun k => x3 (ix2 0 k) := funext fun y => by
  rw [ValueIdx.eq_ix2 y]
  exact (pay9_at x0 x1 _ x3 (y 0) (y 1)).trans (congrFun (nrow_eq x0 x1 x2 x3 (y 0)) (y 1))

theorem G6_eq : Value.G6 (F := Ideal) x0 x1 x2 x3 x4 = codesIn fun i k => x0 (ix2 i k) := funext fun y => by
  rw [ValueIdx.eq_ix2 y]
  exact congrArg whole (pay8_at x0 (y 0) (y 1))

theorem G7_eq : Value.G7 (F := Ideal) x0 x1 x2 x3 x4 = scalesIn fun i k => x0 (ix2 i k) := funext fun y => by
  rw [ValueIdx.eq_ix2 y]
  exact (pay4_at (y 0) _ (y 1)).trans (pay7_at x0 (y 0))

theorem norm_eq (i : Fin 1536) : (fun j => k0_pay1 (F := Ideal) (k0_pay11 x0 x1 x2 x3 x4) x4 (ix2 i j))
    = normed (rows (fun i k => x0 (ix2 i k)) (fun i k => x1 (ix2 i k)) (wt x2 0) (fun k => x3 (ix2 0 k)) i) fun k => x4 (ix2 0 k) := by
  rw [← nrow_eq]
  unfold k0_pay11
  rw [View.ld_unit_zero (S := S1536x2560) (by decide) _ x0, View.ld_unit_zero (S := S1536x2560) (by decide) _ x1, View.ld_unit_zero (S := S1x2560) (by decide) _ x3]
  exact funext fun j => pay1_at x0 x1 _ x3 x4 i j

theorem G8_eq : Value.G8 (F := Ideal) x0 x1 x2 x3 x4 = codesOut (fun i k => x0 (ix2 i k)) (fun i k => x1 (ix2 i k)) (wt x2 0) (fun k => x3 (ix2 0 k)) fun k => x4 (ix2 0 k) := funext fun y => by
  rw [ValueIdx.eq_ix2 y]
  exact (pay5_at x4 (y 0) _ (y 1)).trans (congrArg (fun f : Row => whole (code f (y 1))) (norm_eq x0 x1 x2 x3 x4 (y 0)))

theorem G9_eq : Value.G9 (F := Ideal) x0 x1 x2 x3 x4 = scalesOut (fun i k => x0 (ix2 i k)) (fun i k => x1 (ix2 i k)) (wt x2 0) (fun k => x3 (ix2 0 k)) fun k => x4 (ix2 0 k) := funext fun y => by
  rw [ValueIdx.eq_ix2 y]
  exact (pay6_at x4 (y 0) _ (y 1)).trans (congrArg scale (norm_eq x0 x1 x2 x3 x4 (y 0)))

end Outs

end Cert.LinRefIdeal.Math
-- ==== Proof.LinClaim.lean ====
/-
  THE CLAIM OF THE LAST STAGE: at the ideal instance the kernel and the reference end with the same five arrays, the new rows and
  the codes and scales of the rows given and of the new rows normalised.
-/
module

public import proofs.«01_k».proof.Defs
public import proofs.«01_k».proof.Proof.LinFinal
public import proofs.«01_k».proof.Proof.LinRef

@[expose] public section

set_option maxRecDepth 16384

noncomputable section

open Idealize.ShloMosaic Idealize.ShloMosaic.TcCoe Idealize.SL.Sem

namespace Cert.Lin.Claims
open Cert.LinMath Cert.LinIdeal.Block

theorem algebraic : Cert.algebraic_LinIdeal_LinRefIdeal (hLinIdeal := Cert.LinIdeal.Gen.facts) (hLinRefIdeal := Cert.LinRefIdeal.Gen.facts) := by
  intro m ρ m' ρ' _ hag
  refine ⟨fun c => news (aY m c) (aH m c) (aW m c) (aS m c), fun c => codesIn (aY m c), fun c => scalesIn (aY m c), fun c => codesOut (aY m c) (aH m c) (aW m c) (aS m c) (aG m c),
    fun c => scalesOut (aY m c) (aH m c) (aW m c) (aS m c) (aG m c), ?_, ?_⟩
  · exact (θ_run Cert.LinIdeal.defs _ _).mono
      (fun _ h c => ⟨(h c).1.trans (final5 m c), (h c).2.1.trans (final6 m c), (h c).2.2.1.trans (final7 m c), (h c).2.2.2.1.trans (final8 m c), (h c).2.2.2.2.1.trans (final9 m c),
        (h c).2.2.2.2.2⟩) (Cert.LinIdeal.Value.run_blocks m ρ)
  · refine (θ_run Cert.LinRefIdeal.defs _ _).mono
      (fun _ h c => ⟨(h c).1.trans ?_, (h c).2.1.trans ?_, (h c).2.2.1.trans ?_, (h c).2.2.2.1.trans ?_, (h c).2.2.2.2.1.trans ?_, (h c).2.2.2.2.2⟩) (Cert.LinRefIdeal.Value.run m' ρ')
    · rw [(hag c).1, (hag c).2.1, (hag c).2.2.1, (hag c).2.2.2.1, (hag c).2.2.2.2]
      exact Cert.LinRefIdeal.Math.G5_eq _ _ _ _ _
    · rw [(hag c).1, (hag c).2.1, (hag c).2.2.1, (hag c).2.2.2.1, (hag c).2.2.2.2]
      exact Cert.LinRefIdeal.Math.G6_eq _ _ _ _ _
    · rw [(hag c).1, (hag c).2.1, (hag c).2.2.1, (hag c).2.2.2.1, (hag c).2.2.2.2]
      exact Cert.LinRefIdeal.Math.G7_eq _ _ _ _ _
    · rw [(hag c).1, (hag c).2.1, (hag c).2.2.1, (hag c).2.2.2.1, (hag c).2.2.2.2]
      exact Cert.LinRefIdeal.Math.G8_eq _ _ _ _ _
    · rw [(hag c).1, (hag c).2.1, (hag c).2.2.1, (hag c).2.2.2.1, (hag c).2.2.2.2]
      exact Cert.LinRefIdeal.Math.G9_eq _ _ _ _ _

end Cert.Lin.Claims
-- ==== Proof.LinBRows.lean ====
/-
  ONE BLOCK OF THE LAST STAGE'S KERNEL IN THE SECOND INVOCATION, read at a row. Over the reals its pieces are those of the first
  invocation: it adds the row earlier and rounds the new row at the end, and the rounding is the identity.
-/
module

public import proofs.«01_k».proof.Proof.LinRows
public import proofs.«01_k».proof.Proof.Gen.LinBIdeal.Value

@[expose] public section

set_option maxRecDepth 16384

noncomputable section

open Idealize.ShloMosaic Idealize.ShloMosaic.TcCoe Idealize.SL.Sem
open Idealize.ShloMosaic.Pipeline (Dat)

namespace Cert.LinBIdeal.Block
open Cert.LinBIdeal Cert.LinBIdeal.Gen Cert.Weights Cert.InMath Cert.KvMath Cert.LinMath
open Cert.LinIdeal.Block (nrow)

section Rows
variable (y h : FVec Ideal S256x2560 .f32) (w : FVec Ideal S2560x2560 .bf16) (s g : FVec Ideal S1x2560 .f32) (i : Fin 256)

theorem pay7_eq : k0_pay7 (F := Ideal) y = LinIdeal.Gen.k0_pay7 (F := Ideal) y := rfl
theorem pay8_eq : k0_pay8 (F := Ideal) y = LinIdeal.Gen.k0_pay8 (F := Ideal) y := rfl
theorem pay11_eq : k0_pay11 (F := Ideal) y w s h = LinIdeal.Gen.k0_pay1 (F := Ideal) (LinIdeal.Gen.k0_pay11 y w s) h := rfl
theorem pay2_eq (p : FVec Ideal S256x2560 .f32) : k0_pay2 (F := Ideal) (LinIdeal.Gen.k0_pay1 (F := Ideal) p h) g = LinIdeal.Gen.k0_pay2 (F := Ideal) p h g := rfl
theorem pay3_eq (p : FVec Ideal S256x2560 .f32) : k0_pay3 (F := Ideal) (LinIdeal.Gen.k0_pay1 (F := Ideal) p h) g = LinIdeal.Gen.k0_pay3 (F := Ideal) p h g := rfl
theorem pay4_eq (p : FVec Ideal S256x2560 .f32) : k0_pay4 (F := Ideal) (LinIdeal.Gen.k0_pay1 (F := Ideal) p h) g = LinIdeal.Gen.k0_pay4 (F := Ideal) p h g := rfl
theorem pay5_eq (p : FVec Ideal S256x2560 .f32) : k0_pay5 (F := Ideal) (LinIdeal.Gen.k0_pay1 (F := Ideal) p h) g = LinIdeal.Gen.k0_pay5 (F := Ideal) p h g := rfl
theorem pay9_eq : k0_pay9 (F := Ideal) y = LinIdeal.Gen.k0_pay9 (F := Ideal) y := rfl
theorem pay10_eq : k0_pay10 (F := Ideal) y = LinIdeal.Gen.k0_pay10 (F := Ideal) y := rfl

theorem pay9_at (k : Fin 2560) : k0_pay9 (F := Ideal) y (ix2 i k) = whole (code (fun k => y (ix2 i k)) k) := (congrFun (pay9_eq y) _).trans (LinIdeal.Block.pay9_at y i k)

theorem pay10_at (l : Fin 128) : k0_pay10 (F := Ideal) y (ix2 i l) = scale fun k => y (ix2 i k) := (congrFun (pay10_eq y) _).trans (LinIdeal.Block.pay10_at y i l)

theorem pay1_at (j : Fin 2560) : k0_pay1 (F := Ideal) (k0_pay11 y w s h) (ix2 i j) = nrow y h w s i j :=
  (congrFun (pay11_eq y h w s) (ix2 i j)).trans (LinIdeal.Block.pay1_at y h w s i j)

theorem pay4_at (j : Fin 2560) : k0_pay4 (F := Ideal) (k0_pay11 y w s h) g (ix2 i j) = whole (code (normed (nrow y h w s i) fun k => g (ix2 0 k)) j) := by
  rw [pay11_eq, pay4_eq]
  exact LinIdeal.Block.pay4_at y h w s g i j

theorem pay5_at (l : Fin 128) : k0_pay5 (F := Ideal) (k0_pay11 y w s h) g (ix2 i l) = scale (normed (nrow y h w s i) fun k => g (ix2 0 k)) := by
  rw [pay11_eq, pay5_eq]
  exact LinIdeal.Block.pay5_at y h w s g i l

end Rows

theorem pay6_at (W : IVec S1x2560x2560 8) (k j : Fin 2560) : k0_pay6 (F := Ideal) W (ix2 k j) = FloatOps.sitofp (F := Ideal) .bf16 (W (ix3 0 k j)) := by
  pointwise [k0_pay6]

end Cert.LinBIdeal.Block
-- ==== Proof.LinBVal.lean ====
/-
  THE LAST STAGE'S KERNEL IN THE SECOND INVOCATION, POINT BY POINT. The first of the six points keeps the weights as numbers; every point computes from them
  and from its own blocks, and leaves them as they were.
-/
module

public import proofs.«01_k».proof.Proof.LinBRows

@[expose] public section

set_option maxRecDepth 16384

noncomputable section

open Idealize.ShloMosaic Idealize.ShloMosaic.TcCoe Idealize.SL.Sem
open Idealize.ShloMosaic.Pipeline (Dat)
namespace Cert.LinBIdeal.Block
open Cert.LinBIdeal Cert.LinBIdeal.Gen Cert.Weights Cert.InMath Cert.KvMath Cert.LinMath

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves, from its blocks and the weights kept. -/
def left (x0 : Vec Ideal S256x2560 .f32) (x1 : Vec Ideal S256x2560 .f32) (x3 x4 : Vec Ideal S1x2560 .f32) (w : Vec Ideal S2560x2560 .bf16) :
    Vec Ideal S256x2560 .bf16 × Vec Ideal S256x2560 .i8 × Vec Ideal S256x128 .f32 × Vec Ideal S256x2560 .i8 × Vec Ideal S256x128 .f32 × Vec Ideal S2560x2560 .bf16 :=
  (k0_pay1 (k0_pay11 x0 w x3 x1), k0_pay9 x0, k0_pay10 x0, k0_pay4 (k0_pay11 x0 w x3 x1) x4, k0_pay5 (k0_pay11 x0 w x3 x1) x4, w)

variable (m : (ℓ : Loc nD τ sig) → Buf (Elt Ideal) ℓ) (c : Dev nD) (t : Fin cfg0.N)

set_option maxHeartbeats 1000000 in
theorem first_at (h0 : t.val % 6 = 0) : outsAt0 m c t.val t.isLt = left (iblk m c 0 t) (iblk m c 1 t) (iblk m c 3 t) (iblk m c 4 t) (k0_pay6 (iblk m c 2 t)) := by
  rw [outsAt0_A m c t h0]
  unfold out0_A_5 out0_A_6 out0_A_7 out0_A_8 out0_A_9 sout0_A_0 left
  simp only [View.read_writes_junk_eq_canon]
  unfold kernelRun0_A
  dsimp only
  sl_unfold_words
  simp only [View.readAt_eq_ld, Memref.IsWhole.read_unread, View.canon_unit_zero (S := S256x2560) hz, View.canon_unit_zero (S := S256x128) hz, View.ld_unit_zero (S := S256x2560) hz, View.ld_unit_zero (S := S1x2560) hz,
    View.ld_unit_zero (S := S1x2560x2560) hz3, View.canon_unit_zero (S := S2560x2560) hz, View.readCov_unit_zero (S := S2560x2560) _ hz]

set_option maxHeartbeats 1000000 in
theorem next_at (h0 : ¬ t.val % 6 = 0) : outsAt0 m c t.val t.isLt = left (iblk m c 0 t) (iblk m c 1 t) (iblk m c 3 t) (iblk m c 4 t)
    (outsAt0 m c (t.val - 1) (Nat.lt_of_le_of_lt (Nat.sub_le _ _) t.isLt)).2.2.2.2.2 := by
  rw [outsAt0_B m c t h0]
  generalize (outsAt0 m c (t.val - 1) (Nat.lt_of_le_of_lt (Nat.sub_le _ _) t.isLt)).2.2.2.2.2 = w
  unfold out0_B_5 out0_B_6 out0_B_7 out0_B_8 out0_B_9 sout0_B_0 left
  simp only [View.read_writes_junk_eq_canon]
  unfold kernelRun0_B
  dsimp only
  sl_unfold_words
  have e : (View.whole cc0_scratch0).read (Elt Ideal) ((Memref.isWhole_whole cc0_scratch0).unread w) = w := (Memref.isWhole_whole cc0_scratch0).read_unread w
  simp only [View.readAt_eq_ld, Memref.IsWhole.read_unread, View.canon_unit_zero (S := S256x2560) hz, View.canon_unit_zero (S := S256x128) hz, View.ld_unit_zero (S := S256x2560) hz, View.ld_unit_zero (S := S1x2560) hz, View.ld_unit_zero (S := S2560x2560) hz, e]

end Cert.LinBIdeal.Block
-- ==== Proof.LinBFinal.lean ====
/-
  THE LAST STAGE'S KERNEL RESULTS IN THE SECOND INVOCATION. Point `t` of the six works on rows `256 t … 256 t + 255`; the weights kept are those of the second
  slice, so what it stores are the new rows, codes and scales of those rows.
-/
module

public import proofs.«01_k».proof.Proof.LinBVal

@[expose] public section

set_option maxRecDepth 16384

noncomputable section

open Idealize.ShloMosaic Idealize.ShloMosaic.TcCoe Idealize.SL.Sem
open Idealize.ShloMosaic.Pipeline (Dat)

namespace Cert.LinBIdeal.Block
open Cert.LinIdeal.Block (nrow)
open Cert.LinBIdeal Cert.LinBIdeal.Gen Cert.Weights Cert.InMath Cert.KvMath Cert.LinMath

variable (m : (ℓ : Loc nD τ sig) → Buf (Elt Ideal) ℓ) (c : Dev nD)

/-- The arguments: the rows to multiply, the rows to add to, the integer weights, the columns' scales, the gain. -/
def aY (i : Fin 1536) : Row := fun k => m ((c : Thread nD τ).loc main_arg0) (ix2 i k)
def aH (i : Fin 1536) : Row := fun k => m ((c : Thread nD τ).loc main_arg1) (ix2 i k)
def aW : Fin 2560 → Row := wt (m ((c : Thread nD τ).loc main_arg2)) 1
def aS : Row := fun k => m ((c : Thread nD τ).loc main_arg3) (ix2 0 k)
def aG : Row := fun k => m ((c : Thread nD τ).loc main_arg4) (ix2 0 k)

theorem idx : ∀ t : Fin cfg0.N, win0_0.index t = ![t.val, 0] ∧ win0_1.index t = ![t.val, 0] ∧ win0_2.index t = ![1, 0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

theorem lt6 (t : Fin cfg0.N) : t.val < 6 := lt_of_lt_of_eq t.isLt N_0

theorem read0 (t : Fin cfg0.N) (i : Fin 256) (k : Fin 2560) (i' : Fin 1536) (h : i'.val = t.val * 256 + i.val) : iblk m c 0 t (ix2 i k) = aY m c i' k := by
  unfold aY
  blk_ext [iblk, V, idx t]
theorem read1 (t : Fin cfg0.N) (i : Fin 256) (k : Fin 2560) (i' : Fin 1536) (h : i'.val = t.val * 256 + i.val) : iblk m c 1 t (ix2 i k) = aH m c i' k := by
  unfold aH
  blk_ext [iblk, V, idx t]
theorem read2 (t : Fin cfg0.N) (k j : Fin 2560) : iblk m c 2 t (ix3 (0 : Fin 1) k j) = m ((c : Thread nD τ).loc main_arg2) (ix3 (1 : Fin 2) k j) := by
  blk_ext [iblk, V, idx t]
theorem read3 (t : Fin cfg0.N) (k : Fin 2560) : iblk m c 3 t (ix2 (0 : Fin 1) k) = aS m c k := by
  unfold aS
  blk_ext [iblk, V, idx t]
theorem read4 (t : Fin cfg0.N) (k : Fin 2560) : iblk m c 4 t (ix2 (0 : Fin 1) k) = aG m c k := by
  unfold aG
  blk_ext [iblk, V, idx t]

/-- What a point leaves is a function of the blocks and of weights that are the argument's. -/
def Good (t : Fin cfg0.N) : Prop := ∃ w : Vec Ideal S2560x2560 .bf16, (∀ k j : Fin 2560, w (ix2 k j) = aW m c k j)
  ∧ outsAt0 m c t.val t.isLt = left (iblk m c 0 t) (iblk m c 1 t) (iblk m c 3 t) (iblk m c 4 t) w

theorem good : ∀ (n : ℕ) (h : n < cfg0.N), Good m c ⟨n, h⟩
  | 0, h => ⟨_, fun k j => (pay6_at _ k j).trans (congrArg (FloatOps.sitofp (F := Ideal) .bf16) (read2 m c ⟨0, h⟩ k j)), first_at m c ⟨0, h⟩ rfl⟩
  | n + 1, h => by
    have h6 := lt6 ⟨n + 1, h⟩
    obtain ⟨w, hw, e⟩ := good n (Nat.lt_of_succ_lt h)
    have e' := next_at m c ⟨n + 1, h⟩ (by dsimp only at h6 ⊢; omega)
    have e2 : (outsAt0 m c n (Nat.lt_of_succ_lt h)).2.2.2.2.2 = w := congrArg (fun p => p.2.2.2.2.2) e
    exact ⟨w, hw, e'.trans (congrArg (left _ _ _ _) e2)⟩

/-- The scales of a block's rows and of its new rows normalised. -/
def bScale (x0 : Vec Ideal S256x2560 .f32) (i : Fin 256) : EReal := scale fun k => x0 (ix2 i k)
def bOut (x0 : Vec Ideal S256x2560 .f32) (x1 : Vec Ideal S256x2560 .f32) (x3 x4 : Vec Ideal S1x2560 .f32) (w : Vec Ideal S2560x2560 .bf16) (i : Fin 256) : EReal :=
  scale (normed (nrow x0 x1 w x3 i) fun k => x4 (ix2 0 k))

section Point
variable (t : Fin cfg0.N) (w : Vec Ideal S2560x2560 .bf16) (hw : ∀ k j : Fin 2560, w (ix2 k j) = aW m c k j) (i : Fin 256) (i' : Fin 1536) (h : i'.val = t.val * 256 + i.val)

include h in
theorem y_row : (fun k => iblk m c 0 t (ix2 i k)) = aY m c i' := funext fun k => read0 m c t i k i' h

include hw h in
theorem row_at : nrow (iblk m c 0 t) (iblk m c 1 t) w (iblk m c 3 t) i = rows (aY m c) (aH m c) (aW m c) (aS m c) i' := by
  funext j
  unfold nrow rows
  simp only [read0 m c t i _ i' h, read1 m c t i _ i' h, read3 m c t, hw]

include hw h in
theorem norm_at : normed (nrow (iblk m c 0 t) (iblk m c 1 t) w (iblk m c 3 t) i) (fun k => iblk m c 4 t (ix2 0 k)) = normed (rows (aY m c) (aH m c) (aW m c) (aS m c) i') (aG m c) :=
  congrArg₂ normed (row_at m c t w hw i i' h) (funext fun k => read4 m c t k)

include h in
theorem scale_row : bScale (iblk m c 0 t) i = scale (aY m c i') := congrArg scale (y_row m c t i i' h)

include hw h in
theorem out_row : bOut (iblk m c 0 t) (iblk m c 1 t) (iblk m c 3 t) (iblk m c 4 t) w i = scale (normed (rows (aY m c) (aH m c) (aW m c) (aS m c) i') (aG m c)) :=
  congrArg scale (norm_at m c t w hw i i' h)

end Point

/-- A block whose rows are constant. -/
theorem lanes_at (p : Vec Ideal S256x128 .f32) (f : Fin 256 → EReal) (h : ∀ i l, p (ix2 i l) = f i) (y : S256x128.Idx) : p y = f (y 0) := by
  obtain ⟨i, l, rfl⟩ : ∃ (i : Fin 256) (l : Fin 128), y = ix2 i l := ⟨y 0, y 1, ValueIdx.eq_ix2 (n0 := 256) (n1 := 128) y⟩
  exact h i l

theorem left_scale (x0 : Vec Ideal S256x2560 .f32) (x1 : Vec Ideal S256x2560 .f32) (x3 x4 : Vec Ideal S1x2560 .f32) (w : Vec Ideal S2560x2560 .bf16) :
    (left x0 x1 x3 x4 w).2.2.1 = fun y : S256x128.Idx => bScale x0 (y 0) := by
  have h : ∀ i l, k0_pay10 x0 (ix2 i l) = bScale x0 i := fun i l => pay10_at x0 i l
  have e := lanes_at (k0_pay10 x0) (bScale x0) h
  unfold left
  dsimp only
  exact funext e

theorem left_out (x0 : Vec Ideal S256x2560 .f32) (x1 : Vec Ideal S256x2560 .f32) (x3 x4 : Vec Ideal S1x2560 .f32) (w : Vec Ideal S2560x2560 .bf16) :
    (left x0 x1 x3 x4 w).2.2.2.2.1 = fun y : S256x128.Idx => bOut x0 x1 x3 x4 w (y 0) := by
  have h : ∀ i l, k0_pay5 (k0_pay11 x0 w x3 x1) x4 (ix2 i l) = bOut x0 x1 x3 x4 w i := fun i l => pay5_at x0 x1 w x3 x4 i l
  have e := lanes_at (k0_pay5 (k0_pay11 x0 w x3 x1) x4) (bOut x0 x1 x3 x4 w) h
  unfold left
  dsimp only
  exact funext e

theorem final5 : (dats m 0 c).arrAt 5 cfg0.N = news (aY m c) (aH m c) (aW m c) (aS m c) := by
  refine (dats m 0 c).arrAt_eq_of_covers 5 _ (by decide +kernel) fun t hf y => ?_
  obtain ⟨w, hw, eo⟩ := good m c t.val t.isLt
  blk_simp
  rw [after0_5]
  have ht := lt6 t
  have h0 : (y 0).val < 256 := (y 0).isLt
  have e : (win0_5.blk t).view.emb y = ix2 ⟨t.val * 256 + (y 0).val, by omega⟩ (y 1) := by blk_ext [idx t]
  rw [e]
  refine (congrFun (congrArg (fun p => p.1) eo) y).trans ?_
  refine (congrArg _ (ValueIdx.eq_ix2 (n0 := 256) (n1 := 2560) y)).trans ?_
  exact (pay1_at _ _ _ _ (y 0) (y 1)).trans (congrFun (row_at m c t w hw (y 0) _ rfl) (y 1))

theorem final6 : (dats m 0 c).arrAt 6 cfg0.N = codesIn (aY m c) := by
  refine (dats m 0 c).arrAt_eq_of_covers 6 _ (by decide +kernel) fun t hf y => ?_
  obtain ⟨w, hw, eo⟩ := good m c t.val t.isLt
  blk_simp
  rw [after0_6]
  have ht := lt6 t
  have h0 : (y 0).val < 256 := (y 0).isLt
  have e : (win0_6.blk t).view.emb y = ix2 ⟨t.val * 256 + (y 0).val, by omega⟩ (y 1) := by blk_ext [idx t]
  rw [e]
  refine (congrFun (congrArg (fun p => p.2.1) eo) y).trans ?_
  refine (congrArg _ (ValueIdx.eq_ix2 (n0 := 256) (n1 := 2560) y)).trans ?_
  exact (pay9_at _ (y 0) (y 1)).trans (congrArg (fun f : Row => whole (code f (y 1))) (y_row m c t (y 0) _ rfl))

theorem final7 : (dats m 0 c).arrAt 7 cfg0.N = scalesIn (aY m c) := by
  refine (dats m 0 c).arrAt_eq_of_covers 7 _ (by decide +kernel) fun t hf y => ?_
  obtain ⟨w, hw, eo⟩ := good m c t.val t.isLt
  blk_simp
  rw [after0_7]
  have ht := lt6 t
  have h0 : (y 0).val < 256 := (y 0).isLt
  have e : (win0_7.blk t).view.emb y = ix2 ⟨t.val * 256 + (y 0).val, by omega⟩ (y 1) := by blk_ext [idx t]
  rw [e]
  refine (congrFun (congrArg (fun p => p.2.2.1) eo) y).trans ?_
  refine (congrFun (left_scale _ _ _ _ _) y).trans ?_
  exact scale_row m c t (y 0) _ rfl

theorem final8 : (dats m 0 c).arrAt 8 cfg0.N = codesOut (aY m c) (aH m c) (aW m c) (aS m c) (aG m c) := by
  refine (dats m 0 c).arrAt_eq_of_covers 8 _ (by decide +kernel) fun t hf y => ?_
  obtain ⟨w, hw, eo⟩ := good m c t.val t.isLt
  blk_simp
  rw [after0_8]
  have ht := lt6 t
  have h0 : (y 0).val < 256 := (y 0).isLt
  have e : (win0_8.blk t).view.emb y = ix2 ⟨t.val * 256 + (y 0).val, by omega⟩ (y 1) := by blk_ext [idx t]
  rw [e]
  refine (congrFun (congrArg (fun p => p.2.2.2.1) eo) y).trans ?_
  refine (congrArg _ (ValueIdx.eq_ix2 (n0 := 256) (n1 := 2560) y)).trans ?_
  exact (pay4_at _ _ _ _ _ (y 0) (y 1)).trans (congrArg (fun f : Row => whole (code f (y 1))) (norm_at m c t w hw (y 0) _ rfl))

theorem final9 : (dats m 0 c).arrAt 9 cfg0.N = scalesOut (aY m c) (aH m c) (aW m c) (aS m c) (aG m c) := by
  refine (dats m 0 c).arrAt_eq_of_covers 9 _ (by decide +kernel) fun t hf y => ?_
  obtain ⟨w, hw, eo⟩ := good m c t.val t.isLt
  blk_simp
  rw [after0_9]
  have ht := lt6 t
  have h0 : (y 0).val < 256 := (y 0).isLt
  have e : (win0_9.blk t).view.emb y = ix2 ⟨t.val * 256 + (y 0).val, by omega⟩ (y 1) := by blk_ext [idx t]
  rw [e]
  refine (congrFun (congrArg (fun p => p.2.2.2.2.1) eo) y).trans ?_
  refine (congrFun (left_out _ _ _ _ _) y).trans ?_
  exact out_row m c t w hw (y 0) _ rfl

end Cert.LinBIdeal.Block
-- ==== Proof.LinBRef.lean ====
/-
  THE LAST STAGE'S REFERENCE RESULTS IN THE SECOND INVOCATION: the five arrays of `LinMath`, of the second slice of the weights. Over
  the reals its pieces are those of the first invocation's reference.
-/
module

public import proofs.«01_k».proof.Proof.LinRefRows
public import proofs.«01_k».proof.Proof.Gen.LinBRefIdeal.Value

@[expose] public section

set_option maxRecDepth 16384

noncomputable section

open Idealize.ShloMosaic Idealize.ShloMosaic.TcCoe Idealize.SL.Sem
open Idealize.ShloMosaic.Pipeline (Dat)

namespace Cert.LinBRefIdeal.Math
open Cert.LinBRefIdeal Cert.LinBRefIdeal.Gen Cert.Weights Cert.InMath Cert.KvMath Cert.LinMath
open Cert.LinRefIdeal.Math (nrow)

section Pieces
variable (y h : FVec Ideal S1536x2560 .f32) (W : IVec S1x2560x2560 8) (s g : FVec Ideal S1x2560 .f32) (u : FVec Ideal S1536x2560 .f32)

theorem pay1_eq : k0_pay1 (F := Ideal) u g = LinRefIdeal.Gen.k0_pay1 (F := Ideal) u g := rfl
theorem pay2_eq : k0_pay2 (F := Ideal) u g = LinRefIdeal.Gen.k0_pay2 (F := Ideal) u g := rfl
theorem pay6_eq : k0_pay6 (F := Ideal) u g = LinRefIdeal.Gen.k0_pay5 (F := Ideal) u g := rfl
theorem pay7_eq : k0_pay7 (F := Ideal) u g = LinRefIdeal.Gen.k0_pay6 (F := Ideal) u g := rfl
theorem pay8_eq : k0_pay8 (F := Ideal) y = LinRefIdeal.Gen.k0_pay7 (F := Ideal) y := rfl
theorem pay9_eq : k0_pay9 (F := Ideal) y = LinRefIdeal.Gen.k0_pay8 (F := Ideal) y := rfl
theorem pay10_eq : k0_pay10 (F := Ideal) y W s h = LinRefIdeal.Gen.k0_pay9 (F := Ideal) y W s h := rfl
theorem pay11_eq : k0_pay11 (F := Ideal) y W s h = LinRefIdeal.Gen.k0_pay10 (F := Ideal) y W s h := rfl

end Pieces

theorem slice_at (k j : Fin 2560) : r0_1.idx (ix3 0 k j) = ix3 1 k j := funext fun d => Fin.ext (by
  match d with
  | ⟨0, _⟩ => rfl
  | ⟨1, _⟩ => show 0 + 1 * k.val = k.val; omega
  | ⟨2, _⟩ => show 0 + 1 * j.val = j.val; omega)

section Outs
variable (x0 x1 : Vec Ideal S1536x2560 .f32) (x2 : Vec Ideal S2x2560x2560 .i8) (x3 x4 : Vec Ideal S1x2560 .f32)

theorem nrow_eq (i : Fin 1536) : nrow x0 x1 (View.ld x2 r0_1) x3 i = rows (fun i k => x0 (ix2 i k)) (fun i k => x1 (ix2 i k)) (wt x2 1) (fun k => x3 (ix2 0 k)) i := by
  have e : (fun k j => FloatOps.sitofp (F := Ideal) .bf16 (View.ld x2 r0_1 (ix3 0 k j))) = wt x2 1 :=
    funext fun k => funext fun j => congrArg (fun z => FloatOps.sitofp (F := Ideal) .bf16 (x2 z)) (slice_at k j)
  unfold nrow
  rw [e]
  rfl

theorem G5_eq : Value.G5 (F := Ideal) x0 x1 x2 x3 x4 = news (fun i k => x0 (ix2 i k)) (fun i k => x1 (ix2 i k)) (wt x2 1) fun k => x3 (ix2 0 k) := funext fun y => by
  rw [ValueIdx.eq_ix2 y]
  have e := (LinRefIdeal.Math.pay9_at x0 x1 (View.ld x2 r0_1) x3 (y 0) (y 1)).trans (congrFun (nrow_eq x0 x1 x2 x3 (y 0)) (y 1))
  exact (congrFun (pay10_eq x0 x1 (View.ld x2 r0_1) x3) _).trans e

theorem G6_eq : Value.G6 (F := Ideal) x0 x1 x2 x3 x4 = codesIn fun i k => x0 (ix2 i k) := funext fun y => by
  rw [ValueIdx.eq_ix2 y]
  exact congrArg whole ((congrFun (pay9_eq x0) _).trans (LinRefIdeal.Math.pay8_at x0 (y 0) (y 1)))

theorem spread_at (v : FVec Ideal S1536 .f32) (i : Fin 1536) (l : Fin 128) : k0_pay5 v (ix2 i l) = v (ix1 i) := by
  pointwise [k0_pay5]

theorem G7_eq : Value.G7 (F := Ideal) x0 x1 x2 x3 x4 = scalesIn fun i k => x0 (ix2 i k) := funext fun y => by
  rw [ValueIdx.eq_ix2 y]
  exact (spread_at _ (y 0) (y 1)).trans ((congrFun (pay8_eq x0) _).trans (LinRefIdeal.Math.pay7_at x0 (y 0)))

theorem norm_eq (i : Fin 1536) : (fun j => LinRefIdeal.Gen.k0_pay1 (F := Ideal) (k0_pay12 x0 x1 x2 x3 x4) x4 (ix2 i j))
    = normed (rows (fun i k => x0 (ix2 i k)) (fun i k => x1 (ix2 i k)) (wt x2 1) (fun k => x3 (ix2 0 k)) i) fun k => x4 (ix2 0 k) := by
  rw [← nrow_eq]
  unfold k0_pay12
  rw [View.ld_unit_zero (S := S1536x2560) (by decide) _ x0, View.ld_unit_zero (S := S1536x2560) (by decide) _ x1, View.ld_unit_zero (S := S1x2560) (by decide) _ x3, pay11_eq]
  exact funext fun j => LinRefIdeal.Math.pay1_at x0 x1 _ x3 x4 i j

theorem G8_eq : Value.G8 (F := Ideal) x0 x1 x2 x3 x4 = codesOut (fun i k => x0 (ix2 i k)) (fun i k => x1 (ix2 i k)) (wt x2 1) (fun k => x3 (ix2 0 k)) fun k => x4 (ix2 0 k) := funext fun y => by
  rw [ValueIdx.eq_ix2 y]
  have e := (LinRefIdeal.Math.pay5_at x4 (y 0) (k0_pay12 x0 x1 x2 x3 x4) (y 1)).trans (congrArg (fun f : Row => whole (code f (y 1))) (norm_eq x0 x1 x2 x3 x4 (y 0)))
  exact (congrFun (pay6_eq x4 (k0_pay12 x0 x1 x2 x3 x4)) _).trans e

theorem G9_eq : Value.G9 (F := Ideal) x0 x1 x2 x3 x4 = scalesOut (fun i k => x0 (ix2 i k)) (fun i k => x1 (ix2 i k)) (wt x2 1) (fun k => x3 (ix2 0 k)) fun k => x4 (ix2 0 k) := funext fun y => by
  rw [ValueIdx.eq_ix2 y]
  have e := (LinRefIdeal.Math.pay6_at x4 (y 0) (k0_pay12 x0 x1 x2 x3 x4) (y 1)).trans (congrArg scale (norm_eq x0 x1 x2 x3 x4 (y 0)))
  exact (congrFun (pay7_eq x4 (k0_pay12 x0 x1 x2 x3 x4)) _).trans e

end Outs

end Cert.LinBRefIdeal.Math
-- ==== Proof.LinBClaim.lean ====
/-
  THE CLAIM OF THE LAST STAGE IN THE SECOND INVOCATION: at the ideal instance the kernel and the reference end with the same five arrays, the new rows and
  the codes and scales of the rows given and of the new rows normalised.
-/
module

public import proofs.«01_k».proof.Defs
public import proofs.«01_k».proof.Proof.LinBFinal
public import proofs.«01_k».proof.Proof.LinBRef

@[expose] public section

set_option maxRecDepth 16384

noncomputable section

open Idealize.ShloMosaic Idealize.ShloMosaic.TcCoe Idealize.SL.Sem

namespace Cert.LinB.Claims
open Cert.LinMath Cert.LinBIdeal.Block

theorem algebraic : Cert.algebraic_LinBIdeal_LinBRefIdeal (hLinBIdeal := Cert.LinBIdeal.Gen.facts) (hLinBRefIdeal := Cert.LinBRefIdeal.Gen.facts) := by
  intro m ρ m' ρ' _ hag
  refine ⟨fun c => news (aY m c) (aH m c) (aW m c) (aS m c), fun c => codesIn (aY m c), fun c => scalesIn (aY m c), fun c => codesOut (aY m c) (aH m c) (aW m c) (aS m c) (aG m c),
    fun c => scalesOut (aY m c) (aH m c) (aW m c) (aS m c) (aG m c), ?_, ?_⟩
  · exact (θ_run Cert.LinBIdeal.defs _ _).mono
      (fun _ h c => ⟨(h c).1.trans (final5 m c), (h c).2.1.trans (final6 m c), (h c).2.2.1.trans (final7 m c), (h c).2.2.2.1.trans (final8 m c), (h c).2.2.2.2.1.trans (final9 m c),
        (h c).2.2.2.2.2⟩) (Cert.LinBIdeal.Value.run_blocks m ρ)
  · refine (θ_run Cert.LinBRefIdeal.defs _ _).mono
      (fun _ h c => ⟨(h c).1.trans ?_, (h c).2.1.trans ?_, (h c).2.2.1.trans ?_, (h c).2.2.2.1.trans ?_, (h c).2.2.2.2.1.trans ?_, (h c).2.2.2.2.2⟩) (Cert.LinBRefIdeal.Value.run m' ρ')
    · rw [(hag c).1, (hag c).2.1, (hag c).2.2.1, (hag c).2.2.2.1, (hag c).2.2.2.2]
      exact Cert.LinBRefIdeal.Math.G5_eq _ _ _ _ _
    · rw [(hag c).1, (hag c).2.1, (hag c).2.2.1, (hag c).2.2.2.1, (hag c).2.2.2.2]
      exact Cert.LinBRefIdeal.Math.G6_eq _ _ _ _ _
    · rw [(hag c).1, (hag c).2.1, (hag c).2.2.1, (hag c).2.2.2.1, (hag c).2.2.2.2]
      exact Cert.LinBRefIdeal.Math.G7_eq _ _ _ _ _
    · rw [(hag c).1, (hag c).2.1, (hag c).2.2.1, (hag c).2.2.2.1, (hag c).2.2.2.2]
      exact Cert.LinBRefIdeal.Math.G8_eq _ _ _ _ _
    · rw [(hag c).1, (hag c).2.1, (hag c).2.2.1, (hag c).2.2.2.1, (hag c).2.2.2.2]
      exact Cert.LinBRefIdeal.Math.G9_eq _ _ _ _ _

end Cert.LinB.Claims
-- ==== Proof.lean ====
/-
  The claims of this certificate, put together from the generated frames and the claims proved under Proof/.
-/
module

public import proofs.«01_k».proof.Defs
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.GuRefIdeal.Read
public import proofs.«01_k».proof.Proof.GuClaim
public import proofs.«01_k».proof.Proof.Gen.GuB
public import proofs.«01_k».proof.Proof.Gen.GuB.Skeleton
public import proofs.«01_k».proof.Proof.Gen.GuB.Launch
public import proofs.«01_k».proof.Proof.Gen.GuB.Points
public import proofs.«01_k».proof.Proof.Gen.GuB.Frame
public import proofs.«01_k».proof.Proof.Gen.GuBIdeal
public import proofs.«01_k».proof.Proof.Gen.GuBIdeal.Skeleton
public import proofs.«01_k».proof.Proof.Gen.GuBIdeal.Launch
public import proofs.«01_k».proof.Proof.Gen.GuBIdeal.Points
public import proofs.«01_k».proof.Proof.Gen.GuBIdeal.Frame
public import proofs.«01_k».proof.Proof.Gen.GuBIdeal.Value
public import proofs.«01_k».proof.Proof.Gen.GuBRefIdeal
public import proofs.«01_k».proof.Proof.Gen.GuBRefIdeal.Run
public import proofs.«01_k».proof.Proof.Gen.GuBRefIdeal.Read
public import proofs.«01_k».proof.Proof.GuBClaim
public import proofs.«01_k».proof.Proof.Gen.Q
public import proofs.«01_k».proof.Proof.Gen.Q.Skeleton
public import proofs.«01_k».proof.Proof.Gen.Q.Launch
public import proofs.«01_k».proof.Proof.Gen.Q.Points
public import proofs.«01_k».proof.Proof.Gen.Q.Frame
public import proofs.«01_k».proof.Proof.Gen.QIdeal
public import proofs.«01_k».proof.Proof.Gen.QIdeal.Skeleton
public import proofs.«01_k».proof.Proof.Gen.QIdeal.Launch
public import proofs.«01_k».proof.Proof.Gen.QIdeal.Points
public import proofs.«01_k».proof.Proof.Gen.QIdeal.Frame
public import proofs.«01_k».proof.Proof.Gen.QIdeal.Value
public import proofs.«01_k».proof.Proof.Gen.QRefIdeal
public import proofs.«01_k».proof.Proof.Gen.QRefIdeal.Run
public import proofs.«01_k».proof.Proof.Gen.QRefIdeal.Read
public import proofs.«01_k».proof.Proof.QClaim
public import proofs.«01_k».proof.Proof.Gen.QB
public import proofs.«01_k».proof.Proof.Gen.QB.Skeleton
public import proofs.«01_k».proof.Proof.Gen.QB.Launch
public import proofs.«01_k».proof.Proof.Gen.QB.Points
public import proofs.«01_k».proof.Proof.Gen.QB.Frame
public import proofs.«01_k».proof.Proof.Gen.QBIdeal
public import proofs.«01_k».proof.Proof.Gen.QBIdeal.Skeleton
public import proofs.«01_k».proof.Proof.Gen.QBIdeal.Launch
public import proofs.«01_k».proof.Proof.Gen.QBIdeal.Points
public import proofs.«01_k».proof.Proof.Gen.QBIdeal.Frame
public import proofs.«01_k».proof.Proof.Gen.QBIdeal.Value
public import proofs.«01_k».proof.Proof.Gen.QBRefIdeal
public import proofs.«01_k».proof.Proof.Gen.QBRefIdeal.Run
public import proofs.«01_k».proof.Proof.Gen.QBRefIdeal.Read
public import proofs.«01_k».proof.Proof.QBClaim
public import proofs.«01_k».proof.Proof.Gen.K
public import proofs.«01_k».proof.Proof.Gen.K.Skeleton
public import proofs.«01_k».proof.Proof.Gen.K.Launch
public import proofs.«01_k».proof.Proof.Gen.K.Points
public import proofs.«01_k».proof.Proof.Gen.K.Frame
public import proofs.«01_k».proof.Proof.Gen.KIdeal
public import proofs.«01_k».proof.Proof.Gen.KIdeal.Skeleton
public import proofs.«01_k».proof.Proof.Gen.KIdeal.Launch
public import proofs.«01_k».proof.Proof.Gen.KIdeal.Points
public import proofs.«01_k».proof.Proof.Gen.KIdeal.Frame
public import proofs.«01_k».proof.Proof.Gen.KIdeal.Value
public import proofs.«01_k».proof.Proof.Gen.KRefIdeal
public import proofs.«01_k».proof.Proof.Gen.KRefIdeal.Skeleton
public import proofs.«01_k».proof.Proof.Gen.KRefIdeal.Launch
public import proofs.«01_k».proof.Proof.Gen.KRefIdeal.Points
public import proofs.«01_k».proof.Proof.Gen.KRefIdeal.Frame
public import proofs.«01_k».proof.Proof.Gen.KRefIdeal.Value
public import proofs.«01_k».proof.Proof.KClaim
public import proofs.«01_k».proof.Proof.Gen.KB
public import proofs.«01_k».proof.Proof.Gen.KB.Skeleton
public import proofs.«01_k».proof.Proof.Gen.KB.Launch
public import proofs.«01_k».proof.Proof.Gen.KB.Points
public import proofs.«01_k».proof.Proof.Gen.KB.Frame
public import proofs.«01_k».proof.Proof.Gen.KBIdeal
public import proofs.«01_k».proof.Proof.Gen.KBIdeal.Skeleton
public import proofs.«01_k».proof.Proof.Gen.KBIdeal.Launch
public import proofs.«01_k».proof.Proof.Gen.KBIdeal.Points
public import proofs.«01_k».proof.Proof.Gen.KBIdeal.Frame
public import proofs.«01_k».proof.Proof.Gen.KBIdeal.Value
public import proofs.«01_k».proof.Proof.Gen.KBRefIdeal
public import proofs.«01_k».proof.Proof.Gen.KBRefIdeal.Skeleton
public import proofs.«01_k».proof.Proof.Gen.KBRefIdeal.Launch
public import proofs.«01_k».proof.Proof.Gen.KBRefIdeal.Points
public import proofs.«01_k».proof.Proof.Gen.KBRefIdeal.Frame
public import proofs.«01_k».proof.Proof.Gen.KBRefIdeal.Value
public import proofs.«01_k».proof.Proof.KBClaim
public import proofs.«01_k».proof.Proof.Gen.V
public import proofs.«01_k».proof.Proof.Gen.V.Skeleton
public import proofs.«01_k».proof.Proof.Gen.V.Launch
public import proofs.«01_k».proof.Proof.Gen.V.Points
public import proofs.«01_k».proof.Proof.Gen.V.Frame
public import proofs.«01_k».proof.Proof.Gen.VIdeal
public import proofs.«01_k».proof.Proof.Gen.VIdeal.Skeleton
public import proofs.«01_k».proof.Proof.Gen.VIdeal.Launch
public import proofs.«01_k».proof.Proof.Gen.VIdeal.Points
public import proofs.«01_k».proof.Proof.Gen.VIdeal.Frame
public import proofs.«01_k».proof.Proof.Gen.VIdeal.Value
public import proofs.«01_k».proof.Proof.Gen.VRefIdeal
public import proofs.«01_k».proof.Proof.Gen.VRefIdeal.Skeleton
public import proofs.«01_k».proof.Proof.Gen.VRefIdeal.Launch
public import proofs.«01_k».proof.Proof.Gen.VRefIdeal.Points
public import proofs.«01_k».proof.Proof.Gen.VRefIdeal.Frame
public import proofs.«01_k».proof.Proof.Gen.VRefIdeal.Value
public import proofs.«01_k».proof.Proof.VClaim
public import proofs.«01_k».proof.Proof.Gen.VB
public import proofs.«01_k».proof.Proof.Gen.VB.Skeleton
public import proofs.«01_k».proof.Proof.Gen.VB.Launch
public import proofs.«01_k».proof.Proof.Gen.VB.Points
public import proofs.«01_k».proof.Proof.Gen.VB.Frame
public import proofs.«01_k».proof.Proof.Gen.VBIdeal
public import proofs.«01_k».proof.Proof.Gen.VBIdeal.Skeleton
public import proofs.«01_k».proof.Proof.Gen.VBIdeal.Launch
public import proofs.«01_k».proof.Proof.Gen.VBIdeal.Points
public import proofs.«01_k».proof.Proof.Gen.VBIdeal.Frame
public import proofs.«01_k».proof.Proof.Gen.VBIdeal.Value
public import proofs.«01_k».proof.Proof.Gen.VBRefIdeal
public import proofs.«01_k».proof.Proof.Gen.VBRefIdeal.Skeleton
public import proofs.«01_k».proof.Proof.Gen.VBRefIdeal.Launch
public import proofs.«01_k».proof.Proof.Gen.VBRefIdeal.Points
public import proofs.«01_k».proof.Proof.Gen.VBRefIdeal.Frame
public import proofs.«01_k».proof.Proof.Gen.VBRefIdeal.Value
public import proofs.«01_k».proof.Proof.VBClaim
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Skeleton
public import proofs.«01_k».proof.Proof.Gen.InRefIdeal.Launch
public import proofs.«01_k».proof.Proof.Gen.InRefIdeal.Points
public import proofs.«01_k».proof.Proof.Gen.InRefIdeal.Frame
public import proofs.«01_k».proof.Proof.Gen.InRefIdeal.Value
public import proofs.«01_k».proof.Proof.InClaim
public import proofs.«01_k».proof.Proof.Gen.Lin
public import proofs.«01_k».proof.Proof.Gen.Lin.Skeleton
public import proofs.«01_k».proof.Proof.Gen.Lin.Launch
public import proofs.«01_k».proof.Proof.Gen.Lin.Points
public import proofs.«01_k».proof.Proof.Gen.Lin.Frame
public import proofs.«01_k».proof.Proof.Gen.LinIdeal
public import proofs.«01_k».proof.Proof.Gen.LinIdeal.Skeleton
public import proofs.«01_k».proof.Proof.Gen.LinIdeal.Launch
public import proofs.«01_k».proof.Proof.Gen.LinIdeal.Points
public import proofs.«01_k».proof.Proof.Gen.LinIdeal.Frame
public import proofs.«01_k».proof.Proof.Gen.LinIdeal.Value
public import proofs.«01_k».proof.Proof.Gen.LinRefIdeal
public import proofs.«01_k».proof.Proof.Gen.LinRefIdeal.Skeleton
public import proofs.«01_k».proof.Proof.Gen.LinRefIdeal.Launch
public import proofs.«01_k».proof.Proof.Gen.LinRefIdeal.Points
public import proofs.«01_k».proof.Proof.Gen.LinRefIdeal.Frame
public import proofs.«01_k».proof.Proof.Gen.LinRefIdeal.Value
public import proofs.«01_k».proof.Proof.LinClaim
public import proofs.«01_k».proof.Proof.Gen.LinB
public import proofs.«01_k».proof.Proof.Gen.LinB.Skeleton
public import proofs.«01_k».proof.Proof.Gen.LinB.Launch
public import proofs.«01_k».proof.Proof.Gen.LinB.Points
public import proofs.«01_k».proof.Proof.Gen.LinB.Frame
public import proofs.«01_k».proof.Proof.Gen.LinBIdeal
public import proofs.«01_k».proof.Proof.Gen.LinBIdeal.Skeleton
public import proofs.«01_k».proof.Proof.Gen.LinBIdeal.Launch
public import proofs.«01_k».proof.Proof.Gen.LinBIdeal.Points
public import proofs.«01_k».proof.Proof.Gen.LinBIdeal.Frame
public import proofs.«01_k».proof.Proof.Gen.LinBIdeal.Value
public import proofs.«01_k».proof.Proof.Gen.LinBRefIdeal
public import proofs.«01_k».proof.Proof.Gen.LinBRefIdeal.Skeleton
public import proofs.«01_k».proof.Proof.Gen.LinBRefIdeal.Launch
public import proofs.«01_k».proof.Proof.Gen.LinBRefIdeal.Points
public import proofs.«01_k».proof.Proof.Gen.LinBRefIdeal.Frame
public import proofs.«01_k».proof.Proof.Gen.LinBRefIdeal.Value
public import proofs.«01_k».proof.Proof.LinBClaim
public import Idealize.ShloMosaic.Adequacy
public import Idealize.ShloMosaic.Init

@[expose] public section

noncomputable section

namespace Cert.Proof

open Idealize.ShloMosaic Idealize.SL.Sem

theorem claim : Cert.Claim := ⟨Cert.Gu.Gen.facts,
  Cert.GuIdeal.Gen.facts,
  Cert.GuRefIdeal.Gen.facts,
  Cert.GuB.Gen.facts,
  Cert.GuBIdeal.Gen.facts,
  Cert.GuBRefIdeal.Gen.facts,
  Cert.Q.Gen.facts,
  Cert.QIdeal.Gen.facts,
  Cert.QRefIdeal.Gen.facts,
  Cert.QB.Gen.facts,
  Cert.QBIdeal.Gen.facts,
  Cert.QBRefIdeal.Gen.facts,
  Cert.K.Gen.facts,
  Cert.KIdeal.Gen.facts,
  Cert.KRefIdeal.Gen.facts,
  Cert.KB.Gen.facts,
  Cert.KBIdeal.Gen.facts,
  Cert.KBRefIdeal.Gen.facts,
  Cert.V.Gen.facts,
  Cert.VIdeal.Gen.facts,
  Cert.VRefIdeal.Gen.facts,
  Cert.VB.Gen.facts,
  Cert.VBIdeal.Gen.facts,
  Cert.VBRefIdeal.Gen.facts,
  Cert.In.Gen.facts,
  Cert.InIdeal.Gen.facts,
  Cert.InRefIdeal.Gen.facts,
  Cert.Lin.Gen.facts,
  Cert.LinIdeal.Gen.facts,
  Cert.LinRefIdeal.Gen.facts,
  Cert.LinB.Gen.facts,
  Cert.LinBIdeal.Gen.facts,
  Cert.LinBRefIdeal.Gen.facts,
  fun m ρ _ => Cert.Gu.Gen.frame m ρ,
  fun m ρ _ => Cert.GuIdeal.Gen.frame m ρ,
  Cert.Gu.Claims.ref_frame,
  fun m ρ _ => Cert.GuB.Gen.frame m ρ,
  fun m ρ _ => Cert.GuBIdeal.Gen.frame m ρ,
  Cert.GuB.Claims.ref_frame,
  fun m ρ _ => Cert.Q.Gen.frame m ρ,
  fun m ρ _ => Cert.QIdeal.Gen.frame m ρ,
  Cert.Q.Claims.ref_frame,
  fun m ρ _ => Cert.QB.Gen.frame m ρ,
  fun m ρ _ => Cert.QBIdeal.Gen.frame m ρ,
  Cert.QB.Claims.ref_frame,
  fun m ρ _ => Cert.K.Gen.frame m ρ,
  fun m ρ _ => Cert.KIdeal.Gen.frame m ρ,
  fun m ρ _ => Cert.KRefIdeal.Gen.frame m ρ,
  fun m ρ _ => Cert.KB.Gen.frame m ρ,
  fun m ρ _ => Cert.KBIdeal.Gen.frame m ρ,
  fun m ρ _ => Cert.KBRefIdeal.Gen.frame m ρ,
  fun m ρ _ => Cert.V.Gen.frame m ρ,
  fun m ρ _ => Cert.VIdeal.Gen.frame m ρ,
  fun m ρ _ => Cert.VRefIdeal.Gen.frame m ρ,
  fun m ρ _ => Cert.VB.Gen.frame m ρ,
  fun m ρ _ => Cert.VBIdeal.Gen.frame m ρ,
  fun m ρ _ => Cert.VBRefIdeal.Gen.frame m ρ,
  fun m ρ _ => Cert.In.Gen.frame m ρ,
  fun m ρ _ => Cert.InIdeal.Gen.frame m ρ,
  fun m ρ _ => Cert.InRefIdeal.Gen.frame m ρ,
  fun m ρ _ => Cert.Lin.Gen.frame m ρ,
  fun m ρ _ => Cert.LinIdeal.Gen.frame m ρ,
  fun m ρ _ => Cert.LinRefIdeal.Gen.frame m ρ,
  fun m ρ _ => Cert.LinB.Gen.frame m ρ,
  fun m ρ _ => Cert.LinBIdeal.Gen.frame m ρ,
  fun m ρ _ => Cert.LinBRefIdeal.Gen.frame m ρ,
  trivial,
  Cert.Gu.Claims.algebraic,
  trivial,
  Cert.GuB.Claims.algebraic,
  trivial,
  Cert.Q.Claims.algebraic,
  trivial,
  Cert.QB.Claims.algebraic,
  trivial,
  Cert.K.Claims.algebraic,
  trivial,
  Cert.KB.Claims.algebraic,
  trivial,
  Cert.V.Claims.algebraic,
  trivial,
  Cert.VB.Claims.algebraic,
  trivial,
  Cert.In.Claims.algebraic,
  trivial,
  Cert.Lin.Claims.algebraic,
  trivial,
  Cert.LinB.Claims.algebraic⟩

end Cert.Proof

end
